-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_DHReferenceIdeal (m : (ℓ : Loc Cert.DHReferenceIdeal.nD Cert.DHReferenceIdeal.τ Cert.DHReferenceIdeal.sig) → Buf (Elt Ideal) ℓ) : Prop :=
  True

def Pre_GWIn (m : (ℓ : Loc Cert.GWIn.nD Cert.GWIn.τ Cert.GWIn.sig) → Buf (Elt Bits) ℓ) : Prop :=
  True

def Pre_GWInIdeal (m : (ℓ : Loc Cert.GWInIdeal.nD Cert.GWInIdeal.τ Cert.GWInIdeal.sig) → Buf (Elt Ideal) ℓ) : Prop :=
  True

def Pre_GWInReferenceIdeal (m : (ℓ : Loc Cert.GWInReferenceIdeal.nD Cert.GWInReferenceIdeal.τ Cert.GWInReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_GWOut (m : (ℓ : Loc Cert.GWOut.nD Cert.GWOut.τ Cert.GWOut.sig) → Buf (Elt Bits) ℓ) : Prop :=
  True

def Pre_GWOutIdeal (m : (ℓ : Loc Cert.GWOutIdeal.nD Cert.GWOutIdeal.τ Cert.GWOutIdeal.sig) → Buf (Elt Ideal) ℓ) : Prop :=
  True

def Pre_GWOutReferenceIdeal (m : (ℓ : Loc Cert.GWOutReferenceIdeal.nD Cert.GWOutReferenceIdeal.τ Cert.GWOutReferenceIdeal.sig) → Buf (Elt Ideal) ℓ) : Prop :=
  True

def Pre_GWPw (m : (ℓ : Loc Cert.GWPw.nD Cert.GWPw.τ Cert.GWPw.sig) → Buf (Elt Bits) ℓ) : Prop :=
  True

def Pre_GWPwIdeal (m : (ℓ : Loc Cert.GWPwIdeal.nD Cert.GWPwIdeal.τ Cert.GWPwIdeal.sig) → Buf (Elt Ideal) ℓ) : Prop :=
  True

def Pre_GWPwReferenceIdeal (m : (ℓ : Loc Cert.GWPwReferenceIdeal.nD Cert.GWPwReferenceIdeal.τ Cert.GWPwReferenceIdeal.sig) → Buf (Elt Ideal) ℓ) : Prop :=
  True

def Pre_DU3 (m : (ℓ : Loc Cert.DU3.nD Cert.DU3.τ Cert.DU3.sig) → Buf (Elt Bits) ℓ) : Prop :=
  True

def Pre_DU3Ideal (m : (ℓ : Loc Cert.DU3Ideal.nD Cert.DU3Ideal.τ Cert.DU3Ideal.sig) → Buf (Elt Ideal) ℓ) : Prop :=
  True

def Pre_DU3ReferenceIdeal (m : (ℓ : Loc Cert.DU3ReferenceIdeal.nD Cert.DU3ReferenceIdeal.τ Cert.DU3ReferenceIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_gates_finite [hPre_gates_finite : Cert.Pre_gates_finite.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_gates_finite.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3)) (m ((c.tc : Thread Cert.GateBwdIdeal.nD Cert.GateBwdIdeal.τ).loc Cert.GateBwdIdeal.main_arg4)) (m ((c.tc : Thread Cert.GateBwdIdeal.nD Cert.GateBwdIdeal.τ).loc Cert.GateBwdIdeal.main_arg5))) = (fun _ => 1#1)

def Pre_GateBwdReferenceIdeal (m : (ℓ : Loc Cert.GateBwdReferenceIdeal.nD Cert.GateBwdReferenceIdeal.τ Cert.GateBwdReferenceIdeal.sig) → Buf (Elt Ideal) ℓ) : Prop :=
  True

def Pre_GateBwdReferenceIdeal_gates_finite [hPre_gates_finite : Cert.Pre_gates_finite.Facts] (m : (ℓ : Loc Cert.GateBwdReferenceIdeal.nD Cert.GateBwdReferenceIdeal.τ Cert.GateBwdReferenceIdeal.sig) → Buf (Elt Ideal) ℓ) : Prop :=
  ∀ c : Dev Cert.GateBwdReferenceIdeal.nD,
    (Cert.Pre_gates_finite.fn (F := Ideal) (m ((c.tc : Thread Cert.GateBwdReferenceIdeal.nD Cert.GateBwdReferenceIdeal.τ).loc Cert.GateBwdReferenceIdeal.main_arg0)) (m ((c.tc : Thread Cert.GateBwdReferenceIdeal.nD Cert.GateBwdReferenceIdeal.τ).loc Cert.GateBwdReferenceIdeal.main_arg1)) (m ((c.tc : Thread Cert.GateBwdReferenceIdeal.nD Cert.GateBwdReferenceIdeal.τ).loc Cert.GateBwdReferenceIdeal.main_arg2)) (m ((c.tc : Thread Cert.GateBwdReferenceIdeal.nD Cert.GateBwdReferenceIdeal.τ).loc Cert.GateBwdReferenceIdeal.main_arg3)) (m ((c.tc : Thread Cert.GateBwdReferenceIdeal.nD Cert.GateBwdReferenceIdeal.τ).loc Cert.GateBwdReferenceIdeal.main_arg4)) (m ((c.tc : Thread Cert.GateBwdReferenceIdeal.nD Cert.GateBwdReferenceIdeal.τ).loc Cert.GateBwdReferenceIdeal.main_arg5))) = (fun _ => 1#1)

def Pre_FlashFwd (m : (ℓ : Loc Cert.FlashFwd.nD Cert.FlashFwd.τ Cert.FlashFwd.sig) → Buf (Elt Bits) ℓ) : Prop :=
  True

def Pre_FlashFwdIdeal (m : (ℓ : Loc Cert.FlashFwdIdeal.nD Cert.FlashFwdIdeal.τ Cert.FlashFwdIdeal.sig) → Buf (Elt Ideal) ℓ) : Prop :=
  True

def Pre_FlashFwdIdeal_scores_finite [hPre_scores_finite : Cert.Pre_scores_finite.Facts] (m : (ℓ : Loc Cert.FlashFwdIdeal.nD Cert.FlashFwdIdeal.τ Cert.FlashFwdIdeal.sig) → Buf (Elt Ideal) ℓ) : Prop :=
  ∀ c : Dev Cert.FlashFwdIdeal.nD,
    (Cert.Pre_scores_finite.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2))) = (fun _ => 1#1)

def Pre_FlashFwdReferenceIdeal (m : (ℓ : Loc Cert.FlashFwdReferenceIdeal.nD Cert.FlashFwdReferenceIdeal.τ Cert.FlashFwdReferenceIdeal.sig) → Buf (Elt Ideal) ℓ) : Prop :=
  True

def Pre_FlashFwdReferenceIdeal_scores_finite [hPre_scores_finite : Cert.Pre_scores_finite.Facts] (m : (ℓ : Loc Cert.FlashFwdReferenceIdeal.nD Cert.FlashFwdReferenceIdeal.τ Cert.FlashFwdReferenceIdeal.sig) → Buf (Elt Ideal) ℓ) : Prop :=
  ∀ c : Dev Cert.FlashFwdReferenceIdeal.nD,
    (Cert.Pre_scores_finite.fn (F := Ideal) (m ((c.tc : Thread Cert.FlashFwdReferenceIdeal.nD Cert.FlashFwdReferenceIdeal.τ).loc Cert.FlashFwdReferenceIdeal.main_arg0)) (m ((c.tc : Thread Cert.FlashFwdReferenceIdeal.nD Cert.FlashFwdReferenceIdeal.τ).loc Cert.FlashFwdReferenceIdeal.main_arg1)) (m ((c.tc : Thread Cert.FlashFwdReferenceIdeal.nD Cert.FlashFwdReferenceIdeal.τ).loc Cert.FlashFwdReferenceIdeal.main_arg2))) = (fun _ => 1#1)

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormReferenceIdeal (m : (ℓ : Loc Cert.PrenormReferenceIdeal.nD Cert.PrenormReferenceIdeal.τ Cert.PrenormReferenceIdeal.sig) → Buf (Elt Ideal) ℓ) : Prop :=
  True

def Pre_GateCat (m : (ℓ : Loc Cert.GateCat.nD Cert.GateCat.τ Cert.GateCat.sig) → Buf (Elt Bits) ℓ) : Prop :=
  True

def Pre_GateCatIdeal (m : (ℓ : Loc Cert.GateCatIdeal.nD Cert.GateCatIdeal.τ Cert.GateCatIdeal.sig) → Buf (Elt Ideal) ℓ) : Prop :=
  True

def Pre_GateCatReferenceIdeal (m : (ℓ : Loc Cert.GateCatReferenceIdeal.nD Cert.GateCatReferenceIdeal.τ Cert.GateCatReferenceIdeal.sig) → Buf (Elt Ideal) ℓ) : Prop :=
  True

def Pre_AdamwAdaW (m : (ℓ : Loc Cert.AdamwAdaW.nD Cert.AdamwAdaW.τ Cert.AdamwAdaW.sig) → Buf (Elt Bits) ℓ) : Prop :=
  True

def Pre_AdamwAdaWIdeal (m : (ℓ : Loc Cert.AdamwAdaWIdeal.nD Cert.AdamwAdaWIdeal.τ Cert.AdamwAdaWIdeal.sig) → Buf (Elt Ideal) ℓ) : Prop :=
  True

def Pre_AdamwAdaWReferenceIdeal (m : (ℓ : Loc Cert.AdamwAdaWReferenceIdeal.nD Cert.AdamwAdaWReferenceIdeal.τ Cert.AdamwAdaWReferenceIdeal.sig) → Buf (Elt Ideal) ℓ) : Prop :=
  True

def Pre_AdamwWOut (m : (ℓ : Loc Cert.AdamwWOut.nD Cert.AdamwWOut.τ Cert.AdamwWOut.sig) → Buf (Elt Bits) ℓ) : Prop :=
  True

def Pre_AdamwWOutIdeal (m : (ℓ : Loc Cert.AdamwWOutIdeal.nD Cert.AdamwWOutIdeal.τ Cert.AdamwWOutIdeal.sig) → Buf (Elt Ideal) ℓ) : Prop :=
  True

def Pre_AdamwWOutReferenceIdeal (m : (ℓ : Loc Cert.AdamwWOutReferenceIdeal.nD Cert.AdamwWOutReferenceIdeal.τ Cert.AdamwWOutReferenceIdeal.sig) → Buf (Elt Ideal) ℓ) : Prop :=
  True

def Pre_AdamwWQUp (m : (ℓ : Loc Cert.AdamwWQUp.nD Cert.AdamwWQUp.τ Cert.AdamwWQUp.sig) → Buf (Elt Bits) ℓ) : Prop :=
  True

def Pre_AdamwWQUpIdeal (m : (ℓ : Loc Cert.AdamwWQUpIdeal.nD Cert.AdamwWQUpIdeal.τ Cert.AdamwWQUpIdeal.sig) → Buf (Elt Ideal) ℓ) : Prop :=
  True

def Pre_AdamwWQUpReferenceIdeal (m : (ℓ : Loc Cert.AdamwWQUpReferenceIdeal.nD Cert.AdamwWQUpReferenceIdeal.τ Cert.AdamwWQUpReferenceIdeal.sig) → Buf (Elt Ideal) ℓ) : Prop :=
  True

def Pre_AdamwWKvUp (m : (ℓ : Loc Cert.AdamwWKvUp.nD Cert.AdamwWKvUp.τ Cert.AdamwWKvUp.sig) → Buf (Elt Bits) ℓ) : Prop :=
  True

def Pre_AdamwWKvUpIdeal (m : (ℓ : Loc Cert.AdamwWKvUpIdeal.nD Cert.AdamwWKvUpIdeal.τ Cert.AdamwWKvUpIdeal.sig) → Buf (Elt Ideal) ℓ) : Prop :=
  True

def Pre_AdamwWKvUpReferenceIdeal (m : (ℓ : Loc Cert.AdamwWKvUpReferenceIdeal.nD Cert.AdamwWKvUpReferenceIdeal.τ Cert.AdamwWKvUpReferenceIdeal.sig) → Buf (Elt Ideal) ℓ) : Prop :=
  True

def Pre_AdamwWPw (m : (ℓ : Loc Cert.AdamwWPw.nD Cert.AdamwWPw.τ Cert.AdamwWPw.sig) → Buf (Elt Bits) ℓ) : Prop :=
  True

def Pre_AdamwWPwIdeal (m : (ℓ : Loc Cert.AdamwWPwIdeal.nD Cert.AdamwWPwIdeal.τ Cert.AdamwWPwIdeal.sig) → Buf (Elt Ideal) ℓ) : Prop :=
  True

def Pre_AdamwWPwReferenceIdeal (m : (ℓ : Loc Cert.AdamwWPwReferenceIdeal.nD Cert.AdamwWPwReferenceIdeal.τ Cert.AdamwWPwReferenceIdeal.sig) → Buf (Elt Ideal) ℓ) : Prop :=
  True

def Pre_AdamwWIn (m : (ℓ : Loc Cert.AdamwWIn.nD Cert.AdamwWIn.τ Cert.AdamwWIn.sig) → Buf (Elt Bits) ℓ) : Prop :=
  True

def Pre_AdamwWInIdeal (m : (ℓ : Loc Cert.AdamwWInIdeal.nD Cert.AdamwWInIdeal.τ Cert.AdamwWInIdeal.sig) → Buf (Elt Ideal) ℓ) : Prop :=
  True

def Pre_AdamwWInReferenceIdeal (m : (ℓ : Loc Cert.AdamwWInReferenceIdeal.nD Cert.AdamwWInReferenceIdeal.τ Cert.AdamwWInReferenceIdeal.sig) → Buf (Elt Ideal) ℓ) : Prop :=
  True

def Pre_AdamwWInB (m : (ℓ : Loc Cert.AdamwWInB.nD Cert.AdamwWInB.τ Cert.AdamwWInB.sig) → Buf (Elt Bits) ℓ) : Prop :=
  True

def Pre_AdamwWInBIdeal (m : (ℓ : Loc Cert.AdamwWInBIdeal.nD Cert.AdamwWInBIdeal.τ Cert.AdamwWInBIdeal.sig) → Buf (Elt Ideal) ℓ) : Prop :=
  True

def Pre_AdamwWInBReferenceIdeal (m : (ℓ : Loc Cert.AdamwWInBReferenceIdeal.nD Cert.AdamwWInBReferenceIdeal.τ Cert.AdamwWInBReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ r.2.sem = fun _ => 0)

def quiescent_DHReferenceIdeal [hDHReferenceIdeal : Cert.DHReferenceIdeal.Facts] : Prop :=
  ∀ (m : (ℓ : Loc Cert.DHReferenceIdeal.nD Cert.DHReferenceIdeal.τ Cert.DHReferenceIdeal.sig) → Buf (Elt Ideal) ℓ) (g : Dev Cert.DHReferenceIdeal.nD → PrngReg), Pre_DHReferenceIdeal m →
    θ_run (Cert.DHReferenceIdeal.defs (F := Ideal)) (onTc (τ := Cert.DHReferenceIdeal.τ) (Cert.DHReferenceIdeal.main (F := Ideal))) ⟨m, fun _ => 0, g⟩ (fun r => (∀ c : Dev Cert.DHReferenceIdeal.nD,
      r.2.mem ((c.tc : Thread Cert.DHReferenceIdeal.nD Cert.DHReferenceIdeal.τ).loc Cert.DHReferenceIdeal.main_arg0) = m ((c.tc : Thread Cert.DHReferenceIdeal.nD Cert.DHReferenceIdeal.τ).loc Cert.DHReferenceIdeal.main_arg0)
      ∧ r.2.mem ((c.tc : Thread Cert.DHReferenceIdeal.nD Cert.DHReferenceIdeal.τ).loc Cert.DHReferenceIdeal.main_arg1) = m ((c.tc : Thread Cert.DHReferenceIdeal.nD Cert.DHReferenceIdeal.τ).loc Cert.DHReferenceIdeal.main_arg1))
      ∧ r.2.sem = fun _ => 0)

def quiescent_GWIn [hGWIn : Cert.GWIn.Facts] : Prop :=
  ∀ (m : (ℓ : Loc Cert.GWIn.nD Cert.GWIn.τ Cert.GWIn.sig) → Buf (Elt Bits) ℓ) (g : Dev Cert.GWIn.nD → PrngReg), Pre_GWIn m →
    θ_run (Cert.GWIn.defs (F := Bits)) (onTc (τ := Cert.GWIn.τ) (Cert.GWIn.main (F := Bits))) ⟨m, fun _ => 0, g⟩ (fun r => (∀ c : Dev Cert.GWIn.nD,
      r.2.mem ((c.tc : Thread Cert.GWIn.nD Cert.GWIn.τ).loc Cert.GWIn.main_arg0) = m ((c.tc : Thread Cert.GWIn.nD Cert.GWIn.τ).loc Cert.GWIn.main_arg0)
      ∧ r.2.mem ((c.tc : Thread Cert.GWIn.nD Cert.GWIn.τ).loc Cert.GWIn.main_arg1) = m ((c.tc : Thread Cert.GWIn.nD Cert.GWIn.τ).loc Cert.GWIn.main_arg1))
      ∧ r.2.sem = fun _ => 0)

def quiescent_GWInIdeal [hGWInIdeal : Cert.GWInIdeal.Facts] : Prop :=
  ∀ (m : (ℓ : Loc Cert.GWInIdeal.nD Cert.GWInIdeal.τ Cert.GWInIdeal.sig) → Buf (Elt Ideal) ℓ) (g : Dev Cert.GWInIdeal.nD → PrngReg), Pre_GWInIdeal m →
    θ_run (Cert.GWInIdeal.defs (F := Ideal)) (onTc (τ := Cert.GWInIdeal.τ) (Cert.GWInIdeal.main (F := Ideal))) ⟨m, fun _ => 0, g⟩ (fun r => (∀ c : Dev Cert.GWInIdeal.nD,
      r.2.mem ((c.tc : Thread Cert.GWInIdeal.nD Cert.GWInIdeal.τ).loc Cert.GWInIdeal.main_arg0) = m ((c.tc : Thread Cert.GWInIdeal.nD Cert.GWInIdeal.τ).loc Cert.GWInIdeal.main_arg0)
      ∧ r.2.mem ((c.tc : Thread Cert.GWInIdeal.nD Cert.GWInIdeal.τ).loc Cert.GWInIdeal.main_arg1) = m ((c.tc : Thread Cert.GWInIdeal.nD Cert.GWInIdeal.τ).loc Cert.GWInIdeal.main_arg1))
      ∧ r.2.sem = fun _ => 0)

def quiescent_GWInReferenceIdeal [hGWInReferenceIdeal : Cert.GWInReferenceIdeal.Facts] : Prop :=
  ∀ (m : (ℓ : Loc Cert.GWInReferenceIdeal.nD Cert.GWInReferenceIdeal.τ Cert.GWInReferenceIdeal.sig) → Buf (Elt Ideal) ℓ) (g : Dev Cert.GWInReferenceIdeal.nD → PrngReg), Pre_GWInReferenceIdeal m →
    θ_run (Cert.GWInReferenceIdeal.defs (F := Ideal)) (onTc (τ := Cert.GWInReferenceIdeal.τ) (Cert.GWInReferenceIdeal.main (F := Ideal))) ⟨m, fun _ => 0, g⟩ (fun r => (∀ c : Dev Cert.GWInReferenceIdeal.nD,
      r.2.mem ((c.tc : Thread Cert.GWInReferenceIdeal.nD Cert.GWInReferenceIdeal.τ).loc Cert.GWInReferenceIdeal.main_arg0) = m ((c.tc : Thread Cert.GWInReferenceIdeal.nD Cert.GWInReferenceIdeal.τ).loc Cert.GWInReferenceIdeal.main_arg0)
      ∧ r.2.mem ((c.tc : Thread Cert.GWInReferenceIdeal.nD Cert.GWInReferenceIdeal.τ).loc Cert.GWInReferenceIdeal.main_arg1) = m ((c.tc : Thread Cert.GWInReferenceIdeal.nD Cert.GWInReferenceIdeal.τ).loc Cert.GWInReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4))
      ∧ r.2.sem = fun _ => 0)

def quiescent_GWOut [hGWOut : Cert.GWOut.Facts] : Prop :=
  ∀ (m : (ℓ : Loc Cert.GWOut.nD Cert.GWOut.τ Cert.GWOut.sig) → Buf (Elt Bits) ℓ) (g : Dev Cert.GWOut.nD → PrngReg), Pre_GWOut m →
    θ_run (Cert.GWOut.defs (F := Bits)) (onTc (τ := Cert.GWOut.τ) (Cert.GWOut.main (F := Bits))) ⟨m, fun _ => 0, g⟩ (fun r => (∀ c : Dev Cert.GWOut.nD,
      r.2.mem ((c.tc : Thread Cert.GWOut.nD Cert.GWOut.τ).loc Cert.GWOut.main_arg0) = m ((c.tc : Thread Cert.GWOut.nD Cert.GWOut.τ).loc Cert.GWOut.main_arg0)
      ∧ r.2.mem ((c.tc : Thread Cert.GWOut.nD Cert.GWOut.τ).loc Cert.GWOut.main_arg1) = m ((c.tc : Thread Cert.GWOut.nD Cert.GWOut.τ).loc Cert.GWOut.main_arg1)
      ∧ r.2.mem ((c.tc : Thread Cert.GWOut.nD Cert.GWOut.τ).loc Cert.GWOut.main_arg2) = m ((c.tc : Thread Cert.GWOut.nD Cert.GWOut.τ).loc Cert.GWOut.main_arg2))
      ∧ r.2.sem = fun _ => 0)

def quiescent_GWOutIdeal [hGWOutIdeal : Cert.GWOutIdeal.Facts] : Prop :=
  ∀ (m : (ℓ : Loc Cert.GWOutIdeal.nD Cert.GWOutIdeal.τ Cert.GWOutIdeal.sig) → Buf (Elt Ideal) ℓ) (g : Dev Cert.GWOutIdeal.nD → PrngReg), Pre_GWOutIdeal m →
    θ_run (Cert.GWOutIdeal.defs (F := Ideal)) (onTc (τ := Cert.GWOutIdeal.τ) (Cert.GWOutIdeal.main (F := Ideal))) ⟨m, fun _ => 0, g⟩ (fun r => (∀ c : Dev Cert.GWOutIdeal.nD,
      r.2.mem ((c.tc : Thread Cert.GWOutIdeal.nD Cert.GWOutIdeal.τ).loc Cert.GWOutIdeal.main_arg0) = m ((c.tc : Thread Cert.GWOutIdeal.nD Cert.GWOutIdeal.τ).loc Cert.GWOutIdeal.main_arg0)
      ∧ r.2.mem ((c.tc : Thread Cert.GWOutIdeal.nD Cert.GWOutIdeal.τ).loc Cert.GWOutIdeal.main_arg1) = m ((c.tc : Thread Cert.GWOutIdeal.nD Cert.GWOutIdeal.τ).loc Cert.GWOutIdeal.main_arg1)
      ∧ r.2.mem ((c.tc : Thread Cert.GWOutIdeal.nD Cert.GWOutIdeal.τ).loc Cert.GWOutIdeal.main_arg2) = m ((c.tc : Thread Cert.GWOutIdeal.nD Cert.GWOutIdeal.τ).loc Cert.GWOutIdeal.main_arg2))
      ∧ r.2.sem = fun _ => 0)

def quiescent_GWOutReferenceIdeal [hGWOutReferenceIdeal : Cert.GWOutReferenceIdeal.Facts] : Prop :=
  ∀ (m : (ℓ : Loc Cert.GWOutReferenceIdeal.nD Cert.GWOutReferenceIdeal.τ Cert.GWOutReferenceIdeal.sig) → Buf (Elt Ideal) ℓ) (g : Dev Cert.GWOutReferenceIdeal.nD → PrngReg), Pre_GWOutReferenceIdeal m →
    θ_run (Cert.GWOutReferenceIdeal.defs (F := Ideal)) (onTc (τ := Cert.GWOutReferenceIdeal.τ) (Cert.GWOutReferenceIdeal.main (F := Ideal))) ⟨m, fun _ => 0, g⟩ (fun r => (∀ c : Dev Cert.GWOutReferenceIdeal.nD,
      r.2.mem ((c.tc : Thread Cert.GWOutReferenceIdeal.nD Cert.GWOutReferenceIdeal.τ).loc Cert.GWOutReferenceIdeal.main_arg0) = m ((c.tc : Thread Cert.GWOutReferenceIdeal.nD Cert.GWOutReferenceIdeal.τ).loc Cert.GWOutReferenceIdeal.main_arg0)
      ∧ r.2.mem ((c.tc : Thread Cert.GWOutReferenceIdeal.nD Cert.GWOutReferenceIdeal.τ).loc Cert.GWOutReferenceIdeal.main_arg1) = m ((c.tc : Thread Cert.GWOutReferenceIdeal.nD Cert.GWOutReferenceIdeal.τ).loc Cert.GWOutReferenceIdeal.main_arg1)
      ∧ r.2.mem ((c.tc : Thread Cert.GWOutReferenceIdeal.nD Cert.GWOutReferenceIdeal.τ).loc Cert.GWOutReferenceIdeal.main_arg2) = m ((c.tc : Thread Cert.GWOutReferenceIdeal.nD Cert.GWOutReferenceIdeal.τ).loc Cert.GWOutReferenceIdeal.main_arg2))
      ∧ r.2.sem = fun _ => 0)

def quiescent_GWPw [hGWPw : Cert.GWPw.Facts] : Prop :=
  ∀ (m : (ℓ : Loc Cert.GWPw.nD Cert.GWPw.τ Cert.GWPw.sig) → Buf (Elt Bits) ℓ) (g : Dev Cert.GWPw.nD → PrngReg), Pre_GWPw m →
    θ_run (Cert.GWPw.defs (F := Bits)) (onTc (τ := Cert.GWPw.τ) (Cert.GWPw.main (F := Bits))) ⟨m, fun _ => 0, g⟩ (fun r => (∀ c : Dev Cert.GWPw.nD,
      r.2.mem ((c.tc : Thread Cert.GWPw.nD Cert.GWPw.τ).loc Cert.GWPw.main_arg0) = m ((c.tc : Thread Cert.GWPw.nD Cert.GWPw.τ).loc Cert.GWPw.main_arg0)
      ∧ r.2.mem ((c.tc : Thread Cert.GWPw.nD Cert.GWPw.τ).loc Cert.GWPw.main_arg1) = m ((c.tc : Thread Cert.GWPw.nD Cert.GWPw.τ).loc Cert.GWPw.main_arg1))
      ∧ r.2.sem = fun _ => 0)

def quiescent_GWPwIdeal [hGWPwIdeal : Cert.GWPwIdeal.Facts] : Prop :=
  ∀ (m : (ℓ : Loc Cert.GWPwIdeal.nD Cert.GWPwIdeal.τ Cert.GWPwIdeal.sig) → Buf (Elt Ideal) ℓ) (g : Dev Cert.GWPwIdeal.nD → PrngReg), Pre_GWPwIdeal m →
    θ_run (Cert.GWPwIdeal.defs (F := Ideal)) (onTc (τ := Cert.GWPwIdeal.τ) (Cert.GWPwIdeal.main (F := Ideal))) ⟨m, fun _ => 0, g⟩ (fun r => (∀ c : Dev Cert.GWPwIdeal.nD,
      r.2.mem ((c.tc : Thread Cert.GWPwIdeal.nD Cert.GWPwIdeal.τ).loc Cert.GWPwIdeal.main_arg0) = m ((c.tc : Thread Cert.GWPwIdeal.nD Cert.GWPwIdeal.τ).loc Cert.GWPwIdeal.main_arg0)
      ∧ r.2.mem ((c.tc : Thread Cert.GWPwIdeal.nD Cert.GWPwIdeal.τ).loc Cert.GWPwIdeal.main_arg1) = m ((c.tc : Thread Cert.GWPwIdeal.nD Cert.GWPwIdeal.τ).loc Cert.GWPwIdeal.main_arg1))
      ∧ r.2.sem = fun _ => 0)

def quiescent_GWPwReferenceIdeal [hGWPwReferenceIdeal : Cert.GWPwReferenceIdeal.Facts] : Prop :=
  ∀ (m : (ℓ : Loc Cert.GWPwReferenceIdeal.nD Cert.GWPwReferenceIdeal.τ Cert.GWPwReferenceIdeal.sig) → Buf (Elt Ideal) ℓ) (g : Dev Cert.GWPwReferenceIdeal.nD → PrngReg), Pre_GWPwReferenceIdeal m →
    θ_run (Cert.GWPwReferenceIdeal.defs (F := Ideal)) (onTc (τ := Cert.GWPwReferenceIdeal.τ) (Cert.GWPwReferenceIdeal.main (F := Ideal))) ⟨m, fun _ => 0, g⟩ (fun r => (∀ c : Dev Cert.GWPwReferenceIdeal.nD,
      r.2.mem ((c.tc : Thread Cert.GWPwReferenceIdeal.nD Cert.GWPwReferenceIdeal.τ).loc Cert.GWPwReferenceIdeal.main_arg0) = m ((c.tc : Thread Cert.GWPwReferenceIdeal.nD Cert.GWPwReferenceIdeal.τ).loc Cert.GWPwReferenceIdeal.main_arg0)
      ∧ r.2.mem ((c.tc : Thread Cert.GWPwReferenceIdeal.nD Cert.GWPwReferenceIdeal.τ).loc Cert.GWPwReferenceIdeal.main_arg1) = m ((c.tc : Thread Cert.GWPwReferenceIdeal.nD Cert.GWPwReferenceIdeal.τ).loc Cert.GWPwReferenceIdeal.main_arg1))
      ∧ r.2.sem = fun _ => 0)

def quiescent_DU3 [hDU3 : Cert.DU3.Facts] : Prop :=
  ∀ (m : (ℓ : Loc Cert.DU3.nD Cert.DU3.τ Cert.DU3.sig) → Buf (Elt Bits) ℓ) (g : Dev Cert.DU3.nD → PrngReg), Pre_DU3 m →
    θ_run (Cert.DU3.defs (F := Bits)) (onTc (τ := Cert.DU3.τ) (Cert.DU3.main (F := Bits))) ⟨m, fun _ => 0, g⟩ (fun r => (∀ c : Dev Cert.DU3.nD,
      r.2.mem ((c.tc : Thread Cert.DU3.nD Cert.DU3.τ).loc Cert.DU3.main_arg0) = m ((c.tc : Thread Cert.DU3.nD Cert.DU3.τ).loc Cert.DU3.main_arg0)
      ∧ r.2.mem ((c.tc : Thread Cert.DU3.nD Cert.DU3.τ).loc Cert.DU3.main_arg1) = m ((c.tc : Thread Cert.DU3.nD Cert.DU3.τ).loc Cert.DU3.main_arg1))
      ∧ r.2.sem = fun _ => 0)

def quiescent_DU3Ideal [hDU3Ideal : Cert.DU3Ideal.Facts] : Prop :=
  ∀ (m : (ℓ : Loc Cert.DU3Ideal.nD Cert.DU3Ideal.τ Cert.DU3Ideal.sig) → Buf (Elt Ideal) ℓ) (g : Dev Cert.DU3Ideal.nD → PrngReg), Pre_DU3Ideal m →
    θ_run (Cert.DU3Ideal.defs (F := Ideal)) (onTc (τ := Cert.DU3Ideal.τ) (Cert.DU3Ideal.main (F := Ideal))) ⟨m, fun _ => 0, g⟩ (fun r => (∀ c : Dev Cert.DU3Ideal.nD,
      r.2.mem ((c.tc : Thread Cert.DU3Ideal.nD Cert.DU3Ideal.τ).loc Cert.DU3Ideal.main_arg0) = m ((c.tc : Thread Cert.DU3Ideal.nD Cert.DU3Ideal.τ).loc Cert.DU3Ideal.main_arg0)
      ∧ r.2.mem ((c.tc : Thread Cert.DU3Ideal.nD Cert.DU3Ideal.τ).loc Cert.DU3Ideal.main_arg1) = m ((c.tc : Thread Cert.DU3Ideal.nD Cert.DU3Ideal.τ).loc Cert.DU3Ideal.main_arg1))
      ∧ r.2.sem = fun _ => 0)

def quiescent_DU3ReferenceIdeal [hDU3ReferenceIdeal : Cert.DU3ReferenceIdeal.Facts] : Prop :=
  ∀ (m : (ℓ : Loc Cert.DU3ReferenceIdeal.nD Cert.DU3ReferenceIdeal.τ Cert.DU3ReferenceIdeal.sig) → Buf (Elt Ideal) ℓ) (g : Dev Cert.DU3ReferenceIdeal.nD → PrngReg), Pre_DU3ReferenceIdeal m →
    θ_run (Cert.DU3ReferenceIdeal.defs (F := Ideal)) (onTc (τ := Cert.DU3ReferenceIdeal.τ) (Cert.DU3ReferenceIdeal.main (F := Ideal))) ⟨m, fun _ => 0, g⟩ (fun r => (∀ c : Dev Cert.DU3ReferenceIdeal.nD,
      r.2.mem ((c.tc : Thread Cert.DU3ReferenceIdeal.nD Cert.DU3ReferenceIdeal.τ).loc Cert.DU3ReferenceIdeal.main_arg0) = m ((c.tc : Thread Cert.DU3ReferenceIdeal.nD Cert.DU3ReferenceIdeal.τ).loc Cert.DU3ReferenceIdeal.main_arg0)
      ∧ r.2.mem ((c.tc : Thread Cert.DU3ReferenceIdeal.nD Cert.DU3ReferenceIdeal.τ).loc Cert.DU3ReferenceIdeal.main_arg1) = m ((c.tc : Thread Cert.DU3ReferenceIdeal.nD Cert.DU3ReferenceIdeal.τ).loc Cert.DU3ReferenceIdeal.main_arg1))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4)
      ∧ r.2.mem ((c.tc : Thread Cert.GateBwd.nD Cert.GateBwd.τ).loc Cert.GateBwd.main_arg5) = m ((c.tc : Thread Cert.GateBwd.nD Cert.GateBwd.τ).loc Cert.GateBwd.main_arg5))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
      ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5))
      ∧ r.2.sem = fun _ => 0)

def quiescent_GateBwdIdeal_pre_gates_finite [hGateBwdIdeal : Cert.GateBwdIdeal.Facts] [hPre_gates_finite : Cert.Pre_gates_finite.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_gates_finite m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
      ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5))
      ∧ r.2.sem = fun _ => 0)

def quiescent_GateBwdReferenceIdeal [hGateBwdReferenceIdeal : Cert.GateBwdReferenceIdeal.Facts] : Prop :=
  ∀ (m : (ℓ : Loc Cert.GateBwdReferenceIdeal.nD Cert.GateBwdReferenceIdeal.τ Cert.GateBwdReferenceIdeal.sig) → Buf (Elt Ideal) ℓ) (g : Dev Cert.GateBwdReferenceIdeal.nD → PrngReg), Pre_GateBwdReferenceIdeal m →
    θ_run (Cert.GateBwdReferenceIdeal.defs (F := Ideal)) (onTc (τ := Cert.GateBwdReferenceIdeal.τ) (Cert.GateBwdReferenceIdeal.main (F := Ideal))) ⟨m, fun _ => 0, g⟩ (fun r => (∀ c : Dev Cert.GateBwdReferenceIdeal.nD,
      r.2.mem ((c.tc : Thread Cert.GateBwdReferenceIdeal.nD Cert.GateBwdReferenceIdeal.τ).loc Cert.GateBwdReferenceIdeal.main_arg0) = m ((c.tc : Thread Cert.GateBwdReferenceIdeal.nD Cert.GateBwdReferenceIdeal.τ).loc Cert.GateBwdReferenceIdeal.main_arg0)
      ∧ r.2.mem ((c.tc : Thread Cert.GateBwdReferenceIdeal.nD Cert.GateBwdReferenceIdeal.τ).loc Cert.GateBwdReferenceIdeal.main_arg1) = m ((c.tc : Thread Cert.GateBwdReferenceIdeal.nD Cert.GateBwdReferenceIdeal.τ).loc Cert.GateBwdReferenceIdeal.main_arg1)
      ∧ r.2.mem ((c.tc : Thread Cert.GateBwdReferenceIdeal.nD Cert.GateBwdReferenceIdeal.τ).loc Cert.GateBwdReferenceIdeal.main_arg2) = m ((c.tc : Thread Cert.GateBwdReferenceIdeal.nD Cert.GateBwdReferenceIdeal.τ).loc Cert.GateBwdReferenceIdeal.main_arg2)
      ∧ r.2.mem ((c.tc : Thread Cert.GateBwdReferenceIdeal.nD Cert.GateBwdReferenceIdeal.τ).loc Cert.GateBwdReferenceIdeal.main_arg3) = m ((c.tc : Thread Cert.GateBwdReferenceIdeal.nD Cert.GateBwdReferenceIdeal.τ).loc Cert.GateBwdReferenceIdeal.main_arg3)
      ∧ r.2.mem ((c.tc : Thread Cert.GateBwdReferenceIdeal.nD Cert.GateBwdReferenceIdeal.τ).loc Cert.GateBwdReferenceIdeal.main_arg4) = m ((c.tc : Thread Cert.GateBwdReferenceIdeal.nD Cert.GateBwdReferenceIdeal.τ).loc Cert.GateBwdReferenceIdeal.main_arg4)
      ∧ r.2.mem ((c.tc : Thread Cert.GateBwdReferenceIdeal.nD Cert.GateBwdReferenceIdeal.τ).loc Cert.GateBwdReferenceIdeal.main_arg5) = m ((c.tc : Thread Cert.GateBwdReferenceIdeal.nD Cert.GateBwdReferenceIdeal.τ).loc Cert.GateBwdReferenceIdeal.main_arg5))
      ∧ r.2.sem = fun _ => 0)

def quiescent_GateBwdReferenceIdeal_pre_gates_finite [hGateBwdReferenceIdeal : Cert.GateBwdReferenceIdeal.Facts] [hPre_gates_finite : Cert.Pre_gates_finite.Facts] : Prop :=
  ∀ (m : (ℓ : Loc Cert.GateBwdReferenceIdeal.nD Cert.GateBwdReferenceIdeal.τ Cert.GateBwdReferenceIdeal.sig) → Buf (Elt Ideal) ℓ) (g : Dev Cert.GateBwdReferenceIdeal.nD → PrngReg), Pre_GateBwdReferenceIdeal_gates_finite m →
    θ_run (Cert.GateBwdReferenceIdeal.defs (F := Ideal)) (onTc (τ := Cert.GateBwdReferenceIdeal.τ) (Cert.GateBwdReferenceIdeal.main (F := Ideal))) ⟨m, fun _ => 0, g⟩ (fun r => (∀ c : Dev Cert.GateBwdReferenceIdeal.nD,
      r.2.mem ((c.tc : Thread Cert.GateBwdReferenceIdeal.nD Cert.GateBwdReferenceIdeal.τ).loc Cert.GateBwdReferenceIdeal.main_arg0) = m ((c.tc : Thread Cert.GateBwdReferenceIdeal.nD Cert.GateBwdReferenceIdeal.τ).loc Cert.GateBwdReferenceIdeal.main_arg0)
      ∧ r.2.mem ((c.tc : Thread Cert.GateBwdReferenceIdeal.nD Cert.GateBwdReferenceIdeal.τ).loc Cert.GateBwdReferenceIdeal.main_arg1) = m ((c.tc : Thread Cert.GateBwdReferenceIdeal.nD Cert.GateBwdReferenceIdeal.τ).loc Cert.GateBwdReferenceIdeal.main_arg1)
      ∧ r.2.mem ((c.tc : Thread Cert.GateBwdReferenceIdeal.nD Cert.GateBwdReferenceIdeal.τ).loc Cert.GateBwdReferenceIdeal.main_arg2) = m ((c.tc : Thread Cert.GateBwdReferenceIdeal.nD Cert.GateBwdReferenceIdeal.τ).loc Cert.GateBwdReferenceIdeal.main_arg2)
      ∧ r.2.mem ((c.tc : Thread Cert.GateBwdReferenceIdeal.nD Cert.GateBwdReferenceIdeal.τ).loc Cert.GateBwdReferenceIdeal.main_arg3) = m ((c.tc : Thread Cert.GateBwdReferenceIdeal.nD Cert.GateBwdReferenceIdeal.τ).loc Cert.GateBwdReferenceIdeal.main_arg3)
      ∧ r.2.mem ((c.tc : Thread Cert.GateBwdReferenceIdeal.nD Cert.GateBwdReferenceIdeal.τ).loc Cert.GateBwdReferenceIdeal.main_arg4) = m ((c.tc : Thread Cert.GateBwdReferenceIdeal.nD Cert.GateBwdReferenceIdeal.τ).loc Cert.GateBwdReferenceIdeal.main_arg4)
      ∧ r.2.mem ((c.tc : Thread Cert.GateBwdReferenceIdeal.nD Cert.GateBwdReferenceIdeal.τ).loc Cert.GateBwdReferenceIdeal.main_arg5) = m ((c.tc : Thread Cert.GateBwdReferenceIdeal.nD Cert.GateBwdReferenceIdeal.τ).loc Cert.GateBwdReferenceIdeal.main_arg5))
      ∧ r.2.sem = fun _ => 0)

def quiescent_FlashFwd [hFlashFwd : Cert.FlashFwd.Facts] : Prop :=
  ∀ (m : (ℓ : Loc Cert.FlashFwd.nD Cert.FlashFwd.τ Cert.FlashFwd.sig) → Buf (Elt Bits) ℓ) (g : Dev Cert.FlashFwd.nD → PrngReg), Pre_FlashFwd m →
    θ_run (Cert.FlashFwd.defs (F := Bits)) (onTc (τ := Cert.FlashFwd.τ) (Cert.FlashFwd.main (F := Bits))) ⟨m, fun _ => 0, g⟩ (fun r => (∀ c : Dev Cert.FlashFwd.nD,
      r.2.mem ((c.tc : Thread Cert.FlashFwd.nD Cert.FlashFwd.τ).loc Cert.FlashFwd.main_arg0) = m ((c.tc : Thread Cert.FlashFwd.nD Cert.FlashFwd.τ).loc Cert.FlashFwd.main_arg0)
      ∧ r.2.mem ((c.tc : Thread Cert.FlashFwd.nD Cert.FlashFwd.τ).loc Cert.FlashFwd.main_arg1) = m ((c.tc : Thread Cert.FlashFwd.nD Cert.FlashFwd.τ).loc Cert.FlashFwd.main_arg1)
      ∧ r.2.mem ((c.tc : Thread Cert.FlashFwd.nD Cert.FlashFwd.τ).loc Cert.FlashFwd.main_arg2) = m ((c.tc : Thread Cert.FlashFwd.nD Cert.FlashFwd.τ).loc Cert.FlashFwd.main_arg2))
      ∧ r.2.sem = fun _ => 0)

def quiescent_FlashFwdIdeal [hFlashFwdIdeal : Cert.FlashFwdIdeal.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ r.2.sem = fun _ => 0)

def quiescent_FlashFwdIdeal_pre_scores_finite [hFlashFwdIdeal : Cert.FlashFwdIdeal.Facts] [hPre_scores_finite : Cert.Pre_scores_finite.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal_scores_finite m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ r.2.sem = fun _ => 0)

def quiescent_FlashFwdReferenceIdeal [hFlashFwdReferenceIdeal : Cert.FlashFwdReferenceIdeal.Facts] : Prop :=
  ∀ (m : (ℓ : Loc Cert.FlashFwdReferenceIdeal.nD Cert.FlashFwdReferenceIdeal.τ Cert.FlashFwdReferenceIdeal.sig) → Buf (Elt Ideal) ℓ) (g : Dev Cert.FlashFwdReferenceIdeal.nD → PrngReg), Pre_FlashFwdReferenceIdeal m →
    θ_run (Cert.FlashFwdReferenceIdeal.defs (F := Ideal)) (onTc (τ := Cert.FlashFwdReferenceIdeal.τ) (Cert.FlashFwdReferenceIdeal.main (F := Ideal))) ⟨m, fun _ => 0, g⟩ (fun r => (∀ c : Dev Cert.FlashFwdReferenceIdeal.nD,
      r.2.mem ((c.tc : Thread Cert.FlashFwdReferenceIdeal.nD Cert.FlashFwdReferenceIdeal.τ).loc Cert.FlashFwdReferenceIdeal.main_arg0) = m ((c.tc : Thread Cert.FlashFwdReferenceIdeal.nD Cert.FlashFwdReferenceIdeal.τ).loc Cert.FlashFwdReferenceIdeal.main_arg0)
      ∧ r.2.mem ((c.tc : Thread Cert.FlashFwdReferenceIdeal.nD Cert.FlashFwdReferenceIdeal.τ).loc Cert.FlashFwdReferenceIdeal.main_arg1) = m ((c.tc : Thread Cert.FlashFwdReferenceIdeal.nD Cert.FlashFwdReferenceIdeal.τ).loc Cert.FlashFwdReferenceIdeal.main_arg1)
      ∧ r.2.mem ((c.tc : Thread Cert.FlashFwdReferenceIdeal.nD Cert.FlashFwdReferenceIdeal.τ).loc Cert.FlashFwdReferenceIdeal.main_arg2) = m ((c.tc : Thread Cert.FlashFwdReferenceIdeal.nD Cert.FlashFwdReferenceIdeal.τ).loc Cert.FlashFwdReferenceIdeal.main_arg2))
      ∧ r.2.sem = fun _ => 0)

def quiescent_FlashFwdReferenceIdeal_pre_scores_finite [hFlashFwdReferenceIdeal : Cert.FlashFwdReferenceIdeal.Facts] [hPre_scores_finite : Cert.Pre_scores_finite.Facts] : Prop :=
  ∀ (m : (ℓ : Loc Cert.FlashFwdReferenceIdeal.nD Cert.FlashFwdReferenceIdeal.τ Cert.FlashFwdReferenceIdeal.sig) → Buf (Elt Ideal) ℓ) (g : Dev Cert.FlashFwdReferenceIdeal.nD → PrngReg), Pre_FlashFwdReferenceIdeal_scores_finite m →
    θ_run (Cert.FlashFwdReferenceIdeal.defs (F := Ideal)) (onTc (τ := Cert.FlashFwdReferenceIdeal.τ) (Cert.FlashFwdReferenceIdeal.main (F := Ideal))) ⟨m, fun _ => 0, g⟩ (fun r => (∀ c : Dev Cert.FlashFwdReferenceIdeal.nD,
      r.2.mem ((c.tc : Thread Cert.FlashFwdReferenceIdeal.nD Cert.FlashFwdReferenceIdeal.τ).loc Cert.FlashFwdReferenceIdeal.main_arg0) = m ((c.tc : Thread Cert.FlashFwdReferenceIdeal.nD Cert.FlashFwdReferenceIdeal.τ).loc Cert.FlashFwdReferenceIdeal.main_arg0)
      ∧ r.2.mem ((c.tc : Thread Cert.FlashFwdReferenceIdeal.nD Cert.FlashFwdReferenceIdeal.τ).loc Cert.FlashFwdReferenceIdeal.main_arg1) = m ((c.tc : Thread Cert.FlashFwdReferenceIdeal.nD Cert.FlashFwdReferenceIdeal.τ).loc Cert.FlashFwdReferenceIdeal.main_arg1)
      ∧ r.2.mem ((c.tc : Thread Cert.FlashFwdReferenceIdeal.nD Cert.FlashFwdReferenceIdeal.τ).loc Cert.FlashFwdReferenceIdeal.main_arg2) = m ((c.tc : Thread Cert.FlashFwdReferenceIdeal.nD Cert.FlashFwdReferenceIdeal.τ).loc Cert.FlashFwdReferenceIdeal.main_arg2))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2)
      ∧ r.2.mem ((c.tc : Thread Cert.Prenorm.nD Cert.Prenorm.τ).loc Cert.Prenorm.main_arg3) = m ((c.tc : Thread Cert.Prenorm.nD Cert.Prenorm.τ).loc Cert.Prenorm.main_arg3))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
      ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3))
      ∧ r.2.sem = fun _ => 0)

def quiescent_PrenormReferenceIdeal [hPrenormReferenceIdeal : Cert.PrenormReferenceIdeal.Facts] : Prop :=
  ∀ (m : (ℓ : Loc Cert.PrenormReferenceIdeal.nD Cert.PrenormReferenceIdeal.τ Cert.PrenormReferenceIdeal.sig) → Buf (Elt Ideal) ℓ) (g : Dev Cert.PrenormReferenceIdeal.nD → PrngReg), Pre_PrenormReferenceIdeal m →
    θ_run (Cert.PrenormReferenceIdeal.defs (F := Ideal)) (onTc (τ := Cert.PrenormReferenceIdeal.τ) (Cert.PrenormReferenceIdeal.main (F := Ideal))) ⟨m, fun _ => 0, g⟩ (fun r => (∀ c : Dev Cert.PrenormReferenceIdeal.nD,
      r.2.mem ((c.tc : Thread Cert.PrenormReferenceIdeal.nD Cert.PrenormReferenceIdeal.τ).loc Cert.PrenormReferenceIdeal.main_arg0) = m ((c.tc : Thread Cert.PrenormReferenceIdeal.nD Cert.PrenormReferenceIdeal.τ).loc Cert.PrenormReferenceIdeal.main_arg0)
      ∧ r.2.mem ((c.tc : Thread Cert.PrenormReferenceIdeal.nD Cert.PrenormReferenceIdeal.τ).loc Cert.PrenormReferenceIdeal.main_arg1) = m ((c.tc : Thread Cert.PrenormReferenceIdeal.nD Cert.PrenormReferenceIdeal.τ).loc Cert.PrenormReferenceIdeal.main_arg1)
      ∧ r.2.mem ((c.tc : Thread Cert.PrenormReferenceIdeal.nD Cert.PrenormReferenceIdeal.τ).loc Cert.PrenormReferenceIdeal.main_arg2) = m ((c.tc : Thread Cert.PrenormReferenceIdeal.nD Cert.PrenormReferenceIdeal.τ).loc Cert.PrenormReferenceIdeal.main_arg2)
      ∧ r.2.mem ((c.tc : Thread Cert.PrenormReferenceIdeal.nD Cert.PrenormReferenceIdeal.τ).loc Cert.PrenormReferenceIdeal.main_arg3) = m ((c.tc : Thread Cert.PrenormReferenceIdeal.nD Cert.PrenormReferenceIdeal.τ).loc Cert.PrenormReferenceIdeal.main_arg3))
      ∧ r.2.sem = fun _ => 0)

def quiescent_GateCat [hGateCat : Cert.GateCat.Facts] : Prop :=
  ∀ (m : (ℓ : Loc Cert.GateCat.nD Cert.GateCat.τ Cert.GateCat.sig) → Buf (Elt Bits) ℓ) (g : Dev Cert.GateCat.nD → PrngReg), Pre_GateCat m →
    θ_run (Cert.GateCat.defs (F := Bits)) (onTc (τ := Cert.GateCat.τ) (Cert.GateCat.main (F := Bits))) ⟨m, fun _ => 0, g⟩ (fun r => (∀ c : Dev Cert.GateCat.nD,
      r.2.mem ((c.tc : Thread Cert.GateCat.nD Cert.GateCat.τ).loc Cert.GateCat.main_arg0) = m ((c.tc : Thread Cert.GateCat.nD Cert.GateCat.τ).loc Cert.GateCat.main_arg0)
      ∧ r.2.mem ((c.tc : Thread Cert.GateCat.nD Cert.GateCat.τ).loc Cert.GateCat.main_arg1) = m ((c.tc : Thread Cert.GateCat.nD Cert.GateCat.τ).loc Cert.GateCat.main_arg1)
      ∧ r.2.mem ((c.tc : Thread Cert.GateCat.nD Cert.GateCat.τ).loc Cert.GateCat.main_arg2) = m ((c.tc : Thread Cert.GateCat.nD Cert.GateCat.τ).loc Cert.GateCat.main_arg2)
      ∧ r.2.mem ((c.tc : Thread Cert.GateCat.nD Cert.GateCat.τ).loc Cert.GateCat.main_arg3) = m ((c.tc : Thread Cert.GateCat.nD Cert.GateCat.τ).loc Cert.GateCat.main_arg3))
      ∧ r.2.sem = fun _ => 0)

def quiescent_GateCatIdeal [hGateCatIdeal : Cert.GateCatIdeal.Facts] : Prop :=
  ∀ (m : (ℓ : Loc Cert.GateCatIdeal.nD Cert.GateCatIdeal.τ Cert.GateCatIdeal.sig) → Buf (Elt Ideal) ℓ) (g : Dev Cert.GateCatIdeal.nD → PrngReg), Pre_GateCatIdeal m →
    θ_run (Cert.GateCatIdeal.defs (F := Ideal)) (onTc (τ := Cert.GateCatIdeal.τ) (Cert.GateCatIdeal.main (F := Ideal))) ⟨m, fun _ => 0, g⟩ (fun r => (∀ c : Dev Cert.GateCatIdeal.nD,
      r.2.mem ((c.tc : Thread Cert.GateCatIdeal.nD Cert.GateCatIdeal.τ).loc Cert.GateCatIdeal.main_arg0) = m ((c.tc : Thread Cert.GateCatIdeal.nD Cert.GateCatIdeal.τ).loc Cert.GateCatIdeal.main_arg0)
      ∧ r.2.mem ((c.tc : Thread Cert.GateCatIdeal.nD Cert.GateCatIdeal.τ).loc Cert.GateCatIdeal.main_arg1) = m ((c.tc : Thread Cert.GateCatIdeal.nD Cert.GateCatIdeal.τ).loc Cert.GateCatIdeal.main_arg1)
      ∧ r.2.mem ((c.tc : Thread Cert.GateCatIdeal.nD Cert.GateCatIdeal.τ).loc Cert.GateCatIdeal.main_arg2) = m ((c.tc : Thread Cert.GateCatIdeal.nD Cert.GateCatIdeal.τ).loc Cert.GateCatIdeal.main_arg2)
      ∧ r.2.mem ((c.tc : Thread Cert.GateCatIdeal.nD Cert.GateCatIdeal.τ).loc Cert.GateCatIdeal.main_arg3) = m ((c.tc : Thread Cert.GateCatIdeal.nD Cert.GateCatIdeal.τ).loc Cert.GateCatIdeal.main_arg3))
      ∧ r.2.sem = fun _ => 0)

def quiescent_GateCatReferenceIdeal [hGateCatReferenceIdeal : Cert.GateCatReferenceIdeal.Facts] : Prop :=
  ∀ (m : (ℓ : Loc Cert.GateCatReferenceIdeal.nD Cert.GateCatReferenceIdeal.τ Cert.GateCatReferenceIdeal.sig) → Buf (Elt Ideal) ℓ) (g : Dev Cert.GateCatReferenceIdeal.nD → PrngReg), Pre_GateCatReferenceIdeal m →
    θ_run (Cert.GateCatReferenceIdeal.defs (F := Ideal)) (onTc (τ := Cert.GateCatReferenceIdeal.τ) (Cert.GateCatReferenceIdeal.main (F := Ideal))) ⟨m, fun _ => 0, g⟩ (fun r => (∀ c : Dev Cert.GateCatReferenceIdeal.nD,
      r.2.mem ((c.tc : Thread Cert.GateCatReferenceIdeal.nD Cert.GateCatReferenceIdeal.τ).loc Cert.GateCatReferenceIdeal.main_arg0) = m ((c.tc : Thread Cert.GateCatReferenceIdeal.nD Cert.GateCatReferenceIdeal.τ).loc Cert.GateCatReferenceIdeal.main_arg0)
      ∧ r.2.mem ((c.tc : Thread Cert.GateCatReferenceIdeal.nD Cert.GateCatReferenceIdeal.τ).loc Cert.GateCatReferenceIdeal.main_arg1) = m ((c.tc : Thread Cert.GateCatReferenceIdeal.nD Cert.GateCatReferenceIdeal.τ).loc Cert.GateCatReferenceIdeal.main_arg1)
      ∧ r.2.mem ((c.tc : Thread Cert.GateCatReferenceIdeal.nD Cert.GateCatReferenceIdeal.τ).loc Cert.GateCatReferenceIdeal.main_arg2) = m ((c.tc : Thread Cert.GateCatReferenceIdeal.nD Cert.GateCatReferenceIdeal.τ).loc Cert.GateCatReferenceIdeal.main_arg2)
      ∧ r.2.mem ((c.tc : Thread Cert.GateCatReferenceIdeal.nD Cert.GateCatReferenceIdeal.τ).loc Cert.GateCatReferenceIdeal.main_arg3) = m ((c.tc : Thread Cert.GateCatReferenceIdeal.nD Cert.GateCatReferenceIdeal.τ).loc Cert.GateCatReferenceIdeal.main_arg3))
      ∧ r.2.sem = fun _ => 0)

def quiescent_AdamwAdaW [hAdamwAdaW : Cert.AdamwAdaW.Facts] : Prop :=
  ∀ (m : (ℓ : Loc Cert.AdamwAdaW.nD Cert.AdamwAdaW.τ Cert.AdamwAdaW.sig) → Buf (Elt Bits) ℓ) (g : Dev Cert.AdamwAdaW.nD → PrngReg), Pre_AdamwAdaW m →
    θ_run (Cert.AdamwAdaW.defs (F := Bits)) (onTc (τ := Cert.AdamwAdaW.τ) (Cert.AdamwAdaW.main (F := Bits))) ⟨m, fun _ => 0, g⟩ (fun r => (∀ c : Dev Cert.AdamwAdaW.nD,
      r.2.mem ((c.tc : Thread Cert.AdamwAdaW.nD Cert.AdamwAdaW.τ).loc Cert.AdamwAdaW.main_arg0) = m ((c.tc : Thread Cert.AdamwAdaW.nD Cert.AdamwAdaW.τ).loc Cert.AdamwAdaW.main_arg0)
      ∧ r.2.mem ((c.tc : Thread Cert.AdamwAdaW.nD Cert.AdamwAdaW.τ).loc Cert.AdamwAdaW.main_arg1) = m ((c.tc : Thread Cert.AdamwAdaW.nD Cert.AdamwAdaW.τ).loc Cert.AdamwAdaW.main_arg1)
      ∧ r.2.mem ((c.tc : Thread Cert.AdamwAdaW.nD Cert.AdamwAdaW.τ).loc Cert.AdamwAdaW.main_arg2) = m ((c.tc : Thread Cert.AdamwAdaW.nD Cert.AdamwAdaW.τ).loc Cert.AdamwAdaW.main_arg2)
      ∧ r.2.mem ((c.tc : Thread Cert.AdamwAdaW.nD Cert.AdamwAdaW.τ).loc Cert.AdamwAdaW.main_arg3) = m ((c.tc : Thread Cert.AdamwAdaW.nD Cert.AdamwAdaW.τ).loc Cert.AdamwAdaW.main_arg3))
      ∧ r.2.sem = fun _ => 0)

def quiescent_AdamwAdaWIdeal [hAdamwAdaWIdeal : Cert.AdamwAdaWIdeal.Facts] : Prop :=
  ∀ (m : (ℓ : Loc Cert.AdamwAdaWIdeal.nD Cert.AdamwAdaWIdeal.τ Cert.AdamwAdaWIdeal.sig) → Buf (Elt Ideal) ℓ) (g : Dev Cert.AdamwAdaWIdeal.nD → PrngReg), Pre_AdamwAdaWIdeal m →
    θ_run (Cert.AdamwAdaWIdeal.defs (F := Ideal)) (onTc (τ := Cert.AdamwAdaWIdeal.τ) (Cert.AdamwAdaWIdeal.main (F := Ideal))) ⟨m, fun _ => 0, g⟩ (fun r => (∀ c : Dev Cert.AdamwAdaWIdeal.nD,
      r.2.mem ((c.tc : Thread Cert.AdamwAdaWIdeal.nD Cert.AdamwAdaWIdeal.τ).loc Cert.AdamwAdaWIdeal.main_arg0) = m ((c.tc : Thread Cert.AdamwAdaWIdeal.nD Cert.AdamwAdaWIdeal.τ).loc Cert.AdamwAdaWIdeal.main_arg0)
      ∧ r.2.mem ((c.tc : Thread Cert.AdamwAdaWIdeal.nD Cert.AdamwAdaWIdeal.τ).loc Cert.AdamwAdaWIdeal.main_arg1) = m ((c.tc : Thread Cert.AdamwAdaWIdeal.nD Cert.AdamwAdaWIdeal.τ).loc Cert.AdamwAdaWIdeal.main_arg1)
      ∧ r.2.mem ((c.tc : Thread Cert.AdamwAdaWIdeal.nD Cert.AdamwAdaWIdeal.τ).loc Cert.AdamwAdaWIdeal.main_arg2) = m ((c.tc : Thread Cert.AdamwAdaWIdeal.nD Cert.AdamwAdaWIdeal.τ).loc Cert.AdamwAdaWIdeal.main_arg2)
      ∧ r.2.mem ((c.tc : Thread Cert.AdamwAdaWIdeal.nD Cert.AdamwAdaWIdeal.τ).loc Cert.AdamwAdaWIdeal.main_arg3) = m ((c.tc : Thread Cert.AdamwAdaWIdeal.nD Cert.AdamwAdaWIdeal.τ).loc Cert.AdamwAdaWIdeal.main_arg3))
      ∧ r.2.sem = fun _ => 0)

def quiescent_AdamwAdaWReferenceIdeal [hAdamwAdaWReferenceIdeal : Cert.AdamwAdaWReferenceIdeal.Facts] : Prop :=
  ∀ (m : (ℓ : Loc Cert.AdamwAdaWReferenceIdeal.nD Cert.AdamwAdaWReferenceIdeal.τ Cert.AdamwAdaWReferenceIdeal.sig) → Buf (Elt Ideal) ℓ) (g : Dev Cert.AdamwAdaWReferenceIdeal.nD → PrngReg), Pre_AdamwAdaWReferenceIdeal m →
    θ_run (Cert.AdamwAdaWReferenceIdeal.defs (F := Ideal)) (onTc (τ := Cert.AdamwAdaWReferenceIdeal.τ) (Cert.AdamwAdaWReferenceIdeal.main (F := Ideal))) ⟨m, fun _ => 0, g⟩ (fun r => (∀ c : Dev Cert.AdamwAdaWReferenceIdeal.nD,
      r.2.mem ((c.tc : Thread Cert.AdamwAdaWReferenceIdeal.nD Cert.AdamwAdaWReferenceIdeal.τ).loc Cert.AdamwAdaWReferenceIdeal.main_arg0) = m ((c.tc : Thread Cert.AdamwAdaWReferenceIdeal.nD Cert.AdamwAdaWReferenceIdeal.τ).loc Cert.AdamwAdaWReferenceIdeal.main_arg0)
      ∧ r.2.mem ((c.tc : Thread Cert.AdamwAdaWReferenceIdeal.nD Cert.AdamwAdaWReferenceIdeal.τ).loc Cert.AdamwAdaWReferenceIdeal.main_arg1) = m ((c.tc : Thread Cert.AdamwAdaWReferenceIdeal.nD Cert.AdamwAdaWReferenceIdeal.τ).loc Cert.AdamwAdaWReferenceIdeal.main_arg1)
      ∧ r.2.mem ((c.tc : Thread Cert.AdamwAdaWReferenceIdeal.nD Cert.AdamwAdaWReferenceIdeal.τ).loc Cert.AdamwAdaWReferenceIdeal.main_arg2) = m ((c.tc : Thread Cert.AdamwAdaWReferenceIdeal.nD Cert.AdamwAdaWReferenceIdeal.τ).loc Cert.AdamwAdaWReferenceIdeal.main_arg2)
      ∧ r.2.mem ((c.tc : Thread Cert.AdamwAdaWReferenceIdeal.nD Cert.AdamwAdaWReferenceIdeal.τ).loc Cert.AdamwAdaWReferenceIdeal.main_arg3) = m ((c.tc : Thread Cert.AdamwAdaWReferenceIdeal.nD Cert.AdamwAdaWReferenceIdeal.τ).loc Cert.AdamwAdaWReferenceIdeal.main_arg3))
      ∧ r.2.sem = fun _ => 0)

def quiescent_AdamwWOut [hAdamwWOut : Cert.AdamwWOut.Facts] : Prop :=
  ∀ (m : (ℓ : Loc Cert.AdamwWOut.nD Cert.AdamwWOut.τ Cert.AdamwWOut.sig) → Buf (Elt Bits) ℓ) (g : Dev Cert.AdamwWOut.nD → PrngReg), Pre_AdamwWOut m →
    θ_run (Cert.AdamwWOut.defs (F := Bits)) (onTc (τ := Cert.AdamwWOut.τ) (Cert.AdamwWOut.main (F := Bits))) ⟨m, fun _ => 0, g⟩ (fun r => (∀ c : Dev Cert.AdamwWOut.nD,
      r.2.mem ((c.tc : Thread Cert.AdamwWOut.nD Cert.AdamwWOut.τ).loc Cert.AdamwWOut.main_arg0) = m ((c.tc : Thread Cert.AdamwWOut.nD Cert.AdamwWOut.τ).loc Cert.AdamwWOut.main_arg0)
      ∧ r.2.mem ((c.tc : Thread Cert.AdamwWOut.nD Cert.AdamwWOut.τ).loc Cert.AdamwWOut.main_arg1) = m ((c.tc : Thread Cert.AdamwWOut.nD Cert.AdamwWOut.τ).loc Cert.AdamwWOut.main_arg1)
      ∧ r.2.mem ((c.tc : Thread Cert.AdamwWOut.nD Cert.AdamwWOut.τ).loc Cert.AdamwWOut.main_arg2) = m ((c.tc : Thread Cert.AdamwWOut.nD Cert.AdamwWOut.τ).loc Cert.AdamwWOut.main_arg2)
      ∧ r.2.mem ((c.tc : Thread Cert.AdamwWOut.nD Cert.AdamwWOut.τ).loc Cert.AdamwWOut.main_arg3) = m ((c.tc : Thread Cert.AdamwWOut.nD Cert.AdamwWOut.τ).loc Cert.AdamwWOut.main_arg3)
      ∧ r.2.mem ((c.tc : Thread Cert.AdamwWOut.nD Cert.AdamwWOut.τ).loc Cert.AdamwWOut.main_arg4) = m ((c.tc : Thread Cert.AdamwWOut.nD Cert.AdamwWOut.τ).loc Cert.AdamwWOut.main_arg4))
      ∧ r.2.sem = fun _ => 0)

def quiescent_AdamwWOutIdeal [hAdamwWOutIdeal : Cert.AdamwWOutIdeal.Facts] : Prop :=
  ∀ (m : (ℓ : Loc Cert.AdamwWOutIdeal.nD Cert.AdamwWOutIdeal.τ Cert.AdamwWOutIdeal.sig) → Buf (Elt Ideal) ℓ) (g : Dev Cert.AdamwWOutIdeal.nD → PrngReg), Pre_AdamwWOutIdeal m →
    θ_run (Cert.AdamwWOutIdeal.defs (F := Ideal)) (onTc (τ := Cert.AdamwWOutIdeal.τ) (Cert.AdamwWOutIdeal.main (F := Ideal))) ⟨m, fun _ => 0, g⟩ (fun r => (∀ c : Dev Cert.AdamwWOutIdeal.nD,
      r.2.mem ((c.tc : Thread Cert.AdamwWOutIdeal.nD Cert.AdamwWOutIdeal.τ).loc Cert.AdamwWOutIdeal.main_arg0) = m ((c.tc : Thread Cert.AdamwWOutIdeal.nD Cert.AdamwWOutIdeal.τ).loc Cert.AdamwWOutIdeal.main_arg0)
      ∧ r.2.mem ((c.tc : Thread Cert.AdamwWOutIdeal.nD Cert.AdamwWOutIdeal.τ).loc Cert.AdamwWOutIdeal.main_arg1) = m ((c.tc : Thread Cert.AdamwWOutIdeal.nD Cert.AdamwWOutIdeal.τ).loc Cert.AdamwWOutIdeal.main_arg1)
      ∧ r.2.mem ((c.tc : Thread Cert.AdamwWOutIdeal.nD Cert.AdamwWOutIdeal.τ).loc Cert.AdamwWOutIdeal.main_arg2) = m ((c.tc : Thread Cert.AdamwWOutIdeal.nD Cert.AdamwWOutIdeal.τ).loc Cert.AdamwWOutIdeal.main_arg2)
      ∧ r.2.mem ((c.tc : Thread Cert.AdamwWOutIdeal.nD Cert.AdamwWOutIdeal.τ).loc Cert.AdamwWOutIdeal.main_arg3) = m ((c.tc : Thread Cert.AdamwWOutIdeal.nD Cert.AdamwWOutIdeal.τ).loc Cert.AdamwWOutIdeal.main_arg3)
      ∧ r.2.mem ((c.tc : Thread Cert.AdamwWOutIdeal.nD Cert.AdamwWOutIdeal.τ).loc Cert.AdamwWOutIdeal.main_arg4) = m ((c.tc : Thread Cert.AdamwWOutIdeal.nD Cert.AdamwWOutIdeal.τ).loc Cert.AdamwWOutIdeal.main_arg4))
      ∧ r.2.sem = fun _ => 0)

def quiescent_AdamwWOutReferenceIdeal [hAdamwWOutReferenceIdeal : Cert.AdamwWOutReferenceIdeal.Facts] : Prop :=
  ∀ (m : (ℓ : Loc Cert.AdamwWOutReferenceIdeal.nD Cert.AdamwWOutReferenceIdeal.τ Cert.AdamwWOutReferenceIdeal.sig) → Buf (Elt Ideal) ℓ) (g : Dev Cert.AdamwWOutReferenceIdeal.nD → PrngReg), Pre_AdamwWOutReferenceIdeal m →
    θ_run (Cert.AdamwWOutReferenceIdeal.defs (F := Ideal)) (onTc (τ := Cert.AdamwWOutReferenceIdeal.τ) (Cert.AdamwWOutReferenceIdeal.main (F := Ideal))) ⟨m, fun _ => 0, g⟩ (fun r => (∀ c : Dev Cert.AdamwWOutReferenceIdeal.nD,
      r.2.mem ((c.tc : Thread Cert.AdamwWOutReferenceIdeal.nD Cert.AdamwWOutReferenceIdeal.τ).loc Cert.AdamwWOutReferenceIdeal.main_arg0) = m ((c.tc : Thread Cert.AdamwWOutReferenceIdeal.nD Cert.AdamwWOutReferenceIdeal.τ).loc Cert.AdamwWOutReferenceIdeal.main_arg0)
      ∧ r.2.mem ((c.tc : Thread Cert.AdamwWOutReferenceIdeal.nD Cert.AdamwWOutReferenceIdeal.τ).loc Cert.AdamwWOutReferenceIdeal.main_arg1) = m ((c.tc : Thread Cert.AdamwWOutReferenceIdeal.nD Cert.AdamwWOutReferenceIdeal.τ).loc Cert.AdamwWOutReferenceIdeal.main_arg1)
      ∧ r.2.mem ((c.tc : Thread Cert.AdamwWOutReferenceIdeal.nD Cert.AdamwWOutReferenceIdeal.τ).loc Cert.AdamwWOutReferenceIdeal.main_arg2) = m ((c.tc : Thread Cert.AdamwWOutReferenceIdeal.nD Cert.AdamwWOutReferenceIdeal.τ).loc Cert.AdamwWOutReferenceIdeal.main_arg2)
      ∧ r.2.mem ((c.tc : Thread Cert.AdamwWOutReferenceIdeal.nD Cert.AdamwWOutReferenceIdeal.τ).loc Cert.AdamwWOutReferenceIdeal.main_arg3) = m ((c.tc : Thread Cert.AdamwWOutReferenceIdeal.nD Cert.AdamwWOutReferenceIdeal.τ).loc Cert.AdamwWOutReferenceIdeal.main_arg3)
      ∧ r.2.mem ((c.tc : Thread Cert.AdamwWOutReferenceIdeal.nD Cert.AdamwWOutReferenceIdeal.τ).loc Cert.AdamwWOutReferenceIdeal.main_arg4) = m ((c.tc : Thread Cert.AdamwWOutReferenceIdeal.nD Cert.AdamwWOutReferenceIdeal.τ).loc Cert.AdamwWOutReferenceIdeal.main_arg4))
      ∧ r.2.sem = fun _ => 0)

def quiescent_AdamwWQUp [hAdamwWQUp : Cert.AdamwWQUp.Facts] : Prop :=
  ∀ (m : (ℓ : Loc Cert.AdamwWQUp.nD Cert.AdamwWQUp.τ Cert.AdamwWQUp.sig) → Buf (Elt Bits) ℓ) (g : Dev Cert.AdamwWQUp.nD → PrngReg), Pre_AdamwWQUp m →
    θ_run (Cert.AdamwWQUp.defs (F := Bits)) (onTc (τ := Cert.AdamwWQUp.τ) (Cert.AdamwWQUp.main (F := Bits))) ⟨m, fun _ => 0, g⟩ (fun r => (∀ c : Dev Cert.AdamwWQUp.nD,
      r.2.mem ((c.tc : Thread Cert.AdamwWQUp.nD Cert.AdamwWQUp.τ).loc Cert.AdamwWQUp.main_arg0) = m ((c.tc : Thread Cert.AdamwWQUp.nD Cert.AdamwWQUp.τ).loc Cert.AdamwWQUp.main_arg0)
      ∧ r.2.mem ((c.tc : Thread Cert.AdamwWQUp.nD Cert.AdamwWQUp.τ).loc Cert.AdamwWQUp.main_arg1) = m ((c.tc : Thread Cert.AdamwWQUp.nD Cert.AdamwWQUp.τ).loc Cert.AdamwWQUp.main_arg1)
      ∧ r.2.mem ((c.tc : Thread Cert.AdamwWQUp.nD Cert.AdamwWQUp.τ).loc Cert.AdamwWQUp.main_arg2) = m ((c.tc : Thread Cert.AdamwWQUp.nD Cert.AdamwWQUp.τ).loc Cert.AdamwWQUp.main_arg2)
      ∧ r.2.mem ((c.tc : Thread Cert.AdamwWQUp.nD Cert.AdamwWQUp.τ).loc Cert.AdamwWQUp.main_arg3) = m ((c.tc : Thread Cert.AdamwWQUp.nD Cert.AdamwWQUp.τ).loc Cert.AdamwWQUp.main_arg3)
      ∧ r.2.mem ((c.tc : Thread Cert.AdamwWQUp.nD Cert.AdamwWQUp.τ).loc Cert.AdamwWQUp.main_arg4) = m ((c.tc : Thread Cert.AdamwWQUp.nD Cert.AdamwWQUp.τ).loc Cert.AdamwWQUp.main_arg4))
      ∧ r.2.sem = fun _ => 0)

def quiescent_AdamwWQUpIdeal [hAdamwWQUpIdeal : Cert.AdamwWQUpIdeal.Facts] : Prop :=
  ∀ (m : (ℓ : Loc Cert.AdamwWQUpIdeal.nD Cert.AdamwWQUpIdeal.τ Cert.AdamwWQUpIdeal.sig) → Buf (Elt Ideal) ℓ) (g : Dev Cert.AdamwWQUpIdeal.nD → PrngReg), Pre_AdamwWQUpIdeal m →
    θ_run (Cert.AdamwWQUpIdeal.defs (F := Ideal)) (onTc (τ := Cert.AdamwWQUpIdeal.τ) (Cert.AdamwWQUpIdeal.main (F := Ideal))) ⟨m, fun _ => 0, g⟩ (fun r => (∀ c : Dev Cert.AdamwWQUpIdeal.nD,
      r.2.mem ((c.tc : Thread Cert.AdamwWQUpIdeal.nD Cert.AdamwWQUpIdeal.τ).loc Cert.AdamwWQUpIdeal.main_arg0) = m ((c.tc : Thread Cert.AdamwWQUpIdeal.nD Cert.AdamwWQUpIdeal.τ).loc Cert.AdamwWQUpIdeal.main_arg0)
      ∧ r.2.mem ((c.tc : Thread Cert.AdamwWQUpIdeal.nD Cert.AdamwWQUpIdeal.τ).loc Cert.AdamwWQUpIdeal.main_arg1) = m ((c.tc : Thread Cert.AdamwWQUpIdeal.nD Cert.AdamwWQUpIdeal.τ).loc Cert.AdamwWQUpIdeal.main_arg1)
      ∧ r.2.mem ((c.tc : Thread Cert.AdamwWQUpIdeal.nD Cert.AdamwWQUpIdeal.τ).loc Cert.AdamwWQUpIdeal.main_arg2) = m ((c.tc : Thread Cert.AdamwWQUpIdeal.nD Cert.AdamwWQUpIdeal.τ).loc Cert.AdamwWQUpIdeal.main_arg2)
      ∧ r.2.mem ((c.tc : Thread Cert.AdamwWQUpIdeal.nD Cert.AdamwWQUpIdeal.τ).loc Cert.AdamwWQUpIdeal.main_arg3) = m ((c.tc : Thread Cert.AdamwWQUpIdeal.nD Cert.AdamwWQUpIdeal.τ).loc Cert.AdamwWQUpIdeal.main_arg3)
      ∧ r.2.mem ((c.tc : Thread Cert.AdamwWQUpIdeal.nD Cert.AdamwWQUpIdeal.τ).loc Cert.AdamwWQUpIdeal.main_arg4) = m ((c.tc : Thread Cert.AdamwWQUpIdeal.nD Cert.AdamwWQUpIdeal.τ).loc Cert.AdamwWQUpIdeal.main_arg4))
      ∧ r.2.sem = fun _ => 0)

def quiescent_AdamwWQUpReferenceIdeal [hAdamwWQUpReferenceIdeal : Cert.AdamwWQUpReferenceIdeal.Facts] : Prop :=
  ∀ (m : (ℓ : Loc Cert.AdamwWQUpReferenceIdeal.nD Cert.AdamwWQUpReferenceIdeal.τ Cert.AdamwWQUpReferenceIdeal.sig) → Buf (Elt Ideal) ℓ) (g : Dev Cert.AdamwWQUpReferenceIdeal.nD → PrngReg), Pre_AdamwWQUpReferenceIdeal m →
    θ_run (Cert.AdamwWQUpReferenceIdeal.defs (F := Ideal)) (onTc (τ := Cert.AdamwWQUpReferenceIdeal.τ) (Cert.AdamwWQUpReferenceIdeal.main (F := Ideal))) ⟨m, fun _ => 0, g⟩ (fun r => (∀ c : Dev Cert.AdamwWQUpReferenceIdeal.nD,
      r.2.mem ((c.tc : Thread Cert.AdamwWQUpReferenceIdeal.nD Cert.AdamwWQUpReferenceIdeal.τ).loc Cert.AdamwWQUpReferenceIdeal.main_arg0) = m ((c.tc : Thread Cert.AdamwWQUpReferenceIdeal.nD Cert.AdamwWQUpReferenceIdeal.τ).loc Cert.AdamwWQUpReferenceIdeal.main_arg0)
      ∧ r.2.mem ((c.tc : Thread Cert.AdamwWQUpReferenceIdeal.nD Cert.AdamwWQUpReferenceIdeal.τ).loc Cert.AdamwWQUpReferenceIdeal.main_arg1) = m ((c.tc : Thread Cert.AdamwWQUpReferenceIdeal.nD Cert.AdamwWQUpReferenceIdeal.τ).loc Cert.AdamwWQUpReferenceIdeal.main_arg1)
      ∧ r.2.mem ((c.tc : Thread Cert.AdamwWQUpReferenceIdeal.nD Cert.AdamwWQUpReferenceIdeal.τ).loc Cert.AdamwWQUpReferenceIdeal.main_arg2) = m ((c.tc : Thread Cert.AdamwWQUpReferenceIdeal.nD Cert.AdamwWQUpReferenceIdeal.τ).loc Cert.AdamwWQUpReferenceIdeal.main_arg2)
      ∧ r.2.mem ((c.tc : Thread Cert.AdamwWQUpReferenceIdeal.nD Cert.AdamwWQUpReferenceIdeal.τ).loc Cert.AdamwWQUpReferenceIdeal.main_arg3) = m ((c.tc : Thread Cert.AdamwWQUpReferenceIdeal.nD Cert.AdamwWQUpReferenceIdeal.τ).loc Cert.AdamwWQUpReferenceIdeal.main_arg3)
      ∧ r.2.mem ((c.tc : Thread Cert.AdamwWQUpReferenceIdeal.nD Cert.AdamwWQUpReferenceIdeal.τ).loc Cert.AdamwWQUpReferenceIdeal.main_arg4) = m ((c.tc : Thread Cert.AdamwWQUpReferenceIdeal.nD Cert.AdamwWQUpReferenceIdeal.τ).loc Cert.AdamwWQUpReferenceIdeal.main_arg4))
      ∧ r.2.sem = fun _ => 0)

def quiescent_AdamwWKvUp [hAdamwWKvUp : Cert.AdamwWKvUp.Facts] : Prop :=
  ∀ (m : (ℓ : Loc Cert.AdamwWKvUp.nD Cert.AdamwWKvUp.τ Cert.AdamwWKvUp.sig) → Buf (Elt Bits) ℓ) (g : Dev Cert.AdamwWKvUp.nD → PrngReg), Pre_AdamwWKvUp m →
    θ_run (Cert.AdamwWKvUp.defs (F := Bits)) (onTc (τ := Cert.AdamwWKvUp.τ) (Cert.AdamwWKvUp.main (F := Bits))) ⟨m, fun _ => 0, g⟩ (fun r => (∀ c : Dev Cert.AdamwWKvUp.nD,
      r.2.mem ((c.tc : Thread Cert.AdamwWKvUp.nD Cert.AdamwWKvUp.τ).loc Cert.AdamwWKvUp.main_arg0) = m ((c.tc : Thread Cert.AdamwWKvUp.nD Cert.AdamwWKvUp.τ).loc Cert.AdamwWKvUp.main_arg0)
      ∧ r.2.mem ((c.tc : Thread Cert.AdamwWKvUp.nD Cert.AdamwWKvUp.τ).loc Cert.AdamwWKvUp.main_arg1) = m ((c.tc : Thread Cert.AdamwWKvUp.nD Cert.AdamwWKvUp.τ).loc Cert.AdamwWKvUp.main_arg1)
      ∧ r.2.mem ((c.tc : Thread Cert.AdamwWKvUp.nD Cert.AdamwWKvUp.τ).loc Cert.AdamwWKvUp.main_arg2) = m ((c.tc : Thread Cert.AdamwWKvUp.nD Cert.AdamwWKvUp.τ).loc Cert.AdamwWKvUp.main_arg2)
      ∧ r.2.mem ((c.tc : Thread Cert.AdamwWKvUp.nD Cert.AdamwWKvUp.τ).loc Cert.AdamwWKvUp.main_arg3) = m ((c.tc : Thread Cert.AdamwWKvUp.nD Cert.AdamwWKvUp.τ).loc Cert.AdamwWKvUp.main_arg3)
      ∧ r.2.mem ((c.tc : Thread Cert.AdamwWKvUp.nD Cert.AdamwWKvUp.τ).loc Cert.AdamwWKvUp.main_arg4) = m ((c.tc : Thread Cert.AdamwWKvUp.nD Cert.AdamwWKvUp.τ).loc Cert.AdamwWKvUp.main_arg4))
      ∧ r.2.sem = fun _ => 0)

def quiescent_AdamwWKvUpIdeal [hAdamwWKvUpIdeal : Cert.AdamwWKvUpIdeal.Facts] : Prop :=
  ∀ (m : (ℓ : Loc Cert.AdamwWKvUpIdeal.nD Cert.AdamwWKvUpIdeal.τ Cert.AdamwWKvUpIdeal.sig) → Buf (Elt Ideal) ℓ) (g : Dev Cert.AdamwWKvUpIdeal.nD → PrngReg), Pre_AdamwWKvUpIdeal m →
    θ_run (Cert.AdamwWKvUpIdeal.defs (F := Ideal)) (onTc (τ := Cert.AdamwWKvUpIdeal.τ) (Cert.AdamwWKvUpIdeal.main (F := Ideal))) ⟨m, fun _ => 0, g⟩ (fun r => (∀ c : Dev Cert.AdamwWKvUpIdeal.nD,
      r.2.mem ((c.tc : Thread Cert.AdamwWKvUpIdeal.nD Cert.AdamwWKvUpIdeal.τ).loc Cert.AdamwWKvUpIdeal.main_arg0) = m ((c.tc : Thread Cert.AdamwWKvUpIdeal.nD Cert.AdamwWKvUpIdeal.τ).loc Cert.AdamwWKvUpIdeal.main_arg0)
      ∧ r.2.mem ((c.tc : Thread Cert.AdamwWKvUpIdeal.nD Cert.AdamwWKvUpIdeal.τ).loc Cert.AdamwWKvUpIdeal.main_arg1) = m ((c.tc : Thread Cert.AdamwWKvUpIdeal.nD Cert.AdamwWKvUpIdeal.τ).loc Cert.AdamwWKvUpIdeal.main_arg1)
      ∧ r.2.mem ((c.tc : Thread Cert.AdamwWKvUpIdeal.nD Cert.AdamwWKvUpIdeal.τ).loc Cert.AdamwWKvUpIdeal.main_arg2) = m ((c.tc : Thread Cert.AdamwWKvUpIdeal.nD Cert.AdamwWKvUpIdeal.τ).loc Cert.AdamwWKvUpIdeal.main_arg2)
      ∧ r.2.mem ((c.tc : Thread Cert.AdamwWKvUpIdeal.nD Cert.AdamwWKvUpIdeal.τ).loc Cert.AdamwWKvUpIdeal.main_arg3) = m ((c.tc : Thread Cert.AdamwWKvUpIdeal.nD Cert.AdamwWKvUpIdeal.τ).loc Cert.AdamwWKvUpIdeal.main_arg3)
      ∧ r.2.mem ((c.tc : Thread Cert.AdamwWKvUpIdeal.nD Cert.AdamwWKvUpIdeal.τ).loc Cert.AdamwWKvUpIdeal.main_arg4) = m ((c.tc : Thread Cert.AdamwWKvUpIdeal.nD Cert.AdamwWKvUpIdeal.τ).loc Cert.AdamwWKvUpIdeal.main_arg4))
      ∧ r.2.sem = fun _ => 0)

def quiescent_AdamwWKvUpReferenceIdeal [hAdamwWKvUpReferenceIdeal : Cert.AdamwWKvUpReferenceIdeal.Facts] : Prop :=
  ∀ (m : (ℓ : Loc Cert.AdamwWKvUpReferenceIdeal.nD Cert.AdamwWKvUpReferenceIdeal.τ Cert.AdamwWKvUpReferenceIdeal.sig) → Buf (Elt Ideal) ℓ) (g : Dev Cert.AdamwWKvUpReferenceIdeal.nD → PrngReg), Pre_AdamwWKvUpReferenceIdeal m →
    θ_run (Cert.AdamwWKvUpReferenceIdeal.defs (F := Ideal)) (onTc (τ := Cert.AdamwWKvUpReferenceIdeal.τ) (Cert.AdamwWKvUpReferenceIdeal.main (F := Ideal))) ⟨m, fun _ => 0, g⟩ (fun r => (∀ c : Dev Cert.AdamwWKvUpReferenceIdeal.nD,
      r.2.mem ((c.tc : Thread Cert.AdamwWKvUpReferenceIdeal.nD Cert.AdamwWKvUpReferenceIdeal.τ).loc Cert.AdamwWKvUpReferenceIdeal.main_arg0) = m ((c.tc : Thread Cert.AdamwWKvUpReferenceIdeal.nD Cert.AdamwWKvUpReferenceIdeal.τ).loc Cert.AdamwWKvUpReferenceIdeal.main_arg0)
      ∧ r.2.mem ((c.tc : Thread Cert.AdamwWKvUpReferenceIdeal.nD Cert.AdamwWKvUpReferenceIdeal.τ).loc Cert.AdamwWKvUpReferenceIdeal.main_arg1) = m ((c.tc : Thread Cert.AdamwWKvUpReferenceIdeal.nD Cert.AdamwWKvUpReferenceIdeal.τ).loc Cert.AdamwWKvUpReferenceIdeal.main_arg1)
      ∧ r.2.mem ((c.tc : Thread Cert.AdamwWKvUpReferenceIdeal.nD Cert.AdamwWKvUpReferenceIdeal.τ).loc Cert.AdamwWKvUpReferenceIdeal.main_arg2) = m ((c.tc : Thread Cert.AdamwWKvUpReferenceIdeal.nD Cert.AdamwWKvUpReferenceIdeal.τ).loc Cert.AdamwWKvUpReferenceIdeal.main_arg2)
      ∧ r.2.mem ((c.tc : Thread Cert.AdamwWKvUpReferenceIdeal.nD Cert.AdamwWKvUpReferenceIdeal.τ).loc Cert.AdamwWKvUpReferenceIdeal.main_arg3) = m ((c.tc : Thread Cert.AdamwWKvUpReferenceIdeal.nD Cert.AdamwWKvUpReferenceIdeal.τ).loc Cert.AdamwWKvUpReferenceIdeal.main_arg3)
      ∧ r.2.mem ((c.tc : Thread Cert.AdamwWKvUpReferenceIdeal.nD Cert.AdamwWKvUpReferenceIdeal.τ).loc Cert.AdamwWKvUpReferenceIdeal.main_arg4) = m ((c.tc : Thread Cert.AdamwWKvUpReferenceIdeal.nD Cert.AdamwWKvUpReferenceIdeal.τ).loc Cert.AdamwWKvUpReferenceIdeal.main_arg4))
      ∧ r.2.sem = fun _ => 0)

def quiescent_AdamwWPw [hAdamwWPw : Cert.AdamwWPw.Facts] : Prop :=
  ∀ (m : (ℓ : Loc Cert.AdamwWPw.nD Cert.AdamwWPw.τ Cert.AdamwWPw.sig) → Buf (Elt Bits) ℓ) (g : Dev Cert.AdamwWPw.nD → PrngReg), Pre_AdamwWPw m →
    θ_run (Cert.AdamwWPw.defs (F := Bits)) (onTc (τ := Cert.AdamwWPw.τ) (Cert.AdamwWPw.main (F := Bits))) ⟨m, fun _ => 0, g⟩ (fun r => (∀ c : Dev Cert.AdamwWPw.nD,
      r.2.mem ((c.tc : Thread Cert.AdamwWPw.nD Cert.AdamwWPw.τ).loc Cert.AdamwWPw.main_arg0) = m ((c.tc : Thread Cert.AdamwWPw.nD Cert.AdamwWPw.τ).loc Cert.AdamwWPw.main_arg0)
      ∧ r.2.mem ((c.tc : Thread Cert.AdamwWPw.nD Cert.AdamwWPw.τ).loc Cert.AdamwWPw.main_arg1) = m ((c.tc : Thread Cert.AdamwWPw.nD Cert.AdamwWPw.τ).loc Cert.AdamwWPw.main_arg1)
      ∧ r.2.mem ((c.tc : Thread Cert.AdamwWPw.nD Cert.AdamwWPw.τ).loc Cert.AdamwWPw.main_arg2) = m ((c.tc : Thread Cert.AdamwWPw.nD Cert.AdamwWPw.τ).loc Cert.AdamwWPw.main_arg2)
      ∧ r.2.mem ((c.tc : Thread Cert.AdamwWPw.nD Cert.AdamwWPw.τ).loc Cert.AdamwWPw.main_arg3) = m ((c.tc : Thread Cert.AdamwWPw.nD Cert.AdamwWPw.τ).loc Cert.AdamwWPw.main_arg3)
      ∧ r.2.mem ((c.tc : Thread Cert.AdamwWPw.nD Cert.AdamwWPw.τ).loc Cert.AdamwWPw.main_arg4) = m ((c.tc : Thread Cert.AdamwWPw.nD Cert.AdamwWPw.τ).loc Cert.AdamwWPw.main_arg4))
      ∧ r.2.sem = fun _ => 0)

def quiescent_AdamwWPwIdeal [hAdamwWPwIdeal : Cert.AdamwWPwIdeal.Facts] : Prop :=
  ∀ (m : (ℓ : Loc Cert.AdamwWPwIdeal.nD Cert.AdamwWPwIdeal.τ Cert.AdamwWPwIdeal.sig) → Buf (Elt Ideal) ℓ) (g : Dev Cert.AdamwWPwIdeal.nD → PrngReg), Pre_AdamwWPwIdeal m →
    θ_run (Cert.AdamwWPwIdeal.defs (F := Ideal)) (onTc (τ := Cert.AdamwWPwIdeal.τ) (Cert.AdamwWPwIdeal.main (F := Ideal))) ⟨m, fun _ => 0, g⟩ (fun r => (∀ c : Dev Cert.AdamwWPwIdeal.nD,
      r.2.mem ((c.tc : Thread Cert.AdamwWPwIdeal.nD Cert.AdamwWPwIdeal.τ).loc Cert.AdamwWPwIdeal.main_arg0) = m ((c.tc : Thread Cert.AdamwWPwIdeal.nD Cert.AdamwWPwIdeal.τ).loc Cert.AdamwWPwIdeal.main_arg0)
      ∧ r.2.mem ((c.tc : Thread Cert.AdamwWPwIdeal.nD Cert.AdamwWPwIdeal.τ).loc Cert.AdamwWPwIdeal.main_arg1) = m ((c.tc : Thread Cert.AdamwWPwIdeal.nD Cert.AdamwWPwIdeal.τ).loc Cert.AdamwWPwIdeal.main_arg1)
      ∧ r.2.mem ((c.tc : Thread Cert.AdamwWPwIdeal.nD Cert.AdamwWPwIdeal.τ).loc Cert.AdamwWPwIdeal.main_arg2) = m ((c.tc : Thread Cert.AdamwWPwIdeal.nD Cert.AdamwWPwIdeal.τ).loc Cert.AdamwWPwIdeal.main_arg2)
      ∧ r.2.mem ((c.tc : Thread Cert.AdamwWPwIdeal.nD Cert.AdamwWPwIdeal.τ).loc Cert.AdamwWPwIdeal.main_arg3) = m ((c.tc : Thread Cert.AdamwWPwIdeal.nD Cert.AdamwWPwIdeal.τ).loc Cert.AdamwWPwIdeal.main_arg3)
      ∧ r.2.mem ((c.tc : Thread Cert.AdamwWPwIdeal.nD Cert.AdamwWPwIdeal.τ).loc Cert.AdamwWPwIdeal.main_arg4) = m ((c.tc : Thread Cert.AdamwWPwIdeal.nD Cert.AdamwWPwIdeal.τ).loc Cert.AdamwWPwIdeal.main_arg4))
      ∧ r.2.sem = fun _ => 0)

def quiescent_AdamwWPwReferenceIdeal [hAdamwWPwReferenceIdeal : Cert.AdamwWPwReferenceIdeal.Facts] : Prop :=
  ∀ (m : (ℓ : Loc Cert.AdamwWPwReferenceIdeal.nD Cert.AdamwWPwReferenceIdeal.τ Cert.AdamwWPwReferenceIdeal.sig) → Buf (Elt Ideal) ℓ) (g : Dev Cert.AdamwWPwReferenceIdeal.nD → PrngReg), Pre_AdamwWPwReferenceIdeal m →
    θ_run (Cert.AdamwWPwReferenceIdeal.defs (F := Ideal)) (onTc (τ := Cert.AdamwWPwReferenceIdeal.τ) (Cert.AdamwWPwReferenceIdeal.main (F := Ideal))) ⟨m, fun _ => 0, g⟩ (fun r => (∀ c : Dev Cert.AdamwWPwReferenceIdeal.nD,
      r.2.mem ((c.tc : Thread Cert.AdamwWPwReferenceIdeal.nD Cert.AdamwWPwReferenceIdeal.τ).loc Cert.AdamwWPwReferenceIdeal.main_arg0) = m ((c.tc : Thread Cert.AdamwWPwReferenceIdeal.nD Cert.AdamwWPwReferenceIdeal.τ).loc Cert.AdamwWPwReferenceIdeal.main_arg0)
      ∧ r.2.mem ((c.tc : Thread Cert.AdamwWPwReferenceIdeal.nD Cert.AdamwWPwReferenceIdeal.τ).loc Cert.AdamwWPwReferenceIdeal.main_arg1) = m ((c.tc : Thread Cert.AdamwWPwReferenceIdeal.nD Cert.AdamwWPwReferenceIdeal.τ).loc Cert.AdamwWPwReferenceIdeal.main_arg1)
      ∧ r.2.mem ((c.tc : Thread Cert.AdamwWPwReferenceIdeal.nD Cert.AdamwWPwReferenceIdeal.τ).loc Cert.AdamwWPwReferenceIdeal.main_arg2) = m ((c.tc : Thread Cert.AdamwWPwReferenceIdeal.nD Cert.AdamwWPwReferenceIdeal.τ).loc Cert.AdamwWPwReferenceIdeal.main_arg2)
      ∧ r.2.mem ((c.tc : Thread Cert.AdamwWPwReferenceIdeal.nD Cert.AdamwWPwReferenceIdeal.τ).loc Cert.AdamwWPwReferenceIdeal.main_arg3) = m ((c.tc : Thread Cert.AdamwWPwReferenceIdeal.nD Cert.AdamwWPwReferenceIdeal.τ).loc Cert.AdamwWPwReferenceIdeal.main_arg3)
      ∧ r.2.mem ((c.tc : Thread Cert.AdamwWPwReferenceIdeal.nD Cert.AdamwWPwReferenceIdeal.τ).loc Cert.AdamwWPwReferenceIdeal.main_arg4) = m ((c.tc : Thread Cert.AdamwWPwReferenceIdeal.nD Cert.AdamwWPwReferenceIdeal.τ).loc Cert.AdamwWPwReferenceIdeal.main_arg4))
      ∧ r.2.sem = fun _ => 0)

def quiescent_AdamwWIn [hAdamwWIn : Cert.AdamwWIn.Facts] : Prop :=
  ∀ (m : (ℓ : Loc Cert.AdamwWIn.nD Cert.AdamwWIn.τ Cert.AdamwWIn.sig) → Buf (Elt Bits) ℓ) (g : Dev Cert.AdamwWIn.nD → PrngReg), Pre_AdamwWIn m →
    θ_run (Cert.AdamwWIn.defs (F := Bits)) (onTc (τ := Cert.AdamwWIn.τ) (Cert.AdamwWIn.main (F := Bits))) ⟨m, fun _ => 0, g⟩ (fun r => (∀ c : Dev Cert.AdamwWIn.nD,
      r.2.mem ((c.tc : Thread Cert.AdamwWIn.nD Cert.AdamwWIn.τ).loc Cert.AdamwWIn.main_arg0) = m ((c.tc : Thread Cert.AdamwWIn.nD Cert.AdamwWIn.τ).loc Cert.AdamwWIn.main_arg0)
      ∧ r.2.mem ((c.tc : Thread Cert.AdamwWIn.nD Cert.AdamwWIn.τ).loc Cert.AdamwWIn.main_arg1) = m ((c.tc : Thread Cert.AdamwWIn.nD Cert.AdamwWIn.τ).loc Cert.AdamwWIn.main_arg1)
      ∧ r.2.mem ((c.tc : Thread Cert.AdamwWIn.nD Cert.AdamwWIn.τ).loc Cert.AdamwWIn.main_arg2) = m ((c.tc : Thread Cert.AdamwWIn.nD Cert.AdamwWIn.τ).loc Cert.AdamwWIn.main_arg2)
      ∧ r.2.mem ((c.tc : Thread Cert.AdamwWIn.nD Cert.AdamwWIn.τ).loc Cert.AdamwWIn.main_arg3) = m ((c.tc : Thread Cert.AdamwWIn.nD Cert.AdamwWIn.τ).loc Cert.AdamwWIn.main_arg3)
      ∧ r.2.mem ((c.tc : Thread Cert.AdamwWIn.nD Cert.AdamwWIn.τ).loc Cert.AdamwWIn.main_arg4) = m ((c.tc : Thread Cert.AdamwWIn.nD Cert.AdamwWIn.τ).loc Cert.AdamwWIn.main_arg4)
      ∧ r.2.mem ((c.tc : Thread Cert.AdamwWIn.nD Cert.AdamwWIn.τ).loc Cert.AdamwWIn.main_arg5) = m ((c.tc : Thread Cert.AdamwWIn.nD Cert.AdamwWIn.τ).loc Cert.AdamwWIn.main_arg5)
      ∧ r.2.mem ((c.tc : Thread Cert.AdamwWIn.nD Cert.AdamwWIn.τ).loc Cert.AdamwWIn.main_arg6) = m ((c.tc : Thread Cert.AdamwWIn.nD Cert.AdamwWIn.τ).loc Cert.AdamwWIn.main_arg6)
      ∧ r.2.mem ((c.tc : Thread Cert.AdamwWIn.nD Cert.AdamwWIn.τ).loc Cert.AdamwWIn.main_arg7) = m ((c.tc : Thread Cert.AdamwWIn.nD Cert.AdamwWIn.τ).loc Cert.AdamwWIn.main_arg7))
      ∧ r.2.sem = fun _ => 0)

def quiescent_AdamwWInIdeal [hAdamwWInIdeal : Cert.AdamwWInIdeal.Facts] : Prop :=
  ∀ (m : (ℓ : Loc Cert.AdamwWInIdeal.nD Cert.AdamwWInIdeal.τ Cert.AdamwWInIdeal.sig) → Buf (Elt Ideal) ℓ) (g : Dev Cert.AdamwWInIdeal.nD → PrngReg), Pre_AdamwWInIdeal m →
    θ_run (Cert.AdamwWInIdeal.defs (F := Ideal)) (onTc (τ := Cert.AdamwWInIdeal.τ) (Cert.AdamwWInIdeal.main (F := Ideal))) ⟨m, fun _ => 0, g⟩ (fun r => (∀ c : Dev Cert.AdamwWInIdeal.nD,
      r.2.mem ((c.tc : Thread Cert.AdamwWInIdeal.nD Cert.AdamwWInIdeal.τ).loc Cert.AdamwWInIdeal.main_arg0) = m ((c.tc : Thread Cert.AdamwWInIdeal.nD Cert.AdamwWInIdeal.τ).loc Cert.AdamwWInIdeal.main_arg0)
      ∧ r.2.mem ((c.tc : Thread Cert.AdamwWInIdeal.nD Cert.AdamwWInIdeal.τ).loc Cert.AdamwWInIdeal.main_arg1) = m ((c.tc : Thread Cert.AdamwWInIdeal.nD Cert.AdamwWInIdeal.τ).loc Cert.AdamwWInIdeal.main_arg1)
      ∧ r.2.mem ((c.tc : Thread Cert.AdamwWInIdeal.nD Cert.AdamwWInIdeal.τ).loc Cert.AdamwWInIdeal.main_arg2) = m ((c.tc : Thread Cert.AdamwWInIdeal.nD Cert.AdamwWInIdeal.τ).loc Cert.AdamwWInIdeal.main_arg2)
      ∧ r.2.mem ((c.tc : Thread Cert.AdamwWInIdeal.nD Cert.AdamwWInIdeal.τ).loc Cert.AdamwWInIdeal.main_arg3) = m ((c.tc : Thread Cert.AdamwWInIdeal.nD Cert.AdamwWInIdeal.τ).loc Cert.AdamwWInIdeal.main_arg3)
      ∧ r.2.mem ((c.tc : Thread Cert.AdamwWInIdeal.nD Cert.AdamwWInIdeal.τ).loc Cert.AdamwWInIdeal.main_arg4) = m ((c.tc : Thread Cert.AdamwWInIdeal.nD Cert.AdamwWInIdeal.τ).loc Cert.AdamwWInIdeal.main_arg4)
      ∧ r.2.mem ((c.tc : Thread Cert.AdamwWInIdeal.nD Cert.AdamwWInIdeal.τ).loc Cert.AdamwWInIdeal.main_arg5) = m ((c.tc : Thread Cert.AdamwWInIdeal.nD Cert.AdamwWInIdeal.τ).loc Cert.AdamwWInIdeal.main_arg5)
      ∧ r.2.mem ((c.tc : Thread Cert.AdamwWInIdeal.nD Cert.AdamwWInIdeal.τ).loc Cert.AdamwWInIdeal.main_arg6) = m ((c.tc : Thread Cert.AdamwWInIdeal.nD Cert.AdamwWInIdeal.τ).loc Cert.AdamwWInIdeal.main_arg6)
      ∧ r.2.mem ((c.tc : Thread Cert.AdamwWInIdeal.nD Cert.AdamwWInIdeal.τ).loc Cert.AdamwWInIdeal.main_arg7) = m ((c.tc : Thread Cert.AdamwWInIdeal.nD Cert.AdamwWInIdeal.τ).loc Cert.AdamwWInIdeal.main_arg7))
      ∧ r.2.sem = fun _ => 0)

def quiescent_AdamwWInReferenceIdeal [hAdamwWInReferenceIdeal : Cert.AdamwWInReferenceIdeal.Facts] : Prop :=
  ∀ (m : (ℓ : Loc Cert.AdamwWInReferenceIdeal.nD Cert.AdamwWInReferenceIdeal.τ Cert.AdamwWInReferenceIdeal.sig) → Buf (Elt Ideal) ℓ) (g : Dev Cert.AdamwWInReferenceIdeal.nD → PrngReg), Pre_AdamwWInReferenceIdeal m →
    θ_run (Cert.AdamwWInReferenceIdeal.defs (F := Ideal)) (onTc (τ := Cert.AdamwWInReferenceIdeal.τ) (Cert.AdamwWInReferenceIdeal.main (F := Ideal))) ⟨m, fun _ => 0, g⟩ (fun r => (∀ c : Dev Cert.AdamwWInReferenceIdeal.nD,
      r.2.mem ((c.tc : Thread Cert.AdamwWInReferenceIdeal.nD Cert.AdamwWInReferenceIdeal.τ).loc Cert.AdamwWInReferenceIdeal.main_arg0) = m ((c.tc : Thread Cert.AdamwWInReferenceIdeal.nD Cert.AdamwWInReferenceIdeal.τ).loc Cert.AdamwWInReferenceIdeal.main_arg0)
      ∧ r.2.mem ((c.tc : Thread Cert.AdamwWInReferenceIdeal.nD Cert.AdamwWInReferenceIdeal.τ).loc Cert.AdamwWInReferenceIdeal.main_arg1) = m ((c.tc : Thread Cert.AdamwWInReferenceIdeal.nD Cert.AdamwWInReferenceIdeal.τ).loc Cert.AdamwWInReferenceIdeal.main_arg1)
      ∧ r.2.mem ((c.tc : Thread Cert.AdamwWInReferenceIdeal.nD Cert.AdamwWInReferenceIdeal.τ).loc Cert.AdamwWInReferenceIdeal.main_arg2) = m ((c.tc : Thread Cert.AdamwWInReferenceIdeal.nD Cert.AdamwWInReferenceIdeal.τ).loc Cert.AdamwWInReferenceIdeal.main_arg2)
      ∧ r.2.mem ((c.tc : Thread Cert.AdamwWInReferenceIdeal.nD Cert.AdamwWInReferenceIdeal.τ).loc Cert.AdamwWInReferenceIdeal.main_arg3) = m ((c.tc : Thread Cert.AdamwWInReferenceIdeal.nD Cert.AdamwWInReferenceIdeal.τ).loc Cert.AdamwWInReferenceIdeal.main_arg3)
      ∧ r.2.mem ((c.tc : Thread Cert.AdamwWInReferenceIdeal.nD Cert.AdamwWInReferenceIdeal.τ).loc Cert.AdamwWInReferenceIdeal.main_arg4) = m ((c.tc : Thread Cert.AdamwWInReferenceIdeal.nD Cert.AdamwWInReferenceIdeal.τ).loc Cert.AdamwWInReferenceIdeal.main_arg4)
      ∧ r.2.mem ((c.tc : Thread Cert.AdamwWInReferenceIdeal.nD Cert.AdamwWInReferenceIdeal.τ).loc Cert.AdamwWInReferenceIdeal.main_arg5) = m ((c.tc : Thread Cert.AdamwWInReferenceIdeal.nD Cert.AdamwWInReferenceIdeal.τ).loc Cert.AdamwWInReferenceIdeal.main_arg5)
      ∧ r.2.mem ((c.tc : Thread Cert.AdamwWInReferenceIdeal.nD Cert.AdamwWInReferenceIdeal.τ).loc Cert.AdamwWInReferenceIdeal.main_arg6) = m ((c.tc : Thread Cert.AdamwWInReferenceIdeal.nD Cert.AdamwWInReferenceIdeal.τ).loc Cert.AdamwWInReferenceIdeal.main_arg6)
      ∧ r.2.mem ((c.tc : Thread Cert.AdamwWInReferenceIdeal.nD Cert.AdamwWInReferenceIdeal.τ).loc Cert.AdamwWInReferenceIdeal.main_arg7) = m ((c.tc : Thread Cert.AdamwWInReferenceIdeal.nD Cert.AdamwWInReferenceIdeal.τ).loc Cert.AdamwWInReferenceIdeal.main_arg7))
      ∧ r.2.sem = fun _ => 0)

def quiescent_AdamwWInB [hAdamwWInB : Cert.AdamwWInB.Facts] : Prop :=
  ∀ (m : (ℓ : Loc Cert.AdamwWInB.nD Cert.AdamwWInB.τ Cert.AdamwWInB.sig) → Buf (Elt Bits) ℓ) (g : Dev Cert.AdamwWInB.nD → PrngReg), Pre_AdamwWInB m →
    θ_run (Cert.AdamwWInB.defs (F := Bits)) (onTc (τ := Cert.AdamwWInB.τ) (Cert.AdamwWInB.main (F := Bits))) ⟨m, fun _ => 0, g⟩ (fun r => (∀ c : Dev Cert.AdamwWInB.nD,
      r.2.mem ((c.tc : Thread Cert.AdamwWInB.nD Cert.AdamwWInB.τ).loc Cert.AdamwWInB.main_arg0) = m ((c.tc : Thread Cert.AdamwWInB.nD Cert.AdamwWInB.τ).loc Cert.AdamwWInB.main_arg0)
      ∧ r.2.mem ((c.tc : Thread Cert.AdamwWInB.nD Cert.AdamwWInB.τ).loc Cert.AdamwWInB.main_arg1) = m ((c.tc : Thread Cert.AdamwWInB.nD Cert.AdamwWInB.τ).loc Cert.AdamwWInB.main_arg1)
      ∧ r.2.mem ((c.tc : Thread Cert.AdamwWInB.nD Cert.AdamwWInB.τ).loc Cert.AdamwWInB.main_arg2) = m ((c.tc : Thread Cert.AdamwWInB.nD Cert.AdamwWInB.τ).loc Cert.AdamwWInB.main_arg2)
      ∧ r.2.mem ((c.tc : Thread Cert.AdamwWInB.nD Cert.AdamwWInB.τ).loc Cert.AdamwWInB.main_arg3) = m ((c.tc : Thread Cert.AdamwWInB.nD Cert.AdamwWInB.τ).loc Cert.AdamwWInB.main_arg3))
      ∧ r.2.sem = fun _ => 0)

def quiescent_AdamwWInBIdeal [hAdamwWInBIdeal : Cert.AdamwWInBIdeal.Facts] : Prop :=
  ∀ (m : (ℓ : Loc Cert.AdamwWInBIdeal.nD Cert.AdamwWInBIdeal.τ Cert.AdamwWInBIdeal.sig) → Buf (Elt Ideal) ℓ) (g : Dev Cert.AdamwWInBIdeal.nD → PrngReg), Pre_AdamwWInBIdeal m →
    θ_run (Cert.AdamwWInBIdeal.defs (F := Ideal)) (onTc (τ := Cert.AdamwWInBIdeal.τ) (Cert.AdamwWInBIdeal.main (F := Ideal))) ⟨m, fun _ => 0, g⟩ (fun r => (∀ c : Dev Cert.AdamwWInBIdeal.nD,
      r.2.mem ((c.tc : Thread Cert.AdamwWInBIdeal.nD Cert.AdamwWInBIdeal.τ).loc Cert.AdamwWInBIdeal.main_arg0) = m ((c.tc : Thread Cert.AdamwWInBIdeal.nD Cert.AdamwWInBIdeal.τ).loc Cert.AdamwWInBIdeal.main_arg0)
      ∧ r.2.mem ((c.tc : Thread Cert.AdamwWInBIdeal.nD Cert.AdamwWInBIdeal.τ).loc Cert.AdamwWInBIdeal.main_arg1) = m ((c.tc : Thread Cert.AdamwWInBIdeal.nD Cert.AdamwWInBIdeal.τ).loc Cert.AdamwWInBIdeal.main_arg1)
      ∧ r.2.mem ((c.tc : Thread Cert.AdamwWInBIdeal.nD Cert.AdamwWInBIdeal.τ).loc Cert.AdamwWInBIdeal.main_arg2) = m ((c.tc : Thread Cert.AdamwWInBIdeal.nD Cert.AdamwWInBIdeal.τ).loc Cert.AdamwWInBIdeal.main_arg2)
      ∧ r.2.mem ((c.tc : Thread Cert.AdamwWInBIdeal.nD Cert.AdamwWInBIdeal.τ).loc Cert.AdamwWInBIdeal.main_arg3) = m ((c.tc : Thread Cert.AdamwWInBIdeal.nD Cert.AdamwWInBIdeal.τ).loc Cert.AdamwWInBIdeal.main_arg3))
      ∧ r.2.sem = fun _ => 0)

def quiescent_AdamwWInBReferenceIdeal [hAdamwWInBReferenceIdeal : Cert.AdamwWInBReferenceIdeal.Facts] : Prop :=
  ∀ (m : (ℓ : Loc Cert.AdamwWInBReferenceIdeal.nD Cert.AdamwWInBReferenceIdeal.τ Cert.AdamwWInBReferenceIdeal.sig) → Buf (Elt Ideal) ℓ) (g : Dev Cert.AdamwWInBReferenceIdeal.nD → PrngReg), Pre_AdamwWInBReferenceIdeal m →
    θ_run (Cert.AdamwWInBReferenceIdeal.defs (F := Ideal)) (onTc (τ := Cert.AdamwWInBReferenceIdeal.τ) (Cert.AdamwWInBReferenceIdeal.main (F := Ideal))) ⟨m, fun _ => 0, g⟩ (fun r => (∀ c : Dev Cert.AdamwWInBReferenceIdeal.nD,
      r.2.mem ((c.tc : Thread Cert.AdamwWInBReferenceIdeal.nD Cert.AdamwWInBReferenceIdeal.τ).loc Cert.AdamwWInBReferenceIdeal.main_arg0) = m ((c.tc : Thread Cert.AdamwWInBReferenceIdeal.nD Cert.AdamwWInBReferenceIdeal.τ).loc Cert.AdamwWInBReferenceIdeal.main_arg0)
      ∧ r.2.mem ((c.tc : Thread Cert.AdamwWInBReferenceIdeal.nD Cert.AdamwWInBReferenceIdeal.τ).loc Cert.AdamwWInBReferenceIdeal.main_arg1) = m ((c.tc : Thread Cert.AdamwWInBReferenceIdeal.nD Cert.AdamwWInBReferenceIdeal.τ).loc Cert.AdamwWInBReferenceIdeal.main_arg1)
      ∧ r.2.mem ((c.tc : Thread Cert.AdamwWInBReferenceIdeal.nD Cert.AdamwWInBReferenceIdeal.τ).loc Cert.AdamwWInBReferenceIdeal.main_arg2) = m ((c.tc : Thread Cert.AdamwWInBReferenceIdeal.nD Cert.AdamwWInBReferenceIdeal.τ).loc Cert.AdamwWInBReferenceIdeal.main_arg2)
      ∧ r.2.mem ((c.tc : Thread Cert.AdamwWInBReferenceIdeal.nD Cert.AdamwWInBReferenceIdeal.τ).loc Cert.AdamwWInBReferenceIdeal.main_arg3) = m ((c.tc : Thread Cert.AdamwWInBReferenceIdeal.nD Cert.AdamwWInBReferenceIdeal.τ).loc Cert.AdamwWInBReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)) (v2 : (c : Dev Cert.KernelIdeal.nD) → Buf (Elt Ideal) ((c.tc : Thread Cert.KernelIdeal.nD Cert.KernelIdeal.τ).loc Cert.KernelIdeal.main_v52_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_v52_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v11)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v11) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v8) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_DH_DHIdeal : Prop :=
  True

def algebraic_DHIdeal_DHReferenceIdeal [hDHIdeal : Cert.DHIdeal.Facts] [hDHReferenceIdeal : Cert.DHReferenceIdeal.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.DHReferenceIdeal.nD Cert.DHReferenceIdeal.τ Cert.DHReferenceIdeal.sig) → Buf (Elt Ideal) ℓ) (g' : Dev Cert.DHReferenceIdeal.nD → PrngReg), Pre_DHIdeal m →
    (∀ c : Dev Cert.DHIdeal.nD,
      m' ((c.tc : Thread Cert.DHReferenceIdeal.nD Cert.DHReferenceIdeal.τ).loc Cert.DHReferenceIdeal.main_arg0) = m ((c.tc : Thread Cert.DHIdeal.nD Cert.DHIdeal.τ).loc Cert.DHIdeal.main_arg0)
      ∧ m' ((c.tc : Thread Cert.DHReferenceIdeal.nD Cert.DHReferenceIdeal.τ).loc Cert.DHReferenceIdeal.main_arg1) = m ((c.tc : Thread Cert.DHIdeal.nD Cert.DHIdeal.τ).loc Cert.DHIdeal.main_arg1)) →
    ∃ (v0 : (c : Dev Cert.DHIdeal.nD) → Buf (Elt Ideal) ((c.tc : Thread Cert.DHIdeal.nD Cert.DHIdeal.τ).loc Cert.DHIdeal.main_v19)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v19) = v0 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ θ_run (Cert.DHReferenceIdeal.defs (F := Ideal)) (onTc (τ := Cert.DHReferenceIdeal.τ) (Cert.DHReferenceIdeal.main (F := Ideal))) ⟨m', fun _ => 0, g'⟩ (fun r => ∀ c : Dev Cert.DHReferenceIdeal.nD,
          r.2.mem ((c.tc : Thread Cert.DHReferenceIdeal.nD Cert.DHReferenceIdeal.τ).loc Cert.DHReferenceIdeal.main_v2) = v0 c
          ∧ r.2.mem ((c.tc : Thread Cert.DHReferenceIdeal.nD Cert.DHReferenceIdeal.τ).loc Cert.DHReferenceIdeal.main_arg0) = m' ((c.tc : Thread Cert.DHReferenceIdeal.nD Cert.DHReferenceIdeal.τ).loc Cert.DHReferenceIdeal.main_arg0)
          ∧ r.2.mem ((c.tc : Thread Cert.DHReferenceIdeal.nD Cert.DHReferenceIdeal.τ).loc Cert.DHReferenceIdeal.main_arg1) = m' ((c.tc : Thread Cert.DHReferenceIdeal.nD Cert.DHReferenceIdeal.τ).loc Cert.DHReferenceIdeal.main_arg1))

def preserves_GWIn_GWInIdeal : Prop :=
  True

def algebraic_GWInIdeal_GWInReferenceIdeal [hGWInIdeal : Cert.GWInIdeal.Facts] [hGWInReferenceIdeal : Cert.GWInReferenceIdeal.Facts] : Prop :=
  ∀ (m : (ℓ : Loc Cert.GWInIdeal.nD Cert.GWInIdeal.τ Cert.GWInIdeal.sig) → Buf (Elt Ideal) ℓ) (g : Dev Cert.GWInIdeal.nD → PrngReg)
    (m' : (ℓ : Loc Cert.GWInReferenceIdeal.nD Cert.GWInReferenceIdeal.τ Cert.GWInReferenceIdeal.sig) → Buf (Elt Ideal) ℓ) (g' : Dev Cert.GWInReferenceIdeal.nD → PrngReg), Pre_GWInIdeal m →
    (∀ c : Dev Cert.GWInIdeal.nD,
      m' ((c.tc : Thread Cert.GWInReferenceIdeal.nD Cert.GWInReferenceIdeal.τ).loc Cert.GWInReferenceIdeal.main_arg0) = m ((c.tc : Thread Cert.GWInIdeal.nD Cert.GWInIdeal.τ).loc Cert.GWInIdeal.main_arg0)
      ∧ m' ((c.tc : Thread Cert.GWInReferenceIdeal.nD Cert.GWInReferenceIdeal.τ).loc Cert.GWInReferenceIdeal.main_arg1) = m ((c.tc : Thread Cert.GWInIdeal.nD Cert.GWInIdeal.τ).loc Cert.GWInIdeal.main_arg1)) →
    ∃ (v0 : (c : Dev Cert.GWInIdeal.nD) → Buf (Elt Ideal) ((c.tc : Thread Cert.GWInIdeal.nD Cert.GWInIdeal.τ).loc Cert.GWInIdeal.main_v10)),
      θ_run (Cert.GWInIdeal.defs (F := Ideal)) (onTc (τ := Cert.GWInIdeal.τ) (Cert.GWInIdeal.main (F := Ideal))) ⟨m, fun _ => 0, g⟩ (fun r => ∀ c : Dev Cert.GWInIdeal.nD,
          r.2.mem ((c.tc : Thread Cert.GWInIdeal.nD Cert.GWInIdeal.τ).loc Cert.GWInIdeal.main_v10) = v0 c
          ∧ r.2.mem ((c.tc : Thread Cert.GWInIdeal.nD Cert.GWInIdeal.τ).loc Cert.GWInIdeal.main_arg0) = m ((c.tc : Thread Cert.GWInIdeal.nD Cert.GWInIdeal.τ).loc Cert.GWInIdeal.main_arg0)
          ∧ r.2.mem ((c.tc : Thread Cert.GWInIdeal.nD Cert.GWInIdeal.τ).loc Cert.GWInIdeal.main_arg1) = m ((c.tc : Thread Cert.GWInIdeal.nD Cert.GWInIdeal.τ).loc Cert.GWInIdeal.main_arg1))
      ∧ θ_run (Cert.GWInReferenceIdeal.defs (F := Ideal)) (onTc (τ := Cert.GWInReferenceIdeal.τ) (Cert.GWInReferenceIdeal.main (F := Ideal))) ⟨m', fun _ => 0, g'⟩ (fun r => ∀ c : Dev Cert.GWInReferenceIdeal.nD,
          r.2.mem ((c.tc : Thread Cert.GWInReferenceIdeal.nD Cert.GWInReferenceIdeal.τ).loc Cert.GWInReferenceIdeal.main_v12) = v0 c
          ∧ r.2.mem ((c.tc : Thread Cert.GWInReferenceIdeal.nD Cert.GWInReferenceIdeal.τ).loc Cert.GWInReferenceIdeal.main_arg0) = m' ((c.tc : Thread Cert.GWInReferenceIdeal.nD Cert.GWInReferenceIdeal.τ).loc Cert.GWInReferenceIdeal.main_arg0)
          ∧ r.2.mem ((c.tc : Thread Cert.GWInReferenceIdeal.nD Cert.GWInReferenceIdeal.τ).loc Cert.GWInReferenceIdeal.main_arg1) = m' ((c.tc : Thread Cert.GWInReferenceIdeal.nD Cert.GWInReferenceIdeal.τ).loc Cert.GWInReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v3_0)) (v1 : (c : Dev Cert.OutProjIdeal.nD) → Buf (Elt Ideal) ((c.tc : Thread Cert.OutProjIdeal.nD Cert.OutProjIdeal.τ).loc Cert.OutProjIdeal.main_v3_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3_0) = v0 c
          ∧ r.2.mem ((c.tc : Thread Cert.OutProjIdeal.nD Cert.OutProjIdeal.τ).loc Cert.OutProjIdeal.main_v3_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v1) = v0 c
          ∧ r.2.mem ((c.tc : Thread Cert.OutProjReferenceIdeal.nD Cert.OutProjReferenceIdeal.τ).loc Cert.OutProjReferenceIdeal.main_v4) = v1 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4))

def preserves_GWOut_GWOutIdeal : Prop :=
  True

def algebraic_GWOutIdeal_GWOutReferenceIdeal [hGWOutIdeal : Cert.GWOutIdeal.Facts] [hGWOutReferenceIdeal : Cert.GWOutReferenceIdeal.Facts] : Prop :=
  ∀ (m : (ℓ : Loc Cert.GWOutIdeal.nD Cert.GWOutIdeal.τ Cert.GWOutIdeal.sig) → Buf (Elt Ideal) ℓ) (g : Dev Cert.GWOutIdeal.nD → PrngReg)
    (m' : (ℓ : Loc Cert.GWOutReferenceIdeal.nD Cert.GWOutReferenceIdeal.τ Cert.GWOutReferenceIdeal.sig) → Buf (Elt Ideal) ℓ) (g' : Dev Cert.GWOutReferenceIdeal.nD → PrngReg), Pre_GWOutIdeal m →
    (∀ c : Dev Cert.GWOutIdeal.nD,
      m' ((c.tc : Thread Cert.GWOutReferenceIdeal.nD Cert.GWOutReferenceIdeal.τ).loc Cert.GWOutReferenceIdeal.main_arg0) = m ((c.tc : Thread Cert.GWOutIdeal.nD Cert.GWOutIdeal.τ).loc Cert.GWOutIdeal.main_arg0)
      ∧ m' ((c.tc : Thread Cert.GWOutReferenceIdeal.nD Cert.GWOutReferenceIdeal.τ).loc Cert.GWOutReferenceIdeal.main_arg1) = m ((c.tc : Thread Cert.GWOutIdeal.nD Cert.GWOutIdeal.τ).loc Cert.GWOutIdeal.main_arg1)
      ∧ m' ((c.tc : Thread Cert.GWOutReferenceIdeal.nD Cert.GWOutReferenceIdeal.τ).loc Cert.GWOutReferenceIdeal.main_arg2) = m ((c.tc : Thread Cert.GWOutIdeal.nD Cert.GWOutIdeal.τ).loc Cert.GWOutIdeal.main_arg2)) →
    ∃ (v0 : (c : Dev Cert.GWOutIdeal.nD) → Buf (Elt Ideal) ((c.tc : Thread Cert.GWOutIdeal.nD Cert.GWOutIdeal.τ).loc Cert.GWOutIdeal.main_v3)),
      θ_run (Cert.GWOutIdeal.defs (F := Ideal)) (onTc (τ := Cert.GWOutIdeal.τ) (Cert.GWOutIdeal.main (F := Ideal))) ⟨m, fun _ => 0, g⟩ (fun r => ∀ c : Dev Cert.GWOutIdeal.nD,
          r.2.mem ((c.tc : Thread Cert.GWOutIdeal.nD Cert.GWOutIdeal.τ).loc Cert.GWOutIdeal.main_v3) = v0 c
          ∧ r.2.mem ((c.tc : Thread Cert.GWOutIdeal.nD Cert.GWOutIdeal.τ).loc Cert.GWOutIdeal.main_arg0) = m ((c.tc : Thread Cert.GWOutIdeal.nD Cert.GWOutIdeal.τ).loc Cert.GWOutIdeal.main_arg0)
          ∧ r.2.mem ((c.tc : Thread Cert.GWOutIdeal.nD Cert.GWOutIdeal.τ).loc Cert.GWOutIdeal.main_arg1) = m ((c.tc : Thread Cert.GWOutIdeal.nD Cert.GWOutIdeal.τ).loc Cert.GWOutIdeal.main_arg1)
          ∧ r.2.mem ((c.tc : Thread Cert.GWOutIdeal.nD Cert.GWOutIdeal.τ).loc Cert.GWOutIdeal.main_arg2) = m ((c.tc : Thread Cert.GWOutIdeal.nD Cert.GWOutIdeal.τ).loc Cert.GWOutIdeal.main_arg2))
      ∧ θ_run (Cert.GWOutReferenceIdeal.defs (F := Ideal)) (onTc (τ := Cert.GWOutReferenceIdeal.τ) (Cert.GWOutReferenceIdeal.main (F := Ideal))) ⟨m', fun _ => 0, g'⟩ (fun r => ∀ c : Dev Cert.GWOutReferenceIdeal.nD,
          r.2.mem ((c.tc : Thread Cert.GWOutReferenceIdeal.nD Cert.GWOutReferenceIdeal.τ).loc Cert.GWOutReferenceIdeal.main_v4) = v0 c
          ∧ r.2.mem ((c.tc : Thread Cert.GWOutReferenceIdeal.nD Cert.GWOutReferenceIdeal.τ).loc Cert.GWOutReferenceIdeal.main_arg0) = m' ((c.tc : Thread Cert.GWOutReferenceIdeal.nD Cert.GWOutReferenceIdeal.τ).loc Cert.GWOutReferenceIdeal.main_arg0)
          ∧ r.2.mem ((c.tc : Thread Cert.GWOutReferenceIdeal.nD Cert.GWOutReferenceIdeal.τ).loc Cert.GWOutReferenceIdeal.main_arg1) = m' ((c.tc : Thread Cert.GWOutReferenceIdeal.nD Cert.GWOutReferenceIdeal.τ).loc Cert.GWOutReferenceIdeal.main_arg1)
          ∧ r.2.mem ((c.tc : Thread Cert.GWOutReferenceIdeal.nD Cert.GWOutReferenceIdeal.τ).loc Cert.GWOutReferenceIdeal.main_arg2) = m' ((c.tc : Thread Cert.GWOutReferenceIdeal.nD Cert.GWOutReferenceIdeal.τ).loc Cert.GWOutReferenceIdeal.main_arg2))

def preserves_GWPw_GWPwIdeal : Prop :=
  True

def algebraic_GWPwIdeal_GWPwReferenceIdeal [hGWPwIdeal : Cert.GWPwIdeal.Facts] [hGWPwReferenceIdeal : Cert.GWPwReferenceIdeal.Facts] : Prop :=
  ∀ (m : (ℓ : Loc Cert.GWPwIdeal.nD Cert.GWPwIdeal.τ Cert.GWPwIdeal.sig) → Buf (Elt Ideal) ℓ) (g : Dev Cert.GWPwIdeal.nD → PrngReg)
    (m' : (ℓ : Loc Cert.GWPwReferenceIdeal.nD Cert.GWPwReferenceIdeal.τ Cert.GWPwReferenceIdeal.sig) → Buf (Elt Ideal) ℓ) (g' : Dev Cert.GWPwReferenceIdeal.nD → PrngReg), Pre_GWPwIdeal m →
    (∀ c : Dev Cert.GWPwIdeal.nD,
      m' ((c.tc : Thread Cert.GWPwReferenceIdeal.nD Cert.GWPwReferenceIdeal.τ).loc Cert.GWPwReferenceIdeal.main_arg0) = m ((c.tc : Thread Cert.GWPwIdeal.nD Cert.GWPwIdeal.τ).loc Cert.GWPwIdeal.main_arg0)
      ∧ m' ((c.tc : Thread Cert.GWPwReferenceIdeal.nD Cert.GWPwReferenceIdeal.τ).loc Cert.GWPwReferenceIdeal.main_arg1) = m ((c.tc : Thread Cert.GWPwIdeal.nD Cert.GWPwIdeal.τ).loc Cert.GWPwIdeal.main_arg1)) →
    ∃ (v0 : (c : Dev Cert.GWPwIdeal.nD) → Buf (Elt Ideal) ((c.tc : Thread Cert.GWPwIdeal.nD Cert.GWPwIdeal.τ).loc Cert.GWPwIdeal.main_v2)),
      θ_run (Cert.GWPwIdeal.defs (F := Ideal)) (onTc (τ := Cert.GWPwIdeal.τ) (Cert.GWPwIdeal.main (F := Ideal))) ⟨m, fun _ => 0, g⟩ (fun r => ∀ c : Dev Cert.GWPwIdeal.nD,
          r.2.mem ((c.tc : Thread Cert.GWPwIdeal.nD Cert.GWPwIdeal.τ).loc Cert.GWPwIdeal.main_v2) = v0 c
          ∧ r.2.mem ((c.tc : Thread Cert.GWPwIdeal.nD Cert.GWPwIdeal.τ).loc Cert.GWPwIdeal.main_arg0) = m ((c.tc : Thread Cert.GWPwIdeal.nD Cert.GWPwIdeal.τ).loc Cert.GWPwIdeal.main_arg0)
          ∧ r.2.mem ((c.tc : Thread Cert.GWPwIdeal.nD Cert.GWPwIdeal.τ).loc Cert.GWPwIdeal.main_arg1) = m ((c.tc : Thread Cert.GWPwIdeal.nD Cert.GWPwIdeal.τ).loc Cert.GWPwIdeal.main_arg1))
      ∧ θ_run (Cert.GWPwReferenceIdeal.defs (F := Ideal)) (onTc (τ := Cert.GWPwReferenceIdeal.τ) (Cert.GWPwReferenceIdeal.main (F := Ideal))) ⟨m', fun _ => 0, g'⟩ (fun r => ∀ c : Dev Cert.GWPwReferenceIdeal.nD,
          r.2.mem ((c.tc : Thread Cert.GWPwReferenceIdeal.nD Cert.GWPwReferenceIdeal.τ).loc Cert.GWPwReferenceIdeal.main_v3) = v0 c
          ∧ r.2.mem ((c.tc : Thread Cert.GWPwReferenceIdeal.nD Cert.GWPwReferenceIdeal.τ).loc Cert.GWPwReferenceIdeal.main_arg0) = m' ((c.tc : Thread Cert.GWPwReferenceIdeal.nD Cert.GWPwReferenceIdeal.τ).loc Cert.GWPwReferenceIdeal.main_arg0)
          ∧ r.2.mem ((c.tc : Thread Cert.GWPwReferenceIdeal.nD Cert.GWPwReferenceIdeal.τ).loc Cert.GWPwReferenceIdeal.main_arg1) = m' ((c.tc : Thread Cert.GWPwReferenceIdeal.nD Cert.GWPwReferenceIdeal.τ).loc Cert.GWPwReferenceIdeal.main_arg1))

def preserves_DU3_DU3Ideal : Prop :=
  True

def algebraic_DU3Ideal_DU3ReferenceIdeal [hDU3Ideal : Cert.DU3Ideal.Facts] [hDU3ReferenceIdeal : Cert.DU3ReferenceIdeal.Facts] : Prop :=
  ∀ (m : (ℓ : Loc Cert.DU3Ideal.nD Cert.DU3Ideal.τ Cert.DU3Ideal.sig) → Buf (Elt Ideal) ℓ) (g : Dev Cert.DU3Ideal.nD → PrngReg)
    (m' : (ℓ : Loc Cert.DU3ReferenceIdeal.nD Cert.DU3ReferenceIdeal.τ Cert.DU3ReferenceIdeal.sig) → Buf (Elt Ideal) ℓ) (g' : Dev Cert.DU3ReferenceIdeal.nD → PrngReg), Pre_DU3Ideal m →
    (∀ c : Dev Cert.DU3Ideal.nD,
      m' ((c.tc : Thread Cert.DU3ReferenceIdeal.nD Cert.DU3ReferenceIdeal.τ).loc Cert.DU3ReferenceIdeal.main_arg0) = m ((c.tc : Thread Cert.DU3Ideal.nD Cert.DU3Ideal.τ).loc Cert.DU3Ideal.main_arg0)
      ∧ m' ((c.tc : Thread Cert.DU3ReferenceIdeal.nD Cert.DU3ReferenceIdeal.τ).loc Cert.DU3ReferenceIdeal.main_arg1) = m ((c.tc : Thread Cert.DU3Ideal.nD Cert.DU3Ideal.τ).loc Cert.DU3Ideal.main_arg1)) →
    ∃ (v0 : (c : Dev Cert.DU3Ideal.nD) → Buf (Elt Ideal) ((c.tc : Thread Cert.DU3Ideal.nD Cert.DU3Ideal.τ).loc Cert.DU3Ideal.main_v2)),
      θ_run (Cert.DU3Ideal.defs (F := Ideal)) (onTc (τ := Cert.DU3Ideal.τ) (Cert.DU3Ideal.main (F := Ideal))) ⟨m, fun _ => 0, g⟩ (fun r => ∀ c : Dev Cert.DU3Ideal.nD,
          r.2.mem ((c.tc : Thread Cert.DU3Ideal.nD Cert.DU3Ideal.τ).loc Cert.DU3Ideal.main_v2) = v0 c
          ∧ r.2.mem ((c.tc : Thread Cert.DU3Ideal.nD Cert.DU3Ideal.τ).loc Cert.DU3Ideal.main_arg0) = m ((c.tc : Thread Cert.DU3Ideal.nD Cert.DU3Ideal.τ).loc Cert.DU3Ideal.main_arg0)
          ∧ r.2.mem ((c.tc : Thread Cert.DU3Ideal.nD Cert.DU3Ideal.τ).loc Cert.DU3Ideal.main_arg1) = m ((c.tc : Thread Cert.DU3Ideal.nD Cert.DU3Ideal.τ).loc Cert.DU3Ideal.main_arg1))
      ∧ θ_run (Cert.DU3ReferenceIdeal.defs (F := Ideal)) (onTc (τ := Cert.DU3ReferenceIdeal.τ) (Cert.DU3ReferenceIdeal.main (F := Ideal))) ⟨m', fun _ => 0, g'⟩ (fun r => ∀ c : Dev Cert.DU3ReferenceIdeal.nD,
          r.2.mem ((c.tc : Thread Cert.DU3ReferenceIdeal.nD Cert.DU3ReferenceIdeal.τ).loc Cert.DU3ReferenceIdeal.main_v2) = v0 c
          ∧ r.2.mem ((c.tc : Thread Cert.DU3ReferenceIdeal.nD Cert.DU3ReferenceIdeal.τ).loc Cert.DU3ReferenceIdeal.main_arg0) = m' ((c.tc : Thread Cert.DU3ReferenceIdeal.nD Cert.DU3ReferenceIdeal.τ).loc Cert.DU3ReferenceIdeal.main_arg0)
          ∧ r.2.mem ((c.tc : Thread Cert.DU3ReferenceIdeal.nD Cert.DU3ReferenceIdeal.τ).loc Cert.DU3ReferenceIdeal.main_arg1) = m' ((c.tc : Thread Cert.DU3ReferenceIdeal.nD Cert.DU3ReferenceIdeal.τ).loc Cert.DU3ReferenceIdeal.main_arg1))

def preserves_GateBwd_GateBwdIdeal : Prop :=
  True

def algebraic_GateBwdIdeal_GateBwdReferenceIdeal_pre_gates_finite [hGateBwdIdeal : Cert.GateBwdIdeal.Facts] [hGateBwdReferenceIdeal : Cert.GateBwdReferenceIdeal.Facts] [hPre_gates_finite : Cert.Pre_gates_finite.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdReferenceIdeal.nD Cert.GateBwdReferenceIdeal.τ Cert.GateBwdReferenceIdeal.sig) → Buf (Elt Ideal) ℓ) (g' : Dev Cert.GateBwdReferenceIdeal.nD → PrngReg), Pre_GateBwdIdeal_gates_finite m →
    (∀ c : Dev Cert.GateBwdIdeal.nD,
      m' ((c.tc : Thread Cert.GateBwdReferenceIdeal.nD Cert.GateBwdReferenceIdeal.τ).loc Cert.GateBwdReferenceIdeal.main_arg0) = m ((c.tc : Thread Cert.GateBwdIdeal.nD Cert.GateBwdIdeal.τ).loc Cert.GateBwdIdeal.main_arg0)
      ∧ m' ((c.tc : Thread Cert.GateBwdReferenceIdeal.nD Cert.GateBwdReferenceIdeal.τ).loc Cert.GateBwdReferenceIdeal.main_arg1) = m ((c.tc : Thread Cert.GateBwdIdeal.nD Cert.GateBwdIdeal.τ).loc Cert.GateBwdIdeal.main_arg1)
      ∧ m' ((c.tc : Thread Cert.GateBwdReferenceIdeal.nD Cert.GateBwdReferenceIdeal.τ).loc Cert.GateBwdReferenceIdeal.main_arg2) = m ((c.tc : Thread Cert.GateBwdIdeal.nD Cert.GateBwdIdeal.τ).loc Cert.GateBwdIdeal.main_arg2)
      ∧ m' ((c.tc : Thread Cert.GateBwdReferenceIdeal.nD Cert.GateBwdReferenceIdeal.τ).loc Cert.GateBwdReferenceIdeal.main_arg3) = m ((c.tc : Thread Cert.GateBwdIdeal.nD Cert.GateBwdIdeal.τ).loc Cert.GateBwdIdeal.main_arg3)
      ∧ m' ((c.tc : Thread Cert.GateBwdReferenceIdeal.nD Cert.GateBwdReferenceIdeal.τ).loc Cert.GateBwdReferenceIdeal.main_arg4) = m ((c.tc : Thread Cert.GateBwdIdeal.nD Cert.GateBwdIdeal.τ).loc Cert.GateBwdIdeal.main_arg4)
      ∧ m' ((c.tc : Thread Cert.GateBwdReferenceIdeal.nD Cert.GateBwdReferenceIdeal.τ).loc Cert.GateBwdReferenceIdeal.main_arg5) = m ((c.tc : Thread Cert.GateBwdIdeal.nD Cert.GateBwdIdeal.τ).loc Cert.GateBwdIdeal.main_arg5)) →
    ∃ (v0 : (c : Dev Cert.GateBwdIdeal.nD) → Buf (Elt Ideal) ((c.tc : Thread Cert.GateBwdIdeal.nD Cert.GateBwdIdeal.τ).loc Cert.GateBwdIdeal.main_v11_0)) (v1 : (c : Dev Cert.GateBwdIdeal.nD) → Buf (Elt Ideal) ((c.tc : Thread Cert.GateBwdIdeal.nD Cert.GateBwdIdeal.τ).loc Cert.GateBwdIdeal.main_v11_1)) (v2 : (c : Dev Cert.GateBwdIdeal.nD) → Buf (Elt Ideal) ((c.tc : Thread Cert.GateBwdIdeal.nD Cert.GateBwdIdeal.τ).loc Cert.GateBwdIdeal.main_v11_2)) (v3 : (c : Dev Cert.GateBwdIdeal.nD) → Buf (Elt Ideal) ((c.tc : Thread Cert.GateBwdIdeal.nD Cert.GateBwdIdeal.τ).loc Cert.GateBwdIdeal.main_v11_3)) (v4 : (c : Dev Cert.GateBwdIdeal.nD) → Buf (Elt Ideal) ((c.tc : Thread Cert.GateBwdIdeal.nD Cert.GateBwdIdeal.τ).loc Cert.GateBwdIdeal.main_v12)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v11_0) = v0 c
          ∧ r.2.mem ((c.tc : Thread Cert.GateBwdIdeal.nD Cert.GateBwdIdeal.τ).loc Cert.GateBwdIdeal.main_v11_1) = v1 c
          ∧ r.2.mem ((c.tc : Thread Cert.GateBwdIdeal.nD Cert.GateBwdIdeal.τ).loc Cert.GateBwdIdeal.main_v11_2) = v2 c
          ∧ r.2.mem ((c.tc : Thread Cert.GateBwdIdeal.nD Cert.GateBwdIdeal.τ).loc Cert.GateBwdIdeal.main_v11_3) = v3 c
          ∧ r.2.mem ((c.tc : Thread Cert.GateBwdIdeal.nD Cert.GateBwdIdeal.τ).loc Cert.GateBwdIdeal.main_v12) = v4 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
          ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5))
      ∧ θ_run (Cert.GateBwdReferenceIdeal.defs (F := Ideal)) (onTc (τ := Cert.GateBwdReferenceIdeal.τ) (Cert.GateBwdReferenceIdeal.main (F := Ideal))) ⟨m', fun _ => 0, g'⟩ (fun r => ∀ c : Dev Cert.GateBwdReferenceIdeal.nD,
          r.2.mem ((c.tc : Thread Cert.GateBwdReferenceIdeal.nD Cert.GateBwdReferenceIdeal.τ).loc Cert.GateBwdReferenceIdeal.main_v32) = v0 c
          ∧ r.2.mem ((c.tc : Thread Cert.GateBwdReferenceIdeal.nD Cert.GateBwdReferenceIdeal.τ).loc Cert.GateBwdReferenceIdeal.main_v31) = v1 c
          ∧ r.2.mem ((c.tc : Thread Cert.GateBwdReferenceIdeal.nD Cert.GateBwdReferenceIdeal.τ).loc Cert.GateBwdReferenceIdeal.main_v33) = v2 c
          ∧ r.2.mem ((c.tc : Thread Cert.GateBwdReferenceIdeal.nD Cert.GateBwdReferenceIdeal.τ).loc Cert.GateBwdReferenceIdeal.main_v34) = v3 c
          ∧ r.2.mem ((c.tc : Thread Cert.GateBwdReferenceIdeal.nD Cert.GateBwdReferenceIdeal.τ).loc Cert.GateBwdReferenceIdeal.main_v36) = v4 c
          ∧ r.2.mem ((c.tc : Thread Cert.GateBwdReferenceIdeal.nD Cert.GateBwdReferenceIdeal.τ).loc Cert.GateBwdReferenceIdeal.main_arg0) = m' ((c.tc : Thread Cert.GateBwdReferenceIdeal.nD Cert.GateBwdReferenceIdeal.τ).loc Cert.GateBwdReferenceIdeal.main_arg0)
          ∧ r.2.mem ((c.tc : Thread Cert.GateBwdReferenceIdeal.nD Cert.GateBwdReferenceIdeal.τ).loc Cert.GateBwdReferenceIdeal.main_arg1) = m' ((c.tc : Thread Cert.GateBwdReferenceIdeal.nD Cert.GateBwdReferenceIdeal.τ).loc Cert.GateBwdReferenceIdeal.main_arg1)
          ∧ r.2.mem ((c.tc : Thread Cert.GateBwdReferenceIdeal.nD Cert.GateBwdReferenceIdeal.τ).loc Cert.GateBwdReferenceIdeal.main_arg2) = m' ((c.tc : Thread Cert.GateBwdReferenceIdeal.nD Cert.GateBwdReferenceIdeal.τ).loc Cert.GateBwdReferenceIdeal.main_arg2)
          ∧ r.2.mem ((c.tc : Thread Cert.GateBwdReferenceIdeal.nD Cert.GateBwdReferenceIdeal.τ).loc Cert.GateBwdReferenceIdeal.main_arg3) = m' ((c.tc : Thread Cert.GateBwdReferenceIdeal.nD Cert.GateBwdReferenceIdeal.τ).loc Cert.GateBwdReferenceIdeal.main_arg3)
          ∧ r.2.mem ((c.tc : Thread Cert.GateBwdReferenceIdeal.nD Cert.GateBwdReferenceIdeal.τ).loc Cert.GateBwdReferenceIdeal.main_arg4) = m' ((c.tc : Thread Cert.GateBwdReferenceIdeal.nD Cert.GateBwdReferenceIdeal.τ).loc Cert.GateBwdReferenceIdeal.main_arg4)
          ∧ r.2.mem ((c.tc : Thread Cert.GateBwdReferenceIdeal.nD Cert.GateBwdReferenceIdeal.τ).loc Cert.GateBwdReferenceIdeal.main_arg5) = m' ((c.tc : Thread Cert.GateBwdReferenceIdeal.nD Cert.GateBwdReferenceIdeal.τ).loc Cert.GateBwdReferenceIdeal.main_arg5))

def preserves_FlashFwd_FlashFwdIdeal : Prop :=
  IdealRules.named_const.Statement Cert.FlashFwdIdeal.κ "mask" .f32 0xF149F2CA#32 ⊥
  ∧ IdealRules.named_const.Statement Cert.FlashFwdIdeal.κ "log2e" .f32 0x3FB8AA3B#32 (((Real.log 2)⁻¹ : ℝ) : EReal)

def algebraic_FlashFwdIdeal_FlashFwdReferenceIdeal_pre_scores_finite [hFlashFwdIdeal : Cert.FlashFwdIdeal.Facts] [hFlashFwdReferenceIdeal : Cert.FlashFwdReferenceIdeal.Facts] [hPre_scores_finite : Cert.Pre_scores_finite.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg)
    (m' : (ℓ : Loc Cert.FlashFwdReferenceIdeal.nD Cert.FlashFwdReferenceIdeal.τ Cert.FlashFwdReferenceIdeal.sig) → Buf (Elt Ideal) ℓ) (g' : Dev Cert.FlashFwdReferenceIdeal.nD → PrngReg), Pre_FlashFwdIdeal_scores_finite m →
    (∀ c : Dev Cert.FlashFwdIdeal.nD,
      m' ((c.tc : Thread Cert.FlashFwdReferenceIdeal.nD Cert.FlashFwdReferenceIdeal.τ).loc Cert.FlashFwdReferenceIdeal.main_arg0) = m ((c.tc : Thread Cert.FlashFwdIdeal.nD Cert.FlashFwdIdeal.τ).loc Cert.FlashFwdIdeal.main_arg0)
      ∧ m' ((c.tc : Thread Cert.FlashFwdReferenceIdeal.nD Cert.FlashFwdReferenceIdeal.τ).loc Cert.FlashFwdReferenceIdeal.main_arg1) = m ((c.tc : Thread Cert.FlashFwdIdeal.nD Cert.FlashFwdIdeal.τ).loc Cert.FlashFwdIdeal.main_arg1)
      ∧ m' ((c.tc : Thread Cert.FlashFwdReferenceIdeal.nD Cert.FlashFwdReferenceIdeal.τ).loc Cert.FlashFwdReferenceIdeal.main_arg2) = m ((c.tc : Thread Cert.FlashFwdIdeal.nD Cert.FlashFwdIdeal.τ).loc Cert.FlashFwdIdeal.main_arg2)) →
    ∃ (v0 : (c : Dev Cert.FlashFwdIdeal.nD) → Buf (Elt Ideal) ((c.tc : Thread Cert.FlashFwdIdeal.nD Cert.FlashFwdIdeal.τ).loc Cert.FlashFwdIdeal.main_v17_0)) (v1 : (c : Dev Cert.FlashFwdIdeal.nD) → Buf (Elt Ideal) ((c.tc : Thread Cert.FlashFwdIdeal.nD Cert.FlashFwdIdeal.τ).loc Cert.FlashFwdIdeal.main_v17_1)),
      θ_run (Cert.FlashFwdIdeal.defs (F := Ideal)) (onTc (τ := Cert.FlashFwdIdeal.τ) (Cert.FlashFwdIdeal.main (F := Ideal))) ⟨m, fun _ => 0, g⟩ (fun r => ∀ c : Dev Cert.FlashFwdIdeal.nD,
          r.2.mem ((c.tc : Thread Cert.FlashFwdIdeal.nD Cert.FlashFwdIdeal.τ).loc Cert.FlashFwdIdeal.main_v17_0) = v0 c
          ∧ r.2.mem ((c.tc : Thread Cert.FlashFwdIdeal.nD Cert.FlashFwdIdeal.τ).loc Cert.FlashFwdIdeal.main_v17_1) = v1 c
          ∧ r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
          ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
          ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ θ_run (Cert.FlashFwdReferenceIdeal.defs (F := Ideal)) (onTc (τ := Cert.FlashFwdReferenceIdeal.τ) (Cert.FlashFwdReferenceIdeal.main (F := Ideal))) ⟨m', fun _ => 0, g'⟩ (fun r => ∀ c : Dev Cert.FlashFwdReferenceIdeal.nD,
          r.2.mem ((c.tc : Thread Cert.FlashFwdReferenceIdeal.nD Cert.FlashFwdReferenceIdeal.τ).loc Cert.FlashFwdReferenceIdeal.main_v42) = v0 c
          ∧ r.2.mem ((c.tc : Thread Cert.FlashFwdReferenceIdeal.nD Cert.FlashFwdReferenceIdeal.τ).loc Cert.FlashFwdReferenceIdeal.main_v43) = v1 c
          ∧ r.2.mem ((c.tc : Thread Cert.FlashFwdReferenceIdeal.nD Cert.FlashFwdReferenceIdeal.τ).loc Cert.FlashFwdReferenceIdeal.main_arg0) = m' ((c.tc : Thread Cert.FlashFwdReferenceIdeal.nD Cert.FlashFwdReferenceIdeal.τ).loc Cert.FlashFwdReferenceIdeal.main_arg0)
          ∧ r.2.mem ((c.tc : Thread Cert.FlashFwdReferenceIdeal.nD Cert.FlashFwdReferenceIdeal.τ).loc Cert.FlashFwdReferenceIdeal.main_arg1) = m' ((c.tc : Thread Cert.FlashFwdReferenceIdeal.nD Cert.FlashFwdReferenceIdeal.τ).loc Cert.FlashFwdReferenceIdeal.main_arg1)
          ∧ r.2.mem ((c.tc : Thread Cert.FlashFwdReferenceIdeal.nD Cert.FlashFwdReferenceIdeal.τ).loc Cert.FlashFwdReferenceIdeal.main_arg2) = m' ((c.tc : Thread Cert.FlashFwdReferenceIdeal.nD Cert.FlashFwdReferenceIdeal.τ).loc Cert.FlashFwdReferenceIdeal.main_arg2))

def preserves_Prenorm_PrenormIdeal : Prop :=
  True

def algebraic_PrenormIdeal_PrenormReferenceIdeal [hPrenormIdeal : Cert.PrenormIdeal.Facts] [hPrenormReferenceIdeal : Cert.PrenormReferenceIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormReferenceIdeal.nD Cert.PrenormReferenceIdeal.τ Cert.PrenormReferenceIdeal.sig) → Buf (Elt Ideal) ℓ) (g' : Dev Cert.PrenormReferenceIdeal.nD → PrngReg), Pre_PrenormIdeal m →
    (∀ c : Dev Cert.PrenormIdeal.nD,
      m' ((c.tc : Thread Cert.PrenormReferenceIdeal.nD Cert.PrenormReferenceIdeal.τ).loc Cert.PrenormReferenceIdeal.main_arg0) = m ((c.tc : Thread Cert.PrenormIdeal.nD Cert.PrenormIdeal.τ).loc Cert.PrenormIdeal.main_arg0)
      ∧ m' ((c.tc : Thread Cert.PrenormReferenceIdeal.nD Cert.PrenormReferenceIdeal.τ).loc Cert.PrenormReferenceIdeal.main_arg1) = m ((c.tc : Thread Cert.PrenormIdeal.nD Cert.PrenormIdeal.τ).loc Cert.PrenormIdeal.main_arg1)
      ∧ m' ((c.tc : Thread Cert.PrenormReferenceIdeal.nD Cert.PrenormReferenceIdeal.τ).loc Cert.PrenormReferenceIdeal.main_arg2) = m ((c.tc : Thread Cert.PrenormIdeal.nD Cert.PrenormIdeal.τ).loc Cert.PrenormIdeal.main_arg2)
      ∧ m' ((c.tc : Thread Cert.PrenormReferenceIdeal.nD Cert.PrenormReferenceIdeal.τ).loc Cert.PrenormReferenceIdeal.main_arg3) = m ((c.tc : Thread Cert.PrenormIdeal.nD Cert.PrenormIdeal.τ).loc Cert.PrenormIdeal.main_arg3)) →
    ∃ (v0 : (c : Dev Cert.PrenormIdeal.nD) → Buf (Elt Ideal) ((c.tc : Thread Cert.PrenormIdeal.nD Cert.PrenormIdeal.τ).loc Cert.PrenormIdeal.main_v3)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v3) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
          ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3))
      ∧ θ_run (Cert.PrenormReferenceIdeal.defs (F := Ideal)) (onTc (τ := Cert.PrenormReferenceIdeal.τ) (Cert.PrenormReferenceIdeal.main (F := Ideal))) ⟨m', fun _ => 0, g'⟩ (fun r => ∀ c : Dev Cert.PrenormReferenceIdeal.nD,
          r.2.mem ((c.tc : Thread Cert.PrenormReferenceIdeal.nD Cert.PrenormReferenceIdeal.τ).loc Cert.PrenormReferenceIdeal.main_v19) = v0 c
          ∧ r.2.mem ((c.tc : Thread Cert.PrenormReferenceIdeal.nD Cert.PrenormReferenceIdeal.τ).loc Cert.PrenormReferenceIdeal.main_arg0) = m' ((c.tc : Thread Cert.PrenormReferenceIdeal.nD Cert.PrenormReferenceIdeal.τ).loc Cert.PrenormReferenceIdeal.main_arg0)
          ∧ r.2.mem ((c.tc : Thread Cert.PrenormReferenceIdeal.nD Cert.PrenormReferenceIdeal.τ).loc Cert.PrenormReferenceIdeal.main_arg1) = m' ((c.tc : Thread Cert.PrenormReferenceIdeal.nD Cert.PrenormReferenceIdeal.τ).loc Cert.PrenormReferenceIdeal.main_arg1)
          ∧ r.2.mem ((c.tc : Thread Cert.PrenormReferenceIdeal.nD Cert.PrenormReferenceIdeal.τ).loc Cert.PrenormReferenceIdeal.main_arg2) = m' ((c.tc : Thread Cert.PrenormReferenceIdeal.nD Cert.PrenormReferenceIdeal.τ).loc Cert.PrenormReferenceIdeal.main_arg2)
          ∧ r.2.mem ((c.tc : Thread Cert.PrenormReferenceIdeal.nD Cert.PrenormReferenceIdeal.τ).loc Cert.PrenormReferenceIdeal.main_arg3) = m' ((c.tc : Thread Cert.PrenormReferenceIdeal.nD Cert.PrenormReferenceIdeal.τ).loc Cert.PrenormReferenceIdeal.main_arg3))

def preserves_GateCat_GateCatIdeal : Prop :=
  True

def algebraic_GateCatIdeal_GateCatReferenceIdeal [hGateCatIdeal : Cert.GateCatIdeal.Facts] [hGateCatReferenceIdeal : Cert.GateCatReferenceIdeal.Facts] : Prop :=
  ∀ (m : (ℓ : Loc Cert.GateCatIdeal.nD Cert.GateCatIdeal.τ Cert.GateCatIdeal.sig) → Buf (Elt Ideal) ℓ) (g : Dev Cert.GateCatIdeal.nD → PrngReg)
    (m' : (ℓ : Loc Cert.GateCatReferenceIdeal.nD Cert.GateCatReferenceIdeal.τ Cert.GateCatReferenceIdeal.sig) → Buf (Elt Ideal) ℓ) (g' : Dev Cert.GateCatReferenceIdeal.nD → PrngReg), Pre_GateCatIdeal m →
    (∀ c : Dev Cert.GateCatIdeal.nD,
      m' ((c.tc : Thread Cert.GateCatReferenceIdeal.nD Cert.GateCatReferenceIdeal.τ).loc Cert.GateCatReferenceIdeal.main_arg0) = m ((c.tc : Thread Cert.GateCatIdeal.nD Cert.GateCatIdeal.τ).loc Cert.GateCatIdeal.main_arg0)
      ∧ m' ((c.tc : Thread Cert.GateCatReferenceIdeal.nD Cert.GateCatReferenceIdeal.τ).loc Cert.GateCatReferenceIdeal.main_arg1) = m ((c.tc : Thread Cert.GateCatIdeal.nD Cert.GateCatIdeal.τ).loc Cert.GateCatIdeal.main_arg1)
      ∧ m' ((c.tc : Thread Cert.GateCatReferenceIdeal.nD Cert.GateCatReferenceIdeal.τ).loc Cert.GateCatReferenceIdeal.main_arg2) = m ((c.tc : Thread Cert.GateCatIdeal.nD Cert.GateCatIdeal.τ).loc Cert.GateCatIdeal.main_arg2)
      ∧ m' ((c.tc : Thread Cert.GateCatReferenceIdeal.nD Cert.GateCatReferenceIdeal.τ).loc Cert.GateCatReferenceIdeal.main_arg3) = m ((c.tc : Thread Cert.GateCatIdeal.nD Cert.GateCatIdeal.τ).loc Cert.GateCatIdeal.main_arg3)) →
    ∃ (v0 : (c : Dev Cert.GateCatIdeal.nD) → Buf (Elt Ideal) ((c.tc : Thread Cert.GateCatIdeal.nD Cert.GateCatIdeal.τ).loc Cert.GateCatIdeal.main_v9)),
      θ_run (Cert.GateCatIdeal.defs (F := Ideal)) (onTc (τ := Cert.GateCatIdeal.τ) (Cert.GateCatIdeal.main (F := Ideal))) ⟨m, fun _ => 0, g⟩ (fun r => ∀ c : Dev Cert.GateCatIdeal.nD,
          r.2.mem ((c.tc : Thread Cert.GateCatIdeal.nD Cert.GateCatIdeal.τ).loc Cert.GateCatIdeal.main_v9) = v0 c
          ∧ r.2.mem ((c.tc : Thread Cert.GateCatIdeal.nD Cert.GateCatIdeal.τ).loc Cert.GateCatIdeal.main_arg0) = m ((c.tc : Thread Cert.GateCatIdeal.nD Cert.GateCatIdeal.τ).loc Cert.GateCatIdeal.main_arg0)
          ∧ r.2.mem ((c.tc : Thread Cert.GateCatIdeal.nD Cert.GateCatIdeal.τ).loc Cert.GateCatIdeal.main_arg1) = m ((c.tc : Thread Cert.GateCatIdeal.nD Cert.GateCatIdeal.τ).loc Cert.GateCatIdeal.main_arg1)
          ∧ r.2.mem ((c.tc : Thread Cert.GateCatIdeal.nD Cert.GateCatIdeal.τ).loc Cert.GateCatIdeal.main_arg2) = m ((c.tc : Thread Cert.GateCatIdeal.nD Cert.GateCatIdeal.τ).loc Cert.GateCatIdeal.main_arg2)
          ∧ r.2.mem ((c.tc : Thread Cert.GateCatIdeal.nD Cert.GateCatIdeal.τ).loc Cert.GateCatIdeal.main_arg3) = m ((c.tc : Thread Cert.GateCatIdeal.nD Cert.GateCatIdeal.τ).loc Cert.GateCatIdeal.main_arg3))
      ∧ θ_run (Cert.GateCatReferenceIdeal.defs (F := Ideal)) (onTc (τ := Cert.GateCatReferenceIdeal.τ) (Cert.GateCatReferenceIdeal.main (F := Ideal))) ⟨m', fun _ => 0, g'⟩ (fun r => ∀ c : Dev Cert.GateCatReferenceIdeal.nD,
          r.2.mem ((c.tc : Thread Cert.GateCatReferenceIdeal.nD Cert.GateCatReferenceIdeal.τ).loc Cert.GateCatReferenceIdeal.main_v14) = v0 c
          ∧ r.2.mem ((c.tc : Thread Cert.GateCatReferenceIdeal.nD Cert.GateCatReferenceIdeal.τ).loc Cert.GateCatReferenceIdeal.main_arg0) = m' ((c.tc : Thread Cert.GateCatReferenceIdeal.nD Cert.GateCatReferenceIdeal.τ).loc Cert.GateCatReferenceIdeal.main_arg0)
          ∧ r.2.mem ((c.tc : Thread Cert.GateCatReferenceIdeal.nD Cert.GateCatReferenceIdeal.τ).loc Cert.GateCatReferenceIdeal.main_arg1) = m' ((c.tc : Thread Cert.GateCatReferenceIdeal.nD Cert.GateCatReferenceIdeal.τ).loc Cert.GateCatReferenceIdeal.main_arg1)
          ∧ r.2.mem ((c.tc : Thread Cert.GateCatReferenceIdeal.nD Cert.GateCatReferenceIdeal.τ).loc Cert.GateCatReferenceIdeal.main_arg2) = m' ((c.tc : Thread Cert.GateCatReferenceIdeal.nD Cert.GateCatReferenceIdeal.τ).loc Cert.GateCatReferenceIdeal.main_arg2)
          ∧ r.2.mem ((c.tc : Thread Cert.GateCatReferenceIdeal.nD Cert.GateCatReferenceIdeal.τ).loc Cert.GateCatReferenceIdeal.main_arg3) = m' ((c.tc : Thread Cert.GateCatReferenceIdeal.nD Cert.GateCatReferenceIdeal.τ).loc Cert.GateCatReferenceIdeal.main_arg3))

def preserves_AdamwAdaW_AdamwAdaWIdeal : Prop :=
  True

def algebraic_AdamwAdaWIdeal_AdamwAdaWReferenceIdeal [hAdamwAdaWIdeal : Cert.AdamwAdaWIdeal.Facts] [hAdamwAdaWReferenceIdeal : Cert.AdamwAdaWReferenceIdeal.Facts] : Prop :=
  ∀ (m : (ℓ : Loc Cert.AdamwAdaWIdeal.nD Cert.AdamwAdaWIdeal.τ Cert.AdamwAdaWIdeal.sig) → Buf (Elt Ideal) ℓ) (g : Dev Cert.AdamwAdaWIdeal.nD → PrngReg)
    (m' : (ℓ : Loc Cert.AdamwAdaWReferenceIdeal.nD Cert.AdamwAdaWReferenceIdeal.τ Cert.AdamwAdaWReferenceIdeal.sig) → Buf (Elt Ideal) ℓ) (g' : Dev Cert.AdamwAdaWReferenceIdeal.nD → PrngReg), Pre_AdamwAdaWIdeal m →
    (∀ c : Dev Cert.AdamwAdaWIdeal.nD,
      m' ((c.tc : Thread Cert.AdamwAdaWReferenceIdeal.nD Cert.AdamwAdaWReferenceIdeal.τ).loc Cert.AdamwAdaWReferenceIdeal.main_arg0) = m ((c.tc : Thread Cert.AdamwAdaWIdeal.nD Cert.AdamwAdaWIdeal.τ).loc Cert.AdamwAdaWIdeal.main_arg0)
      ∧ m' ((c.tc : Thread Cert.AdamwAdaWReferenceIdeal.nD Cert.AdamwAdaWReferenceIdeal.τ).loc Cert.AdamwAdaWReferenceIdeal.main_arg1) = m ((c.tc : Thread Cert.AdamwAdaWIdeal.nD Cert.AdamwAdaWIdeal.τ).loc Cert.AdamwAdaWIdeal.main_arg1)
      ∧ m' ((c.tc : Thread Cert.AdamwAdaWReferenceIdeal.nD Cert.AdamwAdaWReferenceIdeal.τ).loc Cert.AdamwAdaWReferenceIdeal.main_arg2) = m ((c.tc : Thread Cert.AdamwAdaWIdeal.nD Cert.AdamwAdaWIdeal.τ).loc Cert.AdamwAdaWIdeal.main_arg2)
      ∧ m' ((c.tc : Thread Cert.AdamwAdaWReferenceIdeal.nD Cert.AdamwAdaWReferenceIdeal.τ).loc Cert.AdamwAdaWReferenceIdeal.main_arg3) = m ((c.tc : Thread Cert.AdamwAdaWIdeal.nD Cert.AdamwAdaWIdeal.τ).loc Cert.AdamwAdaWIdeal.main_arg3)) →
    ∃ (v0 : (c : Dev Cert.AdamwAdaWIdeal.nD) → Buf (Elt Ideal) ((c.tc : Thread Cert.AdamwAdaWIdeal.nD Cert.AdamwAdaWIdeal.τ).loc Cert.AdamwAdaWIdeal.main_v5_0)) (v1 : (c : Dev Cert.AdamwAdaWIdeal.nD) → Buf (Elt Ideal) ((c.tc : Thread Cert.AdamwAdaWIdeal.nD Cert.AdamwAdaWIdeal.τ).loc Cert.AdamwAdaWIdeal.main_v5_1)) (v2 : (c : Dev Cert.AdamwAdaWIdeal.nD) → Buf (Elt Ideal) ((c.tc : Thread Cert.AdamwAdaWIdeal.nD Cert.AdamwAdaWIdeal.τ).loc Cert.AdamwAdaWIdeal.main_v5_2)) (v3 : (c : Dev Cert.AdamwAdaWIdeal.nD) → Buf (Elt Ideal) ((c.tc : Thread Cert.AdamwAdaWIdeal.nD Cert.AdamwAdaWIdeal.τ).loc Cert.AdamwAdaWIdeal.main_v5_3)),
      θ_run (Cert.AdamwAdaWIdeal.defs (F := Ideal)) (onTc (τ := Cert.AdamwAdaWIdeal.τ) (Cert.AdamwAdaWIdeal.main (F := Ideal))) ⟨m, fun _ => 0, g⟩ (fun r => ∀ c : Dev Cert.AdamwAdaWIdeal.nD,
          r.2.mem ((c.tc : Thread Cert.AdamwAdaWIdeal.nD Cert.AdamwAdaWIdeal.τ).loc Cert.AdamwAdaWIdeal.main_v5_0) = v0 c
          ∧ r.2.mem ((c.tc : Thread Cert.AdamwAdaWIdeal.nD Cert.AdamwAdaWIdeal.τ).loc Cert.AdamwAdaWIdeal.main_v5_1) = v1 c
          ∧ r.2.mem ((c.tc : Thread Cert.AdamwAdaWIdeal.nD Cert.AdamwAdaWIdeal.τ).loc Cert.AdamwAdaWIdeal.main_v5_2) = v2 c
          ∧ r.2.mem ((c.tc : Thread Cert.AdamwAdaWIdeal.nD Cert.AdamwAdaWIdeal.τ).loc Cert.AdamwAdaWIdeal.main_v5_3) = v3 c
          ∧ r.2.mem ((c.tc : Thread Cert.AdamwAdaWIdeal.nD Cert.AdamwAdaWIdeal.τ).loc Cert.AdamwAdaWIdeal.main_arg0) = m ((c.tc : Thread Cert.AdamwAdaWIdeal.nD Cert.AdamwAdaWIdeal.τ).loc Cert.AdamwAdaWIdeal.main_arg0)
          ∧ r.2.mem ((c.tc : Thread Cert.AdamwAdaWIdeal.nD Cert.AdamwAdaWIdeal.τ).loc Cert.AdamwAdaWIdeal.main_arg1) = m ((c.tc : Thread Cert.AdamwAdaWIdeal.nD Cert.AdamwAdaWIdeal.τ).loc Cert.AdamwAdaWIdeal.main_arg1)
          ∧ r.2.mem ((c.tc : Thread Cert.AdamwAdaWIdeal.nD Cert.AdamwAdaWIdeal.τ).loc Cert.AdamwAdaWIdeal.main_arg2) = m ((c.tc : Thread Cert.AdamwAdaWIdeal.nD Cert.AdamwAdaWIdeal.τ).loc Cert.AdamwAdaWIdeal.main_arg2)
          ∧ r.2.mem ((c.tc : Thread Cert.AdamwAdaWIdeal.nD Cert.AdamwAdaWIdeal.τ).loc Cert.AdamwAdaWIdeal.main_arg3) = m ((c.tc : Thread Cert.AdamwAdaWIdeal.nD Cert.AdamwAdaWIdeal.τ).loc Cert.AdamwAdaWIdeal.main_arg3))
      ∧ θ_run (Cert.AdamwAdaWReferenceIdeal.defs (F := Ideal)) (onTc (τ := Cert.AdamwAdaWReferenceIdeal.τ) (Cert.AdamwAdaWReferenceIdeal.main (F := Ideal))) ⟨m', fun _ => 0, g'⟩ (fun r => ∀ c : Dev Cert.AdamwAdaWReferenceIdeal.nD,
          r.2.mem ((c.tc : Thread Cert.AdamwAdaWReferenceIdeal.nD Cert.AdamwAdaWReferenceIdeal.τ).loc Cert.AdamwAdaWReferenceIdeal.main_v24) = v0 c
          ∧ r.2.mem ((c.tc : Thread Cert.AdamwAdaWReferenceIdeal.nD Cert.AdamwAdaWReferenceIdeal.τ).loc Cert.AdamwAdaWReferenceIdeal.main_v25) = v1 c
          ∧ r.2.mem ((c.tc : Thread Cert.AdamwAdaWReferenceIdeal.nD Cert.AdamwAdaWReferenceIdeal.τ).loc Cert.AdamwAdaWReferenceIdeal.main_v26) = v2 c
          ∧ r.2.mem ((c.tc : Thread Cert.AdamwAdaWReferenceIdeal.nD Cert.AdamwAdaWReferenceIdeal.τ).loc Cert.AdamwAdaWReferenceIdeal.main_v27) = v3 c
          ∧ r.2.mem ((c.tc : Thread Cert.AdamwAdaWReferenceIdeal.nD Cert.AdamwAdaWReferenceIdeal.τ).loc Cert.AdamwAdaWReferenceIdeal.main_arg0) = m' ((c.tc : Thread Cert.AdamwAdaWReferenceIdeal.nD Cert.AdamwAdaWReferenceIdeal.τ).loc Cert.AdamwAdaWReferenceIdeal.main_arg0)
          ∧ r.2.mem ((c.tc : Thread Cert.AdamwAdaWReferenceIdeal.nD Cert.AdamwAdaWReferenceIdeal.τ).loc Cert.AdamwAdaWReferenceIdeal.main_arg1) = m' ((c.tc : Thread Cert.AdamwAdaWReferenceIdeal.nD Cert.AdamwAdaWReferenceIdeal.τ).loc Cert.AdamwAdaWReferenceIdeal.main_arg1)
          ∧ r.2.mem ((c.tc : Thread Cert.AdamwAdaWReferenceIdeal.nD Cert.AdamwAdaWReferenceIdeal.τ).loc Cert.AdamwAdaWReferenceIdeal.main_arg2) = m' ((c.tc : Thread Cert.AdamwAdaWReferenceIdeal.nD Cert.AdamwAdaWReferenceIdeal.τ).loc Cert.AdamwAdaWReferenceIdeal.main_arg2)
          ∧ r.2.mem ((c.tc : Thread Cert.AdamwAdaWReferenceIdeal.nD Cert.AdamwAdaWReferenceIdeal.τ).loc Cert.AdamwAdaWReferenceIdeal.main_arg3) = m' ((c.tc : Thread Cert.AdamwAdaWReferenceIdeal.nD Cert.AdamwAdaWReferenceIdeal.τ).loc Cert.AdamwAdaWReferenceIdeal.main_arg3))

def preserves_AdamwWOut_AdamwWOutIdeal : Prop :=
  True

def algebraic_AdamwWOutIdeal_AdamwWOutReferenceIdeal [hAdamwWOutIdeal : Cert.AdamwWOutIdeal.Facts] [hAdamwWOutReferenceIdeal : Cert.AdamwWOutReferenceIdeal.Facts] : Prop :=
  ∀ (m : (ℓ : Loc Cert.AdamwWOutIdeal.nD Cert.AdamwWOutIdeal.τ Cert.AdamwWOutIdeal.sig) → Buf (Elt Ideal) ℓ) (g : Dev Cert.AdamwWOutIdeal.nD → PrngReg)
    (m' : (ℓ : Loc Cert.AdamwWOutReferenceIdeal.nD Cert.AdamwWOutReferenceIdeal.τ Cert.AdamwWOutReferenceIdeal.sig) → Buf (Elt Ideal) ℓ) (g' : Dev Cert.AdamwWOutReferenceIdeal.nD → PrngReg), Pre_AdamwWOutIdeal m →
    (∀ c : Dev Cert.AdamwWOutIdeal.nD,
      m' ((c.tc : Thread Cert.AdamwWOutReferenceIdeal.nD Cert.AdamwWOutReferenceIdeal.τ).loc Cert.AdamwWOutReferenceIdeal.main_arg0) = m ((c.tc : Thread Cert.AdamwWOutIdeal.nD Cert.AdamwWOutIdeal.τ).loc Cert.AdamwWOutIdeal.main_arg0)
      ∧ m' ((c.tc : Thread Cert.AdamwWOutReferenceIdeal.nD Cert.AdamwWOutReferenceIdeal.τ).loc Cert.AdamwWOutReferenceIdeal.main_arg1) = m ((c.tc : Thread Cert.AdamwWOutIdeal.nD Cert.AdamwWOutIdeal.τ).loc Cert.AdamwWOutIdeal.main_arg1)
      ∧ m' ((c.tc : Thread Cert.AdamwWOutReferenceIdeal.nD Cert.AdamwWOutReferenceIdeal.τ).loc Cert.AdamwWOutReferenceIdeal.main_arg2) = m ((c.tc : Thread Cert.AdamwWOutIdeal.nD Cert.AdamwWOutIdeal.τ).loc Cert.AdamwWOutIdeal.main_arg2)
      ∧ m' ((c.tc : Thread Cert.AdamwWOutReferenceIdeal.nD Cert.AdamwWOutReferenceIdeal.τ).loc Cert.AdamwWOutReferenceIdeal.main_arg3) = m ((c.tc : Thread Cert.AdamwWOutIdeal.nD Cert.AdamwWOutIdeal.τ).loc Cert.AdamwWOutIdeal.main_arg3)
      ∧ m' ((c.tc : Thread Cert.AdamwWOutReferenceIdeal.nD Cert.AdamwWOutReferenceIdeal.τ).loc Cert.AdamwWOutReferenceIdeal.main_arg4) = m ((c.tc : Thread Cert.AdamwWOutIdeal.nD Cert.AdamwWOutIdeal.τ).loc Cert.AdamwWOutIdeal.main_arg4)) →
    ∃ (v0 : (c : Dev Cert.AdamwWOutIdeal.nD) → Buf (Elt Ideal) ((c.tc : Thread Cert.AdamwWOutIdeal.nD Cert.AdamwWOutIdeal.τ).loc Cert.AdamwWOutIdeal.main_v2_0)) (v1 : (c : Dev Cert.AdamwWOutIdeal.nD) → Buf (Elt Ideal) ((c.tc : Thread Cert.AdamwWOutIdeal.nD Cert.AdamwWOutIdeal.τ).loc Cert.AdamwWOutIdeal.main_v2_1)) (v2 : (c : Dev Cert.AdamwWOutIdeal.nD) → Buf (Elt Ideal) ((c.tc : Thread Cert.AdamwWOutIdeal.nD Cert.AdamwWOutIdeal.τ).loc Cert.AdamwWOutIdeal.main_v2_2)) (v3 : (c : Dev Cert.AdamwWOutIdeal.nD) → Buf (Elt Ideal) ((c.tc : Thread Cert.AdamwWOutIdeal.nD Cert.AdamwWOutIdeal.τ).loc Cert.AdamwWOutIdeal.main_v2_3)),
      θ_run (Cert.AdamwWOutIdeal.defs (F := Ideal)) (onTc (τ := Cert.AdamwWOutIdeal.τ) (Cert.AdamwWOutIdeal.main (F := Ideal))) ⟨m, fun _ => 0, g⟩ (fun r => ∀ c : Dev Cert.AdamwWOutIdeal.nD,
          r.2.mem ((c.tc : Thread Cert.AdamwWOutIdeal.nD Cert.AdamwWOutIdeal.τ).loc Cert.AdamwWOutIdeal.main_v2_0) = v0 c
          ∧ r.2.mem ((c.tc : Thread Cert.AdamwWOutIdeal.nD Cert.AdamwWOutIdeal.τ).loc Cert.AdamwWOutIdeal.main_v2_1) = v1 c
          ∧ r.2.mem ((c.tc : Thread Cert.AdamwWOutIdeal.nD Cert.AdamwWOutIdeal.τ).loc Cert.AdamwWOutIdeal.main_v2_2) = v2 c
          ∧ r.2.mem ((c.tc : Thread Cert.AdamwWOutIdeal.nD Cert.AdamwWOutIdeal.τ).loc Cert.AdamwWOutIdeal.main_v2_3) = v3 c
          ∧ r.2.mem ((c.tc : Thread Cert.AdamwWOutIdeal.nD Cert.AdamwWOutIdeal.τ).loc Cert.AdamwWOutIdeal.main_arg0) = m ((c.tc : Thread Cert.AdamwWOutIdeal.nD Cert.AdamwWOutIdeal.τ).loc Cert.AdamwWOutIdeal.main_arg0)
          ∧ r.2.mem ((c.tc : Thread Cert.AdamwWOutIdeal.nD Cert.AdamwWOutIdeal.τ).loc Cert.AdamwWOutIdeal.main_arg1) = m ((c.tc : Thread Cert.AdamwWOutIdeal.nD Cert.AdamwWOutIdeal.τ).loc Cert.AdamwWOutIdeal.main_arg1)
          ∧ r.2.mem ((c.tc : Thread Cert.AdamwWOutIdeal.nD Cert.AdamwWOutIdeal.τ).loc Cert.AdamwWOutIdeal.main_arg2) = m ((c.tc : Thread Cert.AdamwWOutIdeal.nD Cert.AdamwWOutIdeal.τ).loc Cert.AdamwWOutIdeal.main_arg2)
          ∧ r.2.mem ((c.tc : Thread Cert.AdamwWOutIdeal.nD Cert.AdamwWOutIdeal.τ).loc Cert.AdamwWOutIdeal.main_arg3) = m ((c.tc : Thread Cert.AdamwWOutIdeal.nD Cert.AdamwWOutIdeal.τ).loc Cert.AdamwWOutIdeal.main_arg3)
          ∧ r.2.mem ((c.tc : Thread Cert.AdamwWOutIdeal.nD Cert.AdamwWOutIdeal.τ).loc Cert.AdamwWOutIdeal.main_arg4) = m ((c.tc : Thread Cert.AdamwWOutIdeal.nD Cert.AdamwWOutIdeal.τ).loc Cert.AdamwWOutIdeal.main_arg4))
      ∧ θ_run (Cert.AdamwWOutReferenceIdeal.defs (F := Ideal)) (onTc (τ := Cert.AdamwWOutReferenceIdeal.τ) (Cert.AdamwWOutReferenceIdeal.main (F := Ideal))) ⟨m', fun _ => 0, g'⟩ (fun r => ∀ c : Dev Cert.AdamwWOutReferenceIdeal.nD,
          r.2.mem ((c.tc : Thread Cert.AdamwWOutReferenceIdeal.nD Cert.AdamwWOutReferenceIdeal.τ).loc Cert.AdamwWOutReferenceIdeal.main_v4) = v0 c
          ∧ r.2.mem ((c.tc : Thread Cert.AdamwWOutReferenceIdeal.nD Cert.AdamwWOutReferenceIdeal.τ).loc Cert.AdamwWOutReferenceIdeal.main_v28) = v1 c
          ∧ r.2.mem ((c.tc : Thread Cert.AdamwWOutReferenceIdeal.nD Cert.AdamwWOutReferenceIdeal.τ).loc Cert.AdamwWOutReferenceIdeal.main_v9) = v2 c
          ∧ r.2.mem ((c.tc : Thread Cert.AdamwWOutReferenceIdeal.nD Cert.AdamwWOutReferenceIdeal.τ).loc Cert.AdamwWOutReferenceIdeal.main_v15) = v3 c
          ∧ r.2.mem ((c.tc : Thread Cert.AdamwWOutReferenceIdeal.nD Cert.AdamwWOutReferenceIdeal.τ).loc Cert.AdamwWOutReferenceIdeal.main_arg0) = m' ((c.tc : Thread Cert.AdamwWOutReferenceIdeal.nD Cert.AdamwWOutReferenceIdeal.τ).loc Cert.AdamwWOutReferenceIdeal.main_arg0)
          ∧ r.2.mem ((c.tc : Thread Cert.AdamwWOutReferenceIdeal.nD Cert.AdamwWOutReferenceIdeal.τ).loc Cert.AdamwWOutReferenceIdeal.main_arg1) = m' ((c.tc : Thread Cert.AdamwWOutReferenceIdeal.nD Cert.AdamwWOutReferenceIdeal.τ).loc Cert.AdamwWOutReferenceIdeal.main_arg1)
          ∧ r.2.mem ((c.tc : Thread Cert.AdamwWOutReferenceIdeal.nD Cert.AdamwWOutReferenceIdeal.τ).loc Cert.AdamwWOutReferenceIdeal.main_arg2) = m' ((c.tc : Thread Cert.AdamwWOutReferenceIdeal.nD Cert.AdamwWOutReferenceIdeal.τ).loc Cert.AdamwWOutReferenceIdeal.main_arg2)
          ∧ r.2.mem ((c.tc : Thread Cert.AdamwWOutReferenceIdeal.nD Cert.AdamwWOutReferenceIdeal.τ).loc Cert.AdamwWOutReferenceIdeal.main_arg3) = m' ((c.tc : Thread Cert.AdamwWOutReferenceIdeal.nD Cert.AdamwWOutReferenceIdeal.τ).loc Cert.AdamwWOutReferenceIdeal.main_arg3)
          ∧ r.2.mem ((c.tc : Thread Cert.AdamwWOutReferenceIdeal.nD Cert.AdamwWOutReferenceIdeal.τ).loc Cert.AdamwWOutReferenceIdeal.main_arg4) = m' ((c.tc : Thread Cert.AdamwWOutReferenceIdeal.nD Cert.AdamwWOutReferenceIdeal.τ).loc Cert.AdamwWOutReferenceIdeal.main_arg4))

def preserves_AdamwWQUp_AdamwWQUpIdeal : Prop :=
  True

def algebraic_AdamwWQUpIdeal_AdamwWQUpReferenceIdeal [hAdamwWQUpIdeal : Cert.AdamwWQUpIdeal.Facts] [hAdamwWQUpReferenceIdeal : Cert.AdamwWQUpReferenceIdeal.Facts] : Prop :=
  ∀ (m : (ℓ : Loc Cert.AdamwWQUpIdeal.nD Cert.AdamwWQUpIdeal.τ Cert.AdamwWQUpIdeal.sig) → Buf (Elt Ideal) ℓ) (g : Dev Cert.AdamwWQUpIdeal.nD → PrngReg)
    (m' : (ℓ : Loc Cert.AdamwWQUpReferenceIdeal.nD Cert.AdamwWQUpReferenceIdeal.τ Cert.AdamwWQUpReferenceIdeal.sig) → Buf (Elt Ideal) ℓ) (g' : Dev Cert.AdamwWQUpReferenceIdeal.nD → PrngReg), Pre_AdamwWQUpIdeal m →
    (∀ c : Dev Cert.AdamwWQUpIdeal.nD,
      m' ((c.tc : Thread Cert.AdamwWQUpReferenceIdeal.nD Cert.AdamwWQUpReferenceIdeal.τ).loc Cert.AdamwWQUpReferenceIdeal.main_arg0) = m ((c.tc : Thread Cert.AdamwWQUpIdeal.nD Cert.AdamwWQUpIdeal.τ).loc Cert.AdamwWQUpIdeal.main_arg0)
      ∧ m' ((c.tc : Thread Cert.AdamwWQUpReferenceIdeal.nD Cert.AdamwWQUpReferenceIdeal.τ).loc Cert.AdamwWQUpReferenceIdeal.main_arg1) = m ((c.tc : Thread Cert.AdamwWQUpIdeal.nD Cert.AdamwWQUpIdeal.τ).loc Cert.AdamwWQUpIdeal.main_arg1)
      ∧ m' ((c.tc : Thread Cert.AdamwWQUpReferenceIdeal.nD Cert.AdamwWQUpReferenceIdeal.τ).loc Cert.AdamwWQUpReferenceIdeal.main_arg2) = m ((c.tc : Thread Cert.AdamwWQUpIdeal.nD Cert.AdamwWQUpIdeal.τ).loc Cert.AdamwWQUpIdeal.main_arg2)
      ∧ m' ((c.tc : Thread Cert.AdamwWQUpReferenceIdeal.nD Cert.AdamwWQUpReferenceIdeal.τ).loc Cert.AdamwWQUpReferenceIdeal.main_arg3) = m ((c.tc : Thread Cert.AdamwWQUpIdeal.nD Cert.AdamwWQUpIdeal.τ).loc Cert.AdamwWQUpIdeal.main_arg3)
      ∧ m' ((c.tc : Thread Cert.AdamwWQUpReferenceIdeal.nD Cert.AdamwWQUpReferenceIdeal.τ).loc Cert.AdamwWQUpReferenceIdeal.main_arg4) = m ((c.tc : Thread Cert.AdamwWQUpIdeal.nD Cert.AdamwWQUpIdeal.τ).loc Cert.AdamwWQUpIdeal.main_arg4)) →
    ∃ (v0 : (c : Dev Cert.AdamwWQUpIdeal.nD) → Buf (Elt Ideal) ((c.tc : Thread Cert.AdamwWQUpIdeal.nD Cert.AdamwWQUpIdeal.τ).loc Cert.AdamwWQUpIdeal.main_v2_0)) (v1 : (c : Dev Cert.AdamwWQUpIdeal.nD) → Buf (Elt Ideal) ((c.tc : Thread Cert.AdamwWQUpIdeal.nD Cert.AdamwWQUpIdeal.τ).loc Cert.AdamwWQUpIdeal.main_v2_1)) (v2 : (c : Dev Cert.AdamwWQUpIdeal.nD) → Buf (Elt Ideal) ((c.tc : Thread Cert.AdamwWQUpIdeal.nD Cert.AdamwWQUpIdeal.τ).loc Cert.AdamwWQUpIdeal.main_v2_2)) (v3 : (c : Dev Cert.AdamwWQUpIdeal.nD) → Buf (Elt Ideal) ((c.tc : Thread Cert.AdamwWQUpIdeal.nD Cert.AdamwWQUpIdeal.τ).loc Cert.AdamwWQUpIdeal.main_v2_3)),
      θ_run (Cert.AdamwWQUpIdeal.defs (F := Ideal)) (onTc (τ := Cert.AdamwWQUpIdeal.τ) (Cert.AdamwWQUpIdeal.main (F := Ideal))) ⟨m, fun _ => 0, g⟩ (fun r => ∀ c : Dev Cert.AdamwWQUpIdeal.nD,
          r.2.mem ((c.tc : Thread Cert.AdamwWQUpIdeal.nD Cert.AdamwWQUpIdeal.τ).loc Cert.AdamwWQUpIdeal.main_v2_0) = v0 c
          ∧ r.2.mem ((c.tc : Thread Cert.AdamwWQUpIdeal.nD Cert.AdamwWQUpIdeal.τ).loc Cert.AdamwWQUpIdeal.main_v2_1) = v1 c
          ∧ r.2.mem ((c.tc : Thread Cert.AdamwWQUpIdeal.nD Cert.AdamwWQUpIdeal.τ).loc Cert.AdamwWQUpIdeal.main_v2_2) = v2 c
          ∧ r.2.mem ((c.tc : Thread Cert.AdamwWQUpIdeal.nD Cert.AdamwWQUpIdeal.τ).loc Cert.AdamwWQUpIdeal.main_v2_3) = v3 c
          ∧ r.2.mem ((c.tc : Thread Cert.AdamwWQUpIdeal.nD Cert.AdamwWQUpIdeal.τ).loc Cert.AdamwWQUpIdeal.main_arg0) = m ((c.tc : Thread Cert.AdamwWQUpIdeal.nD Cert.AdamwWQUpIdeal.τ).loc Cert.AdamwWQUpIdeal.main_arg0)
          ∧ r.2.mem ((c.tc : Thread Cert.AdamwWQUpIdeal.nD Cert.AdamwWQUpIdeal.τ).loc Cert.AdamwWQUpIdeal.main_arg1) = m ((c.tc : Thread Cert.AdamwWQUpIdeal.nD Cert.AdamwWQUpIdeal.τ).loc Cert.AdamwWQUpIdeal.main_arg1)
          ∧ r.2.mem ((c.tc : Thread Cert.AdamwWQUpIdeal.nD Cert.AdamwWQUpIdeal.τ).loc Cert.AdamwWQUpIdeal.main_arg2) = m ((c.tc : Thread Cert.AdamwWQUpIdeal.nD Cert.AdamwWQUpIdeal.τ).loc Cert.AdamwWQUpIdeal.main_arg2)
          ∧ r.2.mem ((c.tc : Thread Cert.AdamwWQUpIdeal.nD Cert.AdamwWQUpIdeal.τ).loc Cert.AdamwWQUpIdeal.main_arg3) = m ((c.tc : Thread Cert.AdamwWQUpIdeal.nD Cert.AdamwWQUpIdeal.τ).loc Cert.AdamwWQUpIdeal.main_arg3)
          ∧ r.2.mem ((c.tc : Thread Cert.AdamwWQUpIdeal.nD Cert.AdamwWQUpIdeal.τ).loc Cert.AdamwWQUpIdeal.main_arg4) = m ((c.tc : Thread Cert.AdamwWQUpIdeal.nD Cert.AdamwWQUpIdeal.τ).loc Cert.AdamwWQUpIdeal.main_arg4))
      ∧ θ_run (Cert.AdamwWQUpReferenceIdeal.defs (F := Ideal)) (onTc (τ := Cert.AdamwWQUpReferenceIdeal.τ) (Cert.AdamwWQUpReferenceIdeal.main (F := Ideal))) ⟨m', fun _ => 0, g'⟩ (fun r => ∀ c : Dev Cert.AdamwWQUpReferenceIdeal.nD,
          r.2.mem ((c.tc : Thread Cert.AdamwWQUpReferenceIdeal.nD Cert.AdamwWQUpReferenceIdeal.τ).loc Cert.AdamwWQUpReferenceIdeal.main_v4) = v0 c
          ∧ r.2.mem ((c.tc : Thread Cert.AdamwWQUpReferenceIdeal.nD Cert.AdamwWQUpReferenceIdeal.τ).loc Cert.AdamwWQUpReferenceIdeal.main_v28) = v1 c
          ∧ r.2.mem ((c.tc : Thread Cert.AdamwWQUpReferenceIdeal.nD Cert.AdamwWQUpReferenceIdeal.τ).loc Cert.AdamwWQUpReferenceIdeal.main_v9) = v2 c
          ∧ r.2.mem ((c.tc : Thread Cert.AdamwWQUpReferenceIdeal.nD Cert.AdamwWQUpReferenceIdeal.τ).loc Cert.AdamwWQUpReferenceIdeal.main_v15) = v3 c
          ∧ r.2.mem ((c.tc : Thread Cert.AdamwWQUpReferenceIdeal.nD Cert.AdamwWQUpReferenceIdeal.τ).loc Cert.AdamwWQUpReferenceIdeal.main_arg0) = m' ((c.tc : Thread Cert.AdamwWQUpReferenceIdeal.nD Cert.AdamwWQUpReferenceIdeal.τ).loc Cert.AdamwWQUpReferenceIdeal.main_arg0)
          ∧ r.2.mem ((c.tc : Thread Cert.AdamwWQUpReferenceIdeal.nD Cert.AdamwWQUpReferenceIdeal.τ).loc Cert.AdamwWQUpReferenceIdeal.main_arg1) = m' ((c.tc : Thread Cert.AdamwWQUpReferenceIdeal.nD Cert.AdamwWQUpReferenceIdeal.τ).loc Cert.AdamwWQUpReferenceIdeal.main_arg1)
          ∧ r.2.mem ((c.tc : Thread Cert.AdamwWQUpReferenceIdeal.nD Cert.AdamwWQUpReferenceIdeal.τ).loc Cert.AdamwWQUpReferenceIdeal.main_arg2) = m' ((c.tc : Thread Cert.AdamwWQUpReferenceIdeal.nD Cert.AdamwWQUpReferenceIdeal.τ).loc Cert.AdamwWQUpReferenceIdeal.main_arg2)
          ∧ r.2.mem ((c.tc : Thread Cert.AdamwWQUpReferenceIdeal.nD Cert.AdamwWQUpReferenceIdeal.τ).loc Cert.AdamwWQUpReferenceIdeal.main_arg3) = m' ((c.tc : Thread Cert.AdamwWQUpReferenceIdeal.nD Cert.AdamwWQUpReferenceIdeal.τ).loc Cert.AdamwWQUpReferenceIdeal.main_arg3)
          ∧ r.2.mem ((c.tc : Thread Cert.AdamwWQUpReferenceIdeal.nD Cert.AdamwWQUpReferenceIdeal.τ).loc Cert.AdamwWQUpReferenceIdeal.main_arg4) = m' ((c.tc : Thread Cert.AdamwWQUpReferenceIdeal.nD Cert.AdamwWQUpReferenceIdeal.τ).loc Cert.AdamwWQUpReferenceIdeal.main_arg4))

def preserves_AdamwWKvUp_AdamwWKvUpIdeal : Prop :=
  True

def algebraic_AdamwWKvUpIdeal_AdamwWKvUpReferenceIdeal [hAdamwWKvUpIdeal : Cert.AdamwWKvUpIdeal.Facts] [hAdamwWKvUpReferenceIdeal : Cert.AdamwWKvUpReferenceIdeal.Facts] : Prop :=
  ∀ (m : (ℓ : Loc Cert.AdamwWKvUpIdeal.nD Cert.AdamwWKvUpIdeal.τ Cert.AdamwWKvUpIdeal.sig) → Buf (Elt Ideal) ℓ) (g : Dev Cert.AdamwWKvUpIdeal.nD → PrngReg)
    (m' : (ℓ : Loc Cert.AdamwWKvUpReferenceIdeal.nD Cert.AdamwWKvUpReferenceIdeal.τ Cert.AdamwWKvUpReferenceIdeal.sig) → Buf (Elt Ideal) ℓ) (g' : Dev Cert.AdamwWKvUpReferenceIdeal.nD → PrngReg), Pre_AdamwWKvUpIdeal m →
    (∀ c : Dev Cert.AdamwWKvUpIdeal.nD,
      m' ((c.tc : Thread Cert.AdamwWKvUpReferenceIdeal.nD Cert.AdamwWKvUpReferenceIdeal.τ).loc Cert.AdamwWKvUpReferenceIdeal.main_arg0) = m ((c.tc : Thread Cert.AdamwWKvUpIdeal.nD Cert.AdamwWKvUpIdeal.τ).loc Cert.AdamwWKvUpIdeal.main_arg0)
      ∧ m' ((c.tc : Thread Cert.AdamwWKvUpReferenceIdeal.nD Cert.AdamwWKvUpReferenceIdeal.τ).loc Cert.AdamwWKvUpReferenceIdeal.main_arg1) = m ((c.tc : Thread Cert.AdamwWKvUpIdeal.nD Cert.AdamwWKvUpIdeal.τ).loc Cert.AdamwWKvUpIdeal.main_arg1)
      ∧ m' ((c.tc : Thread Cert.AdamwWKvUpReferenceIdeal.nD Cert.AdamwWKvUpReferenceIdeal.τ).loc Cert.AdamwWKvUpReferenceIdeal.main_arg2) = m ((c.tc : Thread Cert.AdamwWKvUpIdeal.nD Cert.AdamwWKvUpIdeal.τ).loc Cert.AdamwWKvUpIdeal.main_arg2)
      ∧ m' ((c.tc : Thread Cert.AdamwWKvUpReferenceIdeal.nD Cert.AdamwWKvUpReferenceIdeal.τ).loc Cert.AdamwWKvUpReferenceIdeal.main_arg3) = m ((c.tc : Thread Cert.AdamwWKvUpIdeal.nD Cert.AdamwWKvUpIdeal.τ).loc Cert.AdamwWKvUpIdeal.main_arg3)
      ∧ m' ((c.tc : Thread Cert.AdamwWKvUpReferenceIdeal.nD Cert.AdamwWKvUpReferenceIdeal.τ).loc Cert.AdamwWKvUpReferenceIdeal.main_arg4) = m ((c.tc : Thread Cert.AdamwWKvUpIdeal.nD Cert.AdamwWKvUpIdeal.τ).loc Cert.AdamwWKvUpIdeal.main_arg4)) →
    ∃ (v0 : (c : Dev Cert.AdamwWKvUpIdeal.nD) → Buf (Elt Ideal) ((c.tc : Thread Cert.AdamwWKvUpIdeal.nD Cert.AdamwWKvUpIdeal.τ).loc Cert.AdamwWKvUpIdeal.main_v2_0)) (v1 : (c : Dev Cert.AdamwWKvUpIdeal.nD) → Buf (Elt Ideal) ((c.tc : Thread Cert.AdamwWKvUpIdeal.nD Cert.AdamwWKvUpIdeal.τ).loc Cert.AdamwWKvUpIdeal.main_v2_1)) (v2 : (c : Dev Cert.AdamwWKvUpIdeal.nD) → Buf (Elt Ideal) ((c.tc : Thread Cert.AdamwWKvUpIdeal.nD Cert.AdamwWKvUpIdeal.τ).loc Cert.AdamwWKvUpIdeal.main_v2_2)) (v3 : (c : Dev Cert.AdamwWKvUpIdeal.nD) → Buf (Elt Ideal) ((c.tc : Thread Cert.AdamwWKvUpIdeal.nD Cert.AdamwWKvUpIdeal.τ).loc Cert.AdamwWKvUpIdeal.main_v2_3)),
      θ_run (Cert.AdamwWKvUpIdeal.defs (F := Ideal)) (onTc (τ := Cert.AdamwWKvUpIdeal.τ) (Cert.AdamwWKvUpIdeal.main (F := Ideal))) ⟨m, fun _ => 0, g⟩ (fun r => ∀ c : Dev Cert.AdamwWKvUpIdeal.nD,
          r.2.mem ((c.tc : Thread Cert.AdamwWKvUpIdeal.nD Cert.AdamwWKvUpIdeal.τ).loc Cert.AdamwWKvUpIdeal.main_v2_0) = v0 c
          ∧ r.2.mem ((c.tc : Thread Cert.AdamwWKvUpIdeal.nD Cert.AdamwWKvUpIdeal.τ).loc Cert.AdamwWKvUpIdeal.main_v2_1) = v1 c
          ∧ r.2.mem ((c.tc : Thread Cert.AdamwWKvUpIdeal.nD Cert.AdamwWKvUpIdeal.τ).loc Cert.AdamwWKvUpIdeal.main_v2_2) = v2 c
          ∧ r.2.mem ((c.tc : Thread Cert.AdamwWKvUpIdeal.nD Cert.AdamwWKvUpIdeal.τ).loc Cert.AdamwWKvUpIdeal.main_v2_3) = v3 c
          ∧ r.2.mem ((c.tc : Thread Cert.AdamwWKvUpIdeal.nD Cert.AdamwWKvUpIdeal.τ).loc Cert.AdamwWKvUpIdeal.main_arg0) = m ((c.tc : Thread Cert.AdamwWKvUpIdeal.nD Cert.AdamwWKvUpIdeal.τ).loc Cert.AdamwWKvUpIdeal.main_arg0)
          ∧ r.2.mem ((c.tc : Thread Cert.AdamwWKvUpIdeal.nD Cert.AdamwWKvUpIdeal.τ).loc Cert.AdamwWKvUpIdeal.main_arg1) = m ((c.tc : Thread Cert.AdamwWKvUpIdeal.nD Cert.AdamwWKvUpIdeal.τ).loc Cert.AdamwWKvUpIdeal.main_arg1)
          ∧ r.2.mem ((c.tc : Thread Cert.AdamwWKvUpIdeal.nD Cert.AdamwWKvUpIdeal.τ).loc Cert.AdamwWKvUpIdeal.main_arg2) = m ((c.tc : Thread Cert.AdamwWKvUpIdeal.nD Cert.AdamwWKvUpIdeal.τ).loc Cert.AdamwWKvUpIdeal.main_arg2)
          ∧ r.2.mem ((c.tc : Thread Cert.AdamwWKvUpIdeal.nD Cert.AdamwWKvUpIdeal.τ).loc Cert.AdamwWKvUpIdeal.main_arg3) = m ((c.tc : Thread Cert.AdamwWKvUpIdeal.nD Cert.AdamwWKvUpIdeal.τ).loc Cert.AdamwWKvUpIdeal.main_arg3)
          ∧ r.2.mem ((c.tc : Thread Cert.AdamwWKvUpIdeal.nD Cert.AdamwWKvUpIdeal.τ).loc Cert.AdamwWKvUpIdeal.main_arg4) = m ((c.tc : Thread Cert.AdamwWKvUpIdeal.nD Cert.AdamwWKvUpIdeal.τ).loc Cert.AdamwWKvUpIdeal.main_arg4))
      ∧ θ_run (Cert.AdamwWKvUpReferenceIdeal.defs (F := Ideal)) (onTc (τ := Cert.AdamwWKvUpReferenceIdeal.τ) (Cert.AdamwWKvUpReferenceIdeal.main (F := Ideal))) ⟨m', fun _ => 0, g'⟩ (fun r => ∀ c : Dev Cert.AdamwWKvUpReferenceIdeal.nD,
          r.2.mem ((c.tc : Thread Cert.AdamwWKvUpReferenceIdeal.nD Cert.AdamwWKvUpReferenceIdeal.τ).loc Cert.AdamwWKvUpReferenceIdeal.main_v4) = v0 c
          ∧ r.2.mem ((c.tc : Thread Cert.AdamwWKvUpReferenceIdeal.nD Cert.AdamwWKvUpReferenceIdeal.τ).loc Cert.AdamwWKvUpReferenceIdeal.main_v28) = v1 c
          ∧ r.2.mem ((c.tc : Thread Cert.AdamwWKvUpReferenceIdeal.nD Cert.AdamwWKvUpReferenceIdeal.τ).loc Cert.AdamwWKvUpReferenceIdeal.main_v9) = v2 c
          ∧ r.2.mem ((c.tc : Thread Cert.AdamwWKvUpReferenceIdeal.nD Cert.AdamwWKvUpReferenceIdeal.τ).loc Cert.AdamwWKvUpReferenceIdeal.main_v15) = v3 c
          ∧ r.2.mem ((c.tc : Thread Cert.AdamwWKvUpReferenceIdeal.nD Cert.AdamwWKvUpReferenceIdeal.τ).loc Cert.AdamwWKvUpReferenceIdeal.main_arg0) = m' ((c.tc : Thread Cert.AdamwWKvUpReferenceIdeal.nD Cert.AdamwWKvUpReferenceIdeal.τ).loc Cert.AdamwWKvUpReferenceIdeal.main_arg0)
          ∧ r.2.mem ((c.tc : Thread Cert.AdamwWKvUpReferenceIdeal.nD Cert.AdamwWKvUpReferenceIdeal.τ).loc Cert.AdamwWKvUpReferenceIdeal.main_arg1) = m' ((c.tc : Thread Cert.AdamwWKvUpReferenceIdeal.nD Cert.AdamwWKvUpReferenceIdeal.τ).loc Cert.AdamwWKvUpReferenceIdeal.main_arg1)
          ∧ r.2.mem ((c.tc : Thread Cert.AdamwWKvUpReferenceIdeal.nD Cert.AdamwWKvUpReferenceIdeal.τ).loc Cert.AdamwWKvUpReferenceIdeal.main_arg2) = m' ((c.tc : Thread Cert.AdamwWKvUpReferenceIdeal.nD Cert.AdamwWKvUpReferenceIdeal.τ).loc Cert.AdamwWKvUpReferenceIdeal.main_arg2)
          ∧ r.2.mem ((c.tc : Thread Cert.AdamwWKvUpReferenceIdeal.nD Cert.AdamwWKvUpReferenceIdeal.τ).loc Cert.AdamwWKvUpReferenceIdeal.main_arg3) = m' ((c.tc : Thread Cert.AdamwWKvUpReferenceIdeal.nD Cert.AdamwWKvUpReferenceIdeal.τ).loc Cert.AdamwWKvUpReferenceIdeal.main_arg3)
          ∧ r.2.mem ((c.tc : Thread Cert.AdamwWKvUpReferenceIdeal.nD Cert.AdamwWKvUpReferenceIdeal.τ).loc Cert.AdamwWKvUpReferenceIdeal.main_arg4) = m' ((c.tc : Thread Cert.AdamwWKvUpReferenceIdeal.nD Cert.AdamwWKvUpReferenceIdeal.τ).loc Cert.AdamwWKvUpReferenceIdeal.main_arg4))

def preserves_AdamwWPw_AdamwWPwIdeal : Prop :=
  True

def algebraic_AdamwWPwIdeal_AdamwWPwReferenceIdeal [hAdamwWPwIdeal : Cert.AdamwWPwIdeal.Facts] [hAdamwWPwReferenceIdeal : Cert.AdamwWPwReferenceIdeal.Facts] : Prop :=
  ∀ (m : (ℓ : Loc Cert.AdamwWPwIdeal.nD Cert.AdamwWPwIdeal.τ Cert.AdamwWPwIdeal.sig) → Buf (Elt Ideal) ℓ) (g : Dev Cert.AdamwWPwIdeal.nD → PrngReg)
    (m' : (ℓ : Loc Cert.AdamwWPwReferenceIdeal.nD Cert.AdamwWPwReferenceIdeal.τ Cert.AdamwWPwReferenceIdeal.sig) → Buf (Elt Ideal) ℓ) (g' : Dev Cert.AdamwWPwReferenceIdeal.nD → PrngReg), Pre_AdamwWPwIdeal m →
    (∀ c : Dev Cert.AdamwWPwIdeal.nD,
      m' ((c.tc : Thread Cert.AdamwWPwReferenceIdeal.nD Cert.AdamwWPwReferenceIdeal.τ).loc Cert.AdamwWPwReferenceIdeal.main_arg0) = m ((c.tc : Thread Cert.AdamwWPwIdeal.nD Cert.AdamwWPwIdeal.τ).loc Cert.AdamwWPwIdeal.main_arg0)
      ∧ m' ((c.tc : Thread Cert.AdamwWPwReferenceIdeal.nD Cert.AdamwWPwReferenceIdeal.τ).loc Cert.AdamwWPwReferenceIdeal.main_arg1) = m ((c.tc : Thread Cert.AdamwWPwIdeal.nD Cert.AdamwWPwIdeal.τ).loc Cert.AdamwWPwIdeal.main_arg1)
      ∧ m' ((c.tc : Thread Cert.AdamwWPwReferenceIdeal.nD Cert.AdamwWPwReferenceIdeal.τ).loc Cert.AdamwWPwReferenceIdeal.main_arg2) = m ((c.tc : Thread Cert.AdamwWPwIdeal.nD Cert.AdamwWPwIdeal.τ).loc Cert.AdamwWPwIdeal.main_arg2)
      ∧ m' ((c.tc : Thread Cert.AdamwWPwReferenceIdeal.nD Cert.AdamwWPwReferenceIdeal.τ).loc Cert.AdamwWPwReferenceIdeal.main_arg3) = m ((c.tc : Thread Cert.AdamwWPwIdeal.nD Cert.AdamwWPwIdeal.τ).loc Cert.AdamwWPwIdeal.main_arg3)
      ∧ m' ((c.tc : Thread Cert.AdamwWPwReferenceIdeal.nD Cert.AdamwWPwReferenceIdeal.τ).loc Cert.AdamwWPwReferenceIdeal.main_arg4) = m ((c.tc : Thread Cert.AdamwWPwIdeal.nD Cert.AdamwWPwIdeal.τ).loc Cert.AdamwWPwIdeal.main_arg4)) →
    ∃ (v0 : (c : Dev Cert.AdamwWPwIdeal.nD) → Buf (Elt Ideal) ((c.tc : Thread Cert.AdamwWPwIdeal.nD Cert.AdamwWPwIdeal.τ).loc Cert.AdamwWPwIdeal.main_v2_0)) (v1 : (c : Dev Cert.AdamwWPwIdeal.nD) → Buf (Elt Ideal) ((c.tc : Thread Cert.AdamwWPwIdeal.nD Cert.AdamwWPwIdeal.τ).loc Cert.AdamwWPwIdeal.main_v2_1)) (v2 : (c : Dev Cert.AdamwWPwIdeal.nD) → Buf (Elt Ideal) ((c.tc : Thread Cert.AdamwWPwIdeal.nD Cert.AdamwWPwIdeal.τ).loc Cert.AdamwWPwIdeal.main_v2_2)) (v3 : (c : Dev Cert.AdamwWPwIdeal.nD) → Buf (Elt Ideal) ((c.tc : Thread Cert.AdamwWPwIdeal.nD Cert.AdamwWPwIdeal.τ).loc Cert.AdamwWPwIdeal.main_v2_3)),
      θ_run (Cert.AdamwWPwIdeal.defs (F := Ideal)) (onTc (τ := Cert.AdamwWPwIdeal.τ) (Cert.AdamwWPwIdeal.main (F := Ideal))) ⟨m, fun _ => 0, g⟩ (fun r => ∀ c : Dev Cert.AdamwWPwIdeal.nD,
          r.2.mem ((c.tc : Thread Cert.AdamwWPwIdeal.nD Cert.AdamwWPwIdeal.τ).loc Cert.AdamwWPwIdeal.main_v2_0) = v0 c
          ∧ r.2.mem ((c.tc : Thread Cert.AdamwWPwIdeal.nD Cert.AdamwWPwIdeal.τ).loc Cert.AdamwWPwIdeal.main_v2_1) = v1 c
          ∧ r.2.mem ((c.tc : Thread Cert.AdamwWPwIdeal.nD Cert.AdamwWPwIdeal.τ).loc Cert.AdamwWPwIdeal.main_v2_2) = v2 c
          ∧ r.2.mem ((c.tc : Thread Cert.AdamwWPwIdeal.nD Cert.AdamwWPwIdeal.τ).loc Cert.AdamwWPwIdeal.main_v2_3) = v3 c
          ∧ r.2.mem ((c.tc : Thread Cert.AdamwWPwIdeal.nD Cert.AdamwWPwIdeal.τ).loc Cert.AdamwWPwIdeal.main_arg0) = m ((c.tc : Thread Cert.AdamwWPwIdeal.nD Cert.AdamwWPwIdeal.τ).loc Cert.AdamwWPwIdeal.main_arg0)
          ∧ r.2.mem ((c.tc : Thread Cert.AdamwWPwIdeal.nD Cert.AdamwWPwIdeal.τ).loc Cert.AdamwWPwIdeal.main_arg1) = m ((c.tc : Thread Cert.AdamwWPwIdeal.nD Cert.AdamwWPwIdeal.τ).loc Cert.AdamwWPwIdeal.main_arg1)
          ∧ r.2.mem ((c.tc : Thread Cert.AdamwWPwIdeal.nD Cert.AdamwWPwIdeal.τ).loc Cert.AdamwWPwIdeal.main_arg2) = m ((c.tc : Thread Cert.AdamwWPwIdeal.nD Cert.AdamwWPwIdeal.τ).loc Cert.AdamwWPwIdeal.main_arg2)
          ∧ r.2.mem ((c.tc : Thread Cert.AdamwWPwIdeal.nD Cert.AdamwWPwIdeal.τ).loc Cert.AdamwWPwIdeal.main_arg3) = m ((c.tc : Thread Cert.AdamwWPwIdeal.nD Cert.AdamwWPwIdeal.τ).loc Cert.AdamwWPwIdeal.main_arg3)
          ∧ r.2.mem ((c.tc : Thread Cert.AdamwWPwIdeal.nD Cert.AdamwWPwIdeal.τ).loc Cert.AdamwWPwIdeal.main_arg4) = m ((c.tc : Thread Cert.AdamwWPwIdeal.nD Cert.AdamwWPwIdeal.τ).loc Cert.AdamwWPwIdeal.main_arg4))
      ∧ θ_run (Cert.AdamwWPwReferenceIdeal.defs (F := Ideal)) (onTc (τ := Cert.AdamwWPwReferenceIdeal.τ) (Cert.AdamwWPwReferenceIdeal.main (F := Ideal))) ⟨m', fun _ => 0, g'⟩ (fun r => ∀ c : Dev Cert.AdamwWPwReferenceIdeal.nD,
          r.2.mem ((c.tc : Thread Cert.AdamwWPwReferenceIdeal.nD Cert.AdamwWPwReferenceIdeal.τ).loc Cert.AdamwWPwReferenceIdeal.main_v4) = v0 c
          ∧ r.2.mem ((c.tc : Thread Cert.AdamwWPwReferenceIdeal.nD Cert.AdamwWPwReferenceIdeal.τ).loc Cert.AdamwWPwReferenceIdeal.main_v28) = v1 c
          ∧ r.2.mem ((c.tc : Thread Cert.AdamwWPwReferenceIdeal.nD Cert.AdamwWPwReferenceIdeal.τ).loc Cert.AdamwWPwReferenceIdeal.main_v9) = v2 c
          ∧ r.2.mem ((c.tc : Thread Cert.AdamwWPwReferenceIdeal.nD Cert.AdamwWPwReferenceIdeal.τ).loc Cert.AdamwWPwReferenceIdeal.main_v15) = v3 c
          ∧ r.2.mem ((c.tc : Thread Cert.AdamwWPwReferenceIdeal.nD Cert.AdamwWPwReferenceIdeal.τ).loc Cert.AdamwWPwReferenceIdeal.main_arg0) = m' ((c.tc : Thread Cert.AdamwWPwReferenceIdeal.nD Cert.AdamwWPwReferenceIdeal.τ).loc Cert.AdamwWPwReferenceIdeal.main_arg0)
          ∧ r.2.mem ((c.tc : Thread Cert.AdamwWPwReferenceIdeal.nD Cert.AdamwWPwReferenceIdeal.τ).loc Cert.AdamwWPwReferenceIdeal.main_arg1) = m' ((c.tc : Thread Cert.AdamwWPwReferenceIdeal.nD Cert.AdamwWPwReferenceIdeal.τ).loc Cert.AdamwWPwReferenceIdeal.main_arg1)
          ∧ r.2.mem ((c.tc : Thread Cert.AdamwWPwReferenceIdeal.nD Cert.AdamwWPwReferenceIdeal.τ).loc Cert.AdamwWPwReferenceIdeal.main_arg2) = m' ((c.tc : Thread Cert.AdamwWPwReferenceIdeal.nD Cert.AdamwWPwReferenceIdeal.τ).loc Cert.AdamwWPwReferenceIdeal.main_arg2)
          ∧ r.2.mem ((c.tc : Thread Cert.AdamwWPwReferenceIdeal.nD Cert.AdamwWPwReferenceIdeal.τ).loc Cert.AdamwWPwReferenceIdeal.main_arg3) = m' ((c.tc : Thread Cert.AdamwWPwReferenceIdeal.nD Cert.AdamwWPwReferenceIdeal.τ).loc Cert.AdamwWPwReferenceIdeal.main_arg3)
          ∧ r.2.mem ((c.tc : Thread Cert.AdamwWPwReferenceIdeal.nD Cert.AdamwWPwReferenceIdeal.τ).loc Cert.AdamwWPwReferenceIdeal.main_arg4) = m' ((c.tc : Thread Cert.AdamwWPwReferenceIdeal.nD Cert.AdamwWPwReferenceIdeal.τ).loc Cert.AdamwWPwReferenceIdeal.main_arg4))

def preserves_AdamwWIn_AdamwWInIdeal : Prop :=
  True

def algebraic_AdamwWInIdeal_AdamwWInReferenceIdeal [hAdamwWInIdeal : Cert.AdamwWInIdeal.Facts] [hAdamwWInReferenceIdeal : Cert.AdamwWInReferenceIdeal.Facts] : Prop :=
  ∀ (m : (ℓ : Loc Cert.AdamwWInIdeal.nD Cert.AdamwWInIdeal.τ Cert.AdamwWInIdeal.sig) → Buf (Elt Ideal) ℓ) (g : Dev Cert.AdamwWInIdeal.nD → PrngReg)
    (m' : (ℓ : Loc Cert.AdamwWInReferenceIdeal.nD Cert.AdamwWInReferenceIdeal.τ Cert.AdamwWInReferenceIdeal.sig) → Buf (Elt Ideal) ℓ) (g' : Dev Cert.AdamwWInReferenceIdeal.nD → PrngReg), Pre_AdamwWInIdeal m →
    (∀ c : Dev Cert.AdamwWInIdeal.nD,
      m' ((c.tc : Thread Cert.AdamwWInReferenceIdeal.nD Cert.AdamwWInReferenceIdeal.τ).loc Cert.AdamwWInReferenceIdeal.main_arg0) = m ((c.tc : Thread Cert.AdamwWInIdeal.nD Cert.AdamwWInIdeal.τ).loc Cert.AdamwWInIdeal.main_arg0)
      ∧ m' ((c.tc : Thread Cert.AdamwWInReferenceIdeal.nD Cert.AdamwWInReferenceIdeal.τ).loc Cert.AdamwWInReferenceIdeal.main_arg1) = m ((c.tc : Thread Cert.AdamwWInIdeal.nD Cert.AdamwWInIdeal.τ).loc Cert.AdamwWInIdeal.main_arg1)
      ∧ m' ((c.tc : Thread Cert.AdamwWInReferenceIdeal.nD Cert.AdamwWInReferenceIdeal.τ).loc Cert.AdamwWInReferenceIdeal.main_arg2) = m ((c.tc : Thread Cert.AdamwWInIdeal.nD Cert.AdamwWInIdeal.τ).loc Cert.AdamwWInIdeal.main_arg2)
      ∧ m' ((c.tc : Thread Cert.AdamwWInReferenceIdeal.nD Cert.AdamwWInReferenceIdeal.τ).loc Cert.AdamwWInReferenceIdeal.main_arg3) = m ((c.tc : Thread Cert.AdamwWInIdeal.nD Cert.AdamwWInIdeal.τ).loc Cert.AdamwWInIdeal.main_arg3)
      ∧ m' ((c.tc : Thread Cert.AdamwWInReferenceIdeal.nD Cert.AdamwWInReferenceIdeal.τ).loc Cert.AdamwWInReferenceIdeal.main_arg4) = m ((c.tc : Thread Cert.AdamwWInIdeal.nD Cert.AdamwWInIdeal.τ).loc Cert.AdamwWInIdeal.main_arg4)
      ∧ m' ((c.tc : Thread Cert.AdamwWInReferenceIdeal.nD Cert.AdamwWInReferenceIdeal.τ).loc Cert.AdamwWInReferenceIdeal.main_arg5) = m ((c.tc : Thread Cert.AdamwWInIdeal.nD Cert.AdamwWInIdeal.τ).loc Cert.AdamwWInIdeal.main_arg5)
      ∧ m' ((c.tc : Thread Cert.AdamwWInReferenceIdeal.nD Cert.AdamwWInReferenceIdeal.τ).loc Cert.AdamwWInReferenceIdeal.main_arg6) = m ((c.tc : Thread Cert.AdamwWInIdeal.nD Cert.AdamwWInIdeal.τ).loc Cert.AdamwWInIdeal.main_arg6)
      ∧ m' ((c.tc : Thread Cert.AdamwWInReferenceIdeal.nD Cert.AdamwWInReferenceIdeal.τ).loc Cert.AdamwWInReferenceIdeal.main_arg7) = m ((c.tc : Thread Cert.AdamwWInIdeal.nD Cert.AdamwWInIdeal.τ).loc Cert.AdamwWInIdeal.main_arg7)) →
    ∃ (v0 : (c : Dev Cert.AdamwWInIdeal.nD) → Buf (Elt Ideal) ((c.tc : Thread Cert.AdamwWInIdeal.nD Cert.AdamwWInIdeal.τ).loc Cert.AdamwWInIdeal.main_v1_0)) (v1 : (c : Dev Cert.AdamwWInIdeal.nD) → Buf (Elt Ideal) ((c.tc : Thread Cert.AdamwWInIdeal.nD Cert.AdamwWInIdeal.τ).loc Cert.AdamwWInIdeal.main_v1_1)) (v2 : (c : Dev Cert.AdamwWInIdeal.nD) → Buf (Elt Ideal) ((c.tc : Thread Cert.AdamwWInIdeal.nD Cert.AdamwWInIdeal.τ).loc Cert.AdamwWInIdeal.main_v1_2)) (v3 : (c : Dev Cert.AdamwWInIdeal.nD) → Buf (Elt Ideal) ((c.tc : Thread Cert.AdamwWInIdeal.nD Cert.AdamwWInIdeal.τ).loc Cert.AdamwWInIdeal.main_v1_3)),
      θ_run (Cert.AdamwWInIdeal.defs (F := Ideal)) (onTc (τ := Cert.AdamwWInIdeal.τ) (Cert.AdamwWInIdeal.main (F := Ideal))) ⟨m, fun _ => 0, g⟩ (fun r => ∀ c : Dev Cert.AdamwWInIdeal.nD,
          r.2.mem ((c.tc : Thread Cert.AdamwWInIdeal.nD Cert.AdamwWInIdeal.τ).loc Cert.AdamwWInIdeal.main_v1_0) = v0 c
          ∧ r.2.mem ((c.tc : Thread Cert.AdamwWInIdeal.nD Cert.AdamwWInIdeal.τ).loc Cert.AdamwWInIdeal.main_v1_1) = v1 c
          ∧ r.2.mem ((c.tc : Thread Cert.AdamwWInIdeal.nD Cert.AdamwWInIdeal.τ).loc Cert.AdamwWInIdeal.main_v1_2) = v2 c
          ∧ r.2.mem ((c.tc : Thread Cert.AdamwWInIdeal.nD Cert.AdamwWInIdeal.τ).loc Cert.AdamwWInIdeal.main_v1_3) = v3 c
          ∧ r.2.mem ((c.tc : Thread Cert.AdamwWInIdeal.nD Cert.AdamwWInIdeal.τ).loc Cert.AdamwWInIdeal.main_arg0) = m ((c.tc : Thread Cert.AdamwWInIdeal.nD Cert.AdamwWInIdeal.τ).loc Cert.AdamwWInIdeal.main_arg0)
          ∧ r.2.mem ((c.tc : Thread Cert.AdamwWInIdeal.nD Cert.AdamwWInIdeal.τ).loc Cert.AdamwWInIdeal.main_arg1) = m ((c.tc : Thread Cert.AdamwWInIdeal.nD Cert.AdamwWInIdeal.τ).loc Cert.AdamwWInIdeal.main_arg1)
          ∧ r.2.mem ((c.tc : Thread Cert.AdamwWInIdeal.nD Cert.AdamwWInIdeal.τ).loc Cert.AdamwWInIdeal.main_arg2) = m ((c.tc : Thread Cert.AdamwWInIdeal.nD Cert.AdamwWInIdeal.τ).loc Cert.AdamwWInIdeal.main_arg2)
          ∧ r.2.mem ((c.tc : Thread Cert.AdamwWInIdeal.nD Cert.AdamwWInIdeal.τ).loc Cert.AdamwWInIdeal.main_arg3) = m ((c.tc : Thread Cert.AdamwWInIdeal.nD Cert.AdamwWInIdeal.τ).loc Cert.AdamwWInIdeal.main_arg3)
          ∧ r.2.mem ((c.tc : Thread Cert.AdamwWInIdeal.nD Cert.AdamwWInIdeal.τ).loc Cert.AdamwWInIdeal.main_arg4) = m ((c.tc : Thread Cert.AdamwWInIdeal.nD Cert.AdamwWInIdeal.τ).loc Cert.AdamwWInIdeal.main_arg4)
          ∧ r.2.mem ((c.tc : Thread Cert.AdamwWInIdeal.nD Cert.AdamwWInIdeal.τ).loc Cert.AdamwWInIdeal.main_arg5) = m ((c.tc : Thread Cert.AdamwWInIdeal.nD Cert.AdamwWInIdeal.τ).loc Cert.AdamwWInIdeal.main_arg5)
          ∧ r.2.mem ((c.tc : Thread Cert.AdamwWInIdeal.nD Cert.AdamwWInIdeal.τ).loc Cert.AdamwWInIdeal.main_arg6) = m ((c.tc : Thread Cert.AdamwWInIdeal.nD Cert.AdamwWInIdeal.τ).loc Cert.AdamwWInIdeal.main_arg6)
          ∧ r.2.mem ((c.tc : Thread Cert.AdamwWInIdeal.nD Cert.AdamwWInIdeal.τ).loc Cert.AdamwWInIdeal.main_arg7) = m ((c.tc : Thread Cert.AdamwWInIdeal.nD Cert.AdamwWInIdeal.τ).loc Cert.AdamwWInIdeal.main_arg7))
      ∧ θ_run (Cert.AdamwWInReferenceIdeal.defs (F := Ideal)) (onTc (τ := Cert.AdamwWInReferenceIdeal.τ) (Cert.AdamwWInReferenceIdeal.main (F := Ideal))) ⟨m', fun _ => 0, g'⟩ (fun r => ∀ c : Dev Cert.AdamwWInReferenceIdeal.nD,
          r.2.mem ((c.tc : Thread Cert.AdamwWInReferenceIdeal.nD Cert.AdamwWInReferenceIdeal.τ).loc Cert.AdamwWInReferenceIdeal.main_v35) = v0 c
          ∧ r.2.mem ((c.tc : Thread Cert.AdamwWInReferenceIdeal.nD Cert.AdamwWInReferenceIdeal.τ).loc Cert.AdamwWInReferenceIdeal.main_v40) = v1 c
          ∧ r.2.mem ((c.tc : Thread Cert.AdamwWInReferenceIdeal.nD Cert.AdamwWInReferenceIdeal.τ).loc Cert.AdamwWInReferenceIdeal.main_v45) = v2 c
          ∧ r.2.mem ((c.tc : Thread Cert.AdamwWInReferenceIdeal.nD Cert.AdamwWInReferenceIdeal.τ).loc Cert.AdamwWInReferenceIdeal.main_v50) = v3 c
          ∧ r.2.mem ((c.tc : Thread Cert.AdamwWInReferenceIdeal.nD Cert.AdamwWInReferenceIdeal.τ).loc Cert.AdamwWInReferenceIdeal.main_arg0) = m' ((c.tc : Thread Cert.AdamwWInReferenceIdeal.nD Cert.AdamwWInReferenceIdeal.τ).loc Cert.AdamwWInReferenceIdeal.main_arg0)
          ∧ r.2.mem ((c.tc : Thread Cert.AdamwWInReferenceIdeal.nD Cert.AdamwWInReferenceIdeal.τ).loc Cert.AdamwWInReferenceIdeal.main_arg1) = m' ((c.tc : Thread Cert.AdamwWInReferenceIdeal.nD Cert.AdamwWInReferenceIdeal.τ).loc Cert.AdamwWInReferenceIdeal.main_arg1)
          ∧ r.2.mem ((c.tc : Thread Cert.AdamwWInReferenceIdeal.nD Cert.AdamwWInReferenceIdeal.τ).loc Cert.AdamwWInReferenceIdeal.main_arg2) = m' ((c.tc : Thread Cert.AdamwWInReferenceIdeal.nD Cert.AdamwWInReferenceIdeal.τ).loc Cert.AdamwWInReferenceIdeal.main_arg2)
          ∧ r.2.mem ((c.tc : Thread Cert.AdamwWInReferenceIdeal.nD Cert.AdamwWInReferenceIdeal.τ).loc Cert.AdamwWInReferenceIdeal.main_arg3) = m' ((c.tc : Thread Cert.AdamwWInReferenceIdeal.nD Cert.AdamwWInReferenceIdeal.τ).loc Cert.AdamwWInReferenceIdeal.main_arg3)
          ∧ r.2.mem ((c.tc : Thread Cert.AdamwWInReferenceIdeal.nD Cert.AdamwWInReferenceIdeal.τ).loc Cert.AdamwWInReferenceIdeal.main_arg4) = m' ((c.tc : Thread Cert.AdamwWInReferenceIdeal.nD Cert.AdamwWInReferenceIdeal.τ).loc Cert.AdamwWInReferenceIdeal.main_arg4)
          ∧ r.2.mem ((c.tc : Thread Cert.AdamwWInReferenceIdeal.nD Cert.AdamwWInReferenceIdeal.τ).loc Cert.AdamwWInReferenceIdeal.main_arg5) = m' ((c.tc : Thread Cert.AdamwWInReferenceIdeal.nD Cert.AdamwWInReferenceIdeal.τ).loc Cert.AdamwWInReferenceIdeal.main_arg5)
          ∧ r.2.mem ((c.tc : Thread Cert.AdamwWInReferenceIdeal.nD Cert.AdamwWInReferenceIdeal.τ).loc Cert.AdamwWInReferenceIdeal.main_arg6) = m' ((c.tc : Thread Cert.AdamwWInReferenceIdeal.nD Cert.AdamwWInReferenceIdeal.τ).loc Cert.AdamwWInReferenceIdeal.main_arg6)
          ∧ r.2.mem ((c.tc : Thread Cert.AdamwWInReferenceIdeal.nD Cert.AdamwWInReferenceIdeal.τ).loc Cert.AdamwWInReferenceIdeal.main_arg7) = m' ((c.tc : Thread Cert.AdamwWInReferenceIdeal.nD Cert.AdamwWInReferenceIdeal.τ).loc Cert.AdamwWInReferenceIdeal.main_arg7))

def preserves_AdamwWInB_AdamwWInBIdeal : Prop :=
  True

def algebraic_AdamwWInBIdeal_AdamwWInBReferenceIdeal [hAdamwWInBIdeal : Cert.AdamwWInBIdeal.Facts] [hAdamwWInBReferenceIdeal : Cert.AdamwWInBReferenceIdeal.Facts] : Prop :=
  ∀ (m : (ℓ : Loc Cert.AdamwWInBIdeal.nD Cert.AdamwWInBIdeal.τ Cert.AdamwWInBIdeal.sig) → Buf (Elt Ideal) ℓ) (g : Dev Cert.AdamwWInBIdeal.nD → PrngReg)
    (m' : (ℓ : Loc Cert.AdamwWInBReferenceIdeal.nD Cert.AdamwWInBReferenceIdeal.τ Cert.AdamwWInBReferenceIdeal.sig) → Buf (Elt Ideal) ℓ) (g' : Dev Cert.AdamwWInBReferenceIdeal.nD → PrngReg), Pre_AdamwWInBIdeal m →
    (∀ c : Dev Cert.AdamwWInBIdeal.nD,
      m' ((c.tc : Thread Cert.AdamwWInBReferenceIdeal.nD Cert.AdamwWInBReferenceIdeal.τ).loc Cert.AdamwWInBReferenceIdeal.main_arg0) = m ((c.tc : Thread Cert.AdamwWInBIdeal.nD Cert.AdamwWInBIdeal.τ).loc Cert.AdamwWInBIdeal.main_arg0)
      ∧ m' ((c.tc : Thread Cert.AdamwWInBReferenceIdeal.nD Cert.AdamwWInBReferenceIdeal.τ).loc Cert.AdamwWInBReferenceIdeal.main_arg1) = m ((c.tc : Thread Cert.AdamwWInBIdeal.nD Cert.AdamwWInBIdeal.τ).loc Cert.AdamwWInBIdeal.main_arg1)
      ∧ m' ((c.tc : Thread Cert.AdamwWInBReferenceIdeal.nD Cert.AdamwWInBReferenceIdeal.τ).loc Cert.AdamwWInBReferenceIdeal.main_arg2) = m ((c.tc : Thread Cert.AdamwWInBIdeal.nD Cert.AdamwWInBIdeal.τ).loc Cert.AdamwWInBIdeal.main_arg2)
      ∧ m' ((c.tc : Thread Cert.AdamwWInBReferenceIdeal.nD Cert.AdamwWInBReferenceIdeal.τ).loc Cert.AdamwWInBReferenceIdeal.main_arg3) = m ((c.tc : Thread Cert.AdamwWInBIdeal.nD Cert.AdamwWInBIdeal.τ).loc Cert.AdamwWInBIdeal.main_arg3)) →
    ∃ (v0 : (c : Dev Cert.AdamwWInBIdeal.nD) → Buf (Elt Ideal) ((c.tc : Thread Cert.AdamwWInBIdeal.nD Cert.AdamwWInBIdeal.τ).loc Cert.AdamwWInBIdeal.main_v2)) (v1 : (c : Dev Cert.AdamwWInBIdeal.nD) → Buf (Elt Ideal) ((c.tc : Thread Cert.AdamwWInBIdeal.nD Cert.AdamwWInBIdeal.τ).loc Cert.AdamwWInBIdeal.main_v3)) (v2 : (c : Dev Cert.AdamwWInBIdeal.nD) → Buf (Elt Ideal) ((c.tc : Thread Cert.AdamwWInBIdeal.nD Cert.AdamwWInBIdeal.τ).loc Cert.AdamwWInBIdeal.main_v4)) (v3 : (c : Dev Cert.AdamwWInBIdeal.nD) → Buf (Elt Ideal) ((c.tc : Thread Cert.AdamwWInBIdeal.nD Cert.AdamwWInBIdeal.τ).loc Cert.AdamwWInBIdeal.main_v5)),
      θ_run (Cert.AdamwWInBIdeal.defs (F := Ideal)) (onTc (τ := Cert.AdamwWInBIdeal.τ) (Cert.AdamwWInBIdeal.main (F := Ideal))) ⟨m, fun _ => 0, g⟩ (fun r => ∀ c : Dev Cert.AdamwWInBIdeal.nD,
          r.2.mem ((c.tc : Thread Cert.AdamwWInBIdeal.nD Cert.AdamwWInBIdeal.τ).loc Cert.AdamwWInBIdeal.main_v2) = v0 c
          ∧ r.2.mem ((c.tc : Thread Cert.AdamwWInBIdeal.nD Cert.AdamwWInBIdeal.τ).loc Cert.AdamwWInBIdeal.main_v3) = v1 c
          ∧ r.2.mem ((c.tc : Thread Cert.AdamwWInBIdeal.nD Cert.AdamwWInBIdeal.τ).loc Cert.AdamwWInBIdeal.main_v4) = v2 c
          ∧ r.2.mem ((c.tc : Thread Cert.AdamwWInBIdeal.nD Cert.AdamwWInBIdeal.τ).loc Cert.AdamwWInBIdeal.main_v5) = v3 c
          ∧ r.2.mem ((c.tc : Thread Cert.AdamwWInBIdeal.nD Cert.AdamwWInBIdeal.τ).loc Cert.AdamwWInBIdeal.main_arg0) = m ((c.tc : Thread Cert.AdamwWInBIdeal.nD Cert.AdamwWInBIdeal.τ).loc Cert.AdamwWInBIdeal.main_arg0)
          ∧ r.2.mem ((c.tc : Thread Cert.AdamwWInBIdeal.nD Cert.AdamwWInBIdeal.τ).loc Cert.AdamwWInBIdeal.main_arg1) = m ((c.tc : Thread Cert.AdamwWInBIdeal.nD Cert.AdamwWInBIdeal.τ).loc Cert.AdamwWInBIdeal.main_arg1)
          ∧ r.2.mem ((c.tc : Thread Cert.AdamwWInBIdeal.nD Cert.AdamwWInBIdeal.τ).loc Cert.AdamwWInBIdeal.main_arg2) = m ((c.tc : Thread Cert.AdamwWInBIdeal.nD Cert.AdamwWInBIdeal.τ).loc Cert.AdamwWInBIdeal.main_arg2)
          ∧ r.2.mem ((c.tc : Thread Cert.AdamwWInBIdeal.nD Cert.AdamwWInBIdeal.τ).loc Cert.AdamwWInBIdeal.main_arg3) = m ((c.tc : Thread Cert.AdamwWInBIdeal.nD Cert.AdamwWInBIdeal.τ).loc Cert.AdamwWInBIdeal.main_arg3))
      ∧ θ_run (Cert.AdamwWInBReferenceIdeal.defs (F := Ideal)) (onTc (τ := Cert.AdamwWInBReferenceIdeal.τ) (Cert.AdamwWInBReferenceIdeal.main (F := Ideal))) ⟨m', fun _ => 0, g'⟩ (fun r => ∀ c : Dev Cert.AdamwWInBReferenceIdeal.nD,
          r.2.mem ((c.tc : Thread Cert.AdamwWInBReferenceIdeal.nD Cert.AdamwWInBReferenceIdeal.τ).loc Cert.AdamwWInBReferenceIdeal.main_v31) = v0 c
          ∧ r.2.mem ((c.tc : Thread Cert.AdamwWInBReferenceIdeal.nD Cert.AdamwWInBReferenceIdeal.τ).loc Cert.AdamwWInBReferenceIdeal.main_v32) = v1 c
          ∧ r.2.mem ((c.tc : Thread Cert.AdamwWInBReferenceIdeal.nD Cert.AdamwWInBReferenceIdeal.τ).loc Cert.AdamwWInBReferenceIdeal.main_v33) = v2 c
          ∧ r.2.mem ((c.tc : Thread Cert.AdamwWInBReferenceIdeal.nD Cert.AdamwWInBReferenceIdeal.τ).loc Cert.AdamwWInBReferenceIdeal.main_v34) = v3 c
          ∧ r.2.mem ((c.tc : Thread Cert.AdamwWInBReferenceIdeal.nD Cert.AdamwWInBReferenceIdeal.τ).loc Cert.AdamwWInBReferenceIdeal.main_arg0) = m' ((c.tc : Thread Cert.AdamwWInBReferenceIdeal.nD Cert.AdamwWInBReferenceIdeal.τ).loc Cert.AdamwWInBReferenceIdeal.main_arg0)
          ∧ r.2.mem ((c.tc : Thread Cert.AdamwWInBReferenceIdeal.nD Cert.AdamwWInBReferenceIdeal.τ).loc Cert.AdamwWInBReferenceIdeal.main_arg1) = m' ((c.tc : Thread Cert.AdamwWInBReferenceIdeal.nD Cert.AdamwWInBReferenceIdeal.τ).loc Cert.AdamwWInBReferenceIdeal.main_arg1)
          ∧ r.2.mem ((c.tc : Thread Cert.AdamwWInBReferenceIdeal.nD Cert.AdamwWInBReferenceIdeal.τ).loc Cert.AdamwWInBReferenceIdeal.main_arg2) = m' ((c.tc : Thread Cert.AdamwWInBReferenceIdeal.nD Cert.AdamwWInBReferenceIdeal.τ).loc Cert.AdamwWInBReferenceIdeal.main_arg2)
          ∧ r.2.mem ((c.tc : Thread Cert.AdamwWInBReferenceIdeal.nD Cert.AdamwWInBReferenceIdeal.τ).loc Cert.AdamwWInBReferenceIdeal.main_arg3) = m' ((c.tc : Thread Cert.AdamwWInBReferenceIdeal.nD Cert.AdamwWInBReferenceIdeal.τ).loc Cert.AdamwWInBReferenceIdeal.main_arg3))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hDH : Cert.DH.Facts) (hDHIdeal : Cert.DHIdeal.Facts) (hDHReferenceIdeal : Cert.DHReferenceIdeal.Facts) (hGWIn : Cert.GWIn.Facts) (hGWInIdeal : Cert.GWInIdeal.Facts) (hGWInReferenceIdeal : Cert.GWInReferenceIdeal.Facts) (hOutProj : Cert.OutProj.Facts) (hOutProjIdeal : Cert.OutProjIdeal.Facts) (hOutProjReferenceIdeal : Cert.OutProjReferenceIdeal.Facts) (hGWOut : Cert.GWOut.Facts) (hGWOutIdeal : Cert.GWOutIdeal.Facts) (hGWOutReferenceIdeal : Cert.GWOutReferenceIdeal.Facts) (hGWPw : Cert.GWPw.Facts) (hGWPwIdeal : Cert.GWPwIdeal.Facts) (hGWPwReferenceIdeal : Cert.GWPwReferenceIdeal.Facts) (hDU3 : Cert.DU3.Facts) (hDU3Ideal : Cert.DU3Ideal.Facts) (hDU3ReferenceIdeal : Cert.DU3ReferenceIdeal.Facts) (hGateBwd : Cert.GateBwd.Facts) (hGateBwdIdeal : Cert.GateBwdIdeal.Facts) (hGateBwdReferenceIdeal : Cert.GateBwdReferenceIdeal.Facts) (hFlashFwd : Cert.FlashFwd.Facts) (hFlashFwdIdeal : Cert.FlashFwdIdeal.Facts) (hFlashFwdReferenceIdeal : Cert.FlashFwdReferenceIdeal.Facts) (hPrenorm : Cert.Prenorm.Facts) (hPrenormIdeal : Cert.PrenormIdeal.Facts) (hPrenormReferenceIdeal : Cert.PrenormReferenceIdeal.Facts) (hGateCat : Cert.GateCat.Facts) (hGateCatIdeal : Cert.GateCatIdeal.Facts) (hGateCatReferenceIdeal : Cert.GateCatReferenceIdeal.Facts) (hAdamwAdaW : Cert.AdamwAdaW.Facts) (hAdamwAdaWIdeal : Cert.AdamwAdaWIdeal.Facts) (hAdamwAdaWReferenceIdeal : Cert.AdamwAdaWReferenceIdeal.Facts) (hAdamwWOut : Cert.AdamwWOut.Facts) (hAdamwWOutIdeal : Cert.AdamwWOutIdeal.Facts) (hAdamwWOutReferenceIdeal : Cert.AdamwWOutReferenceIdeal.Facts) (hAdamwWQUp : Cert.AdamwWQUp.Facts) (hAdamwWQUpIdeal : Cert.AdamwWQUpIdeal.Facts) (hAdamwWQUpReferenceIdeal : Cert.AdamwWQUpReferenceIdeal.Facts) (hAdamwWKvUp : Cert.AdamwWKvUp.Facts) (hAdamwWKvUpIdeal : Cert.AdamwWKvUpIdeal.Facts) (hAdamwWKvUpReferenceIdeal : Cert.AdamwWKvUpReferenceIdeal.Facts) (hAdamwWPw : Cert.AdamwWPw.Facts) (hAdamwWPwIdeal : Cert.AdamwWPwIdeal.Facts) (hAdamwWPwReferenceIdeal : Cert.AdamwWPwReferenceIdeal.Facts) (hAdamwWIn : Cert.AdamwWIn.Facts) (hAdamwWInIdeal : Cert.AdamwWInIdeal.Facts) (hAdamwWInReferenceIdeal : Cert.AdamwWInReferenceIdeal.Facts) (hAdamwWInB : Cert.AdamwWInB.Facts) (hAdamwWInBIdeal : Cert.AdamwWInBIdeal.Facts) (hAdamwWInBReferenceIdeal : Cert.AdamwWInBReferenceIdeal.Facts) (hPre_finite : Cert.Pre_finite.Facts) (hPre_gates_finite : Cert.Pre_gates_finite.Facts) (hPre_scores_finite : Cert.Pre_scores_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjReferenceIdeal (hInProjReferenceIdeal := hInProjReferenceIdeal)
    ∧ quiescent_DH (hDH := hDH)
    ∧ quiescent_DHIdeal (hDHIdeal := hDHIdeal)
    ∧ quiescent_DHReferenceIdeal (hDHReferenceIdeal := hDHReferenceIdeal)
    ∧ quiescent_GWIn (hGWIn := hGWIn)
    ∧ quiescent_GWInIdeal (hGWInIdeal := hGWInIdeal)
    ∧ quiescent_GWInReferenceIdeal (hGWInReferenceIdeal := hGWInReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_GWOut (hGWOut := hGWOut)
    ∧ quiescent_GWOutIdeal (hGWOutIdeal := hGWOutIdeal)
    ∧ quiescent_GWOutReferenceIdeal (hGWOutReferenceIdeal := hGWOutReferenceIdeal)
    ∧ quiescent_GWPw (hGWPw := hGWPw)
    ∧ quiescent_GWPwIdeal (hGWPwIdeal := hGWPwIdeal)
    ∧ quiescent_GWPwReferenceIdeal (hGWPwReferenceIdeal := hGWPwReferenceIdeal)
    ∧ quiescent_DU3 (hDU3 := hDU3)
    ∧ quiescent_DU3Ideal (hDU3Ideal := hDU3Ideal)
    ∧ quiescent_DU3ReferenceIdeal (hDU3ReferenceIdeal := hDU3ReferenceIdeal)
    ∧ quiescent_GateBwd (hGateBwd := hGateBwd)
    ∧ quiescent_GateBwdIdeal (hGateBwdIdeal := hGateBwdIdeal)
    ∧ quiescent_GateBwdIdeal_pre_gates_finite (hGateBwdIdeal := hGateBwdIdeal) (hPre_gates_finite := hPre_gates_finite)
    ∧ quiescent_GateBwdReferenceIdeal (hGateBwdReferenceIdeal := hGateBwdReferenceIdeal)
    ∧ quiescent_GateBwdReferenceIdeal_pre_gates_finite (hGateBwdReferenceIdeal := hGateBwdReferenceIdeal) (hPre_gates_finite := hPre_gates_finite)
    ∧ quiescent_FlashFwd (hFlashFwd := hFlashFwd)
    ∧ quiescent_FlashFwdIdeal (hFlashFwdIdeal := hFlashFwdIdeal)
    ∧ quiescent_FlashFwdIdeal_pre_scores_finite (hFlashFwdIdeal := hFlashFwdIdeal) (hPre_scores_finite := hPre_scores_finite)
    ∧ quiescent_FlashFwdReferenceIdeal (hFlashFwdReferenceIdeal := hFlashFwdReferenceIdeal)
    ∧ quiescent_FlashFwdReferenceIdeal_pre_scores_finite (hFlashFwdReferenceIdeal := hFlashFwdReferenceIdeal) (hPre_scores_finite := hPre_scores_finite)
    ∧ quiescent_Prenorm (hPrenorm := hPrenorm)
    ∧ quiescent_PrenormIdeal (hPrenormIdeal := hPrenormIdeal)
    ∧ quiescent_PrenormReferenceIdeal (hPrenormReferenceIdeal := hPrenormReferenceIdeal)
    ∧ quiescent_GateCat (hGateCat := hGateCat)
    ∧ quiescent_GateCatIdeal (hGateCatIdeal := hGateCatIdeal)
    ∧ quiescent_GateCatReferenceIdeal (hGateCatReferenceIdeal := hGateCatReferenceIdeal)
    ∧ quiescent_AdamwAdaW (hAdamwAdaW := hAdamwAdaW)
    ∧ quiescent_AdamwAdaWIdeal (hAdamwAdaWIdeal := hAdamwAdaWIdeal)
    ∧ quiescent_AdamwAdaWReferenceIdeal (hAdamwAdaWReferenceIdeal := hAdamwAdaWReferenceIdeal)
    ∧ quiescent_AdamwWOut (hAdamwWOut := hAdamwWOut)
    ∧ quiescent_AdamwWOutIdeal (hAdamwWOutIdeal := hAdamwWOutIdeal)
    ∧ quiescent_AdamwWOutReferenceIdeal (hAdamwWOutReferenceIdeal := hAdamwWOutReferenceIdeal)
    ∧ quiescent_AdamwWQUp (hAdamwWQUp := hAdamwWQUp)
    ∧ quiescent_AdamwWQUpIdeal (hAdamwWQUpIdeal := hAdamwWQUpIdeal)
    ∧ quiescent_AdamwWQUpReferenceIdeal (hAdamwWQUpReferenceIdeal := hAdamwWQUpReferenceIdeal)
    ∧ quiescent_AdamwWKvUp (hAdamwWKvUp := hAdamwWKvUp)
    ∧ quiescent_AdamwWKvUpIdeal (hAdamwWKvUpIdeal := hAdamwWKvUpIdeal)
    ∧ quiescent_AdamwWKvUpReferenceIdeal (hAdamwWKvUpReferenceIdeal := hAdamwWKvUpReferenceIdeal)
    ∧ quiescent_AdamwWPw (hAdamwWPw := hAdamwWPw)
    ∧ quiescent_AdamwWPwIdeal (hAdamwWPwIdeal := hAdamwWPwIdeal)
    ∧ quiescent_AdamwWPwReferenceIdeal (hAdamwWPwReferenceIdeal := hAdamwWPwReferenceIdeal)
    ∧ quiescent_AdamwWIn (hAdamwWIn := hAdamwWIn)
    ∧ quiescent_AdamwWInIdeal (hAdamwWInIdeal := hAdamwWInIdeal)
    ∧ quiescent_AdamwWInReferenceIdeal (hAdamwWInReferenceIdeal := hAdamwWInReferenceIdeal)
    ∧ quiescent_AdamwWInB (hAdamwWInB := hAdamwWInB)
    ∧ quiescent_AdamwWInBIdeal (hAdamwWInBIdeal := hAdamwWInBIdeal)
    ∧ quiescent_AdamwWInBReferenceIdeal (hAdamwWInBReferenceIdeal := hAdamwWInBReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjReferenceIdeal (hInProjIdeal := hInProjIdeal) (hInProjReferenceIdeal := hInProjReferenceIdeal)
    ∧ preserves_DH_DHIdeal
    ∧ algebraic_DHIdeal_DHReferenceIdeal (hDHIdeal := hDHIdeal) (hDHReferenceIdeal := hDHReferenceIdeal)
    ∧ preserves_GWIn_GWInIdeal
    ∧ algebraic_GWInIdeal_GWInReferenceIdeal (hGWInIdeal := hGWInIdeal) (hGWInReferenceIdeal := hGWInReferenceIdeal)
    ∧ preserves_OutProj_OutProjIdeal
    ∧ algebraic_OutProjIdeal_OutProjReferenceIdeal (hOutProjIdeal := hOutProjIdeal) (hOutProjReferenceIdeal := hOutProjReferenceIdeal)
    ∧ preserves_GWOut_GWOutIdeal
    ∧ algebraic_GWOutIdeal_GWOutReferenceIdeal (hGWOutIdeal := hGWOutIdeal) (hGWOutReferenceIdeal := hGWOutReferenceIdeal)
    ∧ preserves_GWPw_GWPwIdeal
    ∧ algebraic_GWPwIdeal_GWPwReferenceIdeal (hGWPwIdeal := hGWPwIdeal) (hGWPwReferenceIdeal := hGWPwReferenceIdeal)
    ∧ preserves_DU3_DU3Ideal
    ∧ algebraic_DU3Ideal_DU3ReferenceIdeal (hDU3Ideal := hDU3Ideal) (hDU3ReferenceIdeal := hDU3ReferenceIdeal)
    ∧ preserves_GateBwd_GateBwdIdeal
    ∧ algebraic_GateBwdIdeal_GateBwdReferenceIdeal_pre_gates_finite (hGateBwdIdeal := hGateBwdIdeal) (hGateBwdReferenceIdeal := hGateBwdReferenceIdeal) (hPre_gates_finite := hPre_gates_finite)
    ∧ preserves_FlashFwd_FlashFwdIdeal
    ∧ algebraic_FlashFwdIdeal_FlashFwdReferenceIdeal_pre_scores_finite (hFlashFwdIdeal := hFlashFwdIdeal) (hFlashFwdReferenceIdeal := hFlashFwdReferenceIdeal) (hPre_scores_finite := hPre_scores_finite)
    ∧ preserves_Prenorm_PrenormIdeal
    ∧ algebraic_PrenormIdeal_PrenormReferenceIdeal (hPrenormIdeal := hPrenormIdeal) (hPrenormReferenceIdeal := hPrenormReferenceIdeal)
    ∧ preserves_GateCat_GateCatIdeal
    ∧ algebraic_GateCatIdeal_GateCatReferenceIdeal (hGateCatIdeal := hGateCatIdeal) (hGateCatReferenceIdeal := hGateCatReferenceIdeal)
    ∧ preserves_AdamwAdaW_AdamwAdaWIdeal
    ∧ algebraic_AdamwAdaWIdeal_AdamwAdaWReferenceIdeal (hAdamwAdaWIdeal := hAdamwAdaWIdeal) (hAdamwAdaWReferenceIdeal := hAdamwAdaWReferenceIdeal)
    ∧ preserves_AdamwWOut_AdamwWOutIdeal
    ∧ algebraic_AdamwWOutIdeal_AdamwWOutReferenceIdeal (hAdamwWOutIdeal := hAdamwWOutIdeal) (hAdamwWOutReferenceIdeal := hAdamwWOutReferenceIdeal)
    ∧ preserves_AdamwWQUp_AdamwWQUpIdeal
    ∧ algebraic_AdamwWQUpIdeal_AdamwWQUpReferenceIdeal (hAdamwWQUpIdeal := hAdamwWQUpIdeal) (hAdamwWQUpReferenceIdeal := hAdamwWQUpReferenceIdeal)
    ∧ preserves_AdamwWKvUp_AdamwWKvUpIdeal
    ∧ algebraic_AdamwWKvUpIdeal_AdamwWKvUpReferenceIdeal (hAdamwWKvUpIdeal := hAdamwWKvUpIdeal) (hAdamwWKvUpReferenceIdeal := hAdamwWKvUpReferenceIdeal)
    ∧ preserves_AdamwWPw_AdamwWPwIdeal
    ∧ algebraic_AdamwWPwIdeal_AdamwWPwReferenceIdeal (hAdamwWPwIdeal := hAdamwWPwIdeal) (hAdamwWPwReferenceIdeal := hAdamwWPwReferenceIdeal)
    ∧ preserves_AdamwWIn_AdamwWInIdeal
    ∧ algebraic_AdamwWInIdeal_AdamwWInReferenceIdeal (hAdamwWInIdeal := hAdamwWInIdeal) (hAdamwWInReferenceIdeal := hAdamwWInReferenceIdeal)
    ∧ preserves_AdamwWInB_AdamwWInBIdeal
    ∧ algebraic_AdamwWInBIdeal_AdamwWInBReferenceIdeal (hAdamwWInBIdeal := hAdamwWInBIdeal) (hAdamwWInBReferenceIdeal := hAdamwWInBReferenceIdeal)
-- ==== Pre_finite.lean ====
abbrev S4096x8x192 : Shape := ⟨3, ![4096, 8, 192]⟩
abbrev S4096x8x128 : Shape := ⟨3, ![4096, 8, 128]⟩
abbrev S_ : Shape := ⟨0, ![]⟩
abbrev S4096x8x640 : Shape := ⟨3, ![4096, 8, 640]⟩

class Facts : Prop where
  bcast_S_S4096x8x192 : S_.BroadcastsInDim S4096x8x192 (![] : Fin 0 → Fin S4096x8x192.rank)
  bcast_S_S4096x8x128 : S_.BroadcastsInDim S4096x8x128 (![] : Fin 0 → Fin S4096x8x128.rank)
  concatenates_S4096x8x192_S4096x8x192_S4096x8x128_S4096x8x128_S4096x8x640_d2 : Shape.Concatenates [S4096x8x192, S4096x8x192, S4096x8x128, S4096x8x128] S4096x8x640 2

variable [Facts]

def fn {F : FTy → Type} [FloatOps F] (main_arg0 : FVec F S4096x8x192 .f32) (main_arg1 : FVec F S4096x8x192 .f32) (main_arg2 : FVec F S4096x8x128 .f32) (main_arg3 : FVec F S4096x8x128 .f32) : IVec S4096x8x640 1 :=
  let main_v0 : FVec F S4096x8x192 .f32 := Host.absf main_arg0
  let main_cst : FVec F S_ .f32 := constant S_ .f32 0x7F800000#32
  let main_v1 : FVec F S4096x8x192 .f32 := broadcastInDim S4096x8x192 ![] bcast_S_S4096x8x192 main_cst
  let main_v2 : IVec S4096x8x192 1 := cmpf .olt main_v0 main_v1
  let main_v3 : FVec F S4096x8x192 .f32 := Host.absf main_arg1
  let main_cst_0 : FVec F S_ .f32 := constant S_ .f32 0x7F800000#32
  let main_v4 : FVec F S4096x8x192 .f32 := broadcastInDim S4096x8x192 ![] bcast_S_S4096x8x192 main_cst_0
  let main_v5 : IVec S4096x8x192 1 := cmpf .olt main_v3 main_v4
  let main_v6 : FVec F S4096x8x128 .f32 := Host.absf main_arg2
  let main_cst_1 : FVec F S_ .f32 := constant S_ .f32 0x7F800000#32
  let main_v7 : FVec F S4096x8x128 .f32 := broadcastInDim S4096x8x128 ![] bcast_S_S4096x8x128 main_cst_1
  let main_v8 : IVec S4096x8x128 1 := cmpf .olt main_v6 main_v7
  let main_v9 : FVec F S4096x8x128 .f32 := Host.absf main_arg3
  let main_cst_2 : FVec F S_ .f32 := constant S_ .f32 0x7F800000#32
  let main_v10 : FVec F S4096x8x128 .f32 := broadcastInDim S4096x8x128 ![] bcast_S_S4096x8x128 main_cst_2
  let main_v11 : IVec S4096x8x128 1 := cmpf .olt main_v9 main_v10
  let main_v12 : IVec S4096x8x640 1 := concatenate S4096x8x640 2 [⟨S4096x8x192, main_v2⟩, ⟨S4096x8x192, main_v5⟩, ⟨S4096x8x128, main_v8⟩, ⟨S4096x8x128, main_v11⟩] concatenates_S4096x8x192_S4096x8x192_S4096x8x128_S4096x8x128_S4096x8x640_d2
  main_v12
-- ==== Pre_gates_finite.lean ====
abbrev S4096x2048 : Shape := ⟨2, ![4096, 2048]⟩
abbrev S2048x2048 : Shape := ⟨2, ![2048, 2048]⟩
abbrev S4096x1024 : Shape := ⟨2, ![4096, 1024]⟩
abbrev S4096x4928 : Shape := ⟨2, ![4096, 4928]⟩
abbrev S1024 : Shape := ⟨1, ![1024]⟩
abbrev S2048 : Shape := ⟨1, ![2048]⟩
abbrev S1x2048 : Shape := ⟨2, ![1, 2048]⟩
abbrev S_ : Shape := ⟨0, ![]⟩
abbrev S10241x2048 : Shape := ⟨2, ![10241, 2048]⟩

class Facts : Prop where
  concatenates_S4096x1024_S4096x1024_S4096x2048_d1 : Shape.Concatenates [S4096x1024, S4096x1024] S4096x2048 1
  concatenates_S1024_S1024_S2048_d0 : Shape.Concatenates [S1024, S1024] S2048 0
  shapeCasts_S2048_S1x2048 : S2048.ShapeCasts S1x2048
  bcast_S_S4096x2048 : S_.BroadcastsInDim S4096x2048 (![] : Fin 0 → Fin S4096x2048.rank)
  bcast_S_S2048x2048 : S_.BroadcastsInDim S2048x2048 (![] : Fin 0 → Fin S2048x2048.rank)
  bcast_S_S1x2048 : S_.BroadcastsInDim S1x2048 (![] : Fin 0 → Fin S1x2048.rank)
  concatenates_S4096x2048_S2048x2048_S4096x2048_S1x2048_S10241x2048_d0 : Shape.Concatenates [S4096x2048, S2048x2048, S4096x2048, S1x2048] S10241x2048 0

variable [Facts]

def fn {F : FTy → Type} [FloatOps F] (main_arg0 : FVec F S4096x2048 .f32) (main_arg1 : FVec F S2048x2048 .f32) (main_arg2 : FVec F S4096x1024 .f32) (main_arg3 : FVec F S4096x4928 .f32) (main_arg4 : FVec F S4096x1024 .f32) (main_arg5 : FVec F S1024 .f32) : IVec S10241x2048 1 :=
  let main_v0 : FVec F S4096x2048 .f32 := (fun a b => concatenate S4096x2048 1 [⟨S4096x1024, a⟩, ⟨S4096x1024, b⟩] concatenates_S4096x1024_S4096x1024_S4096x2048_d1) main_arg2 main_arg4
  let main_v1 : FVec F S2048 .f32 := (fun a b => concatenate S2048 0 [⟨S1024, a⟩, ⟨S1024, b⟩] concatenates_S1024_S1024_S2048_d0) main_arg5 main_arg5
  let main_v2 : FVec F S1x2048 .f32 := shapeCast S1x2048 main_v1 shapeCasts_S2048_S1x2048
  let main_v3 : FVec F S4096x2048 .f32 := Host.absf main_arg0
  let main_cst : FVec F S_ .f32 := constant S_ .f32 0x7F800000#32
  let main_v4 : FVec F S4096x2048 .f32 := broadcastInDim S4096x2048 ![] bcast_S_S4096x2048 main_cst
  let main_v5 : IVec S4096x2048 1 := cmpf .olt main_v3 main_v4
  let main_v6 : FVec F S2048x2048 .f32 := Host.absf main_arg1
  let main_cst_0 : FVec F S_ .f32 := constant S_ .f32 0x7F800000#32
  let main_v7 : FVec F S2048x2048 .f32 := broadcastInDim S2048x2048 ![] bcast_S_S2048x2048 main_cst_0
  let main_v8 : IVec S2048x2048 1 := cmpf .olt main_v6 main_v7
  let main_v9 : FVec F S4096x2048 .f32 := Host.absf main_v0
  let main_cst_1 : FVec F S_ .f32 := constant S_ .f32 0x7F800000#32
  let main_v10 : FVec F S4096x2048 .f32 := broadcastInDim S4096x2048 ![] bcast_S_S4096x2048 main_cst_1
  let main_v11 : IVec S4096x2048 1 := cmpf .olt main_v9 main_v10
  let main_v12 : FVec F S1x2048 .f32 := Host.absf main_v2
  let main_cst_2 : FVec F S_ .f32 := constant S_ .f32 0x7F800000#32
  let main_v13 : FVec F S1x2048 .f32 := broadcastInDim S1x2048 ![] bcast_S_S1x2048 main_cst_2
  let main_v14 : IVec S1x2048 1 := cmpf .olt main_v12 main_v13
  let main_v15 : IVec S10241x2048 1 := concatenate S10241x2048 0 [⟨S4096x2048, main_v5⟩, ⟨S2048x2048, main_v8⟩, ⟨S4096x2048, main_v11⟩, ⟨S1x2048, main_v14⟩] concatenates_S4096x2048_S2048x2048_S4096x2048_S1x2048_S10241x2048_d0
  main_v15
-- ==== Pre_scores_finite.lean ====
abbrev S4096x8x192 : Shape := ⟨3, ![4096, 8, 192]⟩
abbrev S4096x8x128 : Shape := ⟨3, ![4096, 8, 128]⟩
abbrev S_ : Shape := ⟨0, ![]⟩
abbrev S4096x8x384 : Shape := ⟨3, ![4096, 8, 384]⟩

class Facts : Prop where
  bcast_S_S4096x8x192 : S_.BroadcastsInDim S4096x8x192 (![] : Fin 0 → Fin S4096x8x192.rank)
  concatenates_S4096x8x192_S4096x8x192_S4096x8x384_d2 : Shape.Concatenates [S4096x8x192, S4096x8x192] S4096x8x384 2

variable [Facts]

def fn {F : FTy → Type} [FloatOps F] (main_arg0 : FVec F S4096x8x192 .f32) (main_arg1 : FVec F S4096x8x192 .f32) (main_arg2 : FVec F S4096x8x128 .f32) : IVec S4096x8x384 1 :=
  let main_v0 : FVec F S4096x8x192 .f32 := Host.absf main_arg0
  let main_cst : FVec F S_ .f32 := constant S_ .f32 0x7F800000#32
  let main_v1 : FVec F S4096x8x192 .f32 := broadcastInDim S4096x8x192 ![] bcast_S_S4096x8x192 main_cst
  let main_v2 : IVec S4096x8x192 1 := cmpf .olt main_v0 main_v1
  let main_v3 : FVec F S4096x8x192 .f32 := Host.absf main_arg1
  let main_cst_0 : FVec F S_ .f32 := constant S_ .f32 0x7F800000#32
  let main_v4 : FVec F S4096x8x192 .f32 := broadcastInDim S4096x8x192 ![] bcast_S_S4096x8x192 main_cst_0
  let main_v5 : IVec S4096x8x192 1 := cmpf .olt main_v3 main_v4
  let main_v6 : IVec S4096x8x384 1 := (fun a b => concatenate S4096x8x384 2 [⟨S4096x8x192, a⟩, ⟨S4096x8x192, b⟩] concatenates_S4096x8x192_S4096x8x192_S4096x8x384_d2) main_v2 main_v5
  main_v6
-- ==== Kernel.lean ====
abbrev S4096x8x192 : Shape := ⟨3, ![4096, 8, 192]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8 : Shape := ⟨2, ![4096, 8]⟩
abbrev S8x4096x192 : Shape := ⟨3, ![8, 4096, 192]⟩
abbrev S8x4096x256 : Shape := ⟨3, ![8, 4096, 256]⟩
abbrev S8x4096x128 : Shape := ⟨3, ![8, 4096, 128]⟩
abbrev S4096x1024 : Shape := ⟨2, ![4096, 1024]⟩
abbrev S8x8x1x512 : Shape := ⟨4, ![8, 8, 1, 512]⟩
abbrev S1x4096x256 : Shape := ⟨3, ![1, 4096, 256]⟩
abbrev S4096x128 : Shape := ⟨2, ![4096, 128]⟩
abbrev S1x8x1x512 : Shape := ⟨4, ![1, 8, 1, 512]⟩
abbrev S1x512x256 : Shape := ⟨3, ![1, 512, 256]⟩
abbrev S1x512x128 : Shape := ⟨3, ![1, 512, 128]⟩
abbrev S512x256 : Shape := ⟨2, ![512, 256]⟩
abbrev S512x128 : Shape := ⟨2, ![512, 128]⟩
abbrev S3x512x512 : Shape := ⟨3, ![3, 512, 512]⟩
abbrev S512x512 : Shape := ⟨2, ![512, 512]⟩
abbrev S1x512x512 : Shape := ⟨3, ![1, 512, 512]⟩
abbrev S1x1x1x512 : Shape := ⟨4, ![1, 1, 1, 512]⟩
abbrev S1x512 : Shape := ⟨2, ![1, 512]⟩

abbrev nBuf : Space → Nat
  | .hbm => 77
  | .vmem => 22
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S4096x8x128, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S1x4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x4096, .f32⟩
  | .hbm, ⟨30, _⟩ => ⟨S8x4096x4096, .f32⟩
  | .hbm, ⟨31, _⟩ => ⟨S8x128x4096, .f32⟩
  | .hbm, ⟨32, _⟩ => ⟨S4096x8x128, .f32⟩
  | .hbm, ⟨33, _⟩ => ⟨S8x4096x1, .f32⟩
  | .hbm, ⟨34, _⟩ => ⟨S8x4096x1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S4096x8x128, .f32⟩
  | .hbm, ⟨41, _⟩ => ⟨S_, .f32⟩
  | .hbm, ⟨42, _⟩ => ⟨S4096x8, .f32⟩
  | .hbm, ⟨43, _⟩ => ⟨S8x4096, .f32⟩
  | .hbm, ⟨44, _⟩ => ⟨S_, .f32⟩
  | .hbm, ⟨45, _⟩ => ⟨S4096x8x192, .f32⟩
  | .hbm, ⟨46, _⟩ => ⟨S4096x8x192, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S4096x8x192, .f32⟩
  | .hbm, ⟨51, _⟩ => ⟨S4096x8x192, .f32⟩
  | .hbm, ⟨52, _⟩ => ⟨S8x4096x192, .f32⟩
  | .hbm, ⟨53, _⟩ => ⟨S_, .i32⟩
  | .hbm, ⟨54, _⟩ => ⟨S_, .f32⟩
  | .hbm, ⟨55, _⟩ => ⟨S8x4096x256, .f32⟩
  | .hbm, ⟨56, _⟩ => ⟨S8x4096x256, .bf16⟩
  | .hbm, ⟨57, _⟩ => ⟨S8x4096x192, .f32⟩
  | .hbm, ⟨58, _⟩ => ⟨S_, .i32⟩
  | .hbm, ⟨59, _⟩ => ⟨S_, .f32⟩
  | .hbm, ⟨60, _⟩ => ⟨S8x4096x256, .f32⟩
  | .hbm, ⟨61, _⟩ => ⟨S8x4096x256, .bf16⟩
  | .hbm, ⟨62, _⟩ => ⟨S8x4096x128, .f32⟩
  | .hbm, ⟨63, _⟩ => ⟨S_, .i32⟩
  | .hbm, ⟨64, _⟩ => ⟨S_, .f32⟩
  | .hbm, ⟨65, _⟩ => ⟨S8x4096x128, .f32⟩
  | .hbm, ⟨66, _⟩ => ⟨S_, .f32⟩
  | .hbm, ⟨67, _⟩ => ⟨S8x4096x128, .f32⟩
  | .hbm, ⟨68, _⟩ => ⟨S8x4096x256, .f32⟩
  | .hbm, ⟨69, _⟩ => ⟨S8x4096x256, .bf16⟩
  | .hbm, ⟨70, _⟩ => ⟨S4096x1024, .f32⟩
  | .hbm, ⟨71, _⟩ => ⟨S4096x1024, .bf16⟩
  | .hbm, ⟨72, _⟩ => ⟨S8x8x1x512, .f32⟩
  | .hbm, ⟨73, _⟩ => ⟨S8x8x1x512, .f32⟩
  | .hbm, ⟨74, _⟩ => ⟨S8x4096x256, .f32⟩
  | .hbm, ⟨75, _⟩ => ⟨S8x4096x256, .f32⟩
  | .hbm, ⟨76, _⟩ => ⟨S8x4096x128, .f32⟩
  | .local _ .vmem, ⟨0, _⟩ => ⟨S1x4096x256, .bf16⟩
  | .local _ .vmem, ⟨1, _⟩ => ⟨S1x4096x256, .bf16⟩
  | .local _ .vmem, ⟨2, _⟩ => ⟨S4096x128, .bf16⟩
  | .local _ .vmem, ⟨3, _⟩ => ⟨S4096x128, .bf16⟩
  | .local _ .vmem, ⟨4, _⟩ => ⟨S1x8x1x512, .f32⟩
  | .local _ .vmem, ⟨5, _⟩ => ⟨S1x8x1x512, .f32⟩
  | .local _ .vmem, ⟨6, _⟩ => ⟨S1x8x1x512, .f32⟩
  | .local _ .vmem, ⟨7, _⟩ => ⟨S1x8x1x512, .f32⟩
  | .local _ .vmem, ⟨8, _⟩ => ⟨S1x4096x256, .bf16⟩
  | .local _ .vmem, ⟨9, _⟩ => ⟨S1x4096x256, .bf16⟩
  | .local _ .vmem, ⟨10, _⟩ => ⟨S1x4096x256, .bf16⟩
  | .local _ .vmem, ⟨11, _⟩ => ⟨S1x4096x256, .bf16⟩
  | .local _ .vmem, ⟨12, _⟩ => ⟨S1x4096x256, .f32⟩
  | .local _ .vmem, ⟨13, _⟩ => ⟨S1x4096x256, .f32⟩
  | .local _ .vmem, ⟨14, _⟩ => ⟨S1x512x256, .f32⟩
  | .local _ .vmem, ⟨15, _⟩ => ⟨S1x512x256, .f32⟩
  | .local _ .vmem, ⟨16, _⟩ => ⟨S1x512x128, .f32⟩
  | .local _ .vmem, ⟨17, _⟩ => ⟨S1x512x128, .f32⟩
  | .local _ .vmem, ⟨18, _⟩ => ⟨S512x256, .f32⟩
  | .local _ .vmem, ⟨19, _⟩ => ⟨S512x128, .f32⟩
  | .local _ .vmem, ⟨20, _⟩ => ⟨S3x512x512, .f32⟩
  | .local _ .vmem, ⟨21, _⟩ => ⟨S3x512x512, .f32⟩
  | _, _ => ⟨S4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c : Ref sig .tc := ⟨.hbm, 53, rfl⟩
abbrev main_call1_v0 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_7 : Ref sig .tc := ⟨.hbm, 58, rfl⟩
abbrev main_call2_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_call3_v0 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52_0 : Ref sig .tc := ⟨.hbm, 74, rfl⟩
abbrev main_v52_1 : Ref sig .tc := ⟨.hbm, 75, rfl⟩
abbrev main_v52_2 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c7_i32 : BitVec 32 := 7#32
  let arg1 : BitVec 32 := BitVec.ofNat 32 (i 1).val
  let v0 : BitVec 32 := Scalar.subi c7_i32 arg1
  let c512_i32 : BitVec 32 := 512#32
  let v14 : BitVec 32 := Scalar.muli v0 c512_i32
  v14
def k0_off1 (i : grid0.Coords) : Fin 3 → Nat :=
  let c0_6 : Index := 0#32
  let c7_i32 : BitVec 32 := 7#32
  let arg1 : BitVec 32 := BitVec.ofNat 32 (i 1).val
  let v0 : BitVec 32 := Scalar.subi c7_i32 arg1
  let c512_i32 : BitVec 32 := 512#32
  let v14 : BitVec 32 := Scalar.muli v0 c512_i32
  let v15 : BitVec 32 := v14
  let v16 : Index := Scalar.indexCast v15
  let c0_7 : Index := 0#32
  ![0, v16.toNat, 0]
def k0_cond2 (i : grid0.Coords) : BitVec 1 :=
  let arg1 : BitVec 32 := BitVec.ofNat 32 (i 1).val
  let c0_i32_8 : BitVec 32 := 0#32
  let v19 : BitVec 1 := Scalar.cmpi .eq arg1 c0_i32_8
  let v20 : BitVec 32 := Scalar.extui v19
  let c0_i32_9 : BitVec 32 := 0#32
  let v21 : BitVec 1 := Scalar.cmpi .ne v20 c0_i32_9
  v21

def k0_mult2 : BitVec 32 :=
  let c3584_i32 : BitVec 32 := 3584#32
  c3584_i32
def k0_mult3 (i : grid0.Coords) : BitVec 32 :=
  let c7_i32 : BitVec 32 := 7#32
  let arg1 : BitVec 32 := BitVec.ofNat 32 (i 1).val
  let v0 : BitVec 32 := Scalar.subi c7_i32 arg1
  let c512_i32_22 : BitVec 32 := 512#32
  let v34 : BitVec 32 := Scalar.muli v0 c512_i32_22
  v34
def k0_off2 (i : grid0.Coords) : Fin 3 → Nat :=
  let c0_23 : Index := 0#32
  let c7_i32 : BitVec 32 := 7#32
  let arg1 : BitVec 32 := BitVec.ofNat 32 (i 1).val
  let v0 : BitVec 32 := Scalar.subi c7_i32 arg1
  let c512_i32_22 : BitVec 32 := 512#32
  let v34 : BitVec 32 := Scalar.muli v0 c512_i32_22
  let v35 : BitVec 32 := v34
  let v36 : Index := Scalar.indexCast v35
  let c0_24 : Index := 0#32
  ![0, v36.toNat, 0]
def k0_mult4 (i : grid0.Coords) : BitVec 32 :=
  let c7_i32 : BitVec 32 := 7#32
  let arg1 : BitVec 32 := BitVec.ofNat 32 (i 1).val
  let v0 : BitVec 32 := Scalar.subi c7_i32 arg1
  let c512_i32_30 : BitVec 32 := 512#32
  let v46 : BitVec 32 := Scalar.muli v0 c512_i32_30
  v46
def k0_off3 (i : grid0.Coords) : Fin 3 → Nat :=
  let c0_31 : Index := 0#32
  let c7_i32 : BitVec 32 := 7#32
  let arg1 : BitVec 32 := BitVec.ofNat 32 (i 1).val
  let v0 : BitVec 32 := Scalar.subi c7_i32 arg1
  let c512_i32_30 : BitVec 32 := 512#32
  let v46 : BitVec 32 := Scalar.muli v0 c512_i32_30
  let v47 : BitVec 32 := v46
  let v48 : Index := Scalar.indexCast v47
  let c0_32 : Index := 0#32
  ![0, v48.toNat, 0]
def k0_mult5 : BitVec 32 :=
  let c3584_i32_38 : BitVec 32 := 3584#32
  c3584_i32_38
def k0_mult6 : BitVec 32 :=
  let c3584_i32_71 : BitVec 32 := 3584#32
  c3584_i32_71
def k0_mult7 (i : grid0.Coords) : BitVec 32 :=
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_72 : BitVec 32 := 512#32
  let v108 : BitVec 32 := Scalar.muli v2 c512_i32_72
  v108
def k0_off4 (i : grid0.Coords) : Fin 3 → Nat :=
  let c0_73 : Index := 0#32
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_72 : BitVec 32 := 512#32
  let v108 : BitVec 32 := Scalar.muli v2 c512_i32_72
  let v109 : BitVec 32 := v108
  let v110 : Index := Scalar.indexCast v109
  let c0_74 : Index := 0#32
  ![0, v110.toNat, 0]
def k0_mult8 (i : grid0.Coords) : BitVec 32 :=
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_81 : BitVec 32 := 512#32
  let v120 : BitVec 32 := Scalar.muli v2 c512_i32_81
  v120
def k0_off5 (i : grid0.Coords) : Fin 3 → Nat :=
  let c0_82 : Index := 0#32
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_81 : BitVec 32 := 512#32
  let v120 : BitVec 32 := Scalar.muli v2 c512_i32_81
  let v121 : BitVec 32 := v120
  let v122 : Index := Scalar.indexCast v121
  let c0_83 : Index := 0#32
  ![0, v122.toNat, 0]
def k0_cond3 (i : grid0.Coords) : BitVec 1 :=
  let arg1 : BitVec 32 := BitVec.ofNat 32 (i 1).val
  let c0_i32_10 : BitVec 32 := 0#32
  let v22 : BitVec 1 := Scalar.cmpi .sgt arg1 c0_i32_10
  let v23 : BitVec 32 := Scalar.extui v22
  let c0_i32_11 : BitVec 32 := 0#32
  let v24 : BitVec 1 := Scalar.cmpi .ne v23 c0_i32_11
  v24

def k0_mult9 : BitVec 32 :=
  let c3072_i32 : BitVec 32 := 3072#32
  c3072_i32
def k0_mult10 (i : grid0.Coords) : BitVec 32 :=
  let c7_i32 : BitVec 32 := 7#32
  let arg1 : BitVec 32 := BitVec.ofNat 32 (i 1).val
  let v0 : BitVec 32 := Scalar.subi c7_i32 arg1
  let c512_i32_22 : BitVec 32 := 512#32
  let v34 : BitVec 32 := Scalar.muli v0 c512_i32_22
  v34
def k0_off6 (i : grid0.Coords) : Fin 3 → Nat :=
  let c0_23 : Index := 0#32
  let c7_i32 : BitVec 32 := 7#32
  let arg1 : BitVec 32 := BitVec.ofNat 32 (i 1).val
  let v0 : BitVec 32 := Scalar.subi c7_i32 arg1
  let c512_i32_22 : BitVec 32 := 512#32
  let v34 : BitVec 32 := Scalar.muli v0 c512_i32_22
  let v35 : BitVec 32 := v34
  let v36 : Index := Scalar.indexCast v35
  let c0_24 : Index := 0#32
  ![0, v36.toNat, 0]
def k0_mult11 (i : grid0.Coords) : BitVec 32 :=
  let c7_i32 : BitVec 32 := 7#32
  let arg1 : BitVec 32 := BitVec.ofNat 32 (i 1).val
  let v0 : BitVec 32 := Scalar.subi c7_i32 arg1
  let c512_i32_30 : BitVec 32 := 512#32
  let v46 : BitVec 32 := Scalar.muli v0 c512_i32_30
  v46
def k0_off7 (i : grid0.Coords) : Fin 3 → Nat :=
  let c0_31 : Index := 0#32
  let c7_i32 : BitVec 32 := 7#32
  let arg1 : BitVec 32 := BitVec.ofNat 32 (i 1).val
  let v0 : BitVec 32 := Scalar.subi c7_i32 arg1
  let c512_i32_30 : BitVec 32 := 512#32
  let v46 : BitVec 32 := Scalar.muli v0 c512_i32_30
  let v47 : BitVec 32 := v46
  let v48 : Index := Scalar.indexCast v47
  let c0_32 : Index := 0#32
  ![0, v48.toNat, 0]
def k0_mult12 : BitVec 32 :=
  let c3584_i32 : BitVec 32 := 3584#32
  c3584_i32
@[reducible] def k0_t1_loop (i : grid0.Coords) : Scf.Loop 32 :=
  let c0_i32_76 : BitVec 32 := 0#32
  let arg1 : BitVec 32 := BitVec.ofNat 32 (i 1).val
  let c1_i32_68 : BitVec 32 := 1#32
  let v102 : BitVec 32 := Scalar.subi arg1 c1_i32_68
  let c0_i32_69 : BitVec 32 := 0#32
  let v104 : BitVec 1 := Scalar.cmpi .sgt v102 c0_i32_69
  let v105 : BitVec 32 := Scalar.extui v104
  let c0_i32_70 : BitVec 32 := 0#32
  let v106 : BitVec 1 := Scalar.cmpi .slt v102 c0_i32_70
  let v107 : BitVec 32 := Scalar.extui v106
  let v108 : BitVec 32 := Scalar.subi v105 v107
  let c2_i32 : BitVec 32 := 2#32
  let c0_i32_71 : BitVec 32 := 0#32
  let v109 : BitVec 1 := Scalar.cmpi .sgt c2_i32 c0_i32_71
  let v110 : BitVec 32 := Scalar.extui v109
  let c0_i32_72 : BitVec 32 := 0#32
  let v111 : BitVec 1 := Scalar.cmpi .slt c2_i32 c0_i32_72
  let v112 : BitVec 32 := Scalar.extui v111
  let v113 : BitVec 32 := Scalar.subi v110 v112
  let v114 : BitVec 1 := Scalar.cmpi .ne v108 v113
  let v115 : BitVec 32 := Scalar.remsi v102 c2_i32
  let c0_i32_73 : BitVec 32 := 0#32
  let v116 : BitVec 1 := Scalar.cmpi .ne v115 c0_i32_73
  let v117 : BitVec 1 := Scalar.andi v114 v116
  let v103 : BitVec 32 := Scalar.divsi v102 c2_i32
  let c1_i32_74 : BitVec 32 := 1#32
  let v118 : BitVec 32 := Scalar.subi v103 c1_i32_74
  let v119 : BitVec 32 := Scalar.select v117 v118 v103
  let v120 : BitVec 32 := Scalar.subi v119 c0_i32_76
  let c1_i32_77 : BitVec 32 := 1#32
  let v122 : BitVec 32 := Scalar.divsi v120 c1_i32_77
  let v123 : BitVec 32 := Scalar.muli v122 c1_i32_77
  let v124 : BitVec 32 := Scalar.addi c0_i32_76 v123
  let c1_i32_78 : BitVec 32 := 1#32
  ⟨c0_i32_76, v124, c1_i32_78⟩
def k0_mult13 (i : grid0.Coords) (k0_t1 : Fin (k0_t1_loop i).trips) : BitVec 32 :=
  let c7_i32_98 : BitVec 32 := 7#32
  let c2_i32_96 : BitVec 32 := 2#32
  let c0_i32_76 : BitVec 32 := 0#32
  let c1_i32_78 : BitVec 32 := 1#32
  let arg15 : BitVec 32 := Scf.iv c0_i32_76 c1_i32_78 k0_t1
  let v151 : BitVec 32 := Scalar.muli c2_i32_96 arg15
  let c2_i32_97 : BitVec 32 := 2#32
  let v152 : BitVec 32 := Scalar.addi v151 c2_i32_97
  let v153 : BitVec 32 := Scalar.subi c7_i32_98 v152
  let c512_i32_99 : BitVec 32 := 512#32
  let v154 : BitVec 32 := Scalar.muli v153 c512_i32_99
  v154
def k0_mult14 (i : grid0.Coords) : BitVec 32 :=
  let c7_i32 : BitVec 32 := 7#32
  let arg1 : BitVec 32 := BitVec.ofNat 32 (i 1).val
  let v0 : BitVec 32 := Scalar.subi c7_i32 arg1
  let c512_i32_100 : BitVec 32 := 512#32
  let v156 : BitVec 32 := Scalar.muli v0 c512_i32_100
  v156
def k0_off8 (i : grid0.Coords) : Fin 3 → Nat :=
  let c0_101 : Index := 0#32
  let c7_i32 : BitVec 32 := 7#32
  let arg1 : BitVec 32 := BitVec.ofNat 32 (i 1).val
  let v0 : BitVec 32 := Scalar.subi c7_i32 arg1
  let c512_i32_100 : BitVec 32 := 512#32
  let v156 : BitVec 32 := Scalar.muli v0 c512_i32_100
  let v157 : BitVec 32 := v156
  let v158 : Index := Scalar.indexCast v157
  let c0_102 : Index := 0#32
  ![0, v158.toNat, 0]
def k0_off9 (i : grid0.Coords) (k0_t1 : Fin (k0_t1_loop i).trips) (c2_i32_97 : BitVec 32) : Fin 3 → Nat :=
  let c0_103 : Index := 0#32
  let c7_i32_98 : BitVec 32 := 7#32
  let c2_i32_96 : BitVec 32 := 2#32
  let c0_i32_76 : BitVec 32 := 0#32
  let c1_i32_78 : BitVec 32 := 1#32
  let arg15 : BitVec 32 := Scf.iv c0_i32_76 c1_i32_78 k0_t1
  let v151 : BitVec 32 := Scalar.muli c2_i32_96 arg15
  let v152 : BitVec 32 := Scalar.addi v151 c2_i32_97
  let v153 : BitVec 32 := Scalar.subi c7_i32_98 v152
  let c512_i32_99 : BitVec 32 := 512#32
  let v154 : BitVec 32 := Scalar.muli v153 c512_i32_99
  let v155 : BitVec 32 := v154
  let v161 : Index := Scalar.indexCast v155
  let c0_104 : Index := 0#32
  ![0, v161.toNat, 0]
def k0_mult15 (i : grid0.Coords) : BitVec 32 :=
  let c7_i32 : BitVec 32 := 7#32
  let arg1 : BitVec 32 := BitVec.ofNat 32 (i 1).val
  let v0 : BitVec 32 := Scalar.subi c7_i32 arg1
  let c512_i32_109 : BitVec 32 := 512#32
  let v168 : BitVec 32 := Scalar.muli v0 c512_i32_109
  v168
def k0_off10 (i : grid0.Coords) : Fin 3 → Nat :=
  let c0_110 : Index := 0#32
  let c7_i32 : BitVec 32 := 7#32
  let arg1 : BitVec 32 := BitVec.ofNat 32 (i 1).val
  let v0 : BitVec 32 := Scalar.subi c7_i32 arg1
  let c512_i32_109 : BitVec 32 := 512#32
  let v168 : BitVec 32 := Scalar.muli v0 c512_i32_109
  let v169 : BitVec 32 := v168
  let v170 : Index := Scalar.indexCast v169
  let c0_111 : Index := 0#32
  ![0, v170.toNat, 0]
def k0_off11 (i : grid0.Coords) (k0_t1 : Fin (k0_t1_loop i).trips) (c2_i32_97 : BitVec 32) : Fin 2 → Nat :=
  let c7_i32_98 : BitVec 32 := 7#32
  let c2_i32_96 : BitVec 32 := 2#32
  let c0_i32_76 : BitVec 32 := 0#32
  let c1_i32_78 : BitVec 32 := 1#32
  let arg15 : BitVec 32 := Scf.iv c0_i32_76 c1_i32_78 k0_t1
  let v151 : BitVec 32 := Scalar.muli c2_i32_96 arg15
  let v152 : BitVec 32 := Scalar.addi v151 c2_i32_97
  let v153 : BitVec 32 := Scalar.subi c7_i32_98 v152
  let c512_i32_99 : BitVec 32 := 512#32
  let v154 : BitVec 32 := Scalar.muli v153 c512_i32_99
  let v155 : BitVec 32 := v154
  let v173 : Index := Scalar.indexCast v155
  let c0_112 : Index := 0#32
  ![v173.toNat, 0]
def k0_mult16 (i : grid0.Coords) (k0_t1 : Fin (k0_t1_loop i).trips) : BitVec 32 :=
  let c7_i32_120 : BitVec 32 := 7#32
  let c2_i32_117 : BitVec 32 := 2#32
  let c0_i32_76 : BitVec 32 := 0#32
  let c1_i32_78 : BitVec 32 := 1#32
  let arg15 : BitVec 32 := Scf.iv c0_i32_76 c1_i32_78 k0_t1
  let v180 : BitVec 32 := Scalar.muli c2_i32_117 arg15
  let c1_i32_118 : BitVec 32 := 1#32
  let v181 : BitVec 32 := Scalar.addi v180 c1_i32_118
  let v183 : BitVec 32 := Scalar.subi c7_i32_120 v181
  let c512_i32_121 : BitVec 32 := 512#32
  let v184 : BitVec 32 := Scalar.muli v183 c512_i32_121
  v184
def k0_off12 (i : grid0.Coords) (k0_t1 : Fin (k0_t1_loop i).trips) (c1_i32_118 : BitVec 32) : Fin 4 → Nat :=
  let c0_128 : Index := 0#32
  let c7_i32_119 : BitVec 32 := 7#32
  let c2_i32_117 : BitVec 32 := 2#32
  let c0_i32_76 : BitVec 32 := 0#32
  let c1_i32_78 : BitVec 32 := 1#32
  let arg15 : BitVec 32 := Scf.iv c0_i32_76 c1_i32_78 k0_t1
  let v180 : BitVec 32 := Scalar.muli c2_i32_117 arg15
  let v181 : BitVec 32 := Scalar.addi v180 c1_i32_118
  let v182 : BitVec 32 := Scalar.subi c7_i32_119 v181
  let v194 : Index := Scalar.indexCast v182
  let c0_129 : Index := 0#32
  let c0_130 : Index := 0#32
  ![0, v194.toNat, 0, 0]
def k0_mult17 (i : grid0.Coords) (k0_t1 : Fin (k0_t1_loop i).trips) : BitVec 32 :=
  let c7_i32_153 : BitVec 32 := 7#32
  let c2_i32_152 : BitVec 32 := 2#32
  let c0_i32_76 : BitVec 32 := 0#32
  let c1_i32_78 : BitVec 32 := 1#32
  let arg15 : BitVec 32 := Scf.iv c0_i32_76 c1_i32_78 k0_t1
  let v231 : BitVec 32 := Scalar.muli c2_i32_152 arg15
  let c3_i32 : BitVec 32 := 3#32
  let v232 : BitVec 32 := Scalar.addi v231 c3_i32
  let v233 : BitVec 32 := Scalar.subi c7_i32_153 v232
  let c512_i32_154 : BitVec 32 := 512#32
  let v234 : BitVec 32 := Scalar.muli v233 c512_i32_154
  v234
def k0_mult18 (i : grid0.Coords) : BitVec 32 :=
  let c7_i32 : BitVec 32 := 7#32
  let arg1 : BitVec 32 := BitVec.ofNat 32 (i 1).val
  let v0 : BitVec 32 := Scalar.subi c7_i32 arg1
  let c512_i32_155 : BitVec 32 := 512#32
  let v236 : BitVec 32 := Scalar.muli v0 c512_i32_155
  v236
def k0_mult19 (i : grid0.Coords) : BitVec 32 :=
  let c7_i32 : BitVec 32 := 7#32
  let arg1 : BitVec 32 := BitVec.ofNat 32 (i 1).val
  let v0 : BitVec 32 := Scalar.subi c7_i32 arg1
  let c512_i32_164 : BitVec 32 := 512#32
  let v248 : BitVec 32 := Scalar.muli v0 c512_i32_164
  v248
def k0_mult20 (i : grid0.Coords) (k0_t1 : Fin (k0_t1_loop i).trips) : BitVec 32 :=
  let c7_i32_175 : BitVec 32 := 7#32
  let c2_i32_172 : BitVec 32 := 2#32
  let c0_i32_76 : BitVec 32 := 0#32
  let c1_i32_78 : BitVec 32 := 1#32
  let arg15 : BitVec 32 := Scf.iv c0_i32_76 c1_i32_78 k0_t1
  let v260 : BitVec 32 := Scalar.muli c2_i32_172 arg15
  let c2_i32_173 : BitVec 32 := 2#32
  let v261 : BitVec 32 := Scalar.addi v260 c2_i32_173
  let v263 : BitVec 32 := Scalar.subi c7_i32_175 v261
  let c512_i32_176 : BitVec 32 := 512#32
  let v264 : BitVec 32 := Scalar.muli v263 c512_i32_176
  v264
@[reducible] def k0_t2_loop (i : grid0.Coords) : Scf.Loop 32 :=
  let c0_i32_76 : BitVec 32 := 0#32
  let arg1 : BitVec 32 := BitVec.ofNat 32 (i 1).val
  let c1_i32_68 : BitVec 32 := 1#32
  let v102 : BitVec 32 := Scalar.subi arg1 c1_i32_68
  let c0_i32_69 : BitVec 32 := 0#32
  let v104 : BitVec 1 := Scalar.cmpi .sgt v102 c0_i32_69
  let v105 : BitVec 32 := Scalar.extui v104
  let c0_i32_70 : BitVec 32 := 0#32
  let v106 : BitVec 1 := Scalar.cmpi .slt v102 c0_i32_70
  let v107 : BitVec 32 := Scalar.extui v106
  let v108 : BitVec 32 := Scalar.subi v105 v107
  let c2_i32 : BitVec 32 := 2#32
  let c0_i32_71 : BitVec 32 := 0#32
  let v109 : BitVec 1 := Scalar.cmpi .sgt c2_i32 c0_i32_71
  let v110 : BitVec 32 := Scalar.extui v109
  let c0_i32_72 : BitVec 32 := 0#32
  let v111 : BitVec 1 := Scalar.cmpi .slt c2_i32 c0_i32_72
  let v112 : BitVec 32 := Scalar.extui v111
  let v113 : BitVec 32 := Scalar.subi v110 v112
  let v114 : BitVec 1 := Scalar.cmpi .ne v108 v113
  let v115 : BitVec 32 := Scalar.remsi v102 c2_i32
  let c0_i32_73 : BitVec 32 := 0#32
  let v116 : BitVec 1 := Scalar.cmpi .ne v115 c0_i32_73
  let v117 : BitVec 1 := Scalar.andi v114 v116
  let v103 : BitVec 32 := Scalar.divsi v102 c2_i32
  let c1_i32_74 : BitVec 32 := 1#32
  let v118 : BitVec 32 := Scalar.subi v103 c1_i32_74
  let v119 : BitVec 32 := Scalar.select v117 v118 v103
  let v120 : BitVec 32 := Scalar.subi v119 c0_i32_76
  let c1_i32_77 : BitVec 32 := 1#32
  let v122 : BitVec 32 := Scalar.divsi v120 c1_i32_77
  let v123 : BitVec 32 := Scalar.muli v122 c1_i32_77
  let v124 : BitVec 32 := Scalar.addi c0_i32_76 v123
  let v121 : BitVec 32 := Scalar.addi c0_i32_76 v120
  let c1_i32_79 : BitVec 32 := 1#32
  ⟨v124, v121, c1_i32_79⟩
def k0_mult21 (i : grid0.Coords) (k0_t2 : Fin (k0_t2_loop i).trips) : BitVec 32 :=
  let c7_i32_98 : BitVec 32 := 7#32
  let c2_i32_96 : BitVec 32 := 2#32
  let c0_i32_76 : BitVec 32 := 0#32
  let arg1 : BitVec 32 := BitVec.ofNat 32 (i 1).val
  let c1_i32_68 : BitVec 32 := 1#32
  let v102 : BitVec 32 := Scalar.subi arg1 c1_i32_68
  let c0_i32_69 : BitVec 32 := 0#32
  let v104 : BitVec 1 := Scalar.cmpi .sgt v102 c0_i32_69
  let v105 : BitVec 32 := Scalar.extui v104
  let c0_i32_70 : BitVec 32 := 0#32
  let v106 : BitVec 1 := Scalar.cmpi .slt v102 c0_i32_70
  let v107 : BitVec 32 := Scalar.extui v106
  let v108 : BitVec 32 := Scalar.subi v105 v107
  let c2_i32 : BitVec 32 := 2#32
  let c0_i32_71 : BitVec 32 := 0#32
  let v109 : BitVec 1 := Scalar.cmpi .sgt c2_i32 c0_i32_71
  let v110 : BitVec 32 := Scalar.extui v109
  let c0_i32_72 : BitVec 32 := 0#32
  let v111 : BitVec 1 := Scalar.cmpi .slt c2_i32 c0_i32_72
  let v112 : BitVec 32 := Scalar.extui v111
  let v113 : BitVec 32 := Scalar.subi v110 v112
  let v114 : BitVec 1 := Scalar.cmpi .ne v108 v113
  let v115 : BitVec 32 := Scalar.remsi v102 c2_i32
  let c0_i32_73 : BitVec 32 := 0#32
  let v116 : BitVec 1 := Scalar.cmpi .ne v115 c0_i32_73
  let v117 : BitVec 1 := Scalar.andi v114 v116
  let v103 : BitVec 32 := Scalar.divsi v102 c2_i32
  let c1_i32_74 : BitVec 32 := 1#32
  let v118 : BitVec 32 := Scalar.subi v103 c1_i32_74
  let v119 : BitVec 32 := Scalar.select v117 v118 v103
  let v120 : BitVec 32 := Scalar.subi v119 c0_i32_76
  let c1_i32_77 : BitVec 32 := 1#32
  let v122 : BitVec 32 := Scalar.divsi v120 c1_i32_77
  let v123 : BitVec 32 := Scalar.muli v122 c1_i32_77
  let v124 : BitVec 32 := Scalar.addi c0_i32_76 v123
  let c1_i32_79 : BitVec 32 := 1#32
  let arg15 : BitVec 32 := Scf.iv v124 c1_i32_79 k0_t2
  let v151 : BitVec 32 := Scalar.muli c2_i32_96 arg15
  let c2_i32_97 : BitVec 32 := 2#32
  let v152 : BitVec 32 := Scalar.addi v151 c2_i32_97
  let v153 : BitVec 32 := Scalar.subi c7_i32_98 v152
  let c512_i32_99 : BitVec 32 := 512#32
  let v154 : BitVec 32 := Scalar.muli v153 c512_i32_99
  v154
def k0_mult22 (i : grid0.Coords) : BitVec 32 :=
  let c7_i32 : BitVec 32 := 7#32
  let arg1 : BitVec 32 := BitVec.ofNat 32 (i 1).val
  let v0 : BitVec 32 := Scalar.subi c7_i32 arg1
  let c512_i32_100 : BitVec 32 := 512#32
  let v156 : BitVec 32 := Scalar.muli v0 c512_i32_100
  v156
def k0_off13 (i : grid0.Coords) : Fin 3 → Nat :=
  let c0_101 : Index := 0#32
  let c7_i32 : BitVec 32 := 7#32
  let arg1 : BitVec 32 := BitVec.ofNat 32 (i 1).val
  let v0 : BitVec 32 := Scalar.subi c7_i32 arg1
  let c512_i32_100 : BitVec 32 := 512#32
  let v156 : BitVec 32 := Scalar.muli v0 c512_i32_100
  let v157 : BitVec 32 := v156
  let v158 : Index := Scalar.indexCast v157
  let c0_102 : Index := 0#32
  ![0, v158.toNat, 0]
def k0_off14 (i : grid0.Coords) (k0_t2 : Fin (k0_t2_loop i).trips) (c2_i32_97 : BitVec 32) : Fin 3 → Nat :=
  let c0_103 : Index := 0#32
  let c7_i32_98 : BitVec 32 := 7#32
  let c2_i32_96 : BitVec 32 := 2#32
  let c0_i32_76 : BitVec 32 := 0#32
  let arg1 : BitVec 32 := BitVec.ofNat 32 (i 1).val
  let c1_i32_68 : BitVec 32 := 1#32
  let v102 : BitVec 32 := Scalar.subi arg1 c1_i32_68
  let c0_i32_69 : BitVec 32 := 0#32
  let v104 : BitVec 1 := Scalar.cmpi .sgt v102 c0_i32_69
  let v105 : BitVec 32 := Scalar.extui v104
  let c0_i32_70 : BitVec 32 := 0#32
  let v106 : BitVec 1 := Scalar.cmpi .slt v102 c0_i32_70
  let v107 : BitVec 32 := Scalar.extui v106
  let v108 : BitVec 32 := Scalar.subi v105 v107
  let c2_i32 : BitVec 32 := 2#32
  let c0_i32_71 : BitVec 32 := 0#32
  let v109 : BitVec 1 := Scalar.cmpi .sgt c2_i32 c0_i32_71
  let v110 : BitVec 32 := Scalar.extui v109
  let c0_i32_72 : BitVec 32 := 0#32
  let v111 : BitVec 1 := Scalar.cmpi .slt c2_i32 c0_i32_72
  let v112 : BitVec 32 := Scalar.extui v111
  let v113 : BitVec 32 := Scalar.subi v110 v112
  let v114 : BitVec 1 := Scalar.cmpi .ne v108 v113
  let v115 : BitVec 32 := Scalar.remsi v102 c2_i32
  let c0_i32_73 : BitVec 32 := 0#32
  let v116 : BitVec 1 := Scalar.cmpi .ne v115 c0_i32_73
  let v117 : BitVec 1 := Scalar.andi v114 v116
  let v103 : BitVec 32 := Scalar.divsi v102 c2_i32
  let c1_i32_74 : BitVec 32 := 1#32
  let v118 : BitVec 32 := Scalar.subi v103 c1_i32_74
  let v119 : BitVec 32 := Scalar.select v117 v118 v103
  let v120 : BitVec 32 := Scalar.subi v119 c0_i32_76
  let c1_i32_77 : BitVec 32 := 1#32
  let v122 : BitVec 32 := Scalar.divsi v120 c1_i32_77
  let v123 : BitVec 32 := Scalar.muli v122 c1_i32_77
  let v124 : BitVec 32 := Scalar.addi c0_i32_76 v123
  let c1_i32_79 : BitVec 32 := 1#32
  let arg15 : BitVec 32 := Scf.iv v124 c1_i32_79 k0_t2
  let v151 : BitVec 32 := Scalar.muli c2_i32_96 arg15
  let v152 : BitVec 32 := Scalar.addi v151 c2_i32_97
  let v153 : BitVec 32 := Scalar.subi c7_i32_98 v152
  let c512_i32_99 : BitVec 32 := 512#32
  let v154 : BitVec 32 := Scalar.muli v153 c512_i32_99
  let v155 : BitVec 32 := v154
  let v161 : Index := Scalar.indexCast v155
  let c0_104 : Index := 0#32
  ![0, v161.toNat, 0]
def k0_mult23 (i : grid0.Coords) : BitVec 32 :=
  let c7_i32 : BitVec 32 := 7#32
  let arg1 : BitVec 32 := BitVec.ofNat 32 (i 1).val
  let v0 : BitVec 32 := Scalar.subi c7_i32 arg1
  let c512_i32_109 : BitVec 32 := 512#32
  let v168 : BitVec 32 := Scalar.muli v0 c512_i32_109
  v168
def k0_off15 (i : grid0.Coords) : Fin 3 → Nat :=
  let c0_110 : Index := 0#32
  let c7_i32 : BitVec 32 := 7#32
  let arg1 : BitVec 32 := BitVec.ofNat 32 (i 1).val
  let v0 : BitVec 32 := Scalar.subi c7_i32 arg1
  let c512_i32_109 : BitVec 32 := 512#32
  let v168 : BitVec 32 := Scalar.muli v0 c512_i32_109
  let v169 : BitVec 32 := v168
  let v170 : Index := Scalar.indexCast v169
  let c0_111 : Index := 0#32
  ![0, v170.toNat, 0]
def k0_off16 (i : grid0.Coords) (k0_t2 : Fin (k0_t2_loop i).trips) (c2_i32_97 : BitVec 32) : Fin 2 → Nat :=
  let c7_i32_98 : BitVec 32 := 7#32
  let c2_i32_96 : BitVec 32 := 2#32
  let c0_i32_76 : BitVec 32 := 0#32
  let arg1 : BitVec 32 := BitVec.ofNat 32 (i 1).val
  let c1_i32_68 : BitVec 32 := 1#32
  let v102 : BitVec 32 := Scalar.subi arg1 c1_i32_68
  let c0_i32_69 : BitVec 32 := 0#32
  let v104 : BitVec 1 := Scalar.cmpi .sgt v102 c0_i32_69
  let v105 : BitVec 32 := Scalar.extui v104
  let c0_i32_70 : BitVec 32 := 0#32
  let v106 : BitVec 1 := Scalar.cmpi .slt v102 c0_i32_70
  let v107 : BitVec 32 := Scalar.extui v106
  let v108 : BitVec 32 := Scalar.subi v105 v107
  let c2_i32 : BitVec 32 := 2#32
  let c0_i32_71 : BitVec 32 := 0#32
  let v109 : BitVec 1 := Scalar.cmpi .sgt c2_i32 c0_i32_71
  let v110 : BitVec 32 := Scalar.extui v109
  let c0_i32_72 : BitVec 32 := 0#32
  let v111 : BitVec 1 := Scalar.cmpi .slt c2_i32 c0_i32_72
  let v112 : BitVec 32 := Scalar.extui v111
  let v113 : BitVec 32 := Scalar.subi v110 v112
  let v114 : BitVec 1 := Scalar.cmpi .ne v108 v113
  let v115 : BitVec 32 := Scalar.remsi v102 c2_i32
  let c0_i32_73 : BitVec 32 := 0#32
  let v116 : BitVec 1 := Scalar.cmpi .ne v115 c0_i32_73
  let v117 : BitVec 1 := Scalar.andi v114 v116
  let v103 : BitVec 32 := Scalar.divsi v102 c2_i32
  let c1_i32_74 : BitVec 32 := 1#32
  let v118 : BitVec 32 := Scalar.subi v103 c1_i32_74
  let v119 : BitVec 32 := Scalar.select v117 v118 v103
  let v120 : BitVec 32 := Scalar.subi v119 c0_i32_76
  let c1_i32_77 : BitVec 32 := 1#32
  let v122 : BitVec 32 := Scalar.divsi v120 c1_i32_77
  let v123 : BitVec 32 := Scalar.muli v122 c1_i32_77
  let v124 : BitVec 32 := Scalar.addi c0_i32_76 v123
  let c1_i32_79 : BitVec 32 := 1#32
  let arg15 : BitVec 32 := Scf.iv v124 c1_i32_79 k0_t2
  let v151 : BitVec 32 := Scalar.muli c2_i32_96 arg15
  let v152 : BitVec 32 := Scalar.addi v151 c2_i32_97
  let v153 : BitVec 32 := Scalar.subi c7_i32_98 v152
  let c512_i32_99 : BitVec 32 := 512#32
  let v154 : BitVec 32 := Scalar.muli v153 c512_i32_99
  let v155 : BitVec 32 := v154
  let v173 : Index := Scalar.indexCast v155
  let c0_112 : Index := 0#32
  ![v173.toNat, 0]
def k0_mult24 (i : grid0.Coords) (k0_t2 : Fin (k0_t2_loop i).trips) : BitVec 32 :=
  let c7_i32_120 : BitVec 32 := 7#32
  let c2_i32_117 : BitVec 32 := 2#32
  let c0_i32_76 : BitVec 32 := 0#32
  let arg1 : BitVec 32 := BitVec.ofNat 32 (i 1).val
  let c1_i32_68 : BitVec 32 := 1#32
  let v102 : BitVec 32 := Scalar.subi arg1 c1_i32_68
  let c0_i32_69 : BitVec 32 := 0#32
  let v104 : BitVec 1 := Scalar.cmpi .sgt v102 c0_i32_69
  let v105 : BitVec 32 := Scalar.extui v104
  let c0_i32_70 : BitVec 32 := 0#32
  let v106 : BitVec 1 := Scalar.cmpi .slt v102 c0_i32_70
  let v107 : BitVec 32 := Scalar.extui v106
  let v108 : BitVec 32 := Scalar.subi v105 v107
  let c2_i32 : BitVec 32 := 2#32
  let c0_i32_71 : BitVec 32 := 0#32
  let v109 : BitVec 1 := Scalar.cmpi .sgt c2_i32 c0_i32_71
  let v110 : BitVec 32 := Scalar.extui v109
  let c0_i32_72 : BitVec 32 := 0#32
  let v111 : BitVec 1 := Scalar.cmpi .slt c2_i32 c0_i32_72
  let v112 : BitVec 32 := Scalar.extui v111
  let v113 : BitVec 32 := Scalar.subi v110 v112
  let v114 : BitVec 1 := Scalar.cmpi .ne v108 v113
  let v115 : BitVec 32 := Scalar.remsi v102 c2_i32
  let c0_i32_73 : BitVec 32 := 0#32
  let v116 : BitVec 1 := Scalar.cmpi .ne v115 c0_i32_73
  let v117 : BitVec 1 := Scalar.andi v114 v116
  let v103 : BitVec 32 := Scalar.divsi v102 c2_i32
  let c1_i32_74 : BitVec 32 := 1#32
  let v118 : BitVec 32 := Scalar.subi v103 c1_i32_74
  let v119 : BitVec 32 := Scalar.select v117 v118 v103
  let v120 : BitVec 32 := Scalar.subi v119 c0_i32_76
  let c1_i32_77 : BitVec 32 := 1#32
  let v122 : BitVec 32 := Scalar.divsi v120 c1_i32_77
  let v123 : BitVec 32 := Scalar.muli v122 c1_i32_77
  let v124 : BitVec 32 := Scalar.addi c0_i32_76 v123
  let c1_i32_79 : BitVec 32 := 1#32
  let arg15 : BitVec 32 := Scf.iv v124 c1_i32_79 k0_t2
  let v180 : BitVec 32 := Scalar.muli c2_i32_117 arg15
  let c1_i32_118 : BitVec 32 := 1#32
  let v181 : BitVec 32 := Scalar.addi v180 c1_i32_118
  let v183 : BitVec 32 := Scalar.subi c7_i32_120 v181
  let c512_i32_121 : BitVec 32 := 512#32
  let v184 : BitVec 32 := Scalar.muli v183 c512_i32_121
  v184
def k0_off17 (i : grid0.Coords) (k0_t2 : Fin (k0_t2_loop i).trips) (c1_i32_118 : BitVec 32) : Fin 4 → Nat :=
  let c0_128 : Index := 0#32
  let c7_i32_119 : BitVec 32 := 7#32
  let c2_i32_117 : BitVec 32 := 2#32
  let c0_i32_76 : BitVec 32 := 0#32
  let arg1 : BitVec 32 := BitVec.ofNat 32 (i 1).val
  let c1_i32_68 : BitVec 32 := 1#32
  let v102 : BitVec 32 := Scalar.subi arg1 c1_i32_68
  let c0_i32_69 : BitVec 32 := 0#32
  let v104 : BitVec 1 := Scalar.cmpi .sgt v102 c0_i32_69
  let v105 : BitVec 32 := Scalar.extui v104
  let c0_i32_70 : BitVec 32 := 0#32
  let v106 : BitVec 1 := Scalar.cmpi .slt v102 c0_i32_70
  let v107 : BitVec 32 := Scalar.extui v106
  let v108 : BitVec 32 := Scalar.subi v105 v107
  let c2_i32 : BitVec 32 := 2#32
  let c0_i32_71 : BitVec 32 := 0#32
  let v109 : BitVec 1 := Scalar.cmpi .sgt c2_i32 c0_i32_71
  let v110 : BitVec 32 := Scalar.extui v109
  let c0_i32_72 : BitVec 32 := 0#32
  let v111 : BitVec 1 := Scalar.cmpi .slt c2_i32 c0_i32_72
  let v112 : BitVec 32 := Scalar.extui v111
  let v113 : BitVec 32 := Scalar.subi v110 v112
  let v114 : BitVec 1 := Scalar.cmpi .ne v108 v113
  let v115 : BitVec 32 := Scalar.remsi v102 c2_i32
  let c0_i32_73 : BitVec 32 := 0#32
  let v116 : BitVec 1 := Scalar.cmpi .ne v115 c0_i32_73
  let v117 : BitVec 1 := Scalar.andi v114 v116
  let v103 : BitVec 32 := Scalar.divsi v102 c2_i32
  let c1_i32_74 : BitVec 32 := 1#32
  let v118 : BitVec 32 := Scalar.subi v103 c1_i32_74
  let v119 : BitVec 32 := Scalar.select v117 v118 v103
  let v120 : BitVec 32 := Scalar.subi v119 c0_i32_76
  let c1_i32_77 : BitVec 32 := 1#32
  let v122 : BitVec 32 := Scalar.divsi v120 c1_i32_77
  let v123 : BitVec 32 := Scalar.muli v122 c1_i32_77
  let v124 : BitVec 32 := Scalar.addi c0_i32_76 v123
  let c1_i32_79 : BitVec 32 := 1#32
  let arg15 : BitVec 32 := Scf.iv v124 c1_i32_79 k0_t2
  let v180 : BitVec 32 := Scalar.muli c2_i32_117 arg15
  let v181 : BitVec 32 := Scalar.addi v180 c1_i32_118
  let v182 : BitVec 32 := Scalar.subi c7_i32_119 v181
  let v194 : Index := Scalar.indexCast v182
  let c0_129 : Index := 0#32
  let c0_130 : Index := 0#32
  ![0, v194.toNat, 0, 0]
def k0_mult25 (i : grid0.Coords) (k0_t2 : Fin (k0_t2_loop i).trips) : BitVec 32 :=
  let c7_i32_153 : BitVec 32 := 7#32
  let c2_i32_152 : BitVec 32 := 2#32
  let c0_i32_76 : BitVec 32 := 0#32
  let arg1 : BitVec 32 := BitVec.ofNat 32 (i 1).val
  let c1_i32_68 : BitVec 32 := 1#32
  let v102 : BitVec 32 := Scalar.subi arg1 c1_i32_68
  let c0_i32_69 : BitVec 32 := 0#32
  let v104 : BitVec 1 := Scalar.cmpi .sgt v102 c0_i32_69
  let v105 : BitVec 32 := Scalar.extui v104
  let c0_i32_70 : BitVec 32 := 0#32
  let v106 : BitVec 1 := Scalar.cmpi .slt v102 c0_i32_70
  let v107 : BitVec 32 := Scalar.extui v106
  let v108 : BitVec 32 := Scalar.subi v105 v107
  let c2_i32 : BitVec 32 := 2#32
  let c0_i32_71 : BitVec 32 := 0#32
  let v109 : BitVec 1 := Scalar.cmpi .sgt c2_i32 c0_i32_71
  let v110 : BitVec 32 := Scalar.extui v109
  let c0_i32_72 : BitVec 32 := 0#32
  let v111 : BitVec 1 := Scalar.cmpi .slt c2_i32 c0_i32_72
  let v112 : BitVec 32 := Scalar.extui v111
  let v113 : BitVec 32 := Scalar.subi v110 v112
  let v114 : BitVec 1 := Scalar.cmpi .ne v108 v113
  let v115 : BitVec 32 := Scalar.remsi v102 c2_i32
  let c0_i32_73 : BitVec 32 := 0#32
  let v116 : BitVec 1 := Scalar.cmpi .ne v115 c0_i32_73
  let v117 : BitVec 1 := Scalar.andi v114 v116
  let v103 : BitVec 32 := Scalar.divsi v102 c2_i32
  let c1_i32_74 : BitVec 32 := 1#32
  let v118 : BitVec 32 := Scalar.subi v103 c1_i32_74
  let v119 : BitVec 32 := Scalar.select v117 v118 v103
  let v120 : BitVec 32 := Scalar.subi v119 c0_i32_76
  let c1_i32_77 : BitVec 32 := 1#32
  let v122 : BitVec 32 := Scalar.divsi v120 c1_i32_77
  let v123 : BitVec 32 := Scalar.muli v122 c1_i32_77
  let v124 : BitVec 32 := Scalar.addi c0_i32_76 v123
  let c1_i32_79 : BitVec 32 := 1#32
  let arg15 : BitVec 32 := Scf.iv v124 c1_i32_79 k0_t2
  let v231 : BitVec 32 := Scalar.muli c2_i32_152 arg15
  let c3_i32 : BitVec 32 := 3#32
  let v232 : BitVec 32 := Scalar.addi v231 c3_i32
  let v233 : BitVec 32 := Scalar.subi c7_i32_153 v232
  let c512_i32_154 : BitVec 32 := 512#32
  let v234 : BitVec 32 := Scalar.muli v233 c512_i32_154
  v234
def k0_mult26 (i : grid0.Coords) : BitVec 32 :=
  let c7_i32 : BitVec 32 := 7#32
  let arg1 : BitVec 32 := BitVec.ofNat 32 (i 1).val
  let v0 : BitVec 32 := Scalar.subi c7_i32 arg1
  let c512_i32_155 : BitVec 32 := 512#32
  let v236 : BitVec 32 := Scalar.muli v0 c512_i32_155
  v236
def k0_mult27 (i : grid0.Coords) : BitVec 32 :=
  let c7_i32 : BitVec 32 := 7#32
  let arg1 : BitVec 32 := BitVec.ofNat 32 (i 1).val
  let v0 : BitVec 32 := Scalar.subi c7_i32 arg1
  let c512_i32_164 : BitVec 32 := 512#32
  let v248 : BitVec 32 := Scalar.muli v0 c512_i32_164
  v248
def k0_mult28 (i : grid0.Coords) (k0_t2 : Fin (k0_t2_loop i).trips) : BitVec 32 :=
  let c7_i32_175 : BitVec 32 := 7#32
  let c2_i32_172 : BitVec 32 := 2#32
  let c0_i32_76 : BitVec 32 := 0#32
  let arg1 : BitVec 32 := BitVec.ofNat 32 (i 1).val
  let c1_i32_68 : BitVec 32 := 1#32
  let v102 : BitVec 32 := Scalar.subi arg1 c1_i32_68
  let c0_i32_69 : BitVec 32 := 0#32
  let v104 : BitVec 1 := Scalar.cmpi .sgt v102 c0_i32_69
  let v105 : BitVec 32 := Scalar.extui v104
  let c0_i32_70 : BitVec 32 := 0#32
  let v106 : BitVec 1 := Scalar.cmpi .slt v102 c0_i32_70
  let v107 : BitVec 32 := Scalar.extui v106
  let v108 : BitVec 32 := Scalar.subi v105 v107
  let c2_i32 : BitVec 32 := 2#32
  let c0_i32_71 : BitVec 32 := 0#32
  let v109 : BitVec 1 := Scalar.cmpi .sgt c2_i32 c0_i32_71
  let v110 : BitVec 32 := Scalar.extui v109
  let c0_i32_72 : BitVec 32 := 0#32
  let v111 : BitVec 1 := Scalar.cmpi .slt c2_i32 c0_i32_72
  let v112 : BitVec 32 := Scalar.extui v111
  let v113 : BitVec 32 := Scalar.subi v110 v112
  let v114 : BitVec 1 := Scalar.cmpi .ne v108 v113
  let v115 : BitVec 32 := Scalar.remsi v102 c2_i32
  let c0_i32_73 : BitVec 32 := 0#32
  let v116 : BitVec 1 := Scalar.cmpi .ne v115 c0_i32_73
  let v117 : BitVec 1 := Scalar.andi v114 v116
  let v103 : BitVec 32 := Scalar.divsi v102 c2_i32
  let c1_i32_74 : BitVec 32 := 1#32
  let v118 : BitVec 32 := Scalar.subi v103 c1_i32_74
  let v119 : BitVec 32 := Scalar.select v117 v118 v103
  let v120 : BitVec 32 := Scalar.subi v119 c0_i32_76
  let c1_i32_77 : BitVec 32 := 1#32
  let v122 : BitVec 32 := Scalar.divsi v120 c1_i32_77
  let v123 : BitVec 32 := Scalar.muli v122 c1_i32_77
  let v124 : BitVec 32 := Scalar.addi c0_i32_76 v123
  let c1_i32_79 : BitVec 32 := 1#32
  let arg15 : BitVec 32 := Scf.iv v124 c1_i32_79 k0_t2
  let v260 : BitVec 32 := Scalar.muli c2_i32_172 arg15
  let c2_i32_173 : BitVec 32 := 2#32
  let v261 : BitVec 32 := Scalar.addi v260 c2_i32_173
  let v263 : BitVec 32 := Scalar.subi c7_i32_175 v261
  let c512_i32_176 : BitVec 32 := 512#32
  let v264 : BitVec 32 := Scalar.muli v263 c512_i32_176
  v264
def k0_cond4 (i : grid0.Coords) : BitVec 1 :=
  let arg1 : BitVec 32 := BitVec.ofNat 32 (i 1).val
  let c2_i32_80 : BitVec 32 := 2#32
  let c0_i32_81 : BitVec 32 := 0#32
  let v125 : BitVec 1 := Scalar.cmpi .eq c2_i32_80 c0_i32_81
  let c1_i32_82 : BitVec 32 := 1#32
  let v126 : BitVec 32 := Scalar.select v125 c1_i32_82 c2_i32_80
  let v127 : BitVec 32 := Scalar.remsi arg1 v126
  let c0_i32_84 : BitVec 32 := 0#32
  let v129 : BitVec 1 := Scalar.cmpi .slt v127 c0_i32_84
  let c0_i32_85 : BitVec 32 := 0#32
  let v130 : BitVec 1 := Scalar.cmpi .slt v126 c0_i32_85
  let v131 : BitVec 1 := Scalar.xori v129 v130
  let c0_i32_83 : BitVec 32 := 0#32
  let v128 : BitVec 1 := Scalar.cmpi .ne v127 c0_i32_83
  let v132 : BitVec 1 := Scalar.andi v131 v128
  let v133 : BitVec 32 := Scalar.addi v127 v126
  let v134 : BitVec 32 := Scalar.select v132 v133 v127
  let c1_i32_86 : BitVec 32 := 1#32
  let v135 : BitVec 1 := Scalar.cmpi .eq v134 c1_i32_86
  let v136 : BitVec 32 := Scalar.extui v135
  let c0_i32_87 : BitVec 32 := 0#32
  let v137 : BitVec 1 := Scalar.cmpi .ne v136 c0_i32_87
  v137

def k0_mult29 : BitVec 32 :=
  let c3584_i32_96 : BitVec 32 := 3584#32
  c3584_i32_96
def k0_mult30 (i : grid0.Coords) : BitVec 32 :=
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_97 : BitVec 32 := 512#32
  let v152 : BitVec 32 := Scalar.muli v2 c512_i32_97
  v152
def k0_off18 (i : grid0.Coords) : Fin 3 → Nat :=
  let c0_98 : Index := 0#32
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_97 : BitVec 32 := 512#32
  let v152 : BitVec 32 := Scalar.muli v2 c512_i32_97
  let v153 : BitVec 32 := v152
  let v154 : Index := Scalar.indexCast v153
  let c0_99 : Index := 0#32
  ![0, v154.toNat, 0]
def k0_mult31 (i : grid0.Coords) : BitVec 32 :=
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_106 : BitVec 32 := 512#32
  let v164 : BitVec 32 := Scalar.muli v2 c512_i32_106
  v164
def k0_off19 (i : grid0.Coords) : Fin 3 → Nat :=
  let c0_107 : Index := 0#32
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_106 : BitVec 32 := 512#32
  let v164 : BitVec 32 := Scalar.muli v2 c512_i32_106
  let v165 : BitVec 32 := v164
  let v166 : Index := Scalar.indexCast v165
  let c0_108 : Index := 0#32
  ![0, v166.toNat, 0]
def k0_mult32 (i : grid0.Coords) : BitVec 32 :=
  let c7_i32_115 : BitVec 32 := 7#32
  let arg1 : BitVec 32 := BitVec.ofNat 32 (i 1).val
  let v177 : BitVec 32 := Scalar.subi c7_i32_115 arg1
  let c512_i32_116 : BitVec 32 := 512#32
  let v178 : BitVec 32 := Scalar.muli v177 c512_i32_116
  v178
def k0_off20 (i : grid0.Coords) : Fin 3 → Nat :=
  let c0_117 : Index := 0#32
  let c7_i32_115 : BitVec 32 := 7#32
  let arg1 : BitVec 32 := BitVec.ofNat 32 (i 1).val
  let v177 : BitVec 32 := Scalar.subi c7_i32_115 arg1
  let c512_i32_116 : BitVec 32 := 512#32
  let v178 : BitVec 32 := Scalar.muli v177 c512_i32_116
  let v179 : BitVec 32 := v178
  let v180 : Index := Scalar.indexCast v179
  let c0_118 : Index := 0#32
  ![0, v180.toNat, 0]
def k0_off21 (i : grid0.Coords) : Fin 2 → Nat :=
  let c7_i32_115 : BitVec 32 := 7#32
  let arg1 : BitVec 32 := BitVec.ofNat 32 (i 1).val
  let v177 : BitVec 32 := Scalar.subi c7_i32_115 arg1
  let c512_i32_116 : BitVec 32 := 512#32
  let v178 : BitVec 32 := Scalar.muli v177 c512_i32_116
  let v179 : BitVec 32 := v178
  let v183 : Index := Scalar.indexCast v179
  let c0_119 : Index := 0#32
  ![v183.toNat, 0]
def k0_off22 (i : grid0.Coords) : Fin 4 → Nat :=
  let c0_123 : Index := 0#32
  let c7_i32_114 : BitVec 32 := 7#32
  let arg1 : BitVec 32 := BitVec.ofNat 32 (i 1).val
  let v176 : BitVec 32 := Scalar.subi c7_i32_114 arg1
  let v188 : Index := Scalar.indexCast v176
  let c0_124 : Index := 0#32
  let c0_125 : Index := 0#32
  ![0, v188.toNat, 0, 0]
def k0_cond5 (i : grid0.Coords) : BitVec 1 :=
  let arg1 : BitVec 32 := BitVec.ofNat 32 (i 1).val
  let c2_i32_88 : BitVec 32 := 2#32
  let c0_i32_89 : BitVec 32 := 0#32
  let v138 : BitVec 1 := Scalar.cmpi .eq c2_i32_88 c0_i32_89
  let c1_i32_90 : BitVec 32 := 1#32
  let v139 : BitVec 32 := Scalar.select v138 c1_i32_90 c2_i32_88
  let v140 : BitVec 32 := Scalar.remsi arg1 v139
  let c0_i32_92 : BitVec 32 := 0#32
  let v142 : BitVec 1 := Scalar.cmpi .slt v140 c0_i32_92
  let c0_i32_93 : BitVec 32 := 0#32
  let v143 : BitVec 1 := Scalar.cmpi .slt v139 c0_i32_93
  let v144 : BitVec 1 := Scalar.xori v142 v143
  let c0_i32_91 : BitVec 32 := 0#32
  let v141 : BitVec 1 := Scalar.cmpi .ne v140 c0_i32_91
  let v145 : BitVec 1 := Scalar.andi v144 v141
  let v146 : BitVec 32 := Scalar.addi v140 v139
  let v147 : BitVec 32 := Scalar.select v145 v146 v140
  let c0_i32_94 : BitVec 32 := 0#32
  let v148 : BitVec 1 := Scalar.cmpi .eq v147 c0_i32_94
  let v149 : BitVec 32 := Scalar.extui v148
  let c0_i32_95 : BitVec 32 := 0#32
  let v150 : BitVec 1 := Scalar.cmpi .ne v149 c0_i32_95
  v150

def k0_mult33 (i : grid0.Coords) : BitVec 32 :=
  let c7_i32_96 : BitVec 32 := 7#32
  let arg1 : BitVec 32 := BitVec.ofNat 32 (i 1).val
  let v151 : BitVec 32 := Scalar.subi c7_i32_96 arg1
  let c512_i32_97 : BitVec 32 := 512#32
  let v152 : BitVec 32 := Scalar.muli v151 c512_i32_97
  v152
def k0_mult34 (i : grid0.Coords) : BitVec 32 :=
  let c7_i32 : BitVec 32 := 7#32
  let arg1 : BitVec 32 := BitVec.ofNat 32 (i 1).val
  let v0 : BitVec 32 := Scalar.subi c7_i32 arg1
  let c512_i32_98 : BitVec 32 := 512#32
  let v154 : BitVec 32 := Scalar.muli v0 c512_i32_98
  v154
def k0_off23 (i : grid0.Coords) : Fin 3 → Nat :=
  let c0_99 : Index := 0#32
  let c7_i32 : BitVec 32 := 7#32
  let arg1 : BitVec 32 := BitVec.ofNat 32 (i 1).val
  let v0 : BitVec 32 := Scalar.subi c7_i32 arg1
  let c512_i32_98 : BitVec 32 := 512#32
  let v154 : BitVec 32 := Scalar.muli v0 c512_i32_98
  let v155 : BitVec 32 := v154
  let v156 : Index := Scalar.indexCast v155
  let c0_100 : Index := 0#32
  ![0, v156.toNat, 0]
def k0_mult35 (i : grid0.Coords) : BitVec 32 :=
  let c7_i32 : BitVec 32 := 7#32
  let arg1 : BitVec 32 := BitVec.ofNat 32 (i 1).val
  let v0 : BitVec 32 := Scalar.subi c7_i32 arg1
  let c512_i32_107 : BitVec 32 := 512#32
  let v166 : BitVec 32 := Scalar.muli v0 c512_i32_107
  v166
def k0_off24 (i : grid0.Coords) : Fin 3 → Nat :=
  let c0_108 : Index := 0#32
  let c7_i32 : BitVec 32 := 7#32
  let arg1 : BitVec 32 := BitVec.ofNat 32 (i 1).val
  let v0 : BitVec 32 := Scalar.subi c7_i32 arg1
  let c512_i32_107 : BitVec 32 := 512#32
  let v166 : BitVec 32 := Scalar.muli v0 c512_i32_107
  let v167 : BitVec 32 := v166
  let v168 : Index := Scalar.indexCast v167
  let c0_109 : Index := 0#32
  ![0, v168.toNat, 0]
def k0_off25 (i : grid0.Coords) : Fin 2 → Nat :=
  let c7_i32_96 : BitVec 32 := 7#32
  let arg1 : BitVec 32 := BitVec.ofNat 32 (i 1).val
  let v151 : BitVec 32 := Scalar.subi c7_i32_96 arg1
  let c512_i32_97 : BitVec 32 := 512#32
  let v152 : BitVec 32 := Scalar.muli v151 c512_i32_97
  let v153 : BitVec 32 := v152
  let v171 : Index := Scalar.indexCast v153
  let c0_110 : Index := 0#32
  ![v171.toNat, 0]
def k0_mult36 (i : grid0.Coords) : BitVec 32 :=
  let c7_i32_117 : BitVec 32 := 7#32
  let arg1 : BitVec 32 := BitVec.ofNat 32 (i 1).val
  let c1_i32_115 : BitVec 32 := 1#32
  let v178 : BitVec 32 := Scalar.subi arg1 c1_i32_115
  let v180 : BitVec 32 := Scalar.subi c7_i32_117 v178
  let c512_i32_118 : BitVec 32 := 512#32
  let v181 : BitVec 32 := Scalar.muli v180 c512_i32_118
  v181
def k0_off26 (i : grid0.Coords) : Fin 3 → Nat :=
  let c0_119 : Index := 0#32
  let c7_i32_117 : BitVec 32 := 7#32
  let arg1 : BitVec 32 := BitVec.ofNat 32 (i 1).val
  let c1_i32_115 : BitVec 32 := 1#32
  let v178 : BitVec 32 := Scalar.subi arg1 c1_i32_115
  let v180 : BitVec 32 := Scalar.subi c7_i32_117 v178
  let c512_i32_118 : BitVec 32 := 512#32
  let v181 : BitVec 32 := Scalar.muli v180 c512_i32_118
  let v182 : BitVec 32 := v181
  let v183 : Index := Scalar.indexCast v182
  let c0_120 : Index := 0#32
  ![0, v183.toNat, 0]
def k0_off27 (i : grid0.Coords) : Fin 2 → Nat :=
  let c7_i32_117 : BitVec 32 := 7#32
  let arg1 : BitVec 32 := BitVec.ofNat 32 (i 1).val
  let c1_i32_115 : BitVec 32 := 1#32
  let v178 : BitVec 32 := Scalar.subi arg1 c1_i32_115
  let v180 : BitVec 32 := Scalar.subi c7_i32_117 v178
  let c512_i32_118 : BitVec 32 := 512#32
  let v181 : BitVec 32 := Scalar.muli v180 c512_i32_118
  let v182 : BitVec 32 := v181
  let v186 : Index := Scalar.indexCast v182
  let c0_121 : Index := 0#32
  ![v186.toNat, 0]
def k0_off28 (i : grid0.Coords) : Fin 4 → Nat :=
  let c0_125 : Index := 0#32
  let c7_i32_116 : BitVec 32 := 7#32
  let arg1 : BitVec 32 := BitVec.ofNat 32 (i 1).val
  let c1_i32_115 : BitVec 32 := 1#32
  let v178 : BitVec 32 := Scalar.subi arg1 c1_i32_115
  let v179 : BitVec 32 := Scalar.subi c7_i32_116 v178
  let v191 : Index := Scalar.indexCast v179
  let c0_126 : Index := 0#32
  let c0_127 : Index := 0#32
  ![0, v191.toNat, 0, 0]
def k0_mult37 : BitVec 32 :=
  let c3584_i32_149 : BitVec 32 := 3584#32
  c3584_i32_149
def k0_mult38 (i : grid0.Coords) : BitVec 32 :=
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_150 : BitVec 32 := 512#32
  let v229 : BitVec 32 := Scalar.muli v2 c512_i32_150
  v229
def k0_off29 (i : grid0.Coords) : Fin 3 → Nat :=
  let c0_151 : Index := 0#32
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_150 : BitVec 32 := 512#32
  let v229 : BitVec 32 := Scalar.muli v2 c512_i32_150
  let v230 : BitVec 32 := v229
  let v231 : Index := Scalar.indexCast v230
  let c0_152 : Index := 0#32
  ![0, v231.toNat, 0]
def k0_mult39 (i : grid0.Coords) : BitVec 32 :=
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_159 : BitVec 32 := 512#32
  let v241 : BitVec 32 := Scalar.muli v2 c512_i32_159
  v241
def k0_off30 (i : grid0.Coords) : Fin 3 → Nat :=
  let c0_160 : Index := 0#32
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_159 : BitVec 32 := 512#32
  let v241 : BitVec 32 := Scalar.muli v2 c512_i32_159
  let v242 : BitVec 32 := v241
  let v243 : Index := Scalar.indexCast v242
  let c0_161 : Index := 0#32
  ![0, v243.toNat, 0]
def k0_mult40 (i : grid0.Coords) : BitVec 32 :=
  let c7_i32_168 : BitVec 32 := 7#32
  let arg1 : BitVec 32 := BitVec.ofNat 32 (i 1).val
  let v254 : BitVec 32 := Scalar.subi c7_i32_168 arg1
  let c512_i32_169 : BitVec 32 := 512#32
  let v255 : BitVec 32 := Scalar.muli v254 c512_i32_169
  v255
def k0_off31 (i : grid0.Coords) : Fin 4 → Nat :=
  let c0_176 : Index := 0#32
  let c7_i32_167 : BitVec 32 := 7#32
  let arg1 : BitVec 32 := BitVec.ofNat 32 (i 1).val
  let v253 : BitVec 32 := Scalar.subi c7_i32_167 arg1
  let v265 : Index := Scalar.indexCast v253
  let c0_177 : Index := 0#32
  let c0_178 : Index := 0#32
  ![0, v265.toNat, 0, 0]
def k0_cond1 (i : grid0.Coords) : BitVec 1 :=
  let arg1 : BitVec 32 := BitVec.ofNat 32 (i 1).val
  let c0_i32_0 : BitVec 32 := 0#32
  let v3 : BitVec 1 := Scalar.cmpi .eq arg1 c0_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4096x8x192 : Shape := ⟨3, ![4096, 8, 192]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x192 : Shape := ⟨3, ![8, 4096, 192]⟩
abbrev S8x4096x256 : Shape := ⟨3, ![8, 4096, 256]⟩
abbrev S8x4096x128 : Shape := ⟨3, ![8, 4096, 128]⟩

abbrev nBuf : Space → Nat
  | .hbm => 107
  | .vmem => 0
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S4096x8x128, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S1x4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .i1⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S8x4096, .f32⟩
  | .hbm, ⟨33, _⟩ => ⟨S_, .f32⟩
  | .hbm, ⟨34, _⟩ => ⟨S8x4096, .f32⟩
  | .hbm, ⟨35, _⟩ => ⟨S8x4096, .i1⟩
  | .hbm, ⟨36, _⟩ => ⟨S_, .f32⟩
  | .hbm, ⟨37, _⟩ => ⟨S8x4096, .f32⟩
  | .hbm, ⟨38, _⟩ => ⟨S8x4096, .i1⟩
  | .hbm, ⟨39, _⟩ => ⟨S_, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S8x4096, .f32⟩
  | .hbm, ⟨47, _⟩ => ⟨S8x4096x1, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x128x4096, .f32⟩
  | .hbm, ⟨61, _⟩ => ⟨S4096x8x128, .f32⟩
  | .hbm, ⟨62, _⟩ => ⟨S8x128x4096, .f32⟩
  | .hbm, ⟨63, _⟩ => ⟨S8x4096x4096, .f32⟩
  | .hbm, ⟨64, _⟩ => ⟨S8x128x4096, .f32⟩
  | .hbm, ⟨65, _⟩ => ⟨S4096x8x128, .f32⟩
  | .hbm, ⟨66, _⟩ => ⟨S8x4096x4096, .f32⟩
  | .hbm, ⟨67, _⟩ => ⟨S8x4096x4096, .f32⟩
  | .hbm, ⟨68, _⟩ => ⟨S8x4096x4096, .f32⟩
  | .hbm, ⟨69, _⟩ => ⟨S_, .f32⟩
  | .hbm, ⟨70, _⟩ => ⟨S8x4096, .f32⟩
  | .hbm, ⟨71, _⟩ => ⟨S8x4096x1, .f32⟩
  | .hbm, ⟨72, _⟩ => ⟨S8x4096x1, .f32⟩
  | .hbm, ⟨73, _⟩ => ⟨S8x4096x4096, .f32⟩
  | .hbm, ⟨74, _⟩ => ⟨S8x4096x4096, .f32⟩
  | .hbm, ⟨75, _⟩ => ⟨S_, .f32⟩
  | .hbm, ⟨76, _⟩ => ⟨S8x4096, .f32⟩
  | .hbm, ⟨77, _⟩ => ⟨S8x4096x4096, .f32⟩
  | .hbm, ⟨78, _⟩ => ⟨S8x4096x4096, .f32⟩
  | .hbm, ⟨79, _⟩ => ⟨S8x4096x4096, .f32⟩
  | .hbm, ⟨80, _⟩ => ⟨S_, .f32⟩
  | .hbm, ⟨81, _⟩ => ⟨S8x4096x4096, .f32⟩
  | .hbm, ⟨82, _⟩ => ⟨S8x4096x4096, .f32⟩
  | .hbm, ⟨83, _⟩ => ⟨S_, .f32⟩
  | .hbm, ⟨84, _⟩ => ⟨S8x4096x4096, .f32⟩
  | .hbm, ⟨85, _⟩ => ⟨S8x4096x4096, .f32⟩
  | .hbm, ⟨86, _⟩ => ⟨S8x4096x192, .f32⟩
  | .hbm, ⟨87, _⟩ => ⟨S4096x8x192, .f32⟩
  | .hbm, ⟨88, _⟩ => ⟨S8x4096x192, .f32⟩
  | .hbm, ⟨89, _⟩ => ⟨S4096x8x192, .f32⟩
  | .hbm, ⟨90, _⟩ => ⟨S8x4096x192, .f32⟩
  | .hbm, ⟨91, _⟩ => ⟨S_, .i32⟩
  | .hbm, ⟨92, _⟩ => ⟨S_, .f32⟩
  | .hbm, ⟨93, _⟩ => ⟨S8x4096x256, .f32⟩
  | .hbm, ⟨94, _⟩ => ⟨S_, .f32⟩
  | .hbm, ⟨95, _⟩ => ⟨S8x4096x256, .f32⟩
  | .hbm, ⟨96, _⟩ => ⟨S8x4096x256, .f32⟩
  | .hbm, ⟨97, _⟩ => ⟨S8x4096x192, .f32⟩
  | .hbm, ⟨98, _⟩ => ⟨S_, .i32⟩
  | .hbm, ⟨99, _⟩ => ⟨S_, .f32⟩
  | .hbm, ⟨100, _⟩ => ⟨S8x4096x256, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S8x4096x256, .f32⟩
  | .hbm, ⟨105, _⟩ => ⟨S8x4096x256, .f32⟩
  | .hbm, ⟨106, _⟩ => ⟨S8x4096x128, .f32⟩
  | _, _ => ⟨S4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c : Ref sig .tc := ⟨.hbm, 91, rfl⟩
abbrev main_call2_v0 : Ref sig .tc := ⟨.hbm, 92, rfl⟩
abbrev main_v65 : Ref sig .tc := ⟨.hbm, 93, rfl⟩
abbrev main_cst_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_15 : Ref sig .tc := ⟨.hbm, 98, rfl⟩
abbrev main_call3_v0 : Ref sig .tc := ⟨.hbm, 99, rfl⟩
abbrev main_v69 : Ref sig .tc := ⟨.hbm, 100, rfl⟩
abbrev main_cst_16 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]
-- ==== InProj.lean ====
abbrev S4096x2048 : Shape := ⟨2, ![4096, 2048]⟩
abbrev S2048x4928 : Shape := ⟨2, ![2048, 4928]⟩
abbrev S2048x512 : Shape := ⟨2, ![2048, 512]⟩
abbrev S2048x256 : Shape := ⟨2, ![2048, 256]⟩
abbrev S2048x64 : Shape := ⟨2, ![2048, 64]⟩
abbrev S2048x1024 : Shape := ⟨2, ![2048, 1024]⟩
abbrev S2048x2048 : Shape := ⟨2, ![2048, 2048]⟩
abbrev S_ : Shape := ⟨0, ![]⟩
abbrev S2048x5120 : Shape := ⟨2, ![2048, 5120]⟩
abbrev S5120x2048 : Shape := ⟨2, ![5120, 2048]⟩
abbrev S4096x5120 : Shape := ⟨2, ![4096, 5120]⟩
abbrev S1024x2048 : Shape := ⟨2, ![1024, 2048]⟩
abbrev S1280x2048 : Shape := ⟨2, ![1280, 2048]⟩
abbrev S1024x1280 : Shape := ⟨2, ![1024, 1280]⟩

abbrev nBuf : Space → Nat
  | .hbm => 16
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x4928, .f32⟩
  | .hbm, ⟨2, _⟩ => ⟨S4096x2048, .bf16⟩
  | .hbm, ⟨3, _⟩ => ⟨S2048x512, .f32⟩
  | .hbm, ⟨4, _⟩ => ⟨S2048x256, .f32⟩
  | .hbm, ⟨5, _⟩ => ⟨S2048x64, .f32⟩
  | .hbm, ⟨6, _⟩ => ⟨S2048x1024, .f32⟩
  | .hbm, ⟨7, _⟩ => ⟨S2048x2048, .f32⟩
  | .hbm, ⟨8, _⟩ => ⟨S2048x1024, .f32⟩
  | .hbm, ⟨9, _⟩ => ⟨S_, .i32⟩
  | .hbm, ⟨10, _⟩ => ⟨S_, .f32⟩
  | .hbm, ⟨11, _⟩ => ⟨S2048x256, .f32⟩
  | .hbm, ⟨12, _⟩ => ⟨S2048x5120, .f32⟩
  | .hbm, ⟨13, _⟩ => ⟨S5120x2048, .f32⟩
  | .hbm, ⟨14, _⟩ => ⟨S5120x2048, .bf16⟩
  | .hbm, ⟨15, _⟩ => ⟨S4096x5120, .f32⟩
  | .local _ .vmem, ⟨0, _⟩ => ⟨S1024x2048, .bf16⟩
  | .local _ .vmem, ⟨1, _⟩ => ⟨S1024x2048, .bf16⟩
  | .local _ .vmem, ⟨2, _⟩ => ⟨S1280x2048, .bf16⟩
  | .local _ .vmem, ⟨3, _⟩ => ⟨S1280x2048, .bf16⟩
  | .local _ .vmem, ⟨4, _⟩ => ⟨S1024x1280, .f32⟩
  | .local _ .vmem, ⟨5, _⟩ => ⟨S1024x1280, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjReferenceIdeal.lean ====
abbrev S4096x2048 : Shape := ⟨2, ![4096, 2048]⟩
abbrev S2048x4928 : Shape := ⟨2, ![2048, 4928]⟩
abbrev S4096x4928 : Shape := ⟨2, ![4096, 4928]⟩
abbrev S4096x512 : Shape := ⟨2, ![4096, 512]⟩
abbrev S4096x256 : Shape := ⟨2, ![4096, 256]⟩
abbrev S4096x64 : Shape := ⟨2, ![4096, 64]⟩
abbrev S4096x1024 : Shape := ⟨2, ![4096, 1024]⟩
abbrev S_ : Shape := ⟨0, ![]⟩
abbrev S4096x192 : Shape := ⟨2, ![4096, 192]⟩
abbrev S4096x5120 : Shape := ⟨2, ![4096, 5120]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4928, .f32⟩
  | .hbm, ⟨2, _⟩ => ⟨S4096x4928, .f32⟩
  | .hbm, ⟨3, _⟩ => ⟨S4096x512, .f32⟩
  | .hbm, ⟨4, _⟩ => ⟨S4096x256, .f32⟩
  | .hbm, ⟨5, _⟩ => ⟨S4096x64, .f32⟩
  | .hbm, ⟨6, _⟩ => ⟨S4096x1024, .f32⟩
  | .hbm, ⟨7, _⟩ => ⟨S4096x2048, .f32⟩
  | .hbm, ⟨8, _⟩ => ⟨S4096x1024, .f32⟩
  | .hbm, ⟨9, _⟩ => ⟨S_, .f32⟩
  | .hbm, ⟨10, _⟩ => ⟨S4096x192, .f32⟩
  | .hbm, ⟨11, _⟩ => ⟨S4096x5120, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DH.lean ====
abbrev S2048x4928 : Shape := ⟨2, ![2048, 4928]⟩
abbrev S4096x4928 : Shape := ⟨2, ![4096, 4928]⟩
abbrev S4096x512 : Shape := ⟨2, ![4096, 512]⟩
abbrev S4096x256 : Shape := ⟨2, ![4096, 256]⟩
abbrev S4096x64 : Shape := ⟨2, ![4096, 64]⟩
abbrev S4096x1024 : Shape := ⟨2, ![4096, 1024]⟩
abbrev S4096x2048 : Shape := ⟨2, ![4096, 2048]⟩
abbrev S_ : Shape := ⟨0, ![]⟩
abbrev S4096x5120 : Shape := ⟨2, ![4096, 5120]⟩
abbrev S2048x512 : Shape := ⟨2, ![2048, 512]⟩
abbrev S2048x256 : Shape := ⟨2, ![2048, 256]⟩
abbrev S2048x64 : Shape := ⟨2, ![2048, 64]⟩
abbrev S2048x1024 : Shape := ⟨2, ![2048, 1024]⟩
abbrev S2048x2048 : Shape := ⟨2, ![2048, 2048]⟩
abbrev S2048x5120 : Shape := ⟨2, ![2048, 5120]⟩
abbrev S5120x2048 : Shape := ⟨2, ![5120, 2048]⟩
abbrev S512x5120 : Shape := ⟨2, ![512, 5120]⟩
abbrev S5120x1024 : Shape := ⟨2, ![5120, 1024]⟩
abbrev S512x1024 : Shape := ⟨2, ![512, 1024]⟩

abbrev nBuf : Space → Nat
  | .hbm => 26
  | .vmem => 6
  | .smem => 0
  | _ => 0

abbrev bufTy : (tb : Table) → Fin (tcTables nBuf tb) → BufTy
  | .hbm, ⟨0, _⟩ => ⟨S2048x4928, .f32⟩
  | .hbm, ⟨1, _⟩ => ⟨S4096x4928, .f32⟩
  | .hbm, ⟨2, _⟩ => ⟨S4096x512, .f32⟩
  | .hbm, ⟨3, _⟩ => ⟨S4096x256, .f32⟩
  | .hbm, ⟨4, _⟩ => ⟨S4096x64, .f32⟩
  | .hbm, ⟨5, _⟩ => ⟨S4096x1024, .f32⟩
  | .hbm, ⟨6, _⟩ => ⟨S4096x2048, .f32⟩
  | .hbm, ⟨7, _⟩ => ⟨S4096x1024, .f32⟩
  | .hbm, ⟨8, _⟩ => ⟨S_, .i32⟩
  | .hbm, ⟨9, _⟩ => ⟨S_, .f32⟩
  | .hbm, ⟨10, _⟩ => ⟨S4096x256, .f32⟩
  | .hbm, ⟨11, _⟩ => ⟨S4096x5120, .f32⟩
  | .hbm, ⟨12, _⟩ => ⟨S4096x5120, .bf16⟩
  | .hbm, ⟨13, _⟩ => ⟨S2048x512, .f32⟩
  | .hbm, ⟨14, _⟩ => ⟨S2048x256, .f32⟩
  | .hbm, ⟨15, _⟩ => ⟨S2048x64, .f32⟩
  | .hbm, ⟨16, _⟩ => ⟨S2048x1024, .f32⟩
  | .hbm, ⟨17, _⟩ => ⟨S2048x2048, .f32⟩
  | .hbm, ⟨18, _⟩ => ⟨S2048x1024, .f32⟩
  | .hbm, ⟨19, _⟩ => ⟨S_, .i32⟩
  | .hbm, ⟨20, _⟩ => ⟨S_, .f32⟩
  | .hbm, ⟨21, _⟩ => ⟨S2048x256, .f32⟩
  | .hbm, ⟨22, _⟩ => ⟨S2048x5120, .f32⟩
  | .hbm, ⟨23, _⟩ => ⟨S5120x2048, .f32⟩
  | .hbm, ⟨24, _⟩ => ⟨S5120x2048, .bf16⟩
  | .hbm, ⟨25, _⟩ => ⟨S4096x2048, .f32⟩
  | .local _ .vmem, ⟨0, _⟩ => ⟨S512x5120, .bf16⟩
  | .local _ .vmem, ⟨1, _⟩ => ⟨S512x5120, .bf16⟩
  | .local _ .vmem, ⟨2, _⟩ => ⟨S5120x1024, .bf16⟩
  | .local _ .vmem, ⟨3, _⟩ => ⟨S5120x1024, .bf16⟩
  | .local _ .vmem, ⟨4, _⟩ => ⟨S512x1024, .f32⟩
  | .local _ .vmem, ⟨5, _⟩ => ⟨S512x1024, .f32⟩
  | _, _ => ⟨S2048x4928, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_call1_v0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5120x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHReferenceIdeal.lean ====
abbrev S2048x4928 : Shape := ⟨2, ![2048, 4928]⟩
abbrev S4096x4928 : Shape := ⟨2, ![4096, 4928]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x4928, .f32⟩
  | .hbm, ⟨1, _⟩ => ⟨S4096x4928, .f32⟩
  | .hbm, ⟨2, _⟩ => ⟨S_, .f32⟩
  | .hbm, ⟨3, _⟩ => ⟨S4096x2048, .f32⟩
  | .hbm, ⟨4, _⟩ => ⟨S4096x4928, .f32⟩
  | .hbm, ⟨5, _⟩ => ⟨S4096x2048, .f32⟩
  | _, _ => ⟨S2048x4928, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GWIn.lean ====
abbrev S4096x2048 : Shape := ⟨2, ![4096, 2048]⟩
abbrev S4096x4928 : Shape := ⟨2, ![4096, 4928]⟩
abbrev S4096x512 : Shape := ⟨2, ![4096, 512]⟩
abbrev S4096x256 : Shape := ⟨2, ![4096, 256]⟩
abbrev S4096x64 : Shape := ⟨2, ![4096, 64]⟩
abbrev S4096x1024 : Shape := ⟨2, ![4096, 1024]⟩
abbrev S_ : Shape := ⟨0, ![]⟩
abbrev S4096x5120 : Shape := ⟨2, ![4096, 5120]⟩
abbrev S5120x2048 : Shape := ⟨2, ![5120, 2048]⟩
abbrev S1024x1024 : Shape := ⟨2, ![1024, 1024]⟩

abbrev nBuf : Space → Nat
  | .hbm => 15
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x4928, .f32⟩
  | .hbm, ⟨2, _⟩ => ⟨S4096x512, .f32⟩
  | .hbm, ⟨3, _⟩ => ⟨S4096x256, .f32⟩
  | .hbm, ⟨4, _⟩ => ⟨S4096x64, .f32⟩
  | .hbm, ⟨5, _⟩ => ⟨S4096x1024, .f32⟩
  | .hbm, ⟨6, _⟩ => ⟨S4096x2048, .f32⟩
  | .hbm, ⟨7, _⟩ => ⟨S4096x1024, .f32⟩
  | .hbm, ⟨8, _⟩ => ⟨S_, .i32⟩
  | .hbm, ⟨9, _⟩ => ⟨S_, .f32⟩
  | .hbm, ⟨10, _⟩ => ⟨S4096x256, .f32⟩
  | .hbm, ⟨11, _⟩ => ⟨S4096x5120, .f32⟩
  | .hbm, ⟨12, _⟩ => ⟨S4096x5120, .bf16⟩
  | .hbm, ⟨13, _⟩ => ⟨S4096x2048, .bf16⟩
  | .hbm, ⟨14, _⟩ => ⟨S5120x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GWInReferenceIdeal.lean ====
abbrev S4096x2048 : Shape := ⟨2, ![4096, 2048]⟩
abbrev S4096x4928 : Shape := ⟨2, ![4096, 4928]⟩
abbrev S_ : Shape := ⟨0, ![]⟩
abbrev S2048x4928 : Shape := ⟨2, ![2048, 4928]⟩
abbrev S4928x2048 : Shape := ⟨2, ![4928, 2048]⟩
abbrev S2048x512 : Shape := ⟨2, ![2048, 512]⟩
abbrev S2048x256 : Shape := ⟨2, ![2048, 256]⟩
abbrev S2048x64 : Shape := ⟨2, ![2048, 64]⟩
abbrev S2048x1024 : Shape := ⟨2, ![2048, 1024]⟩
abbrev S2048x2048 : Shape := ⟨2, ![2048, 2048]⟩
abbrev S2048x192 : Shape := ⟨2, ![2048, 192]⟩
abbrev S2048x5120 : Shape := ⟨2, ![2048, 5120]⟩
abbrev S5120x2048 : Shape := ⟨2, ![5120, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4928, .f32⟩
  | .hbm, ⟨2, _⟩ => ⟨S_, .f32⟩
  | .hbm, ⟨3, _⟩ => ⟨S2048x4928, .f32⟩
  | .hbm, ⟨4, _⟩ => ⟨S4096x4928, .f32⟩
  | .hbm, ⟨5, _⟩ => ⟨S4928x2048, .f32⟩
  | .hbm, ⟨6, _⟩ => ⟨S2048x4928, .f32⟩
  | .hbm, ⟨7, _⟩ => ⟨S2048x512, .f32⟩
  | .hbm, ⟨8, _⟩ => ⟨S2048x256, .f32⟩
  | .hbm, ⟨9, _⟩ => ⟨S2048x64, .f32⟩
  | .hbm, ⟨10, _⟩ => ⟨S2048x1024, .f32⟩
  | .hbm, ⟨11, _⟩ => ⟨S2048x2048, .f32⟩
  | .hbm, ⟨12, _⟩ => ⟨S2048x1024, .f32⟩
  | .hbm, ⟨13, _⟩ => ⟨S_, .f32⟩
  | .hbm, ⟨14, _⟩ => ⟨S2048x192, .f32⟩
  | .hbm, ⟨15, _⟩ => ⟨S2048x5120, .f32⟩
  | .hbm, ⟨16, _⟩ => ⟨S5120x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== OutProj.lean ====
abbrev S4096x1024 : Shape := ⟨2, ![4096, 1024]⟩
abbrev S2048x2048 : Shape := ⟨2, ![2048, 2048]⟩
abbrev S4096x2048 : Shape := ⟨2, ![4096, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 10
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2048x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S2048x2048, .bf16⟩
  | .hbm, ⟨8, _⟩ => ⟨S4096x2048, .f32⟩
  | .hbm, ⟨9, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutProjReferenceIdeal.lean ====
abbrev S4096x1024 : Shape := ⟨2, ![4096, 1024]⟩
abbrev S2048x2048 : Shape := ⟨2, ![2048, 2048]⟩
abbrev S4096x2048 : Shape := ⟨2, ![4096, 2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2048x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== GWOut.lean ====
abbrev S4096x1024 : Shape := ⟨2, ![4096, 1024]⟩
abbrev S4096x2048 : Shape := ⟨2, ![4096, 2048]⟩
abbrev S2048x2048 : Shape := ⟨2, ![2048, 2048]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S4096x2048, .bf16⟩
  | .hbm, ⟨6, _⟩ => ⟨S2048x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GWOutReferenceIdeal.lean ====
abbrev S4096x1024 : Shape := ⟨2, ![4096, 1024]⟩
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== GWPw.lean ====
abbrev S4096x1024 : Shape := ⟨2, ![4096, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GWPwReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DU3.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DU3ReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GateBwd.lean ====
abbrev S4096x2048 : Shape := ⟨2, ![4096, 2048]⟩
abbrev S2048x2048 : Shape := ⟨2, ![2048, 2048]⟩
abbrev S4096x1024 : Shape := ⟨2, ![4096, 1024]⟩
abbrev S4096x4928 : Shape := ⟨2, ![4096, 4928]⟩
abbrev S1024 : Shape := ⟨1, ![1024]⟩
abbrev S4096x512 : Shape := ⟨2, ![4096, 512]⟩
abbrev S4096x256 : Shape := ⟨2, ![4096, 256]⟩
abbrev S4096x64 : Shape := ⟨2, ![4096, 64]⟩
abbrev S_ : Shape := ⟨0, ![]⟩
abbrev S4096x5120 : Shape := ⟨2, ![4096, 5120]⟩
abbrev S1x1024 : Shape := ⟨2, ![1, 1024]⟩
abbrev S8x8x1x512 : Shape := ⟨4, ![8, 8, 1, 512]⟩
abbrev S512x2048 : Shape := ⟨2, ![512, 2048]⟩
abbrev S512x1024 : Shape := ⟨2, ![512, 1024]⟩
abbrev S8x1x1x512 : Shape := ⟨4, ![8, 1, 1, 512]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S1x512 : Shape := ⟨2, ![1, 512]⟩
abbrev S1x1x1x512 : Shape := ⟨4, ![1, 1, 1, 512]⟩

abbrev nBuf : Space → Nat
  | .hbm => 25
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x1024, .f32⟩
  | .hbm, ⟨3, _⟩ => ⟨S4096x4928, .f32⟩
  | .hbm, ⟨4, _⟩ => ⟨S4096x1024, .f32⟩
  | .hbm, ⟨5, _⟩ => ⟨S1024, .f32⟩
  | .hbm, ⟨6, _⟩ => ⟨S4096x2048, .bf16⟩
  | .hbm, ⟨7, _⟩ => ⟨S2048x2048, .bf16⟩
  | .hbm, ⟨8, _⟩ => ⟨S4096x512, .f32⟩
  | .hbm, ⟨9, _⟩ => ⟨S4096x256, .f32⟩
  | .hbm, ⟨10, _⟩ => ⟨S4096x64, .f32⟩
  | .hbm, ⟨11, _⟩ => ⟨S4096x1024, .f32⟩
  | .hbm, ⟨12, _⟩ => ⟨S4096x2048, .f32⟩
  | .hbm, ⟨13, _⟩ => ⟨S4096x1024, .f32⟩
  | .hbm, ⟨14, _⟩ => ⟨S_, .i32⟩
  | .hbm, ⟨15, _⟩ => ⟨S_, .f32⟩
  | .hbm, ⟨16, _⟩ => ⟨S4096x256, .f32⟩
  | .hbm, ⟨17, _⟩ => ⟨S4096x5120, .f32⟩
  | .hbm, ⟨18, _⟩ => ⟨S1x1024, .f32⟩
  | .hbm, ⟨19, _⟩ => ⟨S4096x1024, .bf16⟩
  | .hbm, ⟨20, _⟩ => ⟨S8x8x1x512, .f32⟩
  | .hbm, ⟨21, _⟩ => ⟨S4096x1024, .bf16⟩
  | .hbm, ⟨22, _⟩ => ⟨S1x1024, .f32⟩
  | .hbm, ⟨23, _⟩ => ⟨S4096x5120, .bf16⟩
  | .hbm, ⟨24, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S8x1x1x512, .f32⟩
  | .local _ .vmem, ⟨15, _⟩ => ⟨S8x1x1x512, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S512x2048, .bf16⟩
  | .local _ .vmem, ⟨20, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== GateBwdReferenceIdeal.lean ====
abbrev S4096x2048 : Shape := ⟨2, ![4096, 2048]⟩
abbrev S2048x2048 : Shape := ⟨2, ![2048, 2048]⟩
abbrev S4096x1024 : Shape := ⟨2, ![4096, 1024]⟩
abbrev S4096x4928 : Shape := ⟨2, ![4096, 4928]⟩
abbrev S1024 : Shape := ⟨1, ![1024]⟩
abbrev S4096x512 : Shape := ⟨2, ![4096, 512]⟩
abbrev S4096x256 : Shape := ⟨2, ![4096, 256]⟩
abbrev S4096x64 : Shape := ⟨2, ![4096, 64]⟩
abbrev S_ : Shape := ⟨0, ![]⟩
abbrev S1x1024 : Shape := ⟨2, ![1, 1024]⟩
abbrev S4096x8x128 : Shape := ⟨3, ![4096, 8, 128]⟩
abbrev S4096x8 : Shape := ⟨2, ![4096, 8]⟩
abbrev S8x4096 : Shape := ⟨2, ![8, 4096]⟩
abbrev S8x8x1x512 : Shape := ⟨4, ![8, 8, 1, 512]⟩

abbrev nBuf : Space → Nat
  | .hbm => 76
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x1024, .f32⟩
  | .hbm, ⟨3, _⟩ => ⟨S4096x4928, .f32⟩
  | .hbm, ⟨4, _⟩ => ⟨S4096x1024, .f32⟩
  | .hbm, ⟨5, _⟩ => ⟨S1024, .f32⟩
  | .hbm, ⟨6, _⟩ => ⟨S4096x512, .f32⟩
  | .hbm, ⟨7, _⟩ => ⟨S4096x256, .f32⟩
  | .hbm, ⟨8, _⟩ => ⟨S4096x64, .f32⟩
  | .hbm, ⟨9, _⟩ => ⟨S4096x1024, .f32⟩
  | .hbm, ⟨10, _⟩ => ⟨S4096x2048, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x8x128, .f32⟩
  | .hbm, ⟨67, _⟩ => ⟨S_, .f32⟩
  | .hbm, ⟨68, _⟩ => ⟨S4096x8, .f32⟩
  | .hbm, ⟨69, _⟩ => ⟨S8x4096, .f32⟩
  | .hbm, ⟨70, _⟩ => ⟨S8x8x1x512, .f32⟩
  | .hbm, ⟨71, _⟩ => ⟨S4096x1024, .bf16⟩
  | .hbm, ⟨72, _⟩ => ⟨S4096x1024, .bf16⟩
  | .hbm, ⟨73, _⟩ => ⟨S1x1024, .f32⟩
  | .hbm, ⟨74, _⟩ => ⟨S4096x2048, .f32⟩
  | .hbm, ⟨75, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v6_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v6_1 : Ref sig .tc := ⟨.hbm, 23, rfl⟩
abbrev main_v6_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_v11_2 : Ref sig .tc := ⟨.hbm, 36, rfl⟩
abbrev main_call1_cst_1 : Ref sig .tc := ⟨.hbm, 37, rfl⟩
abbrev main_call1_v6 : Ref sig .tc := ⟨.hbm, 38, rfl⟩
abbrev main_call1_v7 : Ref sig .tc := ⟨.hbm, 39, rfl⟩
abbrev main_v11_1 : Ref sig .tc := ⟨.hbm, 40, rfl⟩
abbrev main_v11_0 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v20 : Ref sig .tc := ⟨.hbm, 53, rfl⟩
abbrev main_cst : Ref sig .tc := ⟨.hbm, 54, rfl⟩
abbrev main_v21 : Ref sig .tc := ⟨.hbm, 55, rfl⟩
abbrev main_v22 : Ref sig .tc := ⟨.hbm, 56, rfl⟩
abbrev main_cst_0 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_1 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩

abbrev nD : Nat := 1
abbrev τ : Topo := Topo.v7x

variable {F : FTy → Type} [FloatOps F]
-- ==== FlashFwd.lean ====
abbrev S4096x8x192 : Shape := ⟨3, ![4096, 8, 192]⟩
abbrev S4096x8x128 : Shape := ⟨3, ![4096, 8, 128]⟩
abbrev S_ : Shape := ⟨0, ![]⟩
abbrev S8x4096x192 : Shape := ⟨3, ![8, 4096, 192]⟩
abbrev S8x4096x256 : Shape := ⟨3, ![8, 4096, 256]⟩
abbrev S8x4096x128 : Shape := ⟨3, ![8, 4096, 128]⟩
abbrev S4096x1024 : Shape := ⟨2, ![4096, 1024]⟩
abbrev S8x8x1x512 : Shape := ⟨4, ![8, 8, 1, 512]⟩
abbrev S1x4096x256 : Shape := ⟨3, ![1, 4096, 256]⟩
abbrev S512x128 : Shape := ⟨2, ![512, 128]⟩
abbrev S1x1x1x512 : Shape := ⟨4, ![1, 1, 1, 512]⟩
abbrev S512x256 : Shape := ⟨2, ![512, 256]⟩
abbrev S3x512x512 : Shape := ⟨3, ![3, 512, 512]⟩
abbrev S1x512x256 : Shape := ⟨3, ![1, 512, 256]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S128x512 : Shape := ⟨2, ![128, 512]⟩
abbrev S1x512 : Shape := ⟨2, ![1, 512]⟩

abbrev nBuf : Space → Nat
  | .hbm => 31
  | .vmem => 13
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S_, .f32⟩
  | .hbm, ⟨4, _⟩ => ⟨S4096x8x192, .f32⟩
  | .hbm, ⟨5, _⟩ => ⟨S4096x8x192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x8x192, .f32⟩
  | .hbm, ⟨10, _⟩ => ⟨S4096x8x192, .f32⟩
  | .hbm, ⟨11, _⟩ => ⟨S8x4096x192, .f32⟩
  | .hbm, ⟨12, _⟩ => ⟨S_, .i32⟩
  | .hbm, ⟨13, _⟩ => ⟨S_, .f32⟩
  | .hbm, ⟨14, _⟩ => ⟨S8x4096x256, .f32⟩
  | .hbm, ⟨15, _⟩ => ⟨S8x4096x256, .bf16⟩
  | .hbm, ⟨16, _⟩ => ⟨S8x4096x192, .f32⟩
  | .hbm, ⟨17, _⟩ => ⟨S_, .i32⟩
  | .hbm, ⟨18, _⟩ => ⟨S_, .f32⟩
  | .hbm, ⟨19, _⟩ => ⟨S8x4096x256, .f32⟩
  | .hbm, ⟨20, _⟩ => ⟨S8x4096x256, .bf16⟩
  | .hbm, ⟨21, _⟩ => ⟨S8x4096x128, .f32⟩
  | .hbm, ⟨22, _⟩ => ⟨S_, .i32⟩
  | .hbm, ⟨23, _⟩ => ⟨S_, .f32⟩
  | .hbm, ⟨24, _⟩ => ⟨S8x4096x128, .f32⟩
  | .hbm, ⟨25, _⟩ => ⟨S_, .f32⟩
  | .hbm, ⟨26, _⟩ => ⟨S8x4096x128, .f32⟩
  | .hbm, ⟨27, _⟩ => ⟨S8x4096x256, .f32⟩
  | .hbm, ⟨28, _⟩ => ⟨S8x4096x256, .bf16⟩
  | .hbm, ⟨29, _⟩ => ⟨S4096x1024, .f32⟩
  | .hbm, ⟨30, _⟩ => ⟨S8x8x1x512, .f32⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S512x128, .f32⟩
  | .local _ .vmem, ⟨7, _⟩ => ⟨S512x128, .f32⟩
  | .local _ .vmem, ⟨8, _⟩ => ⟨S1x1x1x512, .f32⟩
  | .local _ .vmem, ⟨9, _⟩ => ⟨S1x1x1x512, .f32⟩
  | .local _ .vmem, ⟨10, _⟩ => ⟨S512x128, .f32⟩
  | .local _ .vmem, ⟨11, _⟩ => ⟨S512x256, .f32⟩
  | .local _ .vmem, ⟨12, _⟩ => ⟨S3x512x512, .f32⟩
  | _, _ => ⟨S4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_call2_v0 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v10 : BitVec 1 := Scalar.cmpi .eq arg1 c0_i32
  let v11 : BitVec 32 := Scalar.extui v10
  let c0_i32_4 : BitVec 32 := 0#32
  let v12 : BitVec 1 := Scalar.cmpi .ne v11 c0_i32_4
  v12

def k0_mult1 : BitVec 32 :=
  let c0_i32_19 : BitVec 32 := 0#32
  c0_i32_19
def k0_mult2 : BitVec 32 :=
  let c0_i32_22 : BitVec 32 := 0#32
  c0_i32_22
def k0_mult3 : BitVec 32 :=
  let c0_i32_37 : BitVec 32 := 0#32
  c0_i32_37
def k0_mult4 (i : grid0.Coords) : BitVec 32 :=
  let arg1 : BitVec 32 := BitVec.ofNat 32 (i 1).val
  let c1_i32 : BitVec 32 := 1#32
  let v8 : BitVec 32 := Scalar.addi arg1 c1_i32
  let c7_i32 : BitVec 32 := 7#32
  let v9 : BitVec 32 := Scalar.minsi v8 c7_i32
  let c512_i32 : BitVec 32 := 512#32
  let v75 : BitVec 32 := Scalar.muli v9 c512_i32
  v75
def k0_off1 (i : grid0.Coords) : Fin 3 → Nat :=
  let c0_45 : Index := 0#32
  let arg1 : BitVec 32 := BitVec.ofNat 32 (i 1).val
  let c1_i32 : BitVec 32 := 1#32
  let v8 : BitVec 32 := Scalar.addi arg1 c1_i32
  let c7_i32 : BitVec 32 := 7#32
  let v9 : BitVec 32 := Scalar.minsi v8 c7_i32
  let c512_i32 : BitVec 32 := 512#32
  let v75 : BitVec 32 := Scalar.muli v9 c512_i32
  let v76 : BitVec 32 := v75
  let v77 : Index := Scalar.indexCast v76
  let c0_46 : Index := 0#32
  ![0, v77.toNat, 0]
def k0_mult5 : BitVec 32 :=
  let c0_i32_47 : BitVec 32 := 0#32
  c0_i32_47
def k0_cond2 (i : grid0.Coords) : BitVec 1 :=
  let arg1 : BitVec 32 := BitVec.ofNat 32 (i 1).val
  let c0_i32_5 : BitVec 32 := 0#32
  let v13 : BitVec 1 := Scalar.cmpi .sgt arg1 c0_i32_5
  let v14 : BitVec 32 := Scalar.extui v13
  let c0_i32_6 : BitVec 32 := 0#32
  let v15 : BitVec 1 := Scalar.cmpi .ne v14 c0_i32_6
  v15

def k0_mult6 (i : grid0.Coords) : BitVec 32 :=
  let arg1 : BitVec 32 := BitVec.ofNat 32 (i 1).val
  let c512_i32 : BitVec 32 := 512#32
  let v30 : BitVec 32 := Scalar.muli arg1 c512_i32
  v30
def k0_off2 (i : grid0.Coords) : Fin 3 → Nat :=
  let c0_19 : Index := 0#32
  let arg1 : BitVec 32 := BitVec.ofNat 32 (i 1).val
  let c512_i32 : BitVec 32 := 512#32
  let v30 : BitVec 32 := Scalar.muli arg1 c512_i32
  let v31 : BitVec 32 := v30
  let v32 : Index := Scalar.indexCast v31
  let c0_20 : Index := 0#32
  ![0, v32.toNat, 0]
def k0_mult7 : BitVec 32 :=
  let c512_i32_21 : BitVec 32 := 512#32
  c512_i32_21
def k0_mult8 : BitVec 32 :=
  let c0_i32_34 : BitVec 32 := 0#32
  c0_i32_34
@[reducible] def k0_t1_loop (i : grid0.Coords) : Scf.Loop 32 :=
  let c0_i32_50 : BitVec 32 := 0#32
  let arg1 : BitVec 32 := BitVec.ofNat 32 (i 1).val
  let c1_i32_42 : BitVec 32 := 1#32
  let v71 : BitVec 32 := Scalar.subi arg1 c1_i32_42
  let c0_i32_43 : BitVec 32 := 0#32
  let v73 : BitVec 1 := Scalar.cmpi .sgt v71 c0_i32_43
  let v74 : BitVec 32 := Scalar.extui v73
  let c0_i32_44 : BitVec 32 := 0#32
  let v75 : BitVec 1 := Scalar.cmpi .slt v71 c0_i32_44
  let v76 : BitVec 32 := Scalar.extui v75
  let v77 : BitVec 32 := Scalar.subi v74 v76
  let c2_i32 : BitVec 32 := 2#32
  let c0_i32_45 : BitVec 32 := 0#32
  let v78 : BitVec 1 := Scalar.cmpi .sgt c2_i32 c0_i32_45
  let v79 : BitVec 32 := Scalar.extui v78
  let c0_i32_46 : BitVec 32 := 0#32
  let v80 : BitVec 1 := Scalar.cmpi .slt c2_i32 c0_i32_46
  let v81 : BitVec 32 := Scalar.extui v80
  let v82 : BitVec 32 := Scalar.subi v79 v81
  let v83 : BitVec 1 := Scalar.cmpi .ne v77 v82
  let v84 : BitVec 32 := Scalar.remsi v71 c2_i32
  let c0_i32_47 : BitVec 32 := 0#32
  let v85 : BitVec 1 := Scalar.cmpi .ne v84 c0_i32_47
  let v86 : BitVec 1 := Scalar.andi v83 v85
  let v72 : BitVec 32 := Scalar.divsi v71 c2_i32
  let c1_i32_48 : BitVec 32 := 1#32
  let v87 : BitVec 32 := Scalar.subi v72 c1_i32_48
  let v88 : BitVec 32 := Scalar.select v86 v87 v72
  let v89 : BitVec 32 := Scalar.subi v88 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_52 : BitVec 32 := 1#32
  ⟨c0_i32_50, v93, c1_i32_52⟩
def k0_mult9 (i : grid0.Coords) : BitVec 32 :=
  let arg1 : BitVec 32 := BitVec.ofNat 32 (i 1).val
  let c512_i32_72 : BitVec 32 := 512#32
  let v122 : BitVec 32 := Scalar.muli arg1 c512_i32_72
  v122
def k0_off3 (i : grid0.Coords) : Fin 3 → Nat :=
  let c0_73 : Index := 0#32
  let arg1 : BitVec 32 := BitVec.ofNat 32 (i 1).val
  let c512_i32_72 : BitVec 32 := 512#32
  let v122 : BitVec 32 := Scalar.muli arg1 c512_i32_72
  let v123 : BitVec 32 := v122
  let v124 : Index := Scalar.indexCast v123
  let c0_74 : Index := 0#32
  ![0, v124.toNat, 0]
def k0_mult10 (i : grid0.Coords) (k0_t1 : Fin (k0_t1_loop i).trips) : BitVec 32 :=
  let c2_i32_70 : BitVec 32 := 2#32
  let c0_i32_50 : BitVec 32 := 0#32
  let c1_i32_52 : BitVec 32 := 1#32
  let arg10 : BitVec 32 := Scf.iv c0_i32_50 c1_i32_52 k0_t1
  let v120 : BitVec 32 := Scalar.muli c2_i32_70 arg10
  let c2_i32_71 : BitVec 32 := 2#32
  let v121 : BitVec 32 := Scalar.addi v120 c2_i32_71
  let c512_i32_75 : BitVec 32 := 512#32
  let v127 : BitVec 32 := Scalar.muli v121 c512_i32_75
  v127
def k0_off4 (i : grid0.Coords) (k0_t1 : Fin (k0_t1_loop i).trips) (c2_i32_71 : BitVec 32) : Fin 3 → Nat :=
  let c0_76 : Index := 0#32
  let c2_i32_70 : BitVec 32 := 2#32
  let c0_i32_50 : BitVec 32 := 0#32
  let c1_i32_52 : BitVec 32 := 1#32
  let arg10 : BitVec 32 := Scf.iv c0_i32_50 c1_i32_52 k0_t1
  let v120 : BitVec 32 := Scalar.muli c2_i32_70 arg10
  let v121 : BitVec 32 := Scalar.addi v120 c2_i32_71
  let c512_i32_75 : BitVec 32 := 512#32
  let v127 : BitVec 32 := Scalar.muli v121 c512_i32_75
  let v128 : BitVec 32 := v127
  let v129 : Index := Scalar.indexCast v128
  let c0_77 : Index := 0#32
  ![0, v129.toNat, 0]
def k0_mult11 (i : grid0.Coords) (k0_t1 : Fin (k0_t1_loop i).trips) : BitVec 32 :=
  let c2_i32_82 : BitVec 32 := 2#32
  let c0_i32_50 : BitVec 32 := 0#32
  let c1_i32_52 : BitVec 32 := 1#32
  let arg10 : BitVec 32 := Scf.iv c0_i32_50 c1_i32_52 k0_t1
  let v136 : BitVec 32 := Scalar.muli c2_i32_82 arg10
  let c1_i32_83 : BitVec 32 := 1#32
  let v137 : BitVec 32 := Scalar.addi v136 c1_i32_83
  let c512_i32_92 : BitVec 32 := 512#32
  let v154 : BitVec 32 := Scalar.muli v137 c512_i32_92
  v154
def k0_mult12 (i : grid0.Coords) : BitVec 32 :=
  let arg1 : BitVec 32 := BitVec.ofNat 32 (i 1).val
  let c512_i32_101 : BitVec 32 := 512#32
  let v169 : BitVec 32 := Scalar.muli arg1 c512_i32_101
  v169
def k0_mult13 (i : grid0.Coords) (k0_t1 : Fin (k0_t1_loop i).trips) : BitVec 32 :=
  let c2_i32_100 : BitVec 32 := 2#32
  let c0_i32_50 : BitVec 32 := 0#32
  let c1_i32_52 : BitVec 32 := 1#32
  let arg10 : BitVec 32 := Scf.iv c0_i32_50 c1_i32_52 k0_t1
  let v167 : BitVec 32 := Scalar.muli c2_i32_100 arg10
  let c3_i32 : BitVec 32 := 3#32
  let v168 : BitVec 32 := Scalar.addi v167 c3_i32
  let c512_i32_104 : BitVec 32 := 512#32
  let v174 : BitVec 32 := Scalar.muli v168 c512_i32_104
  v174
def k0_mult14 (i : grid0.Coords) (k0_t1 : Fin (k0_t1_loop i).trips) : BitVec 32 :=
  let c2_i32_111 : BitVec 32 := 2#32
  let c0_i32_50 : BitVec 32 := 0#32
  let c1_i32_52 : BitVec 32 := 1#32
  let arg10 : BitVec 32 := Scf.iv c0_i32_50 c1_i32_52 k0_t1
  let v183 : BitVec 32 := Scalar.muli c2_i32_111 arg10
  let c2_i32_112 : BitVec 32 := 2#32
  let v184 : BitVec 32 := Scalar.addi v183 c2_i32_112
  let c512_i32_121 : BitVec 32 := 512#32
  let v201 : BitVec 32 := Scalar.muli v184 c512_i32_121
  v201
@[reducible] def k0_t2_loop (i : grid0.Coords) : Scf.Loop 32 :=
  let c0_i32_50 : BitVec 32 := 0#32
  let arg1 : BitVec 32 := BitVec.ofNat 32 (i 1).val
  let c1_i32_42 : BitVec 32 := 1#32
  let v71 : BitVec 32 := Scalar.subi arg1 c1_i32_42
  let c0_i32_43 : BitVec 32 := 0#32
  let v73 : BitVec 1 := Scalar.cmpi .sgt v71 c0_i32_43
  let v74 : BitVec 32 := Scalar.extui v73
  let c0_i32_44 : BitVec 32 := 0#32
  let v75 : BitVec 1 := Scalar.cmpi .slt v71 c0_i32_44
  let v76 : BitVec 32 := Scalar.extui v75
  let v77 : BitVec 32 := Scalar.subi v74 v76
  let c2_i32 : BitVec 32 := 2#32
  let c0_i32_45 : BitVec 32 := 0#32
  let v78 : BitVec 1 := Scalar.cmpi .sgt c2_i32 c0_i32_45
  let v79 : BitVec 32 := Scalar.extui v78
  let c0_i32_46 : BitVec 32 := 0#32
  let v80 : BitVec 1 := Scalar.cmpi .slt c2_i32 c0_i32_46
  let v81 : BitVec 32 := Scalar.extui v80
  let v82 : BitVec 32 := Scalar.subi v79 v81
  let v83 : BitVec 1 := Scalar.cmpi .ne v77 v82
  let v84 : BitVec 32 := Scalar.remsi v71 c2_i32
  let c0_i32_47 : BitVec 32 := 0#32
  let v85 : BitVec 1 := Scalar.cmpi .ne v84 c0_i32_47
  let v86 : BitVec 1 := Scalar.andi v83 v85
  let v72 : BitVec 32 := Scalar.divsi v71 c2_i32
  let c1_i32_48 : BitVec 32 := 1#32
  let v87 : BitVec 32 := Scalar.subi v72 c1_i32_48
  let v88 : BitVec 32 := Scalar.select v86 v87 v72
  let v89 : BitVec 32 := Scalar.subi v88 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let v90 : BitVec 32 := Scalar.addi c0_i32_50 v89
  let c1_i32_53 : BitVec 32 := 1#32
  ⟨v93, v90, c1_i32_53⟩
def k0_mult15 (i : grid0.Coords) : BitVec 32 :=
  let arg1 : BitVec 32 := BitVec.ofNat 32 (i 1).val
  let c512_i32_72 : BitVec 32 := 512#32
  let v122 : BitVec 32 := Scalar.muli arg1 c512_i32_72
  v122
def k0_off5 (i : grid0.Coords) : Fin 3 → Nat :=
  let c0_73 : Index := 0#32
  let arg1 : BitVec 32 := BitVec.ofNat 32 (i 1).val
  let c512_i32_72 : BitVec 32 := 512#32
  let v122 : BitVec 32 := Scalar.muli arg1 c512_i32_72
  let v123 : BitVec 32 := v122
  let v124 : Index := Scalar.indexCast v123
  let c0_74 : Index := 0#32
  ![0, v124.toNat, 0]
def k0_mult16 (i : grid0.Coords) (k0_t2 : Fin (k0_t2_loop i).trips) : BitVec 32 :=
  let c2_i32_70 : BitVec 32 := 2#32
  let c0_i32_50 : BitVec 32 := 0#32
  let arg1 : BitVec 32 := BitVec.ofNat 32 (i 1).val
  let c1_i32_42 : BitVec 32 := 1#32
  let v71 : BitVec 32 := Scalar.subi arg1 c1_i32_42
  let c0_i32_43 : BitVec 32 := 0#32
  let v73 : BitVec 1 := Scalar.cmpi .sgt v71 c0_i32_43
  let v74 : BitVec 32 := Scalar.extui v73
  let c0_i32_44 : BitVec 32 := 0#32
  let v75 : BitVec 1 := Scalar.cmpi .slt v71 c0_i32_44
  let v76 : BitVec 32 := Scalar.extui v75
  let v77 : BitVec 32 := Scalar.subi v74 v76
  let c2_i32 : BitVec 32 := 2#32
  let c0_i32_45 : BitVec 32 := 0#32
  let v78 : BitVec 1 := Scalar.cmpi .sgt c2_i32 c0_i32_45
  let v79 : BitVec 32 := Scalar.extui v78
  let c0_i32_46 : BitVec 32 := 0#32
  let v80 : BitVec 1 := Scalar.cmpi .slt c2_i32 c0_i32_46
  let v81 : BitVec 32 := Scalar.extui v80
  let v82 : BitVec 32 := Scalar.subi v79 v81
  let v83 : BitVec 1 := Scalar.cmpi .ne v77 v82
  let v84 : BitVec 32 := Scalar.remsi v71 c2_i32
  let c0_i32_47 : BitVec 32 := 0#32
  let v85 : BitVec 1 := Scalar.cmpi .ne v84 c0_i32_47
  let v86 : BitVec 1 := Scalar.andi v83 v85
  let v72 : BitVec 32 := Scalar.divsi v71 c2_i32
  let c1_i32_48 : BitVec 32 := 1#32
  let v87 : BitVec 32 := Scalar.subi v72 c1_i32_48
  let v88 : BitVec 32 := Scalar.select v86 v87 v72
  let v89 : BitVec 32 := Scalar.subi v88 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t2
  let v120 : BitVec 32 := Scalar.muli c2_i32_70 arg10
  let c2_i32_71 : BitVec 32 := 2#32
  let v121 : BitVec 32 := Scalar.addi v120 c2_i32_71
  let c512_i32_75 : BitVec 32 := 512#32
  let v127 : BitVec 32 := Scalar.muli v121 c512_i32_75
  v127
def k0_off6 (i : grid0.Coords) (k0_t2 : Fin (k0_t2_loop i).trips) (c2_i32_71 : BitVec 32) : Fin 3 → Nat :=
  let c0_76 : Index := 0#32
  let c2_i32_70 : BitVec 32 := 2#32
  let c0_i32_50 : BitVec 32 := 0#32
  let arg1 : BitVec 32 := BitVec.ofNat 32 (i 1).val
  let c1_i32_42 : BitVec 32 := 1#32
  let v71 : BitVec 32 := Scalar.subi arg1 c1_i32_42
  let c0_i32_43 : BitVec 32 := 0#32
  let v73 : BitVec 1 := Scalar.cmpi .sgt v71 c0_i32_43
  let v74 : BitVec 32 := Scalar.extui v73
  let c0_i32_44 : BitVec 32 := 0#32
  let v75 : BitVec 1 := Scalar.cmpi .slt v71 c0_i32_44
  let v76 : BitVec 32 := Scalar.extui v75
  let v77 : BitVec 32 := Scalar.subi v74 v76
  let c2_i32 : BitVec 32 := 2#32
  let c0_i32_45 : BitVec 32 := 0#32
  let v78 : BitVec 1 := Scalar.cmpi .sgt c2_i32 c0_i32_45
  let v79 : BitVec 32 := Scalar.extui v78
  let c0_i32_46 : BitVec 32 := 0#32
  let v80 : BitVec 1 := Scalar.cmpi .slt c2_i32 c0_i32_46
  let v81 : BitVec 32 := Scalar.extui v80
  let v82 : BitVec 32 := Scalar.subi v79 v81
  let v83 : BitVec 1 := Scalar.cmpi .ne v77 v82
  let v84 : BitVec 32 := Scalar.remsi v71 c2_i32
  let c0_i32_47 : BitVec 32 := 0#32
  let v85 : BitVec 1 := Scalar.cmpi .ne v84 c0_i32_47
  let v86 : BitVec 1 := Scalar.andi v83 v85
  let v72 : BitVec 32 := Scalar.divsi v71 c2_i32
  let c1_i32_48 : BitVec 32 := 1#32
  let v87 : BitVec 32 := Scalar.subi v72 c1_i32_48
  let v88 : BitVec 32 := Scalar.select v86 v87 v72
  let v89 : BitVec 32 := Scalar.subi v88 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t2
  let v120 : BitVec 32 := Scalar.muli c2_i32_70 arg10
  let v121 : BitVec 32 := Scalar.addi v120 c2_i32_71
  let c512_i32_75 : BitVec 32 := 512#32
  let v127 : BitVec 32 := Scalar.muli v121 c512_i32_75
  let v128 : BitVec 32 := v127
  let v129 : Index := Scalar.indexCast v128
  let c0_77 : Index := 0#32
  ![0, v129.toNat, 0]
def k0_mult17 (i : grid0.Coords) (k0_t2 : Fin (k0_t2_loop i).trips) : BitVec 32 :=
  let c2_i32_82 : BitVec 32 := 2#32
  let c0_i32_50 : BitVec 32 := 0#32
  let arg1 : BitVec 32 := BitVec.ofNat 32 (i 1).val
  let c1_i32_42 : BitVec 32 := 1#32
  let v71 : BitVec 32 := Scalar.subi arg1 c1_i32_42
  let c0_i32_43 : BitVec 32 := 0#32
  let v73 : BitVec 1 := Scalar.cmpi .sgt v71 c0_i32_43
  let v74 : BitVec 32 := Scalar.extui v73
  let c0_i32_44 : BitVec 32 := 0#32
  let v75 : BitVec 1 := Scalar.cmpi .slt v71 c0_i32_44
  let v76 : BitVec 32 := Scalar.extui v75
  let v77 : BitVec 32 := Scalar.subi v74 v76
  let c2_i32 : BitVec 32 := 2#32
  let c0_i32_45 : BitVec 32 := 0#32
  let v78 : BitVec 1 := Scalar.cmpi .sgt c2_i32 c0_i32_45
  let v79 : BitVec 32 := Scalar.extui v78
  let c0_i32_46 : BitVec 32 := 0#32
  let v80 : BitVec 1 := Scalar.cmpi .slt c2_i32 c0_i32_46
  let v81 : BitVec 32 := Scalar.extui v80
  let v82 : BitVec 32 := Scalar.subi v79 v81
  let v83 : BitVec 1 := Scalar.cmpi .ne v77 v82
  let v84 : BitVec 32 := Scalar.remsi v71 c2_i32
  let c0_i32_47 : BitVec 32 := 0#32
  let v85 : BitVec 1 := Scalar.cmpi .ne v84 c0_i32_47
  let v86 : BitVec 1 := Scalar.andi v83 v85
  let v72 : BitVec 32 := Scalar.divsi v71 c2_i32
  let c1_i32_48 : BitVec 32 := 1#32
  let v87 : BitVec 32 := Scalar.subi v72 c1_i32_48
  let v88 : BitVec 32 := Scalar.select v86 v87 v72
  let v89 : BitVec 32 := Scalar.subi v88 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t2
  let v136 : BitVec 32 := Scalar.muli c2_i32_82 arg10
  let c1_i32_83 : BitVec 32 := 1#32
  let v137 : BitVec 32 := Scalar.addi v136 c1_i32_83
  let c512_i32_92 : BitVec 32 := 512#32
  let v154 : BitVec 32 := Scalar.muli v137 c512_i32_92
  v154
def k0_mult18 (i : grid0.Coords) : BitVec 32 :=
  let arg1 : BitVec 32 := BitVec.ofNat 32 (i 1).val
  let c512_i32_101 : BitVec 32 := 512#32
  let v169 : BitVec 32 := Scalar.muli arg1 c512_i32_101
  v169
def k0_mult19 (i : grid0.Coords) (k0_t2 : Fin (k0_t2_loop i).trips) : BitVec 32 :=
  let c2_i32_100 : BitVec 32 := 2#32
  let c0_i32_50 : BitVec 32 := 0#32
  let arg1 : BitVec 32 := BitVec.ofNat 32 (i 1).val
  let c1_i32_42 : BitVec 32 := 1#32
  let v71 : BitVec 32 := Scalar.subi arg1 c1_i32_42
  let c0_i32_43 : BitVec 32 := 0#32
  let v73 : BitVec 1 := Scalar.cmpi .sgt v71 c0_i32_43
  let v74 : BitVec 32 := Scalar.extui v73
  let c0_i32_44 : BitVec 32 := 0#32
  let v75 : BitVec 1 := Scalar.cmpi .slt v71 c0_i32_44
  let v76 : BitVec 32 := Scalar.extui v75
  let v77 : BitVec 32 := Scalar.subi v74 v76
  let c2_i32 : BitVec 32 := 2#32
  let c0_i32_45 : BitVec 32 := 0#32
  let v78 : BitVec 1 := Scalar.cmpi .sgt c2_i32 c0_i32_45
  let v79 : BitVec 32 := Scalar.extui v78
  let c0_i32_46 : BitVec 32 := 0#32
  let v80 : BitVec 1 := Scalar.cmpi .slt c2_i32 c0_i32_46
  let v81 : BitVec 32 := Scalar.extui v80
  let v82 : BitVec 32 := Scalar.subi v79 v81
  let v83 : BitVec 1 := Scalar.cmpi .ne v77 v82
  let v84 : BitVec 32 := Scalar.remsi v71 c2_i32
  let c0_i32_47 : BitVec 32 := 0#32
  let v85 : BitVec 1 := Scalar.cmpi .ne v84 c0_i32_47
  let v86 : BitVec 1 := Scalar.andi v83 v85
  let v72 : BitVec 32 := Scalar.divsi v71 c2_i32
  let c1_i32_48 : BitVec 32 := 1#32
  let v87 : BitVec 32 := Scalar.subi v72 c1_i32_48
  let v88 : BitVec 32 := Scalar.select v86 v87 v72
  let v89 : BitVec 32 := Scalar.subi v88 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t2
  let v167 : BitVec 32 := Scalar.muli c2_i32_100 arg10
  let c3_i32 : BitVec 32 := 3#32
  let v168 : BitVec 32 := Scalar.addi v167 c3_i32
  let c512_i32_104 : BitVec 32 := 512#32
  let v174 : BitVec 32 := Scalar.muli v168 c512_i32_104
  v174
def k0_mult20 (i : grid0.Coords) (k0_t2 : Fin (k0_t2_loop i).trips) : BitVec 32 :=
  let c2_i32_111 : BitVec 32 := 2#32
  let c0_i32_50 : BitVec 32 := 0#32
  let arg1 : BitVec 32 := BitVec.ofNat 32 (i 1).val
  let c1_i32_42 : BitVec 32 := 1#32
  let v71 : BitVec 32 := Scalar.subi arg1 c1_i32_42
  let c0_i32_43 : BitVec 32 := 0#32
  let v73 : BitVec 1 := Scalar.cmpi .sgt v71 c0_i32_43
  let v74 : BitVec 32 := Scalar.extui v73
  let c0_i32_44 : BitVec 32 := 0#32
  let v75 : BitVec 1 := Scalar.cmpi .slt v71 c0_i32_44
  let v76 : BitVec 32 := Scalar.extui v75
  let v77 : BitVec 32 := Scalar.subi v74 v76
  let c2_i32 : BitVec 32 := 2#32
  let c0_i32_45 : BitVec 32 := 0#32
  let v78 : BitVec 1 := Scalar.cmpi .sgt c2_i32 c0_i32_45
  let v79 : BitVec 32 := Scalar.extui v78
  let c0_i32_46 : BitVec 32 := 0#32
  let v80 : BitVec 1 := Scalar.cmpi .slt c2_i32 c0_i32_46
  let v81 : BitVec 32 := Scalar.extui v80
  let v82 : BitVec 32 := Scalar.subi v79 v81
  let v83 : BitVec 1 := Scalar.cmpi .ne v77 v82
  let v84 : BitVec 32 := Scalar.remsi v71 c2_i32
  let c0_i32_47 : BitVec 32 := 0#32
  let v85 : BitVec 1 := Scalar.cmpi .ne v84 c0_i32_47
  let v86 : BitVec 1 := Scalar.andi v83 v85
  let v72 : BitVec 32 := Scalar.divsi v71 c2_i32
  let c1_i32_48 : BitVec 32 := 1#32
  let v87 : BitVec 32 := Scalar.subi v72 c1_i32_48
  let v88 : BitVec 32 := Scalar.select v86 v87 v72
  let v89 : BitVec 32 := Scalar.subi v88 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t2
  let v183 : BitVec 32 := Scalar.muli c2_i32_111 arg10
  let c2_i32_112 : BitVec 32 := 2#32
  let v184 : BitVec 32 := Scalar.addi v183 c2_i32_112
  let c512_i32_121 : BitVec 32 := 512#32
  let v201 : BitVec 32 := Scalar.muli v184 c512_i32_121
  v201
def k0_cond3 (i : grid0.Coords) : BitVec 1 :=
  let arg1 : BitVec 32 := BitVec.ofNat 32 (i 1).val
  let c2_i32_54 : BitVec 32 := 2#32
  let c0_i32_55 : BitVec 32 := 0#32
  let v94 : BitVec 1 := Scalar.cmpi .eq c2_i32_54 c0_i32_55
  let c1_i32_56 : BitVec 32 := 1#32
  let v95 : BitVec 32 := Scalar.select v94 c1_i32_56 c2_i32_54
  let v96 : BitVec 32 := Scalar.remsi arg1 v95
  let c0_i32_58 : BitVec 32 := 0#32
  let v98 : BitVec 1 := Scalar.cmpi .slt v96 c0_i32_58
  let c0_i32_59 : BitVec 32 := 0#32
  let v99 : BitVec 1 := Scalar.cmpi .slt v95 c0_i32_59
  let v100 : BitVec 1 := Scalar.xori v98 v99
  let c0_i32_57 : BitVec 32 := 0#32
  let v97 : BitVec 1 := Scalar.cmpi .ne v96 c0_i32_57
  let v101 : BitVec 1 := Scalar.andi v100 v97
  let v102 : BitVec 32 := Scalar.addi v96 v95
  let v103 : BitVec 32 := Scalar.select v101 v102 v96
  let c1_i32_60 : BitVec 32 := 1#32
  let v104 : BitVec 1 := Scalar.cmpi .eq v103 c1_i32_60
  let v105 : BitVec 32 := Scalar.extui v104
  let c0_i32_61 : BitVec 32 := 0#32
  let v106 : BitVec 1 := Scalar.cmpi .ne v105 c0_i32_61
  v106

def k0_mult21 (i : grid0.Coords) : BitVec 32 :=
  let arg1 : BitVec 32 := BitVec.ofNat 32 (i 1).val
  let c1_i32 : BitVec 32 := 1#32
  let v8 : BitVec 32 := Scalar.addi arg1 c1_i32
  let c7_i32 : BitVec 32 := 7#32
  let v9 : BitVec 32 := Scalar.minsi v8 c7_i32
  let c512_i32_70 : BitVec 32 := 512#32
  let v120 : BitVec 32 := Scalar.muli v9 c512_i32_70
  v120
def k0_off7 (i : grid0.Coords) : Fin 3 → Nat :=
  let c0_71 : Index := 0#32
  let arg1 : BitVec 32 := BitVec.ofNat 32 (i 1).val
  let c1_i32 : BitVec 32 := 1#32
  let v8 : BitVec 32 := Scalar.addi arg1 c1_i32
  let c7_i32 : BitVec 32 := 7#32
  let v9 : BitVec 32 := Scalar.minsi v8 c7_i32
  let c512_i32_70 : BitVec 32 := 512#32
  let v120 : BitVec 32 := Scalar.muli v9 c512_i32_70
  let v121 : BitVec 32 := v120
  let v122 : Index := Scalar.indexCast v121
  let c0_72 : Index := 0#32
  ![0, v122.toNat, 0]
def k0_mult22 : BitVec 32 :=
  let c0_i32_73 : BitVec 32 := 0#32
  c0_i32_73
def k0_mult23 (i : grid0.Coords) : BitVec 32 :=
  let arg1 : BitVec 32 := BitVec.ofNat 32 (i 1).val
  let c512_i32_89 : BitVec 32 := 512#32
  let v154 : BitVec 32 := Scalar.muli arg1 c512_i32_89
  v154
def k0_off8 (i : grid0.Coords) : Fin 3 → Nat :=
  let c0_90 : Index := 0#32
  let arg1 : BitVec 32 := BitVec.ofNat 32 (i 1).val
  let c512_i32_89 : BitVec 32 := 512#32
  let v154 : BitVec 32 := Scalar.muli arg1 c512_i32_89
  let v155 : BitVec 32 := v154
  let v156 : Index := Scalar.indexCast v155
  let c0_91 : Index := 0#32
  ![0, v156.toNat, 0]
def k0_cond4 (i : grid0.Coords) : BitVec 1 :=
  let arg1 : BitVec 32 := BitVec.ofNat 32 (i 1).val
  let c2_i32_62 : BitVec 32 := 2#32
  let c0_i32_63 : BitVec 32 := 0#32
  let v107 : BitVec 1 := Scalar.cmpi .eq c2_i32_62 c0_i32_63
  let c1_i32_64 : BitVec 32 := 1#32
  let v108 : BitVec 32 := Scalar.select v107 c1_i32_64 c2_i32_62
  let v109 : BitVec 32 := Scalar.remsi arg1 v108
  let c0_i32_66 : BitVec 32 := 0#32
  let v111 : BitVec 1 := Scalar.cmpi .slt v109 c0_i32_66
  let c0_i32_67 : BitVec 32 := 0#32
  let v112 : BitVec 1 := Scalar.cmpi .slt v108 c0_i32_67
  let v113 : BitVec 1 := Scalar.xori v111 v112
  let c0_i32_65 : BitVec 32 := 0#32
  let v110 : BitVec 1 := Scalar.cmpi .ne v109 c0_i32_65
  let v114 : BitVec 1 := Scalar.andi v113 v110
  let v115 : BitVec 32 := Scalar.addi v109 v108
  let v116 : BitVec 32 := Scalar.select v114 v115 v109
  let c0_i32_68 : BitVec 32 := 0#32
  let v117 : BitVec 1 := Scalar.cmpi .eq v116 c0_i32_68
  let v118 : BitVec 32 := Scalar.extui v117
  let c0_i32_69 : BitVec 32 := 0#32
  let v119 : BitVec 1 := Scalar.cmpi .ne v118 c0_i32_69
  v119

def k0_mult24 (i : grid0.Coords) : BitVec 32 :=
  let arg1 : BitVec 32 := BitVec.ofNat 32 (i 1).val
  let c512_i32_70 : BitVec 32 := 512#32
  let v120 : BitVec 32 := Scalar.muli arg1 c512_i32_70
  v120
def k0_off9 (i : grid0.Coords) : Fin 3 → Nat :=
  let c0_71 : Index := 0#32
  let arg1 : BitVec 32 := BitVec.ofNat 32 (i 1).val
  let c512_i32_70 : BitVec 32 := 512#32
  let v120 : BitVec 32 := Scalar.muli arg1 c512_i32_70
  let v121 : BitVec 32 := v120
  let v122 : Index := Scalar.indexCast v121
  let c0_72 : Index := 0#32
  ![0, v122.toNat, 0]
def k0_mult25 (i : grid0.Coords) : BitVec 32 :=
  let arg1 : BitVec 32 := BitVec.ofNat 32 (i 1).val
  let c512_i32_73 : BitVec 32 := 512#32
  let v125 : BitVec 32 := Scalar.muli arg1 c512_i32_73
  v125
def k0_mult26 (i : grid0.Coords) : BitVec 32 :=
  let arg1 : BitVec 32 := BitVec.ofNat 32 (i 1).val
  let c1_i32_80 : BitVec 32 := 1#32
  let v134 : BitVec 32 := Scalar.subi arg1 c1_i32_80
  let c512_i32_89 : BitVec 32 := 512#32
  let v151 : BitVec 32 := Scalar.muli v134 c512_i32_89
  v151
def k0_off10 (i : grid0.Coords) : Fin 3 → Nat :=
  let c0_90 : Index := 0#32
  let arg1 : BitVec 32 := BitVec.ofNat 32 (i 1).val
  let c1_i32_80 : BitVec 32 := 1#32
  let v134 : BitVec 32 := Scalar.subi arg1 c1_i32_80
  let c512_i32_89 : BitVec 32 := 512#32
  let v151 : BitVec 32 := Scalar.muli v134 c512_i32_89
  let v152 : BitVec 32 := v151
  let v153 : Index := Scalar.indexCast v152
  let c0_91 : Index := 0#32
  ![0, v153.toNat, 0]
def k0_mult27 (i : grid0.Coords) : BitVec 32 :=
  let arg1 : BitVec 32 := BitVec.ofNat 32 (i 1).val
  let c1_i32 : BitVec 32 := 1#32
  let v8 : BitVec 32 := Scalar.addi arg1 c1_i32
  let c7_i32 : BitVec 32 := 7#32
  let v9 : BitVec 32 := Scalar.minsi v8 c7_i32
  let c512_i32_97 : BitVec 32 := 512#32
  let v164 : BitVec 32 := Scalar.muli v9 c512_i32_97
  v164
def k0_off11 (i : grid0.Coords) : Fin 3 → Nat :=
  let c0_98 : Index := 0#32
  let arg1 : BitVec 32 := BitVec.ofNat 32 (i 1).val
  let c1_i32 : BitVec 32 := 1#32
  let v8 : BitVec 32 := Scalar.addi arg1 c1_i32
  let c7_i32 : BitVec 32 := 7#32
  let v9 : BitVec 32 := Scalar.minsi v8 c7_i32
  let c512_i32_97 : BitVec 32 := 512#32
  let v164 : BitVec 32 := Scalar.muli v9 c512_i32_97
  let v165 : BitVec 32 := v164
  let v166 : Index := Scalar.indexCast v165
  let c0_99 : Index := 0#32
  ![0, v166.toNat, 0]
def k0_mult28 : BitVec 32 :=
  let c0_i32_100 : BitVec 32 := 0#32
  c0_i32_100
def k0_mult29 (i : grid0.Coords) : BitVec 32 :=
  let arg1 : BitVec 32 := BitVec.ofNat 32 (i 1).val
  let c512_i32_116 : BitVec 32 := 512#32
  let v198 : BitVec 32 := Scalar.muli arg1 c512_i32_116
  v198
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FlashFwdIdeal.lean ====
variable {F : FTy → Type} [FloatOps F] [Named F]
def κ : String → Option EReal := fun
  | "log2e" => some (((Real.log 2)⁻¹ : ℝ) : EReal)
  | "mask" => some ⊥
  | _ => none
-- ==== FlashFwdReferenceIdeal.lean ====
abbrev S4096x8x192 : Shape := ⟨3, ![4096, 8, 192]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x1024 : Shape := ⟨2, ![4096, 1024]⟩
abbrev S8x8x1x512 : Shape := ⟨4, ![8, 8, 1, 512]⟩

abbrev nBuf : Space → Nat
  | .hbm => 62
  | .vmem => 0
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S8x4096x4096, .f32⟩
  | .hbm, ⟨4, _⟩ => ⟨S_, .f32⟩
  | .hbm, ⟨5, _⟩ => ⟨S8x4096x4096, .f32⟩
  | .hbm, ⟨6, _⟩ => ⟨S8x4096x4096, .f32⟩
  | .hbm, ⟨7, _⟩ => ⟨S4096, .i32⟩
  | .hbm, ⟨8, _⟩ => ⟨S1x4096, .i32⟩
  | .hbm, ⟨9, _⟩ => ⟨S4096x1, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S1x4096x4096, .i1⟩
  | .hbm, ⟨14, _⟩ => ⟨S_, .f32⟩
  | .hbm, ⟨15, _⟩ => ⟨S_, .f32⟩
  | .hbm, ⟨16, _⟩ => ⟨S8x4096x4096, .i1⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S8x4096, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8x4096, .f32⟩
  | .hbm, ⟨27, _⟩ => ⟨S8x4096, .f32⟩
  | .hbm, ⟨28, _⟩ => ⟨S8x4096x4096, .f32⟩
  | .hbm, ⟨29, _⟩ => ⟨S_, .f32⟩
  | .hbm, ⟨30, _⟩ => ⟨S8x4096x4096, .f32⟩
  | .hbm, ⟨31, _⟩ => ⟨S8x4096x4096, .f32⟩
  | .hbm, ⟨32, _⟩ => ⟨S4096, .i32⟩
  | .hbm, ⟨33, _⟩ => ⟨S1x4096, .i32⟩
  | .hbm, ⟨34, _⟩ => ⟨S4096x1, .i32⟩
  | .hbm, ⟨35, _⟩ => ⟨S4096x4096, .i32⟩
  | .hbm, ⟨36, _⟩ => ⟨S4096x4096, .i32⟩
  | .hbm, ⟨37, _⟩ => ⟨S4096x4096, .i1⟩
  | .hbm, ⟨38, _⟩ => ⟨S1x4096x4096, .i1⟩
  | .hbm, ⟨39, _⟩ => ⟨S_, .f32⟩
  | .hbm, ⟨40, _⟩ => ⟨S_, .f32⟩
  | .hbm, ⟨41, _⟩ => ⟨S8x4096x4096, .i1⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S8x4096, .f32⟩
  | .hbm, ⟨46, _⟩ => ⟨S_, .f32⟩
  | .hbm, ⟨47, _⟩ => ⟨S8x4096, .f32⟩
  | .hbm, ⟨48, _⟩ => ⟨S8x4096, .f32⟩
  | .hbm, ⟨49, _⟩ => ⟨S8x4096x1, .f32⟩
  | .hbm, ⟨50, _⟩ => ⟨S8x4096x4096, .f32⟩
  | .hbm, ⟨51, _⟩ => ⟨S8x4096x4096, .f32⟩
  | .hbm, ⟨52, _⟩ => ⟨S8x4096x4096, .f32⟩
  | .hbm, ⟨53, _⟩ => ⟨S_, .f32⟩
  | .hbm, ⟨54, _⟩ => ⟨S8x4096, .f32⟩
  | .hbm, ⟨55, _⟩ => ⟨S8x4096x1, .f32⟩
  | .hbm, ⟨56, _⟩ => ⟨S8x4096x4096, .f32⟩
  | .hbm, ⟨57, _⟩ => ⟨S8x4096x4096, .f32⟩
  | .hbm, ⟨58, _⟩ => ⟨S8x128x4096, .f32⟩
  | .hbm, ⟨59, _⟩ => ⟨S4096x8x128, .f32⟩
  | .hbm, ⟨60, _⟩ => ⟨S4096x1024, .f32⟩
  | .hbm, ⟨61, _⟩ => ⟨S8x8x1x512, .f32⟩
  | _, _ => ⟨S4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Prenorm.lean ====
abbrev S4096x2048 : Shape := ⟨2, ![4096, 2048]⟩
abbrev S2048 : Shape := ⟨1, ![2048]⟩
abbrev S1x2048 : Shape := ⟨2, ![1, 2048]⟩
abbrev S_ : Shape := ⟨0, ![]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PrenormReferenceIdeal.lean ====
abbrev S4096x2048 : Shape := ⟨2, ![4096, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== GateCat.lean ====
abbrev S4096x1024 : Shape := ⟨2, ![4096, 1024]⟩
abbrev S4096x4928 : Shape := ⟨2, ![4096, 4928]⟩
abbrev S1024 : Shape := ⟨1, ![1024]⟩
abbrev S4096x512 : Shape := ⟨2, ![4096, 512]⟩
abbrev S4096x256 : Shape := ⟨2, ![4096, 256]⟩
abbrev S4096x64 : Shape := ⟨2, ![4096, 64]⟩
abbrev S4096x2048 : Shape := ⟨2, ![4096, 2048]⟩
abbrev S_ : Shape := ⟨0, ![]⟩
abbrev S4096x5120 : Shape := ⟨2, ![4096, 5120]⟩
abbrev S1x1024 : Shape := ⟨2, ![1, 1024]⟩
abbrev S512x1024 : Shape := ⟨2, ![512, 1024]⟩
abbrev S512x2048 : Shape := ⟨2, ![512, 2048]⟩

abbrev nBuf : Space → Nat
  | .hbm => 16
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x4928, .f32⟩
  | .hbm, ⟨2, _⟩ => ⟨S4096x1024, .f32⟩
  | .hbm, ⟨3, _⟩ => ⟨S1024, .f32⟩
  | .hbm, ⟨4, _⟩ => ⟨S4096x512, .f32⟩
  | .hbm, ⟨5, _⟩ => ⟨S4096x256, .f32⟩
  | .hbm, ⟨6, _⟩ => ⟨S4096x64, .f32⟩
  | .hbm, ⟨7, _⟩ => ⟨S4096x1024, .f32⟩
  | .hbm, ⟨8, _⟩ => ⟨S4096x2048, .f32⟩
  | .hbm, ⟨9, _⟩ => ⟨S4096x1024, .f32⟩
  | .hbm, ⟨10, _⟩ => ⟨S_, .i32⟩
  | .hbm, ⟨11, _⟩ => ⟨S_, .f32⟩
  | .hbm, ⟨12, _⟩ => ⟨S4096x256, .f32⟩
  | .hbm, ⟨13, _⟩ => ⟨S4096x5120, .f32⟩
  | .hbm, ⟨14, _⟩ => ⟨S1x1024, .f32⟩
  | .hbm, ⟨15, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x2048, .bf16⟩
  | .local _ .vmem, ⟨10, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateCatReferenceIdeal.lean ====
abbrev S4096x1024 : Shape := ⟨2, ![4096, 1024]⟩
abbrev S4096x4928 : Shape := ⟨2, ![4096, 4928]⟩
abbrev S1024 : Shape := ⟨1, ![1024]⟩
abbrev S4096x512 : Shape := ⟨2, ![4096, 512]⟩
abbrev S4096x256 : Shape := ⟨2, ![4096, 256]⟩
abbrev S4096x64 : Shape := ⟨2, ![4096, 64]⟩
abbrev S4096x2048 : Shape := ⟨2, ![4096, 2048]⟩
abbrev S_ : Shape := ⟨0, ![]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4928, .f32⟩
  | .hbm, ⟨2, _⟩ => ⟨S4096x1024, .f32⟩
  | .hbm, ⟨3, _⟩ => ⟨S1024, .f32⟩
  | .hbm, ⟨4, _⟩ => ⟨S4096x512, .f32⟩
  | .hbm, ⟨5, _⟩ => ⟨S4096x256, .f32⟩
  | .hbm, ⟨6, _⟩ => ⟨S4096x64, .f32⟩
  | .hbm, ⟨7, _⟩ => ⟨S4096x1024, .f32⟩
  | .hbm, ⟨8, _⟩ => ⟨S4096x2048, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x2048, .f32⟩
  | .hbm, ⟨34, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== AdamwAdaW.lean ====
abbrev S2x2048x768 : Shape := ⟨3, ![2, 2048, 768]⟩
abbrev S1x2x2048x768 : Shape := ⟨4, ![1, 2, 2048, 768]⟩
abbrev S1x4096x768 : Shape := ⟨3, ![1, 4096, 768]⟩
abbrev S1x256x768 : Shape := ⟨3, ![1, 256, 768]⟩
abbrev S256x768 : Shape := ⟨2, ![256, 768]⟩

abbrev nBuf : Space → Nat
  | .hbm => 13
  | .vmem => 17
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S2x2048x768, .f32⟩
  | .hbm, ⟨4, _⟩ => ⟨S1x2x2048x768, .f32⟩
  | .hbm, ⟨5, _⟩ => ⟨S1x4096x768, .f32⟩
  | .hbm, ⟨6, _⟩ => ⟨S1x4096x768, .f32⟩
  | .hbm, ⟨7, _⟩ => ⟨S1x4096x768, .f32⟩
  | .hbm, ⟨8, _⟩ => ⟨S1x4096x768, .f32⟩
  | .hbm, ⟨9, _⟩ => ⟨S1x4096x768, .f32⟩
  | .hbm, ⟨10, _⟩ => ⟨S1x4096x768, .f32⟩
  | .hbm, ⟨11, _⟩ => ⟨S1x4096x768, .f32⟩
  | .hbm, ⟨12, _⟩ => ⟨S1x4096x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S256x768, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c15_i32 : BitVec 32 := 15#32
  let v2 : BitVec 32 := Scalar.select v1 c0_i32_1 c15_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwAdaWReferenceIdeal.lean ====
abbrev S2x2048x768 : Shape := ⟨3, ![2, 2048, 768]⟩
abbrev S_ : Shape := ⟨0, ![]⟩
abbrev S1x4096x768 : Shape := ⟨3, ![1, 4096, 768]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S2x2048x768, .f32⟩
  | .hbm, ⟨4, _⟩ => ⟨S_, .f32⟩
  | .hbm, ⟨5, _⟩ => ⟨S2x2048x768, .f32⟩
  | .hbm, ⟨6, _⟩ => ⟨S2x2048x768, .f32⟩
  | .hbm, ⟨7, _⟩ => ⟨S_, .f32⟩
  | .hbm, ⟨8, _⟩ => ⟨S2x2048x768, .f32⟩
  | .hbm, ⟨9, _⟩ => ⟨S2x2048x768, .f32⟩
  | .hbm, ⟨10, _⟩ => ⟨S2x2048x768, .f32⟩
  | .hbm, ⟨11, _⟩ => ⟨S_, .f32⟩
  | .hbm, ⟨12, _⟩ => ⟨S2x2048x768, .f32⟩
  | .hbm, ⟨13, _⟩ => ⟨S2x2048x768, .f32⟩
  | .hbm, ⟨14, _⟩ => ⟨S2x2048x768, .f32⟩
  | .hbm, ⟨15, _⟩ => ⟨S_, .f32⟩
  | .hbm, ⟨16, _⟩ => ⟨S2x2048x768, .f32⟩
  | .hbm, ⟨17, _⟩ => ⟨S2x2048x768, .f32⟩
  | .hbm, ⟨18, _⟩ => ⟨S2x2048x768, .f32⟩
  | .hbm, ⟨19, _⟩ => ⟨S_, .f32⟩
  | .hbm, ⟨20, _⟩ => ⟨S2x2048x768, .f32⟩
  | .hbm, ⟨21, _⟩ => ⟨S2x2048x768, .f32⟩
  | .hbm, ⟨22, _⟩ => ⟨S_, .f32⟩
  | .hbm, ⟨23, _⟩ => ⟨S2x2048x768, .f32⟩
  | .hbm, ⟨24, _⟩ => ⟨S2x2048x768, .f32⟩
  | .hbm, ⟨25, _⟩ => ⟨S2x2048x768, .f32⟩
  | .hbm, ⟨26, _⟩ => ⟨S_, .f32⟩
  | .hbm, ⟨27, _⟩ => ⟨S2x2048x768, .f32⟩
  | .hbm, ⟨28, _⟩ => ⟨S2x2048x768, .f32⟩
  | .hbm, ⟨29, _⟩ => ⟨S2x2048x768, .f32⟩
  | .hbm, ⟨30, _⟩ => ⟨S_, .f32⟩
  | .hbm, ⟨31, _⟩ => ⟨S2x2048x768, .f32⟩
  | .hbm, ⟨32, _⟩ => ⟨S2x2048x768, .f32⟩
  | .hbm, ⟨33, _⟩ => ⟨S2x2048x768, .f32⟩
  | .hbm, ⟨34, _⟩ => ⟨S_, .f32⟩
  | .hbm, ⟨35, _⟩ => ⟨S2x2048x768, .f32⟩
  | .hbm, ⟨36, _⟩ => ⟨S2x2048x768, .f32⟩
  | .hbm, ⟨37, _⟩ => ⟨S1x4096x768, .f32⟩
  | .hbm, ⟨38, _⟩ => ⟨S1x4096x768, .f32⟩
  | .hbm, ⟨39, _⟩ => ⟨S1x4096x768, .f32⟩
  | .hbm, ⟨40, _⟩ => ⟨S1x4096x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamwWOut.lean ====
abbrev S8x256x2048 : Shape := ⟨3, ![8, 256, 2048]⟩
abbrev S2x256x2048 : Shape := ⟨3, ![2, 256, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 11
  | .vmem => 19
  | .smem => 0
  | _ => 0

abbrev bufTy : (tb : Table) → Fin (tcTables nBuf tb) → BufTy
  | .hbm, ⟨0, _⟩ => ⟨S8x256x2048, .f32⟩
  | .hbm, ⟨1, _⟩ => ⟨S8x256x2048, .f32⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S8x256x2048, .bf16⟩
  | .hbm, ⟨6, _⟩ => ⟨S8x256x2048, .bf16⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S8x64x2048, .bf16⟩
  | .local _ .vmem, ⟨3, _⟩ => ⟨S8x64x2048, .bf16⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .vmem, ⟨18, _⟩ => ⟨S64x2048, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwWOutReferenceIdeal.lean ====
abbrev S8x256x2048 : Shape := ⟨3, ![8, 256, 2048]⟩
abbrev S2x256x2048 : Shape := ⟨3, ![2, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S8x256x2048, .f32⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S1x256x2048, .f32⟩
  | .hbm, ⟨10, _⟩ => ⟨S1x256x2048, .f32⟩
  | .hbm, ⟨11, _⟩ => ⟨S2x256x2048, .f32⟩
  | .hbm, ⟨12, _⟩ => ⟨S_, .f32⟩
  | .hbm, ⟨13, _⟩ => ⟨S2x256x2048, .f32⟩
  | .hbm, ⟨14, _⟩ => ⟨S2x256x2048, .f32⟩
  | .hbm, ⟨15, _⟩ => ⟨S_, .f32⟩
  | .hbm, ⟨16, _⟩ => ⟨S2x256x2048, .f32⟩
  | .hbm, ⟨17, _⟩ => ⟨S2x256x2048, .f32⟩
  | .hbm, ⟨18, _⟩ => ⟨S2x256x2048, .f32⟩
  | .hbm, ⟨19, _⟩ => ⟨S_, .f32⟩
  | .hbm, ⟨20, _⟩ => ⟨S2x256x2048, .f32⟩
  | .hbm, ⟨21, _⟩ => ⟨S2x256x2048, .f32⟩
  | .hbm, ⟨22, _⟩ => ⟨S2x256x2048, .f32⟩
  | .hbm, ⟨23, _⟩ => ⟨S_, .f32⟩
  | .hbm, ⟨24, _⟩ => ⟨S2x256x2048, .f32⟩
  | .hbm, ⟨25, _⟩ => ⟨S2x256x2048, .f32⟩
  | .hbm, ⟨26, _⟩ => ⟨S2x256x2048, .f32⟩
  | .hbm, ⟨27, _⟩ => ⟨S_, .f32⟩
  | .hbm, ⟨28, _⟩ => ⟨S2x256x2048, .f32⟩
  | .hbm, ⟨29, _⟩ => ⟨S2x256x2048, .f32⟩
  | .hbm, ⟨30, _⟩ => ⟨S_, .f32⟩
  | .hbm, ⟨31, _⟩ => ⟨S2x256x2048, .f32⟩
  | .hbm, ⟨32, _⟩ => ⟨S2x256x2048, .f32⟩
  | .hbm, ⟨33, _⟩ => ⟨S2x256x2048, .f32⟩
  | .hbm, ⟨34, _⟩ => ⟨S_, .f32⟩
  | .hbm, ⟨35, _⟩ => ⟨S2x256x2048, .f32⟩
  | .hbm, ⟨36, _⟩ => ⟨S2x256x2048, .f32⟩
  | .hbm, ⟨37, _⟩ => ⟨S2x256x2048, .f32⟩
  | .hbm, ⟨38, _⟩ => ⟨S_, .f32⟩
  | .hbm, ⟨39, _⟩ => ⟨S2x256x2048, .f32⟩
  | .hbm, ⟨40, _⟩ => ⟨S2x256x2048, .f32⟩
  | .hbm, ⟨41, _⟩ => ⟨S2x256x2048, .f32⟩
  | .hbm, ⟨42, _⟩ => ⟨S_, .f32⟩
  | .hbm, ⟨43, _⟩ => ⟨S2x256x2048, .f32⟩
  | .hbm, ⟨44, _⟩ => ⟨S2x256x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamwWQUp.lean ====
abbrev S8x512x192 : Shape := ⟨3, ![8, 512, 192]⟩
abbrev S2x512x192 : Shape := ⟨3, ![2, 512, 192]⟩
abbrev S8x256x192 : Shape := ⟨3, ![8, 256, 192]⟩
abbrev S1x256x192 : Shape := ⟨3, ![1, 256, 192]⟩
abbrev S256x192 : Shape := ⟨2, ![256, 192]⟩

abbrev nBuf : Space → Nat
  | .hbm => 11
  | .vmem => 19
  | .smem => 0
  | _ => 0

abbrev bufTy : (tb : Table) → Fin (tcTables nBuf tb) → BufTy
  | .hbm, ⟨0, _⟩ => ⟨S8x512x192, .f32⟩
  | .hbm, ⟨1, _⟩ => ⟨S8x512x192, .f32⟩
  | .hbm, ⟨2, _⟩ => ⟨S2x512x192, .f32⟩
  | .hbm, ⟨3, _⟩ => ⟨S2x512x192, .f32⟩
  | .hbm, ⟨4, _⟩ => ⟨S2x512x192, .f32⟩
  | .hbm, ⟨5, _⟩ => ⟨S8x512x192, .bf16⟩
  | .hbm, ⟨6, _⟩ => ⟨S8x512x192, .bf16⟩
  | .hbm, ⟨7, _⟩ => ⟨S2x512x192, .f32⟩
  | .hbm, ⟨8, _⟩ => ⟨S2x512x192, .f32⟩
  | .hbm, ⟨9, _⟩ => ⟨S2x512x192, .f32⟩
  | .hbm, ⟨10, _⟩ => ⟨S2x512x192, .f32⟩
  | .local _ .vmem, ⟨0, _⟩ => ⟨S8x256x192, .bf16⟩
  | .local _ .vmem, ⟨1, _⟩ => ⟨S8x256x192, .bf16⟩
  | .local _ .vmem, ⟨2, _⟩ => ⟨S8x256x192, .bf16⟩
  | .local _ .vmem, ⟨3, _⟩ => ⟨S8x256x192, .bf16⟩
  | .local _ .vmem, ⟨4, _⟩ => ⟨S1x256x192, .f32⟩
  | .local _ .vmem, ⟨5, _⟩ => ⟨S1x256x192, .f32⟩
  | .local _ .vmem, ⟨6, _⟩ => ⟨S1x256x192, .f32⟩
  | .local _ .vmem, ⟨7, _⟩ => ⟨S1x256x192, .f32⟩
  | .local _ .vmem, ⟨8, _⟩ => ⟨S1x256x192, .f32⟩
  | .local _ .vmem, ⟨9, _⟩ => ⟨S1x256x192, .f32⟩
  | .local _ .vmem, ⟨10, _⟩ => ⟨S1x256x192, .f32⟩
  | .local _ .vmem, ⟨11, _⟩ => ⟨S1x256x192, .f32⟩
  | .local _ .vmem, ⟨12, _⟩ => ⟨S1x256x192, .f32⟩
  | .local _ .vmem, ⟨13, _⟩ => ⟨S1x256x192, .f32⟩
  | .local _ .vmem, ⟨14, _⟩ => ⟨S1x256x192, .f32⟩
  | .local _ .vmem, ⟨15, _⟩ => ⟨S1x256x192, .f32⟩
  | .local _ .vmem, ⟨16, _⟩ => ⟨S1x256x192, .f32⟩
  | .local _ .vmem, ⟨17, _⟩ => ⟨S1x256x192, .f32⟩
  | .local _ .vmem, ⟨18, _⟩ => ⟨S256x192, .f32⟩
  | _, _ => ⟨S8x512x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwWQUpReferenceIdeal.lean ====
abbrev S8x512x192 : Shape := ⟨3, ![8, 512, 192]⟩
abbrev S2x512x192 : Shape := ⟨3, ![2, 512, 192]⟩
abbrev S_ : Shape := ⟨0, ![]⟩
abbrev S512x192 : Shape := ⟨2, ![512, 192]⟩
abbrev S1x512x192 : Shape := ⟨3, ![1, 512, 192]⟩

abbrev nBuf : Space → Nat
  | .hbm => 45
  | .vmem => 0
  | .smem => 0
  | _ => 0

abbrev bufTy : (tb : Table) → Fin (tcTables nBuf tb) → BufTy
  | .hbm, ⟨0, _⟩ => ⟨S8x512x192, .f32⟩
  | .hbm, ⟨1, _⟩ => ⟨S8x512x192, .f32⟩
  | .hbm, ⟨2, _⟩ => ⟨S2x512x192, .f32⟩
  | .hbm, ⟨3, _⟩ => ⟨S2x512x192, .f32⟩
  | .hbm, ⟨4, _⟩ => ⟨S2x512x192, .f32⟩
  | .hbm, ⟨5, _⟩ => ⟨S_, .f32⟩
  | .hbm, ⟨6, _⟩ => ⟨S512x192, .f32⟩
  | .hbm, ⟨7, _⟩ => ⟨S_, .f32⟩
  | .hbm, ⟨8, _⟩ => ⟨S512x192, .f32⟩
  | .hbm, ⟨9, _⟩ => ⟨S1x512x192, .f32⟩
  | .hbm, ⟨10, _⟩ => ⟨S1x512x192, .f32⟩
  | .hbm, ⟨11, _⟩ => ⟨S2x512x192, .f32⟩
  | .hbm, ⟨12, _⟩ => ⟨S_, .f32⟩
  | .hbm, ⟨13, _⟩ => ⟨S2x512x192, .f32⟩
  | .hbm, ⟨14, _⟩ => ⟨S2x512x192, .f32⟩
  | .hbm, ⟨15, _⟩ => ⟨S_, .f32⟩
  | .hbm, ⟨16, _⟩ => ⟨S2x512x192, .f32⟩
  | .hbm, ⟨17, _⟩ => ⟨S2x512x192, .f32⟩
  | .hbm, ⟨18, _⟩ => ⟨S2x512x192, .f32⟩
  | .hbm, ⟨19, _⟩ => ⟨S_, .f32⟩
  | .hbm, ⟨20, _⟩ => ⟨S2x512x192, .f32⟩
  | .hbm, ⟨21, _⟩ => ⟨S2x512x192, .f32⟩
  | .hbm, ⟨22, _⟩ => ⟨S2x512x192, .f32⟩
  | .hbm, ⟨23, _⟩ => ⟨S_, .f32⟩
  | .hbm, ⟨24, _⟩ => ⟨S2x512x192, .f32⟩
  | .hbm, ⟨25, _⟩ => ⟨S2x512x192, .f32⟩
  | .hbm, ⟨26, _⟩ => ⟨S2x512x192, .f32⟩
  | .hbm, ⟨27, _⟩ => ⟨S_, .f32⟩
  | .hbm, ⟨28, _⟩ => ⟨S2x512x192, .f32⟩
  | .hbm, ⟨29, _⟩ => ⟨S2x512x192, .f32⟩
  | .hbm, ⟨30, _⟩ => ⟨S_, .f32⟩
  | .hbm, ⟨31, _⟩ => ⟨S2x512x192, .f32⟩
  | .hbm, ⟨32, _⟩ => ⟨S2x512x192, .f32⟩
  | .hbm, ⟨33, _⟩ => ⟨S2x512x192, .f32⟩
  | .hbm, ⟨34, _⟩ => ⟨S_, .f32⟩
  | .hbm, ⟨35, _⟩ => ⟨S2x512x192, .f32⟩
  | .hbm, ⟨36, _⟩ => ⟨S2x512x192, .f32⟩
  | .hbm, ⟨37, _⟩ => ⟨S2x512x192, .f32⟩
  | .hbm, ⟨38, _⟩ => ⟨S_, .f32⟩
  | .hbm, ⟨39, _⟩ => ⟨S2x512x192, .f32⟩
  | .hbm, ⟨40, _⟩ => ⟨S2x512x192, .f32⟩
  | .hbm, ⟨41, _⟩ => ⟨S2x512x192, .f32⟩
  | .hbm, ⟨42, _⟩ => ⟨S_, .f32⟩
  | .hbm, ⟨43, _⟩ => ⟨S2x512x192, .f32⟩
  | .hbm, ⟨44, _⟩ => ⟨S2x512x192, .f32⟩
  | _, _ => ⟨S8x512x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamwWKvUp.lean ====
abbrev S8x256x256 : Shape := ⟨3, ![8, 256, 256]⟩
abbrev S2x256x256 : Shape := ⟨3, ![2, 256, 256]⟩
abbrev S1x256x256 : Shape := ⟨3, ![1, 256, 256]⟩
abbrev S256x256 : Shape := ⟨2, ![256, 256]⟩

abbrev nBuf : Space → Nat
  | .hbm => 11
  | .vmem => 19
  | .smem => 0
  | _ => 0

abbrev bufTy : (tb : Table) → Fin (tcTables nBuf tb) → BufTy
  | .hbm, ⟨0, _⟩ => ⟨S8x256x256, .f32⟩
  | .hbm, ⟨1, _⟩ => ⟨S8x256x256, .f32⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S8x256x256, .bf16⟩
  | .hbm, ⟨6, _⟩ => ⟨S8x256x256, .bf16⟩
  | .hbm, ⟨7, _⟩ => ⟨S2x256x256, .f32⟩
  | .hbm, ⟨8, _⟩ => ⟨S2x256x256, .f32⟩
  | .hbm, ⟨9, _⟩ => ⟨S2x256x256, .f32⟩
  | .hbm, ⟨10, _⟩ => ⟨S2x256x256, .f32⟩
  | .local _ .vmem, ⟨0, _⟩ => ⟨S8x256x256, .bf16⟩
  | .local _ .vmem, ⟨1, _⟩ => ⟨S8x256x256, .bf16⟩
  | .local _ .vmem, ⟨2, _⟩ => ⟨S8x256x256, .bf16⟩
  | .local _ .vmem, ⟨3, _⟩ => ⟨S8x256x256, .bf16⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S256x256, .f32⟩
  | _, _ => ⟨S8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwWKvUpReferenceIdeal.lean ====
abbrev S8x256x256 : Shape := ⟨3, ![8, 256, 256]⟩
abbrev S2x256x256 : Shape := ⟨3, ![2, 256, 256]⟩
abbrev S_ : Shape := ⟨0, ![]⟩
abbrev S256x256 : Shape := ⟨2, ![256, 256]⟩
abbrev S1x256x256 : Shape := ⟨3, ![1, 256, 256]⟩

abbrev nBuf : Space → Nat
  | .hbm => 45
  | .vmem => 0
  | .smem => 0
  | _ => 0

abbrev bufTy : (tb : Table) → Fin (tcTables nBuf tb) → BufTy
  | .hbm, ⟨0, _⟩ => ⟨S8x256x256, .f32⟩
  | .hbm, ⟨1, _⟩ => ⟨S8x256x256, .f32⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S_, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S1x256x256, .f32⟩
  | .hbm, ⟨10, _⟩ => ⟨S1x256x256, .f32⟩
  | .hbm, ⟨11, _⟩ => ⟨S2x256x256, .f32⟩
  | .hbm, ⟨12, _⟩ => ⟨S_, .f32⟩
  | .hbm, ⟨13, _⟩ => ⟨S2x256x256, .f32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S2x256x256, .f32⟩
  | .hbm, ⟨23, _⟩ => ⟨S_, .f32⟩
  | .hbm, ⟨24, _⟩ => ⟨S2x256x256, .f32⟩
  | .hbm, ⟨25, _⟩ => ⟨S2x256x256, .f32⟩
  | .hbm, ⟨26, _⟩ => ⟨S2x256x256, .f32⟩
  | .hbm, ⟨27, _⟩ => ⟨S_, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S2x256x256, .f32⟩
  | .hbm, ⟨34, _⟩ => ⟨S_, .f32⟩
  | .hbm, ⟨35, _⟩ => ⟨S2x256x256, .f32⟩
  | .hbm, ⟨36, _⟩ => ⟨S2x256x256, .f32⟩
  | .hbm, ⟨37, _⟩ => ⟨S2x256x256, .f32⟩
  | .hbm, ⟨38, _⟩ => ⟨S_, .f32⟩
  | .hbm, ⟨39, _⟩ => ⟨S2x256x256, .f32⟩
  | .hbm, ⟨40, _⟩ => ⟨S2x256x256, .f32⟩
  | .hbm, ⟨41, _⟩ => ⟨S2x256x256, .f32⟩
  | .hbm, ⟨42, _⟩ => ⟨S_, .f32⟩
  | .hbm, ⟨43, _⟩ => ⟨S2x256x256, .f32⟩
  | .hbm, ⟨44, _⟩ => ⟨S2x256x256, .f32⟩
  | _, _ => ⟨S8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamwWPw.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 11
  | .vmem => 19
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .bf16⟩
  | .hbm, ⟨6, _⟩ => ⟨S8x128x1024, .bf16⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwWPwReferenceIdeal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S1x128x1024, .f32⟩
  | .hbm, ⟨10, _⟩ => ⟨S1x128x1024, .f32⟩
  | .hbm, ⟨11, _⟩ => ⟨S2x128x1024, .f32⟩
  | .hbm, ⟨12, _⟩ => ⟨S_, .f32⟩
  | .hbm, ⟨13, _⟩ => ⟨S2x128x1024, .f32⟩
  | .hbm, ⟨14, _⟩ => ⟨S2x128x1024, .f32⟩
  | .hbm, ⟨15, _⟩ => ⟨S_, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S2x128x1024, .f32⟩
  | .hbm, ⟨23, _⟩ => ⟨S_, .f32⟩
  | .hbm, ⟨24, _⟩ => ⟨S2x128x1024, .f32⟩
  | .hbm, ⟨25, _⟩ => ⟨S2x128x1024, .f32⟩
  | .hbm, ⟨26, _⟩ => ⟨S2x128x1024, .f32⟩
  | .hbm, ⟨27, _⟩ => ⟨S_, .f32⟩
  | .hbm, ⟨28, _⟩ => ⟨S2x128x1024, .f32⟩
  | .hbm, ⟨29, _⟩ => ⟨S2x128x1024, .f32⟩
  | .hbm, ⟨30, _⟩ => ⟨S_, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S2x128x1024, .f32⟩
  | .hbm, ⟨38, _⟩ => ⟨S_, .f32⟩
  | .hbm, ⟨39, _⟩ => ⟨S2x128x1024, .f32⟩
  | .hbm, ⟨40, _⟩ => ⟨S2x128x1024, .f32⟩
  | .hbm, ⟨41, _⟩ => ⟨S2x128x1024, .f32⟩
  | .hbm, ⟨42, _⟩ => ⟨S_, .f32⟩
  | .hbm, ⟨43, _⟩ => ⟨S2x128x1024, .f32⟩
  | .hbm, ⟨44, _⟩ => ⟨S2x128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamwWIn.lean ====
abbrev S8x616x2048 : Shape := ⟨3, ![8, 616, 2048]⟩
abbrev S2x616x2048 : Shape := ⟨3, ![2, 616, 2048]⟩
abbrev S8x56x2048 : Shape := ⟨3, ![8, 56, 2048]⟩
abbrev S1x56x2048 : Shape := ⟨3, ![1, 56, 2048]⟩
abbrev S56x2048 : Shape := ⟨2, ![56, 2048]⟩

abbrev nBuf : Space → Nat
  | .hbm => 13
  | .vmem => 16
  | .smem => 0
  | _ => 0

abbrev bufTy : (tb : Table) → Fin (tcTables nBuf tb) → BufTy
  | .hbm, ⟨0, _⟩ => ⟨S8x616x2048, .f32⟩
  | .hbm, ⟨1, _⟩ => ⟨S2x616x2048, .f32⟩
  | .hbm, ⟨2, _⟩ => ⟨S2x616x2048, .f32⟩
  | .hbm, ⟨3, _⟩ => ⟨S2x616x2048, .f32⟩
  | .hbm, ⟨4, _⟩ => ⟨S2x616x2048, .f32⟩
  | .hbm, ⟨5, _⟩ => ⟨S2x616x2048, .f32⟩
  | .hbm, ⟨6, _⟩ => ⟨S2x616x2048, .f32⟩
  | .hbm, ⟨7, _⟩ => ⟨S2x616x2048, .f32⟩
  | .hbm, ⟨8, _⟩ => ⟨S8x616x2048, .bf16⟩
  | .hbm, ⟨9, _⟩ => ⟨S2x616x2048, .f32⟩
  | .hbm, ⟨10, _⟩ => ⟨S2x616x2048, .f32⟩
  | .hbm, ⟨11, _⟩ => ⟨S2x616x2048, .f32⟩
  | .hbm, ⟨12, _⟩ => ⟨S2x616x2048, .f32⟩
  | .local _ .vmem, ⟨0, _⟩ => ⟨S8x56x2048, .bf16⟩
  | .local _ .vmem, ⟨1, _⟩ => ⟨S8x56x2048, .bf16⟩
  | .local _ .vmem, ⟨2, _⟩ => ⟨S1x56x2048, .f32⟩
  | .local _ .vmem, ⟨3, _⟩ => ⟨S1x56x2048, .f32⟩
  | .local _ .vmem, ⟨4, _⟩ => ⟨S1x56x2048, .f32⟩
  | .local _ .vmem, ⟨5, _⟩ => ⟨S1x56x2048, .f32⟩
  | .local _ .vmem, ⟨6, _⟩ => ⟨S1x56x2048, .f32⟩
  | .local _ .vmem, ⟨7, _⟩ => ⟨S1x56x2048, .f32⟩
  | .local _ .vmem, ⟨8, _⟩ => ⟨S1x56x2048, .f32⟩
  | .local _ .vmem, ⟨9, _⟩ => ⟨S1x56x2048, .f32⟩
  | .local _ .vmem, ⟨10, _⟩ => ⟨S1x56x2048, .f32⟩
  | .local _ .vmem, ⟨11, _⟩ => ⟨S1x56x2048, .f32⟩
  | .local _ .vmem, ⟨12, _⟩ => ⟨S1x56x2048, .f32⟩
  | .local _ .vmem, ⟨13, _⟩ => ⟨S1x56x2048, .f32⟩
  | .local _ .vmem, ⟨14, _⟩ => ⟨S1x56x2048, .f32⟩
  | .local _ .vmem, ⟨15, _⟩ => ⟨S1x56x2048, .f32⟩
  | _, _ => ⟨S8x616x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x56x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x56x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x56x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x56x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x56x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x56x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x56x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x56x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwWInReferenceIdeal.lean ====
abbrev S8x616x2048 : Shape := ⟨3, ![8, 616, 2048]⟩
abbrev S2x616x2048 : Shape := ⟨3, ![2, 616, 2048]⟩
abbrev S_ : Shape := ⟨0, ![]⟩
abbrev S616x2048 : Shape := ⟨2, ![616, 2048]⟩
abbrev S1x616x2048 : Shape := ⟨3, ![1, 616, 2048]⟩

abbrev nBuf : Space → Nat
  | .hbm => 69
  | .vmem => 0
  | .smem => 0
  | _ => 0

abbrev bufTy : (tb : Table) → Fin (tcTables nBuf tb) → BufTy
  | .hbm, ⟨0, _⟩ => ⟨S8x616x2048, .f32⟩
  | .hbm, ⟨1, _⟩ => ⟨S2x616x2048, .f32⟩
  | .hbm, ⟨2, _⟩ => ⟨S2x616x2048, .f32⟩
  | .hbm, ⟨3, _⟩ => ⟨S2x616x2048, .f32⟩
  | .hbm, ⟨4, _⟩ => ⟨S2x616x2048, .f32⟩
  | .hbm, ⟨5, _⟩ => ⟨S2x616x2048, .f32⟩
  | .hbm, ⟨6, _⟩ => ⟨S2x616x2048, .f32⟩
  | .hbm, ⟨7, _⟩ => ⟨S2x616x2048, .f32⟩
  | .hbm, ⟨8, _⟩ => ⟨S_, .f32⟩
  | .hbm, ⟨9, _⟩ => ⟨S616x2048, .f32⟩
  | .hbm, ⟨10, _⟩ => ⟨S1x616x2048, .f32⟩
  | .hbm, ⟨11, _⟩ => ⟨S616x2048, .f32⟩
  | .hbm, ⟨12, _⟩ => ⟨S1x616x2048, .f32⟩
  | .hbm, ⟨13, _⟩ => ⟨S616x2048, .f32⟩
  | .hbm, ⟨14, _⟩ => ⟨S1x616x2048, .f32⟩
  | .hbm, ⟨15, _⟩ => ⟨S616x2048, .f32⟩
  | .hbm, ⟨16, _⟩ => ⟨S_, .f32⟩
  | .hbm, ⟨17, _⟩ => ⟨S616x2048, .f32⟩
  | .hbm, ⟨18, _⟩ => ⟨S616x2048, .f32⟩
  | .hbm, ⟨19, _⟩ => ⟨S_, .f32⟩
  | .hbm, ⟨20, _⟩ => ⟨S616x2048, .f32⟩
  | .hbm, ⟨21, _⟩ => ⟨S616x2048, .f32⟩
  | .hbm, ⟨22, _⟩ => ⟨S616x2048, .f32⟩
  | .hbm, ⟨23, _⟩ => ⟨S_, .f32⟩
  | .hbm, ⟨24, _⟩ => ⟨S616x2048, .f32⟩
  | .hbm, ⟨25, _⟩ => ⟨S616x2048, .f32⟩
  | .hbm, ⟨26, _⟩ => ⟨S616x2048, .f32⟩
  | .hbm, ⟨27, _⟩ => ⟨S_, .f32⟩
  | .hbm, ⟨28, _⟩ => ⟨S616x2048, .f32⟩
  | .hbm, ⟨29, _⟩ => ⟨S616x2048, .f32⟩
  | .hbm, ⟨30, _⟩ => ⟨S616x2048, .f32⟩
  | .hbm, ⟨31, _⟩ => ⟨S_, .f32⟩
  | .hbm, ⟨32, _⟩ => ⟨S616x2048, .f32⟩
  | .hbm, ⟨33, _⟩ => ⟨S616x2048, .f32⟩
  | .hbm, ⟨34, _⟩ => ⟨S_, .f32⟩
  | .hbm, ⟨35, _⟩ => ⟨S616x2048, .f32⟩
  | .hbm, ⟨36, _⟩ => ⟨S616x2048, .f32⟩
  | .hbm, ⟨37, _⟩ => ⟨S616x2048, .f32⟩
  | .hbm, ⟨38, _⟩ => ⟨S_, .f32⟩
  | .hbm, ⟨39, _⟩ => ⟨S616x2048, .f32⟩
  | .hbm, ⟨40, _⟩ => ⟨S616x2048, .f32⟩
  | .hbm, ⟨41, _⟩ => ⟨S616x2048, .f32⟩
  | .hbm, ⟨42, _⟩ => ⟨S_, .f32⟩
  | .hbm, ⟨43, _⟩ => ⟨S616x2048, .f32⟩
  | .hbm, ⟨44, _⟩ => ⟨S616x2048, .f32⟩
  | .hbm, ⟨45, _⟩ => ⟨S616x2048, .f32⟩
  | .hbm, ⟨46, _⟩ => ⟨S_, .f32⟩
  | .hbm, ⟨47, _⟩ => ⟨S616x2048, .f32⟩
  | .hbm, ⟨48, _⟩ => ⟨S616x2048, .f32⟩
  | .hbm, ⟨49, _⟩ => ⟨S1x616x2048, .f32⟩
  | .hbm, ⟨50, _⟩ => ⟨S616x2048, .f32⟩
  | .hbm, ⟨51, _⟩ => ⟨S1x616x2048, .f32⟩
  | .hbm, ⟨52, _⟩ => ⟨S1x616x2048, .f32⟩
  | .hbm, ⟨53, _⟩ => ⟨S2x616x2048, .f32⟩
  | .hbm, ⟨54, _⟩ => ⟨S1x616x2048, .f32⟩
  | .hbm, ⟨55, _⟩ => ⟨S616x2048, .f32⟩
  | .hbm, ⟨56, _⟩ => ⟨S1x616x2048, .f32⟩
  | .hbm, ⟨57, _⟩ => ⟨S1x616x2048, .f32⟩
  | .hbm, ⟨58, _⟩ => ⟨S2x616x2048, .f32⟩
  | .hbm, ⟨59, _⟩ => ⟨S1x616x2048, .f32⟩
  | .hbm, ⟨60, _⟩ => ⟨S616x2048, .f32⟩
  | .hbm, ⟨61, _⟩ => ⟨S1x616x2048, .f32⟩
  | .hbm, ⟨62, _⟩ => ⟨S1x616x2048, .f32⟩
  | .hbm, ⟨63, _⟩ => ⟨S2x616x2048, .f32⟩
  | .hbm, ⟨64, _⟩ => ⟨S1x616x2048, .f32⟩
  | .hbm, ⟨65, _⟩ => ⟨S616x2048, .f32⟩
  | .hbm, ⟨66, _⟩ => ⟨S1x616x2048, .f32⟩
  | .hbm, ⟨67, _⟩ => ⟨S1x616x2048, .f32⟩
  | .hbm, ⟨68, _⟩ => ⟨S2x616x2048, .f32⟩
  | _, _ => ⟨S8x616x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== AdamwWInB.lean ====
abbrev S8x616x2048 : Shape := ⟨3, ![8, 616, 2048]⟩
abbrev S2x616x2048 : Shape := ⟨3, ![2, 616, 2048]⟩
abbrev S8x56x2048 : Shape := ⟨3, ![8, 56, 2048]⟩
abbrev S1x56x2048 : Shape := ⟨3, ![1, 56, 2048]⟩
abbrev S56x2048 : Shape := ⟨2, ![56, 2048]⟩
abbrev S1x616x2048 : Shape := ⟨3, ![1, 616, 2048]⟩

abbrev nBuf : Space → Nat
  | .hbm => 13
  | .vmem => 16
  | .smem => 0
  | _ => 0

abbrev bufTy : (tb : Table) → Fin (tcTables nBuf tb) → BufTy
  | .hbm, ⟨0, _⟩ => ⟨S8x616x2048, .f32⟩
  | .hbm, ⟨1, _⟩ => ⟨S2x616x2048, .f32⟩
  | .hbm, ⟨2, _⟩ => ⟨S2x616x2048, .f32⟩
  | .hbm, ⟨3, _⟩ => ⟨S2x616x2048, .f32⟩
  | .hbm, ⟨4, _⟩ => ⟨S8x616x2048, .bf16⟩
  | .hbm, ⟨5, _⟩ => ⟨S2x616x2048, .f32⟩
  | .hbm, ⟨6, _⟩ => ⟨S2x616x2048, .f32⟩
  | .hbm, ⟨7, _⟩ => ⟨S2x616x2048, .f32⟩
  | .hbm, ⟨8, _⟩ => ⟨S2x616x2048, .f32⟩
  | .hbm, ⟨9, _⟩ => ⟨S1x616x2048, .f32⟩
  | .hbm, ⟨10, _⟩ => ⟨S1x616x2048, .f32⟩
  | .hbm, ⟨11, _⟩ => ⟨S1x616x2048, .f32⟩
  | .hbm, ⟨12, _⟩ => ⟨S1x616x2048, .f32⟩
  | .local _ .vmem, ⟨0, _⟩ => ⟨S8x56x2048, .bf16⟩
  | .local _ .vmem, ⟨1, _⟩ => ⟨S8x56x2048, .bf16⟩
  | .local _ .vmem, ⟨2, _⟩ => ⟨S1x56x2048, .f32⟩
  | .local _ .vmem, ⟨3, _⟩ => ⟨S1x56x2048, .f32⟩
  | .local _ .vmem, ⟨4, _⟩ => ⟨S1x56x2048, .f32⟩
  | .local _ .vmem, ⟨5, _⟩ => ⟨S1x56x2048, .f32⟩
  | .local _ .vmem, ⟨6, _⟩ => ⟨S1x56x2048, .f32⟩
  | .local _ .vmem, ⟨7, _⟩ => ⟨S1x56x2048, .f32⟩
  | .local _ .vmem, ⟨8, _⟩ => ⟨S1x56x2048, .f32⟩
  | .local _ .vmem, ⟨9, _⟩ => ⟨S1x56x2048, .f32⟩
  | .local _ .vmem, ⟨10, _⟩ => ⟨S1x56x2048, .f32⟩
  | .local _ .vmem, ⟨11, _⟩ => ⟨S1x56x2048, .f32⟩
  | .local _ .vmem, ⟨12, _⟩ => ⟨S1x56x2048, .f32⟩
  | .local _ .vmem, ⟨13, _⟩ => ⟨S1x56x2048, .f32⟩
  | .local _ .vmem, ⟨14, _⟩ => ⟨S1x56x2048, .f32⟩
  | .local _ .vmem, ⟨15, _⟩ => ⟨S1x56x2048, .f32⟩
  | _, _ => ⟨S8x616x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x56x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x56x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x56x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x56x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x56x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x56x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x56x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x56x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwWInBReferenceIdeal.lean ====
abbrev S8x616x2048 : Shape := ⟨3, ![8, 616, 2048]⟩
abbrev S2x616x2048 : Shape := ⟨3, ![2, 616, 2048]⟩
abbrev S_ : Shape := ⟨0, ![]⟩
abbrev S616x2048 : Shape := ⟨2, ![616, 2048]⟩
abbrev S1x616x2048 : Shape := ⟨3, ![1, 616, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8x616x2048, .f32⟩
  | .hbm, ⟨1, _⟩ => ⟨S2x616x2048, .f32⟩
  | .hbm, ⟨2, _⟩ => ⟨S2x616x2048, .f32⟩
  | .hbm, ⟨3, _⟩ => ⟨S2x616x2048, .f32⟩
  | .hbm, ⟨4, _⟩ => ⟨S_, .f32⟩
  | .hbm, ⟨5, _⟩ => ⟨S616x2048, .f32⟩
  | .hbm, ⟨6, _⟩ => ⟨S1x616x2048, .f32⟩
  | .hbm, ⟨7, _⟩ => ⟨S616x2048, .f32⟩
  | .hbm, ⟨8, _⟩ => ⟨S1x616x2048, .f32⟩
  | .hbm, ⟨9, _⟩ => ⟨S616x2048, .f32⟩
  | .hbm, ⟨10, _⟩ => ⟨S1x616x2048, .f32⟩
  | .hbm, ⟨11, _⟩ => ⟨S616x2048, .f32⟩
  | .hbm, ⟨12, _⟩ => ⟨S_, .f32⟩
  | .hbm, ⟨13, _⟩ => ⟨S616x2048, .f32⟩
  | .hbm, ⟨14, _⟩ => ⟨S616x2048, .f32⟩
  | .hbm, ⟨15, _⟩ => ⟨S_, .f32⟩
  | .hbm, ⟨16, _⟩ => ⟨S616x2048, .f32⟩
  | .hbm, ⟨17, _⟩ => ⟨S616x2048, .f32⟩
  | .hbm, ⟨18, _⟩ => ⟨S616x2048, .f32⟩
  | .hbm, ⟨19, _⟩ => ⟨S_, .f32⟩
  | .hbm, ⟨20, _⟩ => ⟨S616x2048, .f32⟩
  | .hbm, ⟨21, _⟩ => ⟨S616x2048, .f32⟩
  | .hbm, ⟨22, _⟩ => ⟨S616x2048, .f32⟩
  | .hbm, ⟨23, _⟩ => ⟨S_, .f32⟩
  | .hbm, ⟨24, _⟩ => ⟨S616x2048, .f32⟩
  | .hbm, ⟨25, _⟩ => ⟨S616x2048, .f32⟩
  | .hbm, ⟨26, _⟩ => ⟨S616x2048, .f32⟩
  | .hbm, ⟨27, _⟩ => ⟨S_, .f32⟩
  | .hbm, ⟨28, _⟩ => ⟨S616x2048, .f32⟩
  | .hbm, ⟨29, _⟩ => ⟨S616x2048, .f32⟩
  | .hbm, ⟨30, _⟩ => ⟨S_, .f32⟩
  | .hbm, ⟨31, _⟩ => ⟨S616x2048, .f32⟩
  | .hbm, ⟨32, _⟩ => ⟨S616x2048, .f32⟩
  | .hbm, ⟨33, _⟩ => ⟨S616x2048, .f32⟩
  | .hbm, ⟨34, _⟩ => ⟨S_, .f32⟩
  | .hbm, ⟨35, _⟩ => ⟨S616x2048, .f32⟩
  | .hbm, ⟨36, _⟩ => ⟨S616x2048, .f32⟩
  | .hbm, ⟨37, _⟩ => ⟨S616x2048, .f32⟩
  | .hbm, ⟨38, _⟩ => ⟨S_, .f32⟩
  | .hbm, ⟨39, _⟩ => ⟨S616x2048, .f32⟩
  | .hbm, ⟨40, _⟩ => ⟨S616x2048, .f32⟩
  | .hbm, ⟨41, _⟩ => ⟨S616x2048, .f32⟩
  | .hbm, ⟨42, _⟩ => ⟨S_, .f32⟩
  | .hbm, ⟨43, _⟩ => ⟨S616x2048, .f32⟩
  | .hbm, ⟨44, _⟩ => ⟨S616x2048, .f32⟩
  | .hbm, ⟨45, _⟩ => ⟨S1x616x2048, .f32⟩
  | .hbm, ⟨46, _⟩ => ⟨S1x616x2048, .f32⟩
  | .hbm, ⟨47, _⟩ => ⟨S1x616x2048, .f32⟩
  | .hbm, ⟨48, _⟩ => ⟨S1x616x2048, .f32⟩
  | _, _ => ⟨S8x616x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Proof.Products.InProj.lean ====
/-
  The input projection: the call's blocks hold the rows' sums over the 2048 features, as the reference's product does, in the order of the call's columns.
-/
module

public import proofs.«01_k».proof.Proof.Gen.InProj
public import proofs.«01_k».proof.Proof.Gen.InProjIdeal.Value
public import proofs.«01_k».proof.Proof.Gen.InProjReferenceIdeal.Run
public import Idealize.ShloMosaic.Lib.Pipeline.ValueKit
public import Idealize.ShloMosaic.Lib.KernelVsHost
public import proofs.«01_k».proof.Defs

@[expose] public section

set_option maxRecDepth 16384

noncomputable section

namespace Cert.InProjIdeal.Product

open Cert.InProjIdeal Cert.InProjIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The columns in the step's order, filled up with zeros. -/
def columns (x : FVec Ideal S2048x4928 .f32) : FVec Ideal S2048x5120 .f32 :=
  concatenate S2048x5120 1
    [ ⟨S2048x2048, extractStridedSlice S2048x2048 ![0, 1856] x slices_S2048x4928_S2048x2048_0_1856⟩,
      ⟨S2048x1024, extractStridedSlice S2048x1024 ![0, 832] x slices_S2048x4928_S2048x1024_0_832⟩,
      ⟨S2048x1024, extractStridedSlice S2048x1024 ![0, 3904] x slices_S2048x4928_S2048x1024_0_3904⟩,
      ⟨S2048x512, extractStridedSlice S2048x512 ![0, 0] x slices_S2048x4928_S2048x512_0_0⟩,
      ⟨S2048x256, extractStridedSlice S2048x256 ![0, 512] x slices_S2048x4928_S2048x256_0_512⟩,
      ⟨S2048x256, pad S2048x256 ![0, 0] ![0, 192] ![0, 0] (extractStridedSlice S2048x64 ![0, 768] x slices_S2048x4928_S2048x64_0_768)
        (sitofp .f32 (constantI S_ 32 0#32)) pads_S2048x64_S2048x256_000_01920 h_S_⟩ ]
    concatenates_S2048x2048_S2048x1024_S2048x1024_S2048x512_S2048x256_S2048x256_S2048x5120_d1

/-- The product's entries. -/
def entries (h : FVec Ideal S4096x2048 .f32) (w : FVec Ideal S2048x4928 .f32) : FVec Ideal S4096x5120 .f32 :=
  fun i => ∑ k : Fin 2048, h (ix2 (i 0) k) * columns w (ix2 k (i 1))

/-- The left operand as the call finds it. -/
def left (x : FVec Ideal S4096x2048 .f32) : (⟨S4096x2048, .bf16⟩ : BufTy).Contents (Elt Ideal) := truncf .bf16 x bitsLt_bf16_f32
/-- The right operand as the call finds it. -/
def right (x : FVec Ideal S2048x5120 .f32) : (⟨S5120x2048, .bf16⟩ : BufTy).Contents (Elt Ideal) :=
  truncf .bf16 (transpose S5120x2048 [1, 0] x transposes_S2048x5120_S5120x2048_1_0) bitsLt_bf16_f32
set_option maxHeartbeats 4000000 in
/-- The host's lines leave the left operand so. -/
theorem V_left : V m c main_v0 = left (m ((c.tc : Thread nD τ).loc main_arg0)) := by
  simp only [V, hostOps0, hostOps0_1, hostOps0_2, List.flatten_cons, List.flatten_nil, List.append_nil, List.cons_append, List.nil_append, TRef.binary, TRef.nullary, TRef.ternary, TRef.unary, TRef.toBuf, TRef.ofBuf, cast_eq]
  after_results_simp
  all_goals rfl
set_option maxHeartbeats 4000000 in
/-- The host's lines leave the right operand so. -/
theorem V_right : V m c main_v10 = right (columns (m ((c.tc : Thread nD τ).loc main_arg1))) := by
  simp only [V, hostOps0, hostOps0_1, hostOps0_2, List.flatten_cons, List.flatten_nil, List.append_nil, List.cons_append, List.nil_append, TRef.binary, TRef.nullary, TRef.ternary, TRef.unary, TRef.toBuf, TRef.ofBuf, cast_eq]
  after_results_simp
  all_goals rfl

/-- Which blocks the grid's points read and write. -/
theorem index_of : ∀ t : Fin grid0.N, win0_0.index t = ![t.val % 4, 0] ∧ win0_1.index t = ![t.val / 4, 0] ∧ win0_2.index t = ![t.val % 4, t.val / 4] := by decide +kernel

/-- A written block's entries by the read blocks'. -/
theorem block (x : Vec Ideal S1024x2048 .bf16) (w : Vec Ideal S1280x2048 .bf16) (y : S1024x1280.Idx) :
    out0_2 x w y = ∑ k : Fin 2048, x (ix2 (y 0) k) * w (ix2 (y 1) k) := by
  frame_out
  pointwise [k0_pay1]

/-- The whole result's entries. -/
theorem final : (dats m 0 c).arrAt 2 cfg0.N = entries (m ((c.tc : Thread nD τ).loc main_arg0)) (m ((c.tc : Thread nD τ).loc main_arg1)) := by
  refine (dats m 0 c).arrAt_eq_of_covers 2 _ (by decide +kernel) fun t hf y => ?_
  have hi := index_of t
  blk_simp
  rw [after0_2]
  refine (block _ _ y).trans ?_
  unfold entries
  refine Finset.sum_congr rfl fun k _ => ?_
  congr 1
  · unfold iblk
    blk_simp [hi]
    show V m c main_v0 _ = _
    rw [V_left]
    unfold left
    pointwise
    blk_ext [hi]
  · unfold iblk
    blk_simp [hi]
    show V m c main_v10 _ = _
    rw [V_right]
    unfold right
    pointwise
    blk_ext [hi]

/-- The zero the columns are filled up with. -/
theorem filling : (FloatOps.sitofp (F := Ideal) .f32 0#32 : EReal) = 0 := by
  show ((((0#32 : BitVec 32).toInt : ℝ) : EReal)) = _
  simp

end Cert.InProjIdeal.Product

namespace Cert.Proof

open Cert.InProjIdeal Cert.InProjIdeal.Product
open Idealize.ShloMosaic Idealize.ShloMosaic.TcCoe

set_option maxHeartbeats 1000000 in
/-- The two texts of the body, at every point of the grid, are one. -/
theorem defs₀_InProj : Cert.InProj.defs₀ (F := Bits) = Cert.InProjIdeal.defs₀ (F := Bits) := by
  refine congrArg Defs.onTc (funext fun l => ?_)
  match l with
  | 0 => exact funext fun ⟨_, _⟩ => rfl
  | ⟨_ + 1, h⟩ => exact absurd h (Nat.not_lt.2 (Nat.le_add_left _ _))

set_option maxHeartbeats 1000000 in
/-- The call at the hardware's numbers ends with its arguments unchanged and every counter at zero. -/
theorem frame_InProj : Cert.quiescent_InProj := fun m ρ _ => by
  rw [show Cert.InProj.defs (F := Bits) = Cert.InProjIdeal.defs from congrArg (Pipeline.defs Cert.InProjIdeal.pcfgs) defs₀_InProj,
    show Cert.InProj.main (F := Bits) = Cert.InProjIdeal.main from rfl]
  exact Cert.InProjIdeal.Gen.frame (F := Bits) m ρ

/-- The call at the extended reals ends with its arguments unchanged and every counter at zero. -/
theorem frame_InProjIdeal : Cert.quiescent_InProjIdeal := fun m ρ _ => Cert.InProjIdeal.Gen.frame (F := Ideal) m ρ

/-- The reference ends with its arguments unchanged and every counter at zero. -/
theorem frame_reference_InProj : Cert.quiescent_InProjReferenceIdeal := fun m ρ _ =>
  (θ_run Cert.InProjReferenceIdeal.defs _ _).mono (fun r h => ⟨fun c => (h c).2, sem_eq_zero_of_no_sems rfl r.2⟩) (Cert.InProjReferenceIdeal.Value.run (F := Ideal) m ρ)

/-- The call's result and the reference's are the same array. -/
theorem algebraic_InProj : Cert.algebraic_InProjIdeal_InProjReferenceIdeal := fun m g m' g' _ args => by
  refine ⟨fun c => entries (m ((c.tc : Thread nD τ).loc main_arg0)) (m ((c.tc : Thread nD τ).loc main_arg1)), ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.InProjReferenceIdeal.Value.run (F := Ideal) m' g')
    rw [(args c).1, (args c).2]
    funext i
    show _ = entries _ _ i
    unfold entries columns
    pointwise
    split_ifs
    all_goals first
      | rfl
      | simp only [filling, mul_zero, zero_mul, Finset.sum_const_zero]

end Cert.Proof

end
-- ==== Proof.Products.DH.lean ====
/-
  The input projection's gradient by its rows: the call's blocks hold the rows' sums over the 5120 columns, the zero columns among them, as the reference's product holds the sums over its 4928.
-/
module

public import proofs.«01_k».proof.Proof.Gen.DH
public import proofs.«01_k».proof.Proof.Gen.DHIdeal.Value
public import proofs.«01_k».proof.Proof.Gen.DHReferenceIdeal.Run
public import Idealize.ShloMosaic.Lib.Pipeline.ValueKit
public import Idealize.ShloMosaic.Lib.KernelVsHost
public import proofs.«01_k».proof.Defs

@[expose] public section

set_option maxRecDepth 16384

noncomputable section

namespace Cert.DHIdeal.Product

open Cert.DHIdeal Cert.DHIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The columns in the step's order, filled up with zeros. -/
def columns (x : FVec Ideal S4096x4928 .f32) : FVec Ideal S4096x5120 .f32 :=
  concatenate S4096x5120 1
    [ ⟨S4096x2048, extractStridedSlice S4096x2048 ![0, 1856] x slices_S4096x4928_S4096x2048_0_1856⟩,
      ⟨S4096x1024, extractStridedSlice S4096x1024 ![0, 832] x slices_S4096x4928_S4096x1024_0_832⟩,
      ⟨S4096x1024, extractStridedSlice S4096x1024 ![0, 3904] x slices_S4096x4928_S4096x1024_0_3904⟩,
      ⟨S4096x512, extractStridedSlice S4096x512 ![0, 0] x slices_S4096x4928_S4096x512_0_0⟩,
      ⟨S4096x256, extractStridedSlice S4096x256 ![0, 512] x slices_S4096x4928_S4096x256_0_512⟩,
      ⟨S4096x256, pad S4096x256 ![0, 0] ![0, 192] ![0, 0] (extractStridedSlice S4096x64 ![0, 768] x slices_S4096x4928_S4096x64_0_768)
        (sitofp .f32 (constantI S_ 32 0#32)) pads_S4096x64_S4096x256_000_01920 h_S_⟩ ]
    concatenates_S4096x2048_S4096x1024_S4096x1024_S4096x512_S4096x256_S4096x256_S4096x5120_d1

/-- The columns in the step's order, filled up with zeros. -/
def weights (x : FVec Ideal S2048x4928 .f32) : FVec Ideal S2048x5120 .f32 :=
  concatenate S2048x5120 1
    [ ⟨S2048x2048, extractStridedSlice S2048x2048 ![0, 1856] x slices_S2048x4928_S2048x2048_0_1856⟩,
      ⟨S2048x1024, extractStridedSlice S2048x1024 ![0, 832] x slices_S2048x4928_S2048x1024_0_832⟩,
      ⟨S2048x1024, extractStridedSlice S2048x1024 ![0, 3904] x slices_S2048x4928_S2048x1024_0_3904⟩,
      ⟨S2048x512, extractStridedSlice S2048x512 ![0, 0] x slices_S2048x4928_S2048x512_0_0⟩,
      ⟨S2048x256, extractStridedSlice S2048x256 ![0, 512] x slices_S2048x4928_S2048x256_0_512⟩,
      ⟨S2048x256, pad S2048x256 ![0, 0] ![0, 192] ![0, 0] (extractStridedSlice S2048x64 ![0, 768] x slices_S2048x4928_S2048x64_0_768)
        (sitofp .f32 (constantI S_ 32 0#32)) pads_S2048x64_S2048x256_000_01920 h_S_⟩ ]
    concatenates_S2048x2048_S2048x1024_S2048x1024_S2048x512_S2048x256_S2048x256_S2048x5120_d1

/-- The product's entries. -/
def entries (w : FVec Ideal S2048x4928 .f32) (z : FVec Ideal S4096x4928 .f32) : FVec Ideal S4096x2048 .f32 :=
  fun i => ∑ k : Fin 5120, columns z (ix2 (i 0) k) * weights w (ix2 (i 1) k)

/-- The left operand as the call finds it. -/
def left (x : FVec Ideal S4096x5120 .f32) : (⟨S4096x5120, .bf16⟩ : BufTy).Contents (Elt Ideal) := truncf .bf16 x bitsLt_bf16_f32
/-- The right operand as the call finds it. -/
def right (x : FVec Ideal S2048x5120 .f32) : (⟨S5120x2048, .bf16⟩ : BufTy).Contents (Elt Ideal) :=
  truncf .bf16 (transpose S5120x2048 [1, 0] x transposes_S2048x5120_S5120x2048_1_0) bitsLt_bf16_f32
set_option maxHeartbeats 4000000 in
/-- The host's lines leave the left operand so. -/
theorem V_left : V m c main_v8 = left (columns (m ((c.tc : Thread nD τ).loc main_arg1))) := by
  simp only [V, hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_results_simp
  all_goals rfl
set_option maxHeartbeats 4000000 in
/-- The host's lines leave the right operand so. -/
theorem V_right : V m c main_v18 = right (weights (m ((c.tc : Thread nD τ).loc main_arg0))) := by
  simp only [V, hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_results_simp
  all_goals rfl

/-- Which blocks the grid's points read and write. -/
theorem index_of : ∀ t : Fin grid0.N, win0_0.index t = ![t.val / 2, 0] ∧ win0_1.index t = ![0, t.val % 2] ∧ win0_2.index t = ![t.val / 2, t.val % 2] := by decide +kernel

/-- A written block's entries by the read blocks'. -/
theorem block (x : Vec Ideal S512x5120 .bf16) (w : Vec Ideal S5120x1024 .bf16) (y : S512x1024.Idx) :
    out0_2 x w y = ∑ k : Fin 5120, x (ix2 (y 0) k) * w (ix2 k (y 1)) := by
  frame_out
  pointwise [k0_pay1]

/-- The whole result's entries. -/
theorem final : (dats m 0 c).arrAt 2 cfg0.N = entries (m ((c.tc : Thread nD τ).loc main_arg0)) (m ((c.tc : Thread nD τ).loc main_arg1)) := by
  refine (dats m 0 c).arrAt_eq_of_covers 2 _ (by decide +kernel) fun t hf y => ?_
  have hi := index_of t
  blk_simp
  rw [after0_2]
  refine (block _ _ y).trans ?_
  unfold entries
  refine Finset.sum_congr rfl fun k _ => ?_
  congr 1
  · unfold iblk
    blk_simp [hi]
    show V m c main_v8 _ = _
    rw [V_left]
    unfold left
    pointwise
    blk_ext [hi]
  · unfold iblk
    blk_simp [hi]
    show V m c main_v18 _ = _
    rw [V_right]
    unfold right
    pointwise
    blk_ext [hi]

/-- The zero the columns are filled up with. -/
theorem filling : (FloatOps.sitofp (F := Ideal) .f32 0#32 : EReal) = 0 := by
  show ((((0#32 : BitVec 32).toInt : ℝ) : EReal)) = _
  simp

/-- The place of a column in the step's order. -/
def place (k : Fin 4928) : Fin 5120 :=
  ⟨if k.val < 832 then 4096 + k.val else if k.val < 1856 then 1216 + k.val else if k.val < 3904 then k.val - 1856 else k.val - 832,
    by have := k.isLt; split_ifs <;> omega⟩

/-- No two columns share a place. -/
theorem place_inj : Function.Injective place := fun a b h => by
  have := congrArg Fin.val h
  simp only [place] at this
  refine Fin.ext ?_
  have := a.isLt
  have := b.isLt
  split_ifs at * <;> omega

/-- A place before the filling is some column's. -/
theorem place_surj (j : Fin 5120) (h : j.val < 4928) : ∃ k, place k = j := by
  by_cases h0 : j.val < 2048
  · exact ⟨⟨j.val + 1856, by omega⟩, Fin.ext (by simp only [place]; split_ifs <;> omega)⟩
  by_cases h1 : j.val < 3072
  · exact ⟨⟨j.val - 1216, by omega⟩, Fin.ext (by simp only [place]; split_ifs <;> omega)⟩
  by_cases h2 : j.val < 4096
  · exact ⟨⟨j.val + 832, by omega⟩, Fin.ext (by simp only [place]; split_ifs <;> omega)⟩
  · exact ⟨⟨j.val - 4096, by omega⟩, Fin.ext (by simp only [place]; split_ifs <;> omega)⟩

/-- At its place in the step's order stands the column. -/
theorem columns_place (x : FVec Ideal S4096x4928 .f32) (r : Fin 4096) (k : Fin 4928) : columns x (ix2 r (place k)) = x (ix2 r k) := by
  unfold columns place
  pointwise
  have := k.isLt
  split_ifs
  all_goals first
    | (exfalso; omega)
    | exact congrArg (fun q => x (ix2 r q)) (Fin.ext (by simp only; omega))

/-- The filling is zero. -/
theorem columns_filling (x : FVec Ideal S4096x4928 .f32) (r : Fin 4096) (j : Fin 5120) (h : 4928 ≤ j.val) : columns x (ix2 r j) = 0 := by
  unfold columns
  pointwise
  have := j.isLt
  split_ifs
  all_goals first
    | (exfalso; omega)
    | exact filling

/-- At its place in the step's order stands the column. -/
theorem weights_place (x : FVec Ideal S2048x4928 .f32) (r : Fin 2048) (k : Fin 4928) : weights x (ix2 r (place k)) = x (ix2 r k) := by
  unfold weights place
  pointwise
  have := k.isLt
  split_ifs
  all_goals first
    | (exfalso; omega)
    | exact congrArg (fun q => x (ix2 r q)) (Fin.ext (by simp only; omega))

/-- The filling is zero. -/
theorem weights_filling (x : FVec Ideal S2048x4928 .f32) (r : Fin 2048) (j : Fin 5120) (h : 4928 ≤ j.val) : weights x (ix2 r j) = 0 := by
  unfold weights
  pointwise
  have := j.isLt
  split_ifs
  all_goals first
    | (exfalso; omega)
    | exact filling

/-- The sums over the step's columns are the sums over the reference's. -/
theorem sums (w : FVec Ideal S2048x4928 .f32) (z : FVec Ideal S4096x4928 .f32) (a : Fin 4096) (b : Fin 2048) :
    (∑ k : Fin 4928, z (ix2 a k) * w (ix2 b k)) = ∑ k : Fin 5120, columns z (ix2 a k) * weights w (ix2 b k) := by
  refine Finset.sum_of_injOn place place_inj.injOn (fun _ _ => Finset.mem_coe.2 (Finset.mem_univ _)) (fun j _ h => ?_) fun k _ => ?_
  · have : 4928 ≤ j.val := by
      by_contra hj
      obtain ⟨k, hk⟩ := place_surj j (by omega)
      exact h ⟨k, Finset.mem_coe.2 (Finset.mem_univ _), hk⟩
    rw [columns_filling z a j this, zero_mul]
  · rw [columns_place, weights_place]

end Cert.DHIdeal.Product

namespace Cert.Proof

open Cert.DHIdeal Cert.DHIdeal.Product
open Idealize.ShloMosaic Idealize.ShloMosaic.TcCoe

set_option maxHeartbeats 1000000 in
/-- The two texts of the body, at every point of the grid, are one. -/
theorem defs₀_DH : Cert.DH.defs₀ (F := Bits) = Cert.DHIdeal.defs₀ (F := Bits) := by
  refine congrArg Defs.onTc (funext fun l => ?_)
  match l with
  | 0 => exact funext fun ⟨_, _⟩ => rfl
  | ⟨_ + 1, h⟩ => exact absurd h (Nat.not_lt.2 (Nat.le_add_left _ _))

set_option maxHeartbeats 1000000 in
/-- The call at the hardware's numbers ends with its arguments unchanged and every counter at zero. -/
theorem frame_DH : Cert.quiescent_DH := fun m ρ _ => by
  rw [show Cert.DH.defs (F := Bits) = Cert.DHIdeal.defs from congrArg (Pipeline.defs Cert.DHIdeal.pcfgs) defs₀_DH,
    show Cert.DH.main (F := Bits) = Cert.DHIdeal.main from rfl]
  exact Cert.DHIdeal.Gen.frame (F := Bits) m ρ

/-- The call at the extended reals ends with its arguments unchanged and every counter at zero. -/
theorem frame_DHIdeal : Cert.quiescent_DHIdeal := fun m ρ _ => Cert.DHIdeal.Gen.frame (F := Ideal) m ρ

/-- The reference ends with its arguments unchanged and every counter at zero. -/
theorem frame_reference_DH : Cert.quiescent_DHReferenceIdeal := fun m ρ _ =>
  (θ_run Cert.DHReferenceIdeal.defs _ _).mono (fun r h => ⟨fun c => (h c).2, sem_eq_zero_of_no_sems rfl r.2⟩) (Cert.DHReferenceIdeal.Value.run (F := Ideal) m ρ)

/-- The call's result and the reference's are the same array. -/
theorem algebraic_DH : Cert.algebraic_DHIdeal_DHReferenceIdeal := fun m g m' g' _ args => by
  refine ⟨fun c => entries (m ((c.tc : Thread nD τ).loc main_arg0)) (m ((c.tc : Thread nD τ).loc main_arg1)), ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.DHReferenceIdeal.Value.run (F := Ideal) m' g')
    rw [(args c).1, (args c).2]
    funext i
    show _ = entries _ _ i
    refine Eq.trans ?_ (sums _ _ (i 0) (i 1))
    pointwise

end Cert.Proof

end
-- ==== Proof.Products.GWIn.lean ====
/-
  The input projection's gradient by its weights: the call's blocks hold the sums over the 4096 rows, as the reference's product does, in the order of the call's columns.
-/
module

public import proofs.«01_k».proof.Proof.Gen.GWIn
public import proofs.«01_k».proof.Proof.Gen.GWInIdeal.Value
public import proofs.«01_k».proof.Proof.Gen.GWInReferenceIdeal.Run
public import Idealize.ShloMosaic.Lib.Pipeline.ValueKit
public import Idealize.ShloMosaic.Lib.KernelVsHost
public import proofs.«01_k».proof.Defs

@[expose] public section

set_option maxRecDepth 16384

noncomputable section

namespace Cert.GWInIdeal.Product

open Cert.GWInIdeal Cert.GWInIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The columns in the step's order, filled up with zeros. -/
def columns (x : FVec Ideal S4096x4928 .f32) : FVec Ideal S4096x5120 .f32 :=
  concatenate S4096x5120 1
    [ ⟨S4096x2048, extractStridedSlice S4096x2048 ![0, 1856] x slices_S4096x4928_S4096x2048_0_1856⟩,
      ⟨S4096x1024, extractStridedSlice S4096x1024 ![0, 832] x slices_S4096x4928_S4096x1024_0_832⟩,
      ⟨S4096x1024, extractStridedSlice S4096x1024 ![0, 3904] x slices_S4096x4928_S4096x1024_0_3904⟩,
      ⟨S4096x512, extractStridedSlice S4096x512 ![0, 0] x slices_S4096x4928_S4096x512_0_0⟩,
      ⟨S4096x256, extractStridedSlice S4096x256 ![0, 512] x slices_S4096x4928_S4096x256_0_512⟩,
      ⟨S4096x256, pad S4096x256 ![0, 0] ![0, 192] ![0, 0] (extractStridedSlice S4096x64 ![0, 768] x slices_S4096x4928_S4096x64_0_768)
        (sitofp .f32 (constantI S_ 32 0#32)) pads_S4096x64_S4096x256_000_01920 h_S_⟩ ]
    concatenates_S4096x2048_S4096x1024_S4096x1024_S4096x512_S4096x256_S4096x256_S4096x5120_d1

/-- The product's entries. -/
def entries (h : FVec Ideal S4096x2048 .f32) (z : FVec Ideal S4096x4928 .f32) : FVec Ideal S5120x2048 .f32 :=
  fun i => ∑ k : Fin 4096, columns z (ix2 k (i 0)) * h (ix2 k (i 1))

/-- The left operand as the call finds it. -/
def left (x : FVec Ideal S4096x5120 .f32) : (⟨S4096x5120, .bf16⟩ : BufTy).Contents (Elt Ideal) := truncf .bf16 x bitsLt_bf16_f32
/-- The right operand as the call finds it. -/
def right (x : FVec Ideal S4096x2048 .f32) : (⟨S4096x2048, .bf16⟩ : BufTy).Contents (Elt Ideal) := truncf .bf16 x bitsLt_bf16_f32
set_option maxHeartbeats 4000000 in
/-- The host's lines leave the left operand so. -/
theorem V_left : V m c main_v8 = left (columns (m ((c.tc : Thread nD τ).loc main_arg1))) := by
  simp only [V, hostOps0, hostOps0_1, hostOps0_2, List.flatten_cons, List.flatten_nil, List.append_nil, List.cons_append, List.nil_append, TRef.binary, TRef.nullary, TRef.ternary, TRef.unary, TRef.toBuf, TRef.ofBuf, cast_eq]
  after_results_simp
  all_goals rfl
set_option maxHeartbeats 4000000 in
/-- The host's lines leave the right operand so. -/
theorem V_right : V m c main_v9 = right (m ((c.tc : Thread nD τ).loc main_arg0)) := by
  simp only [V, hostOps0, hostOps0_1, hostOps0_2, List.flatten_cons, List.flatten_nil, List.append_nil, List.cons_append, List.nil_append, TRef.binary, TRef.nullary, TRef.ternary, TRef.unary, TRef.toBuf, TRef.ofBuf, cast_eq]
  after_results_simp
  all_goals rfl

/-- Which blocks the grid's points read and write. -/
theorem index_of : ∀ t : Fin grid0.N, win0_0.index t = ![0, t.val / 2] ∧ win0_1.index t = ![0, t.val % 2] ∧ win0_2.index t = ![t.val / 2, t.val % 2] := by decide +kernel

/-- A written block's entries by the read blocks'. -/
theorem block (x : Vec Ideal S4096x1024 .bf16) (w : Vec Ideal S4096x1024 .bf16) (y : S1024x1024.Idx) :
    out0_2 x w y = ∑ k : Fin 4096, x (ix2 k (y 0)) * w (ix2 k (y 1)) := by
  frame_out
  pointwise [k0_pay1]

/-- The whole result's entries. -/
theorem final : (dats m 0 c).arrAt 2 cfg0.N = entries (m ((c.tc : Thread nD τ).loc main_arg0)) (m ((c.tc : Thread nD τ).loc main_arg1)) := by
  refine (dats m 0 c).arrAt_eq_of_covers 2 _ (by decide +kernel) fun t hf y => ?_
  have hi := index_of t
  blk_simp
  rw [after0_2]
  refine (block _ _ y).trans ?_
  unfold entries
  refine Finset.sum_congr rfl fun k _ => ?_
  congr 1
  · unfold iblk
    blk_simp [hi]
    show V m c main_v8 _ = _
    rw [V_left]
    unfold left
    pointwise
    blk_ext [hi]
  · unfold iblk
    blk_simp [hi]
    show V m c main_v9 _ = _
    rw [V_right]
    unfold right
    pointwise
    blk_ext [hi]

/-- The zero the columns are filled up with. -/
theorem filling : (FloatOps.sitofp (F := Ideal) .f32 0#32 : EReal) = 0 := by
  show ((((0#32 : BitVec 32).toInt : ℝ) : EReal)) = _
  simp

end Cert.GWInIdeal.Product

namespace Cert.Proof

open Cert.GWInIdeal Cert.GWInIdeal.Product
open Idealize.ShloMosaic Idealize.ShloMosaic.TcCoe

set_option maxHeartbeats 1000000 in
/-- The two texts of the body, at every point of the grid, are one. -/
theorem defs₀_GWIn : Cert.GWIn.defs₀ (F := Bits) = Cert.GWInIdeal.defs₀ (F := Bits) := by
  refine congrArg Defs.onTc (funext fun l => ?_)
  match l with
  | 0 => exact funext fun ⟨_, _⟩ => rfl
  | ⟨_ + 1, h⟩ => exact absurd h (Nat.not_lt.2 (Nat.le_add_left _ _))

set_option maxHeartbeats 1000000 in
/-- The call at the hardware's numbers ends with its arguments unchanged and every counter at zero. -/
theorem frame_GWIn : Cert.quiescent_GWIn := fun m ρ _ => by
  rw [show Cert.GWIn.defs (F := Bits) = Cert.GWInIdeal.defs from congrArg (Pipeline.defs Cert.GWInIdeal.pcfgs) defs₀_GWIn,
    show Cert.GWIn.main (F := Bits) = Cert.GWInIdeal.main from rfl]
  exact Cert.GWInIdeal.Gen.frame (F := Bits) m ρ

/-- The call at the extended reals ends with its arguments unchanged and every counter at zero. -/
theorem frame_GWInIdeal : Cert.quiescent_GWInIdeal := fun m ρ _ => Cert.GWInIdeal.Gen.frame (F := Ideal) m ρ

/-- The reference ends with its arguments unchanged and every counter at zero. -/
theorem frame_reference_GWIn : Cert.quiescent_GWInReferenceIdeal := fun m ρ _ =>
  (θ_run Cert.GWInReferenceIdeal.defs _ _).mono (fun r h => ⟨fun c => (h c).2, sem_eq_zero_of_no_sems rfl r.2⟩) (Cert.GWInReferenceIdeal.Value.run (F := Ideal) m ρ)

/-- The call's result and the reference's are the same array. -/
theorem algebraic_GWIn : Cert.algebraic_GWInIdeal_GWInReferenceIdeal := fun m g m' g' _ args => by
  refine ⟨fun c => entries (m ((c.tc : Thread nD τ).loc main_arg0)) (m ((c.tc : Thread nD τ).loc main_arg1)), ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.GWInReferenceIdeal.Value.run (F := Ideal) m' g')
    rw [(args c).1, (args c).2]
    funext i
    show _ = entries _ _ i
    unfold entries columns
    pointwise
    split_ifs
    all_goals first
      | rfl
      | simp only [filling, mul_zero, zero_mul, Finset.sum_const_zero]

end Cert.Proof

end
-- ==== Proof.Products.OutProj.lean ====
/-
  The output projection and the gated residual: the call's blocks hold the rows' sums over the 2048 inputs, as the reference's product does, and the rows with the gated sums added.
-/
module

public import proofs.«01_k».proof.Proof.Gen.OutProj
public import proofs.«01_k».proof.Proof.Gen.OutProjIdeal.Value
public import proofs.«01_k».proof.Proof.Gen.OutProjReferenceIdeal.Run
public import Idealize.ShloMosaic.Lib.Pipeline.ValueKit
public import Idealize.ShloMosaic.Lib.KernelVsHost
public import proofs.«01_k».proof.Defs

@[expose] public section

set_option maxRecDepth 16384

noncomputable section

namespace Cert.OutProjIdeal.Product

open Cert.OutProjIdeal Cert.OutProjIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The two head groups' outputs side by side. -/
def both (a b : FVec Ideal S4096x1024 .f32) : FVec Ideal S4096x2048 .f32 :=
  concatenate S4096x2048 1 [⟨S4096x1024, a⟩, ⟨S4096x1024, b⟩] concatenates_S4096x1024_S4096x1024_S4096x2048_d1

/-- The product's entries. -/
def entries (a b : FVec Ideal S4096x1024 .f32) (w : FVec Ideal S2048x2048 .f32) : FVec Ideal S4096x2048 .f32 :=
  fun i => ∑ k : Fin 2048, both a b (ix2 (i 0) k) * w (ix2 k (i 1))

/-- The residual's entries. -/
def gated (a b : FVec Ideal S4096x1024 .f32) (w : FVec Ideal S2048x2048 .f32) (x : FVec Ideal S4096x2048 .f32)
    (g : FVec Ideal S1x2048 .f32) : FVec Ideal S4096x2048 .f32 :=
  fun i => x i + g (ix2 0 (i 1)) * entries a b w i

/-- The left operand as the call finds it. -/
def left (x : FVec Ideal S4096x2048 .f32) : (⟨S4096x2048, .bf16⟩ : BufTy).Contents (Elt Ideal) := truncf .bf16 x bitsLt_bf16_f32
/-- The right operand as the call finds it. -/
def right (x : FVec Ideal S2048x2048 .f32) : (⟨S2048x2048, .bf16⟩ : BufTy).Contents (Elt Ideal) := truncf .bf16 x bitsLt_bf16_f32
/-- The host's lines leave the left operand so. -/
theorem V_left : V m c main_v1 = left (both (m ((c.tc : Thread nD τ).loc main_arg0)) (m ((c.tc : Thread nD τ).loc main_arg1))) := by
  simp only [V, hostOps0]
  after_results_simp
  all_goals rfl
/-- The host's lines leave the right operand so. -/
theorem V_right : V m c main_v2 = right (m ((c.tc : Thread nD τ).loc main_arg2)) := by
  simp only [V, hostOps0]
  after_results_simp
  all_goals rfl
/-- The host's lines leave the rows as they are. -/
theorem V_rows : V m c main_arg3 = (m ((c.tc : Thread nD τ).loc main_arg3)) := by
  simp only [V, hostOps0]
  after_results_simp
/-- The host's lines leave the gate as it is. -/
theorem V_gate : V m c main_arg4 = (m ((c.tc : Thread nD τ).loc main_arg4)) := by
  simp only [V, hostOps0]
  after_results_simp

/-- Which blocks the grid's points read and write. -/
theorem index_of : ∀ t : Fin grid0.N, win0_0.index t = ![t.val / 2, 0] ∧ win0_1.index t = ![0, t.val % 2] ∧ win0_2.index t = ![t.val / 2, t.val % 2]
    ∧ win0_3.index t = ![0, t.val % 2] ∧ win0_4.index t = ![t.val / 2, t.val % 2] ∧ win0_5.index t = ![t.val / 2, t.val % 2] := by decide +kernel

/-- A written block's entries by the read blocks'. -/
theorem block (x : Vec Ideal S1024x2048 .bf16) (w : Vec Ideal S2048x1024 .bf16) (r : Vec Ideal S1024x1024 .f32) (g : Vec Ideal S1x1024 .f32)
    (y : S1024x1024.Idx) : out0_4 x w r g y = ∑ k : Fin 2048, x (ix2 (y 0) k) * w (ix2 k (y 1)) := by
  frame_out
  pointwise [k0_pay1]

/-- A written residual block's entries by the read blocks'. -/
theorem gated_block (x : Vec Ideal S1024x2048 .bf16) (w : Vec Ideal S2048x1024 .bf16) (r : Vec Ideal S1024x1024 .f32)
    (g : Vec Ideal S1x1024 .f32) (y : S1024x1024.Idx) :
    out0_5 x w r g y = r y + g (ix2 0 (y 1)) * ∑ k : Fin 2048, x (ix2 (y 0) k) * w (ix2 k (y 1)) := by
  frame_out
  pointwise [k0_pay2, k0_pay1]

/-- A point's blocks hold the rows' sums at the written block's entries. -/
theorem sum_eq (t : Fin grid0.N) (x : Vec Ideal S1024x2048 .bf16) (w : Vec Ideal S2048x1024 .bf16) (hx : x = iblk m c 0 t)
    (hw : w = iblk m c 1 t) (y : S1024x1024.Idx) (i : S4096x2048.Idx) (h0 : (i 0).val = t.val / 2 * 1024 + (y 0).val)
    (h1 : (i 1).val = t.val % 2 * 1024 + (y 1).val) :
    (∑ k : Fin 2048, x (ix2 (y 0) k) * w (ix2 k (y 1))) = entries (m ((c.tc : Thread nD τ).loc main_arg0)) (m ((c.tc : Thread nD τ).loc main_arg1)) (m ((c.tc : Thread nD τ).loc main_arg2)) i := by
  have hi := index_of t
  subst hx hw
  unfold entries
  refine Finset.sum_congr rfl fun k _ => ?_
  congr 1
  · unfold iblk
    blk_simp [hi]
    show V m c main_v1 _ = _
    rw [V_left]
    refine congrArg (both _ _) ?_
    blk_ext [hi, h0]
  · unfold iblk
    blk_simp [hi]
    show V m c main_v2 _ = _
    rw [V_right]
    refine congrArg (m ((c.tc : Thread nD τ).loc main_arg2)) ?_
    blk_ext [hi, h1]

/-- The whole product. -/
theorem final : (dats m 0 c).arrAt 4 cfg0.N = entries (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  have hi := index_of t
  blk_simp
  rw [after0_4]
  refine (block _ _ _ _ y).trans (sum_eq m c t _ _ rfl rfl y _ ?_ ?_)
  all_goals blk_simp [hi]

/-- The whole residual. -/
theorem final_gated : (dats m 0 c).arrAt 5 cfg0.N = gated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  have hi := index_of t
  blk_simp
  rw [after0_5]
  refine (gated_block _ _ _ _ y).trans ?_
  unfold gated
  refine congrArg₂ (· + ·) ?_ (congrArg₂ (· * ·) ?_ (sum_eq m c t _ _ rfl rfl y _ ?_ ?_))
  · unfold iblk
    blk_simp [hi]
    show V m c main_arg3 _ = _
    rw [V_rows]
    refine congrArg (m ((c.tc : Thread nD τ).loc main_arg3)) ?_
    blk_ext [hi]
  · unfold iblk
    blk_simp [hi]
    show V m c main_arg4 _ = _
    rw [V_gate]
    refine congrArg (m ((c.tc : Thread nD τ).loc main_arg4)) ?_
    blk_ext [hi]
  all_goals blk_simp [hi]

/-- The reference's product has the same entries. -/
theorem reference_entries (a b : FVec Ideal S4096x1024 .f32) (w : FVec Ideal S2048x2048 .f32) :
    Host.dotGeneral Cert.OutProjReferenceIdeal.dot_S4096x2048_S2048x2048_S4096x2048_1_0_0_1_n_n none (both a b) w = entries a b w := by
  funext i
  unfold entries
  pointwise

end Cert.OutProjIdeal.Product

namespace Cert.Proof

open Cert.OutProjIdeal Cert.OutProjIdeal.Product
open Idealize.ShloMosaic Idealize.ShloMosaic.TcCoe

set_option maxHeartbeats 1000000 in
/-- The two texts of the body, at every point of the grid, are one. -/
theorem defs₀_OutProj : Cert.OutProj.defs₀ (F := Bits) = Cert.OutProjIdeal.defs₀ (F := Bits) := by
  refine congrArg Defs.onTc (funext fun l => ?_)
  match l with
  | 0 => exact funext fun ⟨_, _⟩ => rfl
  | ⟨_ + 1, h⟩ => exact absurd h (Nat.not_lt.2 (Nat.le_add_left _ _))

set_option maxHeartbeats 1000000 in
/-- The call at the hardware's numbers ends with its arguments unchanged and every counter at zero. -/
theorem frame_OutProj : Cert.quiescent_OutProj := fun m ρ _ => by
  rw [show Cert.OutProj.defs (F := Bits) = Cert.OutProjIdeal.defs from congrArg (Pipeline.defs Cert.OutProjIdeal.pcfgs) defs₀_OutProj,
    show Cert.OutProj.main (F := Bits) = Cert.OutProjIdeal.main from rfl]
  exact Cert.OutProjIdeal.Gen.frame (F := Bits) m ρ

/-- The call at the extended reals ends with its arguments unchanged and every counter at zero. -/
theorem frame_OutProjIdeal : Cert.quiescent_OutProjIdeal := fun m ρ _ => Cert.OutProjIdeal.Gen.frame (F := Ideal) m ρ

/-- The reference ends with its arguments unchanged and every counter at zero. -/
theorem frame_reference_OutProj : Cert.quiescent_OutProjReferenceIdeal := fun m ρ _ =>
  (θ_run Cert.OutProjReferenceIdeal.defs _ _).mono (fun r h => ⟨fun c => (h c).2.2, sem_eq_zero_of_no_sems rfl r.2⟩) (Cert.OutProjReferenceIdeal.Value.run (F := Ideal) m ρ)

/-- The call's results and the reference's are the same arrays. -/
theorem algebraic_OutProj : Cert.algebraic_OutProjIdeal_OutProjReferenceIdeal := fun m g m' g' _ args => by
  refine ⟨fun c => entries (m ((c.tc : Thread nD τ).loc main_arg0)) (m ((c.tc : Thread nD τ).loc main_arg1)) (m ((c.tc : Thread nD τ).loc main_arg2)), fun c => gated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), ?_, ?_⟩
  · exact (θ_run _ _ _).mono (fun r h c => ⟨(h c).1.trans (final m c), (h c).2.1.trans (final_gated m c), (h c).2.2⟩) (Value.run_blocks m g)
  · refine (θ_run _ _ _).mono (fun r h c => ⟨(h c).1.trans ?_, (h c).2.1.trans ?_, (h c).2.2⟩) (Cert.OutProjReferenceIdeal.Value.run (F := Ideal) m' g')
    · rw [(args c).1, (args c).2.1, (args c).2.2.1]
      exact reference_entries _ _ _
    · rw [(args c).1, (args c).2.1, (args c).2.2.1, (args c).2.2.2.1, (args c).2.2.2.2]
      refine (congrArg (fun q => addf _ (mulf _ q)) (reference_entries _ _ _)).trans ?_
      funext i
      show _ = gated _ _ _ _ _ i
      unfold gated
      pointwise

end Cert.Proof

end
-- ==== Proof.Products.GWOut.lean ====
/-
  The output projection's gradient by its weights: the call's blocks hold the sums over the 4096 rows, as the reference's product does.
-/
module

public import proofs.«01_k».proof.Proof.Gen.GWOut
public import proofs.«01_k».proof.Proof.Gen.GWOutIdeal.Value
public import proofs.«01_k».proof.Proof.Gen.GWOutReferenceIdeal.Run
public import Idealize.ShloMosaic.Lib.Pipeline.ValueKit
public import Idealize.ShloMosaic.Lib.KernelVsHost
public import proofs.«01_k».proof.Defs

@[expose] public section

set_option maxRecDepth 16384

noncomputable section

namespace Cert.GWOutIdeal.Product

open Cert.GWOutIdeal Cert.GWOutIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The two head groups' outputs side by side. -/
def both (a b : FVec Ideal S4096x1024 .f32) : FVec Ideal S4096x2048 .f32 :=
  concatenate S4096x2048 1 [⟨S4096x1024, a⟩, ⟨S4096x1024, b⟩] concatenates_S4096x1024_S4096x1024_S4096x2048_d1

/-- The product's entries. -/
def entries (a b : FVec Ideal S4096x1024 .f32) (w : FVec Ideal S4096x2048 .f32) : FVec Ideal S2048x2048 .f32 :=
  fun i => ∑ k : Fin 4096, both a b (ix2 k (i 0)) * w (ix2 k (i 1))

/-- An operand as the call finds it. -/
def cast (x : FVec Ideal S4096x2048 .f32) : (⟨S4096x2048, .bf16⟩ : BufTy).Contents (Elt Ideal) := truncf .bf16 x bitsLt_bf16_f32
/-- The host's lines leave the left operand so. -/
theorem V_left : V m c main_v1 = cast (both (m ((c.tc : Thread nD τ).loc main_arg0)) (m ((c.tc : Thread nD τ).loc main_arg1))) := by
  simp only [V, hostOps0]
  after_results_simp
  all_goals rfl
/-- The host's lines leave the right operand so. -/
theorem V_right : V m c main_v2 = cast (m ((c.tc : Thread nD τ).loc main_arg2)) := by
  simp only [V, hostOps0]
  after_results_simp
  all_goals rfl

/-- Which blocks the grid's points read and write. -/
theorem index_of : ∀ t : Fin grid0.N, win0_0.index t = ![0, t.val / 2] ∧ win0_1.index t = ![0, t.val % 2] ∧ win0_2.index t = ![t.val / 2, t.val % 2] := by decide +kernel

/-- A written block's entries by the read blocks'. -/
theorem block (x : Vec Ideal S4096x1024 .bf16) (w : Vec Ideal S4096x1024 .bf16) (y : S1024x1024.Idx) :
    out0_2 x w y = ∑ k : Fin 4096, x (ix2 k (y 0)) * w (ix2 k (y 1)) := by
  frame_out
  pointwise [k0_pay1]

/-- The whole result's entries. -/
theorem final : (dats m 0 c).arrAt 2 cfg0.N = entries (m ((c.tc : Thread nD τ).loc main_arg0)) (m ((c.tc : Thread nD τ).loc main_arg1)) (m ((c.tc : Thread nD τ).loc main_arg2)) := by
  refine (dats m 0 c).arrAt_eq_of_covers 2 _ (by decide +kernel) fun t hf y => ?_
  have hi := index_of t
  blk_simp
  rw [after0_2]
  refine (block _ _ y).trans ?_
  unfold entries
  refine Finset.sum_congr rfl fun k _ => ?_
  congr 1
  · unfold iblk
    blk_simp [hi]
    show V m c main_v1 _ = _
    rw [V_left]
    refine congrArg (both _ _) ?_
    blk_ext [hi]
  · unfold iblk
    blk_simp [hi]
    show V m c main_v2 _ = _
    rw [V_right]
    refine congrArg (m ((c.tc : Thread nD τ).loc main_arg2)) ?_
    blk_ext [hi]

/-- The reference's result has the same entries. -/
theorem reference_entries (a b : FVec Ideal S4096x1024 .f32) (w : FVec Ideal S4096x2048 .f32) :
    transpose S2048x2048 [1, 0] (Host.dotGeneral Cert.GWOutReferenceIdeal.dot_S4096x2048_S4096x2048_S2048x2048_0_0_1_1_n_n none w (both a b)) Cert.GWOutReferenceIdeal.Gen.transposes_S2048x2048_S2048x2048_1_0 = entries a b w := by
  funext i
  unfold entries
  pointwise
  exact Finset.sum_congr rfl fun k _ => mul_comm _ _

end Cert.GWOutIdeal.Product

namespace Cert.Proof

open Cert.GWOutIdeal Cert.GWOutIdeal.Product
open Idealize.ShloMosaic Idealize.ShloMosaic.TcCoe

set_option maxHeartbeats 1000000 in
/-- The two texts of the body, at every point of the grid, are one. -/
theorem defs₀_GWOut : Cert.GWOut.defs₀ (F := Bits) = Cert.GWOutIdeal.defs₀ (F := Bits) := by
  refine congrArg Defs.onTc (funext fun l => ?_)
  match l with
  | 0 => exact funext fun ⟨_, _⟩ => rfl
  | ⟨_ + 1, h⟩ => exact absurd h (Nat.not_lt.2 (Nat.le_add_left _ _))

set_option maxHeartbeats 1000000 in
/-- The call at the hardware's numbers ends with its arguments unchanged and every counter at zero. -/
theorem frame_GWOut : Cert.quiescent_GWOut := fun m ρ _ => by
  rw [show Cert.GWOut.defs (F := Bits) = Cert.GWOutIdeal.defs from congrArg (Pipeline.defs Cert.GWOutIdeal.pcfgs) defs₀_GWOut,
    show Cert.GWOut.main (F := Bits) = Cert.GWOutIdeal.main from rfl]
  exact Cert.GWOutIdeal.Gen.frame (F := Bits) m ρ

/-- The call at the extended reals ends with its arguments unchanged and every counter at zero. -/
theorem frame_GWOutIdeal : Cert.quiescent_GWOutIdeal := fun m ρ _ => Cert.GWOutIdeal.Gen.frame (F := Ideal) m ρ

/-- The reference ends with its arguments unchanged and every counter at zero. -/
theorem frame_reference_GWOut : Cert.quiescent_GWOutReferenceIdeal := fun m ρ _ =>
  (θ_run Cert.GWOutReferenceIdeal.defs _ _).mono (fun r h => ⟨fun c => (h c).2, sem_eq_zero_of_no_sems rfl r.2⟩) (Cert.GWOutReferenceIdeal.Value.run (F := Ideal) m ρ)

/-- The call's result and the reference's are the same array. -/
theorem algebraic_GWOut : Cert.algebraic_GWOutIdeal_GWOutReferenceIdeal := fun m g m' g' _ args => by
  refine ⟨fun c => entries (m ((c.tc : Thread nD τ).loc main_arg0)) (m ((c.tc : Thread nD τ).loc main_arg1)) (m ((c.tc : Thread nD τ).loc main_arg2)), ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.GWOutReferenceIdeal.Value.run (F := Ideal) m' g')
    rw [(args c).1, (args c).2.1, (args c).2.2]
    exact reference_entries _ _ _

end Cert.Proof

end
-- ==== Proof.Products.GWPw.lean ====
/-
  The pointwise product's gradient by its weights: the call's one block holds the sums over the 4096 rows, as the reference's product does.
-/
module

public import proofs.«01_k».proof.Proof.Gen.GWPw
public import proofs.«01_k».proof.Proof.Gen.GWPwIdeal.Value
public import proofs.«01_k».proof.Proof.Gen.GWPwReferenceIdeal.Run
public import Idealize.ShloMosaic.Lib.Pipeline.ValueKit
public import Idealize.ShloMosaic.Lib.KernelVsHost
public import proofs.«01_k».proof.Defs

@[expose] public section

set_option maxRecDepth 16384

noncomputable section

namespace Cert.GWPwIdeal.Product

open Cert.GWPwIdeal Cert.GWPwIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The product's entries. -/
def entries (x w : FVec Ideal S4096x1024 .f32) : FVec Ideal S1024x1024 .f32 :=
  fun i => ∑ k : Fin 4096, x (ix2 k (i 0)) * w (ix2 k (i 1))

/-- The left operand as the call finds it. -/
def left (x : FVec Ideal S4096x1024 .f32) : (⟨S4096x1024, .bf16⟩ : BufTy).Contents (Elt Ideal) := truncf .bf16 x bitsLt_bf16_f32
/-- The right operand as the call finds it. -/
def right (x : FVec Ideal S4096x1024 .f32) : (⟨S4096x1024, .bf16⟩ : BufTy).Contents (Elt Ideal) := truncf .bf16 x bitsLt_bf16_f32
/-- The host's lines leave the left operand so. -/
theorem V_left : V m c main_v0 = left (m ((c.tc : Thread nD τ).loc main_arg0)) := by
  simp only [V, hostOps0]
  after_results_simp
  all_goals rfl
/-- The host's lines leave the right operand so. -/
theorem V_right : V m c main_v1 = right (m ((c.tc : Thread nD τ).loc main_arg1)) := by
  simp only [V, hostOps0]
  after_results_simp
  all_goals rfl

/-- Which blocks the grid's points read and write. -/
theorem index_of : ∀ t : Fin grid0.N, win0_0.index t = ![0, 0] ∧ win0_1.index t = ![0, 0] ∧ win0_2.index t = ![0, 0] := by decide +kernel

/-- A written block's entries by the read blocks'. -/
theorem block (x : Vec Ideal S4096x1024 .bf16) (w : Vec Ideal S4096x1024 .bf16) (y : S1024x1024.Idx) :
    out0_2 x w y = ∑ k : Fin 4096, x (ix2 k (y 0)) * w (ix2 k (y 1)) := by
  frame_out
  pointwise [k0_pay1]

/-- The whole result's entries. -/
theorem final : (dats m 0 c).arrAt 2 cfg0.N = entries (m ((c.tc : Thread nD τ).loc main_arg0)) (m ((c.tc : Thread nD τ).loc main_arg1)) := by
  refine (dats m 0 c).arrAt_eq_of_covers 2 _ (by decide +kernel) fun t hf y => ?_
  have hi := index_of t
  blk_simp
  rw [after0_2]
  refine (block _ _ y).trans ?_
  unfold entries
  refine Finset.sum_congr rfl fun k _ => ?_
  congr 1
  · unfold iblk
    blk_simp [hi]
    show V m c main_v0 _ = _
    rw [V_left]
    unfold left
    pointwise
    blk_ext [hi]
  · unfold iblk
    blk_simp [hi]
    show V m c main_v1 _ = _
    rw [V_right]
    unfold right
    pointwise
    blk_ext [hi]

/-- The reference's result has the same entries. -/
theorem reference_entries (x w : FVec Ideal S4096x1024 .f32) :
    transpose S1024x1024 [1, 0] (Host.dotGeneral Cert.GWPwReferenceIdeal.dot_S4096x1024_S4096x1024_S1024x1024_0_0_1_1_n_n none w x) Cert.GWPwReferenceIdeal.Gen.transposes_S1024x1024_S1024x1024_1_0 = entries x w := by
  funext i
  unfold entries
  pointwise
  exact Finset.sum_congr rfl fun k _ => mul_comm _ _

end Cert.GWPwIdeal.Product

namespace Cert.Proof

open Cert.GWPwIdeal Cert.GWPwIdeal.Product
open Idealize.ShloMosaic Idealize.ShloMosaic.TcCoe

set_option maxHeartbeats 1000000 in
/-- The two texts of the body, at every point of the grid, are one. -/
theorem defs₀_GWPw : Cert.GWPw.defs₀ (F := Bits) = Cert.GWPwIdeal.defs₀ (F := Bits) := by
  refine congrArg Defs.onTc (funext fun l => ?_)
  match l with
  | 0 => exact funext fun ⟨_, _⟩ => rfl
  | ⟨_ + 1, h⟩ => exact absurd h (Nat.not_lt.2 (Nat.le_add_left _ _))

set_option maxHeartbeats 1000000 in
/-- The call at the hardware's numbers ends with its arguments unchanged and every counter at zero. -/
theorem frame_GWPw : Cert.quiescent_GWPw := fun m ρ _ => by
  rw [show Cert.GWPw.defs (F := Bits) = Cert.GWPwIdeal.defs from congrArg (Pipeline.defs Cert.GWPwIdeal.pcfgs) defs₀_GWPw,
    show Cert.GWPw.main (F := Bits) = Cert.GWPwIdeal.main from rfl]
  exact Cert.GWPwIdeal.Gen.frame (F := Bits) m ρ

/-- The call at the extended reals ends with its arguments unchanged and every counter at zero. -/
theorem frame_GWPwIdeal : Cert.quiescent_GWPwIdeal := fun m ρ _ => Cert.GWPwIdeal.Gen.frame (F := Ideal) m ρ

/-- The reference ends with its arguments unchanged and every counter at zero. -/
theorem frame_reference_GWPw : Cert.quiescent_GWPwReferenceIdeal := fun m ρ _ =>
  (θ_run Cert.GWPwReferenceIdeal.defs _ _).mono (fun r h => ⟨fun c => (h c).2, sem_eq_zero_of_no_sems rfl r.2⟩) (Cert.GWPwReferenceIdeal.Value.run (F := Ideal) m ρ)

/-- The call's result and the reference's are the same array. -/
theorem algebraic_GWPw : Cert.algebraic_GWPwIdeal_GWPwReferenceIdeal := fun m g m' g' _ args => by
  refine ⟨fun c => entries (m ((c.tc : Thread nD τ).loc main_arg0)) (m ((c.tc : Thread nD τ).loc main_arg1)), ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.GWPwReferenceIdeal.Value.run (F := Ideal) m' g')
    rw [(args c).1, (args c).2]
    exact reference_entries _ _

end Cert.Proof

end
-- ==== Proof.Products.DU3.lean ====
/-
  The pointwise product's gradient by its rows: the call's blocks hold the rows' sums over the 1024 channels, as the reference's product does.
-/
module

public import proofs.«01_k».proof.Proof.Gen.DU3
public import proofs.«01_k».proof.Proof.Gen.DU3Ideal.Value
public import proofs.«01_k».proof.Proof.Gen.DU3ReferenceIdeal.Run
public import Idealize.ShloMosaic.Lib.Pipeline.ValueKit
public import Idealize.ShloMosaic.Lib.KernelVsHost
public import proofs.«01_k».proof.Defs

@[expose] public section

set_option maxRecDepth 16384

noncomputable section

namespace Cert.DU3Ideal.Product

open Cert.DU3Ideal Cert.DU3Ideal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The product's entries. -/
def entries (x : FVec Ideal S4096x1024 .f32) (w : FVec Ideal S1024x1024 .f32) : FVec Ideal S4096x1024 .f32 :=
  fun i => ∑ k : Fin 1024, x (ix2 (i 0) k) * w (ix2 (i 1) k)

/-- The left operand as the call finds it. -/
def left (x : FVec Ideal S4096x1024 .f32) : (⟨S4096x1024, .bf16⟩ : BufTy).Contents (Elt Ideal) := truncf .bf16 x bitsLt_bf16_f32
/-- The right operand as the call finds it. -/
def right (x : FVec Ideal S1024x1024 .f32) : (⟨S1024x1024, .bf16⟩ : BufTy).Contents (Elt Ideal) := truncf .bf16 x bitsLt_bf16_f32
/-- The host's lines leave the left operand so. -/
theorem V_left : V m c main_v0 = left (m ((c.tc : Thread nD τ).loc main_arg0)) := by
  simp only [V, hostOps0]
  after_results_simp
  all_goals rfl
/-- The host's lines leave the right operand so. -/
theorem V_right : V m c main_v1 = right (m ((c.tc : Thread nD τ).loc main_arg1)) := by
  simp only [V, hostOps0]
  after_results_simp
  all_goals rfl

/-- Which blocks the grid's points read and write. -/
theorem index_of : ∀ t : Fin grid0.N, win0_0.index t = ![t.val, 0] ∧ win0_1.index t = ![0, 0] ∧ win0_2.index t = ![t.val, 0] := by decide +kernel

/-- A written block's entries by the read blocks'. -/
theorem block (x : Vec Ideal S512x1024 .bf16) (w : Vec Ideal S1024x1024 .bf16) (y : S512x1024.Idx) :
    out0_2 x w y = ∑ k : Fin 1024, x (ix2 (y 0) k) * w (ix2 (y 1) k) := by
  frame_out
  pointwise [k0_pay1]

/-- The whole result's entries. -/
theorem final : (dats m 0 c).arrAt 2 cfg0.N = entries (m ((c.tc : Thread nD τ).loc main_arg0)) (m ((c.tc : Thread nD τ).loc main_arg1)) := by
  refine (dats m 0 c).arrAt_eq_of_covers 2 _ (by decide +kernel) fun t hf y => ?_
  have hi := index_of t
  blk_simp
  rw [after0_2]
  refine (block _ _ y).trans ?_
  unfold entries
  refine Finset.sum_congr rfl fun k _ => ?_
  congr 1
  · unfold iblk
    blk_simp [hi]
    show V m c main_v0 _ = _
    rw [V_left]
    unfold left
    pointwise
    blk_ext [hi]
  · unfold iblk
    blk_simp [hi]
    show V m c main_v1 _ = _
    rw [V_right]
    unfold right
    pointwise
    blk_ext [hi]

/-- The reference's product has the same entries. -/
theorem reference_entries (x : FVec Ideal S4096x1024 .f32) (w : FVec Ideal S1024x1024 .f32) :
    Host.dotGeneral Cert.DU3ReferenceIdeal.dot_S4096x1024_S1024x1024_S4096x1024_1_1_0_0_n_n none x w = entries x w := by
  funext i
  unfold entries
  pointwise

end Cert.DU3Ideal.Product

namespace Cert.Proof

open Cert.DU3Ideal Cert.DU3Ideal.Product
open Idealize.ShloMosaic Idealize.ShloMosaic.TcCoe

set_option maxHeartbeats 1000000 in
/-- The two texts of the body, at every point of the grid, are one. -/
theorem defs₀_DU3 : Cert.DU3.defs₀ (F := Bits) = Cert.DU3Ideal.defs₀ (F := Bits) := by
  refine congrArg Defs.onTc (funext fun l => ?_)
  match l with
  | 0 => exact funext fun ⟨_, _⟩ => rfl
  | ⟨_ + 1, h⟩ => exact absurd h (Nat.not_lt.2 (Nat.le_add_left _ _))

set_option maxHeartbeats 1000000 in
/-- The call at the hardware's numbers ends with its arguments unchanged and every counter at zero. -/
theorem frame_DU3 : Cert.quiescent_DU3 := fun m ρ _ => by
  rw [show Cert.DU3.defs (F := Bits) = Cert.DU3Ideal.defs from congrArg (Pipeline.defs Cert.DU3Ideal.pcfgs) defs₀_DU3,
    show Cert.DU3.main (F := Bits) = Cert.DU3Ideal.main from rfl]
  exact Cert.DU3Ideal.Gen.frame (F := Bits) m ρ

/-- The call at the extended reals ends with its arguments unchanged and every counter at zero. -/
theorem frame_DU3Ideal : Cert.quiescent_DU3Ideal := fun m ρ _ => Cert.DU3Ideal.Gen.frame (F := Ideal) m ρ

/-- The reference ends with its arguments unchanged and every counter at zero. -/
theorem frame_reference_DU3 : Cert.quiescent_DU3ReferenceIdeal := fun m ρ _ =>
  (θ_run Cert.DU3ReferenceIdeal.defs _ _).mono (fun r h => ⟨fun c => (h c).2, sem_eq_zero_of_no_sems rfl r.2⟩) (Cert.DU3ReferenceIdeal.Value.run (F := Ideal) m ρ)

/-- The call's result and the reference's are the same array. -/
theorem algebraic_DU3 : Cert.algebraic_DU3Ideal_DU3ReferenceIdeal := fun m g m' g' _ args => by
  refine ⟨fun c => entries (m ((c.tc : Thread nD τ).loc main_arg0)) (m ((c.tc : Thread nD τ).loc main_arg1)), ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.DU3ReferenceIdeal.Value.run (F := Ideal) m' g')
    rw [(args c).1, (args c).2]
    exact reference_entries _ _

end Cert.Proof

end
-- ==== Proof.Gate.Blocks.lean ====
/-
  The gates' gradient: what a point of the grid leaves in its blocks, from the blocks it reads.
-/
module

public import proofs.«01_k».proof.Proof.Gen.GateBwd
public import proofs.«01_k».proof.Proof.Gen.GateBwdIdeal.Frame
public import proofs.«01_k».proof.Proof.Gen.GateBwdReferenceIdeal.Run
public import proofs.«01_k».proof.Proof.Gen.Pre_gates_finite
public import Idealize.ShloMosaic.Lib.Pipeline.ValueKit
public import Idealize.ShloMosaic.Lib.KernelVsHost
public import proofs.«01_k».proof.Defs

@[expose] public section

set_option maxRecDepth 16384

noncomputable section

namespace Cert.GateBwdIdeal.Gate

open Cert.GateBwdIdeal Cert.GateBwdIdeal.Gen
open Idealize.ShloMosaic Idealize.ShloMosaic.TcCoe Idealize.ShloMosaic.Tactic Idealize.ShloMosaic.StableHlo

/-- The gate. -/
def silu (x : EReal) : EReal := x * Ideal.logistic x
/-- The gate's slope as the call computes it. -/
def slope (x : EReal) : EReal := Ideal.logistic x * (1 + x * (1 - Ideal.logistic x))

/-- A block's rows against the output projection's rows. -/
def cat (x : Vec Ideal S512x2048 .bf16) (w : Vec Ideal S2048x2048 .bf16) (r : Fin 512) (e : Fin 2048) : EReal :=
  ∑ k : Fin 2048, x (ix2 r k) * w (ix2 e k)

variable (x : Vec Ideal S512x2048 .bf16) (w : Vec Ideal S2048x2048 .bf16) (o g u h : Vec Ideal S512x1024 .f32) (b : Vec Ideal S1x1024 .f32)

/-- The first group's columns. -/
def lo (e : Fin 1024) : Fin 2048 := ⟨e.val, by omega⟩
/-- The second group's columns. -/
def hi (e : Fin 1024) : Fin 2048 := ⟨1024 + e.val, by omega⟩

/-- The attention output's gradient, at an entry. -/
theorem pay_do (y : S512x1024.Idx) : k0_pay11 x w g y = cat x w (y 0) (lo (y 1)) * silu (g y) := by
  unfold cat silu lo
  pointwise [k0_pay11, k0_pay10, k0_pay9, k0_pay8, k0_pay7]

/-- Its product with the attention's output, at an entry. -/
theorem pay_prod (y : S512x1024.Idx) : k0_pay13 x w o g y = cat x w (y 0) (lo (y 1)) * silu (g y) * o y := by
  unfold cat silu lo
  pointwise [k0_pay13, k0_pay10, k0_pay9, k0_pay8, k0_pay7]

/-- The first gate's gradient, at an entry. -/
theorem pay_dmg (y : S512x1024.Idx) : k0_pay12 x w o g y = cat x w (y 0) (lo (y 1)) * o y * slope (g y) := by
  unfold cat slope lo
  pointwise [k0_pay12, k0_pay9, k0_pay8, k0_pay7]

/-- The pointwise product's gradient, at an entry. -/
theorem pay_du (y : S512x1024.Idx) : k0_pay3 (k0_pay24 (k0_pay7 x w)) h y = cat x w (y 0) (hi (y 1)) * silu (h y) := by
  unfold cat silu hi
  pointwise [k0_pay3, k0_pay2, k0_pay1, k0_pay24, k0_pay7]

/-- The second gate's gradient, at an entry. -/
theorem pay_dcg (y : S512x1024.Idx) : k0_pay4 (k0_pay24 (k0_pay7 x w)) h u b y = cat x w (y 0) (hi (y 1)) * (u y + b (ix2 0 (y 1))) * slope (h y) := by
  unfold cat slope hi
  pointwise [k0_pay4, k0_pay2, k0_pay1, k0_pay24, k0_pay7]

/-- The bias's gradient takes on the block's column sums. -/
theorem pay_gb (a : Vec Ideal S1x1024 .f32) (y : S1x1024.Idx) :
    k0_pay5 (k0_pay24 (k0_pay7 x w)) h a y = a y + ∑ r : Fin 512, cat x w r (hi (y 1)) * silu (h (ix2 r (y 1))) := by
  unfold cat silu hi
  pointwise [k0_pay5, k0_pay2, k0_pay1, k0_pay24, k0_pay7]

/-- An entry with its channel's bias. -/
def biased (u : Vec Ideal S512x1024 .f32) (b : Vec Ideal S1x1024 .f32) (r : Fin 512) (e : Fin 1024) : EReal := u (ix2 r e) + b (ix2 0 e)

variable (m : (ℓ : Loc nD τ sig) → Buf (Elt Ideal) ℓ) (c : Dev nD) (t : Fin cfg0.N)

/-- What a point leaves of the attention output's gradient. -/
theorem out_do (y : S512x1024.Idx) : (outsAt0 m c t.val t.isLt).1 y = cat (iblk m c 0 t) (iblk m c 1 t) (y 0) (lo (y 1)) * silu (iblk m c 3 t y) := by
  by_cases h0 : t.val % 8 = 0
  · rw [outsAt0_A m c t h0]
    frame_out
    exact pay_do _ _ _ y
  · rw [outsAt0_B m c t h0]
    frame_out
    exact pay_do _ _ _ y

/-- What a point leaves of the pointwise product's gradient. -/
theorem out_du (y : S512x1024.Idx) : (outsAt0 m c t.val t.isLt).2.2.1 y = cat (iblk m c 0 t) (iblk m c 1 t) (y 0) (hi (y 1)) * silu (iblk m c 5 t y) := by
  by_cases h0 : t.val % 8 = 0
  · rw [outsAt0_A m c t h0]
    frame_out
    exact pay_du _ _ _ y
  · rw [outsAt0_B m c t h0]
    frame_out
    exact pay_du _ _ _ y

/-- A head's columns added up along a row. -/
def head (v : FVec Ideal S512x1024 .f32) (n : Fin 8) (r : Fin 512) : EReal := ∑ d : Fin 128, v (ix2 r ⟨128 * n.val + d.val, by omega⟩)

/-- What a point leaves of the rows' sums. -/
theorem out_delta (y : S8x1x1x512.Idx) : (outsAt0 m c t.val t.isLt).2.1 y
    = head (k0_pay13 (iblk m c 0 t) (iblk m c 1 t) (iblk m c 2 t) (iblk m c 3 t)) (y 0) (y 3) := by
  by_cases ht : t.val % 8 = 0
  · rw [outsAt0_A m c t ht]
    frame_out
    canon_tiles x h
    all_goals
      try unfold k0_pay14
      generalize k0_pay13 (iblk m c 0 t) (iblk m c 1 t) (iblk m c 2 t) (iblk m c 3 t) = v
      unfold head
      pointwise [k0_pay15, k0_pay16, k0_pay17, k0_pay18, k0_pay19, k0_pay20, k0_pay21, k0_pay22, k0_pay23]
      refine Finset.sum_congr rfl fun d _ => congrArg v ?_
      idx_ext <;> omega
  · rw [outsAt0_B m c t ht]
    frame_out
    canon_tiles x h
    all_goals
      try unfold k0_pay14
      generalize k0_pay13 (iblk m c 0 t) (iblk m c 1 t) (iblk m c 2 t) (iblk m c 3 t) = v
      unfold head
      pointwise [k0_pay15, k0_pay16, k0_pay17, k0_pay18, k0_pay19, k0_pay20, k0_pay21, k0_pay22, k0_pay23]
      refine Finset.sum_congr rfl fun d _ => congrArg v ?_
      idx_ext <;> omega

/-- What a point leaves of the first gate's gradient. -/
theorem out_mla (y : S512x2048.Idx) (e : Fin 1024) (he : (y 1).val = e.val) : (outsAt0 m c t.val t.isLt).2.2.2.2 y
    = cat (iblk m c 0 t) (iblk m c 1 t) (y 0) (lo e) * iblk m c 2 t (ix2 (y 0) e) * slope (iblk m c 3 t (ix2 (y 0) e)) := by
  by_cases ht : t.val % 8 = 0
  · rw [outsAt0_A m c t ht]
    frame_out
    canon_tiles x h
    · exact absurd (he.symm.trans h1) (by omega)
    · refine (pay_dmg _ _ _ _ x).trans ?_
      rw [show x = ix2 (y 0) e by idx_ext <;> omega]
      rfl
  · rw [outsAt0_B m c t ht]
    frame_out
    canon_tiles x h
    · exact absurd (he.symm.trans h1) (by omega)
    · refine (pay_dmg _ _ _ _ x).trans ?_
      rw [show x = ix2 (y 0) e by idx_ext <;> omega]
      rfl

/-- What a point leaves of the second gate's gradient. -/
theorem out_conv (y : S512x2048.Idx) (e : Fin 1024) (he : (y 1).val = 1024 + e.val) : (outsAt0 m c t.val t.isLt).2.2.2.2 y
    = cat (iblk m c 0 t) (iblk m c 1 t) (y 0) (hi e) * biased (iblk m c 4 t) (iblk m c 6 t) (y 0) e * slope (iblk m c 5 t (ix2 (y 0) e)) := by
  by_cases ht : t.val % 8 = 0
  · rw [outsAt0_A m c t ht]
    frame_out
    canon_tiles x h
    · refine (pay_dcg _ _ _ _ _ x).trans ?_
      rw [show x = ix2 (y 0) e by idx_ext <;> omega]
      rfl
    · exact absurd (he.symm.trans h1) (by omega)
  · rw [outsAt0_B m c t ht]
    frame_out
    canon_tiles x h
    · refine (pay_dcg _ _ _ _ _ x).trans ?_
      rw [show x = ix2 (y 0) e by idx_ext <;> omega]
      rfl
    · exact absurd (he.symm.trans h1) (by omega)

/-- The bias's gradient starts at zero. -/
theorem zero_block (y : S1x1024.Idx) : k0_pay6 (F := Ideal) y = 0 := by
  pointwise [k0_pay6]

/-- What the last point leaves of the bias's gradient. -/
theorem out_bias (y : S1x1024.Idx) : (outsAt0 m c t0_7.val t0_7.isLt).2.2.2.1 y
    = ∑ p : Fin cfg0.N, ∑ r : Fin 512, cat (iblk m c 0 p) (iblk m c 1 p) r (hi (y 1)) * silu (iblk m c 5 p (ix2 r (y 1))) := by
  rw [Pipeline.eq_sum_fin_of_reset_step_apply_last (fun n h => (outsAt0 m c n h).2.2.2.1) 8 (fun _ => 0) _
    (fun t h j => by rw [outsAt0_A m c t h]; frame_out; rw [pay_gb, zero_block])
    (fun t h j => by rw [outsAt0_B m c t h]; frame_out; rw [pay_gb])
    (le_of_eq N_0) t0_7 rfl y, zero_add]

end Cert.GateBwdIdeal.Gate

end
-- ==== Proof.Gate.Arrays.lean ====
/-
  The gates' gradient: the arrays the call ends with, entry by entry, from its arguments.
-/
module

public import proofs.«01_k».proof.Proof.Gate.Blocks

@[expose] public section

set_option maxRecDepth 16384

noncomputable section

namespace Cert.GateBwdIdeal.Gate

open Cert.GateBwdIdeal Cert.GateBwdIdeal.Gen
open Idealize.ShloMosaic Idealize.ShloMosaic.TcCoe Idealize.ShloMosaic.Tactic Idealize.ShloMosaic.StableHlo

/-- The columns in the step's order, filled up with zeros. -/
def columns (x : FVec Ideal S4096x4928 .f32) : FVec Ideal S4096x5120 .f32 :=
  concatenate S4096x5120 1
    [ ⟨S4096x2048, extractStridedSlice S4096x2048 ![0, 1856] x slices_S4096x4928_S4096x2048_0_1856⟩,
      ⟨S4096x1024, extractStridedSlice S4096x1024 ![0, 832] x slices_S4096x4928_S4096x1024_0_832⟩,
      ⟨S4096x1024, extractStridedSlice S4096x1024 ![0, 3904] x slices_S4096x4928_S4096x1024_0_3904⟩,
      ⟨S4096x512, extractStridedSlice S4096x512 ![0, 0] x slices_S4096x4928_S4096x512_0_0⟩,
      ⟨S4096x256, extractStridedSlice S4096x256 ![0, 512] x slices_S4096x4928_S4096x256_0_512⟩,
      ⟨S4096x256, pad S4096x256 ![0, 0] ![0, 192] ![0, 0] (extractStridedSlice S4096x64 ![0, 768] x slices_S4096x4928_S4096x64_0_768)
        (sitofp .f32 (constantI S_ 32 0#32)) pads_S4096x64_S4096x256_000_01920 h_S_⟩ ]
    concatenates_S4096x2048_S4096x1024_S4096x1024_S4096x512_S4096x256_S4096x256_S4096x5120_d1

/-- The first group's gates stand from column 2048 on. -/
theorem columns_lo (z : FVec Ideal S4096x4928 .f32) (i : Fin 4096) (e : Fin 1024) : columns z (ix2 i ⟨2048 + e.val, by omega⟩) = z (ix2 i ⟨832 + e.val, by omega⟩) := by
  unfold columns
  pointwise

/-- The second group's gates stand from column 3072 on. -/
theorem columns_hi (z : FVec Ideal S4096x4928 .f32) (i : Fin 4096) (e : Fin 1024) : columns z (ix2 i ⟨3072 + e.val, by omega⟩) = z (ix2 i ⟨3904 + e.val, by omega⟩) := by
  unfold columns
  pointwise
  have := e.isLt
  split_ifs
  all_goals first
    | (exfalso; omega)
    | exact congrArg (fun q => z (ix2 i q)) (Fin.ext (by simp only; omega))

variable (m : (ℓ : Loc nD τ sig) → Buf (Elt Ideal) ℓ) (c : Dev nD)

/-- The output's gradient. -/
abbrev aDy : FVec Ideal S4096x2048 .f32 := m ((c.tc : Thread nD τ).loc main_arg0)
/-- The output projection. -/
abbrev aW : FVec Ideal S2048x2048 .f32 := m ((c.tc : Thread nD τ).loc main_arg1)
/-- The attention's output. -/
abbrev aO : FVec Ideal S4096x1024 .f32 := m ((c.tc : Thread nD τ).loc main_arg2)
/-- The input projection's result. -/
abbrev aZ : FVec Ideal S4096x4928 .f32 := m ((c.tc : Thread nD τ).loc main_arg3)
/-- The pointwise product. -/
abbrev aU : FVec Ideal S4096x1024 .f32 := m ((c.tc : Thread nD τ).loc main_arg4)
/-- Its bias. -/
abbrev aB : FVec Ideal S1024 .f32 := m ((c.tc : Thread nD τ).loc main_arg5)

set_option maxHeartbeats 4000000 in
/-- The host's lines leave the output's gradient so. -/
theorem V_dy : V m c main_v0 = truncf .bf16 (aDy m c) bitsLt_bf16_f32 := by
  simp only [V, V0, hostOps0, hostOps0_1, hostOps0_2, List.flatten_cons, List.flatten_nil, List.append_nil, List.cons_append, List.nil_append, TRef.binary, TRef.nullary, TRef.ternary, TRef.unary, TRef.toBuf, TRef.ofBuf, cast_eq]
  after_results_simp
  all_goals rfl
set_option maxHeartbeats 4000000 in
/-- The host's lines leave the output projection so. -/
theorem V_w : V m c main_v1 = truncf .bf16 (aW m c) bitsLt_bf16_f32 := by
  simp only [V, V0, hostOps0, hostOps0_1, hostOps0_2, List.flatten_cons, List.flatten_nil, List.append_nil, List.cons_append, List.nil_append, TRef.binary, TRef.nullary, TRef.ternary, TRef.unary, TRef.toBuf, TRef.ofBuf, cast_eq]
  after_results_simp
  all_goals rfl
set_option maxHeartbeats 4000000 in
/-- The host's lines leave the columns so. -/
theorem V_z : V m c main_v9 = columns (aZ m c) := by
  simp only [V, V0, hostOps0, hostOps0_1, hostOps0_2, List.flatten_cons, List.flatten_nil, List.append_nil, List.cons_append, List.nil_append, TRef.binary, TRef.nullary, TRef.ternary, TRef.unary, TRef.toBuf, TRef.ofBuf, cast_eq]
  after_results_simp
  all_goals rfl
set_option maxHeartbeats 4000000 in
/-- The host's lines leave the bias so. -/
theorem V_b : V m c main_v10 = shapeCast S1x1024 (aB m c) shapeCasts_S1024_S1x1024 := by
  simp only [V, V0, hostOps0, hostOps0_1, hostOps0_2, List.flatten_cons, List.flatten_nil, List.append_nil, List.cons_append, List.nil_append, TRef.binary, TRef.nullary, TRef.ternary, TRef.unary, TRef.toBuf, TRef.ofBuf, cast_eq]
  after_results_simp
  all_goals rfl

/-- Which blocks the grid's points read. -/
theorem index_of : ∀ t : Fin grid0.N, win0_0.index t = ![t.val, 0] ∧ win0_1.index t = ![0, 0] ∧ win0_2.index t = ![t.val, 0] ∧ win0_3.index t = ![t.val, 2]
    ∧ win0_4.index t = ![t.val, 0] ∧ win0_5.index t = ![t.val, 3] ∧ win0_6.index t = ![0, 0] := by decide +kernel
/-- Which blocks the grid's points write. -/
theorem index_out : ∀ t : Fin grid0.N, win0_7.index t = ![t.val, 0] ∧ win0_8.index t = ![0, t.val, 0, 0] ∧ win0_9.index t = ![t.val, 0] ∧ win0_10.index t = ![0, 0]
    ∧ win0_11.index t = ![t.val, 1] := by decide +kernel

/-- A row of a point's blocks. -/
def row (t : Fin cfg0.N) (r : Fin 512) : Fin 4096 := ⟨512 * t.val + r.val, by have := t.isLt; have h : cfg0.N = 8 := N_0; omega⟩

variable (t : Fin cfg0.N)

/-- A block's rows of the output's gradient. -/
theorem read_dy (r : Fin 512) (k : Fin 2048) : (iblk m c 0 t : Vec Ideal S512x2048 .bf16) (ix2 r k) = aDy m c (ix2 (row t r) k) := by
  have hi := index_of t
  unfold iblk
  blk_simp [hi]
  show V m c main_v0 _ = _
  rw [V_dy]
  pointwise
  unfold row
  blk_ext [hi]
/-- The output projection is read whole. -/
theorem read_w (e : Fin 2048) (k : Fin 2048) : (iblk m c 1 t : Vec Ideal S2048x2048 .bf16) (ix2 e k) = aW m c (ix2 e k) := by
  have hi := index_of t
  unfold iblk
  blk_simp [hi]
  show V m c main_v1 _ = _
  rw [V_w]
  pointwise
  blk_ext [hi]
/-- A block's rows of the attention's output. -/
theorem read_o (r : Fin 512) (e : Fin 1024) : (iblk m c 2 t : Vec Ideal S512x1024 .f32) (ix2 r e) = aO m c (ix2 (row t r) e) := by
  have hi := index_of t
  unfold iblk
  blk_simp [hi]
  show V m c main_arg2 _ = _
  rw [V_main_arg2]
  unfold row
  blk_ext [hi]
/-- A block's rows of the first gate. -/
theorem read_mg (r : Fin 512) (e : Fin 1024) : (iblk m c 3 t : Vec Ideal S512x1024 .f32) (ix2 r e) = aZ m c (ix2 (row t r) ⟨832 + e.val, by omega⟩) := by
  have hi := index_of t
  rw [← columns_lo (aZ m c) (row t r) e]
  unfold iblk
  blk_simp [hi]
  show V m c main_v9 _ = _
  rw [V_z]
  unfold row
  blk_ext [hi]
/-- A block's rows of the pointwise product. -/
theorem read_u (r : Fin 512) (e : Fin 1024) : (iblk m c 4 t : Vec Ideal S512x1024 .f32) (ix2 r e) = aU m c (ix2 (row t r) e) := by
  have hi := index_of t
  unfold iblk
  blk_simp [hi]
  show V m c main_arg4 _ = _
  rw [V_main_arg4]
  unfold row
  blk_ext [hi]
/-- A block's rows of the second gate. -/
theorem read_cg (r : Fin 512) (e : Fin 1024) : (iblk m c 5 t : Vec Ideal S512x1024 .f32) (ix2 r e) = aZ m c (ix2 (row t r) ⟨3904 + e.val, by omega⟩) := by
  have hi := index_of t
  rw [← columns_hi (aZ m c) (row t r) e]
  unfold iblk
  blk_simp [hi]
  show V m c main_v9 _ = _
  rw [V_z]
  unfold row
  blk_ext [hi]
/-- The bias is read whole. -/
theorem read_b (e : Fin 1024) : (iblk m c 6 t : Vec Ideal S1x1024 .f32) (ix2 0 e) = aB m c (ix1 e) := by
  have hi := index_of t
  unfold iblk
  blk_simp [hi]
  show V m c main_v10 _ = _
  rw [V_b]
  pointwise
  blk_ext [hi]

end Cert.GateBwdIdeal.Gate

end
-- ==== Proof.Gate.Finals.lean ====
/-
  The gates' gradient: the arrays the call ends with.
-/
module

public import proofs.«01_k».proof.Proof.Gate.Arrays

@[expose] public section

set_option maxRecDepth 16384

noncomputable section

namespace Cert.GateBwdIdeal.Gate

open Cert.GateBwdIdeal Cert.GateBwdIdeal.Gen
open Idealize.ShloMosaic Idealize.ShloMosaic.TcCoe Idealize.ShloMosaic.Tactic Idealize.ShloMosaic.StableHlo

variable (dy : FVec Ideal S4096x2048 .f32) (w : FVec Ideal S2048x2048 .f32) (o : FVec Ideal S4096x1024 .f32) (z : FVec Ideal S4096x4928 .f32)
  (u : FVec Ideal S4096x1024 .f32) (b : FVec Ideal S1024 .f32)

/-- The two groups' gradient. -/
def big (i : Fin 4096) (e : Fin 2048) : EReal := ∑ k : Fin 2048, dy (ix2 i k) * w (ix2 e k)
/-- The first group's gate. -/
def gateLo (i : Fin 4096) (e : Fin 1024) : EReal := z (ix2 i ⟨832 + e.val, by omega⟩)
/-- The second group's gate. -/
def gateHi (i : Fin 4096) (e : Fin 1024) : EReal := z (ix2 i ⟨3904 + e.val, by omega⟩)

/-- The gradient of the attention's output. -/
def gDo : FVec Ideal S4096x1024 .bf16 := fun i => big dy w (i 0) (lo (i 1)) * silu (gateLo z (i 0) (i 1))
/-- The gradient of the pointwise product. -/
def gDu : FVec Ideal S4096x1024 .bf16 := fun i => big dy w (i 0) (hi (i 1)) * silu (gateHi z (i 0) (i 1))
/-- The rows' sums, by heads, of the attention's output times its gradient. -/
def gDelta : FVec Ideal S8x8x1x512 .f32 := fun i =>
  ∑ d : Fin 128, big dy w ⟨512 * (i 1).val + (i 3).val, by have h1 : (i 1).val < 8 := (i 1).isLt; have h3 : (i 3).val < 512 := (i 3).isLt; omega⟩
      (lo ⟨128 * (i 0).val + d.val, by have h0 : (i 0).val < 8 := (i 0).isLt; omega⟩)
    * silu (gateLo z ⟨512 * (i 1).val + (i 3).val, by have h1 : (i 1).val < 8 := (i 1).isLt; have h3 : (i 3).val < 512 := (i 3).isLt; omega⟩
      ⟨128 * (i 0).val + d.val, by have h0 : (i 0).val < 8 := (i 0).isLt; omega⟩)
    * o (ix2 ⟨512 * (i 1).val + (i 3).val, by have h1 : (i 1).val < 8 := (i 1).isLt; have h3 : (i 3).val < 512 := (i 3).isLt; omega⟩
      ⟨128 * (i 0).val + d.val, by have h0 : (i 0).val < 8 := (i 0).isLt; omega⟩)
/-- The gradient of the bias. -/
def gBias : FVec Ideal S1x1024 .f32 := fun i => ∑ r : Fin 4096, big dy w r (hi (i 1)) * silu (gateHi z r (i 1))
/-- The gradient of the first group's gate. -/
def slopeLo (i : Fin 4096) (e : Fin 1024) : EReal := big dy w i (lo e) * o (ix2 i e) * slope (gateLo z i e)
/-- The gradient of the second group's gate. -/
def slopeHi (i : Fin 4096) (e : Fin 1024) : EReal := big dy w i (hi e) * (u (ix2 i e) + b (ix1 e)) * slope (gateHi z i e)
/-- The two gates' gradients, side by side. -/
def gGates (i : Fin 4096) (j : Fin 2048) : EReal :=
  if j.val < 1024 then slopeLo dy w o z i ⟨j.val % 1024, Nat.mod_lt _ (by decide)⟩ else slopeHi dy w z u b i ⟨j.val % 1024, Nat.mod_lt _ (by decide)⟩

variable (m : (ℓ : Loc nD τ sig) → Buf (Elt Ideal) ℓ) (c : Dev nD) (t : Fin cfg0.N)

/-- A block's rows against the output projection's rows are the array's. -/
theorem cat_eq (r : Fin 512) (e : Fin 2048) : cat (iblk m c 0 t) (iblk m c 1 t) r e = big (aDy m c) (aW m c) (row t r) e :=
  Finset.sum_congr rfl fun k _ => congrArg₂ (· * ·) (read_dy m c t r k) (read_w m c t e k)

/-- The first gate's block, at an index. -/
theorem mg_eq (y : S512x1024.Idx) : iblk m c 3 t y = gateLo (aZ m c) (row t (y 0)) (y 1) :=
  (congrArg (iblk m c 3 t : Vec Ideal S512x1024 .f32) (eq_ix2 y)).trans (read_mg m c t (y 0) (y 1))
/-- The second gate's block, at an index. -/
theorem cg_eq (y : S512x1024.Idx) : iblk m c 5 t y = gateHi (aZ m c) (row t (y 0)) (y 1) :=
  (congrArg (iblk m c 5 t : Vec Ideal S512x1024 .f32) (eq_ix2 y)).trans (read_cg m c t (y 0) (y 1))
/-- The attention output's block, at an index. -/
theorem o_eq (y : S512x1024.Idx) : iblk m c 2 t y = aO m c (ix2 (row t (y 0)) (y 1)) :=
  (congrArg (iblk m c 2 t : Vec Ideal S512x1024 .f32) (eq_ix2 y)).trans (read_o m c t (y 0) (y 1))

/-- A point leaves its block of the attention output's gradient. -/
theorem left_do (y : S512x1024.Idx) : (outsAt0 m c t.val t.isLt).1 y = gDo (aDy m c) (aW m c) (aZ m c) (ix2 (row t (y 0)) (y 1)) :=
  (out_do m c t y).trans (congrArg₂ (· * ·) (cat_eq m c t (y 0) (lo (y 1))) (congrArg silu (mg_eq m c t y)))
/-- A point leaves its block of the pointwise product's gradient. -/
theorem left_du (y : S512x1024.Idx) : (outsAt0 m c t.val t.isLt).2.2.1 y = gDu (aDy m c) (aW m c) (aZ m c) (ix2 (row t (y 0)) (y 1)) :=
  (out_du m c t y).trans (congrArg₂ (· * ·) (cat_eq m c t (y 0) (Gate.hi (y 1))) (congrArg silu (cg_eq m c t y)))
/-- A point leaves its block of the rows' sums. -/
theorem left_delta (y : S8x1x1x512.Idx) : (outsAt0 m c t.val t.isLt).2.1 y
    = gDelta (aDy m c) (aW m c) (aO m c) (aZ m c) (ix4 (y 0) ⟨t.val, t.isLt.trans_eq N_0⟩ 0 (y 3)) :=
  (out_delta m c t y).trans (Finset.sum_congr rfl fun d _ => (pay_prod _ _ _ _ _).trans
    (congrArg₂ (· * ·) (congrArg₂ (· * ·) (cat_eq m c t _ _) (congrArg silu (mg_eq m c t _))) (o_eq m c t _)))
/-- A point leaves its block of the first gate's gradient. -/
theorem left_mla (y : S512x2048.Idx) (e : Fin 1024) (he : (y 1).val = e.val) : (outsAt0 m c t.val t.isLt).2.2.2.2 y
    = slopeLo (aDy m c) (aW m c) (aO m c) (aZ m c) (row t (y 0)) e :=
  (out_mla m c t y e he).trans (congrArg₂ (· * ·) (congrArg₂ (· * ·) (cat_eq m c t (y 0) (lo e)) (read_o m c t (y 0) e)) (congrArg slope (read_mg m c t (y 0) e)))
/-- A point leaves its block of the second gate's gradient. -/
theorem left_conv (y : S512x2048.Idx) (e : Fin 1024) (he : (y 1).val = 1024 + e.val) : (outsAt0 m c t.val t.isLt).2.2.2.2 y
    = slopeHi (aDy m c) (aW m c) (aZ m c) (aU m c) (aB m c) (row t (y 0)) e :=
  (out_conv m c t y e he).trans (congrArg₂ (· * ·) (congrArg₂ (· * ·) (cat_eq m c t (y 0) (Gate.hi e)) (congrArg₂ (· + ·) (read_u m c t (y 0) e) (read_b m c t e)))
    (congrArg slope (read_cg m c t (y 0) e)))
/-- A point leaves its block of the two gates' gradients. -/
theorem left_gates (y : S512x2048.Idx) : (outsAt0 m c t.val t.isLt).2.2.2.2 y
    = gGates (aDy m c) (aW m c) (aO m c) (aZ m c) (aU m c) (aB m c) (row t (y 0)) (y 1) := by
  have h : (y 1).val < 2048 := (y 1).isLt
  unfold gGates
  split_ifs with h1
  · exact left_mla m c t y _ (by simp only; omega)
  · exact left_conv m c t y _ (by simp only; omega)
/-- The last point leaves the bias's gradient. -/
theorem left_bias (y : S1x1024.Idx) : (outsAt0 m c t0_7.val t0_7.isLt).2.2.2.1 y = gBias (aDy m c) (aW m c) (aZ m c) y := by
  rw [out_bias]
  unfold gBias
  refine Fin.sum_mul_add_congr (S := 8) (n := 512) (fun p r hl => ?_)
  have e : row p r = ⟨p.val * 512 + r.val, hl⟩ := Fin.ext (by unfold row; simp only; omega)
  rw [← e]
  exact congrArg₂ (· * ·) (cat_eq m c p r (Gate.hi (y 1))) (congrArg silu (read_cg m c p r (y 1)))

/-- The whole gradient of the attention's output. -/
theorem final_do : (dats m 0 c).arrAt 7 cfg0.N = gDo (aDy m c) (aW m c) (aZ m c) := by
  refine (dats m 0 c).arrAt_eq_of_covers 7 _ (by decide +kernel) fun t hf y => ?_
  have hi := index_out t
  blk_simp
  rw [after0_7]
  refine (left_do m c t y).trans ?_
  unfold row
  blk_ext [hi]
/-- The whole gradient of the pointwise product. -/
theorem final_du : (dats m 0 c).arrAt 9 cfg0.N = gDu (aDy m c) (aW m c) (aZ m c) := by
  refine (dats m 0 c).arrAt_eq_of_covers 9 _ (by decide +kernel) fun t hf y => ?_
  have hi := index_out t
  blk_simp
  rw [after0_9]
  refine (left_du m c t y).trans ?_
  unfold row
  blk_ext [hi]
/-- All the rows' sums. -/
theorem final_delta : (dats m 0 c).arrAt 8 cfg0.N = gDelta (aDy m c) (aW m c) (aO m c) (aZ m c) := by
  refine (dats m 0 c).arrAt_eq_of_covers 8 _ (by decide +kernel) fun t hf y => ?_
  have hi := index_out t
  blk_simp
  rw [after0_8]
  refine (left_delta m c t y).trans ?_
  blk_ext [hi]
/-- The whole gradient of the bias. -/
theorem final_bias : (dats m 0 c).arrAt 10 cfg0.N = gBias (aDy m c) (aW m c) (aZ m c) := by
  refine (dats m 0 c).arrAt_eq_of_after_last 10 t0_7 (by decide +kernel) _ fun j => ?_
  blk_simp
  rw [after0_10]
  exact left_bias m c j
/-- The whole gradients of the gates, in the columns they are written to. -/
theorem final_gates (i : Fin 4096) (j : Fin 2048) : ((dats m 0 c).arrAt 11 cfg0.N : FVec Ideal S4096x5120 .bf16) (ix2 i ⟨2048 + j.val, by omega⟩)
    = gGates (aDy m c) (aW m c) (aO m c) (aZ m c) (aU m c) (aB m c) i j := by
  refine ((dats m 0 c).arrAt_apply_of_coversWhere 11
    (fun q : S4096x5120.Idx => gGates (aDy m c) (aW m c) (aO m c) (aZ m c) (aU m c) (aB m c) (q 0) ⟨(q 1).val % 2048, Nat.mod_lt _ (by decide)⟩)
    (P := fun q : S4096x5120.Idx => 2048 ≤ (q 1).val ∧ (q 1).val < 4096)
    (fun β => β (1 : Fin 2) = 1) (by decide +kernel) (fun t hf y => ?_) (fun q => by blk_simp [Pipeline.Window.cell_apply]; omega) _).trans ?_
  · have hi := index_out t
    blk_simp
    rw [after0_11]
    refine (left_gates m c t _).trans ?_
    refine congrArg₂ (gGates (aDy m c) (aW m c) (aO m c) (aZ m c) (aU m c) (aB m c)) (Fin.ext ?_) (Fin.ext ?_)
    · unfold row
      blk_simp [hi]
      show 512 * t.val + (y 0).val = _
      omega
    · have h : (y 1).val < 2048 := ((cfg0.win 11).xinj (cfg0.grid.coords t) y 1).isLt
      blk_simp [hi]
      show (y 1).val = (2048 + (y 1).val) % 2048
      omega
  · rw [if_pos (by constructor <;> simp only [ix2_1] <;> omega)]
    exact congrArg _ (Fin.ext (by simp only [ix2_1]; omega))

end Cert.GateBwdIdeal.Gate

end
-- ==== Proof.Flash.Math.lean ====
/-
  The gradients of one attention layer over the real numbers: what the kernel and the reference both compute, and the
  few identities between the forms they compute it in.
-/
module

public import Idealize.ShloMosaic.Lib.IdealHost

@[expose] public section

noncomputable section

namespace Cert.Attention

open Idealize.ShloMosaic

/-! ### Reals inside the extended reals -/

/-- A finite sum of reals, read as an extended real, is the sum of the terms read so. -/
theorem coe_sum {ι : Type} (s : Finset ι) (f : ι → ℝ) : ((∑ i ∈ s, f i : ℝ) : EReal) = ∑ i ∈ s, (f i : EReal) := by
  classical
  refine Finset.induction_on s (by simp) fun a t ha ih => ?_
  rw [Finset.sum_insert ha, Finset.sum_insert ha, EReal.coe_add, ih]

/-- The quotient of two reals, the divisor not zero. -/
theorem div_coe_coe (x : ℝ) {y : ℝ} (h : y ≠ 0) : Ideal.div (x : EReal) (y : EReal) = ((x / y : ℝ) : EReal) := by
  rw [Ideal.div_coe h, ← EReal.coe_mul, mul_one_div]

/-- The score scale, the real number the f32 pattern of 192^(-1/2) stands for. -/
def scale : ℝ := 9686330 / 134217728

theorem scale_ne : scale ≠ 0 := by unfold scale; norm_num

theorem scale_bits : Ideal.ofBits .f32 0x3D93CD3A#32 = (scale : EReal) := by
  unfold scale
  simp [Ideal.ofBits, Ideal.ieee, -EReal.coe_mul]; norm_num

theorem two_bits : Ideal.ofBits .f32 0x40000000#32 = ((2 : ℝ) : EReal) := by
  simp [Ideal.ofBits, Ideal.ieee, -EReal.coe_mul]; norm_num

theorem neg_inf_bits : Ideal.ofBits .f32 0xFF800000#32 = (⊥ : EReal) := by
  simp [Ideal.ofBits, Ideal.ieee]

theorem inf_bits : Ideal.ofBits .f32 0x7F800000#32 = (⊤ : EReal) := by
  simp [Ideal.ofBits, Ideal.ieee]

theorem log_two_ne : Real.log 2 ≠ 0 := (Real.log_pos (by norm_num)).ne'

theorem log_two : Ideal.log ((2 : ℝ) : EReal) = (Real.log 2 : EReal) := by
  rw [Ideal.log_coe, if_neg (by norm_num)]

/-! ### The layer -/

/-- The four operands of a layer as real numbers, and for every head and row a number to take off that row's scores
before the exponential; the results do not depend on it. -/
structure Operands where
  q : Fin 4096 → Fin 8 → Fin 192 → ℝ
  k : Fin 4096 → Fin 8 → Fin 192 → ℝ
  v : Fin 4096 → Fin 8 → Fin 128 → ℝ
  g : Fin 4096 → Fin 8 → Fin 128 → ℝ
  top : Fin 8 → Fin 4096 → ℝ

namespace Operands

variable (A : Operands)

/-- The scaled score of query `r` against key `c`. -/
def score (h : Fin 8) (r c : Fin 4096) : ℝ := (∑ d, A.q r h d * A.k c h d) * scale

/-- The exponential weight of key `c` for query `r`: nothing for a later key. -/
def weight (h : Fin 8) (r c : Fin 4096) : ℝ := if c ≤ r then Real.exp (A.score h r c - A.top h r) else 0

/-- The sum of a row's weights. -/
def total (h : Fin 8) (r : Fin 4096) : ℝ := ∑ c, A.weight h r c

/-- The attention probability. -/
def prob (h : Fin 8) (r c : Fin 4096) : ℝ := A.weight h r c / A.total h r

/-- The gradient that reaches a probability. -/
def gradProb (h : Fin 8) (r c : Fin 4096) : ℝ := ∑ j, A.g r h j * A.v c h j

/-- The mean of a row's probability gradients. -/
def delta (h : Fin 8) (r : Fin 4096) : ℝ := ∑ c, A.prob h r c * A.gradProb h r c

/-- The gradient that reaches a score. -/
def gradScore (h : Fin 8) (r c : Fin 4096) : ℝ := A.prob h r c * (A.gradProb h r c - A.delta h r)

/-- The logarithm to base two of a row's sum of exponentials. -/
def lse (h : Fin 8) (r : Fin 4096) : ℝ := (A.top h r + Real.log (A.total h r)) / Real.log 2

/-- The queries with the score scale and the change of base in them, in 256 columns. -/
def qs (h : Fin 8) (r : Fin 4096) (d : Fin 256) : ℝ :=
  if hd : d.val < 192 then A.q r h ⟨d.val, hd⟩ * scale / Real.log 2 else 0

/-- The keys in 256 columns. -/
def ks (h : Fin 8) (c : Fin 4096) (d : Fin 256) : ℝ := if hd : d.val < 192 then A.k c h ⟨d.val, hd⟩ else 0

/-- The query gradient, less the score scale. -/
def dq (h : Fin 8) (r : Fin 4096) (d : Fin 256) : ℝ := ∑ c, A.gradScore h r c * A.ks h c d

/-- The key gradient, less the change of base. -/
def dk (h : Fin 8) (c : Fin 4096) (d : Fin 256) : ℝ := ∑ r, A.gradScore h r c * A.qs h r d

/-- The value gradient. -/
def dv (h : Fin 8) (c : Fin 4096) (j : Fin 128) : ℝ := ∑ r, A.prob h r c * A.g r h j

theorem weight_nonneg (h : Fin 8) (r c : Fin 4096) : 0 ≤ A.weight h r c := by
  unfold weight; split
  · exact (Real.exp_pos _).le
  · exact le_rfl

/-- A row's weights add up to something positive: the query's own key is among them. -/
theorem total_pos (h : Fin 8) (r : Fin 4096) : 0 < A.total h r := by
  refine Finset.sum_pos' (fun c _ => A.weight_nonneg h r c) ⟨r, Finset.mem_univ _, ?_⟩
  unfold weight; rw [if_pos le_rfl]; exact Real.exp_pos _

theorem total_ne (h : Fin 8) (r : Fin 4096) : A.total h r ≠ 0 := (A.total_pos h r).ne'

theorem prob_later {h : Fin 8} {r c : Fin 4096} (hc : ¬c ≤ r) : A.prob h r c = 0 := by
  unfold prob weight; rw [if_neg hc, zero_div]

theorem gradScore_later {h : Fin 8} {r c : Fin 4096} (hc : ¬c ≤ r) : A.gradScore h r c = 0 := by
  unfold gradScore; rw [A.prob_later hc, zero_mul]

/-- A sum over 256 columns of which the last 64 are zero. -/
theorem sum_columns (f : Fin 256 → ℝ) (hf : ∀ d : Fin 256, ¬d.val < 192 → f d = 0) :
    ∑ d, f d = ∑ d : Fin 192, f ⟨d.val, by omega⟩ := by
  rw [show (∑ d, f d) = ∑ d : Fin (192 + 64), f d from rfl, Fin.sum_univ_add]
  rw [show (∑ i : Fin 64, f (Fin.natAdd 192 i)) = 0 from Finset.sum_eq_zero fun i _ => hf _ (by simp), add_zero]
  rfl

/-- The product of a key and a scaled query over 256 columns is the score in base two. -/
theorem sum_ks_qs (h : Fin 8) (r c : Fin 4096) : ∑ d, A.ks h c d * A.qs h r d = A.score h r c / Real.log 2 := by
  rw [sum_columns _ fun d hd => by unfold ks; rw [dif_neg hd, zero_mul]]
  unfold score
  rw [Finset.sum_mul, Finset.sum_div]
  refine Finset.sum_congr rfl fun d _ => ?_
  unfold ks qs
  rw [dif_pos d.isLt, dif_pos d.isLt]
  ring

/-- Two to the power of a score less its row's logarithm is the probability. -/
theorem two_pow (h : Fin 8) (r c : Fin 4096) (hc : c ≤ r) :
    Real.rpow 2 (A.score h r c / Real.log 2 - A.lse h r) = A.prob h r c := by
  show (2 : ℝ) ^ (_ : ℝ) = _
  rw [Real.rpow_def_of_pos (by norm_num)]
  unfold lse prob weight
  rw [if_pos hc, ← sub_div, mul_div_cancel₀ _ log_two_ne, ← sub_sub, Real.exp_sub, Real.exp_log (A.total_pos h r)]

/-- The kernel's way to a row's mean: the products of the output and the gradient that reaches it. -/
theorem delta_eq (h : Fin 8) (r : Fin 4096) :
    ∑ j, A.g r h j * ∑ c, A.v c h j * A.prob h r c = A.delta h r := by
  unfold delta gradProb
  simp only [Finset.mul_sum]
  rw [Finset.sum_comm]
  exact Finset.sum_congr rfl fun c _ => Finset.sum_congr rfl fun j _ => by ring

/-- The reference's way to a score's gradient: through the quotient of the weights by their sum. -/
theorem gradScore_eq (h : Fin 8) (r c : Fin 4096) :
    (A.gradProb h r c / A.total h r
      + -∑ c', A.gradProb h r c' * (1 / (A.total h r * A.total h r)) * A.weight h r c') * A.weight h r c
      = A.gradScore h r c := by
  have e : (∑ c', A.gradProb h r c' * (1 / (A.total h r * A.total h r)) * A.weight h r c')
      = A.delta h r / A.total h r := by
    unfold delta prob
    rw [Finset.sum_div]
    refine Finset.sum_congr rfl fun c' _ => ?_
    have := A.total_ne h r
    field_simp
  rw [e]
  unfold gradScore prob
  have := A.total_ne h r
  field_simp
  ring

end Operands

end Cert.Attention
-- ==== Proof.Flash.Reference.lean ====
/-
  The reference's three results over the real numbers: each operation of the reference read at an index, from finite
  arguments, up to the gradients of Math.lean.
-/
module

public import proofs.«01_k».proof.Proof.Gen.ReferenceIdeal.Read
public import proofs.«01_k».proof.Proof.Flash.Math
public import Idealize.ShloMosaic.Lib.KernelVsHost
public import Idealize.ShloMosaic.Lib.WordCmp

@[expose] public section

set_option maxRecDepth 16384

noncomputable section

namespace Cert.ReferenceIdeal.Attention

open Cert.ReferenceIdeal Cert.ReferenceIdeal.Gen Cert.ReferenceIdeal.Read Cert.Attention Idealize.ShloMosaic
open Idealize.ShloMosaic.ValueIdx (ix3)

/-- A query or key argument: 4096 rows of 8 heads of 192 numbers. -/
abbrev QK : Type := (⟨S4096x8x192, .f32⟩ : BufTy).Contents (Elt Ideal)

/-- A value argument: 4096 rows of 8 heads of 128 numbers. -/
abbrev VG : Type := (⟨S4096x8x128, .f32⟩ : BufTy).Contents (Elt Ideal)

/-- The first two arguments hold `A`'s queries and keys. -/
structure HoldsQK (A : Operands) (x0 x1 : QK) : Prop where
  q : ∀ (i : S4096x8x192.Idx) (r : Fin 4096) (h : Fin 8) (d : Fin 192), i 0 = r → i 1 = h → i 2 = d →
    x0 i = (A.q r h d : EReal)
  k : ∀ (i : S4096x8x192.Idx) (r : Fin 4096) (h : Fin 8) (d : Fin 192), i 0 = r → i 1 = h → i 2 = d →
    x1 i = (A.k r h d : EReal)

/-- The four arguments hold the real operands `A`, and the row maxima of the scores are `A`'s. -/
structure Holds (A : Operands) (x0 x1 : QK) (x2 x3 : VG) : Prop extends HoldsQK A x0 x1 where
  v : ∀ (i : S4096x8x128.Idx) (r : Fin 4096) (h : Fin 8) (d : Fin 128), i 0 = r → i 1 = h → i 2 = d →
    x2 i = (A.v r h d : EReal)
  g : ∀ (i : S4096x8x128.Idx) (r : Fin 4096) (h : Fin 8) (d : Fin 128), i 0 = r → i 1 = h → i 2 = d →
    x3 i = (A.g r h d : EReal)
  top : ∀ (i : S8x4096.Idx) (h : Fin 8) (r : Fin 4096), i 0 = h → i 1 = r →
    val_main_v11 (F := Ideal) x0 x1 i = (A.top h r : EReal)

variable {A : Operands} {x0 x1 : QK} {x2 x3 : VG}

theorem score_eq (H : HoldsQK A x0 x1) (i : S8x4096x4096.Idx) (h : Fin 8) (r c : Fin 4096) (hh : i 0 = h) (hr : i 1 = r)
    (hc : i 2 = c) : val_main_v2 (F := Ideal) x0 x1 i = (A.score h r c : EReal) := by
  rw [val_main_v2_apply, val_main_v0_apply, val_main_v1_apply, val_main_cst_apply]
  show _ * Ideal.ofBits .f32 0x3D93CD3A#32 = _
  rw [scale_bits]
  unfold Operands.score
  rw [EReal.coe_mul, coe_sum]
  refine congrArg (· * _) (Finset.sum_congr rfl fun d _ => ?_)
  rw [H.q (lidx_main_v0 i d) r h d hr hh rfl, H.k (ridx_main_v0 i d) c h d hc hh rfl, EReal.coe_mul]

/-- The mask keeps a key no later than the query. -/
theorem mask_eq (i : S8x4096x4096.Idx) (r c : Fin 4096) (hr : i 1 = r) (hc : i 2 = c) :
    val_main_v10_1 (F := Ideal) i = BitVec.ofBool (decide (c ≤ r)) := by
  rw [val_main_v10_1_apply, val_main_v9_apply, val_main_v8_apply, val_main_v6_apply, val_main_v7_apply,
    val_main_v4_apply, val_main_v5_apply, val_main_v3_apply, val_main_v3_apply]
  show IntOp.cmpi .sle (BitVec.ofNat 32 (i 2).val) (BitVec.ofNat 32 (i 1).val) = _
  rw [hr, hc, WordCmp.cmpi_sle_ofNat (show c.val < 2 ^ 31 from c.isLt.trans (by norm_num))
    (show r.val < 2 ^ 31 from r.isLt.trans (by norm_num))]
  rfl

/-- A choice by the mask. -/
theorem select_mask (i : S8x4096x4096.Idx) (r c : Fin 4096) (hr : i 1 = r) (hc : i 2 = c) (x y : EReal) :
    Scalar.select (val_main_v10_1 (F := Ideal) i) x y = if c ≤ r then x else y := by
  rw [mask_eq i r c hr hc]
  unfold Scalar.select
  by_cases h : c ≤ r
  · rw [if_pos h, if_pos]; simp [h]
  · rw [if_neg h, if_neg]; simp [h]

theorem masked_eq (H : HoldsQK A x0 x1) (i : S8x4096x4096.Idx) (h : Fin 8) (r c : Fin 4096) (hh : i 0 = h) (hr : i 1 = r)
    (hc : i 2 = c) : val_main_v10_0 (F := Ideal) x0 x1 i = if c ≤ r then (A.score h r c : EReal) else ⊥ := by
  rw [val_main_v10_0_apply, select_mask i r c hr hc, score_eq H i h r c hh hr hc, val_main_call0_v2_apply,
    val_main_call0_v0_apply]
  show (if _ then _ else Ideal.ofBits .f32 0xFF800000#32) = _
  rw [neg_inf_bits]

/-- The greatest score of a row is a real number: each is real or minus infinity, and the query's own is real. -/
theorem top_real (H : HoldsQK A x0 x1) (i : S8x4096.Idx) (h : Fin 8) (r : Fin 4096) (hh : i 0 = h) (hr : i 1 = r) :
    ((val_main_v11 (F := Ideal) x0 x1 i).toReal : EReal) = val_main_v11 (F := Ideal) x0 x1 i := by
  have e : val_main_v11 (F := Ideal) x0 x1 i = (Finset.univ : Finset (Fin 4096)).fold max (⊥ : EReal) fun c =>
      if c ≤ r then (A.score h r c : EReal) else ⊥ := by
    unfold val_main_v11
    haveI : Std.Commutative (FloatOps.maximumf : Ideal .f32 → Ideal .f32 → Ideal .f32) :=
      ⟨fun a b => max_comm (α := EReal) a b⟩
    haveI : Std.Associative (FloatOps.maximumf : Ideal .f32 → Ideal .f32 → Ideal .f32) :=
      ⟨fun a b c => max_assoc (α := EReal) a b c⟩
    rw [Host.reduce_eq_fold_single _ _ _ _ (by decide)]
    have hb : val_main_cst_1 (F := Ideal) (Shape.Idx.first h_S_) = (⊥ : EReal) := neg_inf_bits
    rw [hb]
    refine (Finset.fold_congr fun c _ => ?_).trans rfl
    exact masked_eq H _ h r c hh hr rfl
  refine EReal.coe_toReal (ne_of_lt ?_) (ne_of_gt ?_)
  · rw [e]
    refine (Finset.fold_max_lt _).2 ⟨bot_lt_top, fun c _ => ?_⟩
    split
    · exact EReal.coe_lt_top _
    · exact bot_lt_top
  · rw [e]
    exact (Finset.lt_fold_max _).2 (Or.inr ⟨r, Finset.mem_univ _, by rw [if_pos le_rfl]; exact EReal.bot_lt_coe _⟩)

section Chain

variable (H : Holds A x0 x1 x2 x3)

include H

theorem weight_eq (i : S8x4096x4096.Idx) (h : Fin 8) (r c : Fin 4096) (hh : i 0 = h) (hr : i 1 = r) (hc : i 2 = c) :
    val_main_v31 (F := Ideal) x0 x1 i = (A.weight h r c : EReal) := by
  rw [val_main_v31_apply, val_main_v30_apply, masked_eq H.toHoldsQK i h r c hh hr hc, val_main_v29_apply,
    val_main_v28_apply, val_main_v18_apply, val_main_v17_apply, val_main_cst_3_apply, H.top _ h r hh hr]
  show Ideal.exp (_ - max (Ideal.ofBits .f32 0xFF800000#32) ((A.top h r : ℝ) : EReal)) = _
  rw [neg_inf_bits, max_eq_right bot_le]
  unfold Operands.weight
  by_cases hcr : c ≤ r
  · rw [if_pos hcr, if_pos hcr, ← EReal.coe_sub, Ideal.exp_coe]
  · rw [if_neg hcr, if_neg hcr, EReal.bot_sub]; rfl

theorem total_eq (i : S8x4096.Idx) (h : Fin 8) (r : Fin 4096) (hh : i 0 = h) (hr : i 1 = r) :
    val_main_v32 (F := Ideal) x0 x1 i = (A.total h r : EReal) := by
  rw [val_main_v32_apply, val_main_cst_9_apply]
  show Ideal.ofBits .f32 0x00000000#32 + _ = _
  rw [Ideal.ofBits_zero_f32, zero_add]
  unfold Operands.total
  rw [coe_sum]
  exact Finset.sum_congr rfl fun c _ => weight_eq H (idx_main_v32 i c) h r c hh hr rfl

theorem prob_eq (i : S8x4096x4096.Idx) (h : Fin 8) (r c : Fin 4096) (hh : i 0 = h) (hr : i 1 = r) (hc : i 2 = c) :
    val_main_v35 (F := Ideal) x0 x1 i = (A.prob h r c : EReal) := by
  rw [val_main_v35_apply, weight_eq H i h r c hh hr hc, val_main_v34_apply, val_main_v33_apply, total_eq H _ h r hh hr]
  exact div_coe_coe _ (A.total_ne _ _)

theorem gradProb_eq (i : S8x4096x4096.Idx) (h : Fin 8) (r c : Fin 4096) (hh : i 0 = h) (hr : i 1 = r) (hc : i 2 = c) :
    val_main_v42 (F := Ideal) x2 x3 i = (A.gradProb h r c : EReal) := by
  rw [val_main_v42_apply]
  unfold Operands.gradProb
  rw [coe_sum]
  refine Finset.sum_congr rfl fun j _ => ?_
  rw [val_main_v41_apply, H.v (ridx_main_v42 i j) c h j hc hh rfl, H.g (idx_main_v41 (lidx_main_v42 i j)) r h j hr hh rfl,
    EReal.coe_mul]

theorem mean_eq (i : S8x4096.Idx) (h : Fin 8) (r : Fin 4096) (hh : i 0 = h) (hr : i 1 = r) :
    val_main_v53 (F := Ideal) x0 x1 x2 x3 i
      = ((-∑ c, A.gradProb h r c * (1 / (A.total h r * A.total h r)) * A.weight h r c : ℝ) : EReal) := by
  rw [val_main_v53_apply, val_main_cst_12_apply]
  show Ideal.ofBits .f32 0x00000000#32 + _ = _
  rw [Ideal.ofBits_zero_f32, zero_add, Fin.sum_univ_one, val_main_v50_apply, val_main_v49_apply, val_main_v48_apply,
    val_main_cst_11_apply]
  show -(Ideal.ofBits .f32 0x00000000#32 + _) = _
  rw [Ideal.ofBits_zero_f32, zero_add, EReal.coe_neg, coe_sum]
  refine congrArg Neg.neg (Finset.sum_congr rfl fun c _ => ?_)
  have h0 : (i 0).val < 8 := (i 0).isLt
  have h1 : (i 1).val < 4096 := (i 1).isLt
  have e0 : (idx_main_v48 (idx_main_v49 (idx_main_v53 i 0)) c) 0 = h := Fin.ext (by
    rw [← hh]; show (((i 0).val * 4096 + (i 1).val) * 1 + 0) / 4096 = (i 0).val; omega)
  have e1 : (idx_main_v48 (idx_main_v49 (idx_main_v53 i 0)) c) 1 = r := Fin.ext (by
    rw [← hr]; show (((i 0).val * 4096 + (i 1).val) * 1 + 0) % 4096 = (i 1).val; omega)
  generalize hz : idx_main_v48 (idx_main_v49 (idx_main_v53 i 0)) c = z at e0 e1
  have e2 : z 2 = c := by rw [← hz]; rfl
  rw [val_main_v47_apply, val_main_v46_apply, val_main_v45_apply, val_main_v38_apply, val_main_v37_apply,
    val_main_v36_apply, val_main_v33_apply, gradProb_eq H z h r c e0 e1 e2, weight_eq H z h r c e0 e1 e2,
    total_eq H _ h r e0 e1, val_main_cst_10_apply]
  show (A.gradProb h r c : EReal) * Ideal.div (Ideal.ofBits .f32 0x3F800000#32) ((A.total h r : EReal) * (A.total h r : EReal))
    * (A.weight h r c : EReal) = _
  rw [Ideal.ofBits_one_f32, ← EReal.coe_mul, ← EReal.coe_one,
    div_coe_coe _ (mul_ne_zero (A.total_ne _ _) (A.total_ne _ _)), ← EReal.coe_mul, ← EReal.coe_mul]

theorem gradScore_eq (i : S8x4096x4096.Idx) (h : Fin 8) (r c : Fin 4096) (hh : i 0 = h) (hr : i 1 = r) (hc : i 2 = c) :
    val_main_v59 (F := Ideal) x0 x1 x2 x3 i = ((A.gradScore h r c * scale : ℝ) : EReal) := by
  rw [val_main_v59_apply, val_main_v57_apply, select_mask i r c hr hc, val_main_v58_apply, val_main_cst_13_apply,
    val_main_call1_v0_apply, val_main_call1_cst_apply, val_main_v56_apply, val_main_v55_apply, val_main_v52_apply,
    val_main_v51_apply, val_main_v33_apply, val_main_v54_apply, mean_eq H _ h r hh hr, total_eq H _ h r hh hr,
    gradProb_eq H i h r c hh hr hc, weight_eq H i h r c hh hr hc]
  show (if _ then (Ideal.div (A.gradProb h r c : EReal) (A.total h r : EReal) + _)
      * (A.weight h r c : EReal) else Ideal.ofBits .f32 0x00000000#32) * Ideal.ofBits .f32 0x3D93CD3A#32 = _
  rw [scale_bits, Ideal.ofBits_zero_f32, EReal.coe_mul, div_coe_coe _ (A.total_ne _ _), ← EReal.coe_add, ← EReal.coe_mul]
  refine congrArg (· * _) ?_
  split
  · exact congrArg _ (A.gradScore_eq h r c)
  · rename_i hcr
    rw [A.gradScore_later hcr, EReal.coe_zero]

/-- The reference's first result: the query gradient. -/
theorem dq_eq (i : S8x4096x256.Idx) (h : Fin 8) (r : Fin 4096) (d : Fin 256) (hh : i 0 = h) (hr : i 1 = r) (hd : i 2 = d) :
    val_main_v67 (F := Ideal) x0 x1 x2 x3 i = (A.dq h r d : EReal) := by
  rw [val_main_v67_apply, val_main_v66_apply, val_main_cst_14_apply]
  show Ideal.div _ (Ideal.ofBits .f32 0x3D93CD3A#32) = _
  rw [scale_bits]
  unfold val_main_v65 Operands.dq Operands.ks
  by_cases hd' : d.val < 192
  · simp only [dif_pos hd']
    rw [pad_apply_of_inside _ _ _ _ _ _ _ i (ix3 h r ⟨d.val, hd'⟩) (fun a => by
        match a with
        | ⟨0, _⟩ => show (i 0).val = 0 + h.val * 1; rw [hh]; omega
        | ⟨1, _⟩ => show (i 1).val = 0 + r.val * 1; rw [hr]; omega
        | ⟨2, _⟩ => show (i 2).val = 0 + d.val * 1; rw [hd]; omega),
      val_main_v64_apply, val_main_v63_apply, val_main_v62_apply]
    have e : ∀ c : Fin 4096, val_main_v59 (F := Ideal) x0 x1 x2 x3
        (lidx_main_v62 (idx_main_v63 (idx_main_v64 (ix3 h r ⟨d.val, hd'⟩))) c)
        * x1 (ridx_main_v62 (idx_main_v63 (idx_main_v64 (ix3 h r ⟨d.val, hd'⟩))) c)
        = ((A.gradScore h r c * scale * A.k c h ⟨d.val, hd'⟩ : ℝ) : EReal) := fun c => by
      rw [gradScore_eq H _ h r c rfl rfl rfl, H.k _ c h ⟨d.val, hd'⟩ rfl rfl rfl, EReal.coe_mul (_ * _)]
    rw [Finset.sum_congr rfl fun c _ => e c, ← coe_sum, div_coe_coe _ scale_ne, Finset.sum_div]
    refine congrArg _ (Finset.sum_congr rfl fun c _ => ?_)
    have := scale_ne
    field_simp
  · simp only [dif_neg hd']
    rw [pad_apply_of_not_inside _ _ _ _ _ _ _ i 2 (fun hin => hd' (by
      have := hin.2.2
      rw [show (i ((2 : Fin 3).cast _)).val = d.val from congrArg Fin.val hd] at this
      simpa using this))]
    show Ideal.div ((((0#32 : BitVec 32).toInt : ℝ) : EReal)) _ = _
    rw [div_coe_coe _ scale_ne]
    simp

/-- The reference's second result: the key gradient. -/
theorem dk_eq (i : S8x4096x256.Idx) (h : Fin 8) (c : Fin 4096) (d : Fin 256) (hh : i 0 = h) (hc : i 1 = c) (hd : i 2 = d) :
    val_main_v73 (F := Ideal) x0 x1 x2 x3 i = (A.dk h c d : EReal) := by
  rw [val_main_v73_apply, val_main_v72_apply, val_main_v71_apply, val_main_v70_apply, val_main_cst_16_apply]
  show Ideal.div _ (Ideal.log (Ideal.ofBits .f32 0x40000000#32)) = _
  rw [two_bits, log_two]
  unfold val_main_v69 Operands.dk Operands.qs
  by_cases hd' : d.val < 192
  · simp only [dif_pos hd']
    rw [pad_apply_of_inside _ _ _ _ _ _ _ i (ix3 h c ⟨d.val, hd'⟩) (fun a => by
        match a with
        | ⟨0, _⟩ => show (i 0).val = 0 + h.val * 1; rw [hh]; omega
        | ⟨1, _⟩ => show (i 1).val = 0 + c.val * 1; rw [hc]; omega
        | ⟨2, _⟩ => show (i 2).val = 0 + d.val * 1; rw [hd]; omega),
      val_main_v68_apply, val_main_v61_apply, val_main_v60_apply]
    have e : ∀ r : Fin 4096, val_main_v59 (F := Ideal) x0 x1 x2 x3
        (lidx_main_v60 (idx_main_v61 (idx_main_v68 (ix3 h c ⟨d.val, hd'⟩))) r)
        * x0 (ridx_main_v60 (idx_main_v61 (idx_main_v68 (ix3 h c ⟨d.val, hd'⟩))) r)
        = ((A.gradScore h r c * scale * A.q r h ⟨d.val, hd'⟩ : ℝ) : EReal) := fun r => by
      rw [gradScore_eq H _ h r c rfl rfl rfl, H.q _ r h ⟨d.val, hd'⟩ rfl rfl rfl, EReal.coe_mul (_ * _)]
    rw [Finset.sum_congr rfl fun r _ => e r, ← coe_sum, div_coe_coe _ log_two_ne, Finset.sum_div]
    exact congrArg _ (Finset.sum_congr rfl fun r _ => by ring)
  · simp only [dif_neg hd']
    rw [pad_apply_of_not_inside _ _ _ _ _ _ _ i 2 (fun hin => hd' (by
      have := hin.2.2
      rw [show (i ((2 : Fin 3).cast _)).val = d.val from congrArg Fin.val hd] at this
      simpa using this))]
    show Ideal.div ((((0#32 : BitVec 32).toInt : ℝ) : EReal)) _ = _
    rw [div_coe_coe _ log_two_ne]
    simp

/-- The reference's third result: the value gradient. -/
theorem dv_eq (i : S8x4096x128.Idx) (h : Fin 8) (c : Fin 4096) (j : Fin 128) (hh : i 0 = h) (hc : i 1 = c) (hj : i 2 = j) :
    val_main_v74 (F := Ideal) x0 x1 x3 i = (A.dv h c j : EReal) := by
  unfold Operands.dv
  rw [val_main_v74_apply, val_main_v44_apply, val_main_v43_apply, coe_sum]
  refine Finset.sum_congr rfl fun r _ => ?_
  rw [prob_eq H _ h r c hh rfl hc, val_main_v41_apply, H.g _ r h j rfl hh hj, mul_comm, EReal.coe_mul]

end Chain

end Cert.ReferenceIdeal.Attention
-- ==== Proof.Flash.Finite.lean ====
/-
  Arguments whose entries are all finite are real operands.
-/
module

public import proofs.«01_k».proof.Defs
public import proofs.«01_k».proof.Proof.Gen.Pre_finite
public import proofs.«01_k».proof.Proof.Flash.Reference
public import Idealize.ShloMosaic.Lib.Pipeline.ValueKit
public import Idealize.ShloMosaic.Lib.Pointwise

@[expose] public section

set_option maxRecDepth 16384

noncomputable section

namespace Cert.Attention

open Idealize.ShloMosaic
open Cert.ReferenceIdeal.Attention (QK VG Holds HoldsQK top_real)
open Cert.ReferenceIdeal.Read (val_main_v11)

/-- The test that an entry is finite: its absolute value is less than infinity. -/
def isFinite (x : EReal) : BitVec 1 := BitVec.ofBool (decide (max x (-x) < ⊤))

/-- An entry that passes it is a real number. -/
theorem real_of_finite {x : EReal} (h : isFinite x = 1#1) : x = ((x.toReal : ℝ) : EReal) := by
  have h' : max x (-x) < ⊤ := by
    by_contra hn
    unfold isFinite at h
    rw [decide_eq_false hn] at h
    exact absurd h (by decide)
  refine (EReal.coe_toReal (fun e => ?_) (fun e => ?_)).symm <;> subst e <;> simp at h'

/-- An index of a three-axis array, from its coordinates. -/
theorem eq_ix3 {n : Fin 3 → ℕ} (i : (⟨3, n⟩ : Shape).Idx) : ∀ (a : Fin (n 0)) (b : Fin (n 1)) (c : Fin (n 2)), i 0 = a → i 1 = b → i 2 = c → ∀ j : (⟨3, n⟩ : Shape).Idx,
    j 0 = a → j 1 = b → j 2 = c → i = j := fun a b c h0 h1 h2 j g0 g1 g2 => funext fun e => by
  match e with
  | ⟨0, _⟩ => exact h0.trans g0.symm
  | ⟨1, _⟩ => exact h1.trans g1.symm
  | ⟨2, _⟩ => exact h2.trans g2.symm

variable (x0 x1 : QK) (x2 x3 : VG)

theorem finite_q (r : Fin 4096) (h : Fin 8) (d : Fin 192) :
    Cert.Pre_finite.fn (F := Ideal) x0 x1 x2 x3 (ix3 r h ⟨d.val, by omega⟩) = isFinite (x0 (ix3 r h d)) := by
  unfold Cert.Pre_finite.fn
  pointwise
  rw [show Ideal.ofBits FTy.f32 2139095040#32 = ⊤ from inf_bits]
  rfl

theorem finite_k (r : Fin 4096) (h : Fin 8) (d : Fin 192) :
    Cert.Pre_finite.fn (F := Ideal) x0 x1 x2 x3 (ix3 r h ⟨192 + d.val, by omega⟩) = isFinite (x1 (ix3 r h d)) := by
  unfold Cert.Pre_finite.fn
  pointwise
  rw [show Ideal.ofBits FTy.f32 2139095040#32 = ⊤ from inf_bits]
  rfl

theorem finite_v (r : Fin 4096) (h : Fin 8) (d : Fin 128) :
    Cert.Pre_finite.fn (F := Ideal) x0 x1 x2 x3 (ix3 r h ⟨384 + d.val, by omega⟩) = isFinite (x2 (ix3 r h d)) := by
  unfold Cert.Pre_finite.fn
  pointwise
  rw [dif_neg (by omega), dif_neg (by omega), dif_pos (by omega), show Ideal.ofBits FTy.f32 2139095040#32 = ⊤ from inf_bits]
  simp only [show 384 + d.val - 192 - 192 = d.val by omega]
  rfl

theorem finite_g (r : Fin 4096) (h : Fin 8) (d : Fin 128) :
    Cert.Pre_finite.fn (F := Ideal) x0 x1 x2 x3 (ix3 r h ⟨512 + d.val, by omega⟩) = isFinite (x3 (ix3 r h d)) := by
  unfold Cert.Pre_finite.fn
  pointwise
  rw [dif_neg (by omega), dif_neg (by omega), dif_neg (by omega), show Ideal.ofBits FTy.f32 2139095040#32 = ⊤ from inf_bits]
  simp only [show 512 + d.val - 192 - 192 - 128 = d.val by omega]
  rfl

/-- The arguments as real operands, `y` being the greatest scores of the rows. -/
def operandsOf (y : Cert.ReferenceIdeal.S8x4096.Idx → EReal) : Operands where
  q r h d := (x0 (ix3 r h d)).toReal
  k r h d := (x1 (ix3 r h d)).toReal
  v r h d := (x2 (ix3 r h d)).toReal
  g r h d := (x3 (ix3 r h d)).toReal
  top h r := (y (ix2 h r)).toReal

theorem operandsOf_top (y : Cert.ReferenceIdeal.S8x4096.Idx → EReal) (h : Fin 8) (r : Fin 4096) : (operandsOf x0 x1 x2 x3 y).top h r = (y (ix2 h r)).toReal := rfl

variable {x0 x1 x2 x3}

/-- Finite arguments hold their operands. -/
theorem holds_of_finite (hf : Cert.Pre_finite.fn (F := Ideal) x0 x1 x2 x3 = fun _ => 1#1) : Holds (operandsOf x0 x1 x2 x3 (val_main_v11 (F := Ideal) x0 x1)) x0 x1 x2 x3 := by
  have hqk : HoldsQK (operandsOf x0 x1 x2 x3 (val_main_v11 (F := Ideal) x0 x1)) x0 x1 :=
    ⟨fun i r h d hr hh hd => by
      rw [eq_ix3 i r h d hr hh hd (ix3 r h d) rfl rfl rfl]
      exact real_of_finite ((finite_q x0 x1 x2 x3 r h d).symm.trans (congrFun hf _)),
    fun i r h d hr hh hd => by
      rw [eq_ix3 i r h d hr hh hd (ix3 r h d) rfl rfl rfl]
      exact real_of_finite ((finite_k x0 x1 x2 x3 r h d).symm.trans (congrFun hf _))⟩
  refine ⟨hqk, fun i r h d hr hh hd => ?_, fun i r h d hr hh hd => ?_, fun i h r hh hr => ?_⟩
  · rw [eq_ix3 i r h d hr hh hd (ix3 r h d) rfl rfl rfl]
    exact real_of_finite ((finite_v x0 x1 x2 x3 r h d).symm.trans (congrFun hf _))
  · rw [eq_ix3 i r h d hr hh hd (ix3 r h d) rfl rfl rfl]
    exact real_of_finite ((finite_g x0 x1 x2 x3 r h d).symm.trans (congrFun hf _))
  · have e : i = ix2 h r := funext fun a => by
      match a with
      | ⟨0, _⟩ => exact hh
      | ⟨1, _⟩ => exact hr
    have ht := top_real hqk (ix2 h r) h r rfl rfl
    rw [e, operandsOf_top]
    exact ht.symm

end Cert.Attention
-- ==== Proof.Gate.Finite.lean ====
/-
  The gates' gradient: from finite arguments the two forms of the gate's slope agree.
-/
module

public import proofs.«01_k».proof.Proof.Gate.Finals
public import proofs.«01_k».proof.Proof.Flash.Finite

@[expose] public section

set_option maxRecDepth 16384

noncomputable section

namespace Cert.GateBwdIdeal.Gate

open Cert.GateBwdIdeal Cert.GateBwdIdeal.Gen
open Idealize.ShloMosaic Idealize.ShloMosaic.TcCoe
open Cert.Attention (isFinite real_of_finite inf_bits)

/-- A real multiple of the slope, and of its two terms. -/
theorem slope_terms (a : ℝ) (x : EReal) : (a : EReal) * slope x = a * Ideal.logistic x + (x * a) * (Ideal.logistic x * (1 - Ideal.logistic x)) := by
  unfold slope
  induction x with
  | bot => rw [Ideal.logistic_bot]; simp
  | top =>
    rw [Ideal.logistic_top, show (1 : EReal) - 1 = 0 by rw [← EReal.coe_one, ← EReal.coe_sub, sub_self, EReal.coe_zero]]
    simp
  | coe x =>
    rw [Ideal.logistic_coe]
    generalize (1 + Real.exp (-x))⁻¹ = s
    rw [← EReal.coe_one, ← EReal.coe_sub, ← EReal.coe_mul, ← EReal.coe_add, ← EReal.coe_mul, ← EReal.coe_mul, ← EReal.coe_mul, ← EReal.coe_mul, ← EReal.coe_mul, ← EReal.coe_mul, ← EReal.coe_add]
    congr 1
    ring

/-- A sum of products of real numbers is one. -/
theorem real_sum {n : ℕ} (f g : Fin n → EReal) (hf : ∀ k, ∃ r : ℝ, f k = r) (hg : ∀ k, ∃ r : ℝ, g k = r) : ∃ r : ℝ, ∑ k, f k * g k = r :=
  Finset.sum_induction _ (fun x : EReal => ∃ r : ℝ, x = r)
    (fun _ _ ⟨a, ha⟩ ⟨b, hb⟩ => ⟨a + b, by rw [ha, hb, EReal.coe_add]⟩) ⟨0, rfl⟩
    fun k _ => by
      obtain ⟨a, ha⟩ := hf k
      obtain ⟨b, hb⟩ := hg k
      exact ⟨a * b, by rw [ha, hb, EReal.coe_mul]⟩

variable (dy : FVec Ideal S4096x2048 .f32) (w : FVec Ideal S2048x2048 .f32) (o : FVec Ideal S4096x1024 .f32) (z : FVec Ideal S4096x4928 .f32)
  (u : FVec Ideal S4096x1024 .f32) (b : FVec Ideal S1024 .f32)

/-- The test of the output's gradient. -/
theorem finite_dy (i : Fin 4096) (k : Fin 2048) :
    Cert.Pre_gates_finite.fn (F := Ideal) dy w o z u b (ix2 ⟨i.val, by omega⟩ k) = isFinite (dy (ix2 i k)) := by
  unfold Cert.Pre_gates_finite.fn
  pointwise
  rw [show Ideal.ofBits FTy.f32 2139095040#32 = ⊤ from inf_bits]
  rfl
/-- The test of the output projection. -/
theorem finite_w (e : Fin 2048) (k : Fin 2048) :
    Cert.Pre_gates_finite.fn (F := Ideal) dy w o z u b (ix2 ⟨4096 + e.val, by omega⟩ k) = isFinite (w (ix2 e k)) := by
  unfold Cert.Pre_gates_finite.fn
  pointwise
  rw [show Ideal.ofBits FTy.f32 2139095040#32 = ⊤ from inf_bits]
  rfl
/-- The test of the attention's output. -/
theorem finite_o (i : Fin 4096) (e : Fin 1024) :
    Cert.Pre_gates_finite.fn (F := Ideal) dy w o z u b (ix2 ⟨6144 + i.val, by omega⟩ ⟨e.val, by omega⟩) = isFinite (o (ix2 i e)) := by
  unfold Cert.Pre_gates_finite.fn
  pointwise
  rw [dif_neg (by omega), dif_neg (by omega), dif_pos (by omega), show Ideal.ofBits FTy.f32 2139095040#32 = ⊤ from inf_bits]
  simp only [show 6144 + i.val - 4096 - 2048 = i.val by omega]
  rfl
/-- The test of the pointwise product. -/
theorem finite_u (i : Fin 4096) (e : Fin 1024) :
    Cert.Pre_gates_finite.fn (F := Ideal) dy w o z u b (ix2 ⟨6144 + i.val, by omega⟩ ⟨1024 + e.val, by omega⟩) = isFinite (u (ix2 i e)) := by
  unfold Cert.Pre_gates_finite.fn
  pointwise
  rw [dif_neg (by omega), dif_neg (by omega), dif_pos (by omega), show Ideal.ofBits FTy.f32 2139095040#32 = ⊤ from inf_bits]
  simp only [show 6144 + i.val - 4096 - 2048 = i.val by omega]
  rfl
/-- The test of the bias. -/
theorem finite_b (e : Fin 1024) :
    Cert.Pre_gates_finite.fn (F := Ideal) dy w o z u b (ix2 ⟨10240, by omega⟩ ⟨e.val, by omega⟩) = isFinite (b (ix1 e)) := by
  unfold Cert.Pre_gates_finite.fn
  pointwise
  rw [show Ideal.ofBits FTy.f32 2139095040#32 = ⊤ from inf_bits]
  rfl

variable {dy w o z u b}
  (hf : Cert.Pre_gates_finite.fn (F := Ideal) dy w o z u b = fun _ => 1#1)
include hf

/-- The two groups' gradient is real. -/
theorem real_big (i : Fin 4096) (e : Fin 2048) : ∃ r : ℝ, big dy w i e = r :=
  real_sum _ _ (fun k => ⟨_, real_of_finite ((finite_dy dy w o z u b i k).symm.trans (congrFun hf _))⟩)
    fun k => ⟨_, real_of_finite ((finite_w dy w o z u b e k).symm.trans (congrFun hf _))⟩

/-- The first gate's gradient, in the reference's form. -/
theorem terms_lo (i : Fin 4096) (e : Fin 1024) : slopeLo dy w o z i e
    = (o (ix2 i e) * big dy w i (lo e)) * Ideal.logistic (gateLo z i e)
      + (gateLo z i e * (o (ix2 i e) * big dy w i (lo e))) * (Ideal.logistic (gateLo z i e) * (1 - Ideal.logistic (gateLo z i e))) := by
  obtain ⟨r, hr⟩ := real_big hf i (lo e)
  have ho := real_of_finite ((finite_o dy w o z u b i e).symm.trans (congrFun hf _))
  unfold slopeLo
  rw [mul_comm (big dy w i (lo e)), hr, ho, ← EReal.coe_mul]
  exact slope_terms _ _

/-- The second gate's gradient, in the reference's form. -/
theorem terms_hi (i : Fin 4096) (e : Fin 1024) : slopeHi dy w z u b i e
    = ((u (ix2 i e) + b (ix1 e)) * big dy w i (hi e)) * Ideal.logistic (gateHi z i e)
      + (gateHi z i e * ((u (ix2 i e) + b (ix1 e)) * big dy w i (hi e))) * (Ideal.logistic (gateHi z i e) * (1 - Ideal.logistic (gateHi z i e))) := by
  obtain ⟨r, hr⟩ := real_big hf i (hi e)
  have hu := real_of_finite ((finite_u dy w o z u b i e).symm.trans (congrFun hf _))
  have hb := real_of_finite ((finite_b dy w o z u b e).symm.trans (congrFun hf _))
  unfold slopeHi
  rw [mul_comm (big dy w i (hi e)), hr, hu, hb, ← EReal.coe_add, ← EReal.coe_mul]
  exact slope_terms _ _

end Cert.GateBwdIdeal.Gate

end
-- ==== Proof.Gate.Reference.lean ====
/-
  The gates' gradient: the reference's results, entry by entry.
-/
module

public import proofs.«01_k».proof.Proof.Gate.Finals

@[expose] public section

set_option maxRecDepth 16384

noncomputable section

namespace Cert.GateBwdReferenceIdeal.Gate

open Cert.GateBwdReferenceIdeal Cert.GateBwdIdeal.Gate
open Idealize.ShloMosaic Idealize.ShloMosaic.TcCoe Idealize.ShloMosaic.StableHlo

variable (m : (ℓ : Loc nD τ sig) → Buf (Elt Ideal) ℓ) (c : Dev nD)

/-- The output's gradient. -/
abbrev rDy : FVec Ideal S4096x2048 .f32 := m ((c.tc : Thread nD τ).loc main_arg0)
/-- The output projection. -/
abbrev rW : FVec Ideal S2048x2048 .f32 := m ((c.tc : Thread nD τ).loc main_arg1)
/-- The attention's output. -/
abbrev rO : FVec Ideal S4096x1024 .f32 := m ((c.tc : Thread nD τ).loc main_arg2)
/-- The input projection's result. -/
abbrev rZ : FVec Ideal S4096x4928 .f32 := m ((c.tc : Thread nD τ).loc main_arg3)
/-- The pointwise product. -/
abbrev rU : FVec Ideal S4096x1024 .f32 := m ((c.tc : Thread nD τ).loc main_arg4)
/-- Its bias. -/
abbrev rB : FVec Ideal S1024 .f32 := m ((c.tc : Thread nD τ).loc main_arg5)

/-- The reference's form of a gate's gradient. -/
def terms (a x : EReal) : EReal := a * Ideal.logistic x + (x * a) * (Ideal.logistic x * (1 - Ideal.logistic x))

/-- The gradient of the first group's gate. -/
theorem ref_lo (i : Fin 4096) (e : Fin 1024) :
    Value.res_main_v36 m c (ix2 i ⟨e.val, by omega⟩) = terms (rO m c (ix2 i e) * big (rDy m c) (rW m c) i (lo e)) (gateLo (rZ m c) i e) := by
  unfold Value.res_main_v36 terms big gateLo lo
  pointwise
  rfl

/-- The gradient of the second group's gate. -/
theorem ref_hi (i : Fin 4096) (e : Fin 1024) :
    Value.res_main_v36 m c (ix2 i ⟨1024 + e.val, by omega⟩) = terms ((rU m c (ix2 i e) + rB m c (ix1 e)) * big (rDy m c) (rW m c) i (hi e)) (gateHi (rZ m c) i e) := by
  unfold Value.res_main_v36 terms big gateHi hi
  pointwise
  rfl

/-- Each column is the first group's or the second's. -/
theorem gates_cases (i : S4096x2048.Idx) : (∃ e : Fin 1024, i = ix2 (i 0) ⟨e.val, by omega⟩) ∨ ∃ e : Fin 1024, i = ix2 (i 0) ⟨1024 + e.val, by omega⟩ := by
  have h : (i 1).val < 2048 := (i 1).isLt
  by_cases h1 : (i 1).val < 1024
  · exact .inl ⟨⟨(i 1).val, h1⟩, eq_ix2 i⟩
  · refine .inr ⟨⟨(i 1).val - 1024, by omega⟩, (eq_ix2 i).trans (congrArg (ix2 (i 0)) (Fin.ext ?_))⟩
    show (i 1).val = 1024 + ((i 1).val - 1024)
    omega

set_option maxHeartbeats 1000000 in
/-- The reference ends with the same arrays but the gates' gradients, which it ends with in its own form. -/
theorem run (ρ : Dev nD → PrngReg) : θ_run defs (onTc (τ := τ) (main (F := Ideal))) ⟨m, fun _ => 0, ρ⟩ fun r => ∀ c : Dev nD,
      r.2.mem ((c.tc : Thread nD τ).loc main_v32) = gDo (rDy m c) (rW m c) (rZ m c)
      ∧ r.2.mem ((c.tc : Thread nD τ).loc main_v31) = gDelta (rDy m c) (rW m c) (rO m c) (rZ m c)
      ∧ r.2.mem ((c.tc : Thread nD τ).loc main_v33) = gDu (rDy m c) (rW m c) (rZ m c)
      ∧ r.2.mem ((c.tc : Thread nD τ).loc main_v34) = gBias (rDy m c) (rW m c) (rZ m c)
      ∧ r.2.mem ((c.tc : Thread nD τ).loc main_v36) = Value.res_main_v36 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c => ⟨(h c).1.trans ?_, (h c).2.1.trans ?_, (h c).2.2.1.trans ?_, (h c).2.2.2.1.trans ?_, (h c).2.2.2.2⟩) (Value.run (F := Ideal) m ρ)
  · funext i
    unfold gDo big silu gateLo lo
    pointwise
    rfl
  · funext i
    unfold gDelta big silu gateLo lo
    pointwise
    simp only [Nat.mul_comm 512, Nat.mul_comm 128]
    rfl
  · funext i
    unfold gDu big silu gateHi hi
    pointwise
    rfl
  · funext i
    unfold gBias big silu gateHi hi
    pointwise
    exact (Fintype.sum_subsingleton _ (0 : Fin 1)).trans rfl

end Cert.GateBwdReferenceIdeal.Gate

end
-- ==== Proof.Gate.Claims.lean ====
/-
  The gates' gradient: the call's claims.
-/
module

public import proofs.«01_k».proof.Proof.Gate.Finite
public import proofs.«01_k».proof.Proof.Gate.Reference

@[expose] public section

set_option maxRecDepth 16384

noncomputable section

namespace Cert.GateBwdIdeal.Gate

open Cert.GateBwdIdeal Cert.GateBwdIdeal.Gen
open Idealize.ShloMosaic Idealize.ShloMosaic.TcCoe Idealize.ShloMosaic.StableHlo

/-- The two gates' gradients, side by side, as an array. -/
def gDz (dy : FVec Ideal S4096x2048 .f32) (w : FVec Ideal S2048x2048 .f32) (o : FVec Ideal S4096x1024 .f32) (z : FVec Ideal S4096x4928 .f32)
    (u : FVec Ideal S4096x1024 .f32) (b : FVec Ideal S1024 .f32) : FVec Ideal S4096x2048 .bf16 := fun i => gGates dy w o z u b (i 0) (i 1)

variable (m : (ℓ : Loc nD τ sig) → Buf (Elt Ideal) ℓ) (c : Dev nD)

/-- Two windows on one array are windows it is only read through. -/
theorem shared (w w' : Fin cfg0.W) (hne : w ≠ w') (he : Pipeline.arrRef spec0 w = Pipeline.arrRef spec0 w') : (cfg0.win w).isOut = false := by
  revert w w'
  decide

/-- After the call the written columns are cut out. -/
theorem tail_gates : Pipeline.afterTail₀ cfgs (dats m) 0 (V0 m) [hostOps1] c main_v12
    = extractStridedSlice S4096x2048 ![0, 2048] ((dats m 0 c).arrAt 11 cfg0.N : FVec Ideal S4096x5120 .bf16) slices_S4096x5120_S4096x2048_0_2048 := by
  have h := Pipeline.withArrays_arr_shared spec0 c (V0 m c) (fun w => (dats m 0 c).arrAt w cfg0.N)
    (fun w w' hne he => ((dats m 0 c).arrAt_in w (shared w w' hne he) _).trans (A_eq m c w)) 11
  unfold Pipeline.afterTail₀
  simp only [hostOps1, List.flatten_cons, List.flatten_nil, List.append_nil]
  after_results_simp
  exact congrArg (fun q : FVec Ideal S4096x5120 .bf16 => extractStridedSlice S4096x2048 ![0, 2048] q slices_S4096x5120_S4096x2048_0_2048) h

/-- The columns cut out are the gates' gradients. -/
theorem final_dz : Pipeline.afterTail₀ cfgs (dats m) 0 (V0 m) [hostOps1] c main_v12
    = gDz (aDy m c) (aW m c) (aO m c) (aZ m c) (aU m c) (aB m c) := by
  rw [tail_gates]
  funext i
  unfold gDz
  rw [← final_gates m c (i 0) (i 1)]
  pointwise

/-- The call ends with these arrays and its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v11_0) = gDo (aDy m c) (aW m c) (aZ m c)
      ∧ r.2.mem ((c.tc : Thread nD τ).loc main_v11_1) = gDelta (aDy m c) (aW m c) (aO m c) (aZ m c)
      ∧ r.2.mem ((c.tc : Thread nD τ).loc main_v11_2) = gDu (aDy m c) (aW m c) (aZ m c)
      ∧ r.2.mem ((c.tc : Thread nD τ).loc main_v11_3) = gBias (aDy m c) (aW m c) (aZ m c)
      ∧ r.2.mem ((c.tc : Thread nD τ).loc main_v12) = (gDz (aDy m c) (aW m c) (aO m c) (aZ m c) (aU m c) (aB m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 7).trans (final_do m c), ((h.1 c).1 8).trans (final_delta m c), ((h.1 c).1 9).trans (final_du m c),
    ((h.1 c).1 10).trans (final_bias m c), ((h.1 c).2 main_v12 (Pipeline.mem_restRefs_of main_v12 (by decide) (by decide))).trans (final_dz m c), h.2 c⟩)
    (θ_run_and (run_main m ρ) (unchanged m ρ))

end Cert.GateBwdIdeal.Gate

namespace Cert.Proof

open Cert.GateBwdIdeal Cert.GateBwdIdeal.Gate
open Idealize.ShloMosaic Idealize.ShloMosaic.TcCoe

set_option maxHeartbeats 1000000 in
/-- The two texts of the body, at every point of the grid, are one. -/
theorem defs₀_GateBwd : Cert.GateBwd.defs₀ (F := Bits) = Cert.GateBwdIdeal.defs₀ (F := Bits) := by
  refine congrArg Defs.onTc (funext fun l => ?_)
  match l with
  | 0 => exact funext fun ⟨_, _⟩ => rfl
  | ⟨_ + 1, h⟩ => exact absurd h (Nat.not_lt.2 (Nat.le_add_left _ _))

set_option maxHeartbeats 1000000 in
/-- The call at the hardware's numbers ends with its arguments unchanged and every counter at zero. -/
theorem frame_GateBwd : Cert.quiescent_GateBwd := fun m ρ _ => by
  rw [show Cert.GateBwd.defs (F := Bits) = Cert.GateBwdIdeal.defs from congrArg (Pipeline.defs Cert.GateBwdIdeal.pcfgs) defs₀_GateBwd,
    show Cert.GateBwd.main (F := Bits) = Cert.GateBwdIdeal.main from rfl]
  exact Cert.GateBwdIdeal.Gen.frame (F := Bits) m ρ

/-- The call at the extended reals ends with its arguments unchanged and every counter at zero. -/
theorem frame_GateBwdIdeal : Cert.quiescent_GateBwdIdeal := fun m ρ _ => Cert.GateBwdIdeal.Gen.frame (F := Ideal) m ρ

/-- The reference ends with its arguments unchanged and every counter at zero. -/
theorem frame_reference_GateBwd : Cert.quiescent_GateBwdReferenceIdeal := fun m ρ _ =>
  (θ_run Cert.GateBwdReferenceIdeal.defs _ _).mono (fun r h => ⟨fun c => (h c).2.2.2.2.2, sem_eq_zero_of_no_sems rfl r.2⟩) (Cert.GateBwdReferenceIdeal.Value.run (F := Ideal) m ρ)

/-- The gates' gradients in the reference's form are the call's, the arguments being finite. -/
theorem ref_gates {m' : (ℓ : Loc Cert.GateBwdReferenceIdeal.nD Cert.GateBwdReferenceIdeal.τ Cert.GateBwdReferenceIdeal.sig) → Buf (Elt Ideal) ℓ} {c : Dev nD}
    (hf : Cert.Pre_gates_finite.fn (F := Ideal) (Cert.GateBwdReferenceIdeal.Gate.rDy m' c) (Cert.GateBwdReferenceIdeal.Gate.rW m' c) (Cert.GateBwdReferenceIdeal.Gate.rO m' c)
      (Cert.GateBwdReferenceIdeal.Gate.rZ m' c) (Cert.GateBwdReferenceIdeal.Gate.rU m' c) (Cert.GateBwdReferenceIdeal.Gate.rB m' c) = fun _ => 1#1) :
    Cert.GateBwdReferenceIdeal.Value.res_main_v36 m' c = gDz (Cert.GateBwdReferenceIdeal.Gate.rDy m' c) (Cert.GateBwdReferenceIdeal.Gate.rW m' c)
      (Cert.GateBwdReferenceIdeal.Gate.rO m' c) (Cert.GateBwdReferenceIdeal.Gate.rZ m' c) (Cert.GateBwdReferenceIdeal.Gate.rU m' c) (Cert.GateBwdReferenceIdeal.Gate.rB m' c) := by
  funext i
  unfold gDz
  rcases Cert.GateBwdReferenceIdeal.Gate.gates_cases i with ⟨e, he⟩ | ⟨e, he⟩
  · rw [he]
    refine (Cert.GateBwdReferenceIdeal.Gate.ref_lo m' c (i 0) e).trans ?_
    refine (terms_lo hf (i 0) e).symm.trans ?_
    show _ = gGates _ _ _ _ _ _ (i 0) ⟨e.val, _⟩
    unfold gGates
    rw [if_pos e.isLt]
    exact congrArg _ (Fin.ext (Nat.mod_eq_of_lt e.isLt).symm)
  · rw [he]
    refine (Cert.GateBwdReferenceIdeal.Gate.ref_hi m' c (i 0) e).trans ?_
    refine (terms_hi hf (i 0) e).symm.trans ?_
    show _ = gGates _ _ _ _ _ _ (i 0) ⟨1024 + e.val, _⟩
    unfold gGates
    rw [if_neg (by simp only; omega)]
    exact congrArg _ (Fin.ext (by simp only; omega))

/-- From finite arguments the call and the reference end with the same five arrays. -/
theorem algebraic_GateBwd : Cert.algebraic_GateBwdIdeal_GateBwdReferenceIdeal_pre_gates_finite := fun m g m' g' hpre args => by
  refine ⟨fun c => gDo (aDy m c) (aW m c) (aZ m c), fun c => gDelta (aDy m c) (aW m c) (aO m c) (aZ m c), fun c => gDu (aDy m c) (aW m c) (aZ m c),
    fun c => gBias (aDy m c) (aW m c) (aZ m c), fun c => gDz (aDy m c) (aW m c) (aO m c) (aZ m c) (aU m c) (aB m c), run m g, ?_⟩
  refine (θ_run _ _ _).mono (fun r h c => ?_) (Cert.GateBwdReferenceIdeal.Gate.run m' g')
  obtain ⟨h0, h1, h2, h3, h4, h5⟩ := args c
  have hf := hpre c
  have hr := h c
  rw [← h0, ← h1, ← h2, ← h3, ← h4, ← h5] at hf
  rw [ref_gates hf] at hr
  beta_reduce
  unfold aDy aW aO aZ aU aB
  rw [← h0, ← h1, ← h2, ← h3, ← h4, ← h5]
  exact hr

end Cert.Proof

end
-- ==== Proof.Rows.Prenorm.lean ====
/-
  The norm before a layer: the call's blocks hold the rows over the root of their mean square, times the gains and the layer's scale, plus its shift.
-/
module

public import proofs.«01_k».proof.Proof.Gen.Prenorm
public import proofs.«01_k».proof.Proof.Gen.PrenormIdeal.Value
public import proofs.«01_k».proof.Proof.Gen.PrenormReferenceIdeal.Run
public import Idealize.ShloMosaic.Lib.Pipeline.ValueKit
public import Idealize.ShloMosaic.Lib.KernelVsHost
public import proofs.«01_k».proof.Defs

@[expose] public section

set_option maxRecDepth 16384

noncomputable section

namespace Cert.PrenormIdeal.Rows

open Cert.PrenormIdeal Cert.PrenormIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- One over the root of a mean square, from the sum of the squares. -/
def inverse (q : EReal) : EReal := Ideal.rsqrt (Ideal.div q (Ideal.ofBits .f32 0x45000000#32) + Ideal.ofBits .f32 0x358637BD#32)

/-- The norm's entries. -/
def entries (x : FVec Ideal S4096x2048 .f32) (g : FVec Ideal S2048 .f32) (sh sc : FVec Ideal S1x2048 .f32) : FVec Ideal S4096x2048 .bf16 :=
  fun i => x i * inverse (∑ k : Fin 2048, x (ix2 (i 0) k) * x (ix2 (i 0) k)) * g (ix1 (i 1)) * (1 + sc (ix2 0 (i 1))) + sh (ix2 0 (i 1))

/-- The gains as a row. -/
def row (g : FVec Ideal S2048 .f32) : FVec Ideal S1x2048 .f32 := shapeCast S1x2048 g shapeCasts_S2048_S1x2048

/-- The scale with one added. -/
def plusOne (s : FVec Ideal S1x2048 .f32) : FVec Ideal S1x2048 .f32 := addf (broadcastInDim S1x2048 ![] bcast_S_S1x2048 (constant S_ .f32 0x3F800000#32)) s

/-- The host's lines leave the rows as they are. -/
theorem V_rows : V m c main_arg0 = m ((c.tc : Thread nD τ).loc main_arg0) := by
  simp only [V, hostOps0]
  after_results_simp
/-- The host's lines leave the gains so. -/
theorem V_gains : V m c main_v0 = row (m ((c.tc : Thread nD τ).loc main_arg1)) := by
  simp only [V, hostOps0]
  after_results_simp
  all_goals rfl
/-- The host's lines leave the shift as it is. -/
theorem V_shift : V m c main_arg2 = m ((c.tc : Thread nD τ).loc main_arg2) := by
  simp only [V, hostOps0]
  after_results_simp
/-- The host's lines leave the scale so. -/
theorem V_scale : V m c main_v2 = plusOne (m ((c.tc : Thread nD τ).loc main_arg3)) := by
  simp only [V, hostOps0]
  after_results_simp
  all_goals rfl

/-- Which blocks the grid's points read and write. -/
theorem index_of : ∀ t : Fin grid0.N, win0_0.index t = ![t.val, 0] ∧ win0_1.index t = ![0, 0] ∧ win0_2.index t = ![0, 0] ∧ win0_3.index t = ![0, 0] ∧ win0_4.index t = ![t.val, 0] := by decide +kernel

/-- A written block's entries by the read blocks'. -/
theorem block (x : Vec Ideal S512x2048 .f32) (g sh sc : Vec Ideal S1x2048 .f32) (y : S512x2048.Idx) :
    out0_4 x g sh sc y = x y * inverse (∑ k : Fin 2048, x (ix2 (y 0) k) * x (ix2 (y 0) k)) * g (ix2 0 (y 1)) * sc (ix2 0 (y 1)) + sh (ix2 0 (y 1)) := by
  frame_out
  unfold inverse
  pointwise [k0_pay1]

variable (t : Fin cfg0.N) (y : S512x2048.Idx) (i : S4096x2048.Idx)

/-- A point's block of the rows. -/
theorem read_rows (y' : S512x2048.Idx) (i' : S4096x2048.Idx) (h0 : (i' 0).val = t.val * 512 + (y' 0).val) (h1 : (i' 1).val = (y' 1).val) :
    iblk m c 0 t y' = m ((c.tc : Thread nD τ).loc main_arg0) i' := by
  have hi := index_of t
  unfold iblk
  blk_simp [hi]
  show V m c main_arg0 _ = _
  rw [V_rows]
  refine congrArg (m ((c.tc : Thread nD τ).loc main_arg0)) ?_
  blk_ext [hi, h0, h1]

/-- A point's block of an argument. -/
theorem read_gains (e : Fin 2048) : iblk m c 1 t (ix2 0 e) = row (m ((c.tc : Thread nD τ).loc main_arg1)) (ix2 0 e) := by
  have hi := index_of t
  unfold iblk
  blk_simp [hi]
  show V m c main_v0 _ = _
  rw [V_gains]
  refine congrArg (row _) ?_
  blk_ext [hi]

/-- A point's block of an argument. -/
theorem read_shift (e : Fin 2048) : iblk m c 2 t (ix2 0 e) = (m ((c.tc : Thread nD τ).loc main_arg2)) (ix2 0 e) := by
  have hi := index_of t
  unfold iblk
  blk_simp [hi]
  show V m c main_arg2 _ = _
  rw [V_shift]
  refine congrArg (m ((c.tc : Thread nD τ).loc main_arg2)) ?_
  blk_ext [hi]

/-- A point's block of an argument. -/
theorem read_scale (e : Fin 2048) : iblk m c 3 t (ix2 0 e) = plusOne (m ((c.tc : Thread nD τ).loc main_arg3)) (ix2 0 e) := by
  have hi := index_of t
  unfold iblk
  blk_simp [hi]
  show V m c main_v2 _ = _
  rw [V_scale]
  refine congrArg (plusOne _) ?_
  blk_ext [hi]

/-- The gains' row at a column. -/
theorem row_apply (g : FVec Ideal S2048 .f32) (e : Fin 2048) : row g (ix2 0 e) = g (ix1 e) := by
  unfold row
  pointwise

/-- The scale's row at a column. -/
theorem plusOne_apply (s : FVec Ideal S1x2048 .f32) (e : Fin 2048) : plusOne s (ix2 0 e) = 1 + s (ix2 0 e) := by
  unfold plusOne
  pointwise

/-- The whole norm. -/
theorem final : (dats m 0 c).arrAt 4 cfg0.N = entries (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  have hi := index_of t
  blk_simp
  rw [after0_4]
  refine (block _ _ _ _ y).trans ?_
  unfold entries
  refine congrArg₂ (· + ·) (congrArg₂ (· * ·) (congrArg₂ (· * ·) (congrArg₂ (· * ·) (read_rows m c t y _ ?_ ?_) (congrArg inverse (Finset.sum_congr rfl fun k _ => congrArg₂ (· * ·) (read_rows m c t (ix2 (y 0) k) _ ?_ ?_) (read_rows m c t (ix2 (y 0) k) _ ?_ ?_)))) ((read_gains m c t (y 1)).trans ((row_apply _ (y 1)).trans (congrArg (fun e : Fin 2048 => m ((c.tc : Thread nD τ).loc main_arg1) (ix1 e)) (Fin.ext ?_))))) ((read_scale m c t (y 1)).trans ((plusOne_apply _ (y 1)).trans (congrArg (fun e : Fin 2048 => 1 + m ((c.tc : Thread nD τ).loc main_arg3) (ix2 0 e)) (Fin.ext ?_))))) ((read_shift m c t (y 1)).trans (congrArg (fun e : Fin 2048 => m ((c.tc : Thread nD τ).loc main_arg2) (ix2 0 e)) (Fin.ext ?_)))
  all_goals blk_simp [hi]

end Cert.PrenormIdeal.Rows

namespace Cert.Proof

open Cert.PrenormIdeal Cert.PrenormIdeal.Rows
open Idealize.ShloMosaic Idealize.ShloMosaic.TcCoe

set_option maxHeartbeats 1000000 in
/-- The two texts of the body, at every point of the grid, are one. -/
theorem defs₀_Prenorm : Cert.Prenorm.defs₀ (F := Bits) = Cert.PrenormIdeal.defs₀ (F := Bits) := by
  refine congrArg Defs.onTc (funext fun l => ?_)
  match l with
  | 0 => exact funext fun ⟨_, _⟩ => rfl
  | ⟨_ + 1, h⟩ => exact absurd h (Nat.not_lt.2 (Nat.le_add_left _ _))

set_option maxHeartbeats 1000000 in
/-- The call at the hardware's numbers ends with its arguments unchanged and every counter at zero. -/
theorem frame_Prenorm : Cert.quiescent_Prenorm := fun m ρ _ => by
  rw [show Cert.Prenorm.defs (F := Bits) = Cert.PrenormIdeal.defs from congrArg (Pipeline.defs Cert.PrenormIdeal.pcfgs) defs₀_Prenorm,
    show Cert.Prenorm.main (F := Bits) = Cert.PrenormIdeal.main from rfl]
  exact Cert.PrenormIdeal.Gen.frame (F := Bits) m ρ

/-- The call at the extended reals ends with its arguments unchanged and every counter at zero. -/
theorem frame_PrenormIdeal : Cert.quiescent_PrenormIdeal := fun m ρ _ => Cert.PrenormIdeal.Gen.frame (F := Ideal) m ρ

/-- The reference ends with its arguments unchanged and every counter at zero. -/
theorem frame_reference_Prenorm : Cert.quiescent_PrenormReferenceIdeal := fun m ρ _ =>
  (θ_run Cert.PrenormReferenceIdeal.defs _ _).mono (fun r h => ⟨fun c => (h c).2, sem_eq_zero_of_no_sems rfl r.2⟩) (Cert.PrenormReferenceIdeal.Value.run (F := Ideal) m ρ)

/-- The call's results and the reference's are the same arrays. -/
theorem algebraic_Prenorm : Cert.algebraic_PrenormIdeal_PrenormReferenceIdeal := fun m g m' g' _ args => by
  refine ⟨fun c => entries (m ((c.tc : Thread nD τ).loc main_arg0)) (m ((c.tc : Thread nD τ).loc main_arg1)) (m ((c.tc : Thread nD τ).loc main_arg2)) (m ((c.tc : Thread nD τ).loc main_arg3)), ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.PrenormReferenceIdeal.Value.run (F := Ideal) m' g')
    · rw [(args c).1, (args c).2.1, (args c).2.2.1, (args c).2.2.2]
      funext i
      unfold entries inverse
      pointwise

end Cert.Proof

end
-- ==== Proof.Rows.GateCat.lean ====
/-
  The two gated head groups side by side: the call's blocks hold the attention's output and the biased pointwise product, each by its gates.
-/
module

public import proofs.«01_k».proof.Proof.Gen.GateCat
public import proofs.«01_k».proof.Proof.Gen.GateCatIdeal.Frame
public import proofs.«01_k».proof.Proof.Gen.GateCatReferenceIdeal.Run
public import Idealize.ShloMosaic.Lib.Pipeline.ValueKit
public import Idealize.ShloMosaic.Lib.KernelVsHost
public import proofs.«01_k».proof.Defs

@[expose] public section

set_option maxRecDepth 16384

noncomputable section

namespace Cert.GateCatIdeal.Rows

open Cert.GateCatIdeal Cert.GateCatIdeal.Gen
open Idealize.ShloMosaic Idealize.ShloMosaic.TcCoe Idealize.ShloMosaic.Tactic Idealize.ShloMosaic.StableHlo

/-- The columns in the step's order, filled up with zeros. -/
def columns (x : FVec Ideal S4096x4928 .f32) : FVec Ideal S4096x5120 .f32 :=
  concatenate S4096x5120 1
    [ ⟨S4096x2048, extractStridedSlice S4096x2048 ![0, 1856] x slices_S4096x4928_S4096x2048_0_1856⟩,
      ⟨S4096x1024, extractStridedSlice S4096x1024 ![0, 832] x slices_S4096x4928_S4096x1024_0_832⟩,
      ⟨S4096x1024, extractStridedSlice S4096x1024 ![0, 3904] x slices_S4096x4928_S4096x1024_0_3904⟩,
      ⟨S4096x512, extractStridedSlice S4096x512 ![0, 0] x slices_S4096x4928_S4096x512_0_0⟩,
      ⟨S4096x256, extractStridedSlice S4096x256 ![0, 512] x slices_S4096x4928_S4096x256_0_512⟩,
      ⟨S4096x256, pad S4096x256 ![0, 0] ![0, 192] ![0, 0] (extractStridedSlice S4096x64 ![0, 768] x slices_S4096x4928_S4096x64_0_768)
        (sitofp .f32 (constantI S_ 32 0#32)) pads_S4096x64_S4096x256_000_01920 h_S_⟩ ]
    concatenates_S4096x2048_S4096x1024_S4096x1024_S4096x512_S4096x256_S4096x256_S4096x5120_d1

/-- The first group's gates stand from column 2048 on. -/
theorem columns_lo (z : FVec Ideal S4096x4928 .f32) (i : Fin 4096) (e : Fin 1024) : columns z (ix2 i ⟨2048 + e.val, by omega⟩) = z (ix2 i ⟨832 + e.val, by omega⟩) := by
  unfold columns
  pointwise

/-- The second group's gates stand from column 3072 on. -/
theorem columns_hi (z : FVec Ideal S4096x4928 .f32) (i : Fin 4096) (e : Fin 1024) : columns z (ix2 i ⟨3072 + e.val, by omega⟩) = z (ix2 i ⟨3904 + e.val, by omega⟩) := by
  unfold columns
  pointwise
  have := e.isLt
  split_ifs
  all_goals first
    | (exfalso; omega)
    | exact congrArg (fun q => z (ix2 i q)) (Fin.ext (by simp only; omega))

/-- The gate. -/
def silu (x : EReal) : EReal := x * Ideal.logistic x

variable (o : FVec Ideal S4096x1024 .f32) (z : FVec Ideal S4096x4928 .f32) (u : FVec Ideal S4096x1024 .f32) (b : FVec Ideal S1024 .f32)

/-- The first group's entries. -/
def partLo (i : Fin 4096) (e : Fin 1024) : EReal := o (ix2 i e) * silu (z (ix2 i ⟨832 + e.val, by omega⟩))
/-- The second group's entries. -/
def partHi (i : Fin 4096) (e : Fin 1024) : EReal := (u (ix2 i e) + b (ix1 e)) * silu (z (ix2 i ⟨3904 + e.val, by omega⟩))
/-- The two groups side by side, by rows and columns. -/
def pair (i : Fin 4096) (j : Fin 2048) : EReal :=
  if j.val < 1024 then partLo o z i ⟨j.val % 1024, Nat.mod_lt _ (by decide)⟩ else partHi z u b i ⟨j.val % 1024, Nat.mod_lt _ (by decide)⟩
/-- The two groups side by side. -/
def both : FVec Ideal S4096x2048 .bf16 := fun i => pair o z u b (i 0) (i 1)

/-- The first group's columns. -/
theorem both_lo (i : Fin 4096) (e : Fin 1024) : both o z u b (ix2 i ⟨e.val, by omega⟩) = partLo o z i e := by
  show pair o z u b i ⟨e.val, _⟩ = _
  unfold pair
  rw [if_pos e.isLt]
  exact congrArg _ (Fin.ext (Nat.mod_eq_of_lt e.isLt))
/-- The second group's columns. -/
theorem both_hi (i : Fin 4096) (e : Fin 1024) : both o z u b (ix2 i ⟨1024 + e.val, by omega⟩) = partHi z u b i e := by
  show pair o z u b i ⟨1024 + e.val, _⟩ = _
  unfold pair
  rw [if_neg (by simp only; omega)]
  exact congrArg _ (Fin.ext (by simp only; omega))
/-- Each column is the first group's or the second's. -/
theorem column_cases (i : S4096x2048.Idx) : (∃ e : Fin 1024, i = ix2 (i 0) ⟨e.val, by omega⟩) ∨ ∃ e : Fin 1024, i = ix2 (i 0) ⟨1024 + e.val, by omega⟩ := by
  have h : (i 1).val < 2048 := (i 1).isLt
  by_cases h1 : (i 1).val < 1024
  · exact .inl ⟨⟨(i 1).val, h1⟩, eq_ix2 i⟩
  · refine .inr ⟨⟨(i 1).val - 1024, by omega⟩, (eq_ix2 i).trans (congrArg (ix2 (i 0)) (Fin.ext ?_))⟩
    show (i 1).val = 1024 + ((i 1).val - 1024)
    omega

variable (m : (ℓ : Loc nD τ sig) → Buf (Elt Ideal) ℓ) (c : Dev nD)

/-- The attention's output. -/
abbrev aO : FVec Ideal S4096x1024 .f32 := m ((c.tc : Thread nD τ).loc main_arg0)
/-- The input projection's result. -/
abbrev aZ : FVec Ideal S4096x4928 .f32 := m ((c.tc : Thread nD τ).loc main_arg1)
/-- The pointwise product. -/
abbrev aU : FVec Ideal S4096x1024 .f32 := m ((c.tc : Thread nD τ).loc main_arg2)
/-- Its bias. -/
abbrev aB : FVec Ideal S1024 .f32 := m ((c.tc : Thread nD τ).loc main_arg3)

set_option maxHeartbeats 4000000 in
/-- The host's lines leave the columns so. -/
theorem V_z : V m c main_v7 = columns (aZ m c) := by
  simp only [V, hostOps0, hostOps0_1, hostOps0_2, List.flatten_cons, List.flatten_nil, List.append_nil, List.cons_append, List.nil_append, TRef.binary, TRef.nullary, TRef.ternary, TRef.unary, TRef.toBuf, TRef.ofBuf, cast_eq]
  after_results_simp
  all_goals rfl
set_option maxHeartbeats 4000000 in
/-- The host's lines leave the bias so. -/
theorem V_b : V m c main_v8 = shapeCast S1x1024 (aB m c) shapeCasts_S1024_S1x1024 := by
  simp only [V, hostOps0, hostOps0_1, hostOps0_2, List.flatten_cons, List.flatten_nil, List.append_nil, List.cons_append, List.nil_append, TRef.binary, TRef.nullary, TRef.ternary, TRef.unary, TRef.toBuf, TRef.ofBuf, cast_eq]
  after_results_simp
  all_goals rfl

/-- Which blocks the grid's points read and write. -/
theorem index_of : ∀ t : Fin grid0.N, win0_0.index t = ![t.val, 0] ∧ win0_1.index t = ![t.val, 2] ∧ win0_2.index t = ![t.val, 0] ∧ win0_3.index t = ![t.val, 3]
    ∧ win0_4.index t = ![0, 0] ∧ win0_5.index t = ![t.val, 0] := by decide +kernel

/-- A row of a point's blocks. -/
def row (t : Fin cfg0.N) (r : Fin 512) : Fin 4096 := ⟨512 * t.val + r.val, by have := t.isLt; have h : cfg0.N = 8 := N_0; omega⟩

variable (t : Fin cfg0.N)

/-- A block's rows of the attention's output. -/
theorem read_o (r : Fin 512) (e : Fin 1024) : (iblk m c 0 t : Vec Ideal S512x1024 .f32) (ix2 r e) = aO m c (ix2 (row t r) e) := by
  have hi := index_of t
  unfold iblk
  blk_simp [hi]
  show V m c main_arg0 _ = _
  rw [V_main_arg0]
  unfold row
  blk_ext [hi]
/-- A block's rows of the first gate. -/
theorem read_mg (r : Fin 512) (e : Fin 1024) : (iblk m c 1 t : Vec Ideal S512x1024 .f32) (ix2 r e) = aZ m c (ix2 (row t r) ⟨832 + e.val, by omega⟩) := by
  have hi := index_of t
  rw [← columns_lo (aZ m c) (row t r) e]
  unfold iblk
  blk_simp [hi]
  show V m c main_v7 _ = _
  rw [V_z]
  unfold row
  blk_ext [hi]
/-- A block's rows of the pointwise product. -/
theorem read_u (r : Fin 512) (e : Fin 1024) : (iblk m c 2 t : Vec Ideal S512x1024 .f32) (ix2 r e) = aU m c (ix2 (row t r) e) := by
  have hi := index_of t
  unfold iblk
  blk_simp [hi]
  show V m c main_arg2 _ = _
  rw [V_main_arg2]
  unfold row
  blk_ext [hi]
/-- A block's rows of the second gate. -/
theorem read_cg (r : Fin 512) (e : Fin 1024) : (iblk m c 3 t : Vec Ideal S512x1024 .f32) (ix2 r e) = aZ m c (ix2 (row t r) ⟨3904 + e.val, by omega⟩) := by
  have hi := index_of t
  rw [← columns_hi (aZ m c) (row t r) e]
  unfold iblk
  blk_simp [hi]
  show V m c main_v7 _ = _
  rw [V_z]
  unfold row
  blk_ext [hi]
/-- The bias is read whole. -/
theorem read_b (e : Fin 1024) : (iblk m c 4 t : Vec Ideal S1x1024 .f32) (ix2 0 e) = aB m c (ix1 e) := by
  have hi := index_of t
  unfold iblk
  blk_simp [hi]
  show V m c main_v8 _ = _
  rw [V_b]
  pointwise
  all_goals blk_ext [hi]

section Block

variable (x0 x1 x2 x3 : Vec Ideal S512x1024 .f32) (x4 : Vec Ideal S1x1024 .f32)

/-- The first group's payload, at an entry. -/
theorem pay_lo (y : S512x1024.Idx) : k0_pay1 x0 x1 y = x0 y * silu (x1 y) := by
  unfold silu
  pointwise [k0_pay1]
/-- The second group's payload, at an entry. -/
theorem pay_hi (y : S512x1024.Idx) : k0_pay2 x2 x4 x3 y = (x2 y + x4 (ix2 0 (y 1))) * silu (x3 y) := by
  unfold silu
  pointwise [k0_pay2]

/-- A written block's first group. -/
theorem block_lo (y : S512x2048.Idx) (e : Fin 1024) (he : (y 1).val = e.val) : out0_5 x0 x1 x2 x3 x4 y = x0 (ix2 (y 0) e) * silu (x1 (ix2 (y 0) e)) := by
  frame_out
  canon_tiles x h
  · exact absurd (he.symm.trans h1) (by omega)
  · refine (pay_lo _ _ x).trans ?_
    rw [show x = ix2 (y 0) e by idx_ext <;> omega]
    rfl
/-- A written block's second group. -/
theorem block_hi (y : S512x2048.Idx) (e : Fin 1024) (he : (y 1).val = 1024 + e.val) :
    out0_5 x0 x1 x2 x3 x4 y = (x2 (ix2 (y 0) e) + x4 (ix2 0 e)) * silu (x3 (ix2 (y 0) e)) := by
  frame_out
  canon_tiles x h
  · refine (pay_hi _ _ _ x).trans ?_
    rw [show x = ix2 (y 0) e by idx_ext <;> omega]
    rfl
  · exact absurd (he.symm.trans h1) (by omega)

end Block

/-- A point leaves its block of the two groups. -/
theorem left (y : S512x2048.Idx) : out0_5 (iblk m c 0 t) (iblk m c 1 t) (iblk m c 2 t) (iblk m c 3 t) (iblk m c 4 t) y
    = pair (aO m c) (aZ m c) (aU m c) (aB m c) (row t (y 0)) (y 1) := by
  have h : (y 1).val < 2048 := (y 1).isLt
  unfold pair
  split_ifs with h1
  · exact (block_lo _ _ _ _ _ y _ (by simp only; omega)).trans (congrArg₂ (· * ·) (read_o m c t (y 0) _) (congrArg silu (read_mg m c t (y 0) _)))
  · exact (block_hi _ _ _ _ _ y _ (by simp only; omega)).trans
      (congrArg₂ (· * ·) (congrArg₂ (· + ·) (read_u m c t (y 0) _) (read_b m c t _)) (congrArg silu (read_cg m c t (y 0) _)))

/-- The whole two groups. -/
theorem final : (dats m 0 c).arrAt 5 cfg0.N = both (aO m c) (aZ m c) (aU m c) (aB m c) := by
  refine (dats m 0 c).arrAt_eq_of_covers 5 _ (by decide +kernel) fun t hf y => ?_
  have hi := index_of t
  blk_simp
  rw [after0_5]
  refine (left m c t y).trans ?_
  unfold both
  refine congrArg₂ (pair (aO m c) (aZ m c) (aU m c) (aB m c)) (Fin.ext ?_) (Fin.ext ?_)
  · unfold row
    blk_simp [hi]
    dsimp only
    omega
  · blk_simp [hi]

end Cert.GateCatIdeal.Rows

namespace Cert.Proof

open Cert.GateCatIdeal Cert.GateCatIdeal.Rows
open Idealize.ShloMosaic Idealize.ShloMosaic.TcCoe

set_option maxHeartbeats 1000000 in
/-- The two texts of the body, at every point of the grid, are one. -/
theorem defs₀_GateCat : Cert.GateCat.defs₀ (F := Bits) = Cert.GateCatIdeal.defs₀ (F := Bits) := by
  refine congrArg Defs.onTc (funext fun l => ?_)
  match l with
  | 0 => exact funext fun ⟨_, _⟩ => rfl
  | ⟨_ + 1, h⟩ => exact absurd h (Nat.not_lt.2 (Nat.le_add_left _ _))

set_option maxHeartbeats 1000000 in
/-- The call at the hardware's numbers ends with its arguments unchanged and every counter at zero. -/
theorem frame_GateCat : Cert.quiescent_GateCat := fun m ρ _ => by
  rw [show Cert.GateCat.defs (F := Bits) = Cert.GateCatIdeal.defs from congrArg (Pipeline.defs Cert.GateCatIdeal.pcfgs) defs₀_GateCat,
    show Cert.GateCat.main (F := Bits) = Cert.GateCatIdeal.main from rfl]
  exact Cert.GateCatIdeal.Gen.frame (F := Bits) m ρ

/-- The call at the extended reals ends with its arguments unchanged and every counter at zero. -/
theorem frame_GateCatIdeal : Cert.quiescent_GateCatIdeal := fun m ρ _ => Cert.GateCatIdeal.Gen.frame (F := Ideal) m ρ

/-- The reference ends with its arguments unchanged and every counter at zero. -/
theorem frame_reference_GateCat : Cert.quiescent_GateCatReferenceIdeal := fun m ρ _ =>
  (θ_run Cert.GateCatReferenceIdeal.defs _ _).mono (fun r h => ⟨fun c => (h c).2, sem_eq_zero_of_no_sems rfl r.2⟩) (Cert.GateCatReferenceIdeal.Value.run (F := Ideal) m ρ)

/-- The call's result and the reference's are the same array. -/
theorem algebraic_GateCat : Cert.algebraic_GateCatIdeal_GateCatReferenceIdeal := fun m g m' g' _ args => by
  refine ⟨fun c => both (aO m c) (aZ m c) (aU m c) (aB m c), ?_, ?_⟩
  · exact (θ_run _ _ _).mono (fun r h c => ⟨((h.1 c).1 5).trans (final m c), h.2 c⟩) (θ_run_and (Cert.GateCatIdeal.Gen.run_main m g) (Cert.GateCatIdeal.Gen.unchanged m g))
  · refine (θ_run _ _ _).mono (fun r h c => ⟨(h c).1.trans ?_, (h c).2⟩) (Cert.GateCatReferenceIdeal.Value.run (F := Ideal) m' g')
    rw [(args c).1, (args c).2.1, (args c).2.2.1, (args c).2.2.2]
    funext i
    rcases column_cases i with ⟨e, he⟩ | ⟨e, he⟩
    · rw [he]
      refine Eq.trans ?_ (both_lo _ _ _ _ (i 0) e).symm
      unfold partLo silu
      pointwise
      rfl
    · rw [he]
      refine Eq.trans ?_ (both_hi _ _ _ _ (i 0) e).symm
      unfold partHi silu
      pointwise
      rfl

end Cert.Proof

end
-- ==== Proof.Optimizer.Step.lean ====
/-
  One step of the optimiser at one entry: the two running averages and the change of the weight, in the numbers that both the calls and the reference hold as constants.
-/
module

public import Idealize.ShloMosaic.Lib.KernelVsHost

@[expose] public section

noncomputable section

namespace Cert.Optimizer

open Idealize.ShloMosaic

/-- The running average of the gradient, after a gradient `g`. -/
def mean (g a : EReal) : EReal := Ideal.ofBits .f32 0x3F666666#32 * a + Ideal.ofBits .f32 0x3DCCCCCD#32 * g
/-- The running average of its square. -/
def meanSq (g b : EReal) : EReal := Ideal.ofBits .f32 0x3F7FBE77#32 * b + Ideal.ofBits .f32 0x3A83126F#32 * (g * g)
/-- The weight's change. -/
def change (g w a b : EReal) : EReal :=
  Ideal.ofBits .f32 0xBA83126F#32 *
    (Ideal.div (Ideal.div (mean g a) (Ideal.ofBits .f32 0x3F26BD02#32))
        (Ideal.sqrt (Ideal.div (meanSq g b) (Ideal.ofBits .f32 0x3C231ACC#32)) + Ideal.ofBits .f32 0x322BCC77#32)
      + Ideal.ofBits .f32 0x3C23D70A#32 * w)

end Cert.Optimizer

end
-- ==== Proof.Optimizer.AdaW.lean ====
/-
  The optimiser's step of the modulation's weights: each block of the call holds the gradient, the two running averages and the change of the weight, entry by entry.
-/
module

public import proofs.«01_k».proof.Proof.Gen.AdamwAdaW
public import proofs.«01_k».proof.Proof.Gen.AdamwAdaWIdeal.Value
public import proofs.«01_k».proof.Proof.Gen.AdamwAdaWReferenceIdeal.Run
public import proofs.«01_k».proof.Proof.Optimizer.Step
public import Idealize.ShloMosaic.Lib.Pipeline.ValueKit
public import Idealize.ShloMosaic.Lib.KernelVsHost
public import proofs.«01_k».proof.Defs

@[expose] public section

set_option maxRecDepth 16384

noncomputable section

namespace Cert.AdamwAdaWIdeal.Step

open Cert.AdamwAdaWIdeal Cert.AdamwAdaWIdeal.Gen Cert.Optimizer
open Idealize.ShloMosaic Idealize.ShloMosaic.TcCoe Idealize.ShloMosaic.Tactic Idealize.ShloMosaic.StableHlo

variable (m : (ℓ : Loc nD τ sig) → Buf (Elt Ideal) ℓ) (c : Dev nD)

/-- The two layers' rows, one layer after the other. -/
def flat (x : FVec Ideal S2x2048x768 .f32) : FVec Ideal S1x4096x768 .f32 := shapeCast S1x4096x768 x shapeCasts_S2x2048x768_S1x4096x768

/-- The host's lines leave the gradient so. -/
theorem V_grad : V m c main_v1 = flat (m ((c.tc : Thread nD τ).loc main_arg0)) := by
  have h : V m c main_v1 = shapeCast S1x4096x768 (broadcastInDim S1x2x2048x768 ![1, 2, 3] bcast_S2x2048x768_S1x2x2048x768_1_2_3 (m ((c.tc : Thread nD τ).loc main_arg0) : FVec Ideal S2x2048x768 .f32)) shapeCasts_S1x2x2048x768_S1x4096x768 := by
    simp only [V, hostOps0]
    after_results_simp
    all_goals rfl
  rw [h]
  funext i
  unfold flat
  pointwise
/-- The host's lines leave the weights so. -/
theorem V_weight : V m c main_v2 = flat (m ((c.tc : Thread nD τ).loc main_arg1)) := by
  simp only [V, hostOps0]
  after_results_simp
  all_goals rfl
/-- The host's lines leave the gradient's running average so. -/
theorem V_mean : V m c main_v3 = flat (m ((c.tc : Thread nD τ).loc main_arg2)) := by
  simp only [V, hostOps0]
  after_results_simp
  all_goals rfl
/-- The host's lines leave its square's running average so. -/
theorem V_meanSq : V m c main_v4 = flat (m ((c.tc : Thread nD τ).loc main_arg3)) := by
  simp only [V, hostOps0]
  after_results_simp
  all_goals rfl

/-- Which blocks the grid's points read and write. -/
theorem index_of : ∀ t : Fin grid0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] := by decide +kernel

variable (t : Fin cfg0.N) (y : S1x256x768.Idx)

/-- What a point leaves of the gradient. -/
theorem out_grad : (outsAt0 m c t).1 y = iblk m c 0 t y := by
  unfold outsAt0
  generalize iblk m c 0 t = g, iblk m c 1 t = w, iblk m c 2 t = a, iblk m c 3 t = b
  frame_out
  pointwise [k0_pay1, k0_pay2, k0_pay3, k0_pay4, k0_pay5, k0_pay6, k0_pay7, k0_pay8, k0_pay9]

/-- What a point leaves of the weights' change. -/
theorem out_change : (outsAt0 m c t).2.1 y = change (iblk m c 0 t y) (iblk m c 1 t y) (iblk m c 2 t y) (iblk m c 3 t y) := by
  unfold outsAt0
  generalize iblk m c 0 t = g, iblk m c 1 t = w, iblk m c 2 t = a, iblk m c 3 t = b
  frame_out
  unfold change mean meanSq
  pointwise [k0_pay1, k0_pay2, k0_pay3, k0_pay4, k0_pay5, k0_pay6, k0_pay7, k0_pay8, k0_pay9]

/-- What a point leaves of the gradient's running average. -/
theorem out_mean : (outsAt0 m c t).2.2.1 y = mean (iblk m c 0 t y) (iblk m c 2 t y) := by
  unfold outsAt0
  generalize iblk m c 0 t = g, iblk m c 1 t = w, iblk m c 2 t = a, iblk m c 3 t = b
  frame_out
  unfold mean
  pointwise [k0_pay1, k0_pay2, k0_pay3, k0_pay4, k0_pay5, k0_pay6, k0_pay7, k0_pay8, k0_pay9]

/-- What a point leaves of its square's running average. -/
theorem out_meanSq : (outsAt0 m c t).2.2.2 y = meanSq (iblk m c 0 t y) (iblk m c 3 t y) := by
  unfold outsAt0
  generalize iblk m c 0 t = g, iblk m c 1 t = w, iblk m c 2 t = a, iblk m c 3 t = b
  frame_out
  unfold meanSq
  pointwise [k0_pay1, k0_pay2, k0_pay3, k0_pay4, k0_pay5, k0_pay6, k0_pay7, k0_pay8, k0_pay9]

/-- A point's block of an argument. -/
theorem read_grad (i : S1x4096x768.Idx) (h0 : (i 0).val = (y 0).val) (h1 : (i 1).val = t.val * 256 + (y 1).val) (h2 : (i 2).val = (y 2).val) :
    iblk m c 0 t y = flat (m ((c.tc : Thread nD τ).loc main_arg0)) i := by
  have hi := index_of t
  unfold iblk
  blk_simp [hi]
  show V m c main_v1 _ = _
  rw [V_grad]
  refine congrArg (flat _) ?_
  blk_ext [hi, h0, h1, h2]

/-- A point's block of an argument. -/
theorem read_weight (i : S1x4096x768.Idx) (h0 : (i 0).val = (y 0).val) (h1 : (i 1).val = t.val * 256 + (y 1).val) (h2 : (i 2).val = (y 2).val) :
    iblk m c 1 t y = flat (m ((c.tc : Thread nD τ).loc main_arg1)) i := by
  have hi := index_of t
  unfold iblk
  blk_simp [hi]
  show V m c main_v2 _ = _
  rw [V_weight]
  refine congrArg (flat _) ?_
  blk_ext [hi, h0, h1, h2]

/-- A point's block of an argument. -/
theorem read_mean (i : S1x4096x768.Idx) (h0 : (i 0).val = (y 0).val) (h1 : (i 1).val = t.val * 256 + (y 1).val) (h2 : (i 2).val = (y 2).val) :
    iblk m c 2 t y = flat (m ((c.tc : Thread nD τ).loc main_arg2)) i := by
  have hi := index_of t
  unfold iblk
  blk_simp [hi]
  show V m c main_v3 _ = _
  rw [V_mean]
  refine congrArg (flat _) ?_
  blk_ext [hi, h0, h1, h2]

/-- A point's block of an argument. -/
theorem read_meanSq (i : S1x4096x768.Idx) (h0 : (i 0).val = (y 0).val) (h1 : (i 1).val = t.val * 256 + (y 1).val) (h2 : (i 2).val = (y 2).val) :
    iblk m c 3 t y = flat (m ((c.tc : Thread nD τ).loc main_arg3)) i := by
  have hi := index_of t
  unfold iblk
  blk_simp [hi]
  show V m c main_v4 _ = _
  rw [V_meanSq]
  refine congrArg (flat _) ?_
  blk_ext [hi, h0, h1, h2]

/-- The whole gradient. -/
theorem final_grad : (dats m 0 c).arrAt 4 cfg0.N = flat (m ((c.tc : Thread nD τ).loc main_arg0)) := by
  refine (dats m 0 c).arrAt_eq_of_covers 4 _ (by decide +kernel) fun t hf y => ?_
  have hi := index_of t
  blk_simp
  rw [after0_4]
  refine (out_grad m c t y).trans ?_
  rw [read_grad m c t y _ ?_ ?_ ?_]
  all_goals blk_simp [hi]

/-- The whole weights' change. -/
theorem final_change : (dats m 0 c).arrAt 5 cfg0.N = fun i => change (flat (m ((c.tc : Thread nD τ).loc main_arg0)) i) (flat (m ((c.tc : Thread nD τ).loc main_arg1)) i) (flat (m ((c.tc : Thread nD τ).loc main_arg2)) i) (flat (m ((c.tc : Thread nD τ).loc main_arg3)) i) := by
  refine (dats m 0 c).arrAt_eq_of_covers 5 _ (by decide +kernel) fun t hf y => ?_
  have hi := index_of t
  blk_simp
  rw [after0_5]
  refine (out_change m c t y).trans ?_
  rw [read_grad m c t y _ ?_ ?_ ?_, read_weight m c t y _ ?_ ?_ ?_, read_mean m c t y _ ?_ ?_ ?_, read_meanSq m c t y _ ?_ ?_ ?_]
  all_goals blk_simp [hi]

/-- The whole gradient's running average. -/
theorem final_mean : (dats m 0 c).arrAt 6 cfg0.N = fun i => mean (flat (m ((c.tc : Thread nD τ).loc main_arg0)) i) (flat (m ((c.tc : Thread nD τ).loc main_arg2)) i) := by
  refine (dats m 0 c).arrAt_eq_of_covers 6 _ (by decide +kernel) fun t hf y => ?_
  have hi := index_of t
  blk_simp
  rw [after0_6]
  refine (out_mean m c t y).trans ?_
  rw [read_grad m c t y _ ?_ ?_ ?_, read_mean m c t y _ ?_ ?_ ?_]
  all_goals blk_simp [hi]

/-- The whole square's running average. -/
theorem final_meanSq : (dats m 0 c).arrAt 7 cfg0.N = fun i => meanSq (flat (m ((c.tc : Thread nD τ).loc main_arg0)) i) (flat (m ((c.tc : Thread nD τ).loc main_arg3)) i) := by
  refine (dats m 0 c).arrAt_eq_of_covers 7 _ (by decide +kernel) fun t hf y => ?_
  have hi := index_of t
  blk_simp
  rw [after0_7]
  refine (out_meanSq m c t y).trans ?_
  rw [read_grad m c t y _ ?_ ?_ ?_, read_meanSq m c t y _ ?_ ?_ ?_]
  all_goals blk_simp [hi]

end Cert.AdamwAdaWIdeal.Step

namespace Cert.Proof

open Cert.AdamwAdaWIdeal Cert.AdamwAdaWIdeal.Step Cert.Optimizer
open Idealize.ShloMosaic Idealize.ShloMosaic.TcCoe

set_option maxHeartbeats 1000000 in
/-- The two texts of the body, at every point of the grid, are one. -/
theorem defs₀_AdamwAdaW : Cert.AdamwAdaW.defs₀ (F := Bits) = Cert.AdamwAdaWIdeal.defs₀ (F := Bits) := by
  refine congrArg Defs.onTc (funext fun l => ?_)
  match l with
  | 0 => exact funext fun ⟨_, _⟩ => rfl
  | ⟨_ + 1, h⟩ => exact absurd h (Nat.not_lt.2 (Nat.le_add_left _ _))

set_option maxHeartbeats 1000000 in
/-- The call at the hardware's numbers ends with its arguments unchanged and every counter at zero. -/
theorem frame_AdamwAdaW : Cert.quiescent_AdamwAdaW := fun m ρ _ => by
  rw [show Cert.AdamwAdaW.defs (F := Bits) = Cert.AdamwAdaWIdeal.defs from congrArg (Pipeline.defs Cert.AdamwAdaWIdeal.pcfgs) defs₀_AdamwAdaW,
    show Cert.AdamwAdaW.main (F := Bits) = Cert.AdamwAdaWIdeal.main from rfl]
  exact Cert.AdamwAdaWIdeal.Gen.frame (F := Bits) m ρ

/-- The call at the extended reals ends with its arguments unchanged and every counter at zero. -/
theorem frame_AdamwAdaWIdeal : Cert.quiescent_AdamwAdaWIdeal := fun m ρ _ => Cert.AdamwAdaWIdeal.Gen.frame (F := Ideal) m ρ

/-- The reference ends with its arguments unchanged and every counter at zero. -/
theorem frame_reference_AdamwAdaW : Cert.quiescent_AdamwAdaWReferenceIdeal := fun m ρ _ =>
  (θ_run Cert.AdamwAdaWReferenceIdeal.defs _ _).mono (fun r h => ⟨fun c => (h c).2.2.2.2, sem_eq_zero_of_no_sems rfl r.2⟩) (Cert.AdamwAdaWReferenceIdeal.Value.run (F := Ideal) m ρ)

/-- The call's results and the reference's are the same arrays. -/
theorem algebraic_AdamwAdaW : Cert.algebraic_AdamwAdaWIdeal_AdamwAdaWReferenceIdeal := fun m g m' g' _ args => by
  refine ⟨fun c => flat (m ((c.tc : Thread nD τ).loc main_arg0)), fun c => fun i => change (flat (m ((c.tc : Thread nD τ).loc main_arg0)) i) (flat (m ((c.tc : Thread nD τ).loc main_arg1)) i) (flat (m ((c.tc : Thread nD τ).loc main_arg2)) i) (flat (m ((c.tc : Thread nD τ).loc main_arg3)) i), fun c => fun i => mean (flat (m ((c.tc : Thread nD τ).loc main_arg0)) i) (flat (m ((c.tc : Thread nD τ).loc main_arg2)) i), fun c => fun i => meanSq (flat (m ((c.tc : Thread nD τ).loc main_arg0)) i) (flat (m ((c.tc : Thread nD τ).loc main_arg3)) i), ?_, ?_⟩
  · exact (θ_run _ _ _).mono (fun r h c => ⟨(h c).1.trans (final_grad m c), (h c).2.1.trans (final_change m c), (h c).2.2.1.trans (final_mean m c), (h c).2.2.2.1.trans (final_meanSq m c), (h c).2.2.2.2⟩) (Value.run_blocks m g)
  · refine (θ_run _ _ _).mono (fun r h c => ⟨(h c).1.trans ?_, (h c).2.1.trans ?_, (h c).2.2.1.trans ?_, (h c).2.2.2.1.trans ?_, (h c).2.2.2.2⟩) (Cert.AdamwAdaWReferenceIdeal.Value.run (F := Ideal) m' g')
    · rw [(args c).1]
      rfl
    · rw [(args c).1, (args c).2.1, (args c).2.2.1, (args c).2.2.2]
      funext i
      unfold change mean meanSq flat
      pointwise
    · rw [(args c).1, (args c).2.2.1]
      funext i
      unfold mean flat
      pointwise
    · rw [(args c).1, (args c).2.2.2]
      funext i
      unfold meanSq flat
      pointwise

end Cert.Proof

end
-- ==== Proof.Optimizer.WOut.lean ====
/-
  The optimiser's step of the output projection: each block of the call holds the sum of the devices' shares of one layer's gradient, the two running averages and the change of the weight, entry by entry.
-/
module

public import proofs.«01_k».proof.Proof.Gen.AdamwWOut
public import proofs.«01_k».proof.Proof.Gen.AdamwWOutIdeal.Value
public import proofs.«01_k».proof.Proof.Gen.AdamwWOutReferenceIdeal.Run
public import proofs.«01_k».proof.Proof.Optimizer.Step
public import Idealize.ShloMosaic.Lib.Pipeline.ValueKit
public import Idealize.ShloMosaic.Lib.KernelVsHost
public import proofs.«01_k».proof.Defs

@[expose] public section

set_option maxRecDepth 16384

noncomputable section

namespace Cert.AdamwWOutIdeal.Step

open Cert.AdamwWOutIdeal Cert.AdamwWOutIdeal.Gen Cert.Optimizer
open Idealize.ShloMosaic Idealize.ShloMosaic.TcCoe Idealize.ShloMosaic.Tactic Idealize.ShloMosaic.StableHlo

variable (m : (ℓ : Loc nD τ sig) → Buf (Elt Ideal) ℓ) (c : Dev nD)

/-- One layer's gradient: the devices' shares, summed. -/
def total (x : FVec Ideal S8x256x2048 .f32) (r : Fin 256) (e : Fin 2048) : EReal := ∑ p : Fin 8, x (ix3 p r e)

/-- The two layers' gradients. -/
def grad (a b : FVec Ideal S8x256x2048 .f32) : FVec Ideal S2x256x2048 .f32 := fun i => if _h : (i 0).val < 1 then total a (i 1) (i 2) else total b (i 1) (i 2)

/-- The shares as the call finds them. -/
def shares (x : FVec Ideal S8x256x2048 .f32) : (⟨S8x256x2048, .bf16⟩ : BufTy).Contents (Elt Ideal) := truncf .bf16 x bitsLt_bf16_f32
/-- The host's lines leave the first layer's shares so. -/
theorem V_first : V m c main_v0 = shares (m ((c.tc : Thread nD τ).loc main_arg0)) := by
  simp only [V, hostOps0]
  after_results_simp
  all_goals rfl
/-- The host's lines leave the second layer's shares so. -/
theorem V_second : V m c main_v1 = shares (m ((c.tc : Thread nD τ).loc main_arg1)) := by
  simp only [V, hostOps0]
  after_results_simp
  all_goals rfl
/-- The host's lines leave the weights as they are. -/
theorem V_weight : V m c main_arg2 = m ((c.tc : Thread nD τ).loc main_arg2) := by
  simp only [V, hostOps0]
  after_results_simp
/-- The host's lines leave the gradient's running average as they are. -/
theorem V_mean : V m c main_arg3 = m ((c.tc : Thread nD τ).loc main_arg3) := by
  simp only [V, hostOps0]
  after_results_simp
/-- The host's lines leave its square's running average as they are. -/
theorem V_meanSq : V m c main_arg4 = m ((c.tc : Thread nD τ).loc main_arg4) := by
  simp only [V, hostOps0]
  after_results_simp

/-- Which blocks the grid's points read and write. -/
theorem index_of : ∀ t : Fin grid0.N, (t.val < 4 → win0_0.index t = ![0, t.val % 4, 0]) ∧ (¬t.val < 4 → win0_1.index t = ![0, t.val % 4, 0]) ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] ∧ win0_8.index t = ![t.val / 4, t.val % 4, 0] := by decide +kernel

variable (t : Fin cfg0.N) (y : S1x64x2048.Idx)

/-- A block of shares, summed. -/
def blockTotal (x : Vec Ideal S8x64x2048 .bf16) (y : S1x64x2048.Idx) : EReal := ∑ p : Fin 8, x (ix3 p (y 1) (y 2))

/-- The gradient's block of a point. -/
def part : EReal := if t.val < 4 then blockTotal (iblk m c 0 t) y else blockTotal (iblk m c 1 t) y

/-- What a point leaves of the gradient. -/
theorem out_grad : (outsAt0 m c t.val t.isLt).1 y = part m c t y := by
  have hN : t.val < 8 := lt_of_lt_of_eq t.isLt N_0
  unfold part
  by_cases h : t.val < 4
  · rw [outsAt0_A m c t (by omega) (by omega), if_pos h]
    frame_out
    generalize iblk m c 0 t = g, iblk m c 2 t = w, iblk m c 3 t = a, iblk m c 4 t = b
    unfold blockTotal
    simp only [Fin.sum_univ_eight]
    pointwise [k0_pay1, k0_pay2, k0_pay3, k0_pay4, k0_pay5, k0_pay6, k0_pay7, k0_pay8, k0_pay9, k0_pay10, k0_pay11]
  · rw [outsAt0_B m c t (by omega) (by omega), if_neg h]
    frame_out
    generalize iblk m c 1 t = g, iblk m c 2 t = w, iblk m c 3 t = a, iblk m c 4 t = b
    unfold blockTotal
    simp only [Fin.sum_univ_eight]
    pointwise [k0_pay1, k0_pay2, k0_pay3, k0_pay4, k0_pay5, k0_pay6, k0_pay7, k0_pay8, k0_pay9, k0_pay10, k0_pay11]

/-- What a point leaves of the weights' change. -/
theorem out_change : (outsAt0 m c t.val t.isLt).2.1 y = change (part m c t y) (iblk m c 2 t y) (iblk m c 3 t y) (iblk m c 4 t y) := by
  have hN : t.val < 8 := lt_of_lt_of_eq t.isLt N_0
  unfold part
  by_cases h : t.val < 4
  · rw [outsAt0_A m c t (by omega) (by omega), if_pos h]
    frame_out
    generalize iblk m c 0 t = g, iblk m c 2 t = w, iblk m c 3 t = a, iblk m c 4 t = b
    unfold blockTotal change mean meanSq
    simp only [Fin.sum_univ_eight]
    pointwise [k0_pay1, k0_pay2, k0_pay3, k0_pay4, k0_pay5, k0_pay6, k0_pay7, k0_pay8, k0_pay9, k0_pay10, k0_pay11]
  · rw [outsAt0_B m c t (by omega) (by omega), if_neg h]
    frame_out
    generalize iblk m c 1 t = g, iblk m c 2 t = w, iblk m c 3 t = a, iblk m c 4 t = b
    unfold blockTotal change mean meanSq
    simp only [Fin.sum_univ_eight]
    pointwise [k0_pay1, k0_pay2, k0_pay3, k0_pay4, k0_pay5, k0_pay6, k0_pay7, k0_pay8, k0_pay9, k0_pay10, k0_pay11]

/-- What a point leaves of the gradient's running average. -/
theorem out_mean : (outsAt0 m c t.val t.isLt).2.2.1 y = mean (part m c t y) (iblk m c 3 t y) := by
  have hN : t.val < 8 := lt_of_lt_of_eq t.isLt N_0
  unfold part
  by_cases h : t.val < 4
  · rw [outsAt0_A m c t (by omega) (by omega), if_pos h]
    frame_out
    generalize iblk m c 0 t = g, iblk m c 2 t = w, iblk m c 3 t = a, iblk m c 4 t = b
    unfold blockTotal mean
    simp only [Fin.sum_univ_eight]
    pointwise [k0_pay1, k0_pay2, k0_pay3, k0_pay4, k0_pay5, k0_pay6, k0_pay7, k0_pay8, k0_pay9, k0_pay10, k0_pay11]
  · rw [outsAt0_B m c t (by omega) (by omega), if_neg h]
    frame_out
    generalize iblk m c 1 t = g, iblk m c 2 t = w, iblk m c 3 t = a, iblk m c 4 t = b
    unfold blockTotal mean
    simp only [Fin.sum_univ_eight]
    pointwise [k0_pay1, k0_pay2, k0_pay3, k0_pay4, k0_pay5, k0_pay6, k0_pay7, k0_pay8, k0_pay9, k0_pay10, k0_pay11]

/-- What a point leaves of its square's running average. -/
theorem out_meanSq : (outsAt0 m c t.val t.isLt).2.2.2 y = meanSq (part m c t y) (iblk m c 4 t y) := by
  have hN : t.val < 8 := lt_of_lt_of_eq t.isLt N_0
  unfold part
  by_cases h : t.val < 4
  · rw [outsAt0_A m c t (by omega) (by omega), if_pos h]
    frame_out
    generalize iblk m c 0 t = g, iblk m c 2 t = w, iblk m c 3 t = a, iblk m c 4 t = b
    unfold blockTotal meanSq
    simp only [Fin.sum_univ_eight]
    pointwise [k0_pay1, k0_pay2, k0_pay3, k0_pay4, k0_pay5, k0_pay6, k0_pay7, k0_pay8, k0_pay9, k0_pay10, k0_pay11]
  · rw [outsAt0_B m c t (by omega) (by omega), if_neg h]
    frame_out
    generalize iblk m c 1 t = g, iblk m c 2 t = w, iblk m c 3 t = a, iblk m c 4 t = b
    unfold blockTotal meanSq
    simp only [Fin.sum_univ_eight]
    pointwise [k0_pay1, k0_pay2, k0_pay3, k0_pay4, k0_pay5, k0_pay6, k0_pay7, k0_pay8, k0_pay9, k0_pay10, k0_pay11]

/-- A point's block of the gradient. -/
theorem read_grad (i : S2x256x2048.Idx) (h0 : (i 0).val = t.val / 4 + (y 0).val) (h1 : (i 1).val = t.val % 4 * 64 + (y 1).val) (h2 : (i 2).val = (y 2).val) :
    part m c t y = grad (m ((c.tc : Thread nD τ).loc main_arg0)) (m ((c.tc : Thread nD τ).loc main_arg1)) i := by
  have hi := index_of t
  have hy : (y 0).val < 1 := (y 0).isLt
  have hN : t.val < 8 := lt_of_lt_of_eq t.isLt N_0
  unfold part grad
  by_cases h : t.val < 4
  · have hi := hi.1 h
    rw [if_pos h, dif_pos (by omega)]
    refine Finset.sum_congr rfl fun p _ => ?_
    unfold iblk
    blk_simp [hi]
    show V m c main_v0 _ = _
    rw [V_first]
    refine congrArg (m ((c.tc : Thread nD τ).loc main_arg0)) ?_
    blk_ext [hi, h1, h2]
  · have hi := hi.2.1 h
    rw [if_neg h, dif_neg (by omega)]
    refine Finset.sum_congr rfl fun p _ => ?_
    unfold iblk
    blk_simp [hi]
    show V m c main_v1 _ = _
    rw [V_second]
    refine congrArg (m ((c.tc : Thread nD τ).loc main_arg1)) ?_
    blk_ext [hi, h1, h2]

/-- A point's block of an argument. -/
theorem read_weight (i : S2x256x2048.Idx) (h0 : (i 0).val = t.val / 4 + (y 0).val) (h1 : (i 1).val = t.val % 4 * 64 + (y 1).val) (h2 : (i 2).val = (y 2).val) :
    iblk m c 2 t y = m ((c.tc : Thread nD τ).loc main_arg2) i := by
  have hi := index_of t
  unfold iblk
  blk_simp [hi]
  show V m c main_arg2 _ = _
  rw [V_weight]
  refine congrArg (m ((c.tc : Thread nD τ).loc main_arg2)) ?_
  blk_ext [hi, h0, h1, h2]

/-- A point's block of an argument. -/
theorem read_mean (i : S2x256x2048.Idx) (h0 : (i 0).val = t.val / 4 + (y 0).val) (h1 : (i 1).val = t.val % 4 * 64 + (y 1).val) (h2 : (i 2).val = (y 2).val) :
    iblk m c 3 t y = m ((c.tc : Thread nD τ).loc main_arg3) i := by
  have hi := index_of t
  unfold iblk
  blk_simp [hi]
  show V m c main_arg3 _ = _
  rw [V_mean]
  refine congrArg (m ((c.tc : Thread nD τ).loc main_arg3)) ?_
  blk_ext [hi, h0, h1, h2]

/-- A point's block of an argument. -/
theorem read_meanSq (i : S2x256x2048.Idx) (h0 : (i 0).val = t.val / 4 + (y 0).val) (h1 : (i 1).val = t.val % 4 * 64 + (y 1).val) (h2 : (i 2).val = (y 2).val) :
    iblk m c 4 t y = m ((c.tc : Thread nD τ).loc main_arg4) i := by
  have hi := index_of t
  unfold iblk
  blk_simp [hi]
  show V m c main_arg4 _ = _
  rw [V_meanSq]
  refine congrArg (m ((c.tc : Thread nD τ).loc main_arg4)) ?_
  blk_ext [hi, h0, h1, h2]

/-- The whole gradient. -/
theorem final_grad : (dats m 0 c).arrAt 5 cfg0.N = grad (m ((c.tc : Thread nD τ).loc main_arg0)) (m ((c.tc : Thread nD τ).loc main_arg1)) := by
  refine (dats m 0 c).arrAt_eq_of_covers 5 _ (by decide +kernel) fun t hf y => ?_
  have hi := index_of t
  blk_simp
  rw [after0_5]
  refine (out_grad m c t y).trans ?_
  rw [read_grad m c t y _ ?_ ?_ ?_]
  all_goals blk_simp [hi]

/-- The whole weights' change. -/
theorem final_change : (dats m 0 c).arrAt 6 cfg0.N = fun i : S2x256x2048.Idx => change (grad (m ((c.tc : Thread nD τ).loc main_arg0)) (m ((c.tc : Thread nD τ).loc main_arg1)) i) (m ((c.tc : Thread nD τ).loc main_arg2) i) (m ((c.tc : Thread nD τ).loc main_arg3) i) (m ((c.tc : Thread nD τ).loc main_arg4) i) := by
  refine (dats m 0 c).arrAt_eq_of_covers 6 _ (by decide +kernel) fun t hf y => ?_
  have hi := index_of t
  blk_simp
  rw [after0_6]
  refine (out_change m c t y).trans ?_
  rw [read_grad m c t y _ ?_ ?_ ?_, read_weight m c t y _ ?_ ?_ ?_, read_mean m c t y _ ?_ ?_ ?_, read_meanSq m c t y _ ?_ ?_ ?_]
  all_goals blk_simp [hi]

/-- The whole gradient's running average. -/
theorem final_mean : (dats m 0 c).arrAt 7 cfg0.N = fun i : S2x256x2048.Idx => mean (grad (m ((c.tc : Thread nD τ).loc main_arg0)) (m ((c.tc : Thread nD τ).loc main_arg1)) i) (m ((c.tc : Thread nD τ).loc main_arg3) i) := by
  refine (dats m 0 c).arrAt_eq_of_covers 7 _ (by decide +kernel) fun t hf y => ?_
  have hi := index_of t
  blk_simp
  rw [after0_7]
  refine (out_mean m c t y).trans ?_
  rw [read_grad m c t y _ ?_ ?_ ?_, read_mean m c t y _ ?_ ?_ ?_]
  all_goals blk_simp [hi]

/-- The whole square's running average. -/
theorem final_meanSq : (dats m 0 c).arrAt 8 cfg0.N = fun i : S2x256x2048.Idx => meanSq (grad (m ((c.tc : Thread nD τ).loc main_arg0)) (m ((c.tc : Thread nD τ).loc main_arg1)) i) (m ((c.tc : Thread nD τ).loc main_arg4) i) := by
  refine (dats m 0 c).arrAt_eq_of_covers 8 _ (by decide +kernel) fun t hf y => ?_
  have hi := index_of t
  blk_simp
  rw [after0_8]
  refine (out_meanSq m c t y).trans ?_
  rw [read_grad m c t y _ ?_ ?_ ?_, read_meanSq m c t y _ ?_ ?_ ?_]
  all_goals blk_simp [hi]

end Cert.AdamwWOutIdeal.Step

namespace Cert.Proof

open Cert.AdamwWOutIdeal Cert.AdamwWOutIdeal.Step Cert.Optimizer
open Idealize.ShloMosaic Idealize.ShloMosaic.TcCoe

set_option maxHeartbeats 1000000 in
/-- The two texts of the body, at every point of the grid, are one. -/
theorem defs₀_AdamwWOut : Cert.AdamwWOut.defs₀ (F := Bits) = Cert.AdamwWOutIdeal.defs₀ (F := Bits) := by
  refine congrArg Defs.onTc (funext fun l => ?_)
  match l with
  | 0 => exact funext fun ⟨_, _⟩ => rfl
  | ⟨_ + 1, h⟩ => exact absurd h (Nat.not_lt.2 (Nat.le_add_left _ _))

set_option maxHeartbeats 1000000 in
/-- The call at the hardware's numbers ends with its arguments unchanged and every counter at zero. -/
theorem frame_AdamwWOut : Cert.quiescent_AdamwWOut := fun m ρ _ => by
  rw [show Cert.AdamwWOut.defs (F := Bits) = Cert.AdamwWOutIdeal.defs from congrArg (Pipeline.defs Cert.AdamwWOutIdeal.pcfgs) defs₀_AdamwWOut,
    show Cert.AdamwWOut.main (F := Bits) = Cert.AdamwWOutIdeal.main from rfl]
  exact Cert.AdamwWOutIdeal.Gen.frame (F := Bits) m ρ

/-- The call at the extended reals ends with its arguments unchanged and every counter at zero. -/
theorem frame_AdamwWOutIdeal : Cert.quiescent_AdamwWOutIdeal := fun m ρ _ => Cert.AdamwWOutIdeal.Gen.frame (F := Ideal) m ρ

/-- The reference ends with its arguments unchanged and every counter at zero. -/
theorem frame_reference_AdamwWOut : Cert.quiescent_AdamwWOutReferenceIdeal := fun m ρ _ =>
  (θ_run Cert.AdamwWOutReferenceIdeal.defs _ _).mono (fun r h => ⟨fun c => (h c).2.2.2.2, sem_eq_zero_of_no_sems rfl r.2⟩) (Cert.AdamwWOutReferenceIdeal.Value.run (F := Ideal) m ρ)

/-- The call's results and the reference's are the same arrays. -/
theorem algebraic_AdamwWOut : Cert.algebraic_AdamwWOutIdeal_AdamwWOutReferenceIdeal := fun m g m' g' _ args => by
  refine ⟨fun c => grad (m ((c.tc : Thread nD τ).loc main_arg0)) (m ((c.tc : Thread nD τ).loc main_arg1)), fun c => fun i : S2x256x2048.Idx => change (grad (m ((c.tc : Thread nD τ).loc main_arg0)) (m ((c.tc : Thread nD τ).loc main_arg1)) i) (m ((c.tc : Thread nD τ).loc main_arg2) i) (m ((c.tc : Thread nD τ).loc main_arg3) i) (m ((c.tc : Thread nD τ).loc main_arg4) i), fun c => fun i : S2x256x2048.Idx => mean (grad (m ((c.tc : Thread nD τ).loc main_arg0)) (m ((c.tc : Thread nD τ).loc main_arg1)) i) (m ((c.tc : Thread nD τ).loc main_arg3) i), fun c => fun i : S2x256x2048.Idx => meanSq (grad (m ((c.tc : Thread nD τ).loc main_arg0)) (m ((c.tc : Thread nD τ).loc main_arg1)) i) (m ((c.tc : Thread nD τ).loc main_arg4) i), ?_, ?_⟩
  · exact (θ_run _ _ _).mono (fun r h c => ⟨(h c).1.trans (final_grad m c), (h c).2.1.trans (final_change m c), (h c).2.2.1.trans (final_mean m c), (h c).2.2.2.1.trans (final_meanSq m c), (h c).2.2.2.2⟩) (Value.run_blocks m g)
  · refine (θ_run _ _ _).mono (fun r h c => ⟨(h c).1.trans ?_, (h c).2.1.trans ?_, (h c).2.2.1.trans ?_, (h c).2.2.2.1.trans ?_, (h c).2.2.2.2⟩) (Cert.AdamwWOutReferenceIdeal.Value.run (F := Ideal) m' g')
    · rw [(args c).1, (args c).2.1]
      funext i
      unfold grad total
      pointwise
    · rw [(args c).1, (args c).2.1, (args c).2.2.1, (args c).2.2.2.1, (args c).2.2.2.2]
      funext i
      unfold change mean meanSq grad total
      pointwise
    · rw [(args c).1, (args c).2.1, (args c).2.2.2.1]
      funext i
      unfold mean grad total
      pointwise
    · rw [(args c).1, (args c).2.1, (args c).2.2.2.2]
      funext i
      unfold meanSq grad total
      pointwise

end Cert.Proof

end
-- ==== Proof.Optimizer.WQUp.lean ====
/-
  The optimiser's step of the queries' latent projection: each block of the call holds the sum of the devices' shares of one layer's gradient, the two running averages and the change of the weight, entry by entry.
-/
module

public import proofs.«01_k».proof.Proof.Gen.AdamwWQUp
public import proofs.«01_k».proof.Proof.Gen.AdamwWQUpIdeal.Value
public import proofs.«01_k».proof.Proof.Gen.AdamwWQUpReferenceIdeal.Run
public import proofs.«01_k».proof.Proof.Optimizer.Step
public import Idealize.ShloMosaic.Lib.Pipeline.ValueKit
public import Idealize.ShloMosaic.Lib.KernelVsHost
public import proofs.«01_k».proof.Defs

@[expose] public section

set_option maxRecDepth 16384

noncomputable section

namespace Cert.AdamwWQUpIdeal.Step

open Cert.AdamwWQUpIdeal Cert.AdamwWQUpIdeal.Gen Cert.Optimizer
open Idealize.ShloMosaic Idealize.ShloMosaic.TcCoe Idealize.ShloMosaic.Tactic Idealize.ShloMosaic.StableHlo

variable (m : (ℓ : Loc nD τ sig) → Buf (Elt Ideal) ℓ) (c : Dev nD)

/-- One layer's gradient: the devices' shares, summed. -/
def total (x : FVec Ideal S8x512x192 .f32) (r : Fin 512) (e : Fin 192) : EReal := ∑ p : Fin 8, x (ix3 p r e)

/-- The two layers' gradients. -/
def grad (a b : FVec Ideal S8x512x192 .f32) : FVec Ideal S2x512x192 .f32 := fun i => if _h : (i 0).val < 1 then total a (i 1) (i 2) else total b (i 1) (i 2)

/-- The shares as the call finds them. -/
def shares (x : FVec Ideal S8x512x192 .f32) : (⟨S8x512x192, .bf16⟩ : BufTy).Contents (Elt Ideal) := truncf .bf16 x bitsLt_bf16_f32
/-- The host's lines leave the first layer's shares so. -/
theorem V_first : V m c main_v0 = shares (m ((c.tc : Thread nD τ).loc main_arg0)) := by
  simp only [V, hostOps0]
  after_results_simp
  all_goals rfl
/-- The host's lines leave the second layer's shares so. -/
theorem V_second : V m c main_v1 = shares (m ((c.tc : Thread nD τ).loc main_arg1)) := by
  simp only [V, hostOps0]
  after_results_simp
  all_goals rfl
/-- The host's lines leave the weights as they are. -/
theorem V_weight : V m c main_arg2 = m ((c.tc : Thread nD τ).loc main_arg2) := by
  simp only [V, hostOps0]
  after_results_simp
/-- The host's lines leave the gradient's running average as they are. -/
theorem V_mean : V m c main_arg3 = m ((c.tc : Thread nD τ).loc main_arg3) := by
  simp only [V, hostOps0]
  after_results_simp
/-- The host's lines leave its square's running average as they are. -/
theorem V_meanSq : V m c main_arg4 = m ((c.tc : Thread nD τ).loc main_arg4) := by
  simp only [V, hostOps0]
  after_results_simp

/-- Which blocks the grid's points read and write. -/
theorem index_of : ∀ t : Fin grid0.N, (t.val < 2 → win0_0.index t = ![0, t.val % 2, 0]) ∧ (¬t.val < 2 → win0_1.index t = ![0, t.val % 2, 0]) ∧ win0_2.index t = ![t.val / 2, t.val % 2, 0] ∧ win0_3.index t = ![t.val / 2, t.val % 2, 0] ∧ win0_4.index t = ![t.val / 2, t.val % 2, 0] ∧ win0_5.index t = ![t.val / 2, t.val % 2, 0] ∧ win0_6.index t = ![t.val / 2, t.val % 2, 0] ∧ win0_7.index t = ![t.val / 2, t.val % 2, 0] ∧ win0_8.index t = ![t.val / 2, t.val % 2, 0] := by decide +kernel

variable (t : Fin cfg0.N) (y : S1x256x192.Idx)

/-- A block of shares, summed. -/
def blockTotal (x : Vec Ideal S8x256x192 .bf16) (y : S1x256x192.Idx) : EReal := ∑ p : Fin 8, x (ix3 p (y 1) (y 2))

/-- The gradient's block of a point. -/
def part : EReal := if t.val < 2 then blockTotal (iblk m c 0 t) y else blockTotal (iblk m c 1 t) y

/-- What a point leaves of the gradient. -/
theorem out_grad : (outsAt0 m c t.val t.isLt).1 y = part m c t y := by
  have hN : t.val < 4 := lt_of_lt_of_eq t.isLt N_0
  unfold part
  by_cases h : t.val < 2
  · rw [outsAt0_A m c t (by omega) (by omega), if_pos h]
    frame_out
    generalize iblk m c 0 t = g, iblk m c 2 t = w, iblk m c 3 t = a, iblk m c 4 t = b
    unfold blockTotal
    simp only [Fin.sum_univ_eight]
    pointwise [k0_pay1, k0_pay2, k0_pay3, k0_pay4, k0_pay5, k0_pay6, k0_pay7, k0_pay8, k0_pay9, k0_pay10, k0_pay11]
  · rw [outsAt0_B m c t (by omega) (by omega), if_neg h]
    frame_out
    generalize iblk m c 1 t = g, iblk m c 2 t = w, iblk m c 3 t = a, iblk m c 4 t = b
    unfold blockTotal
    simp only [Fin.sum_univ_eight]
    pointwise [k0_pay1, k0_pay2, k0_pay3, k0_pay4, k0_pay5, k0_pay6, k0_pay7, k0_pay8, k0_pay9, k0_pay10, k0_pay11]

/-- What a point leaves of the weights' change. -/
theorem out_change : (outsAt0 m c t.val t.isLt).2.1 y = change (part m c t y) (iblk m c 2 t y) (iblk m c 3 t y) (iblk m c 4 t y) := by
  have hN : t.val < 4 := lt_of_lt_of_eq t.isLt N_0
  unfold part
  by_cases h : t.val < 2
  · rw [outsAt0_A m c t (by omega) (by omega), if_pos h]
    frame_out
    generalize iblk m c 0 t = g, iblk m c 2 t = w, iblk m c 3 t = a, iblk m c 4 t = b
    unfold blockTotal change mean meanSq
    simp only [Fin.sum_univ_eight]
    pointwise [k0_pay1, k0_pay2, k0_pay3, k0_pay4, k0_pay5, k0_pay6, k0_pay7, k0_pay8, k0_pay9, k0_pay10, k0_pay11]
  · rw [outsAt0_B m c t (by omega) (by omega), if_neg h]
    frame_out
    generalize iblk m c 1 t = g, iblk m c 2 t = w, iblk m c 3 t = a, iblk m c 4 t = b
    unfold blockTotal change mean meanSq
    simp only [Fin.sum_univ_eight]
    pointwise [k0_pay1, k0_pay2, k0_pay3, k0_pay4, k0_pay5, k0_pay6, k0_pay7, k0_pay8, k0_pay9, k0_pay10, k0_pay11]

/-- What a point leaves of the gradient's running average. -/
theorem out_mean : (outsAt0 m c t.val t.isLt).2.2.1 y = mean (part m c t y) (iblk m c 3 t y) := by
  have hN : t.val < 4 := lt_of_lt_of_eq t.isLt N_0
  unfold part
  by_cases h : t.val < 2
  · rw [outsAt0_A m c t (by omega) (by omega), if_pos h]
    frame_out
    generalize iblk m c 0 t = g, iblk m c 2 t = w, iblk m c 3 t = a, iblk m c 4 t = b
    unfold blockTotal mean
    simp only [Fin.sum_univ_eight]
    pointwise [k0_pay1, k0_pay2, k0_pay3, k0_pay4, k0_pay5, k0_pay6, k0_pay7, k0_pay8, k0_pay9, k0_pay10, k0_pay11]
  · rw [outsAt0_B m c t (by omega) (by omega), if_neg h]
    frame_out
    generalize iblk m c 1 t = g, iblk m c 2 t = w, iblk m c 3 t = a, iblk m c 4 t = b
    unfold blockTotal mean
    simp only [Fin.sum_univ_eight]
    pointwise [k0_pay1, k0_pay2, k0_pay3, k0_pay4, k0_pay5, k0_pay6, k0_pay7, k0_pay8, k0_pay9, k0_pay10, k0_pay11]

/-- What a point leaves of its square's running average. -/
theorem out_meanSq : (outsAt0 m c t.val t.isLt).2.2.2 y = meanSq (part m c t y) (iblk m c 4 t y) := by
  have hN : t.val < 4 := lt_of_lt_of_eq t.isLt N_0
  unfold part
  by_cases h : t.val < 2
  · rw [outsAt0_A m c t (by omega) (by omega), if_pos h]
    frame_out
    generalize iblk m c 0 t = g, iblk m c 2 t = w, iblk m c 3 t = a, iblk m c 4 t = b
    unfold blockTotal meanSq
    simp only [Fin.sum_univ_eight]
    pointwise [k0_pay1, k0_pay2, k0_pay3, k0_pay4, k0_pay5, k0_pay6, k0_pay7, k0_pay8, k0_pay9, k0_pay10, k0_pay11]
  · rw [outsAt0_B m c t (by omega) (by omega), if_neg h]
    frame_out
    generalize iblk m c 1 t = g, iblk m c 2 t = w, iblk m c 3 t = a, iblk m c 4 t = b
    unfold blockTotal meanSq
    simp only [Fin.sum_univ_eight]
    pointwise [k0_pay1, k0_pay2, k0_pay3, k0_pay4, k0_pay5, k0_pay6, k0_pay7, k0_pay8, k0_pay9, k0_pay10, k0_pay11]

/-- A point's block of the gradient. -/
theorem read_grad (i : S2x512x192.Idx) (h0 : (i 0).val = t.val / 2 + (y 0).val) (h1 : (i 1).val = t.val % 2 * 256 + (y 1).val) (h2 : (i 2).val = (y 2).val) :
    part m c t y = grad (m ((c.tc : Thread nD τ).loc main_arg0)) (m ((c.tc : Thread nD τ).loc main_arg1)) i := by
  have hi := index_of t
  have hy : (y 0).val < 1 := (y 0).isLt
  have hN : t.val < 4 := lt_of_lt_of_eq t.isLt N_0
  unfold part grad
  by_cases h : t.val < 2
  · have hi := hi.1 h
    rw [if_pos h, dif_pos (by omega)]
    refine Finset.sum_congr rfl fun p _ => ?_
    unfold iblk
    blk_simp [hi]
    show V m c main_v0 _ = _
    rw [V_first]
    refine congrArg (m ((c.tc : Thread nD τ).loc main_arg0)) ?_
    blk_ext [hi, h1, h2]
  · have hi := hi.2.1 h
    rw [if_neg h, dif_neg (by omega)]
    refine Finset.sum_congr rfl fun p _ => ?_
    unfold iblk
    blk_simp [hi]
    show V m c main_v1 _ = _
    rw [V_second]
    refine congrArg (m ((c.tc : Thread nD τ).loc main_arg1)) ?_
    blk_ext [hi, h1, h2]

/-- A point's block of an argument. -/
theorem read_weight (i : S2x512x192.Idx) (h0 : (i 0).val = t.val / 2 + (y 0).val) (h1 : (i 1).val = t.val % 2 * 256 + (y 1).val) (h2 : (i 2).val = (y 2).val) :
    iblk m c 2 t y = m ((c.tc : Thread nD τ).loc main_arg2) i := by
  have hi := index_of t
  unfold iblk
  blk_simp [hi]
  show V m c main_arg2 _ = _
  rw [V_weight]
  refine congrArg (m ((c.tc : Thread nD τ).loc main_arg2)) ?_
  blk_ext [hi, h0, h1, h2]

/-- A point's block of an argument. -/
theorem read_mean (i : S2x512x192.Idx) (h0 : (i 0).val = t.val / 2 + (y 0).val) (h1 : (i 1).val = t.val % 2 * 256 + (y 1).val) (h2 : (i 2).val = (y 2).val) :
    iblk m c 3 t y = m ((c.tc : Thread nD τ).loc main_arg3) i := by
  have hi := index_of t
  unfold iblk
  blk_simp [hi]
  show V m c main_arg3 _ = _
  rw [V_mean]
  refine congrArg (m ((c.tc : Thread nD τ).loc main_arg3)) ?_
  blk_ext [hi, h0, h1, h2]

/-- A point's block of an argument. -/
theorem read_meanSq (i : S2x512x192.Idx) (h0 : (i 0).val = t.val / 2 + (y 0).val) (h1 : (i 1).val = t.val % 2 * 256 + (y 1).val) (h2 : (i 2).val = (y 2).val) :
    iblk m c 4 t y = m ((c.tc : Thread nD τ).loc main_arg4) i := by
  have hi := index_of t
  unfold iblk
  blk_simp [hi]
  show V m c main_arg4 _ = _
  rw [V_meanSq]
  refine congrArg (m ((c.tc : Thread nD τ).loc main_arg4)) ?_
  blk_ext [hi, h0, h1, h2]

/-- The whole gradient. -/
theorem final_grad : (dats m 0 c).arrAt 5 cfg0.N = grad (m ((c.tc : Thread nD τ).loc main_arg0)) (m ((c.tc : Thread nD τ).loc main_arg1)) := by
  refine (dats m 0 c).arrAt_eq_of_covers 5 _ (by decide +kernel) fun t hf y => ?_
  have hi := index_of t
  blk_simp
  rw [after0_5]
  refine (out_grad m c t y).trans ?_
  rw [read_grad m c t y _ ?_ ?_ ?_]
  all_goals blk_simp [hi]

/-- The whole weights' change. -/
theorem final_change : (dats m 0 c).arrAt 6 cfg0.N = fun i : S2x512x192.Idx => change (grad (m ((c.tc : Thread nD τ).loc main_arg0)) (m ((c.tc : Thread nD τ).loc main_arg1)) i) (m ((c.tc : Thread nD τ).loc main_arg2) i) (m ((c.tc : Thread nD τ).loc main_arg3) i) (m ((c.tc : Thread nD τ).loc main_arg4) i) := by
  refine (dats m 0 c).arrAt_eq_of_covers 6 _ (by decide +kernel) fun t hf y => ?_
  have hi := index_of t
  blk_simp
  rw [after0_6]
  refine (out_change m c t y).trans ?_
  rw [read_grad m c t y _ ?_ ?_ ?_, read_weight m c t y _ ?_ ?_ ?_, read_mean m c t y _ ?_ ?_ ?_, read_meanSq m c t y _ ?_ ?_ ?_]
  all_goals blk_simp [hi]

/-- The whole gradient's running average. -/
theorem final_mean : (dats m 0 c).arrAt 7 cfg0.N = fun i : S2x512x192.Idx => mean (grad (m ((c.tc : Thread nD τ).loc main_arg0)) (m ((c.tc : Thread nD τ).loc main_arg1)) i) (m ((c.tc : Thread nD τ).loc main_arg3) i) := by
  refine (dats m 0 c).arrAt_eq_of_covers 7 _ (by decide +kernel) fun t hf y => ?_
  have hi := index_of t
  blk_simp
  rw [after0_7]
  refine (out_mean m c t y).trans ?_
  rw [read_grad m c t y _ ?_ ?_ ?_, read_mean m c t y _ ?_ ?_ ?_]
  all_goals blk_simp [hi]

/-- The whole square's running average. -/
theorem final_meanSq : (dats m 0 c).arrAt 8 cfg0.N = fun i : S2x512x192.Idx => meanSq (grad (m ((c.tc : Thread nD τ).loc main_arg0)) (m ((c.tc : Thread nD τ).loc main_arg1)) i) (m ((c.tc : Thread nD τ).loc main_arg4) i) := by
  refine (dats m 0 c).arrAt_eq_of_covers 8 _ (by decide +kernel) fun t hf y => ?_
  have hi := index_of t
  blk_simp
  rw [after0_8]
  refine (out_meanSq m c t y).trans ?_
  rw [read_grad m c t y _ ?_ ?_ ?_, read_meanSq m c t y _ ?_ ?_ ?_]
  all_goals blk_simp [hi]

end Cert.AdamwWQUpIdeal.Step

namespace Cert.Proof

open Cert.AdamwWQUpIdeal Cert.AdamwWQUpIdeal.Step Cert.Optimizer
open Idealize.ShloMosaic Idealize.ShloMosaic.TcCoe

set_option maxHeartbeats 1000000 in
/-- The two texts of the body, at every point of the grid, are one. -/
theorem defs₀_AdamwWQUp : Cert.AdamwWQUp.defs₀ (F := Bits) = Cert.AdamwWQUpIdeal.defs₀ (F := Bits) := by
  refine congrArg Defs.onTc (funext fun l => ?_)
  match l with
  | 0 => exact funext fun ⟨_, _⟩ => rfl
  | ⟨_ + 1, h⟩ => exact absurd h (Nat.not_lt.2 (Nat.le_add_left _ _))

set_option maxHeartbeats 1000000 in
/-- The call at the hardware's numbers ends with its arguments unchanged and every counter at zero. -/
theorem frame_AdamwWQUp : Cert.quiescent_AdamwWQUp := fun m ρ _ => by
  rw [show Cert.AdamwWQUp.defs (F := Bits) = Cert.AdamwWQUpIdeal.defs from congrArg (Pipeline.defs Cert.AdamwWQUpIdeal.pcfgs) defs₀_AdamwWQUp,
    show Cert.AdamwWQUp.main (F := Bits) = Cert.AdamwWQUpIdeal.main from rfl]
  exact Cert.AdamwWQUpIdeal.Gen.frame (F := Bits) m ρ

/-- The call at the extended reals ends with its arguments unchanged and every counter at zero. -/
theorem frame_AdamwWQUpIdeal : Cert.quiescent_AdamwWQUpIdeal := fun m ρ _ => Cert.AdamwWQUpIdeal.Gen.frame (F := Ideal) m ρ

/-- The reference ends with its arguments unchanged and every counter at zero. -/
theorem frame_reference_AdamwWQUp : Cert.quiescent_AdamwWQUpReferenceIdeal := fun m ρ _ =>
  (θ_run Cert.AdamwWQUpReferenceIdeal.defs _ _).mono (fun r h => ⟨fun c => (h c).2.2.2.2, sem_eq_zero_of_no_sems rfl r.2⟩) (Cert.AdamwWQUpReferenceIdeal.Value.run (F := Ideal) m ρ)

/-- The call's results and the reference's are the same arrays. -/
theorem algebraic_AdamwWQUp : Cert.algebraic_AdamwWQUpIdeal_AdamwWQUpReferenceIdeal := fun m g m' g' _ args => by
  refine ⟨fun c => grad (m ((c.tc : Thread nD τ).loc main_arg0)) (m ((c.tc : Thread nD τ).loc main_arg1)), fun c => fun i : S2x512x192.Idx => change (grad (m ((c.tc : Thread nD τ).loc main_arg0)) (m ((c.tc : Thread nD τ).loc main_arg1)) i) (m ((c.tc : Thread nD τ).loc main_arg2) i) (m ((c.tc : Thread nD τ).loc main_arg3) i) (m ((c.tc : Thread nD τ).loc main_arg4) i), fun c => fun i : S2x512x192.Idx => mean (grad (m ((c.tc : Thread nD τ).loc main_arg0)) (m ((c.tc : Thread nD τ).loc main_arg1)) i) (m ((c.tc : Thread nD τ).loc main_arg3) i), fun c => fun i : S2x512x192.Idx => meanSq (grad (m ((c.tc : Thread nD τ).loc main_arg0)) (m ((c.tc : Thread nD τ).loc main_arg1)) i) (m ((c.tc : Thread nD τ).loc main_arg4) i), ?_, ?_⟩
  · exact (θ_run _ _ _).mono (fun r h c => ⟨(h c).1.trans (final_grad m c), (h c).2.1.trans (final_change m c), (h c).2.2.1.trans (final_mean m c), (h c).2.2.2.1.trans (final_meanSq m c), (h c).2.2.2.2⟩) (Value.run_blocks m g)
  · refine (θ_run _ _ _).mono (fun r h c => ⟨(h c).1.trans ?_, (h c).2.1.trans ?_, (h c).2.2.1.trans ?_, (h c).2.2.2.1.trans ?_, (h c).2.2.2.2⟩) (Cert.AdamwWQUpReferenceIdeal.Value.run (F := Ideal) m' g')
    · rw [(args c).1, (args c).2.1]
      funext i
      unfold grad total
      pointwise
    · rw [(args c).1, (args c).2.1, (args c).2.2.1, (args c).2.2.2.1, (args c).2.2.2.2]
      funext i
      unfold change mean meanSq grad total
      pointwise
    · rw [(args c).1, (args c).2.1, (args c).2.2.2.1]
      funext i
      unfold mean grad total
      pointwise
    · rw [(args c).1, (args c).2.1, (args c).2.2.2.2]
      funext i
      unfold meanSq grad total
      pointwise

end Cert.Proof

end
-- ==== Proof.Optimizer.WKvUp.lean ====
/-
  The optimiser's step of the keys' and values' latent projection: each block of the call holds the sum of the devices' shares of one layer's gradient, the two running averages and the change of the weight, entry by entry.
-/
module

public import proofs.«01_k».proof.Proof.Gen.AdamwWKvUp
public import proofs.«01_k».proof.Proof.Gen.AdamwWKvUpIdeal.Value
public import proofs.«01_k».proof.Proof.Gen.AdamwWKvUpReferenceIdeal.Run
public import proofs.«01_k».proof.Proof.Optimizer.Step
public import Idealize.ShloMosaic.Lib.Pipeline.ValueKit
public import Idealize.ShloMosaic.Lib.KernelVsHost
public import proofs.«01_k».proof.Defs

@[expose] public section

set_option maxRecDepth 16384

noncomputable section

namespace Cert.AdamwWKvUpIdeal.Step

open Cert.AdamwWKvUpIdeal Cert.AdamwWKvUpIdeal.Gen Cert.Optimizer
open Idealize.ShloMosaic Idealize.ShloMosaic.TcCoe Idealize.ShloMosaic.Tactic Idealize.ShloMosaic.StableHlo

variable (m : (ℓ : Loc nD τ sig) → Buf (Elt Ideal) ℓ) (c : Dev nD)

/-- One layer's gradient: the devices' shares, summed. -/
def total (x : FVec Ideal S8x256x256 .f32) (r : Fin 256) (e : Fin 256) : EReal := ∑ p : Fin 8, x (ix3 p r e)

/-- The two layers' gradients. -/
def grad (a b : FVec Ideal S8x256x256 .f32) : FVec Ideal S2x256x256 .f32 := fun i => if _h : (i 0).val < 1 then total a (i 1) (i 2) else total b (i 1) (i 2)

/-- The shares as the call finds them. -/
def shares (x : FVec Ideal S8x256x256 .f32) : (⟨S8x256x256, .bf16⟩ : BufTy).Contents (Elt Ideal) := truncf .bf16 x bitsLt_bf16_f32
/-- The host's lines leave the first layer's shares so. -/
theorem V_first : V m c main_v0 = shares (m ((c.tc : Thread nD τ).loc main_arg0)) := by
  simp only [V, hostOps0]
  after_results_simp
  all_goals rfl
/-- The host's lines leave the second layer's shares so. -/
theorem V_second : V m c main_v1 = shares (m ((c.tc : Thread nD τ).loc main_arg1)) := by
  simp only [V, hostOps0]
  after_results_simp
  all_goals rfl
/-- The host's lines leave the weights as they are. -/
theorem V_weight : V m c main_arg2 = m ((c.tc : Thread nD τ).loc main_arg2) := by
  simp only [V, hostOps0]
  after_results_simp
/-- The host's lines leave the gradient's running average as they are. -/
theorem V_mean : V m c main_arg3 = m ((c.tc : Thread nD τ).loc main_arg3) := by
  simp only [V, hostOps0]
  after_results_simp
/-- The host's lines leave its square's running average as they are. -/
theorem V_meanSq : V m c main_arg4 = m ((c.tc : Thread nD τ).loc main_arg4) := by
  simp only [V, hostOps0]
  after_results_simp

/-- Which blocks the grid's points read and write. -/
theorem index_of : ∀ t : Fin grid0.N, (t.val < 1 → win0_0.index t = ![0, t.val % 1, 0]) ∧ (¬t.val < 1 → win0_1.index t = ![0, t.val % 1, 0]) ∧ win0_2.index t = ![t.val / 1, t.val % 1, 0] ∧ win0_3.index t = ![t.val / 1, t.val % 1, 0] ∧ win0_4.index t = ![t.val / 1, t.val % 1, 0] ∧ win0_5.index t = ![t.val / 1, t.val % 1, 0] ∧ win0_6.index t = ![t.val / 1, t.val % 1, 0] ∧ win0_7.index t = ![t.val / 1, t.val % 1, 0] ∧ win0_8.index t = ![t.val / 1, t.val % 1, 0] := by decide +kernel

variable (t : Fin cfg0.N) (y : S1x256x256.Idx)

/-- A block of shares, summed. -/
def blockTotal (x : Vec Ideal S8x256x256 .bf16) (y : S1x256x256.Idx) : EReal := ∑ p : Fin 8, x (ix3 p (y 1) (y 2))

/-- The gradient's block of a point. -/
def part : EReal := if t.val < 1 then blockTotal (iblk m c 0 t) y else blockTotal (iblk m c 1 t) y

/-- What a point leaves of the gradient. -/
theorem out_grad : (outsAt0 m c t.val t.isLt).1 y = part m c t y := by
  have hN : t.val < 2 := lt_of_lt_of_eq t.isLt N_0
  unfold part
  by_cases h : t.val < 1
  · rw [outsAt0_A m c t (by omega) (by omega), if_pos h]
    frame_out
    generalize iblk m c 0 t = g, iblk m c 2 t = w, iblk m c 3 t = a, iblk m c 4 t = b
    unfold blockTotal
    simp only [Fin.sum_univ_eight]
    pointwise [k0_pay1, k0_pay2, k0_pay3, k0_pay4, k0_pay5, k0_pay6, k0_pay7, k0_pay8, k0_pay9, k0_pay10, k0_pay11]
  · rw [outsAt0_B m c t (by omega) (by omega), if_neg h]
    frame_out
    generalize iblk m c 1 t = g, iblk m c 2 t = w, iblk m c 3 t = a, iblk m c 4 t = b
    unfold blockTotal
    simp only [Fin.sum_univ_eight]
    pointwise [k0_pay1, k0_pay2, k0_pay3, k0_pay4, k0_pay5, k0_pay6, k0_pay7, k0_pay8, k0_pay9, k0_pay10, k0_pay11]

/-- What a point leaves of the weights' change. -/
theorem out_change : (outsAt0 m c t.val t.isLt).2.1 y = change (part m c t y) (iblk m c 2 t y) (iblk m c 3 t y) (iblk m c 4 t y) := by
  have hN : t.val < 2 := lt_of_lt_of_eq t.isLt N_0
  unfold part
  by_cases h : t.val < 1
  · rw [outsAt0_A m c t (by omega) (by omega), if_pos h]
    frame_out
    generalize iblk m c 0 t = g, iblk m c 2 t = w, iblk m c 3 t = a, iblk m c 4 t = b
    unfold blockTotal change mean meanSq
    simp only [Fin.sum_univ_eight]
    pointwise [k0_pay1, k0_pay2, k0_pay3, k0_pay4, k0_pay5, k0_pay6, k0_pay7, k0_pay8, k0_pay9, k0_pay10, k0_pay11]
  · rw [outsAt0_B m c t (by omega) (by omega), if_neg h]
    frame_out
    generalize iblk m c 1 t = g, iblk m c 2 t = w, iblk m c 3 t = a, iblk m c 4 t = b
    unfold blockTotal change mean meanSq
    simp only [Fin.sum_univ_eight]
    pointwise [k0_pay1, k0_pay2, k0_pay3, k0_pay4, k0_pay5, k0_pay6, k0_pay7, k0_pay8, k0_pay9, k0_pay10, k0_pay11]

/-- What a point leaves of the gradient's running average. -/
theorem out_mean : (outsAt0 m c t.val t.isLt).2.2.1 y = mean (part m c t y) (iblk m c 3 t y) := by
  have hN : t.val < 2 := lt_of_lt_of_eq t.isLt N_0
  unfold part
  by_cases h : t.val < 1
  · rw [outsAt0_A m c t (by omega) (by omega), if_pos h]
    frame_out
    generalize iblk m c 0 t = g, iblk m c 2 t = w, iblk m c 3 t = a, iblk m c 4 t = b
    unfold blockTotal mean
    simp only [Fin.sum_univ_eight]
    pointwise [k0_pay1, k0_pay2, k0_pay3, k0_pay4, k0_pay5, k0_pay6, k0_pay7, k0_pay8, k0_pay9, k0_pay10, k0_pay11]
  · rw [outsAt0_B m c t (by omega) (by omega), if_neg h]
    frame_out
    generalize iblk m c 1 t = g, iblk m c 2 t = w, iblk m c 3 t = a, iblk m c 4 t = b
    unfold blockTotal mean
    simp only [Fin.sum_univ_eight]
    pointwise [k0_pay1, k0_pay2, k0_pay3, k0_pay4, k0_pay5, k0_pay6, k0_pay7, k0_pay8, k0_pay9, k0_pay10, k0_pay11]

/-- What a point leaves of its square's running average. -/
theorem out_meanSq : (outsAt0 m c t.val t.isLt).2.2.2 y = meanSq (part m c t y) (iblk m c 4 t y) := by
  have hN : t.val < 2 := lt_of_lt_of_eq t.isLt N_0
  unfold part
  by_cases h : t.val < 1
  · rw [outsAt0_A m c t (by omega) (by omega), if_pos h]
    frame_out
    generalize iblk m c 0 t = g, iblk m c 2 t = w, iblk m c 3 t = a, iblk m c 4 t = b
    unfold blockTotal meanSq
    simp only [Fin.sum_univ_eight]
    pointwise [k0_pay1, k0_pay2, k0_pay3, k0_pay4, k0_pay5, k0_pay6, k0_pay7, k0_pay8, k0_pay9, k0_pay10, k0_pay11]
  · rw [outsAt0_B m c t (by omega) (by omega), if_neg h]
    frame_out
    generalize iblk m c 1 t = g, iblk m c 2 t = w, iblk m c 3 t = a, iblk m c 4 t = b
    unfold blockTotal meanSq
    simp only [Fin.sum_univ_eight]
    pointwise [k0_pay1, k0_pay2, k0_pay3, k0_pay4, k0_pay5, k0_pay6, k0_pay7, k0_pay8, k0_pay9, k0_pay10, k0_pay11]

/-- A point's block of the gradient. -/
theorem read_grad (i : S2x256x256.Idx) (h0 : (i 0).val = t.val / 1 + (y 0).val) (h1 : (i 1).val = t.val % 1 * 256 + (y 1).val) (h2 : (i 2).val = (y 2).val) :
    part m c t y = grad (m ((c.tc : Thread nD τ).loc main_arg0)) (m ((c.tc : Thread nD τ).loc main_arg1)) i := by
  have hi := index_of t
  have hy : (y 0).val < 1 := (y 0).isLt
  have hN : t.val < 2 := lt_of_lt_of_eq t.isLt N_0
  unfold part grad
  by_cases h : t.val < 1
  · have hi := hi.1 h
    rw [if_pos h, dif_pos (by omega)]
    refine Finset.sum_congr rfl fun p _ => ?_
    unfold iblk
    blk_simp [hi]
    show V m c main_v0 _ = _
    rw [V_first]
    refine congrArg (m ((c.tc : Thread nD τ).loc main_arg0)) ?_
    blk_ext [hi, h1, h2]
  · have hi := hi.2.1 h
    rw [if_neg h, dif_neg (by omega)]
    refine Finset.sum_congr rfl fun p _ => ?_
    unfold iblk
    blk_simp [hi]
    show V m c main_v1 _ = _
    rw [V_second]
    refine congrArg (m ((c.tc : Thread nD τ).loc main_arg1)) ?_
    blk_ext [hi, h1, h2]

/-- A point's block of an argument. -/
theorem read_weight (i : S2x256x256.Idx) (h0 : (i 0).val = t.val / 1 + (y 0).val) (h1 : (i 1).val = t.val % 1 * 256 + (y 1).val) (h2 : (i 2).val = (y 2).val) :
    iblk m c 2 t y = m ((c.tc : Thread nD τ).loc main_arg2) i := by
  have hi := index_of t
  unfold iblk
  blk_simp [hi]
  show V m c main_arg2 _ = _
  rw [V_weight]
  refine congrArg (m ((c.tc : Thread nD τ).loc main_arg2)) ?_
  blk_ext [hi, h0, h1, h2]

/-- A point's block of an argument. -/
theorem read_mean (i : S2x256x256.Idx) (h0 : (i 0).val = t.val / 1 + (y 0).val) (h1 : (i 1).val = t.val % 1 * 256 + (y 1).val) (h2 : (i 2).val = (y 2).val) :
    iblk m c 3 t y = m ((c.tc : Thread nD τ).loc main_arg3) i := by
  have hi := index_of t
  unfold iblk
  blk_simp [hi]
  show V m c main_arg3 _ = _
  rw [V_mean]
  refine congrArg (m ((c.tc : Thread nD τ).loc main_arg3)) ?_
  blk_ext [hi, h0, h1, h2]

/-- A point's block of an argument. -/
theorem read_meanSq (i : S2x256x256.Idx) (h0 : (i 0).val = t.val / 1 + (y 0).val) (h1 : (i 1).val = t.val % 1 * 256 + (y 1).val) (h2 : (i 2).val = (y 2).val) :
    iblk m c 4 t y = m ((c.tc : Thread nD τ).loc main_arg4) i := by
  have hi := index_of t
  unfold iblk
  blk_simp [hi]
  show V m c main_arg4 _ = _
  rw [V_meanSq]
  refine congrArg (m ((c.tc : Thread nD τ).loc main_arg4)) ?_
  blk_ext [hi, h0, h1, h2]

/-- The whole gradient. -/
theorem final_grad : (dats m 0 c).arrAt 5 cfg0.N = grad (m ((c.tc : Thread nD τ).loc main_arg0)) (m ((c.tc : Thread nD τ).loc main_arg1)) := by
  refine (dats m 0 c).arrAt_eq_of_covers 5 _ (by decide +kernel) fun t hf y => ?_
  have hi := index_of t
  blk_simp
  rw [after0_5]
  refine (out_grad m c t y).trans ?_
  rw [read_grad m c t y _ ?_ ?_ ?_]
  all_goals blk_simp [hi]

/-- The whole weights' change. -/
theorem final_change : (dats m 0 c).arrAt 6 cfg0.N = fun i : S2x256x256.Idx => change (grad (m ((c.tc : Thread nD τ).loc main_arg0)) (m ((c.tc : Thread nD τ).loc main_arg1)) i) (m ((c.tc : Thread nD τ).loc main_arg2) i) (m ((c.tc : Thread nD τ).loc main_arg3) i) (m ((c.tc : Thread nD τ).loc main_arg4) i) := by
  refine (dats m 0 c).arrAt_eq_of_covers 6 _ (by decide +kernel) fun t hf y => ?_
  have hi := index_of t
  blk_simp
  rw [after0_6]
  refine (out_change m c t y).trans ?_
  rw [read_grad m c t y _ ?_ ?_ ?_, read_weight m c t y _ ?_ ?_ ?_, read_mean m c t y _ ?_ ?_ ?_, read_meanSq m c t y _ ?_ ?_ ?_]
  all_goals blk_simp [hi]

/-- The whole gradient's running average. -/
theorem final_mean : (dats m 0 c).arrAt 7 cfg0.N = fun i : S2x256x256.Idx => mean (grad (m ((c.tc : Thread nD τ).loc main_arg0)) (m ((c.tc : Thread nD τ).loc main_arg1)) i) (m ((c.tc : Thread nD τ).loc main_arg3) i) := by
  refine (dats m 0 c).arrAt_eq_of_covers 7 _ (by decide +kernel) fun t hf y => ?_
  have hi := index_of t
  blk_simp
  rw [after0_7]
  refine (out_mean m c t y).trans ?_
  rw [read_grad m c t y _ ?_ ?_ ?_, read_mean m c t y _ ?_ ?_ ?_]
  all_goals blk_simp [hi]

/-- The whole square's running average. -/
theorem final_meanSq : (dats m 0 c).arrAt 8 cfg0.N = fun i : S2x256x256.Idx => meanSq (grad (m ((c.tc : Thread nD τ).loc main_arg0)) (m ((c.tc : Thread nD τ).loc main_arg1)) i) (m ((c.tc : Thread nD τ).loc main_arg4) i) := by
  refine (dats m 0 c).arrAt_eq_of_covers 8 _ (by decide +kernel) fun t hf y => ?_
  have hi := index_of t
  blk_simp
  rw [after0_8]
  refine (out_meanSq m c t y).trans ?_
  rw [read_grad m c t y _ ?_ ?_ ?_, read_meanSq m c t y _ ?_ ?_ ?_]
  all_goals blk_simp [hi]

end Cert.AdamwWKvUpIdeal.Step

namespace Cert.Proof

open Cert.AdamwWKvUpIdeal Cert.AdamwWKvUpIdeal.Step Cert.Optimizer
open Idealize.ShloMosaic Idealize.ShloMosaic.TcCoe

set_option maxHeartbeats 1000000 in
/-- The two texts of the body, at every point of the grid, are one. -/
theorem defs₀_AdamwWKvUp : Cert.AdamwWKvUp.defs₀ (F := Bits) = Cert.AdamwWKvUpIdeal.defs₀ (F := Bits) := by
  refine congrArg Defs.onTc (funext fun l => ?_)
  match l with
  | 0 => exact funext fun ⟨_, _⟩ => rfl
  | ⟨_ + 1, h⟩ => exact absurd h (Nat.not_lt.2 (Nat.le_add_left _ _))

set_option maxHeartbeats 1000000 in
/-- The call at the hardware's numbers ends with its arguments unchanged and every counter at zero. -/
theorem frame_AdamwWKvUp : Cert.quiescent_AdamwWKvUp := fun m ρ _ => by
  rw [show Cert.AdamwWKvUp.defs (F := Bits) = Cert.AdamwWKvUpIdeal.defs from congrArg (Pipeline.defs Cert.AdamwWKvUpIdeal.pcfgs) defs₀_AdamwWKvUp,
    show Cert.AdamwWKvUp.main (F := Bits) = Cert.AdamwWKvUpIdeal.main from rfl]
  exact Cert.AdamwWKvUpIdeal.Gen.frame (F := Bits) m ρ

/-- The call at the extended reals ends with its arguments unchanged and every counter at zero. -/
theorem frame_AdamwWKvUpIdeal : Cert.quiescent_AdamwWKvUpIdeal := fun m ρ _ => Cert.AdamwWKvUpIdeal.Gen.frame (F := Ideal) m ρ

/-- The reference ends with its arguments unchanged and every counter at zero. -/
theorem frame_reference_AdamwWKvUp : Cert.quiescent_AdamwWKvUpReferenceIdeal := fun m ρ _ =>
  (θ_run Cert.AdamwWKvUpReferenceIdeal.defs _ _).mono (fun r h => ⟨fun c => (h c).2.2.2.2, sem_eq_zero_of_no_sems rfl r.2⟩) (Cert.AdamwWKvUpReferenceIdeal.Value.run (F := Ideal) m ρ)

/-- The call's results and the reference's are the same arrays. -/
theorem algebraic_AdamwWKvUp : Cert.algebraic_AdamwWKvUpIdeal_AdamwWKvUpReferenceIdeal := fun m g m' g' _ args => by
  refine ⟨fun c => grad (m ((c.tc : Thread nD τ).loc main_arg0)) (m ((c.tc : Thread nD τ).loc main_arg1)), fun c => fun i : S2x256x256.Idx => change (grad (m ((c.tc : Thread nD τ).loc main_arg0)) (m ((c.tc : Thread nD τ).loc main_arg1)) i) (m ((c.tc : Thread nD τ).loc main_arg2) i) (m ((c.tc : Thread nD τ).loc main_arg3) i) (m ((c.tc : Thread nD τ).loc main_arg4) i), fun c => fun i : S2x256x256.Idx => mean (grad (m ((c.tc : Thread nD τ).loc main_arg0)) (m ((c.tc : Thread nD τ).loc main_arg1)) i) (m ((c.tc : Thread nD τ).loc main_arg3) i), fun c => fun i : S2x256x256.Idx => meanSq (grad (m ((c.tc : Thread nD τ).loc main_arg0)) (m ((c.tc : Thread nD τ).loc main_arg1)) i) (m ((c.tc : Thread nD τ).loc main_arg4) i), ?_, ?_⟩
  · exact (θ_run _ _ _).mono (fun r h c => ⟨(h c).1.trans (final_grad m c), (h c).2.1.trans (final_change m c), (h c).2.2.1.trans (final_mean m c), (h c).2.2.2.1.trans (final_meanSq m c), (h c).2.2.2.2⟩) (Value.run_blocks m g)
  · refine (θ_run _ _ _).mono (fun r h c => ⟨(h c).1.trans ?_, (h c).2.1.trans ?_, (h c).2.2.1.trans ?_, (h c).2.2.2.1.trans ?_, (h c).2.2.2.2⟩) (Cert.AdamwWKvUpReferenceIdeal.Value.run (F := Ideal) m' g')
    · rw [(args c).1, (args c).2.1]
      funext i
      unfold grad total
      pointwise
    · rw [(args c).1, (args c).2.1, (args c).2.2.1, (args c).2.2.2.1, (args c).2.2.2.2]
      funext i
      unfold change mean meanSq grad total
      pointwise
    · rw [(args c).1, (args c).2.1, (args c).2.2.2.1]
      funext i
      unfold mean grad total
      pointwise
    · rw [(args c).1, (args c).2.1, (args c).2.2.2.2]
      funext i
      unfold meanSq grad total
      pointwise

end Cert.Proof

end
-- ==== Proof.Optimizer.WPw.lean ====
/-
  The optimiser's step of the convolution's pointwise product: each block of the call holds the sum of the devices' shares of one layer's gradient, the two running averages and the change of the weight, entry by entry.
-/
module

public import proofs.«01_k».proof.Proof.Gen.AdamwWPw
public import proofs.«01_k».proof.Proof.Gen.AdamwWPwIdeal.Value
public import proofs.«01_k».proof.Proof.Gen.AdamwWPwReferenceIdeal.Run
public import proofs.«01_k».proof.Proof.Optimizer.Step
public import Idealize.ShloMosaic.Lib.Pipeline.ValueKit
public import Idealize.ShloMosaic.Lib.KernelVsHost
public import proofs.«01_k».proof.Defs

@[expose] public section

set_option maxRecDepth 16384

noncomputable section

namespace Cert.AdamwWPwIdeal.Step

open Cert.AdamwWPwIdeal Cert.AdamwWPwIdeal.Gen Cert.Optimizer
open Idealize.ShloMosaic Idealize.ShloMosaic.TcCoe Idealize.ShloMosaic.Tactic Idealize.ShloMosaic.StableHlo

variable (m : (ℓ : Loc nD τ sig) → Buf (Elt Ideal) ℓ) (c : Dev nD)

/-- One layer's gradient: the devices' shares, summed. -/
def total (x : FVec Ideal S8x128x1024 .f32) (r : Fin 128) (e : Fin 1024) : EReal := ∑ p : Fin 8, x (ix3 p r e)

/-- The two layers' gradients. -/
def grad (a b : FVec Ideal S8x128x1024 .f32) : FVec Ideal S2x128x1024 .f32 := fun i => if _h : (i 0).val < 1 then total a (i 1) (i 2) else total b (i 1) (i 2)

/-- The shares as the call finds them. -/
def shares (x : FVec Ideal S8x128x1024 .f32) : (⟨S8x128x1024, .bf16⟩ : BufTy).Contents (Elt Ideal) := truncf .bf16 x bitsLt_bf16_f32
/-- The host's lines leave the first layer's shares so. -/
theorem V_first : V m c main_v0 = shares (m ((c.tc : Thread nD τ).loc main_arg0)) := by
  simp only [V, hostOps0]
  after_results_simp
  all_goals rfl
/-- The host's lines leave the second layer's shares so. -/
theorem V_second : V m c main_v1 = shares (m ((c.tc : Thread nD τ).loc main_arg1)) := by
  simp only [V, hostOps0]
  after_results_simp
  all_goals rfl
/-- The host's lines leave the weights as they are. -/
theorem V_weight : V m c main_arg2 = m ((c.tc : Thread nD τ).loc main_arg2) := by
  simp only [V, hostOps0]
  after_results_simp
/-- The host's lines leave the gradient's running average as they are. -/
theorem V_mean : V m c main_arg3 = m ((c.tc : Thread nD τ).loc main_arg3) := by
  simp only [V, hostOps0]
  after_results_simp
/-- The host's lines leave its square's running average as they are. -/
theorem V_meanSq : V m c main_arg4 = m ((c.tc : Thread nD τ).loc main_arg4) := by
  simp only [V, hostOps0]
  after_results_simp

/-- Which blocks the grid's points read and write. -/
theorem index_of : ∀ t : Fin grid0.N, (t.val < 1 → win0_0.index t = ![0, t.val % 1, 0]) ∧ (¬t.val < 1 → win0_1.index t = ![0, t.val % 1, 0]) ∧ win0_2.index t = ![t.val / 1, t.val % 1, 0] ∧ win0_3.index t = ![t.val / 1, t.val % 1, 0] ∧ win0_4.index t = ![t.val / 1, t.val % 1, 0] ∧ win0_5.index t = ![t.val / 1, t.val % 1, 0] ∧ win0_6.index t = ![t.val / 1, t.val % 1, 0] ∧ win0_7.index t = ![t.val / 1, t.val % 1, 0] ∧ win0_8.index t = ![t.val / 1, t.val % 1, 0] := by decide +kernel

variable (t : Fin cfg0.N) (y : S1x128x1024.Idx)

/-- A block of shares, summed. -/
def blockTotal (x : Vec Ideal S8x128x1024 .bf16) (y : S1x128x1024.Idx) : EReal := ∑ p : Fin 8, x (ix3 p (y 1) (y 2))

/-- The gradient's block of a point. -/
def part : EReal := if t.val < 1 then blockTotal (iblk m c 0 t) y else blockTotal (iblk m c 1 t) y

/-- What a point leaves of the gradient. -/
theorem out_grad : (outsAt0 m c t.val t.isLt).1 y = part m c t y := by
  have hN : t.val < 2 := lt_of_lt_of_eq t.isLt N_0
  unfold part
  by_cases h : t.val < 1
  · rw [outsAt0_A m c t (by omega) (by omega), if_pos h]
    frame_out
    generalize iblk m c 0 t = g, iblk m c 2 t = w, iblk m c 3 t = a, iblk m c 4 t = b
    unfold blockTotal
    simp only [Fin.sum_univ_eight]
    pointwise [k0_pay1, k0_pay2, k0_pay3, k0_pay4, k0_pay5, k0_pay6, k0_pay7, k0_pay8, k0_pay9, k0_pay10, k0_pay11]
  · rw [outsAt0_B m c t (by omega) (by omega), if_neg h]
    frame_out
    generalize iblk m c 1 t = g, iblk m c 2 t = w, iblk m c 3 t = a, iblk m c 4 t = b
    unfold blockTotal
    simp only [Fin.sum_univ_eight]
    pointwise [k0_pay1, k0_pay2, k0_pay3, k0_pay4, k0_pay5, k0_pay6, k0_pay7, k0_pay8, k0_pay9, k0_pay10, k0_pay11]

/-- What a point leaves of the weights' change. -/
theorem out_change : (outsAt0 m c t.val t.isLt).2.1 y = change (part m c t y) (iblk m c 2 t y) (iblk m c 3 t y) (iblk m c 4 t y) := by
  have hN : t.val < 2 := lt_of_lt_of_eq t.isLt N_0
  unfold part
  by_cases h : t.val < 1
  · rw [outsAt0_A m c t (by omega) (by omega), if_pos h]
    frame_out
    generalize iblk m c 0 t = g, iblk m c 2 t = w, iblk m c 3 t = a, iblk m c 4 t = b
    unfold blockTotal change mean meanSq
    simp only [Fin.sum_univ_eight]
    pointwise [k0_pay1, k0_pay2, k0_pay3, k0_pay4, k0_pay5, k0_pay6, k0_pay7, k0_pay8, k0_pay9, k0_pay10, k0_pay11]
  · rw [outsAt0_B m c t (by omega) (by omega), if_neg h]
    frame_out
    generalize iblk m c 1 t = g, iblk m c 2 t = w, iblk m c 3 t = a, iblk m c 4 t = b
    unfold blockTotal change mean meanSq
    simp only [Fin.sum_univ_eight]
    pointwise [k0_pay1, k0_pay2, k0_pay3, k0_pay4, k0_pay5, k0_pay6, k0_pay7, k0_pay8, k0_pay9, k0_pay10, k0_pay11]

/-- What a point leaves of the gradient's running average. -/
theorem out_mean : (outsAt0 m c t.val t.isLt).2.2.1 y = mean (part m c t y) (iblk m c 3 t y) := by
  have hN : t.val < 2 := lt_of_lt_of_eq t.isLt N_0
  unfold part
  by_cases h : t.val < 1
  · rw [outsAt0_A m c t (by omega) (by omega), if_pos h]
    frame_out
    generalize iblk m c 0 t = g, iblk m c 2 t = w, iblk m c 3 t = a, iblk m c 4 t = b
    unfold blockTotal mean
    simp only [Fin.sum_univ_eight]
    pointwise [k0_pay1, k0_pay2, k0_pay3, k0_pay4, k0_pay5, k0_pay6, k0_pay7, k0_pay8, k0_pay9, k0_pay10, k0_pay11]
  · rw [outsAt0_B m c t (by omega) (by omega), if_neg h]
    frame_out
    generalize iblk m c 1 t = g, iblk m c 2 t = w, iblk m c 3 t = a, iblk m c 4 t = b
    unfold blockTotal mean
    simp only [Fin.sum_univ_eight]
    pointwise [k0_pay1, k0_pay2, k0_pay3, k0_pay4, k0_pay5, k0_pay6, k0_pay7, k0_pay8, k0_pay9, k0_pay10, k0_pay11]

/-- What a point leaves of its square's running average. -/
theorem out_meanSq : (outsAt0 m c t.val t.isLt).2.2.2 y = meanSq (part m c t y) (iblk m c 4 t y) := by
  have hN : t.val < 2 := lt_of_lt_of_eq t.isLt N_0
  unfold part
  by_cases h : t.val < 1
  · rw [outsAt0_A m c t (by omega) (by omega), if_pos h]
    frame_out
    generalize iblk m c 0 t = g, iblk m c 2 t = w, iblk m c 3 t = a, iblk m c 4 t = b
    unfold blockTotal meanSq
    simp only [Fin.sum_univ_eight]
    pointwise [k0_pay1, k0_pay2, k0_pay3, k0_pay4, k0_pay5, k0_pay6, k0_pay7, k0_pay8, k0_pay9, k0_pay10, k0_pay11]
  · rw [outsAt0_B m c t (by omega) (by omega), if_neg h]
    frame_out
    generalize iblk m c 1 t = g, iblk m c 2 t = w, iblk m c 3 t = a, iblk m c 4 t = b
    unfold blockTotal meanSq
    simp only [Fin.sum_univ_eight]
    pointwise [k0_pay1, k0_pay2, k0_pay3, k0_pay4, k0_pay5, k0_pay6, k0_pay7, k0_pay8, k0_pay9, k0_pay10, k0_pay11]

/-- A point's block of the gradient. -/
theorem read_grad (i : S2x128x1024.Idx) (h0 : (i 0).val = t.val / 1 + (y 0).val) (h1 : (i 1).val = t.val % 1 * 128 + (y 1).val) (h2 : (i 2).val = (y 2).val) :
    part m c t y = grad (m ((c.tc : Thread nD τ).loc main_arg0)) (m ((c.tc : Thread nD τ).loc main_arg1)) i := by
  have hi := index_of t
  have hy : (y 0).val < 1 := (y 0).isLt
  have hN : t.val < 2 := lt_of_lt_of_eq t.isLt N_0
  unfold part grad
  by_cases h : t.val < 1
  · have hi := hi.1 h
    rw [if_pos h, dif_pos (by omega)]
    refine Finset.sum_congr rfl fun p _ => ?_
    unfold iblk
    blk_simp [hi]
    show V m c main_v0 _ = _
    rw [V_first]
    refine congrArg (m ((c.tc : Thread nD τ).loc main_arg0)) ?_
    blk_ext [hi, h1, h2]
  · have hi := hi.2.1 h
    rw [if_neg h, dif_neg (by omega)]
    refine Finset.sum_congr rfl fun p _ => ?_
    unfold iblk
    blk_simp [hi]
    show V m c main_v1 _ = _
    rw [V_second]
    refine congrArg (m ((c.tc : Thread nD τ).loc main_arg1)) ?_
    blk_ext [hi, h1, h2]

/-- A point's block of an argument. -/
theorem read_weight (i : S2x128x1024.Idx) (h0 : (i 0).val = t.val / 1 + (y 0).val) (h1 : (i 1).val = t.val % 1 * 128 + (y 1).val) (h2 : (i 2).val = (y 2).val) :
    iblk m c 2 t y = m ((c.tc : Thread nD τ).loc main_arg2) i := by
  have hi := index_of t
  unfold iblk
  blk_simp [hi]
  show V m c main_arg2 _ = _
  rw [V_weight]
  refine congrArg (m ((c.tc : Thread nD τ).loc main_arg2)) ?_
  blk_ext [hi, h0, h1, h2]

/-- A point's block of an argument. -/
theorem read_mean (i : S2x128x1024.Idx) (h0 : (i 0).val = t.val / 1 + (y 0).val) (h1 : (i 1).val = t.val % 1 * 128 + (y 1).val) (h2 : (i 2).val = (y 2).val) :
    iblk m c 3 t y = m ((c.tc : Thread nD τ).loc main_arg3) i := by
  have hi := index_of t
  unfold iblk
  blk_simp [hi]
  show V m c main_arg3 _ = _
  rw [V_mean]
  refine congrArg (m ((c.tc : Thread nD τ).loc main_arg3)) ?_
  blk_ext [hi, h0, h1, h2]

/-- A point's block of an argument. -/
theorem read_meanSq (i : S2x128x1024.Idx) (h0 : (i 0).val = t.val / 1 + (y 0).val) (h1 : (i 1).val = t.val % 1 * 128 + (y 1).val) (h2 : (i 2).val = (y 2).val) :
    iblk m c 4 t y = m ((c.tc : Thread nD τ).loc main_arg4) i := by
  have hi := index_of t
  unfold iblk
  blk_simp [hi]
  show V m c main_arg4 _ = _
  rw [V_meanSq]
  refine congrArg (m ((c.tc : Thread nD τ).loc main_arg4)) ?_
  blk_ext [hi, h0, h1, h2]

/-- The whole gradient. -/
theorem final_grad : (dats m 0 c).arrAt 5 cfg0.N = grad (m ((c.tc : Thread nD τ).loc main_arg0)) (m ((c.tc : Thread nD τ).loc main_arg1)) := by
  refine (dats m 0 c).arrAt_eq_of_covers 5 _ (by decide +kernel) fun t hf y => ?_
  have hi := index_of t
  blk_simp
  rw [after0_5]
  refine (out_grad m c t y).trans ?_
  rw [read_grad m c t y _ ?_ ?_ ?_]
  all_goals blk_simp [hi]

/-- The whole weights' change. -/
theorem final_change : (dats m 0 c).arrAt 6 cfg0.N = fun i : S2x128x1024.Idx => change (grad (m ((c.tc : Thread nD τ).loc main_arg0)) (m ((c.tc : Thread nD τ).loc main_arg1)) i) (m ((c.tc : Thread nD τ).loc main_arg2) i) (m ((c.tc : Thread nD τ).loc main_arg3) i) (m ((c.tc : Thread nD τ).loc main_arg4) i) := by
  refine (dats m 0 c).arrAt_eq_of_covers 6 _ (by decide +kernel) fun t hf y => ?_
  have hi := index_of t
  blk_simp
  rw [after0_6]
  refine (out_change m c t y).trans ?_
  rw [read_grad m c t y _ ?_ ?_ ?_, read_weight m c t y _ ?_ ?_ ?_, read_mean m c t y _ ?_ ?_ ?_, read_meanSq m c t y _ ?_ ?_ ?_]
  all_goals blk_simp [hi]

/-- The whole gradient's running average. -/
theorem final_mean : (dats m 0 c).arrAt 7 cfg0.N = fun i : S2x128x1024.Idx => mean (grad (m ((c.tc : Thread nD τ).loc main_arg0)) (m ((c.tc : Thread nD τ).loc main_arg1)) i) (m ((c.tc : Thread nD τ).loc main_arg3) i) := by
  refine (dats m 0 c).arrAt_eq_of_covers 7 _ (by decide +kernel) fun t hf y => ?_
  have hi := index_of t
  blk_simp
  rw [after0_7]
  refine (out_mean m c t y).trans ?_
  rw [read_grad m c t y _ ?_ ?_ ?_, read_mean m c t y _ ?_ ?_ ?_]
  all_goals blk_simp [hi]

/-- The whole square's running average. -/
theorem final_meanSq : (dats m 0 c).arrAt 8 cfg0.N = fun i : S2x128x1024.Idx => meanSq (grad (m ((c.tc : Thread nD τ).loc main_arg0)) (m ((c.tc : Thread nD τ).loc main_arg1)) i) (m ((c.tc : Thread nD τ).loc main_arg4) i) := by
  refine (dats m 0 c).arrAt_eq_of_covers 8 _ (by decide +kernel) fun t hf y => ?_
  have hi := index_of t
  blk_simp
  rw [after0_8]
  refine (out_meanSq m c t y).trans ?_
  rw [read_grad m c t y _ ?_ ?_ ?_, read_meanSq m c t y _ ?_ ?_ ?_]
  all_goals blk_simp [hi]

end Cert.AdamwWPwIdeal.Step

namespace Cert.Proof

open Cert.AdamwWPwIdeal Cert.AdamwWPwIdeal.Step Cert.Optimizer
open Idealize.ShloMosaic Idealize.ShloMosaic.TcCoe

set_option maxHeartbeats 1000000 in
/-- The two texts of the body, at every point of the grid, are one. -/
theorem defs₀_AdamwWPw : Cert.AdamwWPw.defs₀ (F := Bits) = Cert.AdamwWPwIdeal.defs₀ (F := Bits) := by
  refine congrArg Defs.onTc (funext fun l => ?_)
  match l with
  | 0 => exact funext fun ⟨_, _⟩ => rfl
  | ⟨_ + 1, h⟩ => exact absurd h (Nat.not_lt.2 (Nat.le_add_left _ _))

set_option maxHeartbeats 1000000 in
/-- The call at the hardware's numbers ends with its arguments unchanged and every counter at zero. -/
theorem frame_AdamwWPw : Cert.quiescent_AdamwWPw := fun m ρ _ => by
  rw [show Cert.AdamwWPw.defs (F := Bits) = Cert.AdamwWPwIdeal.defs from congrArg (Pipeline.defs Cert.AdamwWPwIdeal.pcfgs) defs₀_AdamwWPw,
    show Cert.AdamwWPw.main (F := Bits) = Cert.AdamwWPwIdeal.main from rfl]
  exact Cert.AdamwWPwIdeal.Gen.frame (F := Bits) m ρ

/-- The call at the extended reals ends with its arguments unchanged and every counter at zero. -/
theorem frame_AdamwWPwIdeal : Cert.quiescent_AdamwWPwIdeal := fun m ρ _ => Cert.AdamwWPwIdeal.Gen.frame (F := Ideal) m ρ

/-- The reference ends with its arguments unchanged and every counter at zero. -/
theorem frame_reference_AdamwWPw : Cert.quiescent_AdamwWPwReferenceIdeal := fun m ρ _ =>
  (θ_run Cert.AdamwWPwReferenceIdeal.defs _ _).mono (fun r h => ⟨fun c => (h c).2.2.2.2, sem_eq_zero_of_no_sems rfl r.2⟩) (Cert.AdamwWPwReferenceIdeal.Value.run (F := Ideal) m ρ)

/-- The call's results and the reference's are the same arrays. -/
theorem algebraic_AdamwWPw : Cert.algebraic_AdamwWPwIdeal_AdamwWPwReferenceIdeal := fun m g m' g' _ args => by
  refine ⟨fun c => grad (m ((c.tc : Thread nD τ).loc main_arg0)) (m ((c.tc : Thread nD τ).loc main_arg1)), fun c => fun i : S2x128x1024.Idx => change (grad (m ((c.tc : Thread nD τ).loc main_arg0)) (m ((c.tc : Thread nD τ).loc main_arg1)) i) (m ((c.tc : Thread nD τ).loc main_arg2) i) (m ((c.tc : Thread nD τ).loc main_arg3) i) (m ((c.tc : Thread nD τ).loc main_arg4) i), fun c => fun i : S2x128x1024.Idx => mean (grad (m ((c.tc : Thread nD τ).loc main_arg0)) (m ((c.tc : Thread nD τ).loc main_arg1)) i) (m ((c.tc : Thread nD τ).loc main_arg3) i), fun c => fun i : S2x128x1024.Idx => meanSq (grad (m ((c.tc : Thread nD τ).loc main_arg0)) (m ((c.tc : Thread nD τ).loc main_arg1)) i) (m ((c.tc : Thread nD τ).loc main_arg4) i), ?_, ?_⟩
  · exact (θ_run _ _ _).mono (fun r h c => ⟨(h c).1.trans (final_grad m c), (h c).2.1.trans (final_change m c), (h c).2.2.1.trans (final_mean m c), (h c).2.2.2.1.trans (final_meanSq m c), (h c).2.2.2.2⟩) (Value.run_blocks m g)
  · refine (θ_run _ _ _).mono (fun r h c => ⟨(h c).1.trans ?_, (h c).2.1.trans ?_, (h c).2.2.1.trans ?_, (h c).2.2.2.1.trans ?_, (h c).2.2.2.2⟩) (Cert.AdamwWPwReferenceIdeal.Value.run (F := Ideal) m' g')
    · rw [(args c).1, (args c).2.1]
      funext i
      unfold grad total
      pointwise
    · rw [(args c).1, (args c).2.1, (args c).2.2.1, (args c).2.2.2.1, (args c).2.2.2.2]
      funext i
      unfold change mean meanSq grad total
      pointwise
    · rw [(args c).1, (args c).2.1, (args c).2.2.2.1]
      funext i
      unfold mean grad total
      pointwise
    · rw [(args c).1, (args c).2.1, (args c).2.2.2.2]
      funext i
      unfold meanSq grad total
      pointwise

end Cert.Proof

end
-- ==== Proof.Optimizer.WInFirst.lean ====
/-
  The optimiser's step of the input projection's first layer: each block of the call holds the sum of the devices' shares of the gradient, the two running averages and the change of
  the weight, entry by entry; the second layer stays what it was.
-/
module

public import proofs.«01_k».proof.Proof.Gen.AdamwWIn
public import proofs.«01_k».proof.Proof.Gen.AdamwWInIdeal.Value
public import proofs.«01_k».proof.Proof.Gen.AdamwWInReferenceIdeal.Run
public import proofs.«01_k».proof.Proof.Optimizer.Step
public import Idealize.ShloMosaic.Lib.Pipeline.ValueKit
public import Idealize.ShloMosaic.Lib.KernelVsHost
public import proofs.«01_k».proof.Defs

@[expose] public section

set_option maxRecDepth 16384

noncomputable section

namespace Cert.AdamwWInIdeal.Step

open Cert.AdamwWInIdeal Cert.AdamwWInIdeal.Gen Cert.Optimizer
open Idealize.ShloMosaic Idealize.ShloMosaic.TcCoe Idealize.ShloMosaic.Tactic Idealize.ShloMosaic.StableHlo

section Rows

variable (g : FVec Ideal S8x616x2048 .f32) (w a b : FVec Ideal S2x616x2048 .f32) (r : Fin 616) (e : Fin 2048)

/-- The layer's gradient: the devices' shares, summed. -/
def total : EReal := ∑ p : Fin 8, g (ix3 p r e)
/-- The layer's change of the weights. -/
def rowChange : EReal := change (total g r e) (w (ix3 0 r e)) (a (ix3 0 r e)) (b (ix3 0 r e))
/-- The layer's running average of the gradient. -/
def rowMean : EReal := mean (total g r e) (a (ix3 0 r e))
/-- The layer's running average of the gradient's square. -/
def rowMeanSq : EReal := meanSq (total g r e) (b (ix3 0 r e))

end Rows

/-- The first layer's rows, with the second layer of an array beside. -/
def beside (f : Fin 616 → Fin 2048 → EReal) (q : FVec Ideal S2x616x2048 .f32) : FVec Ideal S2x616x2048 .f32 := fun i => if (i 0).val = 0 then f (i 1) (i 2) else q i
/-- Its first layer. -/
theorem beside_first (f : Fin 616 → Fin 2048 → EReal) (q : FVec Ideal S2x616x2048 .f32) (r : Fin 616) (e : Fin 2048) : beside f q (ix3 0 r e) = f r e := if_pos rfl
/-- Its second layer. -/
theorem beside_second (f : Fin 616 → Fin 2048 → EReal) (q : FVec Ideal S2x616x2048 .f32) (r : Fin 616) (e : Fin 2048) : beside f q (ix3 1 r e) = q (ix3 1 r e) := if_neg (by decide : ¬(1 : Fin 2).val = 0)
/-- An index is of the first layer or of the second. -/
theorem layer_cases (i : S2x616x2048.Idx) : i = ix3 0 (i 1) (i 2) ∨ i = ix3 1 (i 1) (i 2) := by
  have h : (i 0).val < 2 := (i 0).isLt
  by_cases h0 : (i 0).val = 0
  · exact .inl ((eq_ix3 i).trans (congrArg (fun q : Fin 2 => ix3 q (i 1) (i 2)) (Fin.ext h0)))
  · exact .inr ((eq_ix3 i).trans (congrArg (fun q : Fin 2 => ix3 q (i 1) (i 2)) (Fin.ext (show (i 0).val = 1 by omega))))

variable (m : (ℓ : Loc nD τ sig) → Buf (Elt Ideal) ℓ) (c : Dev nD)

/-- The shares as the call finds them. -/
def shares (x : FVec Ideal S8x616x2048 .f32) : (⟨S8x616x2048, .bf16⟩ : BufTy).Contents (Elt Ideal) := truncf .bf16 x bitsLt_bf16_f32
/-- The host's lines leave the shares so. -/
theorem V_grad : V m c main_v0 = shares (m ((c.tc : Thread nD τ).loc main_arg0)) := by
  simp only [V, hostOps0]
  after_results_simp
  all_goals rfl
/-- The host's lines leave the weights as they are. -/
theorem V_weight : V m c main_arg1 = m ((c.tc : Thread nD τ).loc main_arg1) := V_main_arg1 m c
/-- The host's lines leave the gradient's running average as they are. -/
theorem V_mean : V m c main_arg2 = m ((c.tc : Thread nD τ).loc main_arg2) := V_main_arg2 m c
/-- The host's lines leave its square's running average as they are. -/
theorem V_meanSq : V m c main_arg3 = m ((c.tc : Thread nD τ).loc main_arg3) := V_main_arg3 m c
/-- A result's array holds the second layer's result when the call begins. -/
theorem V_beside0 : V m c main_v1_0 = m ((c.tc : Thread nD τ).loc main_arg4) := by
  simp only [V, hostOps0]
  after_results_simp
  all_goals rfl
/-- A result's array holds the second layer's result when the call begins. -/
theorem V_beside1 : V m c main_v1_1 = m ((c.tc : Thread nD τ).loc main_arg5) := by
  simp only [V, hostOps0]
  after_results_simp
  all_goals rfl
/-- A result's array holds the second layer's result when the call begins. -/
theorem V_beside2 : V m c main_v1_2 = m ((c.tc : Thread nD τ).loc main_arg6) := by
  simp only [V, hostOps0]
  after_results_simp
  all_goals rfl
/-- A result's array holds the second layer's result when the call begins. -/
theorem V_beside3 : V m c main_v1_3 = m ((c.tc : Thread nD τ).loc main_arg7) := by
  simp only [V, hostOps0]
  after_results_simp
  all_goals rfl

/-- Which blocks the grid's points read and write. -/
theorem index_of : ∀ t : Fin grid0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] := by decide +kernel

variable (t : Fin cfg0.N) (y : S1x56x2048.Idx)

/-- A block of shares, summed. -/
def blockTotal (x : Vec Ideal S8x56x2048 .bf16) (y : S1x56x2048.Idx) : EReal := ∑ p : Fin 8, x (ix3 p (y 1) (y 2))

/-- What a point leaves of the gradient. -/
theorem out_grad : (outsAt0 m c t).1 y = blockTotal (iblk m c 0 t) y := by
  unfold outsAt0
  generalize iblk m c 0 t = g, iblk m c 1 t = w, iblk m c 2 t = a, iblk m c 3 t = b
  frame_out
  unfold blockTotal
  simp only [Fin.sum_univ_eight]
  pointwise [k0_pay1, k0_pay2, k0_pay3, k0_pay4, k0_pay5, k0_pay6, k0_pay7]

/-- What a point leaves of the weights' change. -/
theorem out_change : (outsAt0 m c t).2.1 y = change (blockTotal (iblk m c 0 t) y) (iblk m c 1 t y) (iblk m c 2 t y) (iblk m c 3 t y) := by
  unfold outsAt0
  generalize iblk m c 0 t = g, iblk m c 1 t = w, iblk m c 2 t = a, iblk m c 3 t = b
  frame_out
  unfold blockTotal change mean meanSq
  simp only [Fin.sum_univ_eight]
  pointwise [k0_pay1, k0_pay2, k0_pay3, k0_pay4, k0_pay5, k0_pay6, k0_pay7]

/-- What a point leaves of the gradient's running average. -/
theorem out_mean : (outsAt0 m c t).2.2.1 y = mean (blockTotal (iblk m c 0 t) y) (iblk m c 2 t y) := by
  unfold outsAt0
  generalize iblk m c 0 t = g, iblk m c 1 t = w, iblk m c 2 t = a, iblk m c 3 t = b
  frame_out
  unfold blockTotal mean
  simp only [Fin.sum_univ_eight]
  pointwise [k0_pay1, k0_pay2, k0_pay3, k0_pay4, k0_pay5, k0_pay6, k0_pay7]

/-- What a point leaves of its square's running average. -/
theorem out_meanSq : (outsAt0 m c t).2.2.2 y = meanSq (blockTotal (iblk m c 0 t) y) (iblk m c 3 t y) := by
  unfold outsAt0
  generalize iblk m c 0 t = g, iblk m c 1 t = w, iblk m c 2 t = a, iblk m c 3 t = b
  frame_out
  unfold blockTotal meanSq
  simp only [Fin.sum_univ_eight]
  pointwise [k0_pay1, k0_pay2, k0_pay3, k0_pay4, k0_pay5, k0_pay6, k0_pay7]

variable (i : S2x616x2048.Idx) (h1 : (i 1).val = t.val * 56 + (y 1).val) (h2 : (i 2).val = (y 2).val)

include h1 h2

/-- A point's block of the gradient. -/
theorem read_grad : blockTotal (iblk m c 0 t) y = total (m ((c.tc : Thread nD τ).loc main_arg0)) (i 1) (i 2) := by
  have hi := index_of t
  refine Finset.sum_congr rfl fun p _ => ?_
  unfold iblk
  blk_simp [hi]
  show V m c main_v0 _ = _
  rw [V_grad]
  refine congrArg (m ((c.tc : Thread nD τ).loc main_arg0)) ?_
  blk_ext [hi, h1, h2]
/-- A point's block of an argument. -/
theorem read_weight : iblk m c 1 t y = (m ((c.tc : Thread nD τ).loc main_arg1)) (ix3 0 (i 1) (i 2)) := by
  have hi := index_of t
  have h0 : (y 0).val < 1 := (y 0).isLt
  unfold iblk
  blk_simp [hi]
  show V m c main_arg1 _ = _
  rw [V_weight]
  refine congrArg (m ((c.tc : Thread nD τ).loc main_arg1)) ?_
  blk_ext [hi, h1, h2]
/-- A point's block of an argument. -/
theorem read_mean : iblk m c 2 t y = (m ((c.tc : Thread nD τ).loc main_arg2)) (ix3 0 (i 1) (i 2)) := by
  have hi := index_of t
  have h0 : (y 0).val < 1 := (y 0).isLt
  unfold iblk
  blk_simp [hi]
  show V m c main_arg2 _ = _
  rw [V_mean]
  refine congrArg (m ((c.tc : Thread nD τ).loc main_arg2)) ?_
  blk_ext [hi, h1, h2]
/-- A point's block of an argument. -/
theorem read_meanSq : iblk m c 3 t y = (m ((c.tc : Thread nD τ).loc main_arg3)) (ix3 0 (i 1) (i 2)) := by
  have hi := index_of t
  have h0 : (y 0).val < 1 := (y 0).isLt
  unfold iblk
  blk_simp [hi]
  show V m c main_arg3 _ = _
  rw [V_meanSq]
  refine congrArg (m ((c.tc : Thread nD τ).loc main_arg3)) ?_
  blk_ext [hi, h1, h2]

omit h1 h2

/-- The whole gradient. -/
theorem final_grad : (dats m 0 c).arrAt 4 cfg0.N = beside (total (m ((c.tc : Thread nD τ).loc main_arg0))) (m ((c.tc : Thread nD τ).loc main_arg4)) := by
  funext i
  refine ((dats m 0 c).arrAt_apply_of_coversWhere 4 (fun q : S2x616x2048.Idx => total (m ((c.tc : Thread nD τ).loc main_arg0)) (q 1) (q 2)) (P := fun q : S2x616x2048.Idx => (q 0).val = 0)
    (fun β => β (0 : Fin 3) = 0) (by decide +kernel) (fun t hf y => ?_) (fun q => by blk_simp [Pipeline.Window.cell_apply]; omega) i).trans ?_
  · have hi := index_of t
    blk_simp
    rw [after0_4]
    refine (out_grad m c t y).trans ?_
    rw [read_grad m c t y ((win0_4.blk t).view.emb y) ?_ ?_]
    all_goals blk_simp [hi]
  · rw [A_eq]
    show (if _ then _ else V m c main_v1_0 i) = _
    rw [V_beside0]
    rfl

/-- The whole weights' change. -/
theorem final_change : (dats m 0 c).arrAt 5 cfg0.N = beside (rowChange (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg5)) := by
  funext i
  refine ((dats m 0 c).arrAt_apply_of_coversWhere 5 (fun q : S2x616x2048.Idx => rowChange (m ((c.tc : Thread nD τ).loc main_arg0)) (m ((c.tc : Thread nD τ).loc main_arg1)) (m ((c.tc : Thread nD τ).loc main_arg2)) (m ((c.tc : Thread nD τ).loc main_arg3)) (q 1) (q 2)) (P := fun q : S2x616x2048.Idx => (q 0).val = 0)
    (fun β => β (0 : Fin 3) = 0) (by decide +kernel) (fun t hf y => ?_) (fun q => by blk_simp [Pipeline.Window.cell_apply]; omega) i).trans ?_
  · have hi := index_of t
    blk_simp
    rw [after0_5]
    refine (out_change m c t y).trans ?_
    unfold rowChange
    rw [read_grad m c t y ((win0_5.blk t).view.emb y) ?_ ?_, read_weight m c t y ((win0_5.blk t).view.emb y) ?_ ?_, read_mean m c t y ((win0_5.blk t).view.emb y) ?_ ?_, read_meanSq m c t y ((win0_5.blk t).view.emb y) ?_ ?_]
    all_goals blk_simp [hi]
  · rw [A_eq]
    show (if _ then _ else V m c main_v1_1 i) = _
    rw [V_beside1]
    rfl

/-- The whole gradient's running average. -/
theorem final_mean : (dats m 0 c).arrAt 6 cfg0.N = beside (rowMean (m ((c.tc : Thread nD τ).loc main_arg0)) (m ((c.tc : Thread nD τ).loc main_arg2))) (m ((c.tc : Thread nD τ).loc main_arg6)) := by
  funext i
  refine ((dats m 0 c).arrAt_apply_of_coversWhere 6 (fun q : S2x616x2048.Idx => rowMean (m ((c.tc : Thread nD τ).loc main_arg0)) (m ((c.tc : Thread nD τ).loc main_arg2)) (q 1) (q 2)) (P := fun q : S2x616x2048.Idx => (q 0).val = 0)
    (fun β => β (0 : Fin 3) = 0) (by decide +kernel) (fun t hf y => ?_) (fun q => by blk_simp [Pipeline.Window.cell_apply]; omega) i).trans ?_
  · have hi := index_of t
    blk_simp
    rw [after0_6]
    refine (out_mean m c t y).trans ?_
    unfold rowMean
    rw [read_grad m c t y ((win0_6.blk t).view.emb y) ?_ ?_, read_mean m c t y ((win0_6.blk t).view.emb y) ?_ ?_]
    all_goals blk_simp [hi]
  · rw [A_eq]
    show (if _ then _ else V m c main_v1_2 i) = _
    rw [V_beside2]
    rfl

/-- The whole square's running average. -/
theorem final_meanSq : (dats m 0 c).arrAt 7 cfg0.N = beside (rowMeanSq (m ((c.tc : Thread nD τ).loc main_arg0)) (m ((c.tc : Thread nD τ).loc main_arg3))) (m ((c.tc : Thread nD τ).loc main_arg7)) := by
  funext i
  refine ((dats m 0 c).arrAt_apply_of_coversWhere 7 (fun q : S2x616x2048.Idx => rowMeanSq (m ((c.tc : Thread nD τ).loc main_arg0)) (m ((c.tc : Thread nD τ).loc main_arg3)) (q 1) (q 2)) (P := fun q : S2x616x2048.Idx => (q 0).val = 0)
    (fun β => β (0 : Fin 3) = 0) (by decide +kernel) (fun t hf y => ?_) (fun q => by blk_simp [Pipeline.Window.cell_apply]; omega) i).trans ?_
  · have hi := index_of t
    blk_simp
    rw [after0_7]
    refine (out_meanSq m c t y).trans ?_
    unfold rowMeanSq
    rw [read_grad m c t y ((win0_7.blk t).view.emb y) ?_ ?_, read_meanSq m c t y ((win0_7.blk t).view.emb y) ?_ ?_]
    all_goals blk_simp [hi]
  · rw [A_eq]
    show (if _ then _ else V m c main_v1_3 i) = _
    rw [V_beside3]
    rfl

end Cert.AdamwWInIdeal.Step

namespace Cert.Proof

open Cert.AdamwWInIdeal Cert.AdamwWInIdeal.Step Cert.Optimizer
open Idealize.ShloMosaic Idealize.ShloMosaic.TcCoe

set_option maxHeartbeats 1000000 in
/-- The two texts of the body, at every point of the grid, are one. -/
theorem defs₀_AdamwWIn : Cert.AdamwWIn.defs₀ (F := Bits) = Cert.AdamwWInIdeal.defs₀ (F := Bits) := by
  refine congrArg Defs.onTc (funext fun l => ?_)
  match l with
  | 0 => exact funext fun ⟨_, _⟩ => rfl
  | ⟨_ + 1, h⟩ => exact absurd h (Nat.not_lt.2 (Nat.le_add_left _ _))

set_option maxHeartbeats 1000000 in
/-- The call at the hardware's numbers ends with its arguments unchanged and every counter at zero. -/
theorem frame_AdamwWIn : Cert.quiescent_AdamwWIn := fun m ρ _ => by
  rw [show Cert.AdamwWIn.defs (F := Bits) = Cert.AdamwWInIdeal.defs from congrArg (Pipeline.defs Cert.AdamwWInIdeal.pcfgs) defs₀_AdamwWIn,
    show Cert.AdamwWIn.main (F := Bits) = Cert.AdamwWInIdeal.main from rfl]
  exact Cert.AdamwWInIdeal.Gen.frame (F := Bits) m ρ

/-- The call at the extended reals ends with its arguments unchanged and every counter at zero. -/
theorem frame_AdamwWInIdeal : Cert.quiescent_AdamwWInIdeal := fun m ρ _ => Cert.AdamwWInIdeal.Gen.frame (F := Ideal) m ρ

/-- The reference ends with its arguments unchanged and every counter at zero. -/
theorem frame_reference_AdamwWIn : Cert.quiescent_AdamwWInReferenceIdeal := fun m ρ _ =>
  (θ_run Cert.AdamwWInReferenceIdeal.defs _ _).mono (fun r h => ⟨fun c => (h c).2.2.2.2, sem_eq_zero_of_no_sems rfl r.2⟩) (Cert.AdamwWInReferenceIdeal.Value.run (F := Ideal) m ρ)

/-- The call's results and the reference's are the same arrays. -/
theorem algebraic_AdamwWIn : Cert.algebraic_AdamwWInIdeal_AdamwWInReferenceIdeal := fun m g m' g' _ args => by
  refine ⟨fun c => beside (total (m ((c.tc : Thread nD τ).loc main_arg0))) (m ((c.tc : Thread nD τ).loc main_arg4)), fun c => beside (rowChange (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg5)), fun c => beside (rowMean (m ((c.tc : Thread nD τ).loc main_arg0)) (m ((c.tc : Thread nD τ).loc main_arg2))) (m ((c.tc : Thread nD τ).loc main_arg6)), fun c => beside (rowMeanSq (m ((c.tc : Thread nD τ).loc main_arg0)) (m ((c.tc : Thread nD τ).loc main_arg3))) (m ((c.tc : Thread nD τ).loc main_arg7)), ?_, ?_⟩
  · exact (θ_run _ _ _).mono (fun r h c => ⟨(h c).1.trans (final_grad m c), (h c).2.1.trans (final_change m c), (h c).2.2.1.trans (final_mean m c), (h c).2.2.2.1.trans (final_meanSq m c), (h c).2.2.2.2⟩) (Value.run_blocks m g)
  · refine (θ_run _ _ _).mono (fun r h c => ⟨(h c).1.trans ?_, (h c).2.1.trans ?_, (h c).2.2.1.trans ?_, (h c).2.2.2.1.trans ?_, (h c).2.2.2.2⟩) (Cert.AdamwWInReferenceIdeal.Value.run (F := Ideal) m' g')
    · rw [(args c).1, (args c).2.2.2.2.1]
      funext i
      rcases layer_cases i with he | he
      · rw [he]
        refine Eq.trans ?_ (beside_first _ _ (i 1) (i 2)).symm
        unfold total
        pointwise
      · rw [he]
        refine Eq.trans ?_ (beside_second _ _ (i 1) (i 2)).symm
        pointwise
    · rw [(args c).1, (args c).2.1, (args c).2.2.1, (args c).2.2.2.1, (args c).2.2.2.2.2.1]
      funext i
      rcases layer_cases i with he | he
      · rw [he]
        refine Eq.trans ?_ (beside_first _ _ (i 1) (i 2)).symm
        unfold rowChange change mean meanSq total
        pointwise
      · rw [he]
        refine Eq.trans ?_ (beside_second _ _ (i 1) (i 2)).symm
        pointwise
    · rw [(args c).1, (args c).2.2.1, (args c).2.2.2.2.2.2.1]
      funext i
      rcases layer_cases i with he | he
      · rw [he]
        refine Eq.trans ?_ (beside_first _ _ (i 1) (i 2)).symm
        unfold rowMean mean total
        pointwise
      · rw [he]
        refine Eq.trans ?_ (beside_second _ _ (i 1) (i 2)).symm
        pointwise
    · rw [(args c).1, (args c).2.2.2.1, (args c).2.2.2.2.2.2.2]
      funext i
      rcases layer_cases i with he | he
      · rw [he]
        refine Eq.trans ?_ (beside_first _ _ (i 1) (i 2)).symm
        unfold rowMeanSq meanSq total
        pointwise
      · rw [he]
        refine Eq.trans ?_ (beside_second _ _ (i 1) (i 2)).symm
        pointwise

end Cert.Proof

end
-- ==== Proof.Optimizer.WInSecond.lean ====
/-
  The optimiser's step of the input projection's second layer: each block of the call holds the sum of the devices' shares of the gradient, the two running averages and the change of
  the weight, entry by entry.
-/
module

public import proofs.«01_k».proof.Proof.Gen.AdamwWInB
public import proofs.«01_k».proof.Proof.Gen.AdamwWInBIdeal.Frame
public import proofs.«01_k».proof.Proof.Gen.AdamwWInBReferenceIdeal.Run
public import proofs.«01_k».proof.Proof.Optimizer.Step
public import Idealize.ShloMosaic.Lib.Pipeline.ValueKit
public import Idealize.ShloMosaic.Lib.KernelVsHost
public import proofs.«01_k».proof.Defs

@[expose] public section

set_option maxRecDepth 16384

noncomputable section

namespace Cert.AdamwWInBIdeal.Step

open Cert.AdamwWInBIdeal Cert.AdamwWInBIdeal.Gen Cert.Optimizer
open Idealize.ShloMosaic Idealize.ShloMosaic.TcCoe Idealize.ShloMosaic.Tactic Idealize.ShloMosaic.StableHlo

section Rows

variable (g : FVec Ideal S8x616x2048 .f32) (w a b : FVec Ideal S2x616x2048 .f32) (r : Fin 616) (e : Fin 2048)

/-- The layer's gradient: the devices' shares, summed. -/
def total : EReal := ∑ p : Fin 8, g (ix3 p r e)
/-- The layer's change of the weights. -/
def rowChange : EReal := change (total g r e) (w (ix3 1 r e)) (a (ix3 1 r e)) (b (ix3 1 r e))
/-- The layer's running average of the gradient. -/
def rowMean : EReal := mean (total g r e) (a (ix3 1 r e))
/-- The layer's running average of the gradient's square. -/
def rowMeanSq : EReal := meanSq (total g r e) (b (ix3 1 r e))

end Rows

variable (m : (ℓ : Loc nD τ sig) → Buf (Elt Ideal) ℓ) (c : Dev nD)

/-- The shares as the call finds them. -/
def shares (x : FVec Ideal S8x616x2048 .f32) : (⟨S8x616x2048, .bf16⟩ : BufTy).Contents (Elt Ideal) := truncf .bf16 x bitsLt_bf16_f32
/-- The host's lines leave the shares so. -/
theorem V_grad : V m c main_v0 = shares (m ((c.tc : Thread nD τ).loc main_arg0)) := by
  simp only [V, V0, hostOps0, List.flatten_cons, List.flatten_nil, List.append_nil]
  after_results_simp
  all_goals rfl
/-- The host's lines leave the weights as they are. -/
theorem V_weight : V m c main_arg1 = m ((c.tc : Thread nD τ).loc main_arg1) := V_main_arg1 m c
/-- The host's lines leave the gradient's running average as they are. -/
theorem V_mean : V m c main_arg2 = m ((c.tc : Thread nD τ).loc main_arg2) := V_main_arg2 m c
/-- The host's lines leave its square's running average as they are. -/
theorem V_meanSq : V m c main_arg3 = m ((c.tc : Thread nD τ).loc main_arg3) := V_main_arg3 m c

/-- Which blocks the grid's points read and write. -/
theorem index_of : ∀ t : Fin grid0.N, win0_0.index t = ![0, t.val, 0] ∧ win0_1.index t = ![1, t.val, 0] ∧ win0_2.index t = ![1, t.val, 0] ∧ win0_3.index t = ![1, t.val, 0] ∧ win0_4.index t = ![1, t.val, 0] ∧ win0_5.index t = ![1, t.val, 0] ∧ win0_6.index t = ![1, t.val, 0] ∧ win0_7.index t = ![1, t.val, 0] := by decide +kernel

variable (t : Fin cfg0.N) (y : S1x56x2048.Idx)

/-- A block of shares, summed. -/
def blockTotal (x : Vec Ideal S8x56x2048 .bf16) (y : S1x56x2048.Idx) : EReal := ∑ p : Fin 8, x (ix3 p (y 1) (y 2))

/-- What a point leaves of the gradient. -/
theorem out_grad : out0_4 (iblk m c 0 t) (iblk m c 1 t) (iblk m c 2 t) (iblk m c 3 t) y = blockTotal (iblk m c 0 t) y := by
  generalize iblk m c 0 t = g, iblk m c 1 t = w, iblk m c 2 t = a, iblk m c 3 t = b
  frame_out
  unfold blockTotal
  simp only [Fin.sum_univ_eight]
  pointwise [k0_pay1, k0_pay2, k0_pay3, k0_pay4, k0_pay5, k0_pay6, k0_pay7, k0_pay8]

/-- What a point leaves of the weights' change. -/
theorem out_change : out0_5 (iblk m c 0 t) (iblk m c 1 t) (iblk m c 2 t) (iblk m c 3 t) y = change (blockTotal (iblk m c 0 t) y) (iblk m c 1 t y) (iblk m c 2 t y) (iblk m c 3 t y) := by
  generalize iblk m c 0 t = g, iblk m c 1 t = w, iblk m c 2 t = a, iblk m c 3 t = b
  frame_out
  unfold blockTotal change mean meanSq
  simp only [Fin.sum_univ_eight]
  pointwise [k0_pay1, k0_pay2, k0_pay3, k0_pay4, k0_pay5, k0_pay6, k0_pay7, k0_pay8]

/-- What a point leaves of the gradient's running average. -/
theorem out_mean : out0_6 (iblk m c 0 t) (iblk m c 1 t) (iblk m c 2 t) (iblk m c 3 t) y = mean (blockTotal (iblk m c 0 t) y) (iblk m c 2 t y) := by
  generalize iblk m c 0 t = g, iblk m c 1 t = w, iblk m c 2 t = a, iblk m c 3 t = b
  frame_out
  unfold blockTotal mean
  simp only [Fin.sum_univ_eight]
  pointwise [k0_pay1, k0_pay2, k0_pay3, k0_pay4, k0_pay5, k0_pay6, k0_pay7, k0_pay8]

/-- What a point leaves of its square's running average. -/
theorem out_meanSq : out0_7 (iblk m c 0 t) (iblk m c 1 t) (iblk m c 2 t) (iblk m c 3 t) y = meanSq (blockTotal (iblk m c 0 t) y) (iblk m c 3 t y) := by
  generalize iblk m c 0 t = g, iblk m c 1 t = w, iblk m c 2 t = a, iblk m c 3 t = b
  frame_out
  unfold blockTotal meanSq
  simp only [Fin.sum_univ_eight]
  pointwise [k0_pay1, k0_pay2, k0_pay3, k0_pay4, k0_pay5, k0_pay6, k0_pay7, k0_pay8]

variable (i : S2x616x2048.Idx) (h1 : (i 1).val = t.val * 56 + (y 1).val) (h2 : (i 2).val = (y 2).val)

include h1 h2

/-- A point's block of the gradient. -/
theorem read_grad : blockTotal (iblk m c 0 t) y = total (m ((c.tc : Thread nD τ).loc main_arg0)) (i 1) (i 2) := by
  have hi := index_of t
  refine Finset.sum_congr rfl fun p _ => ?_
  unfold iblk
  blk_simp [hi]
  show V m c main_v0 _ = _
  rw [V_grad]
  refine congrArg (m ((c.tc : Thread nD τ).loc main_arg0)) ?_
  blk_ext [hi, h1, h2]
/-- A point's block of an argument. -/
theorem read_weight : iblk m c 1 t y = (m ((c.tc : Thread nD τ).loc main_arg1)) (ix3 1 (i 1) (i 2)) := by
  have hi := index_of t
  have h0 : (y 0).val < 1 := (y 0).isLt
  unfold iblk
  blk_simp [hi]
  show V m c main_arg1 _ = _
  rw [V_weight]
  refine congrArg (m ((c.tc : Thread nD τ).loc main_arg1)) ?_
  blk_ext [hi, h1, h2]
/-- A point's block of an argument. -/
theorem read_mean : iblk m c 2 t y = (m ((c.tc : Thread nD τ).loc main_arg2)) (ix3 1 (i 1) (i 2)) := by
  have hi := index_of t
  have h0 : (y 0).val < 1 := (y 0).isLt
  unfold iblk
  blk_simp [hi]
  show V m c main_arg2 _ = _
  rw [V_mean]
  refine congrArg (m ((c.tc : Thread nD τ).loc main_arg2)) ?_
  blk_ext [hi, h1, h2]
/-- A point's block of an argument. -/
theorem read_meanSq : iblk m c 3 t y = (m ((c.tc : Thread nD τ).loc main_arg3)) (ix3 1 (i 1) (i 2)) := by
  have hi := index_of t
  have h0 : (y 0).val < 1 := (y 0).isLt
  unfold iblk
  blk_simp [hi]
  show V m c main_arg3 _ = _
  rw [V_meanSq]
  refine congrArg (m ((c.tc : Thread nD τ).loc main_arg3)) ?_
  blk_ext [hi, h1, h2]

omit h1 h2

/-- The whole gradient of the layer. -/
theorem final_grad (r : Fin 616) (e : Fin 2048) : ((dats m 0 c).arrAt 4 cfg0.N : FVec Ideal S2x616x2048 .f32) (ix3 1 r e) = total (m ((c.tc : Thread nD τ).loc main_arg0)) r e := by
  refine ((dats m 0 c).arrAt_apply_of_coversWhere 4 (fun q : S2x616x2048.Idx => total (m ((c.tc : Thread nD τ).loc main_arg0)) (q 1) (q 2)) (P := fun q : S2x616x2048.Idx => (q 0).val = 1)
    (fun β => β (0 : Fin 3) = 1) (by decide +kernel) (fun t hf y => ?_) (fun q => by blk_simp [Pipeline.Window.cell_apply]; omega) _).trans ?_
  · have hi := index_of t
    blk_simp
    rw [after0_4]
    refine (out_grad m c t y).trans ?_
    rw [read_grad m c t y ((win0_4.blk t).view.emb y) ?_ ?_]
    all_goals blk_simp [hi]
  · exact if_pos rfl

/-- The whole weights' change of the layer. -/
theorem final_change (r : Fin 616) (e : Fin 2048) : ((dats m 0 c).arrAt 5 cfg0.N : FVec Ideal S2x616x2048 .f32) (ix3 1 r e) = rowChange (m ((c.tc : Thread nD τ).loc main_arg0)) (m ((c.tc : Thread nD τ).loc main_arg1)) (m ((c.tc : Thread nD τ).loc main_arg2)) (m ((c.tc : Thread nD τ).loc main_arg3)) r e := by
  refine ((dats m 0 c).arrAt_apply_of_coversWhere 5 (fun q : S2x616x2048.Idx => rowChange (m ((c.tc : Thread nD τ).loc main_arg0)) (m ((c.tc : Thread nD τ).loc main_arg1)) (m ((c.tc : Thread nD τ).loc main_arg2)) (m ((c.tc : Thread nD τ).loc main_arg3)) (q 1) (q 2)) (P := fun q : S2x616x2048.Idx => (q 0).val = 1)
    (fun β => β (0 : Fin 3) = 1) (by decide +kernel) (fun t hf y => ?_) (fun q => by blk_simp [Pipeline.Window.cell_apply]; omega) _).trans ?_
  · have hi := index_of t
    blk_simp
    rw [after0_5]
    refine (out_change m c t y).trans ?_
    unfold rowChange
    rw [read_grad m c t y ((win0_5.blk t).view.emb y) ?_ ?_, read_weight m c t y ((win0_5.blk t).view.emb y) ?_ ?_, read_mean m c t y ((win0_5.blk t).view.emb y) ?_ ?_, read_meanSq m c t y ((win0_5.blk t).view.emb y) ?_ ?_]
    all_goals blk_simp [hi]
  · exact if_pos rfl

/-- The whole gradient's running average of the layer. -/
theorem final_mean (r : Fin 616) (e : Fin 2048) : ((dats m 0 c).arrAt 6 cfg0.N : FVec Ideal S2x616x2048 .f32) (ix3 1 r e) = rowMean (m ((c.tc : Thread nD τ).loc main_arg0)) (m ((c.tc : Thread nD τ).loc main_arg2)) r e := by
  refine ((dats m 0 c).arrAt_apply_of_coversWhere 6 (fun q : S2x616x2048.Idx => rowMean (m ((c.tc : Thread nD τ).loc main_arg0)) (m ((c.tc : Thread nD τ).loc main_arg2)) (q 1) (q 2)) (P := fun q : S2x616x2048.Idx => (q 0).val = 1)
    (fun β => β (0 : Fin 3) = 1) (by decide +kernel) (fun t hf y => ?_) (fun q => by blk_simp [Pipeline.Window.cell_apply]; omega) _).trans ?_
  · have hi := index_of t
    blk_simp
    rw [after0_6]
    refine (out_mean m c t y).trans ?_
    unfold rowMean
    rw [read_grad m c t y ((win0_6.blk t).view.emb y) ?_ ?_, read_mean m c t y ((win0_6.blk t).view.emb y) ?_ ?_]
    all_goals blk_simp [hi]
  · exact if_pos rfl

/-- The whole square's running average of the layer. -/
theorem final_meanSq (r : Fin 616) (e : Fin 2048) : ((dats m 0 c).arrAt 7 cfg0.N : FVec Ideal S2x616x2048 .f32) (ix3 1 r e) = rowMeanSq (m ((c.tc : Thread nD τ).loc main_arg0)) (m ((c.tc : Thread nD τ).loc main_arg3)) r e := by
  refine ((dats m 0 c).arrAt_apply_of_coversWhere 7 (fun q : S2x616x2048.Idx => rowMeanSq (m ((c.tc : Thread nD τ).loc main_arg0)) (m ((c.tc : Thread nD τ).loc main_arg3)) (q 1) (q 2)) (P := fun q : S2x616x2048.Idx => (q 0).val = 1)
    (fun β => β (0 : Fin 3) = 1) (by decide +kernel) (fun t hf y => ?_) (fun q => by blk_simp [Pipeline.Window.cell_apply]; omega) _).trans ?_
  · have hi := index_of t
    blk_simp
    rw [after0_7]
    refine (out_meanSq m c t y).trans ?_
    unfold rowMeanSq
    rw [read_grad m c t y ((win0_7.blk t).view.emb y) ?_ ?_, read_meanSq m c t y ((win0_7.blk t).view.emb y) ?_ ?_]
    all_goals blk_simp [hi]
  · exact if_pos rfl

/-- Two windows on one array are windows it is only read through. -/
theorem shared (w w' : Fin cfg0.W) (hne : w ≠ w') (he : Pipeline.arrRef spec0 w = Pipeline.arrRef spec0 w') : (cfg0.win w).isOut = false := by
  revert w w'
  decide

/-- After the call the written layer is cut out. -/
theorem tail_grad : Pipeline.afterTail₀ cfgs (dats m) 0 (V0 m) [hostOps1] c main_v2 = (fun i => total (m ((c.tc : Thread nD τ).loc main_arg0)) (i 1) (i 2) : FVec Ideal S1x616x2048 .f32) := by
  have h := Pipeline.withArrays_arr_shared spec0 c (V0 m c) (fun w => (dats m 0 c).arrAt w cfg0.N)
    (fun w w' hne he => ((dats m 0 c).arrAt_in w (shared w w' hne he) _).trans (A_eq m c w)) 4
  have e : Pipeline.afterTail₀ cfgs (dats m) 0 (V0 m) [hostOps1] c main_v2
      = extractStridedSlice S1x616x2048 ![1, 0, 0] ((dats m 0 c).arrAt 4 cfg0.N : FVec Ideal S2x616x2048 .f32) slices_S2x616x2048_S1x616x2048_1_0_0 := by
    unfold Pipeline.afterTail₀
    simp only [hostOps1, List.flatten_cons, List.flatten_nil, List.append_nil]
    after_results_simp
    exact congrArg (fun q : FVec Ideal S2x616x2048 .f32 => extractStridedSlice S1x616x2048 ![1, 0, 0] q slices_S2x616x2048_S1x616x2048_1_0_0) h
  rw [e]
  funext i
  rw [← final_grad m c (i 1) (i 2)]
  pointwise

/-- After the call the written layer is cut out. -/
theorem tail_change : Pipeline.afterTail₀ cfgs (dats m) 0 (V0 m) [hostOps1] c main_v3 = (fun i => rowChange (m ((c.tc : Thread nD τ).loc main_arg0)) (m ((c.tc : Thread nD τ).loc main_arg1)) (m ((c.tc : Thread nD τ).loc main_arg2)) (m ((c.tc : Thread nD τ).loc main_arg3)) (i 1) (i 2) : FVec Ideal S1x616x2048 .f32) := by
  have h := Pipeline.withArrays_arr_shared spec0 c (V0 m c) (fun w => (dats m 0 c).arrAt w cfg0.N)
    (fun w w' hne he => ((dats m 0 c).arrAt_in w (shared w w' hne he) _).trans (A_eq m c w)) 5
  have e : Pipeline.afterTail₀ cfgs (dats m) 0 (V0 m) [hostOps1] c main_v3
      = extractStridedSlice S1x616x2048 ![1, 0, 0] ((dats m 0 c).arrAt 5 cfg0.N : FVec Ideal S2x616x2048 .f32) slices_S2x616x2048_S1x616x2048_1_0_0 := by
    unfold Pipeline.afterTail₀
    simp only [hostOps1, List.flatten_cons, List.flatten_nil, List.append_nil]
    after_results_simp
    exact congrArg (fun q : FVec Ideal S2x616x2048 .f32 => extractStridedSlice S1x616x2048 ![1, 0, 0] q slices_S2x616x2048_S1x616x2048_1_0_0) h
  rw [e]
  funext i
  rw [← final_change m c (i 1) (i 2)]
  pointwise

/-- After the call the written layer is cut out. -/
theorem tail_mean : Pipeline.afterTail₀ cfgs (dats m) 0 (V0 m) [hostOps1] c main_v4 = (fun i => rowMean (m ((c.tc : Thread nD τ).loc main_arg0)) (m ((c.tc : Thread nD τ).loc main_arg2)) (i 1) (i 2) : FVec Ideal S1x616x2048 .f32) := by
  have h := Pipeline.withArrays_arr_shared spec0 c (V0 m c) (fun w => (dats m 0 c).arrAt w cfg0.N)
    (fun w w' hne he => ((dats m 0 c).arrAt_in w (shared w w' hne he) _).trans (A_eq m c w)) 6
  have e : Pipeline.afterTail₀ cfgs (dats m) 0 (V0 m) [hostOps1] c main_v4
      = extractStridedSlice S1x616x2048 ![1, 0, 0] ((dats m 0 c).arrAt 6 cfg0.N : FVec Ideal S2x616x2048 .f32) slices_S2x616x2048_S1x616x2048_1_0_0 := by
    unfold Pipeline.afterTail₀
    simp only [hostOps1, List.flatten_cons, List.flatten_nil, List.append_nil]
    after_results_simp
    exact congrArg (fun q : FVec Ideal S2x616x2048 .f32 => extractStridedSlice S1x616x2048 ![1, 0, 0] q slices_S2x616x2048_S1x616x2048_1_0_0) h
  rw [e]
  funext i
  rw [← final_mean m c (i 1) (i 2)]
  pointwise

/-- After the call the written layer is cut out. -/
theorem tail_meanSq : Pipeline.afterTail₀ cfgs (dats m) 0 (V0 m) [hostOps1] c main_v5 = (fun i => rowMeanSq (m ((c.tc : Thread nD τ).loc main_arg0)) (m ((c.tc : Thread nD τ).loc main_arg3)) (i 1) (i 2) : FVec Ideal S1x616x2048 .f32) := by
  have h := Pipeline.withArrays_arr_shared spec0 c (V0 m c) (fun w => (dats m 0 c).arrAt w cfg0.N)
    (fun w w' hne he => ((dats m 0 c).arrAt_in w (shared w w' hne he) _).trans (A_eq m c w)) 7
  have e : Pipeline.afterTail₀ cfgs (dats m) 0 (V0 m) [hostOps1] c main_v5
      = extractStridedSlice S1x616x2048 ![1, 0, 0] ((dats m 0 c).arrAt 7 cfg0.N : FVec Ideal S2x616x2048 .f32) slices_S2x616x2048_S1x616x2048_1_0_0 := by
    unfold Pipeline.afterTail₀
    simp only [hostOps1, List.flatten_cons, List.flatten_nil, List.append_nil]
    after_results_simp
    exact congrArg (fun q : FVec Ideal S2x616x2048 .f32 => extractStridedSlice S1x616x2048 ![1, 0, 0] q slices_S2x616x2048_S1x616x2048_1_0_0) h
  rw [e]
  funext i
  rw [← final_meanSq m c (i 1) (i 2)]
  pointwise

end Cert.AdamwWInBIdeal.Step

namespace Cert.Proof

open Cert.AdamwWInBIdeal Cert.AdamwWInBIdeal.Step Cert.Optimizer
open Idealize.ShloMosaic Idealize.ShloMosaic.TcCoe

set_option maxHeartbeats 1000000 in
/-- The two texts of the body, at every point of the grid, are one. -/
theorem defs₀_AdamwWInB : Cert.AdamwWInB.defs₀ (F := Bits) = Cert.AdamwWInBIdeal.defs₀ (F := Bits) := by
  refine congrArg Defs.onTc (funext fun l => ?_)
  match l with
  | 0 => exact funext fun ⟨_, _⟩ => rfl
  | ⟨_ + 1, h⟩ => exact absurd h (Nat.not_lt.2 (Nat.le_add_left _ _))

set_option maxHeartbeats 1000000 in
/-- The call at the hardware's numbers ends with its arguments unchanged and every counter at zero. -/
theorem frame_AdamwWInB : Cert.quiescent_AdamwWInB := fun m ρ _ => by
  rw [show Cert.AdamwWInB.defs (F := Bits) = Cert.AdamwWInBIdeal.defs from congrArg (Pipeline.defs Cert.AdamwWInBIdeal.pcfgs) defs₀_AdamwWInB,
    show Cert.AdamwWInB.main (F := Bits) = Cert.AdamwWInBIdeal.main from rfl]
  exact Cert.AdamwWInBIdeal.Gen.frame (F := Bits) m ρ

/-- The call at the extended reals ends with its arguments unchanged and every counter at zero. -/
theorem frame_AdamwWInBIdeal : Cert.quiescent_AdamwWInBIdeal := fun m ρ _ => Cert.AdamwWInBIdeal.Gen.frame (F := Ideal) m ρ

/-- The reference ends with its arguments unchanged and every counter at zero. -/
theorem frame_reference_AdamwWInB : Cert.quiescent_AdamwWInBReferenceIdeal := fun m ρ _ =>
  (θ_run Cert.AdamwWInBReferenceIdeal.defs _ _).mono (fun r h => ⟨fun c => (h c).2.2.2.2, sem_eq_zero_of_no_sems rfl r.2⟩) (Cert.AdamwWInBReferenceIdeal.Value.run (F := Ideal) m ρ)

/-- The call's results and the reference's are the same arrays. -/
theorem algebraic_AdamwWInB : Cert.algebraic_AdamwWInBIdeal_AdamwWInBReferenceIdeal := fun m g m' g' _ args => by
  refine ⟨fun c => fun i : S1x616x2048.Idx => total (m ((c.tc : Thread nD τ).loc main_arg0)) (i 1) (i 2), fun c => fun i : S1x616x2048.Idx => rowChange (m ((c.tc : Thread nD τ).loc main_arg0)) (m ((c.tc : Thread nD τ).loc main_arg1)) (m ((c.tc : Thread nD τ).loc main_arg2)) (m ((c.tc : Thread nD τ).loc main_arg3)) (i 1) (i 2), fun c => fun i : S1x616x2048.Idx => rowMean (m ((c.tc : Thread nD τ).loc main_arg0)) (m ((c.tc : Thread nD τ).loc main_arg2)) (i 1) (i 2), fun c => fun i : S1x616x2048.Idx => rowMeanSq (m ((c.tc : Thread nD τ).loc main_arg0)) (m ((c.tc : Thread nD τ).loc main_arg3)) (i 1) (i 2), ?_, ?_⟩
  · exact (θ_run _ _ _).mono (fun r h c => ⟨((h.1 c).2 main_v2 (Pipeline.mem_restRefs_of main_v2 (by decide) (by decide))).trans (tail_grad m c), ((h.1 c).2 main_v3 (Pipeline.mem_restRefs_of main_v3 (by decide) (by decide))).trans (tail_change m c), ((h.1 c).2 main_v4 (Pipeline.mem_restRefs_of main_v4 (by decide) (by decide))).trans (tail_mean m c), ((h.1 c).2 main_v5 (Pipeline.mem_restRefs_of main_v5 (by decide) (by decide))).trans (tail_meanSq m c), h.2 c⟩) (θ_run_and (Cert.AdamwWInBIdeal.Gen.run_main m g) (Cert.AdamwWInBIdeal.Gen.unchanged m g))
  · refine (θ_run _ _ _).mono (fun r h c => ⟨(h c).1.trans ?_, (h c).2.1.trans ?_, (h c).2.2.1.trans ?_, (h c).2.2.2.1.trans ?_, (h c).2.2.2.2⟩) (Cert.AdamwWInBReferenceIdeal.Value.run (F := Ideal) m' g')
    · rw [(args c).1]
      funext i
      unfold total
      pointwise
    · rw [(args c).1, (args c).2.1, (args c).2.2.1, (args c).2.2.2]
      funext i
      unfold rowChange change mean meanSq total
      pointwise
    · rw [(args c).1, (args c).2.2.1]
      funext i
      unfold rowMean mean total
      pointwise
    · rw [(args c).1, (args c).2.2.2]
      funext i
      unfold rowMeanSq meanSq total
      pointwise

end Cert.Proof

end
-- ==== Proof.Forward.Offsets.lean ====
/-
  The grid point `(h, u)` of the forward call works on head `h` and on query block `u` (512 rows). Here are the closed forms of the row
  offsets, branch conditions and trip counts the kernel computes from `u` with 32-bit words.
-/
module

public import proofs.«01_k».proof.Proof.Gen.FlashFwdIdeal
public import Idealize.ShloMosaic.Lib.Tactic

@[expose] public section

set_option maxRecDepth 16384

namespace Cert.FlashFwdIdeal.Forward

open Cert.FlashFwdIdeal Cert.FlashFwdIdeal.Gen
open Idealize.ShloMosaic Idealize.ShloMosaic.Tactic

/-! ## Branches and trip counts -/

/-- The first branch is taken at `u = 0`, -/
theorem cond1_iff : ∀ i : grid0.Coords, k0_cond1 i = 1#1 ↔ (i 1).val = 0 := by decide +kernel
/-- the second at every other point, -/
theorem cond2_iff : ∀ i : grid0.Coords, k0_cond2 i = 1#1 ↔ 0 < (i 1).val := by decide +kernel
/-- the third at odd `u`, -/
theorem cond3_iff : ∀ i : grid0.Coords, k0_cond3 i = 1#1 ↔ (i 1).val % 2 = 1 := by decide +kernel
/-- the fourth at even `u`. -/
theorem cond4_iff : ∀ i : grid0.Coords, k0_cond4 i = 1#1 ↔ (i 1).val % 2 = 0 := by decide +kernel

/-- The counted loop runs over pairs of blocks. -/
theorem trips1_eq : ∀ i : grid0.Coords, (k0_t1_loop i).trips = ((i 1).val - 1) / 2 := by decide +kernel
/-- Its remainder loop runs no trip. -/
theorem trips2_eq : ∀ i : grid0.Coords, (k0_t2_loop i).trips = 0 := by decide +kernel

/-! ## Offsets -/

theorem off1_eq : ∀ i : grid0.Coords, k0_off1 i = ![0, 512 * min ((i 1).val + 1) 7, 0] := by decide +kernel
theorem off2_eq : ∀ i : grid0.Coords, k0_off2 i = ![0, 512 * min (i 1).val 7, 0] := by decide +kernel
theorem off3_eq : ∀ i : grid0.Coords, k0_off3 i = ![0, 512 * min (i 1).val 7, 0] := by decide +kernel
theorem off7_eq : ∀ i : grid0.Coords, k0_off7 i = ![0, 512 * min ((i 1).val + 1) 7, 0] := by decide +kernel
theorem off8_eq : ∀ i : grid0.Coords, k0_off8 i = ![0, 512 * min (i 1).val 7, 0] := by decide +kernel
theorem off9_eq : ∀ i : grid0.Coords, k0_off9 i = ![0, 512 * min (i 1).val 7, 0] := by decide +kernel
/-- The block before the last one. -/
theorem off10_eq : ∀ i : grid0.Coords, 0 < (i 1).val → k0_off10 i = ![0, 512 * min ((i 1).val - 1) 7, 0] := by decide +kernel
theorem off11_eq : ∀ i : grid0.Coords, k0_off11 i = ![0, 512 * min ((i 1).val + 1) 7, 0] := by decide +kernel

theorem off4_1 : ∀ (i : grid0.Coords) (t : Fin (k0_t1_loop i).trips), k0_off4 i t 1#32 = ![0, 512 * min (2 * t.val + 1) 7, 0] := by decide +kernel
theorem off4_2 : ∀ (i : grid0.Coords) (t : Fin (k0_t1_loop i).trips), k0_off4 i t 2#32 = ![0, 512 * min (2 * t.val + 2) 7, 0] := by decide +kernel
theorem off4_3 : ∀ (i : grid0.Coords) (t : Fin (k0_t1_loop i).trips), k0_off4 i t 3#32 = ![0, 512 * min (2 * t.val + 3) 7, 0] := by decide +kernel

instance (i : grid0.Coords) (t : Fin (k0_t1_loop i).trips) : ClosedOff (k0_off4 i t 1#32) := ⟨_, off4_1 i t⟩
instance (i : grid0.Coords) (t : Fin (k0_t1_loop i).trips) : ClosedOff (k0_off4 i t 2#32) := ⟨_, off4_2 i t⟩
instance (i : grid0.Coords) (t : Fin (k0_t1_loop i).trips) : ClosedOff (k0_off4 i t 3#32) := ⟨_, off4_3 i t⟩

end Cert.FlashFwdIdeal.Forward
-- ==== Proof.Forward.Sem.lean ====
/-
  What one grid point of the forward call computes, as plain functions of the arrays' blocks. The call goes over the query blocks; at each
  it visits the key blocks from the first one up to the diagonal one. For a pair of blocks it forms the scores (`produce`); from them it
  raises the running maximum of every row and adds the pair's share to the running sums, scaled down to the new maximum (`consume`).
-/
module

public import proofs.«01_k».proof.Proof.Gen.FlashFwdIdeal.Skeleton
public import Idealize.ShloMosaic.Lib.VecWindow

@[expose] public section

set_option maxRecDepth 16384

noncomputable section

namespace Cert.FlashFwdIdeal.Forward

open Cert.FlashFwdIdeal Cert.FlashFwdIdeal.Gen
open Idealize.ShloMosaic

variable {F : FTy → Type} [FloatOps F] [Named F]

/-! ## Blocks of the arrays -/

/-- A block of rows is in range. -/
theorem rows_inb (b : ℕ) : ∀ a, (![0, 512 * min b 7, 0] : Fin 3 → ℕ) a + S1x512x256.size a ≤ S1x4096x256.size a := by
  intro a; fin_cases a <;> simp [S1x512x256, S1x4096x256] <;> omega
theorem slot_inb (n : Fin 3) : ∀ a, (![n.val, 0, 0] : Fin 3 → ℕ) a + S1x512x512.size a ≤ S3x512x512.size a := by
  intro a; fin_cases a <;> simp [S1x512x512, S3x512x512] <;> omega
theorem left_inb : ∀ a, (![0, 0] : Fin 2 → ℕ) a + S512x128.size a ≤ S512x256.size a := by
  intro a; fin_cases a <;> simp [S512x128, S512x256]
theorem right_inb : ∀ a, (![0, 128] : Fin 2 → ℕ) a + S512x128.size a ≤ S512x256.size a := by
  intro a; fin_cases a <;> simp [S512x128, S512x256]

/-- Block `b` of a head's rows: those from `512 * b`; past the last block it is the last one. -/
def rows {α : Type} (x : S1x4096x256.Idx → α) (b : ℕ) : S1x512x256.Idx → α := VecWindow.window x ![0, 512 * min b 7, 0] S1x512x256.size (rows_inb b)
/-- One of the three slots. -/
def slot {α : Type} (x : S3x512x512.Idx → α) (n : Fin 3) : S1x512x512.Idx → α := VecWindow.window x ![n.val, 0, 0] S1x512x512.size (slot_inb n)
/-- The first 128 columns of the running sums, -/
def left {α : Type} (x : S512x256.Idx → α) : S512x128.Idx → α := VecWindow.window x ![0, 0] S512x128.size left_inb
/-- and the others. -/
def right {α : Type} (x : S512x256.Idx → α) : S512x128.Idx → α := VecWindow.window x ![0, 128] S512x128.size right_inb

/-- A slot replaced. -/
def putSlot {α : Type} (x : S3x512x512.Idx → α) (n : Fin 3) (w : S1x512x512.Idx → α) : S3x512x512.Idx → α := VecWindow.put x ![n.val, 0, 0] S1x512x512.size w

/-! ## The arithmetic of one pair of blocks -/

/-- The scores of a query block against a key block. -/
def scoreOf (q k : Vec F S1x512x256 .bf16) : Vec F S1x512x512 .f32 :=
  shapeCast S1x512x512 (matmul dot_S512x256_S512x256_S512x512_1_1_0_0_n_n none (shapeCast S512x256 q shapeCasts_S1x512x256_S512x256) (shapeCast S512x256 k shapeCasts_S1x512x256_S512x256) (constant S512x512 .f32 0x00000000#32)) shapeCasts_S512x512_S1x512x512

/-- The scores as a matrix, -/
def plainOf (s : Vec F S1x512x512 .f32) : FVec F S512x512 .f32 := shapeCast S512x512 s shapeCasts_S1x512x512_S512x512

/-- and on the diagonal, where a key after the query has the least score there is. -/
def maskedOf (s : Vec F S1x512x512 .f32) : FVec F S512x512 .f32 :=
  select (cmpi .sle (iota .tc S512x512 32 [1] iota_S512x512_d1_w32) (iota .tc S512x512 32 [0] iota_S512x512_d0_w32)) (plainOf s) (broadcast S512x512 (Named.named κ "mask" 0xF149F2CA#32))

/-- The maximum of every row, raised to a pair's scores. -/
def topNext (s : FVec F S512x512 .f32) (m : Vec F S512x128 .f32) : FVec F S512x128 .f32 :=
  maximumf m (broadcastTo S512x128 (shapeCast S512x1 (multiReduction .maximumf [1] S512 s 0xFF800000#32 reduces_S512x512_S512 (.inl rfl) rfl) shapeCasts_S512_S512x1) broadcasts_S512x1_S512x128)

/-- A value per row in 128 columns, four times side by side, -/
def wide4 (m : FVec F S512x128 .f32) : FVec F S512x512 .f32 :=
  concatenate S512x512 1 [⟨S512x128, m⟩, ⟨S512x128, m⟩, ⟨S512x128, m⟩, ⟨S512x128, m⟩] concatenates_S512x128_S512x128_S512x128_S512x128_S512x512_d1
/-- and twice. -/
def wide2 (m : FVec F S512x128 .f32) : FVec F S512x256 .f32 :=
  concatenate S512x256 1 [⟨S512x128, m⟩, ⟨S512x128, m⟩] concatenates_S512x128_S512x128_S512x256_d1

/-- A pair's weights, relative to the new maximum. -/
def weightOf (s : FVec F S512x512 .f32) (m : Vec F S512x128 .f32) : FVec F S512x512 .bf16 :=
  truncf .bf16 (exp2 (subf s (wide4 (topNext s m)))) bitsLt_bf16_f32

/-- By how much the sums so far are scaled down. -/
def scaleOf (s : FVec F S512x512 .f32) (m : Vec F S512x128 .f32) : FVec F S512x256 .f32 := wide2 (exp2 (subf m (topNext s m)))

/-- The running sums, with one more pair's share. -/
def accNext (s : FVec F S512x512 .f32) (v : Vec F S1x512x256 .bf16) (m : Vec F S512x128 .f32) (acc : Vec F S512x256 .f32) : Vec F S512x256 .f32 :=
  shapeCast S512x256 (addf (mulf (scaleOf s m) acc) (matmul dot_S512x512_S512x256_S512x256_1_0_0_1_n_n none (weightOf s m) (shapeCast S512x256 v shapeCasts_S1x512x256_S512x256) (constant S512x256 .f32 0x00000000#32))) shapeCasts_S512x256_S512x256

/-! ## The state of one head and its steps -/

/-- The blocks a grid point reads: queries, keys, and the values beside columns of ones. -/
structure In (F : FTy → Type) [FloatOps F] where
  q : Vec F S1x4096x256 .bf16
  k : Vec F S1x4096x256 .bf16
  v : Vec F S1x4096x256 .bf16

/-- The buffers it updates: the running maxima, the running sums, and the slots of scores. -/
structure St (F : FTy → Type) [FloatOps F] where
  top : Vec F S512x128 .f32
  acc : Vec F S512x256 .f32
  buf : Vec F S3x512x512 .f32

/-- Nothing visited yet: the least maximum there is, and sums of nothing. -/
def reset (s : St F) : St F :=
  { s with
    top := shapeCast S512x128 (broadcast S512x128 (Named.named κ "mask" 0xF149F2CA#32)) shapeCasts_S512x128_S512x128
    acc := shapeCast S512x256 (broadcast S512x256 (Scalar.ofBits .f32 0x00000000#32)) shapeCasts_S512x256_S512x256 }

/-- Scores of query block `b` against key block `j`, into slot `n`. -/
def produce (x : In F) (b j : ℕ) (n : Fin 3) (s : St F) : St F :=
  { s with buf := putSlot s.buf n (scoreOf (rows x.q b) (rows x.k j)) }

/-- The share of key block `j`, of scores `p`. -/
def consumeWith (p : FVec F S512x512 .f32) (x : In F) (j : ℕ) (s : St F) : St F :=
  { s with
    top := shapeCast S512x128 (topNext p s.top) shapeCasts_S512x128_S512x128
    acc := accNext p (rows x.v j) s.top s.acc }

/-- The same from slot `n`, off the diagonal, -/
def consume (x : In F) (j : ℕ) (n : Fin 3) (s : St F) : St F := consumeWith (plainOf (slot s.buf n)) x j s
/-- and on the diagonal. -/
def consumeMasked (x : In F) (j : ℕ) (n : Fin 3) (s : St F) : St F := consumeWith (maskedOf (slot s.buf n)) x j s

/-- One trip of the counted loop: two blocks, each one's scores formed a step ahead. -/
def pairStep (x : In F) (u t : ℕ) (s : St F) : St F :=
  consume x (2 * t + 2) 0 (produce x u (2 * t + 3) 1 (consume x (2 * t + 1) 1 (produce x u (2 * t + 2) 0 s)))

/-- The first `t` trips. -/
def pairs (x : In F) (u : ℕ) : ℕ → St F → St F
  | 0, s => s
  | t + 1, s => pairStep x u t (pairs x u t s)

/-- The head's first query block: its one key block is the diagonal one; the scores of the next query block's first pair are formed ahead. -/
def first (x : In F) (s : St F) : St F := produce x 1 0 2 (consumeMasked x 0 2 (produce x 0 0 2 (reset s)))

/-- A later query block up to its last trip of the counted loop. -/
def start (x : In F) (u : ℕ) (s : St F) : St F := pairs x u ((u - 1) / 2) (consume x 0 2 (produce x u 1 1 (reset s)))

/-- The rest of an odd one: the diagonal block is left. -/
def finishOdd (x : In F) (u : ℕ) (s : St F) : St F := consumeMasked x u 1 (produce x (u + 1) 0 2 s)
/-- The rest of an even one: the diagonal block and the one before it are left. -/
def finishEven (x : In F) (u : ℕ) (s : St F) : St F := consumeMasked x u 0 (produce x (u + 1) 0 2 (consume x (u - 1) 1 (produce x u u 0 s)))

/-- The query block's output as it is handed back: the weighted values over the weights' sums. -/
def outOf (acc : Vec F S512x256 .f32) : Vec F S512x128 .f32 := divf (left acc) (right acc)
/-- The logarithms to base two of its rows' sums of exponentials. -/
def lseOf (top : Vec F S512x128 .f32) (acc : Vec F S512x256 .f32) : Vec F S1x1x1x512 .f32 :=
  shapeCast S1x1x1x512 (extractStridedSlice S1x512 ![0, 0] (transpose S128x512 [1, 0]
    (addf top (mulf (log (right acc)) (broadcast S512x128 (Named.named κ "log2e" 0x3FB8AA3B#32)))) transposes_S512x128_p1_0_S128x512)
    slices_S128x512_o0_0_S1x512) shapeCasts_S1x512_S1x1x1x512

end Cert.FlashFwdIdeal.Forward
-- ==== Proof.Forward.Trip.lean ====
/-
  The buffers one grid point works on, held at given values, and one trip of the counted loop over them.
-/
module

public import proofs.«01_k».proof.Proof.Forward.Offsets
public import proofs.«01_k».proof.Proof.Forward.Sem
public import proofs.«01_k».proof.Proof.Gen.FlashFwdIdeal.Loops
public import Idealize.ShloMosaic.Lib.Tactic
public import Idealize.ShloMosaic.Lib.VecWindow

@[expose] public section

set_option maxRecDepth 16384

noncomputable section

namespace Cert.FlashFwdIdeal.Forward

open Cert.FlashFwdIdeal Cert.FlashFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU (nD : ℕ) (τ : Topo) := UR sig nD τ
abbrev 𝒱₀ : Variants := Variants.none
local notation "𝕄" => MT nD τ sig Unit (Elt F) ℕ (UU nD τ) ℕ

/-- A memref held at the value `X`. -/
abbrev at_ (c : Dev nD) {sp : Space} {s : Shape} {e : EltTy} (m : Memref sig .tc sp s e) (X : s.Idx → Elt F e) : sProp 𝕄 :=
  m.view.loc (c : Thread nD τ) ↦[m.view.set]{fullShare} m.view.rep X

/-! ## Loads and stores by their closed forms -/

section Access

variable {sp : Space} {e : EltTy}

theorem ld_rows (v : View sig .tc sp S1x4096x256 e) (f : v.ty.Contents (Elt F)) {off : Fin 3 → ℕ} {b : ℕ} (h : off = ![0, 512 * min b 7, 0]) (inb : ∀ a, off a + S1x512x256.size a ≤ S1x4096x256.size a) :
    v.readAt (Elt F) (Rect.unit (s := S1x4096x256) off S1x512x256.size inb).toLoadRect f = rows (v.read (Elt F) f) b := View.readAt_unit v f inb h _
theorem ld_slot (v : View sig .tc sp S3x512x512 e) (f : v.ty.Contents (Elt F)) {off : Fin 3 → ℕ} {n : Fin 3} (h : off = ![n.val, 0, 0]) (inb : ∀ a, off a + S1x512x512.size a ≤ S3x512x512.size a) :
    v.readAt (Elt F) (Rect.unit (s := S3x512x512) off S1x512x512.size inb).toLoadRect f = slot (v.read (Elt F) f) n := View.readAt_unit v f inb h _
theorem st_slot (v : View sig .tc sp S3x512x512 e) (f : v.ty.Contents (Elt F)) {off : Fin 3 → ℕ} {n : Fin 3} (h : off = ![n.val, 0, 0]) (inb : ∀ a, off a + S1x512x512.size a ≤ S3x512x512.size a)
    (w : S1x512x512.Idx → Elt F e) (L : List (View.Piece (Elt F) S3x512x512 e)) :
    v.read (Elt F) (v.writes (Elt F) f (⟨Rect.unit (s := S3x512x512) off S1x512x512.size inb, w⟩ :: L)) = putSlot (v.read (Elt F) (v.writes (Elt F) f L)) n w := View.read_writes_cons_put v f inb w L h
/-- A load of the slots after stores into them. -/
theorem cov_slots (v : View sig .tc sp S3x512x512 e) {off : Fin 3 → ℕ} {n : Fin 3} (h : off = ![n.val, 0, 0]) (inb : ∀ a, off a + S1x512x512.size a ≤ S3x512x512.size a)
    (L : List (View.Piece (Elt F) S3x512x512 e)) :
    v.readCov L (Rect.unit (s := S3x512x512) off S1x512x512.size inb).toLoadRect = slot (v.read (Elt F) (v.writes (Elt F) v.junk L)) n := by
  show v.readAt (Elt F) _ (v.writes (Elt F) _ _) = _
  rw [ld_slot v _ h]

theorem ld_acc (v : View sig .tc sp S512x256 e) (f : v.ty.Contents (Elt F)) {off : Fin 2 → ℕ} (inb : ∀ a, off a + S512x256.size a ≤ S512x256.size a) :
    v.readAt (Elt F) (Rect.unit (s := S512x256) off S512x256.size inb).toLoadRect f = v.read (Elt F) f := View.readAt_full v f inb
theorem ld_top (v : View sig .tc sp S512x128 e) (f : v.ty.Contents (Elt F)) {off : Fin 2 → ℕ} (inb : ∀ a, off a + S512x128.size a ≤ S512x128.size a) :
    v.readAt (Elt F) (Rect.unit (s := S512x128) off S512x128.size inb).toLoadRect f = v.read (Elt F) f := View.readAt_full v f inb
theorem st_acc (v : View sig .tc sp S512x256 e) (f : v.ty.Contents (Elt F)) {off : Fin 2 → ℕ} (inb : ∀ a, off a + S512x256.size a ≤ S512x256.size a) (w : S512x256.Idx → Elt F e) (L : List (View.Piece (Elt F) S512x256 e)) :
    v.read (Elt F) (v.writes (Elt F) f (⟨Rect.unit (s := S512x256) off S512x256.size inb, w⟩ :: L)) = w := View.read_writes_full v f inb w L
theorem st_top (v : View sig .tc sp S512x128 e) (f : v.ty.Contents (Elt F)) {off : Fin 2 → ℕ} (inb : ∀ a, off a + S512x128.size a ≤ S512x128.size a) (w : S512x128.Idx → Elt F e) (L : List (View.Piece (Elt F) S512x128 e)) :
    v.read (Elt F) (v.writes (Elt F) f (⟨Rect.unit (s := S512x128) off S512x128.size inb, w⟩ :: L)) = w := View.read_writes_full v f inb w L
theorem st_lse (v : View sig .tc sp S1x1x1x512 e) (f : v.ty.Contents (Elt F)) {off : Fin 4 → ℕ} (inb : ∀ a, off a + S1x1x1x512.size a ≤ S1x1x1x512.size a) (w : S1x1x1x512.Idx → Elt F e) (L : List (View.Piece (Elt F) S1x1x1x512 e)) :
    v.read (Elt F) (v.writes (Elt F) f (⟨Rect.unit (s := S1x1x1x512) off S1x1x1x512.size inb, w⟩ :: L)) = w := View.read_writes_full v f inb w L
theorem cov_acc (v : View sig .tc sp S512x256 e) {off : Fin 2 → ℕ} (inb inb' : ∀ a, off a + S512x256.size a ≤ S512x256.size a) (w : S512x256.Idx → Elt F e) (L : List (View.Piece (Elt F) S512x256 e)) :
    v.readCov (⟨Rect.unit (s := S512x256) off S512x256.size inb, w⟩ :: L) (Rect.unit (s := S512x256) off S512x256.size inb').toLoadRect = w := View.readCov_full v inb' inb w L
theorem cov_top (v : View sig .tc sp S512x128 e) {off : Fin 2 → ℕ} (inb inb' : ∀ a, off a + S512x128.size a ≤ S512x128.size a) (w : S512x128.Idx → Elt F e) (L : List (View.Piece (Elt F) S512x128 e)) :
    v.readCov (⟨Rect.unit (s := S512x128) off S512x128.size inb, w⟩ :: L) (Rect.unit (s := S512x128) off S512x128.size inb').toLoadRect = w := View.readCov_full v inb' inb w L

theorem ld_left (v : View sig .tc sp S512x256 e) (f : v.ty.Contents (Elt F)) (inb : ∀ a, (![0, 0] : Fin 2 → ℕ) a + S512x128.size a ≤ S512x256.size a) :
    v.readAt (Elt F) (Rect.unit (s := S512x256) ![0, 0] S512x128.size inb).toLoadRect f = left (v.read (Elt F) f) := View.readAt_unit v f inb rfl _
theorem ld_right (v : View sig .tc sp S512x256 e) (f : v.ty.Contents (Elt F)) (inb : ∀ a, (![0, 128] : Fin 2 → ℕ) a + S512x128.size a ≤ S512x256.size a) :
    v.readAt (Elt F) (Rect.unit (s := S512x256) ![0, 128] S512x128.size inb).toLoadRect f = right (v.read (Elt F) f) := View.readAt_unit v f inb rfl _
/-- A load of half the columns after stores into all of them. -/
theorem cov_left (v : View sig .tc sp S512x256 e) (inb : ∀ a, (![0, 0] : Fin 2 → ℕ) a + S512x128.size a ≤ S512x256.size a) (L : List (View.Piece (Elt F) S512x256 e)) :
    v.readCov L (Rect.unit (s := S512x256) ![0, 0] S512x128.size inb).toLoadRect = left (v.read (Elt F) (v.writes (Elt F) v.junk L)) := by
  show v.readAt (Elt F) _ (v.writes (Elt F) _ _) = _
  rw [ld_left v _]
theorem cov_right (v : View sig .tc sp S512x256 e) (inb : ∀ a, (![0, 128] : Fin 2 → ℕ) a + S512x128.size a ≤ S512x256.size a) (L : List (View.Piece (Elt F) S512x256 e)) :
    v.readCov L (Rect.unit (s := S512x256) ![0, 128] S512x128.size inb).toLoadRect = right (v.read (Elt F) (v.writes (Elt F) v.junk L)) := by
  show v.readAt (Elt F) _ (v.writes (Elt F) _ _) = _
  rw [ld_right v _]

/-- One store, as a list of stores. -/
theorem fold_write {s : Shape} (v : View sig .tc sp s e) (r : Rect s) (f : v.ty.Contents (Elt F)) (w : r.shape.Idx → Elt F e) :
    View.write (Elt F) (v.slice r) f w Finset.univ = v.writes (Elt F) f [⟨r, w⟩] := rfl

/-- The row values side by side, by their names. -/
theorem fold_wide4 (m : FVec F S512x128 .f32) (h) : concatenate S512x512 1 [⟨S512x128, m⟩, ⟨S512x128, m⟩, ⟨S512x128, m⟩, ⟨S512x128, m⟩] h = wide4 m := rfl
theorem fold_wide2 (m : FVec F S512x128 .f32) (h) : concatenate S512x256 1 [⟨S512x128, m⟩, ⟨S512x128, m⟩] h = wide2 m := rfl

end Access

theorem slot_put_same {α : Type} (x : S3x512x512.Idx → α) (n : Fin 3) (w : S1x512x512.Idx → α) : slot (putSlot x n w) n = w := VecWindow.window_put_same ..
theorem slot_put_ne {α : Type} (x : S3x512x512.Idx → α) {n m : Fin 3} (h : m ≠ n) (w : S1x512x512.Idx → α) : slot (putSlot x n w) m = slot x m :=
  VecWindow.window_put_of_disjoint _ _ _ _ _ _ _ (0 : Fin 3) (by
    have : m.val ≠ n.val := fun e => h (Fin.ext e)
    show m.val + 1 ≤ n.val ∨ n.val + 1 ≤ m.val
    omega)

section Trip

variable (c : Dev nD) (i : grid0.Coords)
  (arg2 : Memref sig .tc .vmem S1x4096x256 .bf16) (harg2 : arg2.IsWhole) (arg3 : Memref sig .tc .vmem S1x4096x256 .bf16) (harg3 : arg3.IsWhole)
  (arg4 : Memref sig .tc .vmem S1x4096x256 .bf16) (harg4 : arg4.IsWhole) (arg5 : Memref sig .tc .vmem S512x128 .f32) (harg5 : arg5.IsWhole)
  (arg6 : Memref sig .tc .vmem S1x1x1x512 .f32) (harg6 : arg6.IsWhole) (arg7 : Memref sig .tc .vmem S512x128 .f32) (harg7 : arg7.IsWhole)
  (arg8 : Memref sig .tc .vmem S512x256 .f32) (harg8 : arg8.IsWhole) (arg9 : Memref sig .tc .vmem S3x512x512 .f32) (harg9 : arg9.IsWhole)

/-- The three blocks read, at their values. -/
abbrev ins (x : In F) : sProp 𝕄 := iprop(at_ c arg2 x.q ∗ at_ c arg3 x.k ∗ at_ c arg4 x.v)
/-- The three buffers updated, at theirs. -/
abbrev sts (s : St F) : sProp 𝕄 := iprop(at_ c arg7 s.top ∗ at_ c arg8 s.acc ∗ at_ c arg9 s.buf)

abbrev res (x : In F) (s : St F) : sProp 𝕄 := iprop(ins c arg2 arg3 arg4 x ∗ sts c arg7 arg8 arg9 s)

theorem trip (k : Fin (k0_t1_loop i).trips) (h2 : k0_cond2 i = 1#1) (w1 : BitVec 32) (v49 : FVec F S512x128 .f32) (v64 : FVec F S512x256 .f32) (x : In F) (s : St F) :
    res c arg2 arg3 arg4 arg7 arg8 arg9 x s
      ⊢ wp frame (wpE (defs₀ (F := F)) 𝒱₀ (c : Thread nD τ) none) Set.univ
          (k0_t1_body i arg2 harg2 arg3 harg3 arg4 harg4 arg5 harg5 arg6 harg6 arg7 harg7 arg8 harg8 arg9 harg9 w1 h2 v49 v64 k ())
          (fun _ => res c arg2 arg3 arg4 arg7 arg8 arg9 x (pairStep x (i 1).val k.val s)) := by
  iintro ⟨⟨H2, H3, H4⟩, H7, H8, H9⟩
  sl_unfold [k0_t1_body]
  sl_exec
  sl_step
  delta trip.sl.v186 trip.sl.v187 trip.sl.H7_1 trip.sl.v198 trip.sl.H8_1 trip.sl.H9_2 trip.sl.v185 trip.sl.v166 trip.sl.v163 trip.sl.v182 trip.sl.v135 trip.sl.v179 trip.sl.v132 trip.sl.v144 trip.sl.v160 trip.sl.v126 trip.sl.v178 trip.sl.cst_78 trip.sl.v131 trip.sl.v143 trip.sl.v152 trip.sl.v159 trip.sl.v142 trip.sl.v150 trip.sl.v153 trip.sl.v158 trip.sl.cst_95 trip.sl.v141 trip.sl.v146 trip.sl.v149 trip.sl.v139 trip.sl.v145 trip.sl.v148 trip.sl.v138 trip.sl.v147
  ihave G7 := (pointsTo_rep_entails (c : Thread nD τ) arg7 _ fullShare) $$ H7
  ihave G8 := (pointsTo_rep_entails (c : Thread nD τ) arg8 _ fullShare) $$ H8
  ihave G9 := (pointsTo_rep_entails (c : Thread nD τ) arg9 _ fullShare) $$ H9
  simp only [fold_wide4, fold_wide2, ld_rows (h := off4_1 i k), ld_rows (h := off4_2 i k), ld_rows (h := off4_3 i k), ld_rows (h := off3_eq i),
    ld_slot (off := ![0, 0, 0]) (n := 0) (h := rfl), ld_slot (off := ![1, 0, 0]) (n := 1) (h := rfl), cov_slots (off := ![0, 0, 0]) (n := 0) (h := rfl), cov_slots (off := ![1, 0, 0]) (n := 1) (h := rfl),
    st_slot (off := ![0, 0, 0]) (n := 0) (h := rfl), st_slot (off := ![1, 0, 0]) (n := 1) (h := rfl),
    ld_acc (off := ![0, 0]), ld_top (off := ![0, 0]), st_acc (off := ![0, 0]), st_top (off := ![0, 0]), cov_acc (off := ![0, 0]), cov_top (off := ![0, 0]),
    View.writes_nil, View.read_rep, slot_put_same, slot_put_ne, ne_eq, Fin.reduceEq, not_false_eq_true, zero_ne_one, one_ne_zero,
    pairStep, consume, consumeWith, produce]
  isplitl [H2 H3 H4]
  · isplitl [H2]; · iexact H2
    isplitl [H3]; · iexact H3
    iexact H4
  isplitl [G7]; · iexact G7
  isplitl [G8]; · iexact G8
  iexact G9

end Trip

end Cert.FlashFwdIdeal.Forward
-- ==== Proof.Forward.Sums.lean ====
/-
  What a grid point leaves, in closed form: a query block's running maxima and sums after its first `n` key blocks are functions of the head's
  arrays alone. That the call forms a pair's scores one step before it uses them, in one of three slots, does not show in the result:
  whenever a pair is used its slot holds that pair's scores (`Ready`).
-/
module

public import proofs.«01_k».proof.Proof.Forward.Trip

@[expose] public section

set_option maxRecDepth 16384

noncomputable section

namespace Cert.FlashFwdIdeal.Forward

open Cert.FlashFwdIdeal Cert.FlashFwdIdeal.Gen
open Idealize.ShloMosaic

variable {F : FTy → Type} [FloatOps F] [Named F]

/-- The scores of query block `u` against key block `j`: masked on the diagonal. -/
def pair (x : In F) (u j : ℕ) : FVec F S512x512 .f32 :=
  if j = u then maskedOf (scoreOf (rows x.q u) (rows x.k j)) else plainOf (scoreOf (rows x.q u) (rows x.k j))

/-- The running maxima of query block `u` after its first `n` key blocks. -/
def topSum (x : In F) (u : ℕ) : ℕ → Vec F S512x128 .f32
  | 0 => shapeCast S512x128 (broadcast S512x128 (Named.named κ "mask" 0xF149F2CA#32)) shapeCasts_S512x128_S512x128
  | j + 1 => shapeCast S512x128 (topNext (pair x u j) (topSum x u j)) shapeCasts_S512x128_S512x128

/-- The running sums. -/
def accSum (x : In F) (u : ℕ) : ℕ → Vec F S512x256 .f32
  | 0 => shapeCast S512x256 (broadcast S512x256 (Scalar.ofBits .f32 0x00000000#32)) shapeCasts_S512x256_S512x256
  | j + 1 => accNext (pair x u j) (rows x.v j) (topSum x u j) (accSum x u j)

/-- Slot `n` holds the scores of query block `b` against key block `j`. -/
def Ready (x : In F) (b j : ℕ) (n : Fin 3) (s : St F) : Prop := slot s.buf n = scoreOf (rows x.q b) (rows x.k j)

/-- The first `n` key blocks are done. -/
def Upto (x : In F) (u n : ℕ) (s : St F) : Prop := s.top = topSum x u n ∧ s.acc = accSum x u n

theorem Ready.same (x : In F) (b j : ℕ) (n : Fin 3) (s : St F) : Ready x b j n (produce x b j n s) := slot_put_same _ _ _
theorem Ready.other {x : In F} {b j : ℕ} {m : Fin 3} {s : St F} (h : Ready x b j m s) (x' : In F) (b' j' : ℕ) {n : Fin 3} (hn : m ≠ n) :
    Ready x b j m (produce x' b' j' n s) := (slot_put_ne _ hn _).trans h
theorem Ready.used {x : In F} {b j : ℕ} {m : Fin 3} {s : St F} (h : Ready x b j m s) (p : FVec F S512x512 .f32) (x' : In F) (j' : ℕ) :
    Ready x b j m (consumeWith p x' j' s) := h
theorem Upto.kept {x : In F} {u n : ℕ} {s : St F} (h : Upto x u n s) (x' : In F) (b' j' : ℕ) (m : Fin 3) : Upto x u n (produce x' b' j' m s) := h

/-- A step with the pair's own scores. -/
theorem Upto.step {x : In F} {u n : ℕ} {s : St F} (h : Upto x u n s) {p : FVec F S512x512 .f32} (hp : p = pair x u n) : Upto x u (n + 1) (consumeWith p x n s) := by
  obtain ⟨ht, ha⟩ := h
  subst hp
  refine ⟨?_, ?_⟩
  · show shapeCast S512x128 (topNext _ s.top) _ = shapeCast S512x128 (topNext _ (topSum x u n)) _; rw [ht]
  · show accNext _ _ s.top s.acc = accNext _ _ (topSum x u n) (accSum x u n); rw [ht, ha]
theorem Upto.off {x : In F} {u n : ℕ} {s : St F} (h : Upto x u n s) {m : Fin 3} (hr : Ready x u n m s) (hn : n ≠ u) : Upto x u (n + 1) (consume x n m s) :=
  h.step (by rw [pair, if_neg hn, hr])
theorem Upto.diag {x : In F} {u : ℕ} {s : St F} (h : Upto x u u s) {m : Fin 3} (hr : Ready x u u m s) : Upto x u (u + 1) (consumeMasked x u m s) :=
  h.step (by rw [pair, if_pos rfl, hr])

/-- After `t` trips of the counted loop the first `2 t + 1` key blocks are done and the next one's scores stand in slot 1. -/
theorem upto_pairs {x : In F} {u : ℕ} {s : St F} (h : Upto x u 1 s) (hr : Ready x u 1 1 s) :
    ∀ t, 2 * t + 1 ≤ u → Upto x u (2 * t + 1) (pairs x u t s) ∧ Ready x u (2 * t + 1) 1 (pairs x u t s)
  | 0, _ => ⟨h, hr⟩
  | t + 1, ht => by
    obtain ⟨h', hr'⟩ := upto_pairs h hr t (by omega)
    have h1 : Upto x u (2 * t + 2) (consume x (2 * t + 1) 1 (produce x u (2 * t + 2) 0 (pairs x u t s))) :=
      (h'.kept x u (2 * t + 2) 0).off (hr'.other x u (2 * t + 2) (by decide)) (by omega)
    have r1 : Ready x u (2 * t + 2) 0 (consume x (2 * t + 1) 1 (produce x u (2 * t + 2) 0 (pairs x u t s))) := (Ready.same x u (2 * t + 2) 0 _).used _ _ _
    exact ⟨(h1.kept x u (2 * t + 3) 1).off (r1.other x u (2 * t + 3) (by decide)) (by omega), (Ready.same x u (2 * t + 3) 1 _).used _ _ _⟩

/-- A later query block up to its last trip. -/
theorem upto_start {x : In F} {u : ℕ} (hu : 0 < u) {s : St F} (hr : Ready x u 0 2 s) :
    Upto x u (2 * ((u - 1) / 2) + 1) (start x u s) ∧ Ready x u (2 * ((u - 1) / 2) + 1) 1 (start x u s) := by
  have h0 : Upto x u 0 (produce x u 1 1 (reset s)) := ⟨rfl, rfl⟩
  have r0 : Ready x u 0 2 (produce x u 1 1 (reset s)) := Ready.other (s := reset s) hr x u 1 (by decide)
  exact upto_pairs (h0.off r0 (by omega)) ((Ready.same x u 1 1 _).used _ _ _) _ (by omega)

/-- A grid point: the head's first one. -/
theorem point_first (x : In F) (s : St F) : Upto x 0 1 (first x s) ∧ Ready x 1 0 2 (first x s) := by
  have h0 : Upto x 0 0 (produce x 0 0 2 (reset s)) := ⟨rfl, rfl⟩
  exact ⟨(h0.diag (Ready.same x 0 0 2 _)).kept _ _ _ _, Ready.same x 1 0 2 _⟩

/-- An odd one, -/
theorem point_odd (x : In F) {u : ℕ} (hu : u % 2 = 1) {s : St F} (hr : Ready x u 0 2 s) :
    Upto x u (u + 1) (finishOdd x u (start x u s)) ∧ Ready x (u + 1) 0 2 (finishOdd x u (start x u s)) := by
  obtain ⟨h, r⟩ := upto_start (x := x) (by omega) hr
  have e : 2 * ((u - 1) / 2) + 1 = u := by omega
  rw [e] at h r
  exact ⟨(h.kept x (u + 1) 0 2).diag (r.other x (u + 1) 0 (by decide)), (Ready.same x (u + 1) 0 2 _).used _ _ _⟩

/-- and a later even one. -/
theorem point_even (x : In F) {u : ℕ} (h0 : 0 < u) (hu : u % 2 = 0) {s : St F} (hr : Ready x u 0 2 s) :
    Upto x u (u + 1) (finishEven x u (start x u s)) ∧ Ready x (u + 1) 0 2 (finishEven x u (start x u s)) := by
  obtain ⟨h, r⟩ := upto_start (x := x) (by omega) hr
  have e : 2 * ((u - 1) / 2) + 1 = u - 1 := by omega
  rw [e] at h r
  have h1 := (h.kept x u u 0).off (r.other x u u (by decide)) (by omega)
  rw [show u - 1 + 1 = u by omega] at h1
  have r1 : Ready x u u 0 (consume x (u - 1) 1 (produce x u u 0 (start x u s))) := (Ready.same x u u 0 _).used _ _ _
  exact ⟨(h1.kept x (u + 1) 0 2).diag (r1.other x (u + 1) 0 (by decide)), (Ready.same x (u + 1) 0 2 _).used _ _ _⟩

end Cert.FlashFwdIdeal.Forward
-- ==== Proof.Forward.Blocks.lean ====
/-
  The blocks a grid point reads, as functions of the arrays the call is given: every window that is read holds one head.
-/
module

public import proofs.«01_k».proof.Proof.Forward.Sums
public import proofs.«01_k».proof.Proof.Gen.FlashFwdIdeal.Frame
public import Idealize.ShloMosaic.Lib.Pipeline.ValueKit

@[expose] public section

set_option maxRecDepth 16384

noncomputable section

namespace Cert.FlashFwdIdeal.Forward

open Cert.FlashFwdIdeal Cert.FlashFwdIdeal.Gen
open Idealize.ShloMosaic Idealize.ShloMosaic.TcCoe

variable {F : FTy → Type} [FloatOps F] [Named F]
variable (m : (ℓ : Loc nD τ sig) → Buf (Elt F) ℓ)

/-- A grid point's head and its query block. -/
theorem coords_eq : ∀ t : Fin grid0.N, (grid0.coords t 0).val = t.val / 8 ∧ (grid0.coords t 1).val = t.val % 8 := by decide +kernel

theorem index_in : ∀ t : Fin grid0.N, win0_0.index t = ![t.val / 8, 0, 0] ∧ win0_1.index t = ![t.val / 8, 0, 0] ∧ win0_2.index t = ![t.val / 8, 0, 0] := by decide +kernel
theorem index_out : ∀ t : Fin grid0.N, win0_3.index t = ![t.val % 8, t.val / 8] ∧ win0_4.index t = ![t.val / 8, t.val % 8, 0, 0] := by decide +kernel

/-- Head `h` of an array of heads. -/
def headOf {α : Type} (X : S8x4096x256.Idx → α) (h : Fin 8) : S1x4096x256.Idx → α := fun j => X (ix3 h (j 1) (j 2))

/-- What a head's grid points read. -/
def headIn (c : Dev nD) (h : Fin 8) : In F where
  q := headOf (V m c main_v8) h
  k := headOf (V m c main_v11) h
  v := headOf (V m c main_v16) h

/-- A grid point's head. -/
def headAt (t : Fin cfg0.N) : Fin 8 := ⟨t.val / 8, by have h : t.val < 64 := t.isLt; omega⟩

theorem iblk_q (c : Dev nD) (t : Fin cfg0.N) : iblk m c 0 t = (headIn m c (headAt t)).q := by
  funext y
  have hi := index_in t
  unfold iblk
  blk_simp [hi]
  show _ = V m c main_v8 (ix3 _ _ _)
  blk_ext [hi, headAt]
  all_goals try rfl
theorem iblk_k (c : Dev nD) (t : Fin cfg0.N) : iblk m c 1 t = (headIn m c (headAt t)).k := by
  funext y
  have hi := index_in t
  unfold iblk
  blk_simp [hi]
  show _ = V m c main_v11 (ix3 _ _ _)
  blk_ext [hi, headAt]
  all_goals try rfl
theorem iblk_v (c : Dev nD) (t : Fin cfg0.N) : iblk m c 2 t = (headIn m c (headAt t)).v := by
  funext y
  have hi := index_in t
  unfold iblk
  blk_simp [hi]
  show _ = V m c main_v16 (ix3 _ _ _)
  blk_ext [hi, headAt]
  all_goals try rfl

end Cert.FlashFwdIdeal.Forward
-- ==== Proof.Forward.Host.lean ====
/-
  What the call's three operands hold when it starts: the host operations before it, composed.
-/
module

public import proofs.«01_k».proof.Proof.Forward.Blocks

@[expose] public section

set_option maxRecDepth 16384

noncomputable section

namespace Cert.FlashFwdIdeal.Forward

open Cert.FlashFwdIdeal Cert.FlashFwdIdeal.Gen
open Idealize.ShloMosaic Idealize.ShloMosaic.TcCoe Idealize.ShloMosaic.Tactic Idealize.ShloMosaic.StableHlo

variable {F : FTy → Type} [FloatOps F] [Named F]

section Terms

variable (x0 x1 : (⟨S4096x8x192, .f32⟩ : BufTy).Contents (Elt F)) (x2 : (⟨S4096x8x128, .f32⟩ : BufTy).Contents (Elt F))

/-- Two's natural logarithm, as the host computes it. -/
def hostLn2 : (⟨S_, .f32⟩ : BufTy).Contents (Elt F) := id (Host.log (constant S_ .f32 0x40000000#32))

/-- The scaled queries, heads first, in 256 columns. -/
def hostQ : (⟨S8x4096x256, .bf16⟩ : BufTy).Contents (Elt F) :=
  truncf .bf16 (pad S8x4096x256 ![0, 0, 0] ![0, 0, 64] ![0, 0, 0]
    (transpose S8x4096x192 [1, 0, 2]
      (Host.divf (mulf x0 (broadcastInDim S4096x8x192 ![] bcast_S_S4096x8x192 (constant S_ .f32 0x3D93CD3A#32)))
        (broadcastInDim S4096x8x192 ![] bcast_S_S4096x8x192 hostLn2)) transposes_S4096x8x192_S8x4096x192_1_0_2)
    (sitofp .f32 (constantI S_ 32 0#32)) pads_S8x4096x192_S8x4096x256_000_000_0640 h_S_) bitsLt_bf16_f32

/-- The keys, heads first, in 256 columns. -/
def hostK : (⟨S8x4096x256, .bf16⟩ : BufTy).Contents (Elt F) :=
  truncf .bf16 (pad S8x4096x256 ![0, 0, 0] ![0, 0, 64] ![0, 0, 0]
    (transpose S8x4096x192 [1, 0, 2] x1 transposes_S4096x8x192_S8x4096x192_1_0_2)
    (sitofp .f32 (constantI S_ 32 0#32)) pads_S8x4096x192_S8x4096x256_000_000_0640 h_S_) bitsLt_bf16_f32

/-- The values, heads first, beside 128 columns of ones. -/
def hostVa : (⟨S8x4096x256, .bf16⟩ : BufTy).Contents (Elt F) :=
  truncf .bf16 (concatenate S8x4096x256 2
    [⟨S8x4096x128, pad S8x4096x128 ![0, 0, 0] ![0, 0, 0] ![0, 0, 0]
      (transpose S8x4096x128 [1, 0, 2] x2 transposes_S4096x8x128_S8x4096x128_1_0_2)
      (sitofp .f32 (constantI S_ 32 0#32)) pads_S8x4096x128_S8x4096x128_000_000_000 h_S_⟩,
     ⟨S8x4096x128, broadcastInDim S8x4096x128 ![] bcast_S_S8x4096x128 (constant S_ .f32 0x3F800000#32)⟩]
    concatenates_S8x4096x128_S8x4096x128_S8x4096x256_d2) bitsLt_bf16_f32

end Terms

variable (m : (ℓ : Loc nD τ sig) → Buf (Elt F) ℓ) (c : Dev nD)

set_option maxHeartbeats 4000000 in
theorem V_q : V m c main_v8 = hostQ (m ((c.tc : Thread nD τ).loc main_arg0)) := by
  simp only [V, hostOps0, hostOps0_1, hostOps0_2, hostOps0_3, hostOps0_4, hostOps0_5, hostOps0_6,
    List.flatten_cons, List.flatten_nil, List.append_nil, List.cons_append, List.nil_append,
    TRef.binary, TRef.nullary, TRef.ternary, TRef.unary, TRef.toBuf, TRef.ofBuf, cast_eq]
  after_results_simp
  all_goals rfl

set_option maxHeartbeats 4000000 in
theorem V_k : V m c main_v11 = hostK (m ((c.tc : Thread nD τ).loc main_arg1)) := by
  simp only [V, hostOps0, hostOps0_1, hostOps0_2, hostOps0_3, hostOps0_4, hostOps0_5, hostOps0_6,
    List.flatten_cons, List.flatten_nil, List.append_nil, List.cons_append, List.nil_append,
    TRef.binary, TRef.nullary, TRef.ternary, TRef.unary, TRef.toBuf, TRef.ofBuf, cast_eq]
  after_results_simp
  all_goals rfl

set_option maxHeartbeats 4000000 in
theorem V_va : V m c main_v16 = hostVa (m ((c.tc : Thread nD τ).loc main_arg2)) := by
  simp only [V, hostOps0, hostOps0_1, hostOps0_2, hostOps0_3, hostOps0_4, hostOps0_5, hostOps0_6,
    List.flatten_cons, List.flatten_nil, List.append_nil, List.cons_append, List.nil_append,
    TRef.binary, TRef.nullary, TRef.ternary, TRef.unary, TRef.toBuf, TRef.ofBuf, cast_eq]
  after_results_simp
  all_goals rfl

end Cert.FlashFwdIdeal.Forward
-- ==== Proof.Forward.Math.lean ====
/-
  The attention's output over the extended reals: the queries and keys are real, the values need not be. A row's weights may be taken
  relative to any real number, and scaled over from one to another; the quotient by their sum is the same.
-/
module

public import proofs.«01_k».proof.Proof.Flash.Math

@[expose] public section

noncomputable section

namespace Cert.Attention

open Idealize.ShloMosaic

/-- A real factor that is not negative goes inside a sum, whatever its terms. -/
theorem mul_sum_coe {ι : Type} (s : Finset ι) {p : ℝ} (hp : 0 ≤ p) (f : ι → EReal) : (p : EReal) * ∑ i ∈ s, f i = ∑ i ∈ s, (p : EReal) * f i := by
  classical
  refine Finset.induction_on s (by simp) fun a t ha ih => ?_
  rw [Finset.sum_insert ha, Finset.sum_insert ha,
    EReal.left_distrib_of_nonneg_of_ne_top (EReal.coe_nonneg.2 hp) (EReal.coe_ne_top p), ih]

namespace Operands

variable (A : Operands)

/-- The weight of key `c` for query `r` relative to `M`: nothing for a later key. -/
def weightAt (M : ℝ) (h : Fin 8) (r c : Fin 4096) : ℝ := if c ≤ r then Real.exp (A.score h r c - M) else 0

/-- The sum of a row's exponentials. -/
def whole (h : Fin 8) (r : Fin 4096) : ℝ := ∑ c, A.weightAt 0 h r c

/-- The share of key `c` in it. -/
def share (h : Fin 8) (r c : Fin 4096) : ℝ := A.weightAt 0 h r c / A.whole h r

/-- The logarithm to base two of the sum. -/
def lseOf (h : Fin 8) (r : Fin 4096) : ℝ := Real.log (A.whole h r) / Real.log 2

theorem weightAt_nonneg (M : ℝ) (h : Fin 8) (r c : Fin 4096) : 0 ≤ A.weightAt M h r c := by
  unfold weightAt; split
  · exact (Real.exp_pos _).le
  · exact le_rfl

theorem weightAt_later {M : ℝ} {h : Fin 8} {r c : Fin 4096} (hc : ¬c ≤ r) : A.weightAt M h r c = 0 := if_neg hc

/-- The weights relative to one number, from those relative to another. -/
theorem weightAt_move (M N : ℝ) (h : Fin 8) (r c : Fin 4096) : Real.exp (M - N) * A.weightAt M h r c = A.weightAt N h r c := by
  unfold weightAt
  split
  · rw [← Real.exp_add]; congr 1; ring
  · rw [mul_zero]

theorem sum_weightAt (M : ℝ) (h : Fin 8) (r : Fin 4096) : ∑ c, A.weightAt M h r c = Real.exp (-M) * A.whole h r := by
  unfold whole
  rw [Finset.mul_sum]
  refine Finset.sum_congr rfl fun c _ => ?_
  rw [← A.weightAt_move 0 M, zero_sub]

theorem whole_pos (h : Fin 8) (r : Fin 4096) : 0 < A.whole h r := by
  refine Finset.sum_pos' (fun c _ => A.weightAt_nonneg 0 h r c) ⟨r, Finset.mem_univ _, ?_⟩
  unfold weightAt; rw [if_pos le_rfl]; exact Real.exp_pos _

theorem sum_weightAt_pos (M : ℝ) (h : Fin 8) (r : Fin 4096) : 0 < ∑ c, A.weightAt M h r c := by
  rw [A.sum_weightAt]; exact mul_pos (Real.exp_pos _) (A.whole_pos h r)

/-- The quotient of a weight by its row's sum is the share, whatever the weights are relative to. -/
theorem weightAt_div (M : ℝ) (h : Fin 8) (r c : Fin 4096) : A.weightAt M h r c / (∑ c', A.weightAt M h r c') = A.share h r c := by
  unfold share
  rw [A.sum_weightAt, ← A.weightAt_move 0 M, zero_sub, mul_div_mul_left _ _ (Real.exp_pos _).ne']

/-- The logarithm of a row's sum, from weights relative to `M`. -/
theorem lse_of (M : ℝ) (h : Fin 8) (r : Fin 4096) : M / Real.log 2 + Real.log (∑ c, A.weightAt M h r c) * (Real.log 2)⁻¹ = A.lseOf h r := by
  unfold lseOf
  rw [A.sum_weightAt, Real.log_mul (Real.exp_pos _).ne' (A.whole_pos h r).ne', Real.log_exp]
  ring

/-- Two to the power of a score in base two less a number is a weight. -/
theorem two_pow_sub (μ : ℝ) (h : Fin 8) (r c : Fin 4096) (hc : c ≤ r) :
    Real.rpow 2 (A.score h r c / Real.log 2 - μ) = A.weightAt (μ * Real.log 2) h r c := by
  show (2 : ℝ) ^ (_ : ℝ) = _
  rw [Real.rpow_def_of_pos (by norm_num)]
  unfold weightAt
  rw [if_pos hc]
  congr 1
  have := log_two_ne
  field_simp

/-- The weighted mean of the values. -/
def mean (v : Fin 4096 → EReal) (h : Fin 8) (r : Fin 4096) : EReal := ∑ c, (A.share h r c : EReal) * v c

/-- The kernel's way to it: the quotient of the weighted sum by the weights' sum. -/
theorem mean_of (M : ℝ) (v : Fin 4096 → EReal) (h : Fin 8) (r : Fin 4096) :
    Ideal.div (∑ c, (A.weightAt M h r c : EReal) * v c) ((∑ c, A.weightAt M h r c : ℝ) : EReal) = A.mean v h r := by
  have hp := A.sum_weightAt_pos M h r
  rw [Ideal.div_coe hp.ne', mul_comm, mul_sum_coe _ (by positivity)]
  unfold mean
  refine Finset.sum_congr rfl fun c _ => ?_
  rw [← mul_assoc, ← EReal.coe_mul, ← A.weightAt_div M, div_mul_eq_mul_div, one_mul]

end Operands

end Cert.Attention
-- ==== Proof.Forward.Pairs.lean ====
/-
  What a head's grid points compute when the queries and keys they read are real: every row's running maximum is real, and its running sums are
  the weighted sums of the values over the keys visited, the weights relative to that maximum.
-/
module

public import proofs.«01_k».proof.Proof.Forward.Sums
public import proofs.«01_k».proof.Proof.Forward.Math
public import Idealize.ShloMosaic.Lib.Pipeline.ValueKit
public import Idealize.ShloMosaic.Lib.Pointwise
public import Idealize.ShloMosaic.Lib.MatmulPlain
public import Idealize.ShloMosaic.Lib.WordCmp

@[expose] public section

set_option maxRecDepth 16384

noncomputable section

namespace Cert.FlashFwdIdeal.Forward

open Cert.FlashFwdIdeal Cert.FlashFwdIdeal.Gen Cert.Attention
open Idealize.ShloMosaic

/-! ### Rows and blocks -/

/-- Row `a` of block `b`. -/
def rowAt (b : ℕ) (a : Fin 512) : Fin 4096 := ⟨512 * min b 7 + a.val, by omega⟩

theorem rowAt_le {u b : ℕ} (hb : b < u) (hu : u < 8) (a i : Fin 512) : rowAt b i ≤ rowAt u a := by
  show 512 * min b 7 + i.val ≤ 512 * min u 7 + a.val
  omega
theorem rowAt_not_le {u b : ℕ} (hb : u < b) (hu : b < 8) (a i : Fin 512) : ¬rowAt b i ≤ rowAt u a := by
  show ¬512 * min b 7 + i.val ≤ 512 * min u 7 + a.val
  omega
theorem rowAt_diag (u : ℕ) (a i : Fin 512) : rowAt u i ≤ rowAt u a ↔ i.val ≤ a.val := by
  show 512 * min u 7 + i.val ≤ 512 * min u 7 + a.val ↔ _
  omega

/-- Block and row within it, for every row. -/
def blockEquiv : Fin 8 × Fin 512 ≃ Fin 4096 where
  toFun p := rowAt p.1.val p.2
  invFun r := (⟨r.val / 512, by omega⟩, ⟨r.val % 512, Nat.mod_lt _ (by norm_num)⟩)
  left_inv p := by
    obtain ⟨b, a⟩ := p
    refine Prod.ext (Fin.ext ?_) (Fin.ext ?_)
    · show (512 * min b.val 7 + a.val) / 512 = b.val
      omega
    · show (512 * min b.val 7 + a.val) % 512 = a.val
      omega
  right_inv r := Fin.ext (by
    show 512 * min (r.val / 512) 7 + r.val % 512 = r.val
    omega)

/-- A sum over all rows of which the blocks from `n` on give nothing, block by block. -/
theorem sum_first {α : Type} [AddCommMonoid α] {n : ℕ} (hn : n ≤ 8) (f : Fin 4096 → α) (hf : ∀ b a, n ≤ b → b < 8 → f (rowAt b a) = 0) :
    ∑ b ∈ Finset.range n, ∑ a : Fin 512, f (rowAt b a) = ∑ r, f r := by
  have all : ∑ b ∈ Finset.range 8, ∑ a : Fin 512, f (rowAt b a) = ∑ r, f r := by
    rw [Finset.sum_range (fun b => ∑ a : Fin 512, f (rowAt b a)), ← Fintype.sum_prod_type' (fun (b : Fin 8) a => f (rowAt b.val a))]
    exact Fintype.sum_equiv blockEquiv _ _ fun p => rfl
  rw [← all]
  refine Finset.sum_subset (Finset.range_mono hn) fun b hb hb' => Finset.sum_eq_zero fun a _ => hf b a ?_ ?_
  · simpa using hb'
  · simpa using hb

theorem rows_apply {α : Type} (x : S1x4096x256.Idx → α) (b : ℕ) (a : Fin 512) (d : Fin 256) :
    rows x b (ix3 0 a d) = x (ix3 0 (rowAt b a) d) := by
  refine congrArg x (funext fun e => Fin.ext ?_)
  fin_cases e
  · rfl
  · show 512 * min b 7 + 1 * a.val = 512 * min b 7 + a.val
    omega
  · show 0 + 1 * d.val = d.val
    omega

/-! ### The two named constants -/

/-- The least score there is, -/
theorem mask_named : Named.named (F := Ideal) κ "mask" (φ := .f32) 0xF149F2CA#32 = (⊥ : EReal) := IdealRules.named_const.ideal_named_scalar _ _ _ _ rfl
/-- and the change of base. -/
theorem log2e_named : Named.named (F := Ideal) κ "log2e" (φ := .f32) 0x3FB8AA3B#32 = (((Real.log 2)⁻¹ : ℝ) : EReal) :=
  IdealRules.named_const.ideal_named_scalar _ _ _ _ rfl

/-! ### One pair of blocks -/

/-- The blocks of a head hold the operands `A`, and beside each key 256 numbers `v`. -/
structure Head (A : Operands) (v : Fin 4096 → Fin 256 → EReal) (h : Fin 8) (x : In Ideal) : Prop where
  q : ∀ r d, x.q (ix3 0 r d) = (A.qs h r d : EReal)
  k : ∀ c d, x.k (ix3 0 c d) = (A.ks h c d : EReal)
  v : ∀ c j, x.v (ix3 0 c j) = v c j

variable {A : Operands} {v : Fin 4096 → Fin 256 → EReal} {h : Fin 8} {x : In Ideal}

/-- The score of a query and a key, in base two. -/
theorem scoreOf_eq (H : Head A v h x) (u b : ℕ) (a i : Fin 512) :
    scoreOf (rows x.q u) (rows x.k b) (ix3 0 a i) = ((A.score h (rowAt u a) (rowAt b i) / Real.log 2 : ℝ) : EReal) := by
  unfold scoreOf
  pointwise
  rw [← A.sum_ks_qs, coe_sum]
  refine Finset.sum_congr rfl fun d _ => ?_
  rw [rows_apply, rows_apply, H.k, H.q, EReal.coe_mul, mul_comm]

/-- The scores of a pair of blocks: minus infinity for a later key. -/
theorem pair_eq (H : Head A v h x) {u b : ℕ} (hu : u < 8) (hb : b ≤ u) (a i : Fin 512) :
    pair x u b (ix2 a i) = if rowAt b i ≤ rowAt u a then ((A.score h (rowAt u a) (rowAt b i) / Real.log 2 : ℝ) : EReal) else ⊥ := by
  unfold pair
  split
  case isTrue e =>
    subst e
    unfold maskedOf plainOf
    pointwise
    rw [WordCmp.cmpi_sle_ofNat (by omega) (by omega), scoreOf_eq H, mask_named]
    by_cases hai : i.val ≤ a.val
    · rw [decide_eq_true hai, if_pos ((rowAt_diag b a i).2 hai)]
      rfl
    · rw [decide_eq_false hai, if_neg fun hc => hai ((rowAt_diag b a i).1 hc)]
      rfl
  case isFalse e =>
    unfold plainOf
    pointwise
    rw [scoreOf_eq H, if_pos (rowAt_le (by omega) hu a i)]

/-! ### The running maxima -/

/-- The maximum of a row of scores. -/
def rowMax (s : FVec Ideal S512x512 .f32) (a : Fin 512) : EReal :=
  multiReduction .maximumf [1] S512 s 0xFF800000#32 reduces_S512x512_S512 (.inl rfl) rfl (ix1 a)

theorem rowMax_eq (s : FVec Ideal S512x512 .f32) (a : Fin 512) :
    rowMax s a = (Finset.univ : Finset (Fin 512)).fold max (⊥ : EReal) fun i => s (ix2 a i) := by
  unfold rowMax
  refine (Ideal.multiReduction_maximumf_single s 0xFF800000#32 reduces_S512x512_S512 (.inl rfl) rfl (ix1 a)).trans ?_
  rw [show (FloatOps.ofBits FTy.f32 0xFF800000#32 : Ideal .f32) = (⊥ : EReal) from neg_inf_bits]
  refine Finset.fold_congr fun i _ => congrArg s (funext fun e => Fin.ext ?_)
  fin_cases e <;> rfl

/-- The running maximum of row `a`. -/
def peak (x : In Ideal) (u : ℕ) (a : Fin 512) : ℕ → EReal
  | 0 => ⊥
  | n + 1 => max (peak x u a n) (rowMax (pair x u n) a)

theorem topNext_eq (s : FVec Ideal S512x512 .f32) (m : Vec Ideal S512x128 .f32) (a : Fin 512) (l : Fin 128) :
    topNext s m (ix2 a l) = max (m (ix2 a l)) (rowMax s a) := by
  unfold topNext rowMax
  generalize multiReduction (F := Ideal) .maximumf [1] S512 s 0xFF800000#32 reduces_S512x512_S512 (.inl rfl) rfl = y
  pointwise

/-- Its 128 copies. -/
theorem topSum_eq (x : In Ideal) (u : ℕ) (a : Fin 512) (l : Fin 128) : ∀ n, topSum x u n (ix2 a l) = peak x u a n
  | 0 => by
    unfold topSum peak
    pointwise
    exact mask_named
  | n + 1 => by
    unfold topSum peak
    pointwise
    rw [topNext_eq, topSum_eq x u a l n]

theorem peak_lt_top (H : Head A v h x) {u : ℕ} (hu : u < 8) (a : Fin 512) : ∀ n, n ≤ u + 1 → peak x u a n < ⊤
  | 0, _ => bot_lt_top
  | n + 1, hn => by
    refine max_lt (peak_lt_top H hu a n (by omega)) ?_
    rw [rowMax_eq]
    refine (Finset.fold_max_lt _).2 ⟨bot_lt_top, fun i _ => ?_⟩
    rw [pair_eq H hu (by omega)]
    split
    · exact EReal.coe_lt_top _
    · exact bot_lt_top

theorem bot_lt_peak (H : Head A v h x) {u : ℕ} (hu : u < 8) (a : Fin 512) {n : ℕ} (hn : n ≤ u) : ⊥ < peak x u a (n + 1) := by
  refine lt_of_lt_of_le ?_ (le_max_right _ _)
  rw [rowMax_eq]
  refine (Finset.lt_fold_max _).2 (Or.inr ⟨a, Finset.mem_univ _, ?_⟩)
  rw [pair_eq H hu hn, if_pos]
  · exact EReal.bot_lt_coe _
  · show 512 * min n 7 + a.val ≤ 512 * min u 7 + a.val
    omega

/-- From the first key block on it is real. -/
theorem peak_real (H : Head A v h x) {u : ℕ} (hu : u < 8) (a : Fin 512) {n : ℕ} (hn : n ≤ u) :
    peak x u a (n + 1) = ((peak x u a (n + 1)).toReal : EReal) :=
  (EReal.coe_toReal (peak_lt_top H hu a _ (by omega)).ne (bot_lt_peak H hu a hn).ne').symm

/-! ### The running sums -/

/-- What the weights are relative to, as a natural logarithm. -/
def base (x : In Ideal) (u : ℕ) (a : Fin 512) (n : ℕ) : ℝ := (peak x u a n).toReal * Real.log 2

/-- A pair's weights, relative to the new maximum. -/
theorem weightOf_eq (H : Head A v h x) {u n : ℕ} (hu : u < 8) (hn : n ≤ u) (a i : Fin 512) :
    weightOf (pair x u n) (topSum x u n) (ix2 a i) = (A.weightAt (base x u a (n + 1)) h (rowAt u a) (rowAt n i) : EReal) := by
  have e : weightOf (pair x u n) (topSum x u n) (ix2 a i) = Ideal.exp2 (pair x u n (ix2 a i) - peak x u a (n + 1)) := by
    unfold weightOf wide4
    have hw : ∀ l : Fin 128, topNext (pair x u n) (topSum x u n) (ix2 a l) = peak x u a (n + 1) := fun l => by
      rw [topNext_eq, topSum_eq]; rfl
    generalize topNext (pair x u n) (topSum x u n) = y at hw
    pointwise
    simp only [hw]
    split_ifs <;> rfl
  rw [e, pair_eq H hu hn, peak_real H hu a hn]
  split
  case isTrue hc =>
    rw [← EReal.coe_sub, Ideal.exp2_coe, A.two_pow_sub _ h _ _ hc]
    rfl
  case isFalse hc =>
    rw [EReal.bot_sub, A.weightAt_later hc]
    rfl

/-- By how much the sums so far are scaled down. -/
theorem scaleOf_eq (x : In Ideal) (u n : ℕ) (a : Fin 512) (j : Fin 256) :
    scaleOf (pair x u n) (topSum x u n) (ix2 a j) = Ideal.exp2 (peak x u a n - peak x u a (n + 1)) := by
  unfold scaleOf wide2
  have hw : ∀ l : Fin 128, topNext (pair x u n) (topSum x u n) (ix2 a l) = peak x u a (n + 1) := fun l => by
    rw [topNext_eq, topSum_eq]; rfl
  have hm := fun l : Fin 128 => topSum_eq x u a l n
  generalize topNext (pair x u n) (topSum x u n) = y at hw
  generalize topSum x u n = z at hm
  pointwise
  simp only [hw, hm]
  split_ifs <;> rfl

/-- The running sums after the first `n` key blocks. -/
theorem accSum_eq (H : Head A v h x) {u : ℕ} (hu : u < 8) (a : Fin 512) (j : Fin 256) : ∀ n, n ≤ u + 1 →
    accSum x u n (ix2 a j) = ∑ b ∈ Finset.range n, ∑ i, (A.weightAt (base x u a n) h (rowAt u a) (rowAt b i) : EReal) * v (rowAt b i) j
  | 0, _ => by
    unfold accSum
    pointwise
    simp
  | n + 1, hn => by
    have ih := accSum_eq H hu a j n (by omega)
    have hs : scaleOf (pair x u n) (topSum x u n) (ix2 a j) * accSum x u n (ix2 a j)
        = ∑ b ∈ Finset.range n, ∑ i, (A.weightAt (base x u a (n + 1)) h (rowAt u a) (rowAt b i) : EReal) * v (rowAt b i) j := by
      rw [ih, scaleOf_eq]
      cases n with
      | zero => simp
      | succ n =>
        rw [peak_real H hu a (n := n) (by omega), peak_real H hu a (n := n + 1) (by omega), ← EReal.coe_sub, Ideal.exp2_coe,
          show Real.rpow 2 ((peak x u a (n + 1)).toReal - (peak x u a (n + 1 + 1)).toReal) = Real.exp (base x u a (n + 1) - base x u a (n + 1 + 1)) from by
            show (2 : ℝ) ^ (_ : ℝ) = _
            rw [Real.rpow_def_of_pos (by norm_num)]
            unfold base
            congr 1
            ring,
          mul_sum_coe _ (Real.exp_pos _).le]
        refine Finset.sum_congr rfl fun b _ => ?_
        rw [mul_sum_coe _ (Real.exp_pos _).le]
        refine Finset.sum_congr rfl fun i _ => ?_
        rw [← mul_assoc, ← EReal.coe_mul, A.weightAt_move]
    unfold accSum accNext
    pointwise
    rw [hs, Finset.sum_range_succ]
    refine congrArg _ (Finset.sum_congr rfl fun i _ => ?_)
    rw [weightOf_eq H hu (by omega), rows_apply, H.v]

/-- A query block's sums when it is over are over all keys: the later ones have no share. -/
theorem accSum_all (H : Head A v h x) {u : ℕ} (hu : u < 8) (a : Fin 512) (j : Fin 256) :
    accSum x u (u + 1) (ix2 a j) = ∑ c, (A.weightAt (base x u a (u + 1)) h (rowAt u a) c : EReal) * v c j := by
  rw [accSum_eq H hu a j _ le_rfl]
  exact sum_first (by omega) (fun c => (A.weightAt (base x u a (u + 1)) h (rowAt u a) c : EReal) * v c j) fun b i hb hb8 => by
    rw [A.weightAt_later (rowAt_not_le (by omega) hb8 a i), EReal.coe_zero, zero_mul]

/-! ### What a query block hands back -/

/-- The last 128 columns of the values are ones: there the sums are the weights' own. -/
theorem accSum_ones (H : Head A v h x) (hv : ∀ c (j : Fin 128), v c ⟨128 + j.val, by omega⟩ = 1) {u : ℕ} (hu : u < 8) (a : Fin 512) (j : Fin 128) :
    accSum x u (u + 1) (ix2 a ⟨128 + j.val, by omega⟩) = ((∑ c, A.weightAt (base x u a (u + 1)) h (rowAt u a) c : ℝ) : EReal) := by
  rw [accSum_all H hu, coe_sum]
  exact Finset.sum_congr rfl fun c _ => by rw [hv, mul_one]

theorem left_apply {α : Type} (y : S512x256.Idx → α) (a : Fin 512) (j : Fin 128) : left y (ix2 a j) = y (ix2 a ⟨j.val, by omega⟩) := by
  refine congrArg y (funext fun e => Fin.ext ?_)
  fin_cases e
  · show 0 + 1 * a.val = a.val
    omega
  · show 0 + 1 * j.val = j.val
    omega
theorem right_apply {α : Type} (y : S512x256.Idx → α) (a : Fin 512) (j : Fin 128) : right y (ix2 a j) = y (ix2 a ⟨128 + j.val, by omega⟩) := by
  refine congrArg y (funext fun e => Fin.ext ?_)
  fin_cases e
  · show 0 + 1 * a.val = a.val
    omega
  · show 128 + 1 * j.val = 128 + j.val
    omega

/-- The output: the weighted means of the values, -/
theorem out_eq (H : Head A v h x) (hv : ∀ c (j : Fin 128), v c ⟨128 + j.val, by omega⟩ = 1) {u : ℕ} (hu : u < 8) (a : Fin 512) (j : Fin 128) :
    outOf (accSum x u (u + 1)) (ix2 a j) = A.mean (fun c => v c ⟨j.val, by omega⟩) h (rowAt u a) := by
  unfold outOf
  pointwise
  rw [left_apply, right_apply, accSum_ones H hv hu, accSum_all H hu]
  exact A.mean_of _ _ _ _

/-- and the logarithms to base two of the rows' sums of exponentials. -/
theorem lse_eq (H : Head A v h x) (hv : ∀ c (j : Fin 128), v c ⟨128 + j.val, by omega⟩ = 1) {u : ℕ} (hu : u < 8) (a : Fin 512) :
    lseOf (topSum x u (u + 1)) (accSum x u (u + 1)) (ix4 0 0 0 a) = (A.lseOf h (rowAt u a) : EReal) := by
  have e : lseOf (topSum x u (u + 1)) (accSum x u (u + 1)) (ix4 0 0 0 a)
      = topSum x u (u + 1) (ix2 a 0) + Ideal.log (right (accSum x u (u + 1)) (ix2 a 0)) * Named.named (F := Ideal) κ "log2e" (φ := .f32) 0x3FB8AA3B#32 := by
    unfold lseOf
    pointwise
  rw [e, log2e_named, topSum_eq, right_apply, peak_real H hu a le_rfl]
  have hl := accSum_ones H hv hu a 0
  rw [hl, Ideal.log_coe, if_neg (A.sum_weightAt_pos _ h _).not_ge, ← EReal.coe_mul, ← EReal.coe_add, ← A.lse_of (base x u a (u + 1))]
  unfold base
  rw [mul_div_assoc, div_self log_two_ne, mul_one]

end Cert.FlashFwdIdeal.Forward
-- ==== Proof.Forward.Reference.lean ====
/-
  The reference's two results over the extended reals, from real queries and keys: the weighted means of the values, and the logarithms to base
  two of the rows' sums of exponentials.
-/
module

public import proofs.«01_k».proof.Proof.Gen.FlashFwdReferenceIdeal.Read
public import proofs.«01_k».proof.Proof.Forward.Math
public import Idealize.ShloMosaic.Lib.KernelVsHost
public import Idealize.ShloMosaic.Lib.WordCmp

@[expose] public section

set_option maxRecDepth 16384

noncomputable section

namespace Cert.FlashFwdReferenceIdeal.Attention

open Cert.FlashFwdReferenceIdeal Cert.FlashFwdReferenceIdeal.Gen Cert.FlashFwdReferenceIdeal.Read Cert.Attention Idealize.ShloMosaic
open Idealize.ShloMosaic.ValueIdx (ix3)

/-- A query or key argument: 4096 rows of 8 heads of 192 numbers. -/
abbrev QK : Type := (⟨S4096x8x192, .f32⟩ : BufTy).Contents (Elt Ideal)

/-- The values: 4096 rows of 8 heads of 128 numbers. -/
abbrev VV : Type := (⟨S4096x8x128, .f32⟩ : BufTy).Contents (Elt Ideal)

/-- The first two arguments hold `A`'s queries and keys. -/
structure HoldsQK (A : Operands) (x0 x1 : QK) : Prop where
  q : ∀ (i : S4096x8x192.Idx) (r : Fin 4096) (h : Fin 8) (d : Fin 192), i 0 = r → i 1 = h → i 2 = d →
    x0 i = (A.q r h d : EReal)
  k : ∀ (i : S4096x8x192.Idx) (r : Fin 4096) (h : Fin 8) (d : Fin 192), i 0 = r → i 1 = h → i 2 = d →
    x1 i = (A.k r h d : EReal)

variable {A : Operands} {x0 x1 : QK} {x2 : VV}

/-! ### The logarithms -/

theorem score_eq (H : HoldsQK A x0 x1) (i : S8x4096x4096.Idx) (h : Fin 8) (r c : Fin 4096) (hh : i 0 = h) (hr : i 1 = r)
    (hc : i 2 = c) : val_main_v2 (F := Ideal) x0 x1 i = (A.score h r c : EReal) := by
  rw [val_main_v2_apply, val_main_v0_apply, val_main_v1_apply, val_main_cst_apply]
  show _ * Ideal.ofBits .f32 0x3D93CD3A#32 = _
  rw [scale_bits]
  unfold Operands.score
  rw [EReal.coe_mul, coe_sum]
  refine congrArg (· * _) (Finset.sum_congr rfl fun d _ => ?_)
  rw [H.q (lidx_main_v0 i d) r h d hr hh rfl, H.k (ridx_main_v0 i d) c h d hc hh rfl, EReal.coe_mul]

/-- The mask keeps a key no later than the query. -/
theorem mask_eq (i : S8x4096x4096.Idx) (r c : Fin 4096) (hr : i 1 = r) (hc : i 2 = c) :
    val_main_call0_v1 (F := Ideal) i = BitVec.ofBool (decide (c ≤ r)) := by
  rw [val_main_call0_v1_apply, val_main_v9_apply, val_main_v8_apply, val_main_v6_apply, val_main_v7_apply,
    val_main_v4_apply, val_main_v5_apply, val_main_v3_apply, val_main_v3_apply]
  show IntOp.cmpi .sle (BitVec.ofNat 32 (i 2).val) (BitVec.ofNat 32 (i 1).val) = _
  rw [hr, hc, WordCmp.cmpi_sle_ofNat (show c.val < 2 ^ 31 from c.isLt.trans (by norm_num))
    (show r.val < 2 ^ 31 from r.isLt.trans (by norm_num))]
  rfl

/-- A choice by it. -/
theorem select_ofBool {r c : Fin 4096} (x y : EReal) :
    Scalar.select (BitVec.ofBool (decide (c ≤ r))) x y = if c ≤ r then x else y := by
  unfold Scalar.select
  by_cases h : c ≤ r
  · rw [if_pos h, if_pos]; simp [h]
  · rw [if_neg h, if_neg]; simp [h]

theorem masked_eq (H : HoldsQK A x0 x1) (i : S8x4096x4096.Idx) (h : Fin 8) (r c : Fin 4096) (hh : i 0 = h) (hr : i 1 = r)
    (hc : i 2 = c) : val_main_v10 (F := Ideal) x0 x1 i = if c ≤ r then (A.score h r c : EReal) else ⊥ := by
  rw [val_main_v10_apply, mask_eq i r c hr hc, select_ofBool, score_eq H i h r c hh hr hc, val_main_call0_v2_apply,
    val_main_call0_v0_apply]
  show (if _ then _ else Ideal.ofBits .f32 0xFF800000#32) = _
  rw [neg_inf_bits]

theorem whole_eq (H : HoldsQK A x0 x1) (i : S8x4096.Idx) (h : Fin 8) (r : Fin 4096) (hh : i 0 = h) (hr : i 1 = r) :
    val_main_v12 (F := Ideal) x0 x1 i = (A.whole h r : EReal) := by
  rw [val_main_v12_apply, val_main_cst_1_apply]
  show Ideal.ofBits .f32 0x00000000#32 + _ = _
  rw [Ideal.ofBits_zero_f32, zero_add]
  unfold Operands.whole
  rw [coe_sum]
  refine Finset.sum_congr rfl fun c _ => ?_
  rw [val_main_v11_apply, masked_eq H (idx_main_v12 i c) h r c hh hr rfl]
  show Ideal.exp _ = _
  unfold Operands.weightAt
  by_cases hcr : c ≤ r
  · rw [if_pos hcr, if_pos hcr, Ideal.exp_coe, sub_zero]
  · rw [if_neg hcr, if_neg hcr]; rfl

/-- The reference's second result. -/
theorem lse_eq (H : HoldsQK A x0 x1) (i : S8x8x1x512.Idx) (h : Fin 8) (r : Fin 4096) (hh : i 0 = h) (hr : (i 1).val * 512 + (i 3).val = r.val) :
    val_main_v43 (F := Ideal) x0 x1 i = (A.lseOf h r : EReal) := by
  have h0 : (i 0).val < 8 := (i 0).isLt
  have h1 : (i 1).val < 8 := (i 1).isLt
  have h2 : (i 2).val < 1 := (i 2).isLt
  have h3 : (i 3).val < 512 := (i 3).isLt
  have e0 : (idx_main_v43 i) 0 = h := Fin.ext (by
    rw [← hh]; show ((((i 0).val * 8 + (i 1).val) * 1 + (i 2).val) * 512 + (i 3).val) / 4096 = (i 0).val; omega)
  have e1 : (idx_main_v43 i) 1 = r := Fin.ext (by
    rw [← hr]; show ((((i 0).val * 8 + (i 1).val) * 1 + (i 2).val) * 512 + (i 3).val) % 4096 = _; omega)
  rw [val_main_v43_apply, val_main_v17_apply, val_main_v13_apply, val_main_v16_apply, val_main_v15_apply, val_main_v14_apply, val_main_cst_2_apply,
    whole_eq H _ h r e0 e1]
  show Ideal.div (Ideal.log ((A.whole h r : ℝ) : EReal)) (Ideal.log (Ideal.ofBits .f32 0x40000000#32)) = ((Real.log (A.whole h r) / Real.log 2 : ℝ) : EReal)
  rw [two_bits, log_two, Ideal.log_coe, if_neg (A.whole_pos h r).not_ge, div_coe_coe _ log_two_ne]

/-! ### The output -/

theorem score_eq' (H : HoldsQK A x0 x1) (i : S8x4096x4096.Idx) (h : Fin 8) (r c : Fin 4096) (hh : i 0 = h) (hr : i 1 = r)
    (hc : i 2 = c) : val_main_v20 (F := Ideal) x0 x1 i = (A.score h r c : EReal) := score_eq H i h r c hh hr hc

theorem masked_eq' (H : HoldsQK A x0 x1) (i : S8x4096x4096.Idx) (h : Fin 8) (r c : Fin 4096) (hh : i 0 = h) (hr : i 1 = r)
    (hc : i 2 = c) : val_main_v28 (F := Ideal) x0 x1 i = if c ≤ r then (A.score h r c : EReal) else ⊥ := masked_eq H i h r c hh hr hc

/-- The greatest score of a row is a real number: each is real or minus infinity, and the query's own is real. -/
theorem top_real (H : HoldsQK A x0 x1) (i : S8x4096.Idx) (h : Fin 8) (r : Fin 4096) (hh : i 0 = h) (hr : i 1 = r) :
    ((val_main_v29 (F := Ideal) x0 x1 i).toReal : EReal) = val_main_v29 (F := Ideal) x0 x1 i := by
  have e : val_main_v29 (F := Ideal) x0 x1 i = (Finset.univ : Finset (Fin 4096)).fold max (⊥ : EReal) fun c =>
      if c ≤ r then (A.score h r c : EReal) else ⊥ := by
    unfold val_main_v29
    haveI : Std.Commutative (FloatOps.maximumf : Ideal .f32 → Ideal .f32 → Ideal .f32) :=
      ⟨fun a b => max_comm (α := EReal) a b⟩
    haveI : Std.Associative (FloatOps.maximumf : Ideal .f32 → Ideal .f32 → Ideal .f32) :=
      ⟨fun a b c => max_assoc (α := EReal) a b c⟩
    rw [Host.reduce_eq_fold_single _ _ _ _ (by decide)]
    have hb : val_main_cst_5 (F := Ideal) (Shape.Idx.first h_S_) = (⊥ : EReal) := neg_inf_bits
    rw [hb]
    refine (Finset.fold_congr fun c _ => ?_).trans rfl
    exact masked_eq' H _ h r c hh hr rfl
  refine EReal.coe_toReal (ne_of_lt ?_) (ne_of_gt ?_)
  · rw [e]
    refine (Finset.fold_max_lt _).2 ⟨bot_lt_top, fun c _ => ?_⟩
    split
    · exact EReal.coe_lt_top _
    · exact bot_lt_top
  · rw [e]
    exact (Finset.lt_fold_max _).2 (Or.inr ⟨r, Finset.mem_univ _, by rw [if_pos le_rfl]; exact EReal.bot_lt_coe _⟩)

/-- A row's greatest score as a real number. -/
def topOf (x0 x1 : QK) (i : S8x4096.Idx) : ℝ := (val_main_v29 (F := Ideal) x0 x1 i).toReal

/-- The weights, relative to the greatest score. -/
theorem weight_eq (H : HoldsQK A x0 x1) (i : S8x4096x4096.Idx) (y : S8x4096.Idx) (h : Fin 8) (r c : Fin 4096) (hh : i 0 = h) (hr : i 1 = r) (hc : i 2 = c)
    (y0 : y 0 = h) (y1 : y 1 = r) : val_main_v35 (F := Ideal) x0 x1 i = (A.weightAt (topOf x0 x1 y) h r c : EReal) := by
  have ey : idx_main_v32 (idx_main_v33 i) = y := funext fun a => by
    match a with
    | ⟨0, _⟩ => exact hh.trans y0.symm
    | ⟨1, _⟩ => exact hr.trans y1.symm
  rw [val_main_v35_apply, val_main_v34_apply, masked_eq' H i h r c hh hr hc, val_main_v33_apply,
    val_main_v32_apply, val_main_v31_apply, val_main_v30_apply, val_main_cst_6_apply, ey, ← top_real H y h r y0 y1]
  show Ideal.exp (_ - max (Ideal.ofBits .f32 0xFF800000#32) ((topOf x0 x1 y : ℝ) : EReal)) = _
  rw [neg_inf_bits, max_eq_right bot_le]
  unfold Operands.weightAt
  by_cases hcr : c ≤ r
  · rw [if_pos hcr, if_pos hcr, ← EReal.coe_sub, Ideal.exp_coe]
  · rw [if_neg hcr, if_neg hcr, EReal.bot_sub]; rfl

theorem total_eq (H : HoldsQK A x0 x1) (i : S8x4096.Idx) (h : Fin 8) (r : Fin 4096) (hh : i 0 = h) (hr : i 1 = r) :
    val_main_v36 (F := Ideal) x0 x1 i = ((∑ c, A.weightAt (topOf x0 x1 i) h r c : ℝ) : EReal) := by
  rw [val_main_v36_apply, val_main_cst_7_apply]
  show Ideal.ofBits .f32 0x00000000#32 + _ = _
  rw [Ideal.ofBits_zero_f32, zero_add, coe_sum]
  exact Finset.sum_congr rfl fun c _ => weight_eq H (idx_main_v36 i c) i h r c hh hr rfl hh hr

/-- The shares. -/
theorem share_eq (H : HoldsQK A x0 x1) (i : S8x4096x4096.Idx) (h : Fin 8) (r c : Fin 4096) (hh : i 0 = h) (hr : i 1 = r) (hc : i 2 = c) :
    val_main_v39 (F := Ideal) x0 x1 i = (A.share h r c : EReal) := by
  rw [val_main_v39_apply, val_main_v38_apply, val_main_v37_apply, total_eq H _ h r hh hr,
    weight_eq H i (idx_main_v37 (idx_main_v38 i)) h r c hh hr hc hh hr]
  exact (div_coe_coe _ (A.sum_weightAt_pos _ h r).ne').trans (congrArg _ (A.weightAt_div _ h r c))

/-- The reference's first result. -/
theorem out_eq (H : HoldsQK A x0 x1) (i : S4096x1024.Idx) (r : Fin 4096) (h : Fin 8) (j : Fin 128) (hr : i 0 = r) (hj : (i 1).val = h.val * 128 + j.val) :
    val_main_v42 (F := Ideal) x0 x1 x2 i = A.mean (fun c => x2 (ix3 c h j)) h r := by
  have h0 : (i 0).val < 4096 := (i 0).isLt
  have h1 : (i 1).val < 1024 := (i 1).isLt
  have e : idx_main_v42 i = ix3 r h j := funext fun a => Fin.ext (by
    match a with
    | ⟨0, _⟩ => rw [← hr]; show ((i 0).val * 1024 + (i 1).val) / 1024 = (i 0).val; omega
    | ⟨1, _⟩ => show ((i 0).val * 1024 + (i 1).val) / 128 % 8 = h.val; omega
    | ⟨2, _⟩ => show ((i 0).val * 1024 + (i 1).val) % 128 = j.val; omega)
  rw [val_main_v42_apply, e, val_main_v41_apply, val_main_v40_apply]
  unfold Operands.mean
  refine Finset.sum_congr rfl fun c _ => ?_
  rw [share_eq H _ h r c rfl rfl rfl, mul_comm]
  refine congrArg (_ * x2 ·) (funext fun a => ?_)
  match a with
  | ⟨0, _⟩ => rfl
  | ⟨1, _⟩ => rfl
  | ⟨2, _⟩ => rfl

end Cert.FlashFwdReferenceIdeal.Attention
-- ==== Proof.Forward.Loop.lean ====
/-
  The counted loop's invariant: before its trip `k` the buffers hold what `k` trips leave.
-/
module

public import proofs.«01_k».proof.Proof.Forward.Trip

@[expose] public section

set_option maxRecDepth 16384

noncomputable section

namespace Cert.FlashFwdIdeal.Forward

open Cert.FlashFwdIdeal Cert.FlashFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

section Loop

variable (c : Dev nD) (i : grid0.Coords)
  (arg2 : Memref sig .tc .vmem S1x4096x256 .bf16) (harg2 : arg2.IsWhole) (arg3 : Memref sig .tc .vmem S1x4096x256 .bf16) (harg3 : arg3.IsWhole)
  (arg4 : Memref sig .tc .vmem S1x4096x256 .bf16) (harg4 : arg4.IsWhole) (arg5 : Memref sig .tc .vmem S512x128 .f32) (harg5 : arg5.IsWhole)
  (arg6 : Memref sig .tc .vmem S1x1x1x512 .f32) (harg6 : arg6.IsWhole) (arg7 : Memref sig .tc .vmem S512x128 .f32) (harg7 : arg7.IsWhole)
  (arg8 : Memref sig .tc .vmem S512x256 .f32) (harg8 : arg8.IsWhole) (arg9 : Memref sig .tc .vmem S3x512x512 .f32) (harg9 : arg9.IsWhole)

section Acc

variable (x : In F)
  (g7 : Buf (Elt F) (arg7.view.loc (c : Thread nD τ))) (g8 : Buf (Elt F) (arg8.view.loc (c : Thread nD τ))) (g9 : Buf (Elt F) (arg9.view.loc (c : Thread nD τ)))

/-- The values the buffers hold at the loop's entry. -/
abbrev entry : St F := ⟨arg7.view.read (Elt F) g7, arg8.view.read (Elt F) g8, arg9.view.read (Elt F) g9⟩

/-- After `k` trips. -/
abbrev after_ (k : ℕ) : St F := pairs x (i 1).val k (entry c arg7 arg8 arg9 g7 g8 g9)

/-- What `arg7` holds before trip `k`: at the entry what it held, then the trips' value. -/
def acc7 : ℕ → Buf (Elt F) (arg7.view.loc (c : Thread nD τ))
  | 0 => g7
  | k + 1 => arg7.view.rep (after_ c i arg7 arg8 arg9 x g7 g8 g9 (k + 1)).top

theorem read_acc7 (k : ℕ) : arg7.view.read (Elt F) (acc7 c i arg7 arg8 arg9 x g7 g8 g9 k) = (after_ c i arg7 arg8 arg9 x g7 g8 g9 k).top := by
  cases k with
  | zero => rfl
  | succ k => exact View.read_rep _ _

/-- What `arg8` holds before trip `k`: at the entry what it held, then the trips' value. -/
def acc8 : ℕ → Buf (Elt F) (arg8.view.loc (c : Thread nD τ))
  | 0 => g8
  | k + 1 => arg8.view.rep (after_ c i arg7 arg8 arg9 x g7 g8 g9 (k + 1)).acc

theorem read_acc8 (k : ℕ) : arg8.view.read (Elt F) (acc8 c i arg7 arg8 arg9 x g7 g8 g9 k) = (after_ c i arg7 arg8 arg9 x g7 g8 g9 k).acc := by
  cases k with
  | zero => rfl
  | succ k => exact View.read_rep _ _

/-- What `arg9` holds before trip `k`: at the entry what it held, then the trips' value. -/
def acc9 : ℕ → Buf (Elt F) (arg9.view.loc (c : Thread nD τ))
  | 0 => g9
  | k + 1 => arg9.view.rep (after_ c i arg7 arg8 arg9 x g7 g8 g9 (k + 1)).buf

theorem read_acc9 (k : ℕ) : arg9.view.read (Elt F) (acc9 c i arg7 arg8 arg9 x g7 g8 g9 k) = (after_ c i arg7 arg8 arg9 x g7 g8 g9 k).buf := by
  cases k with
  | zero => rfl
  | succ k => exact View.read_rep _ _

/-- The three buffers before trip `k`. -/
abbrev loopSts (k : ℕ) : sProp 𝕄 :=
  iprop((arg7.view.loc (c : Thread nD τ) ↦[arg7.view.set]{fullShare} acc7 c i arg7 arg8 arg9 x g7 g8 g9 k)
    ∗ (arg8.view.loc (c : Thread nD τ) ↦[arg8.view.set]{fullShare} acc8 c i arg7 arg8 arg9 x g7 g8 g9 k)
    ∗ (arg9.view.loc (c : Thread nD τ) ↦[arg9.view.set]{fullShare} acc9 c i arg7 arg8 arg9 x g7 g8 g9 k))

theorem loopSts_entails (k : ℕ) :
    loopSts c i arg7 arg8 arg9 x g7 g8 g9 k ⊢ sts c arg7 arg8 arg9 (after_ c i arg7 arg8 arg9 x g7 g8 g9 k) := by
  iintro ⟨H7, H8, H9⟩
  ihave G7 := (pointsTo_rep_entails (c : Thread nD τ) arg7 _ fullShare) $$ H7
  ihave G8 := (pointsTo_rep_entails (c : Thread nD τ) arg8 _ fullShare) $$ H8
  ihave G9 := (pointsTo_rep_entails (c : Thread nD τ) arg9 _ fullShare) $$ H9
  simp only [read_acc7, read_acc8, read_acc9]
  isplitl [G7]; · iexact G7
  isplitl [G8]; · iexact G8
  iexact G9

end Acc

variable (h2 : k0_cond2 i = 1#1)

set_option warn.classDefReducibility false in
/-- The loop's invariant. -/
@[sl_loop] def loopInv1 (w1 : BitVec 32) (x : In F)
    (g7 : Buf (Elt F) (arg7.view.loc (c : Thread nD τ))) (g8 : Buf (Elt F) (arg8.view.loc (c : Thread nD τ))) (g9 : Buf (Elt F) (arg9.view.loc (c : Thread nD τ))) :
    LoopInvTy_k0_t1 (F := F) Unit ℕ (UU nD τ) ℕ 𝒱₀ c none Set.univ i arg2 harg2 arg3 harg3 arg4 harg4 arg5 harg5 arg6 harg6 arg7 harg7 arg8 harg8 arg9 harg9 w1 h2 (constant S512x128 .f32 0#32) (constant S512x256 .f32 0#32) where
  inv k _ := iprop(ins c arg2 arg3 arg4 x ∗ loopSts c i arg7 arg8 arg9 x g7 g8 g9 k)
  step k _ := by
    iintro ⟨Hi, Hs⟩
    ihave Hs' := (loopSts_entails c i arg7 arg8 arg9 x g7 g8 g9 k.val) $$ Hs
    iapply (trip c i arg2 harg2 arg3 harg3 arg4 harg4 arg5 harg5 arg6 harg6 arg7 harg7 arg8 harg8 arg9 harg9 k h2 w1 _ _ x (after_ c i arg7 arg8 arg9 x g7 g8 g9 k.val))
    isplitl [Hi]; · iexact Hi
    iexact Hs'

set_option warn.classDefReducibility false in
/-- The remainder loop runs no trip. -/
@[sl_loop] def loopInv2 (w1 w4 : BitVec 32) (x : In F)
    (g7 : Buf (Elt F) (arg7.view.loc (c : Thread nD τ))) (g8 : Buf (Elt F) (arg8.view.loc (c : Thread nD τ))) (g9 : Buf (Elt F) (arg9.view.loc (c : Thread nD τ))) :
    LoopInvTy_k0_t2 (F := F) Unit ℕ (UU nD τ) ℕ 𝒱₀ c none Set.univ i arg2 harg2 arg3 harg3 arg4 harg4 arg5 harg5 arg6 harg6 arg7 harg7 arg8 harg8 arg9 harg9 w1 h2 (constant S512x128 .f32 0#32) (constant S512x256 .f32 0#32) w4 where
  inv _ _ := iprop(ins c arg2 arg3 arg4 x ∗ loopSts c i arg7 arg8 arg9 x g7 g8 g9 (k0_t1_loop i).trips)
  step k _ := (Nat.not_lt_zero _ (Nat.lt_of_lt_of_eq k.isLt (trips2_eq i))).elim

end Loop

end Cert.FlashFwdIdeal.Forward
-- ==== Proof.Forward.Body.lean ====
/-
  One grid point of the call: from the blocks read and the state before, the state after and the query block's results handed back.
-/
module

public import proofs.«01_k».proof.Proof.Forward.Loop

@[expose] public section

set_option maxRecDepth 16384

noncomputable section

namespace Cert.FlashFwdIdeal.Forward

open Cert.FlashFwdIdeal Cert.FlashFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

section Body

variable (c : Dev nD) (i : grid0.Coords)
  (arg2 : Memref sig .tc .vmem S1x4096x256 .bf16) (harg2 : arg2.IsWhole) (arg3 : Memref sig .tc .vmem S1x4096x256 .bf16) (harg3 : arg3.IsWhole)
  (arg4 : Memref sig .tc .vmem S1x4096x256 .bf16) (harg4 : arg4.IsWhole) (arg5 : Memref sig .tc .vmem S512x128 .f32) (harg5 : arg5.IsWhole)
  (arg6 : Memref sig .tc .vmem S1x1x1x512 .f32) (harg6 : arg6.IsWhole) (arg7 : Memref sig .tc .vmem S512x128 .f32) (harg7 : arg7.IsWhole)
  (arg8 : Memref sig .tc .vmem S512x256 .f32) (harg8 : arg8.IsWhole) (arg9 : Memref sig .tc .vmem S3x512x512 .f32) (harg9 : arg9.IsWhole)

/-- What a grid point is given: the blocks read, the state before, the two results of the query block at anything. -/
abbrev PRE (x : In F) (s : St F) (g5 : Buf (Elt F) (arg5.view.loc (c : Thread nD τ))) (g6 : Buf (Elt F) (arg6.view.loc (c : Thread nD τ))) : sProp 𝕄 :=
  iprop(res c arg2 arg3 arg4 arg7 arg8 arg9 x s ∗ (arg5.view.loc (c : Thread nD τ) ↦[arg5.view.set]{fullShare} g5)
    ∗ (arg6.view.loc (c : Thread nD τ) ↦[arg6.view.set]{fullShare} g6))
/-- What it leaves. -/
abbrev POST (x : In F) (s : St F) : sProp 𝕄 :=
  iprop(res c arg2 arg3 arg4 arg7 arg8 arg9 x s ∗ at_ c arg5 (outOf s.acc) ∗ at_ c arg6 (lseOf s.top s.acc))

/-- What is handed back, by its names. -/
theorem fold_out (a : Vec F S512x256 .f32) : k0_pay65 (right a) (left a) = outOf a := rfl
theorem fold_lse (t : Vec F S512x128 .f32) (a : Vec F S512x256 .f32) : k0_pay1 (k0_pay66 (right a) t) = lseOf t a := rfl

/-- A head's first query block. -/
theorem body_first (h1 : k0_cond1 i = 1#1) (h2 : ¬ k0_cond2 i = 1#1) (x : In F) (s : St F)
    (g5 : Buf (Elt F) (arg5.view.loc (c : Thread nD τ))) (g6 : Buf (Elt F) (arg6.view.loc (c : Thread nD τ))) :
    PRE c arg2 arg3 arg4 arg5 arg6 arg7 arg8 arg9 x s g5 g6
      ⊢ wp frame (wpE (defs₀ (F := F)) 𝒱₀ (c : Thread nD τ) none) Set.univ (cc0_flash_fwd i arg2 harg2 arg3 harg3 arg4 harg4 arg5 harg5 arg6 harg6 arg7 harg7 arg8 harg8 arg9 harg9)
          (fun _ => POST c arg2 arg3 arg4 arg5 arg6 arg7 arg8 arg9 x (first x s)) := by
  have hu : (i 1).val = 0 := (cond1_iff i).1 h1
  have e1 : k0_off1 i = ![0, 512 * min 1 7, 0] := by rw [off1_eq, hu]
  iintro ⟨⟨⟨H2, H3, H4⟩, H7, H8, H9⟩, H5, H6⟩
  sl_unfold [cc0_flash_fwd]
  sl_exec
  sl_step
  delta body_first.sl.v16 body_first.sl.v17 body_first.sl.r_4 body_first.sl.H7_2 body_first.sl.H8_2 body_first.sl.H9_1 body_first.sl.r_1 body_first.sl.r_2 body_first.sl.r_3 body_first.sl.H8_1 body_first.sl.v20 body_first.sl.r body_first.sl.H7_1 body_first.sl.v42 body_first.sl.v49 body_first.sl.v60
  ihave G5 := (pointsTo_rep_entails (c : Thread nD τ) arg5 _ fullShare) $$ H5
  ihave G6 := (pointsTo_rep_entails (c : Thread nD τ) arg6 _ fullShare) $$ H6
  ihave G7 := (pointsTo_rep_entails (c : Thread nD τ) arg7 _ fullShare) $$ H7
  ihave G8 := (pointsTo_rep_entails (c : Thread nD τ) arg8 _ fullShare) $$ H8
  ihave G9 := (pointsTo_rep_entails (c : Thread nD τ) arg9 _ fullShare) $$ H9
  simp only [fold_write, fold_wide4, fold_wide2, ld_rows (off := ![0, 0, 0]) (b := 0) (h := rfl), ld_rows (h := e1),
    ld_slot (off := ![2, 0, 0]) (n := 2) (h := rfl), cov_slots (off := ![2, 0, 0]) (n := 2) (h := rfl), st_slot (off := ![2, 0, 0]) (n := 2) (h := rfl),
    ld_acc (off := ![0, 0]), ld_top (off := ![0, 0]), st_acc (off := ![0, 0]), st_top (off := ![0, 0]), cov_acc (off := ![0, 0]), cov_top (off := ![0, 0]),
    st_lse (off := ![0, 0, 0, 0]),
    View.writes_nil, View.read_rep, slot_put_same, slot_put_ne, ne_eq, Fin.reduceEq, not_false_eq_true, zero_ne_one, one_ne_zero,
    reset, consumeMasked, consumeWith, produce, first]
  rw [cov_right, cov_left]
  simp only [st_acc (off := ![0, 0]), fold_out, fold_lse]
  isplitl [H2 H3 H4 G7 G8 G9]
  · isplitl [H2 H3 H4]
    · isplitl [H2]; · iexact H2
      isplitl [H3]; · iexact H3
      iexact H4
    isplitl [G7]; · iexact G7
    isplitl [G8]; · iexact G8
    iexact G9
  isplitl [G5]; · iexact G5
  iexact G6

/-- A later query block, at odd `u`. -/
theorem body_odd (h1 : ¬ k0_cond1 i = 1#1) (h2 : k0_cond2 i = 1#1) (h3 : k0_cond3 i = 1#1) (h4 : ¬ k0_cond4 i = 1#1) (x : In F) (s : St F)
    (g5 : Buf (Elt F) (arg5.view.loc (c : Thread nD τ))) (g6 : Buf (Elt F) (arg6.view.loc (c : Thread nD τ))) :
    PRE c arg2 arg3 arg4 arg5 arg6 arg7 arg8 arg9 x s g5 g6
      ⊢ wp frame (wpE (defs₀ (F := F)) 𝒱₀ (c : Thread nD τ) none) Set.univ (cc0_flash_fwd i arg2 harg2 arg3 harg3 arg4 harg4 arg5 harg5 arg6 harg6 arg7 harg7 arg8 harg8 arg9 harg9)
          (fun _ => POST c arg2 arg3 arg4 arg5 arg6 arg7 arg8 arg9 x (finishOdd x (i 1).val (start x (i 1).val s))) := by
  iintro ⟨⟨⟨H2, H3, H4⟩, H7, H8, H9⟩, H5, H6⟩
  sl_unfold [cc0_flash_fwd]
  sl_exec
  sl_step
  delta body_odd.sl.v16 body_odd.sl.v17 body_odd.sl.r_3 body_odd.sl.v70 body_odd.sl.H7_1 body_odd.sl.v67 body_odd.sl.H8_1 body_odd.sl.v42 body_odd.sl.H7_1_1 body_odd.sl.H8_1_1 body_odd.sl.v20 body_odd.sl.v49 body_odd.sl.v64 body_odd.sl.v39 body_odd.sl.r body_odd.sl.r_1 body_odd.sl.r_2 body_odd.sl.v34 body_odd.sl.v38 body_odd.sl.cst_24 body_odd.sl.v133 body_odd.sl.v140 body_odd.sl.v45 body_odd.sl.v48 body_odd.sl.v57 body_odd.sl.v63 body_odd.sl.v151 body_odd.sl.v47 body_odd.sl.v55 body_odd.sl.v56 body_odd.sl.v58 body_odd.sl.v62 body_odd.sl.cst_37 body_odd.sl.v46 body_odd.sl.v51 body_odd.sl.v54 body_odd.sl.v44 body_odd.sl.v50 body_odd.sl.v53 body_odd.sl.v52 body_odd.sl.v43
  ihave G5 := (pointsTo_rep_entails (c : Thread nD τ) arg5 _ fullShare) $$ H5
  ihave G6 := (pointsTo_rep_entails (c : Thread nD τ) arg6 _ fullShare) $$ H6
  ihave G7 := (pointsTo_rep_entails (c : Thread nD τ) arg7 _ fullShare) $$ H7
  ihave G8 := (pointsTo_rep_entails (c : Thread nD τ) arg8 _ fullShare) $$ H8
  ihave G9 := (pointsTo_rep_entails (c : Thread nD τ) arg9 _ fullShare) $$ H9
  simp only [fold_write, fold_wide4, fold_wide2, ld_rows (off := ![0, 0, 0]) (b := 0) (h := rfl), ld_rows (off := ![0, 512, 0]) (b := 1) (h := rfl), ld_rows (h := off2_eq i), ld_rows (h := off7_eq i), ld_rows (h := off8_eq i),
    ld_slot (off := ![0, 0, 0]) (n := 0) (h := rfl), cov_slots (off := ![0, 0, 0]) (n := 0) (h := rfl), st_slot (off := ![0, 0, 0]) (n := 0) (h := rfl), ld_slot (off := ![1, 0, 0]) (n := 1) (h := rfl), cov_slots (off := ![1, 0, 0]) (n := 1) (h := rfl), st_slot (off := ![1, 0, 0]) (n := 1) (h := rfl), ld_slot (off := ![2, 0, 0]) (n := 2) (h := rfl), cov_slots (off := ![2, 0, 0]) (n := 2) (h := rfl), st_slot (off := ![2, 0, 0]) (n := 2) (h := rfl),
    ld_acc (off := ![0, 0]), ld_top (off := ![0, 0]), st_acc (off := ![0, 0]), st_top (off := ![0, 0]), cov_acc (off := ![0, 0]), cov_top (off := ![0, 0]),
    st_lse (off := ![0, 0, 0, 0]),
    View.writes_nil, View.read_rep, slot_put_same, slot_put_ne, ne_eq, Fin.reduceEq, not_false_eq_true, zero_ne_one, one_ne_zero,
    reset, consume, consumeMasked, consumeWith, produce, read_acc7, read_acc8, read_acc9, after_, entry, trips1_eq, start, finishOdd]
  rw [cov_right, cov_left]
  simp only [st_acc (off := ![0, 0]), fold_out, fold_lse]
  isplitl [H2 H3 H4 G7 G8 G9]
  · isplitl [H2 H3 H4]
    · isplitl [H2]; · iexact H2
      isplitl [H3]; · iexact H3
      iexact H4
    isplitl [G7]; · iexact G7
    isplitl [G8]; · iexact G8
    iexact G9
  isplitl [G5]; · iexact G5
  iexact G6

end Body

end Cert.FlashFwdIdeal.Forward
-- ==== Proof.Forward.Even.lean ====
/-
  A later query block at an even number: after the counted loop two key blocks are left.
-/
module

public import proofs.«01_k».proof.Proof.Forward.Body

@[expose] public section

set_option maxRecDepth 16384

noncomputable section

namespace Cert.FlashFwdIdeal.Forward

open Cert.FlashFwdIdeal Cert.FlashFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

section Body

variable (c : Dev nD) (i : grid0.Coords)
  (arg2 : Memref sig .tc .vmem S1x4096x256 .bf16) (harg2 : arg2.IsWhole) (arg3 : Memref sig .tc .vmem S1x4096x256 .bf16) (harg3 : arg3.IsWhole)
  (arg4 : Memref sig .tc .vmem S1x4096x256 .bf16) (harg4 : arg4.IsWhole) (arg5 : Memref sig .tc .vmem S512x128 .f32) (harg5 : arg5.IsWhole)
  (arg6 : Memref sig .tc .vmem S1x1x1x512 .f32) (harg6 : arg6.IsWhole) (arg7 : Memref sig .tc .vmem S512x128 .f32) (harg7 : arg7.IsWhole)
  (arg8 : Memref sig .tc .vmem S512x256 .f32) (harg8 : arg8.IsWhole) (arg9 : Memref sig .tc .vmem S3x512x512 .f32) (harg9 : arg9.IsWhole)

set_option maxHeartbeats 400000 in
/-- A later query block, at even `u`. -/
theorem body_even (h1 : ¬ k0_cond1 i = 1#1) (h2 : k0_cond2 i = 1#1) (h3 : ¬ k0_cond3 i = 1#1) (h4 : k0_cond4 i = 1#1) (x : In F) (s : St F)
    (g5 : Buf (Elt F) (arg5.view.loc (c : Thread nD τ))) (g6 : Buf (Elt F) (arg6.view.loc (c : Thread nD τ))) :
    PRE c arg2 arg3 arg4 arg5 arg6 arg7 arg8 arg9 x s g5 g6
      ⊢ wp frame (wpE (defs₀ (F := F)) 𝒱₀ (c : Thread nD τ) none) Set.univ (cc0_flash_fwd i arg2 harg2 arg3 harg3 arg4 harg4 arg5 harg5 arg6 harg6 arg7 harg7 arg8 harg8 arg9 harg9)
          (fun _ => POST c arg2 arg3 arg4 arg5 arg6 arg7 arg8 arg9 x (finishEven x (i 1).val (start x (i 1).val s))) := by
  have es (E : St F) (h : E = consume x 0 2 (produce x (i 1).val 1 1 (reset s))) : pairs x (i 1).val (((i 1).val - 1) / 2) E = start x (i 1).val s := by rw [h]; rfl
  have et (s1 : St F) (M : FVec F S512x128 .f32) (h : k0_pay38 M = shapeCast S512x128 (topNext (plainOf (slot s1.buf 1)) s1.top) shapeCasts_S512x128_S512x128) :
      k0_pay38 M = shapeCast S512x128 (topNext (plainOf (slot s1.buf 1)) s1.top) shapeCasts_S512x128_S512x128 := h
  have ea (s1 : St F) (a) (b) (d) (e) (h : k0_pay37 (F := F) a b d e = accNext (plainOf (slot s1.buf 1)) (rows x.v ((i 1).val - 1)) s1.top s1.acc) :
      k0_pay37 a b d e = accNext (plainOf (slot s1.buf 1)) (rows x.v ((i 1).val - 1)) s1.top s1.acc := h
  have et2 (T) (M : FVec F S512x128 .f32) (h : k0_pay64 M = shapeCast S512x128 (topNext (maskedOf (scoreOf (rows x.q (i 1).val) (rows x.k (i 1).val))) T) shapeCasts_S512x128_S512x128) :
      k0_pay64 M = shapeCast S512x128 (topNext (maskedOf (scoreOf (rows x.q (i 1).val) (rows x.k (i 1).val))) T) shapeCasts_S512x128_S512x128 := h
  have ea2 (T) (A) (a) (b) (d) (e) (f) (h : k0_pay63 (F := F) a b d e f = accNext (maskedOf (scoreOf (rows x.q (i 1).val) (rows x.k (i 1).val))) (rows x.v (i 1).val) T A) :
      k0_pay63 a b d e f = accNext (maskedOf (scoreOf (rows x.q (i 1).val) (rows x.k (i 1).val))) (rows x.v (i 1).val) T A := h
  have e10 := off10_eq i ((cond2_iff i).1 h2)
  iintro ⟨⟨⟨H2, H3, H4⟩, H7, H8, H9⟩, H5, H6⟩
  sl_unfold [cc0_flash_fwd]
  sl_exec
  sl_step
  delta body_even.sl.v16 body_even.sl.v17 body_even.sl.r_4 body_even.sl.v70 body_even.sl.H7_1 body_even.sl.v67 body_even.sl.H8_1 body_even.sl.v42 body_even.sl.H7_2_1 body_even.sl.H8_2_1 body_even.sl.H9_2 body_even.sl.v49 body_even.sl.v64 body_even.sl.v39 body_even.sl.r_1 body_even.sl.H7_1_1 body_even.sl.r body_even.sl.r_2 body_even.sl.r_3 body_even.sl.v195 body_even.sl.H8_1_1 body_even.sl.v133 body_even.sl.v45 body_even.sl.v48 body_even.sl.v57 body_even.sl.v63 body_even.sl.v34 body_even.sl.v38 body_even.sl.cst_24 body_even.sl.v177 body_even.sl.v184 body_even.sl.v149 body_even.sl.v150 body_even.sl.v155 body_even.sl.cst_92 body_even.sl.v130 body_even.sl.v146 body_even.sl.v147 body_even.sl.v148 body_even.sl.v47 body_even.sl.v55 body_even.sl.v56 body_even.sl.v58 body_even.sl.v62 body_even.sl.cst_37 body_even.sl.v124 body_even.sl.v129 body_even.sl.cst_76 body_even.sl.v46 body_even.sl.v51 body_even.sl.v54 body_even.sl.v44 body_even.sl.v50 body_even.sl.v53 body_even.sl.v43 body_even.sl.v52 body_even.sl.v141 body_even.sl.v143 body_even.sl.v145 body_even.sl.v137 body_even.sl.v140 body_even.sl.v142 body_even.sl.v136 body_even.sl.v144 body_even.sl.v139 body_even.sl.v135 body_even.sl.v138 body_even.sl.v20
  ihave G5 := (pointsTo_rep_entails (c : Thread nD τ) arg5 _ fullShare) $$ H5
  ihave G6 := (pointsTo_rep_entails (c : Thread nD τ) arg6 _ fullShare) $$ H6
  ihave G7 := (pointsTo_rep_entails (c : Thread nD τ) arg7 _ fullShare) $$ H7
  ihave G8 := (pointsTo_rep_entails (c : Thread nD τ) arg8 _ fullShare) $$ H8
  ihave G9 := (pointsTo_rep_entails (c : Thread nD τ) arg9 _ fullShare) $$ H9
  simp only [fold_write, fold_wide4, fold_wide2, ld_rows (off := ![0, 0, 0]) (b := 0) (h := rfl), ld_rows (off := ![0, 512, 0]) (b := 1) (h := rfl), ld_rows (h := off2_eq i), ld_rows (h := off9_eq i), ld_rows (h := e10), ld_rows (h := off11_eq i),
    ld_slot (off := ![0, 0, 0]) (n := 0) (h := rfl), cov_slots (off := ![0, 0, 0]) (n := 0) (h := rfl), st_slot (off := ![0, 0, 0]) (n := 0) (h := rfl), ld_slot (off := ![1, 0, 0]) (n := 1) (h := rfl), cov_slots (off := ![1, 0, 0]) (n := 1) (h := rfl), st_slot (off := ![1, 0, 0]) (n := 1) (h := rfl), ld_slot (off := ![2, 0, 0]) (n := 2) (h := rfl), cov_slots (off := ![2, 0, 0]) (n := 2) (h := rfl), st_slot (off := ![2, 0, 0]) (n := 2) (h := rfl),
    ld_acc (off := ![0, 0]), ld_top (off := ![0, 0]), st_acc (off := ![0, 0]), st_top (off := ![0, 0]), cov_acc (off := ![0, 0]), cov_top (off := ![0, 0]),
    st_lse (off := ![0, 0, 0, 0]),
    View.writes_nil, View.read_rep, slot_put_same, slot_put_ne, ne_eq, Fin.reduceEq, not_false_eq_true, zero_ne_one, one_ne_zero,
    consume, consumeMasked, consumeWith, produce, read_acc7, read_acc8, read_acc9, after_, entry, trips1_eq, finishEven]
  rw [cov_right, cov_left]
  simp only [st_acc (off := ![0, 0]), fold_out, fold_lse]
  rw [es]
  generalize start x (i 1).val s = s1
  rw [et s1, ea s1]
  generalize shapeCast S512x128 (topNext (plainOf (slot s1.buf 1)) s1.top) shapeCasts_S512x128_S512x128 = T
  generalize accNext (plainOf (slot s1.buf 1)) (rows x.v ((i 1).val - 1)) s1.top s1.acc = A
  rw [et2 T, ea2 T A]
  isplitl [H2 H3 H4 G7 G8 G9]
  · isplitl [H2 H3 H4]
    · isplitl [H2]; · iexact H2
      isplitl [H3]; · iexact H3
      iexact H4
    isplitl [G7]; · iexact G7
    isplitl [G8]; · iexact G8
    iexact G9
  isplitl [G5]; · iexact G5
  iexact G6
  · rfl
  · rfl
  · rfl
  · rfl
  · simp only [consume, consumeWith, produce, reset, slot_put_ne, ne_eq, Fin.reduceEq, not_false_eq_true]; rfl

end Body

end Cert.FlashFwdIdeal.Forward
-- ==== Proof.Forward.Run.lean ====
/-
  The call's run. Before each grid point the scratch buffers hold what the point before left: the scores of the next query block's first pair
  stand ready in slot 2 unless a new head begins.
-/
module

public import proofs.«01_k».proof.Proof.Forward.Even
public import proofs.«01_k».proof.Proof.Forward.Blocks

@[expose] public section

set_option maxRecDepth 16384

noncomputable section

namespace Cert.FlashFwdIdeal.Forward

open Cert.FlashFwdIdeal Cert.FlashFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

/-! ## One grid point, whichever -/

section Point

variable (c : Dev nD) (i : grid0.Coords)
  (arg2 : Memref sig .tc .vmem S1x4096x256 .bf16) (harg2 : arg2.IsWhole) (arg3 : Memref sig .tc .vmem S1x4096x256 .bf16) (harg3 : arg3.IsWhole)
  (arg4 : Memref sig .tc .vmem S1x4096x256 .bf16) (harg4 : arg4.IsWhole) (arg5 : Memref sig .tc .vmem S512x128 .f32) (harg5 : arg5.IsWhole)
  (arg6 : Memref sig .tc .vmem S1x1x1x512 .f32) (harg6 : arg6.IsWhole) (arg7 : Memref sig .tc .vmem S512x128 .f32) (harg7 : arg7.IsWhole)
  (arg8 : Memref sig .tc .vmem S512x256 .f32) (harg8 : arg8.IsWhole) (arg9 : Memref sig .tc .vmem S3x512x512 .f32) (harg9 : arg9.IsWhole)

/-- What a grid point has done when it is over. -/
def Done (x : In F) (u : ℕ) (s : St F) : Prop := s.top = topSum x u (u + 1) ∧ s.acc = accSum x u (u + 1) ∧ Ready x (u + 1) 0 2 s

theorem body_point (x : In F) (s : St F) (hs : 0 < (i 1).val → Ready x (i 1).val 0 2 s)
    (g5 : Buf (Elt F) (arg5.view.loc (c : Thread nD τ))) (g6 : Buf (Elt F) (arg6.view.loc (c : Thread nD τ))) :
    PRE c arg2 arg3 arg4 arg5 arg6 arg7 arg8 arg9 x s g5 g6
      ⊢ wp frame (wpE (defs₀ (F := F)) 𝒱₀ (c : Thread nD τ) none) Set.univ (cc0_flash_fwd i arg2 harg2 arg3 harg3 arg4 harg4 arg5 harg5 arg6 harg6 arg7 harg7 arg8 harg8 arg9 harg9)
          (fun _ => iprop(∃ s' : St F, ⌜Done x (i 1).val s'⌝ ∗ POST c arg2 arg3 arg4 arg5 arg6 arg7 arg8 arg9 x s')) := by
  by_cases hu : (i 1).val = 0
  · obtain ⟨⟨ht, ha⟩, hr⟩ := point_first x s
    refine (body_first c i arg2 harg2 arg3 harg3 arg4 harg4 arg5 harg5 arg6 harg6 arg7 harg7 arg8 harg8 arg9 harg9
      ((cond1_iff i).2 hu) (fun h => by have := (cond2_iff i).1 h; omega) x s g5 g6).trans (wp_mono _ _ _ fun _ => ?_)
    iintro H
    iexists (first x s)
    isplitr
    · ipureintro; rw [hu]; exact ⟨ht, ha, hr⟩
    iexact H
  · have h0 : 0 < (i 1).val := by omega
    have hrs := hs h0
    by_cases hodd : (i 1).val % 2 = 1
    · obtain ⟨⟨ht, ha⟩, hr⟩ := point_odd x hodd hrs
      refine (body_odd c i arg2 harg2 arg3 harg3 arg4 harg4 arg5 harg5 arg6 harg6 arg7 harg7 arg8 harg8 arg9 harg9
        (fun h => hu ((cond1_iff i).1 h)) ((cond2_iff i).2 h0) ((cond3_iff i).2 hodd) (fun h => by have := (cond4_iff i).1 h; omega) x s g5 g6).trans (wp_mono _ _ _ fun _ => ?_)
      iintro H
      iexists (finishOdd x (i 1).val (start x (i 1).val s))
      isplitr
      · ipureintro; exact ⟨ht, ha, hr⟩
      iexact H
    · have hev : (i 1).val % 2 = 0 := by omega
      obtain ⟨⟨ht, ha⟩, hr⟩ := point_even x h0 hev hrs
      refine (body_even c i arg2 harg2 arg3 harg3 arg4 harg4 arg5 harg5 arg6 harg6 arg7 harg7 arg8 harg8 arg9 harg9
        (fun h => hu ((cond1_iff i).1 h)) ((cond2_iff i).2 h0) (fun h => by have := (cond3_iff i).1 h; omega) ((cond4_iff i).2 hev) x s g5 g6).trans (wp_mono _ _ _ fun _ => ?_)
      iintro H
      iexists (finishEven x (i 1).val (start x (i 1).val s))
      isplitr
      · ipureintro; exact ⟨ht, ha, hr⟩
      iexact H

end Point

/-! ## The launch -/

variable (m : (ℓ : Loc nD τ sig) → Buf (Elt F) ℓ) (ρ : Dev nD → PrngReg)

/-- What a grid point reads. -/
abbrev inAt (c : Dev nD) (t : Fin cfg0.N) : In F := headIn m c (headAt t)

/-- The scratch buffers at a state. -/
def scratch (c : Dev nD) (s : St F) : sProp 𝕄 :=
  iprop(at_ c (Memref.whole cc0_scratch0) s.top ∗ at_ c (Memref.whole cc0_scratch1) s.acc ∗ at_ c (Memref.whole cc0_scratch2) s.buf)

/-- Before point `n`: the scratch holds a state in which, inside a head, the next pair's scores are ready. -/
def Φ (c : Dev nD) (n : ℕ) : sProp 𝕄 :=
  iprop((∃ s : St F, ⌜∀ t : Fin cfg0.N, t.val + 1 = n → n % 8 ≠ 0 → Ready (inAt m c t) (n % 8) 0 2 s⌝ ∗ scratch c s) ∗ ∃ r, prngReg c r)

/-- What a query block hands back: its output and its rows' logarithms. -/
def outAt (x : In F) (u : ℕ) : Vec F S512x128 .f32 := outOf (accSum x u (u + 1))
def lseAt (x : In F) (u : ℕ) : Vec F S1x1x1x512 .f32 := lseOf (topSum x u (u + 1)) (accSum x u (u + 1))

/-- The launch's data: the arrays as the call finds them, what every window's buffer holds after each point. -/
def dats (_ : Fin 1) (c : Dev nD) : Dat τ (Elt F) Unit ℕ (UU nD τ) ℕ cfg0 c where
  A w := V m c (Pipeline.arrRef spec0 w)
  after w t := match w with
    | ⟨0, _⟩ => (inAt m c t).q
    | ⟨1, _⟩ => (inAt m c t).k
    | ⟨2, _⟩ => (inAt m c t).v
    | ⟨3, _⟩ => outAt (inAt m c t) (t.val % 8)
    | ⟨4, _⟩ => lseAt (inAt m c t) (t.val % 8)
  Φ t := Φ m c t.val
  q _ := fullShare
  owed _ := 0

theorem after_0 (c : Dev nD) (t : Fin cfg0.N) : (dats m 0 c).after 0 t = (inAt m c t).q := by dsimp only [dats]
theorem after_1 (c : Dev nD) (t : Fin cfg0.N) : (dats m 0 c).after 1 t = (inAt m c t).k := by dsimp only [dats]
theorem after_2 (c : Dev nD) (t : Fin cfg0.N) : (dats m 0 c).after 2 t = (inAt m c t).v := by dsimp only [dats]
theorem after_3 (c : Dev nD) (t : Fin cfg0.N) : (dats m 0 c).after 3 t = outAt (inAt m c t) (t.val % 8) := by dsimp only [dats]
theorem after_4 (c : Dev nD) (t : Fin cfg0.N) : (dats m 0 c).after 4 t = lseAt (inAt m c t) (t.val % 8) := by dsimp only [dats]

theorem before_0 (c : Dev nD) (t : Fin cfg0.N) (d) : (dats m 0 c).before 0 t d = (inAt m c t).q :=
  (before0_0_of m _ rfl (fun t => (after_0 m c t).trans (iblk_q m c t).symm) t d).trans (iblk_q m c t)
theorem before_1 (c : Dev nD) (t : Fin cfg0.N) (d) : (dats m 0 c).before 1 t d = (inAt m c t).k :=
  (before0_1_of m _ rfl (fun t => (after_1 m c t).trans (iblk_k m c t).symm) t d).trans (iblk_k m c t)
theorem before_2 (c : Dev nD) (t : Fin cfg0.N) (d) : (dats m 0 c).before 2 t d = (inAt m c t).v :=
  (before0_2_of m _ rfl (fun t => (after_2 m c t).trans (iblk_v m c t).symm) t d).trans (iblk_v m c t)

theorem Φ_before (c : Dev nD) (t : Fin cfg0.N) : (dats m 0 c).Φ t.castSucc = Φ m c t.val := by
  dsimp only [dats]; exact Dat.Φ_castSucc (fun n _ => Φ m c n) t
theorem Φ_after (c : Dev nD) (t : Fin cfg0.N) : (dats m 0 c).Φ t.succ = Φ m c (t.val + 1) := by
  dsimp only [dats]; rfl

/-- The body table's entry is the kernel on the point's buffers. -/
theorem defs_row (t : Fin cfg0.N) : (defs₀ (F := F)) .tc cfg0.body (cfg0.bodyArgs t (cfg0.slots t)) = bodyAt0 (F := F) t := by
  unfold defs₀; rw [Defs.onTc_tc]

set_option backward.isDefEq.respectTransparency.types false in
set_option maxHeartbeats 2000000 in
theorem body_obligation (c : Dev nD) : BodyObligation (dats (F := F) m 0 c) (defs₀ (F := F)) 𝒱₀ () Set.univ := fun t => by
  rw [bigSep_W0, bigSep_W0, defs_row]
  dsimp only
  simp only [before_0, before_1, before_2, after_0, after_1, after_2, after_3, after_4]
  rw [Φ_before, Φ_after]
  unfold Dat.owesAt Pipeline.owesWithin
  rw [show (dats m 0 c).owed t.castSucc = 0 from rfl, show (dats m 0 c).owed t.succ = 0 from rfl]
  unfold owns Φ scratch
  iintro ⟨⟨⟨%s, %hs, S0, S1, S2⟩, HR⟩, ⟨%W, -, HW⟩, ⟨%d0, %g0, %hg0, H0⟩, ⟨%d1, %g1, %hg1, H1⟩, ⟨%d2, %g2, %hg2, H2⟩, ⟨%d3, %g3, -, H3⟩, ⟨%d4, %g4, -, H4⟩⟩
  have hlt : t.val < 64 := t.isLt
  have hu : (grid0.coords t 1).val = t.val % 8 := (coords_eq t).2
  have hst : 0 < (grid0.coords t 1).val → Ready (inAt m c t) (grid0.coords t 1).val 0 2 s := by
    rw [hu]
    intro h
    have h' : t.val % 8 ≠ 0 := by omega
    have := hs ⟨t.val - 1, by omega⟩ (by show t.val - 1 + 1 = t.val; omega) h'
    have e : headAt (⟨t.val - 1, by omega⟩ : Fin cfg0.N) = headAt t := Fin.ext (by show (t.val - 1) / 8 = t.val / 8; omega)
    dsimp only [inAt] at this ⊢
    rw [e] at this
    exact this
  iapply (wp_wand_r _ _ _ (Q := fun _ => iprop(∃ s' : St F, ⌜Done (inAt m c t) (grid0.coords t 1).val s'⌝ ∗ POST c (stage0_0 (cfg0.slots t 0)) (stage0_1 (cfg0.slots t 1)) (stage0_2 (cfg0.slots t 2)) (stage0_3 (cfg0.slots t 3)) (stage0_4 (cfg0.slots t 4)) (Memref.whole cc0_scratch0) (Memref.whole cc0_scratch1) (Memref.whole cc0_scratch2) (inAt m c t) s')))
  isplitl [S0 S1 S2 H0 H1 H2 H3 H4]
  · iapply (body_point c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (inAt m c t) s hst g3 g4)
    ihave G0 := (pointsTo_rep_entails (c : Thread nD τ) (stage0_0 (cfg0.slots t 0)) g0 fullShare) $$ H0
    ihave G1 := (pointsTo_rep_entails (c : Thread nD τ) (stage0_1 (cfg0.slots t 1)) g1 fullShare) $$ H1
    ihave G2 := (pointsTo_rep_entails (c : Thread nD τ) (stage0_2 (cfg0.slots t 2)) g2 fullShare) $$ H2
    rw [hg0, hg1, hg2]
    isplitl [S0 S1 S2 G0 G1 G2]
    · isplitl [G0 G1 G2]
      · isplitl [G0]; · iexact G0
        isplitl [G1]; · iexact G1
        iexact G2
      isplitl [S0]; · iexact S0
      isplitl [S1]; · iexact S1
      iexact S2
    isplitl [H3]; · iexact H3
    iexact H4
  iintro %_ ⟨%s', %hd, ⟨⟨⟨G0, G1, G2⟩, S0, S1, S2⟩, G3, G4⟩⟩
  obtain ⟨ht, ha, hr⟩ := hd
  rw [hu] at ht ha hr
  isplitl [S0 S1 S2 HR]
  · isplitl [S0 S1 S2]
    · iexists s'
      isplitr
      · ipureintro
        intro t' ht' hn
        have e : t' = t := Fin.ext (by omega)
        subst e
        rw [show (t'.val + 1) % 8 = t'.val % 8 + 1 by omega]
        exact hr
      isplitl [S0]; · iexact S0
      isplitl [S1]; · iexact S1
      iexact S2
    iexact HR
  isplitl [HW]
  · iexists W; isplitr; · ipureintro; exact fun _ _ => Or.inl trivial
    iexact HW
  isplitl [G0]
  · iexists _; isplitr; · ipureintro; exact View.read_rep _ _
    iexact G0
  isplitl [G1]
  · iexists _; isplitr; · ipureintro; exact View.read_rep _ _
    iexact G1
  isplitl [G2]
  · iexists _; isplitr; · ipureintro; exact View.read_rep _ _
    iexact G2
  isplitl [G3]
  · iexists _; isplitr; · ipureintro; exact (View.read_rep _ _).trans (congrArg outOf ha)
    iexact G3
  iexists _; isplitr; · ipureintro; exact (View.read_rep _ _).trans (congrArg₂ lseOf ht ha)
  iexact G4

/-! ## The run -/

/-- A whole buffer at any contents is a whole buffer at the values it reads as. -/
theorem whole_at (c : Dev nD) (b : Ref sig .tc) (f : Buf (Elt F) ((c : Thread nD τ).loc b)) :
    (iprop(((c : Thread nD τ).loc b) ↦{fullShare} f) : sProp 𝕄) ⊢ at_ c (Memref.whole b) ((View.whole b).read (Elt F) f) := by
  have h : (iprop((Memref.whole b).view.loc (c : Thread nD τ) ↦[(Memref.whole b).view.set]{fullShare} f) : sProp 𝕄)
      = iprop(((c : Thread nD τ).loc b) ↦{fullShare} f) := by rw [show (Memref.whole b).view.set = Finset.univ from View.set_whole b]
  exact (Entails.of_eq h.symm).trans (pointsTo_rep_entails (c : Thread nD τ) (Memref.whole b) f fullShare)
/-- And back. -/
theorem whole_any (c : Dev nD) (b : Ref sig .tc) (X : b.ty.shape.Idx → Elt F b.ty.elt) :
    (at_ c (Memref.whole b) X : sProp 𝕄) ⊢ iprop(∃ f, ((c : Thread nD τ).loc b) ↦{fullShare} f) := by
  have h : (at_ c (Memref.whole b) X : sProp 𝕄)
      = iprop(((c : Thread nD τ).loc b) ↦{fullShare} (View.whole b).rep X) := by
    unfold at_; rw [show (Memref.whole b).view.set = Finset.univ from View.set_whole b]
  rw [h]
  iintro H
  iexists _
  iexact H

/-- The scratch at any contents is the scratch at some state. -/
theorem scratch_any (c : Dev nD) : (Pipeline.scopedRest (Ix := Unit) (Name := ℕ) (U := UU nD τ) (Lvl := ℕ) (Val := Elt F) spec0 c : sProp 𝕄) ⊢ iprop(∃ s : St F, scratch c s) := by
  rw [scopedRest0_eq]
  iintro ⟨⟨%f0, S0⟩, ⟨%f1, S1⟩, ⟨%f2, S2⟩⟩
  ihave G0 := (whole_at c cc0_scratch0 f0) $$ S0
  ihave G1 := (whole_at c cc0_scratch1 f1) $$ S1
  ihave G2 := (whole_at c cc0_scratch2 f2) $$ S2
  iexists (⟨(View.whole cc0_scratch0).read (Elt F) f0, (View.whole cc0_scratch1).read (Elt F) f1, (View.whole cc0_scratch2).read (Elt F) f2⟩ : St F)
  unfold scratch
  isplitl [G0]; · iexact G0
  isplitl [G1]; · iexact G1
  iexact G2
theorem scratch_rest (c : Dev nD) (s : St F) : (scratch c s : sProp 𝕄) ⊢ Pipeline.scopedRest (Ix := Unit) (Name := ℕ) (U := UU nD τ) (Lvl := ℕ) (Val := Elt F) spec0 c := by
  rw [scopedRest0_eq]
  unfold scratch
  iintro ⟨S0, S1, S2⟩
  isplitl [S0]; · iapply (whole_any c cc0_scratch0 s.top); iexact S0
  isplitl [S1]; · iapply (whole_any c cc0_scratch1 s.acc); iexact S1
  iapply (whole_any c cc0_scratch2 s.buf); iexact S2

/-- At the start the scratch holds anything, -/
theorem enter (c : Dev nD) : Pipeline.ΦA (U := UU nD τ) (Val := Elt F) spec0 c ⊢ Φ m c 0 := by
  unfold Pipeline.ΦA Φ
  iintro ⟨HS, HR⟩
  isplitl [HS]
  · ihave HS' := (scratch_any c) $$ HS
    icases HS' with ⟨%s, HS⟩
    iexists s
    isplitr
    · ipureintro; intro t ht; omega
    iexact HS
  iexact HR

/-- and at the end it is given back. -/
theorem leave (c : Dev nD) (n : ℕ) : Φ m c n ⊢ Pipeline.ΦA (U := UU nD τ) (Val := Elt F) spec0 c := by
  unfold Pipeline.ΦA Φ
  iintro ⟨⟨%s, -, HS⟩, HR⟩
  isplitl [HS]
  · iapply (scratch_rest c s); iexact HS
  iexact HR

/-- Every run ends, with the results in their arrays and everything else as it was. -/
theorem run_main : θ_run defs (onTc (τ := τ) (main (F := F))) (s₀ m ρ)
    (fun r => Pipeline.FramePost cfgs (dats m) 0 (V m) r ∧ r.2.sem = fun _ => 0) :=
  Pipeline.θ_run_frame_track cfgs (dats m) 0 launch0 defs₀ 𝒱₀ m ρ main (hbody := fun c => (body_obligation m c).loose)
    (hshare := fun c w => by fin_cases w <;> rfl) (howed := fun _ _ => rfl) (V := V m) (hmain := hmain m 𝒱₀) (hA := fun _ _ => rfl)
    (hin := fun c => enter m c) (hout := fun c => leave m c cfg0.N) (Q' := fun r => Pipeline.FramePost cfgs (dats m) 0 (V m) r ∧ r.2.sem = fun _ => 0) (hQ' := fun _ h => h)

/-- It leaves the arguments as they were, and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.FlashFwdIdeal.Forward
-- ==== Proof.Forward.Results.lean ====
/-
  The call's two result arrays, from real queries and keys: the weighted means of the values, and the logarithms to base two of the rows' sums of
  exponentials.
-/
module

public import proofs.«01_k».proof.Proof.Forward.Host
public import proofs.«01_k».proof.Proof.Forward.Pairs
public import proofs.«01_k».proof.Proof.Forward.Reference
public import proofs.«01_k».proof.Proof.Forward.Run

@[expose] public section

set_option maxRecDepth 16384

noncomputable section

namespace Cert.FlashFwdIdeal.Forward

open Cert.FlashFwdIdeal Cert.FlashFwdIdeal.Gen Cert.Attention
open Idealize.ShloMosaic Idealize.ShloMosaic.TcCoe Idealize.ShloMosaic.StableHlo
open Cert.FlashFwdReferenceIdeal.Attention (QK VV HoldsQK)

/-! ### The call's operands -/

section Operands

variable {A : Operands} {x0 x1 : QK} {x2 : VV}

theorem hostLn2_eq (i : S_.Idx) : hostLn2 (F := Ideal) i = (Real.log 2 : EReal) := by
  show Ideal.log (Ideal.ofBits .f32 0x40000000#32) = _
  rw [two_bits, log_two]

/-- The padding is the integer zero as a float. -/
theorem padding : (FloatOps.sitofp FTy.f32 (0#32) : Ideal .f32) = ((0 : ℝ) : EReal) := by
  show ((((0#32 : BitVec 32).toInt : ℝ) : EReal)) = _
  simp

theorem hostQ_eq (H : HoldsQK A x0 x1) (h : Fin 8) (r : Fin 4096) (d : Fin 256) :
    hostQ (F := Ideal) x0 (ix3 h r d) = (A.qs h r d : EReal) := by
  unfold hostQ
  pointwise
  unfold Operands.qs
  by_cases hd : d.val < 192
  · rw [dif_pos hd, dif_pos hd, H.q _ r h ⟨d.val, hd⟩ rfl rfl rfl, hostLn2_eq, show Ideal.ofBits FTy.f32 1033096506#32 = _ from scale_bits,
      ← EReal.coe_mul, div_coe_coe _ log_two_ne]
  · rw [dif_neg hd, dif_neg hd]; exact padding

theorem hostK_eq (H : HoldsQK A x0 x1) (h : Fin 8) (r : Fin 4096) (d : Fin 256) :
    hostK (F := Ideal) x1 (ix3 h r d) = (A.ks h r d : EReal) := by
  unfold hostK
  pointwise
  unfold Operands.ks
  by_cases hd : d.val < 192
  · rw [dif_pos hd, dif_pos hd, H.k _ r h ⟨d.val, hd⟩ rfl rfl rfl]
  · rw [dif_neg hd, dif_neg hd]; exact padding

theorem hostVa_left (h : Fin 8) (r : Fin 4096) (j : Fin 128) : hostVa (F := Ideal) x2 (ix3 h r ⟨j.val, by omega⟩) = x2 (ix3 r h j) := by
  unfold hostVa
  pointwise

theorem hostVa_right (h : Fin 8) (r : Fin 4096) (j : Fin 128) : hostVa (F := Ideal) x2 (ix3 h r ⟨128 + j.val, by omega⟩) = (1 : EReal) := by
  unfold hostVa
  pointwise

end Operands

/-! ### The result arrays -/

variable (m : (ℓ : Loc nD τ sig) → Buf (Elt Ideal) ℓ) (c : Dev nD) {A : Operands}

/-- The device's queries and keys hold the operands `A`. -/
abbrev Args (A : Operands) : Prop := HoldsQK A (m ((c.tc : Thread nD τ).loc main_arg0)) (m ((c.tc : Thread nD τ).loc main_arg1))

/-- The values of the device, heads first, beside 128 columns of ones. -/
def beside (h : Fin 8) (r : Fin 4096) (j : Fin 256) : EReal := hostVa (F := Ideal) (m ((c.tc : Thread nD τ).loc main_arg2)) (ix3 h r j)

theorem headOf_at {α : Type} (X : S8x4096x256.Idx → α) (h : Fin 8) (r : Fin 4096) (d : Fin 256) : headOf X h (ix3 0 r d) = X (ix3 h r d) := rfl

theorem head_q (h : Fin 8) : (headIn m c h).q = headOf (hostQ (m ((c.tc : Thread nD τ).loc main_arg0))) h := by
  rw [← V_q]; rfl
theorem head_k (h : Fin 8) : (headIn m c h).k = headOf (hostK (m ((c.tc : Thread nD τ).loc main_arg1))) h := by
  rw [← V_k]; rfl
theorem head_v (h : Fin 8) : (headIn m c h).v = headOf (hostVa (m ((c.tc : Thread nD τ).loc main_arg2))) h := by
  rw [← V_va]; rfl

variable {m c}

/-- Each head's blocks hold `A`. -/
theorem head_of (H : Args m c A) (h : Fin 8) : Head A (beside m c h) h (headIn m c h) where
  q r d := by rw [head_q, headOf_at, hostQ_eq H]
  k r d := by rw [head_k, headOf_at, hostK_eq H]
  v r j := by rw [head_v, headOf_at]; rfl

/-- The output as an array, -/
def outArr (A : Operands) (x2 : VV) : (⟨S4096x1024, .f32⟩ : BufTy).Contents (Elt Ideal) := fun i =>
  have hi : (i 1).val < 1024 := (i 1).isLt
  A.mean (fun c => x2 (ix3 c ⟨(i 1).val / 128, by omega⟩ ⟨(i 1).val % 128, Nat.mod_lt _ (by norm_num)⟩)) ⟨(i 1).val / 128, by omega⟩ (i 0)
/-- and the logarithms. -/
def lseArr (A : Operands) : (⟨S8x8x1x512, .f32⟩ : BufTy).Contents (Elt Ideal) := fun i =>
  have h1 : (i 1).val < 8 := (i 1).isLt
  have h3 : (i 3).val < 512 := (i 3).isLt
  (A.lseOf (i 0) ⟨(i 1).val * 512 + (i 3).val, by omega⟩ : EReal)

theorem outArr_at (x2 : VV) (i : S4096x1024.Idx) (r : Fin 4096) (h : Fin 8) (j : Fin 128) (hr : (i 0).val = r.val) (hj : (i 1).val = h.val * 128 + j.val) :
    outArr A x2 i = A.mean (fun c => x2 (ix3 c h j)) h r := by
  have e0 : i 0 = r := Fin.ext hr
  have e1 : (⟨(i 1).val / 128, by have hi : (i 1).val < 1024 := (i 1).isLt; omega⟩ : Fin 8) = h := Fin.ext (by show (i 1).val / 128 = h.val; omega)
  have e2 : (⟨(i 1).val % 128, Nat.mod_lt _ (by norm_num)⟩ : Fin 128) = j := Fin.ext (by show (i 1).val % 128 = j.val; omega)
  show A.mean (fun c => x2 (ix3 c ⟨(i 1).val / 128, _⟩ ⟨(i 1).val % 128, _⟩)) ⟨(i 1).val / 128, _⟩ (i 0) = _
  rw [e0, e1, e2]
theorem lseArr_at (i : S8x8x1x512.Idx) (h : Fin 8) (r : Fin 4096) (hh : (i 0).val = h.val) (hr : (i 1).val * 512 + (i 3).val = r.val) :
    lseArr A i = (A.lseOf h r : EReal) := by
  have e0 : i 0 = h := Fin.ext hh
  have e1 : (⟨(i 1).val * 512 + (i 3).val, by rw [hr]; exact r.isLt⟩ : Fin 4096) = r := Fin.ext hr
  show ((A.lseOf (i 0) ⟨(i 1).val * 512 + (i 3).val, _⟩ : ℝ) : EReal) = _
  rw [e0, e1]

/-- A query block's output at an index of its block, -/
theorem out_block (H : Args m c A) (h : Fin 8) {u : ℕ} (hu : u < 8) (y : S512x128.Idx) (a : Fin 512) (j : Fin 128) (ha : y 0 = a) (hj : y 1 = j) :
    outAt (headIn m c h) u y = A.mean (fun k => (m ((c.tc : Thread nD τ).loc main_arg2) : VV) (ix3 k h j)) h (rowAt u a) := by
  have e : y = ix2 a j := by
    funext b
    match b with
    | ⟨0, _⟩ => exact ha
    | ⟨1, _⟩ => exact hj
  rw [e]
  unfold outAt
  rw [out_eq (head_of H h) (fun k j => hostVa_right h k j) hu a j]
  exact congrArg (A.mean · h (rowAt u a)) (funext fun k => hostVa_left h k j)

/-- and its logarithms. -/
theorem lse_block (H : Args m c A) (h : Fin 8) {u : ℕ} (hu : u < 8) (y : S1x1x1x512.Idx) (a : Fin 512) (ha : y 3 = a) :
    lseAt (headIn m c h) u y = (A.lseOf h (rowAt u a) : EReal) := by
  have e : y = ix4 0 0 0 a := by
    funext b
    match b with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact ha
  rw [e]
  exact lse_eq (head_of H h) (fun k j => hostVa_right h k j) hu a

/-- The first result array. -/
theorem arr_out (H : Args m c A) : (dats m 0 c).arrAt 3 cfg0.N = outArr A (m ((c.tc : Thread nD τ).loc main_arg2)) := by
  refine (dats m 0 c).arrAt_eq_of_covers 3 _ (by decide +kernel) fun t hf y => ?_
  have hi := index_out t
  blk_simp
  rw [after_3]
  have hy : (y 0).val < 512 := (y 0).isLt
  have hy1 : (y 1).val < 128 := (y 1).isLt
  refine (out_block H (headAt t) (Nat.mod_lt _ (by norm_num)) y (y 0) (y 1) rfl rfl).trans (outArr_at _ _ _ _ _ ?_ ?_).symm
  · blk_simp [hi]
    show t.val % 8 * 512 + (y 0).val = 512 * min (t.val % 8) 7 + (y 0).val
    omega
  · blk_simp [hi]
    rfl

/-- The second. -/
theorem arr_lse (H : Args m c A) : (dats m 0 c).arrAt 4 cfg0.N = lseArr A := by
  refine (dats m 0 c).arrAt_eq_of_covers 4 _ (by decide +kernel) fun t hf y => ?_
  have hi := index_out t
  blk_simp
  rw [after_4]
  have hy0 : (y 0).val < 1 := (y 0).isLt
  have hy1 : (y 1).val < 1 := (y 1).isLt
  have hy3 : (y 3).val < 512 := (y 3).isLt
  refine (lse_block H (headAt t) (Nat.mod_lt _ (by norm_num)) y (y 3) rfl).trans (lseArr_at _ _ _ ?_ ?_).symm
  · blk_simp [hi]
    rfl
  · blk_simp [hi]
    show t.val % 8 * 512 + (y 3).val = 512 * min (t.val % 8) 7 + (y 3).val
    omega

/-- Every run from real queries and keys ends with the outputs and the logarithms in the result arrays and the arguments as they were. -/
theorem run_value (ρ : Dev nD → PrngReg) (A : Dev nD → Operands) (H : ∀ c, Args m c (A c)) :
    θ_run (defs (F := Ideal)) (onTc (τ := τ) (main (F := Ideal))) ⟨m, fun _ => 0, ρ⟩ (fun r => ∀ c : Dev nD,
      r.2.mem ((c.tc : Thread nD τ).loc main_v17_0) = outArr (A c) (m ((c.tc : Thread nD τ).loc main_arg2))
      ∧ r.2.mem ((c.tc : Thread nD τ).loc main_v17_1) = lseArr (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (arr_out (H c)), ((h.1 c).1 4).trans (arr_lse (H c)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run_main m ρ)

end Cert.FlashFwdIdeal.Forward
-- ==== Proof.Forward.Finite.lean ====
/-
  Queries and keys whose entries are all finite are real operands.
-/
module

public import proofs.«01_k».proof.Defs
public import proofs.«01_k».proof.Proof.Gen.Pre_scores_finite
public import proofs.«01_k».proof.Proof.Flash.Finite
public import proofs.«01_k».proof.Proof.Forward.Reference

@[expose] public section

set_option maxRecDepth 16384

noncomputable section

namespace Cert.FlashFwdReferenceIdeal.Attention

open Idealize.ShloMosaic Cert.Attention

variable (x0 x1 : QK) (x2 : VV)

theorem finite_q (r : Fin 4096) (h : Fin 8) (d : Fin 192) :
    Cert.Pre_scores_finite.fn (F := Ideal) x0 x1 x2 (ix3 r h ⟨d.val, by omega⟩) = isFinite (x0 (ix3 r h d)) := by
  unfold Cert.Pre_scores_finite.fn
  pointwise
  rw [show Ideal.ofBits FTy.f32 2139095040#32 = ⊤ from inf_bits]
  rfl

theorem finite_k (r : Fin 4096) (h : Fin 8) (d : Fin 192) :
    Cert.Pre_scores_finite.fn (F := Ideal) x0 x1 x2 (ix3 r h ⟨192 + d.val, by omega⟩) = isFinite (x1 (ix3 r h d)) := by
  unfold Cert.Pre_scores_finite.fn
  pointwise
  rw [show Ideal.ofBits FTy.f32 2139095040#32 = ⊤ from inf_bits]
  rfl

/-- The queries and keys as real operands; the rest of them does not matter. -/
def operandsOf : Operands where
  q r h d := (x0 (ix3 r h d)).toReal
  k r h d := (x1 (ix3 r h d)).toReal
  v _ _ _ := 0
  g _ _ _ := 0
  top _ _ := 0

variable {x0 x1 x2}

/-- Finite queries and keys hold their operands. -/
theorem holds_of_finite (hf : Cert.Pre_scores_finite.fn (F := Ideal) x0 x1 x2 = fun _ => 1#1) : HoldsQK (operandsOf x0 x1) x0 x1 :=
  ⟨fun i r h d hr hh hd => by
    rw [eq_ix3 i r h d hr hh hd (ix3 r h d) rfl rfl rfl]
    exact real_of_finite ((finite_q x0 x1 x2 r h d).symm.trans (congrFun hf _)),
  fun i r h d hr hh hd => by
    rw [eq_ix3 i r h d hr hh hd (ix3 r h d) rfl rfl rfl]
    exact real_of_finite ((finite_k x0 x1 x2 r h d).symm.trans (congrFun hf _))⟩

end Cert.FlashFwdReferenceIdeal.Attention
-- ==== Proof.Forward.Claims.lean ====
/-
  The claims of the forward call: its run, gone through once at any numbers, read at the hardware's numbers and at the extended reals; its two
  named constants; and, from finite queries and keys, its results, which are the reference's.
-/
module

public import proofs.«01_k».proof.Defs
public import proofs.«01_k».proof.Proof.Gen.FlashFwd
public import proofs.«01_k».proof.Proof.Gen.FlashFwdReferenceIdeal.Run
public import proofs.«01_k».proof.Proof.Forward.Results
public import proofs.«01_k».proof.Proof.Forward.Finite
public import Idealize.ShloMosaic.Lib.Quiescent

@[expose] public section

noncomputable section

namespace Cert.Proof.Forward

open Idealize.ShloMosaic Idealize.ShloMosaic.TcCoe Idealize.SL.Sem
open Cert.Attention (Operands)
open Cert.FlashFwdIdeal.Forward (outArr lseArr run_value)
open Cert.FlashFwdReferenceIdeal.Attention (HoldsQK operandsOf holds_of_finite out_eq lse_eq)

/-! ### The frames -/

/-- At the hardware's numbers a named constant is its own pattern. -/
local instance ownPattern : Named Bits where
  named _ _ {φ} bits := Scalar.ofBits φ bits

set_option maxRecDepth 16384 in
set_option maxHeartbeats 1000000 in
/-- The two texts of @main are one. -/
theorem main_eq : Cert.FlashFwd.main (F := Bits) = Cert.FlashFwdIdeal.main (F := Bits) := rfl

set_option maxRecDepth 16384 in
set_option maxHeartbeats 1000000 in
/-- The two texts of the body, at every point of the grid, are one. -/
theorem defs₀_eq : Cert.FlashFwd.defs₀ (F := Bits) = Cert.FlashFwdIdeal.defs₀ (F := Bits) := by
  refine congrArg Defs.onTc (funext fun l => ?_)
  match l with
  | 0 => exact funext fun ⟨_, _⟩ => rfl
  | ⟨_ + 1, h⟩ => exact absurd h (Nat.not_lt.2 (Nat.le_add_left _ _))

set_option maxRecDepth 16384 in
set_option maxHeartbeats 1000000 in
/-- The two tables of functions are one. -/
theorem defs_eq : Cert.FlashFwd.defs (F := Bits) = Cert.FlashFwdIdeal.defs (F := Bits) :=
  congrArg (Pipeline.defs Cert.FlashFwdIdeal.pcfgs) defs₀_eq

/-- The call at the hardware's numbers ends with its arguments unchanged and every counter at zero. -/
theorem frame_FlashFwd : Cert.quiescent_FlashFwd := fun m ρ _ => by
  rw [defs_eq, main_eq]
  exact Cert.FlashFwdIdeal.Forward.run_frame (F := Bits) m ρ

/-- The call at the extended reals ends with its arguments unchanged and every counter at zero. -/
theorem frame_FlashFwdIdeal : Cert.quiescent_FlashFwdIdeal := fun m ρ _ => Cert.FlashFwdIdeal.Forward.run_frame (F := Ideal) m ρ

/-- The reference ends with its arguments unchanged and every counter at zero. -/
theorem frame_reference_FlashFwd : Cert.quiescent_FlashFwdReferenceIdeal := fun m ρ _ =>
  (θ_run Cert.FlashFwdReferenceIdeal.defs _ _).mono (fun r h => ⟨fun c => (h c).2.2, sem_eq_zero_of_no_sems rfl r.2⟩) (Cert.FlashFwdReferenceIdeal.Value.run (F := Ideal) m ρ)

/-! ### The values -/

/-- The masked score is minus infinity and the factor of the logarithm is one over the logarithm of two. -/
theorem preserves_FlashFwd : Cert.preserves_FlashFwd_FlashFwdIdeal :=
  ⟨IdealRules.named_const.statement Cert.FlashFwdIdeal.κ "mask" .f32 0xF149F2CA#32 ⊥ rfl,
    IdealRules.named_const.statement Cert.FlashFwdIdeal.κ "log2e" .f32 0x3FB8AA3B#32 (((Real.log 2)⁻¹ : ℝ) : EReal) rfl⟩

section Reference

open Cert.FlashFwdReferenceIdeal

variable (m : (ℓ : Loc nD τ sig) → Buf (Elt Ideal) ℓ) (c : Dev nD) {A : Operands}
  (H : HoldsQK A (m ((c.tc : Thread nD τ).loc main_arg0)) (m ((c.tc : Thread nD τ).loc main_arg1)))

include H

/-- The reference's first result is the means, -/
theorem ref_out : Cert.FlashFwdReferenceIdeal.Value.res_main_v42 m c = outArr A (m ((c.tc : Thread nD τ).loc main_arg2)) :=
  (Read.val_main_v42_eq m c).trans (funext fun i => by
    have hi : (i 1).val < 1024 := (i 1).isLt
    exact out_eq H i (i 0) ⟨(i 1).val / 128, by omega⟩ ⟨(i 1).val % 128, Nat.mod_lt _ (by norm_num)⟩ rfl (Nat.div_add_mod' _ _).symm)

/-- and its second the logarithms. -/
theorem ref_lse : Read.val_main_v43 (F := Ideal) (m ((c.tc : Thread nD τ).loc main_arg0)) (m ((c.tc : Thread nD τ).loc main_arg1)) = lseArr A :=
  funext fun i => by
    have h1 : (i 1).val < 8 := (i 1).isLt
    have h3 : (i 3).val < 512 := (i 3).isLt
    exact lse_eq H i (i 0) ⟨(i 1).val * 512 + (i 3).val, by omega⟩ rfl rfl

end Reference

/-- From finite queries and keys the call and the reference end with the same outputs and logarithms. -/
theorem algebraic_FlashFwd : Cert.algebraic_FlashFwdIdeal_FlashFwdReferenceIdeal_pre_scores_finite := by
  intro m ρ m' ρ' hpre hagree
  choose A H using fun c => Exists.intro (p := fun A => HoldsQK A _ _) _ (holds_of_finite (hpre c))
  refine ⟨fun c => outArr (A c) (m ((c.tc : Thread Cert.FlashFwdIdeal.nD Cert.FlashFwdIdeal.τ).loc Cert.FlashFwdIdeal.main_arg2)), fun c => lseArr (A c),
    run_value ρ A H, ?_⟩
  refine (θ_run Cert.FlashFwdReferenceIdeal.defs _ _).mono (fun r h c => ?_) (Cert.FlashFwdReferenceIdeal.Value.run (F := Ideal) m' ρ')
  have H' := H c
  obtain ⟨h0, h1, h2⟩ := hagree c
  rw [← h0, ← h1] at H'
  refine ⟨(h c).1.trans ((ref_out m' c H').trans (congrArg (outArr (A c)) h2)), (h c).2.1.trans ((Cert.FlashFwdReferenceIdeal.Read.val_main_v43_eq _ _).trans (ref_lse m' c H')), (h c).2.2⟩

end Cert.Proof.Forward

end
-- ==== Proof.Flash.Offsets.lean ====
/-
  The grid point `(h, u)` of the call works on head `h` and on key block `7 - u` (512 rows). Here are the closed forms of the row
  offsets, branch conditions and trip counts the kernel computes from `u` with 32-bit words: block `b` stands for the query rows from
  `3584 - 512 * b`.
-/
module

public import proofs.«01_k».proof.Proof.Gen.KernelIdeal
public import Idealize.ShloMosaic.Lib.Tactic

@[expose] public section

set_option maxRecDepth 16384

namespace Cert.KernelIdeal.Flash

open Cert.KernelIdeal Cert.KernelIdeal.Gen
open Idealize.ShloMosaic Idealize.ShloMosaic.Tactic

/-! ## Branches and trip counts -/

/-- The first branch is taken at `u = 0`, -/
theorem cond1_iff : ∀ i : grid0.Coords, k0_cond1 i = 1#1 ↔ (i 1).val = 0 := by decide +kernel
/-- and so is the second; -/
theorem cond2_iff : ∀ i : grid0.Coords, k0_cond2 i = 1#1 ↔ (i 1).val = 0 := by decide +kernel
/-- the third at every other point, -/
theorem cond3_iff : ∀ i : grid0.Coords, k0_cond3 i = 1#1 ↔ 0 < (i 1).val := by decide +kernel
/-- the fourth at odd `u`, -/
theorem cond4_iff : ∀ i : grid0.Coords, k0_cond4 i = 1#1 ↔ (i 1).val % 2 = 1 := by decide +kernel
/-- the fifth at even `u`. -/
theorem cond5_iff : ∀ i : grid0.Coords, k0_cond5 i = 1#1 ↔ (i 1).val % 2 = 0 := by decide +kernel

/-- The counted loop runs over pairs of blocks. -/
theorem trips1_eq : ∀ i : grid0.Coords, (k0_t1_loop i).trips = ((i 1).val - 1) / 2 := by decide +kernel
/-- Its remainder loop runs no trip. -/
theorem trips2_eq : ∀ i : grid0.Coords, (k0_t2_loop i).trips = 0 := by decide +kernel

/-! ## Offsets -/

theorem k0_off4_eq : ∀ i : grid0.Coords, k0_off4 i = ![0, 3584 - 512 * ((i 1).val + 1), 0] := by decide +kernel
theorem k0_off5_eq : ∀ i : grid0.Coords, k0_off5 i = ![0, 3584 - 512 * ((i 1).val + 1), 0] := by decide +kernel
theorem k0_off18_eq : ∀ i : grid0.Coords, k0_off18 i = ![0, 3584 - 512 * ((i 1).val + 1), 0] := by decide +kernel
theorem k0_off19_eq : ∀ i : grid0.Coords, k0_off19 i = ![0, 3584 - 512 * ((i 1).val + 1), 0] := by decide +kernel
theorem k0_off29_eq : ∀ i : grid0.Coords, k0_off29 i = ![0, 3584 - 512 * ((i 1).val + 1), 0] := by decide +kernel
theorem k0_off30_eq : ∀ i : grid0.Coords, k0_off30 i = ![0, 3584 - 512 * ((i 1).val + 1), 0] := by decide +kernel

theorem k0_off9_1 : ∀ (i : grid0.Coords) (t : Fin (k0_t1_loop i).trips), k0_off9 i t 1#32 = ![0, 3584 - 512 * (2 * t.val + 1), 0] := by decide +kernel
theorem k0_off9_2 : ∀ (i : grid0.Coords) (t : Fin (k0_t1_loop i).trips), k0_off9 i t 2#32 = ![0, 3584 - 512 * (2 * t.val + 2), 0] := by decide +kernel
theorem k0_off9_3 : ∀ (i : grid0.Coords) (t : Fin (k0_t1_loop i).trips), k0_off9 i t 3#32 = ![0, 3584 - 512 * (2 * t.val + 3), 0] := by decide +kernel
theorem k0_off11_1 : ∀ (i : grid0.Coords) (t : Fin (k0_t1_loop i).trips), k0_off11 i t 1#32 = ![3584 - 512 * (2 * t.val + 1), 0] := by decide +kernel
theorem k0_off11_2 : ∀ (i : grid0.Coords) (t : Fin (k0_t1_loop i).trips), k0_off11 i t 2#32 = ![3584 - 512 * (2 * t.val + 2), 0] := by decide +kernel
theorem k0_off11_3 : ∀ (i : grid0.Coords) (t : Fin (k0_t1_loop i).trips), k0_off11 i t 3#32 = ![3584 - 512 * (2 * t.val + 3), 0] := by decide +kernel
theorem k0_off12_1 : ∀ (i : grid0.Coords) (t : Fin (k0_t1_loop i).trips), k0_off12 i t 1#32 = ![0, 7 - (2 * t.val + 1), 0, 0] := by decide +kernel
theorem k0_off12_2 : ∀ (i : grid0.Coords) (t : Fin (k0_t1_loop i).trips), k0_off12 i t 2#32 = ![0, 7 - (2 * t.val + 2), 0, 0] := by decide +kernel

instance (i : grid0.Coords) : ClosedOff (k0_off4 i) := ⟨_, k0_off4_eq i⟩
instance (i : grid0.Coords) : ClosedOff (k0_off5 i) := ⟨_, k0_off5_eq i⟩
instance (i : grid0.Coords) : ClosedOff (k0_off18 i) := ⟨_, k0_off18_eq i⟩
instance (i : grid0.Coords) : ClosedOff (k0_off19 i) := ⟨_, k0_off19_eq i⟩
instance (i : grid0.Coords) : ClosedOff (k0_off29 i) := ⟨_, k0_off29_eq i⟩
instance (i : grid0.Coords) : ClosedOff (k0_off30 i) := ⟨_, k0_off30_eq i⟩
instance (i : grid0.Coords) (t : Fin (k0_t1_loop i).trips) : ClosedOff (k0_off9 i t 1#32) := ⟨_, k0_off9_1 i t⟩
instance (i : grid0.Coords) (t : Fin (k0_t1_loop i).trips) : ClosedOff (k0_off9 i t 2#32) := ⟨_, k0_off9_2 i t⟩
instance (i : grid0.Coords) (t : Fin (k0_t1_loop i).trips) : ClosedOff (k0_off9 i t 3#32) := ⟨_, k0_off9_3 i t⟩
instance (i : grid0.Coords) (t : Fin (k0_t1_loop i).trips) : ClosedOff (k0_off11 i t 1#32) := ⟨_, k0_off11_1 i t⟩
instance (i : grid0.Coords) (t : Fin (k0_t1_loop i).trips) : ClosedOff (k0_off11 i t 2#32) := ⟨_, k0_off11_2 i t⟩
instance (i : grid0.Coords) (t : Fin (k0_t1_loop i).trips) : ClosedOff (k0_off11 i t 3#32) := ⟨_, k0_off11_3 i t⟩
instance (i : grid0.Coords) (t : Fin (k0_t1_loop i).trips) : ClosedOff (k0_off12 i t 1#32) := ⟨_, k0_off12_1 i t⟩
instance (i : grid0.Coords) (t : Fin (k0_t1_loop i).trips) : ClosedOff (k0_off12 i t 2#32) := ⟨_, k0_off12_2 i t⟩

end Cert.KernelIdeal.Flash
-- ==== Proof.Flash.Sem.lean ====
/-
  What one grid point of the call computes, as plain functions of the arrays' blocks. The call goes over the key blocks; at each it visits
  the query blocks from the last one (`b = 0`) up to the diagonal one. For a pair of blocks it forms the scores of the keys against the
  queries and the products of the values with the output's gradient (`produce`), and from them the pair's share of the three gradients
  (`consume`).
-/
module

public import proofs.«01_k».proof.Proof.Gen.KernelIdeal.Skeleton
public import Idealize.ShloMosaic.Lib.VecWindow

@[expose] public section

set_option maxRecDepth 16384

noncomputable section

namespace Cert.KernelIdeal.Flash

open Cert.KernelIdeal Cert.KernelIdeal.Gen
open Idealize.ShloMosaic

variable {F : FTy → Type} [FloatOps F]

/-! ## Blocks of the arrays -/

/-- Query block `b` is in range: its rows start at `3584 - 512 * b`. -/
theorem rows_inb (b : ℕ) : ∀ a, (![0, 3584 - 512 * b, 0] : Fin 3 → ℕ) a + S1x512x256.size a ≤ S1x4096x256.size a := by
  intro a; fin_cases a <;> simp [S1x512x256, S1x4096x256] <;> omega
theorem half_inb (b : ℕ) : ∀ a, (![0, 3584 - 512 * b, 0] : Fin 3 → ℕ) a + S1x512x128.size a ≤ S1x4096x256.size a := by
  intro a; fin_cases a <;> simp [S1x512x128, S1x4096x256] <;> omega
theorem flat_inb (b : ℕ) : ∀ a, (![3584 - 512 * b, 0] : Fin 2 → ℕ) a + S512x128.size a ≤ S4096x128.size a := by
  intro a; fin_cases a <;> simp [S512x128, S4096x128] <;> omega
theorem row_inb (b : ℕ) : ∀ a, (![0, 7 - b, 0, 0] : Fin 4 → ℕ) a + S1x1x1x512.size a ≤ S1x8x1x512.size a := by
  intro a; fin_cases a <;> simp [S1x1x1x512, S1x8x1x512] <;> omega
theorem slot_inb (n : Fin 3) : ∀ a, (![n.val, 0, 0] : Fin 3 → ℕ) a + S1x512x512.size a ≤ S3x512x512.size a := by
  intro a; fin_cases a <;> simp [S1x512x512, S3x512x512] <;> omega

/-- Block `b` of a head's rows. -/
def rows {α : Type} (x : S1x4096x256.Idx → α) (b : ℕ) : S1x512x256.Idx → α := VecWindow.window x ![0, 3584 - 512 * b, 0] S1x512x256.size (rows_inb b)
/-- Its first 128 columns. -/
def half {α : Type} (x : S1x4096x256.Idx → α) (b : ℕ) : S1x512x128.Idx → α := VecWindow.window x ![0, 3584 - 512 * b, 0] S1x512x128.size (half_inb b)
/-- Block `b` of the output's gradient. -/
def flat {α : Type} (x : S4096x128.Idx → α) (b : ℕ) : S512x128.Idx → α := VecWindow.window x ![3584 - 512 * b, 0] S512x128.size (flat_inb b)
/-- Block `b` of a value per row. -/
def row {α : Type} (x : S1x8x1x512.Idx → α) (b : ℕ) : S1x1x1x512.Idx → α := VecWindow.window x ![0, 7 - b, 0, 0] S1x1x1x512.size (row_inb b)
/-- One of the three slots. -/
def slot {α : Type} (x : S3x512x512.Idx → α) (n : Fin 3) : S1x512x512.Idx → α := VecWindow.window x ![n.val, 0, 0] S1x512x512.size (slot_inb n)

/-- Block `b` replaced. -/
def putRows {α : Type} (x : S1x4096x256.Idx → α) (b : ℕ) (w : S1x512x256.Idx → α) : S1x4096x256.Idx → α := VecWindow.put x ![0, 3584 - 512 * b, 0] S1x512x256.size w
/-- A slot replaced. -/
def putSlot {α : Type} (x : S3x512x512.Idx → α) (n : Fin 3) (w : S1x512x512.Idx → α) : S3x512x512.Idx → α := VecWindow.put x ![n.val, 0, 0] S1x512x512.size w

/-! ## The arithmetic of one pair of blocks -/

/-- The scores of a key block against a query block. -/
def scoreOf (k q : Vec F S1x512x256 .bf16) : Vec F S1x512x512 .f32 :=
  shapeCast S1x512x512 (matmul dot_S512x256_S512x256_S512x512_1_1_0_0_n_n none (shapeCast S512x256 k shapeCasts_S1x512x256_S512x256) (shapeCast S512x256 q shapeCasts_S1x512x256_S512x256) (constant S512x512 .f32 0x00000000#32)) shapeCasts_S512x512_S1x512x512

/-- The products of a value block with a block of the output's gradient. -/
def gradProbOf (v : Vec F S1x512x128 .bf16) (d : Vec F S512x128 .bf16) : Vec F S1x512x512 .f32 :=
  shapeCast S1x512x512 (matmul dot_S512x128_S512x128_S512x512_1_1_0_0_n_n none (shapeCast S512x128 v shapeCasts_S1x512x128_S512x128) (shapeCast S512x128 d shapeCasts_S512x128_S512x128) (constant S512x512 .f32 0x00000000#32)) shapeCasts_S512x512_S1x512x512

/-- The probabilities, off the diagonal. -/
def probOf (s : Vec F S1x512x512 .f32) (l : Vec F S1x1x1x512 .f32) : FVec F S512x512 .f32 :=
  exp2 (subf (shapeCast S512x512 s shapeCasts_S1x512x512_S512x512) (broadcastTo S512x512 (shapeCast S1x512 l shapeCasts_S1x1x1x512_S1x512) broadcasts_S1x512_S512x512))

/-- The probabilities on the diagonal: a key after the query has none. -/
def probMaskedOf (s : Vec F S1x512x512 .f32) (l : Vec F S1x1x1x512 .f32) : FVec F S512x512 .f32 :=
  select (cmpi .sle (iota .tc S512x512 32 [0] iota_S512x512_d0_w32) (iota .tc S512x512 32 [1] iota_S512x512_d1_w32)) (probOf s l) (broadcast S512x512 (Scalar.ofBits .f32 0x00000000#32))

/-- The gradient of the values, with one more block's share. -/
def dvNext (p : FVec F S512x512 .f32) (d : Vec F S512x128 .bf16) (acc : Vec F S512x128 .f32) : Vec F S512x128 .f32 :=
  shapeCast S512x128 (addf acc (matmul dot_S512x512_S512x128_S512x128_1_0_0_1_n_n none (truncf .bf16 p bitsLt_bf16_f32) (shapeCast S512x128 d shapeCasts_S512x128_S512x128) (constant S512x128 .f32 0x00000000#32))) shapeCasts_S512x128_S512x128

/-- The gradient of the scores. -/
def dScoreOf (p : FVec F S512x512 .f32) (g : Vec F S1x512x512 .f32) (dl : Vec F S1x1x1x512 .f32) : FVec F S512x512 .bf16 :=
  truncf .bf16 (mulf p (subf (shapeCast S512x512 g shapeCasts_S1x512x512_S512x512) (broadcastTo S512x512 (shapeCast S1x512 dl shapeCasts_S1x1x1x512_S1x512) broadcasts_S1x512_S512x512))) bitsLt_bf16_f32

/-- The gradient of the keys, with one more block's share. -/
def dkNext (ds : FVec F S512x512 .bf16) (q : Vec F S1x512x256 .bf16) (acc : Vec F S512x256 .f32) : Vec F S512x256 .f32 :=
  shapeCast S512x256 (addf acc (matmul dot_S512x512_S512x256_S512x256_1_0_0_1_n_n none ds (shapeCast S512x256 q shapeCasts_S1x512x256_S512x256) (constant S512x256 .f32 0x00000000#32))) shapeCasts_S512x256_S512x256

/-- The gradient of the queries, with one more block's share. -/
def dqNext (ds : FVec F S512x512 .bf16) (k : Vec F S1x512x256 .bf16) (acc : Vec F S1x512x256 .f32) : Vec F S1x512x256 .f32 :=
  shapeCast S1x512x256 (addf (shapeCast S512x256 acc shapeCasts_S1x512x256_S512x256) (matmul dot_S512x512_S512x256_S512x256_0_0_1_1_n_n none ds (shapeCast S512x256 k shapeCasts_S1x512x256_S512x256) (constant S512x256 .f32 0x00000000#32))) shapeCasts_S512x256_S1x512x256

/-! ## The state of one head and its steps -/

/-- The blocks a grid point reads: queries, output's gradient, row log-sums, row products, keys, values. -/
structure In (F : FTy → Type) [FloatOps F] where
  q : Vec F S1x4096x256 .bf16
  g : Vec F S4096x128 .bf16
  l : Vec F S1x8x1x512 .f32
  d : Vec F S1x8x1x512 .f32
  k : Vec F S1x4096x256 .bf16
  v : Vec F S1x4096x256 .bf16

/-- The buffers it updates: the gradients of queries, keys and values, and the slots of scores and products. -/
structure St (F : FTy → Type) [FloatOps F] where
  dq : Vec F S1x4096x256 .f32
  dk : Vec F S512x256 .f32
  dv : Vec F S512x128 .f32
  st : Vec F S3x512x512 .f32
  dp : Vec F S3x512x512 .f32

/-- Scores and products of key block `j` against query block `b`, into slot `n`. -/
def produce (x : In F) (j b : ℕ) (n : Fin 3) (s : St F) : St F :=
  { s with st := putSlot s.st n (scoreOf (rows x.k j) (rows x.q b)), dp := putSlot s.dp n (gradProbOf (half x.v j) (flat x.g b)) }

/-- The share of query block `b` in the gradients, from slot `n`'s scores and products; `p` are the probabilities. -/
def consumeWith (p : FVec F S512x512 .f32) (x : In F) (j b : ℕ) (n : Fin 3) (s : St F) : St F :=
  { s with
    dv := dvNext p (flat x.g b) s.dv
    dk := dkNext (dScoreOf p (slot s.dp n) (row x.d b)) (rows x.q b) s.dk
    dq := putRows s.dq b (dqNext (dScoreOf p (slot s.dp n) (row x.d b)) (rows x.k j) (rows s.dq b)) }

/-- The same off the diagonal, -/
def consume (x : In F) (j b : ℕ) (n : Fin 3) (s : St F) : St F := consumeWith (probOf (slot s.st n) (row x.l b)) x j b n s
/-- and on the diagonal. -/
def consumeMasked (x : In F) (j b : ℕ) (n : Fin 3) (s : St F) : St F := consumeWith (probMaskedOf (slot s.st n) (row x.l b)) x j b n s

/-- One trip of the counted loop: two blocks, each one's scores formed a step ahead. -/
def pairStep (x : In F) (u t : ℕ) (s : St F) : St F :=
  consume x u (2 * t + 2) 0 (produce x u (2 * t + 3) 1 (consume x u (2 * t + 1) 1 (produce x u (2 * t + 2) 0 s)))

/-- The first `t` trips. -/
def pairs (x : In F) (u : ℕ) : ℕ → St F → St F
  | 0, s => s
  | t + 1, s => pairStep x u t (pairs x u t s)

/-- The head's first key block: its one query block is the diagonal one; the scores of the next key block's first pair are formed ahead. -/
def first (x : In F) (s : St F) : St F :=
  produce x 1 0 2 (consumeMasked x 0 0 2 (produce x 0 0 2
    { s with dq := constant S1x4096x256 .f32 0x00000000#32, dk := constant S512x256 .f32 0x00000000#32, dv := constant S512x128 .f32 0x00000000#32 }))

/-- A later key block up to its last trip of the counted loop. -/
def start (x : In F) (u : ℕ) (s : St F) : St F :=
  pairs x u ((u - 1) / 2) (consume x u 0 2 (produce x u 1 1 { s with dk := constant S512x256 .f32 0x00000000#32, dv := constant S512x128 .f32 0x00000000#32 }))

/-- The rest of an odd one: the diagonal block is left. -/
def finishOdd (x : In F) (u : ℕ) (s : St F) : St F := consumeMasked x u u 1 (produce x (u + 1) 0 2 s)
/-- The rest of an even one: the diagonal block and the one before it are left. -/
def finishEven (x : In F) (u : ℕ) (s : St F) : St F := consumeMasked x u u 0 (produce x (u + 1) 0 2 (consume x u (u - 1) 1 (produce x u u 0 s)))

/-- Key block `7 - u` of a head. -/
def point (x : In F) (u : ℕ) (s : St F) : St F :=
  if u = 0 then first x s else if u % 2 = 1 then finishOdd x u (start x u s) else finishEven x u (start x u s)

/-- The key block's gradients as they are handed back. -/
def dkOut (s : St F) : Vec F S1x512x256 .f32 := shapeCast S1x512x256 s.dk shapeCasts_S512x256_S1x512x256
def dvOut (s : St F) : Vec F S1x512x128 .f32 := shapeCast S1x512x128 s.dv shapeCasts_S512x128_S1x512x128

end Cert.KernelIdeal.Flash
-- ==== Proof.Flash.Trip.lean ====
/-
  The buffers one grid point works on, held at given values, and one trip of the counted loop over them.
-/
module

public import proofs.«01_k».proof.Proof.Flash.Offsets
public import proofs.«01_k».proof.Proof.Flash.Sem
public import proofs.«01_k».proof.Proof.Gen.KernelIdeal.Loops
public import Idealize.ShloMosaic.Lib.Tactic
public import Idealize.ShloMosaic.Lib.VecWindow

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : ℕ) (τ : Topo) := UR sig nD τ
abbrev 𝒱₀ : Variants := Variants.none
local notation "𝕄" => MT nD τ sig Unit (Elt F) ℕ (UU nD τ) ℕ

/-- A memref held at the value `X`. -/
abbrev at_ (c : Dev nD) {sp : Space} {s : Shape} {e : EltTy} (m : Memref sig .tc sp s e) (X : s.Idx → Elt F e) : sProp 𝕄 :=
  m.view.loc (c : Thread nD τ) ↦[m.view.set]{fullShare} m.view.rep X

/-! ## Loads and stores by their closed forms -/

section Access

variable {sp : Space} {e : EltTy}

theorem ld_rows (v : View sig .tc sp S1x4096x256 e) (f : v.ty.Contents (Elt F)) {off : Fin 3 → ℕ} {b : ℕ} (h : off = ![0, 3584 - 512 * b, 0]) (inb : ∀ a, off a + S1x512x256.size a ≤ S1x4096x256.size a) :
    v.readAt (Elt F) (Rect.unit (s := S1x4096x256) off S1x512x256.size inb).toLoadRect f = rows (v.read (Elt F) f) b := View.readAt_unit v f inb h _
theorem ld_half (v : View sig .tc sp S1x4096x256 e) (f : v.ty.Contents (Elt F)) {off : Fin 3 → ℕ} {b : ℕ} (h : off = ![0, 3584 - 512 * b, 0]) (inb : ∀ a, off a + S1x512x128.size a ≤ S1x4096x256.size a) :
    v.readAt (Elt F) (Rect.unit (s := S1x4096x256) off S1x512x128.size inb).toLoadRect f = half (v.read (Elt F) f) b := View.readAt_unit v f inb h _
theorem ld_flat (v : View sig .tc sp S4096x128 e) (f : v.ty.Contents (Elt F)) {off : Fin 2 → ℕ} {b : ℕ} (h : off = ![3584 - 512 * b, 0]) (inb : ∀ a, off a + S512x128.size a ≤ S4096x128.size a) :
    v.readAt (Elt F) (Rect.unit (s := S4096x128) off S512x128.size inb).toLoadRect f = flat (v.read (Elt F) f) b := View.readAt_unit v f inb h _
theorem ld_row (v : View sig .tc sp S1x8x1x512 e) (f : v.ty.Contents (Elt F)) {off : Fin 4 → ℕ} {b : ℕ} (h : off = ![0, 7 - b, 0, 0]) (inb : ∀ a, off a + S1x1x1x512.size a ≤ S1x8x1x512.size a) :
    v.readAt (Elt F) (Rect.unit (s := S1x8x1x512) off S1x1x1x512.size inb).toLoadRect f = row (v.read (Elt F) f) b := View.readAt_unit v f inb h _
theorem ld_slot (v : View sig .tc sp S3x512x512 e) (f : v.ty.Contents (Elt F)) {off : Fin 3 → ℕ} {n : Fin 3} (h : off = ![n.val, 0, 0]) (inb : ∀ a, off a + S1x512x512.size a ≤ S3x512x512.size a) :
    v.readAt (Elt F) (Rect.unit (s := S3x512x512) off S1x512x512.size inb).toLoadRect f = slot (v.read (Elt F) f) n := View.readAt_unit v f inb h _
theorem st_rows (v : View sig .tc sp S1x4096x256 e) (f : v.ty.Contents (Elt F)) {off : Fin 3 → ℕ} {b : ℕ} (h : off = ![0, 3584 - 512 * b, 0]) (inb : ∀ a, off a + S1x512x256.size a ≤ S1x4096x256.size a)
    (w : S1x512x256.Idx → Elt F e) (L : List (View.Piece (Elt F) S1x4096x256 e)) :
    v.read (Elt F) (v.writes (Elt F) f (⟨Rect.unit (s := S1x4096x256) off S1x512x256.size inb, w⟩ :: L)) = putRows (v.read (Elt F) (v.writes (Elt F) f L)) b w := View.read_writes_cons_put v f inb w L h
theorem st_slot (v : View sig .tc sp S3x512x512 e) (f : v.ty.Contents (Elt F)) {off : Fin 3 → ℕ} {n : Fin 3} (h : off = ![n.val, 0, 0]) (inb : ∀ a, off a + S1x512x512.size a ≤ S3x512x512.size a)
    (w : S1x512x512.Idx → Elt F e) (L : List (View.Piece (Elt F) S3x512x512 e)) :
    v.read (Elt F) (v.writes (Elt F) f (⟨Rect.unit (s := S3x512x512) off S1x512x512.size inb, w⟩ :: L)) = putSlot (v.read (Elt F) (v.writes (Elt F) f L)) n w := View.read_writes_cons_put v f inb w L h
theorem ld_dk (v : View sig .tc sp S512x256 e) (f : v.ty.Contents (Elt F)) {off : Fin 2 → ℕ} (inb : ∀ a, off a + S512x256.size a ≤ S512x256.size a) :
    v.readAt (Elt F) (Rect.unit (s := S512x256) off S512x256.size inb).toLoadRect f = v.read (Elt F) f := View.readAt_full v f inb
theorem ld_dv (v : View sig .tc sp S512x128 e) (f : v.ty.Contents (Elt F)) {off : Fin 2 → ℕ} (inb : ∀ a, off a + S512x128.size a ≤ S512x128.size a) :
    v.readAt (Elt F) (Rect.unit (s := S512x128) off S512x128.size inb).toLoadRect f = v.read (Elt F) f := View.readAt_full v f inb
theorem st_dk (v : View sig .tc sp S512x256 e) (f : v.ty.Contents (Elt F)) {off : Fin 2 → ℕ} (inb : ∀ a, off a + S512x256.size a ≤ S512x256.size a) (w : S512x256.Idx → Elt F e) (L : List (View.Piece (Elt F) S512x256 e)) :
    v.read (Elt F) (v.writes (Elt F) f (⟨Rect.unit (s := S512x256) off S512x256.size inb, w⟩ :: L)) = w := View.read_writes_full v f inb w L
theorem st_dv (v : View sig .tc sp S512x128 e) (f : v.ty.Contents (Elt F)) {off : Fin 2 → ℕ} (inb : ∀ a, off a + S512x128.size a ≤ S512x128.size a) (w : S512x128.Idx → Elt F e) (L : List (View.Piece (Elt F) S512x128 e)) :
    v.read (Elt F) (v.writes (Elt F) f (⟨Rect.unit (s := S512x128) off S512x128.size inb, w⟩ :: L)) = w := View.read_writes_full v f inb w L
theorem cov_dk (v : View sig .tc sp S512x256 e) {off : Fin 2 → ℕ} (inb inb' : ∀ a, off a + S512x256.size a ≤ S512x256.size a) (w : S512x256.Idx → Elt F e) (L : List (View.Piece (Elt F) S512x256 e)) :
    v.readCov (⟨Rect.unit (s := S512x256) off S512x256.size inb, w⟩ :: L) (Rect.unit (s := S512x256) off S512x256.size inb').toLoadRect = w := View.readCov_full v inb' inb w L
theorem cov_dv (v : View sig .tc sp S512x128 e) {off : Fin 2 → ℕ} (inb inb' : ∀ a, off a + S512x128.size a ≤ S512x128.size a) (w : S512x128.Idx → Elt F e) (L : List (View.Piece (Elt F) S512x128 e)) :
    v.readCov (⟨Rect.unit (s := S512x128) off S512x128.size inb, w⟩ :: L) (Rect.unit (s := S512x128) off S512x128.size inb').toLoadRect = w := View.readCov_full v inb' inb w L

/-- A load of the slots after stores into them. -/
theorem cov_slots (v : View sig .tc sp S3x512x512 e) {off : Fin 3 → ℕ} {n : Fin 3} (h : off = ![n.val, 0, 0]) (inb : ∀ a, off a + S1x512x512.size a ≤ S3x512x512.size a)
    (L : List (View.Piece (Elt F) S3x512x512 e)) :
    v.readCov L (Rect.unit (s := S3x512x512) off S1x512x512.size inb).toLoadRect = slot (v.read (Elt F) (v.writes (Elt F) v.junk L)) n := by
  show v.readAt (Elt F) _ (v.writes (Elt F) _ _) = _
  rw [ld_slot v _ h]

/-- A load of a block of rows after stores that cover it. -/
theorem cov_rows (v : View sig .tc sp S1x4096x256 e) {off : Fin 3 → ℕ} {b : ℕ} (h : off = ![0, 3584 - 512 * b, 0]) (inb : ∀ a, off a + S1x512x256.size a ≤ S1x4096x256.size a)
    (L : List (View.Piece (Elt F) S1x4096x256 e)) :
    v.readCov L (Rect.unit (s := S1x4096x256) off S1x512x256.size inb).toLoadRect = rows (v.read (Elt F) (v.writes (Elt F) v.junk L)) b := by
  show v.readAt (Elt F) _ (v.writes (Elt F) _ _) = _
  rw [ld_rows v _ h]
theorem st_dq (v : View sig .tc sp S1x4096x256 e) (f : v.ty.Contents (Elt F)) {off : Fin 3 → ℕ} (inb : ∀ a, off a + S1x4096x256.size a ≤ S1x4096x256.size a) (w : S1x4096x256.Idx → Elt F e) (L : List (View.Piece (Elt F) S1x4096x256 e)) :
    v.read (Elt F) (v.writes (Elt F) f (⟨Rect.unit (s := S1x4096x256) off S1x4096x256.size inb, w⟩ :: L)) = w := View.read_writes_full v f inb w L
theorem st_dkOut (v : View sig .tc sp S1x512x256 e) (f : v.ty.Contents (Elt F)) {off : Fin 3 → ℕ} (inb : ∀ a, off a + S1x512x256.size a ≤ S1x512x256.size a) (w : S1x512x256.Idx → Elt F e) (L : List (View.Piece (Elt F) S1x512x256 e)) :
    v.read (Elt F) (v.writes (Elt F) f (⟨Rect.unit (s := S1x512x256) off S1x512x256.size inb, w⟩ :: L)) = w := View.read_writes_full v f inb w L
theorem st_dvOut (v : View sig .tc sp S1x512x128 e) (f : v.ty.Contents (Elt F)) {off : Fin 3 → ℕ} (inb : ∀ a, off a + S1x512x128.size a ≤ S1x512x128.size a) (w : S1x512x128.Idx → Elt F e) (L : List (View.Piece (Elt F) S1x512x128 e)) :
    v.read (Elt F) (v.writes (Elt F) f (⟨Rect.unit (s := S1x512x128) off S1x512x128.size inb, w⟩ :: L)) = w := View.read_writes_full v f inb w L

/-- One store, as a list of stores. -/
theorem fold_write {s : Shape} (v : View sig .tc sp s e) (r : Rect s) (f : v.ty.Contents (Elt F)) (w : r.shape.Idx → Elt F e) :
    View.write (Elt F) (v.slice r) f w Finset.univ = v.writes (Elt F) f [⟨r, w⟩] := rfl

end Access

theorem slot_put_same {α : Type} (x : S3x512x512.Idx → α) (n : Fin 3) (w : S1x512x512.Idx → α) : slot (putSlot x n w) n = w := VecWindow.window_put_same ..
theorem slot_put_ne {α : Type} (x : S3x512x512.Idx → α) {n m : Fin 3} (h : m ≠ n) (w : S1x512x512.Idx → α) : slot (putSlot x n w) m = slot x m :=
  VecWindow.window_put_of_disjoint _ _ _ _ _ _ _ (0 : Fin 3) (by
    have : m.val ≠ n.val := fun e => h (Fin.ext e)
    show m.val + 1 ≤ n.val ∨ n.val + 1 ≤ m.val
    omega)

section Trip

variable (c : Dev nD) (i : grid0.Coords)
  (arg2 : Memref sig .tc .vmem S1x4096x256 .bf16) (harg2 : arg2.IsWhole) (arg3 : Memref sig .tc .vmem S4096x128 .bf16) (harg3 : arg3.IsWhole)
  (arg4 : Memref sig .tc .vmem S1x8x1x512 .f32) (harg4 : arg4.IsWhole) (arg5 : Memref sig .tc .vmem S1x8x1x512 .f32) (harg5 : arg5.IsWhole)
  (arg6 : Memref sig .tc .vmem S1x4096x256 .bf16) (harg6 : arg6.IsWhole) (arg7 : Memref sig .tc .vmem S1x4096x256 .bf16) (harg7 : arg7.IsWhole)
  (arg8 : Memref sig .tc .vmem S1x4096x256 .f32) (harg8 : arg8.IsWhole) (arg9 : Memref sig .tc .vmem S1x512x256 .f32) (harg9 : arg9.IsWhole)
  (arg10 : Memref sig .tc .vmem S1x512x128 .f32) (harg10 : arg10.IsWhole) (arg11 : Memref sig .tc .vmem S512x256 .f32) (harg11 : arg11.IsWhole)
  (arg12 : Memref sig .tc .vmem S512x128 .f32) (harg12 : arg12.IsWhole) (arg13 : Memref sig .tc .vmem S3x512x512 .f32) (harg13 : arg13.IsWhole)
  (arg14 : Memref sig .tc .vmem S3x512x512 .f32) (harg14 : arg14.IsWhole)

/-- The six blocks read, at their values. -/
abbrev ins (x : In F) : sProp 𝕄 :=
  iprop(at_ c arg2 x.q ∗ at_ c arg3 x.g ∗ at_ c arg4 x.l ∗ at_ c arg5 x.d ∗ at_ c arg6 x.k ∗ at_ c arg7 x.v)
/-- The five buffers updated, at theirs. -/
abbrev sts (s : St F) : sProp 𝕄 :=
  iprop(at_ c arg8 s.dq ∗ at_ c arg11 s.dk ∗ at_ c arg12 s.dv ∗ at_ c arg13 s.st ∗ at_ c arg14 s.dp)

abbrev res (x : In F) (s : St F) : sProp 𝕄 :=
  iprop(ins c arg2 arg3 arg4 arg5 arg6 arg7 x ∗ sts c arg8 arg11 arg12 arg13 arg14 s)

theorem trip (k : Fin (k0_t1_loop i).trips) (h3 : k0_cond3 i = 1#1) (w1 w0 : BitVec 32) (v97 : FVec F S512x256 .f32) (x : In F) (s : St F) :
    res c arg2 arg3 arg4 arg5 arg6 arg7 arg8 arg11 arg12 arg13 arg14 x s
      ⊢ wp frame (wpE (defs₀ (F := F)) 𝒱₀ (c : Thread nD τ) none) Set.univ
          (k0_t1_body i arg2 harg2 arg3 harg3 arg4 harg4 arg5 harg5 arg6 harg6 arg7 harg7 arg8 harg8 arg9 harg9 arg10 harg10 arg11 harg11 arg12 harg12 arg13 harg13 arg14 harg14
            w1 w0 (k0_pay76 (rows x.k (i 1).val)) h3 v97 k ())
          (fun _ => res c arg2 arg3 arg4 arg5 arg6 arg7 arg8 arg11 arg12 arg13 arg14 x (pairStep x (i 1).val k.val s)) := by
  iintro ⟨⟨H2, H3, H4, H5, H6, H7⟩, H8, H11, H12, H13, H14⟩
  sl_unfold [k0_t1_body]
  sl_exec
  sl_step
  delta trip.sl.H11_1 trip.sl.H12_1 trip.sl.H13_2 trip.sl.H14_2 trip.sl.H8_1 trip.sl.r_4 trip.sl.r_5 trip.sl.r_6 trip.sl.v287 trip.sl.v296 trip.sl.r trip.sl.r_1 trip.sl.r_2 trip.sl.r_3 trip.sl.v192 trip.sl.v272 trip.sl.v280 trip.sl.v207
  ihave G8 := (pointsTo_rep_entails (c : Thread nD τ) arg8 _ fullShare) $$ H8
  ihave G11 := (pointsTo_rep_entails (c : Thread nD τ) arg11 _ fullShare) $$ H11
  ihave G12 := (pointsTo_rep_entails (c : Thread nD τ) arg12 _ fullShare) $$ H12
  ihave G13 := (pointsTo_rep_entails (c : Thread nD τ) arg13 _ fullShare) $$ H13
  ihave G14 := (pointsTo_rep_entails (c : Thread nD τ) arg14 _ fullShare) $$ H14
  simp only [ld_rows (h := k0_off9_1 i k), ld_rows (h := k0_off9_2 i k), ld_rows (h := k0_off9_3 i k), ld_flat (h := k0_off11_1 i k), ld_flat (h := k0_off11_2 i k), ld_flat (h := k0_off11_3 i k),
    ld_row (h := k0_off12_1 i k), ld_row (h := k0_off12_2 i k), ld_rows (h := k0_off8_eq i), ld_half (h := k0_off10_eq i),
    ld_slot (off := ![0, 0, 0]) (n := 0) (h := rfl), ld_slot (off := ![1, 0, 0]) (n := 1) (h := rfl), cov_slots (off := ![0, 0, 0]) (n := 0) (h := rfl), cov_slots (off := ![1, 0, 0]) (n := 1) (h := rfl),
    st_rows (h := k0_off9_1 i k), st_rows (h := k0_off9_2 i k), st_slot (off := ![0, 0, 0]) (n := 0) (h := rfl), st_slot (off := ![1, 0, 0]) (n := 1) (h := rfl),
    ld_dk (off := ![0, 0]), ld_dv (off := ![0, 0]), st_dk (off := ![0, 0]), st_dv (off := ![0, 0]), cov_dk (off := ![0, 0]), cov_dv (off := ![0, 0]), View.writes_nil, View.read_rep, slot_put_same, slot_put_ne, ne_eq, Fin.reduceEq, not_false_eq_true, zero_ne_one, one_ne_zero,
    pairStep, consume, consumeWith, produce]
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [G8]; · iexact G8
  isplitl [G11]; · iexact G11
  isplitl [G12]; · iexact G12
  isplitl [G13]; · iexact G13
  iexact G14

end Trip

end Cert.KernelIdeal.Flash
-- ==== Proof.Flash.Loop.lean ====
/-
  The counted loop's invariant: before its trip `k` the buffers hold what `k` trips leave.
-/
module

public import proofs.«01_k».proof.Proof.Flash.Trip

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section Loop

variable (c : Dev nD) (i : grid0.Coords)
  (arg2 : Memref sig .tc .vmem S1x4096x256 .bf16) (harg2 : arg2.IsWhole) (arg3 : Memref sig .tc .vmem S4096x128 .bf16) (harg3 : arg3.IsWhole)
  (arg4 : Memref sig .tc .vmem S1x8x1x512 .f32) (harg4 : arg4.IsWhole) (arg5 : Memref sig .tc .vmem S1x8x1x512 .f32) (harg5 : arg5.IsWhole)
  (arg6 : Memref sig .tc .vmem S1x4096x256 .bf16) (harg6 : arg6.IsWhole) (arg7 : Memref sig .tc .vmem S1x4096x256 .bf16) (harg7 : arg7.IsWhole)
  (arg8 : Memref sig .tc .vmem S1x4096x256 .f32) (harg8 : arg8.IsWhole) (arg9 : Memref sig .tc .vmem S1x512x256 .f32) (harg9 : arg9.IsWhole)
  (arg10 : Memref sig .tc .vmem S1x512x128 .f32) (harg10 : arg10.IsWhole) (arg11 : Memref sig .tc .vmem S512x256 .f32) (harg11 : arg11.IsWhole)
  (arg12 : Memref sig .tc .vmem S512x128 .f32) (harg12 : arg12.IsWhole) (arg13 : Memref sig .tc .vmem S3x512x512 .f32) (harg13 : arg13.IsWhole)
  (arg14 : Memref sig .tc .vmem S3x512x512 .f32) (harg14 : arg14.IsWhole)

abbrev k18 (x : In F) : FVec F S512x256 .bf16 :=
  k0_pay76 (arg6.view.readAt (Elt F) (Rect.unit (s := S1x4096x256) (k0_off1 i) S1x512x256.size (k0_off1_inb i)).toLoadRect (arg6.view.rep x.k))

section Acc

variable (x : In F)
  (g8 : Buf (Elt F) (arg8.view.loc (c : Thread nD τ))) (g11 : Buf (Elt F) (arg11.view.loc (c : Thread nD τ))) (g12 : Buf (Elt F) (arg12.view.loc (c : Thread nD τ)))
  (g13 : Buf (Elt F) (arg13.view.loc (c : Thread nD τ))) (g14 : Buf (Elt F) (arg14.view.loc (c : Thread nD τ)))

/-- The values the buffers hold at the loop's entry. -/
abbrev entry : St F := ⟨arg8.view.read (Elt F) g8, arg11.view.read (Elt F) g11, arg12.view.read (Elt F) g12, arg13.view.read (Elt F) g13, arg14.view.read (Elt F) g14⟩

/-- After `k` trips. -/
abbrev after_ (k : ℕ) : St F := pairs x (i 1).val k (entry c arg8 arg11 arg12 arg13 arg14 g8 g11 g12 g13 g14)

/-- What `arg8` holds before trip `k`: at the entry what it held, then the trips' value. -/
def acc8 : ℕ → Buf (Elt F) (arg8.view.loc (c : Thread nD τ))
  | 0 => g8
  | k + 1 => arg8.view.rep (after_ c i arg8 arg11 arg12 arg13 arg14 x g8 g11 g12 g13 g14 (k + 1)).dq

theorem read_acc8 (k : ℕ) : arg8.view.read (Elt F) (acc8 c i arg8 arg11 arg12 arg13 arg14 x g8 g11 g12 g13 g14 k) = (after_ c i arg8 arg11 arg12 arg13 arg14 x g8 g11 g12 g13 g14 k).dq := by
  cases k with
  | zero => rfl
  | succ k => exact View.read_rep _ _

/-- What `arg11` holds before trip `k`: at the entry what it held, then the trips' value. -/
def acc11 : ℕ → Buf (Elt F) (arg11.view.loc (c : Thread nD τ))
  | 0 => g11
  | k + 1 => arg11.view.rep (after_ c i arg8 arg11 arg12 arg13 arg14 x g8 g11 g12 g13 g14 (k + 1)).dk

theorem read_acc11 (k : ℕ) : arg11.view.read (Elt F) (acc11 c i arg8 arg11 arg12 arg13 arg14 x g8 g11 g12 g13 g14 k) = (after_ c i arg8 arg11 arg12 arg13 arg14 x g8 g11 g12 g13 g14 k).dk := by
  cases k with
  | zero => rfl
  | succ k => exact View.read_rep _ _

/-- What `arg12` holds before trip `k`: at the entry what it held, then the trips' value. -/
def acc12 : ℕ → Buf (Elt F) (arg12.view.loc (c : Thread nD τ))
  | 0 => g12
  | k + 1 => arg12.view.rep (after_ c i arg8 arg11 arg12 arg13 arg14 x g8 g11 g12 g13 g14 (k + 1)).dv

theorem read_acc12 (k : ℕ) : arg12.view.read (Elt F) (acc12 c i arg8 arg11 arg12 arg13 arg14 x g8 g11 g12 g13 g14 k) = (after_ c i arg8 arg11 arg12 arg13 arg14 x g8 g11 g12 g13 g14 k).dv := by
  cases k with
  | zero => rfl
  | succ k => exact View.read_rep _ _

/-- What `arg13` holds before trip `k`: at the entry what it held, then the trips' value. -/
def acc13 : ℕ → Buf (Elt F) (arg13.view.loc (c : Thread nD τ))
  | 0 => g13
  | k + 1 => arg13.view.rep (after_ c i arg8 arg11 arg12 arg13 arg14 x g8 g11 g12 g13 g14 (k + 1)).st

theorem read_acc13 (k : ℕ) : arg13.view.read (Elt F) (acc13 c i arg8 arg11 arg12 arg13 arg14 x g8 g11 g12 g13 g14 k) = (after_ c i arg8 arg11 arg12 arg13 arg14 x g8 g11 g12 g13 g14 k).st := by
  cases k with
  | zero => rfl
  | succ k => exact View.read_rep _ _

/-- What `arg14` holds before trip `k`: at the entry what it held, then the trips' value. -/
def acc14 : ℕ → Buf (Elt F) (arg14.view.loc (c : Thread nD τ))
  | 0 => g14
  | k + 1 => arg14.view.rep (after_ c i arg8 arg11 arg12 arg13 arg14 x g8 g11 g12 g13 g14 (k + 1)).dp

theorem read_acc14 (k : ℕ) : arg14.view.read (Elt F) (acc14 c i arg8 arg11 arg12 arg13 arg14 x g8 g11 g12 g13 g14 k) = (after_ c i arg8 arg11 arg12 arg13 arg14 x g8 g11 g12 g13 g14 k).dp := by
  cases k with
  | zero => rfl
  | succ k => exact View.read_rep _ _

/-- The five buffers before trip `k`. -/
abbrev loopSts (k : ℕ) : sProp 𝕄 :=
  iprop((arg8.view.loc (c : Thread nD τ) ↦[arg8.view.set]{fullShare} acc8 c i arg8 arg11 arg12 arg13 arg14 x g8 g11 g12 g13 g14 k)
    ∗ (arg11.view.loc (c : Thread nD τ) ↦[arg11.view.set]{fullShare} acc11 c i arg8 arg11 arg12 arg13 arg14 x g8 g11 g12 g13 g14 k)
    ∗ (arg12.view.loc (c : Thread nD τ) ↦[arg12.view.set]{fullShare} acc12 c i arg8 arg11 arg12 arg13 arg14 x g8 g11 g12 g13 g14 k)
    ∗ (arg13.view.loc (c : Thread nD τ) ↦[arg13.view.set]{fullShare} acc13 c i arg8 arg11 arg12 arg13 arg14 x g8 g11 g12 g13 g14 k)
    ∗ (arg14.view.loc (c : Thread nD τ) ↦[arg14.view.set]{fullShare} acc14 c i arg8 arg11 arg12 arg13 arg14 x g8 g11 g12 g13 g14 k))

theorem loopSts_entails (k : ℕ) :
    loopSts c i arg8 arg11 arg12 arg13 arg14 x g8 g11 g12 g13 g14 k ⊢ sts c arg8 arg11 arg12 arg13 arg14 (after_ c i arg8 arg11 arg12 arg13 arg14 x g8 g11 g12 g13 g14 k) := by
  iintro ⟨H8, H11, H12, H13, H14⟩
  ihave G8 := (pointsTo_rep_entails (c : Thread nD τ) arg8 _ fullShare) $$ H8
  ihave G11 := (pointsTo_rep_entails (c : Thread nD τ) arg11 _ fullShare) $$ H11
  ihave G12 := (pointsTo_rep_entails (c : Thread nD τ) arg12 _ fullShare) $$ H12
  ihave G13 := (pointsTo_rep_entails (c : Thread nD τ) arg13 _ fullShare) $$ H13
  ihave G14 := (pointsTo_rep_entails (c : Thread nD τ) arg14 _ fullShare) $$ H14
  simp only [read_acc8, read_acc11, read_acc12, read_acc13, read_acc14]
  isplitl [G8]; · iexact G8
  isplitl [G11]; · iexact G11
  isplitl [G12]; · iexact G12
  isplitl [G13]; · iexact G13
  iexact G14

end Acc

variable (h3 : k0_cond3 i = 1#1)

set_option warn.classDefReducibility false in
/-- The loop's invariant. -/
@[sl_loop] def loopInv1 (w1 w0 : BitVec 32) (v97 : FVec F S512x256 .f32) (x : In F)
    (g8 : Buf (Elt F) (arg8.view.loc (c : Thread nD τ))) (g11 : Buf (Elt F) (arg11.view.loc (c : Thread nD τ))) (g12 : Buf (Elt F) (arg12.view.loc (c : Thread nD τ)))
    (g13 : Buf (Elt F) (arg13.view.loc (c : Thread nD τ))) (g14 : Buf (Elt F) (arg14.view.loc (c : Thread nD τ))) :
    LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 w1 w0 (k18 i arg6 x) h3 v97 where
  inv k _ := iprop(ins c arg2 arg3 arg4 arg5 arg6 arg7 x ∗ loopSts c i arg8 arg11 arg12 arg13 arg14 x g8 g11 g12 g13 g14 k)
  step k _ := by
    iintro ⟨Hi, Hs⟩
    ihave Hs' := (loopSts_entails c i arg8 arg11 arg12 arg13 arg14 x g8 g11 g12 g13 g14 k.val) $$ Hs
    have e : k18 i arg6 x = k0_pay76 (rows x.k (i 1).val) := by
      unfold k18; rw [ld_rows _ _ (k0_off1_eq i), View.read_rep]
    rw [e]
    iapply (trip c i arg2 harg2 arg3 harg3 arg4 harg4 arg5 harg5 arg6 harg6 arg7 harg7 arg8 harg8 arg9 harg9 arg10 harg10 arg11 harg11 arg12 harg12 arg13 harg13 arg14 harg14 k h3 w1 w0 v97 x (after_ c i arg8 arg11 arg12 arg13 arg14 x g8 g11 g12 g13 g14 k.val))
    isplitl [Hi]; · iexact Hi
    iexact Hs'

set_option warn.classDefReducibility false in
/-- The remainder loop runs no trip. -/
@[sl_loop] def loopInv2 (w1 w0 w4 : BitVec 32) (v97 : FVec F S512x256 .f32) (x : In F)
    (g8 : Buf (Elt F) (arg8.view.loc (c : Thread nD τ))) (g11 : Buf (Elt F) (arg11.view.loc (c : Thread nD τ))) (g12 : Buf (Elt F) (arg12.view.loc (c : Thread nD τ)))
    (g13 : Buf (Elt F) (arg13.view.loc (c : Thread nD τ))) (g14 : Buf (Elt F) (arg14.view.loc (c : Thread nD τ))) :
    LoopInvTy_k0_t2 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 w1 w0 (k18 i arg6 x) h3 v97 w4 where
  inv _ _ := iprop(ins c arg2 arg3 arg4 arg5 arg6 arg7 x ∗ loopSts c i arg8 arg11 arg12 arg13 arg14 x g8 g11 g12 g13 g14 (k0_t1_loop i).trips)
  step k _ := (Nat.not_lt_zero _ (Nat.lt_of_lt_of_eq k.isLt (trips2_eq i))).elim

end Loop

end Cert.KernelIdeal.Flash
-- ==== Proof.Flash.Body.lean ====
/-
  One grid point of the call: from the blocks read and the state before, the state after and the key block's gradients handed back.
-/
module

public import proofs.«01_k».proof.Proof.Flash.Loop

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section Body

variable (c : Dev nD) (i : grid0.Coords)
  (arg2 : Memref sig .tc .vmem S1x4096x256 .bf16) (harg2 : arg2.IsWhole) (arg3 : Memref sig .tc .vmem S4096x128 .bf16) (harg3 : arg3.IsWhole)
  (arg4 : Memref sig .tc .vmem S1x8x1x512 .f32) (harg4 : arg4.IsWhole) (arg5 : Memref sig .tc .vmem S1x8x1x512 .f32) (harg5 : arg5.IsWhole)
  (arg6 : Memref sig .tc .vmem S1x4096x256 .bf16) (harg6 : arg6.IsWhole) (arg7 : Memref sig .tc .vmem S1x4096x256 .bf16) (harg7 : arg7.IsWhole)
  (arg8 : Memref sig .tc .vmem S1x4096x256 .f32) (harg8 : arg8.IsWhole) (arg9 : Memref sig .tc .vmem S1x512x256 .f32) (harg9 : arg9.IsWhole)
  (arg10 : Memref sig .tc .vmem S1x512x128 .f32) (harg10 : arg10.IsWhole) (arg11 : Memref sig .tc .vmem S512x256 .f32) (harg11 : arg11.IsWhole)
  (arg12 : Memref sig .tc .vmem S512x128 .f32) (harg12 : arg12.IsWhole) (arg13 : Memref sig .tc .vmem S3x512x512 .f32) (harg13 : arg13.IsWhole)
  (arg14 : Memref sig .tc .vmem S3x512x512 .f32) (harg14 : arg14.IsWhole)

/-- What a grid point is given: the blocks read, the state before, the two outputs of the key block at anything. -/
abbrev PRE (x : In F) (s : St F) (g9 : Buf (Elt F) (arg9.view.loc (c : Thread nD τ))) (g10 : Buf (Elt F) (arg10.view.loc (c : Thread nD τ))) : sProp 𝕄 :=
  iprop(res c arg2 arg3 arg4 arg5 arg6 arg7 arg8 arg11 arg12 arg13 arg14 x s ∗ (arg9.view.loc (c : Thread nD τ) ↦[arg9.view.set]{fullShare} g9)
    ∗ (arg10.view.loc (c : Thread nD τ) ↦[arg10.view.set]{fullShare} g10))
/-- What it leaves. -/
abbrev POST (x : In F) (s : St F) : sProp 𝕄 :=
  iprop(res c arg2 arg3 arg4 arg5 arg6 arg7 arg8 arg11 arg12 arg13 arg14 x s ∗ at_ c arg9 (dkOut s) ∗ at_ c arg10 (dvOut s))

/-- A head's first key block. -/
theorem body_first (h1 : k0_cond1 i = 1#1) (h2 : k0_cond2 i = 1#1) (h3 : ¬ k0_cond3 i = 1#1) (x : In F) (s : St F)
    (g9 : Buf (Elt F) (arg9.view.loc (c : Thread nD τ))) (g10 : Buf (Elt F) (arg10.view.loc (c : Thread nD τ))) :
    PRE c arg2 arg3 arg4 arg5 arg6 arg7 arg8 arg9 arg10 arg11 arg12 arg13 arg14 x s g9 g10
      ⊢ wp frame (wpE (defs₀ (F := F)) 𝒱₀ (c : Thread nD τ) none) Set.univ (cc0_flash_bwd i arg2 harg2 arg3 harg3 arg4 harg4 arg5 harg5 arg6 harg6 arg7 harg7 arg8 harg8 arg9 harg9 arg10 harg10 arg11 harg11 arg12 harg12 arg13 harg13 arg14 harg14)
          (fun _ => POST c arg2 arg3 arg4 arg5 arg6 arg7 arg8 arg9 arg10 arg11 arg12 arg13 arg14 x (first x s)) := by
  have hu : (i 1).val = 0 := (cond1_iff i).1 h1
  have e1 : k0_off1 i = ![0, 3584 - 512 * 0, 0] := by rw [k0_off1_eq, hu]
  have e2 : k0_off2 i = ![0, 3584 - 512 * 0, 0] := by rw [k0_off2_eq, hu]
  have e3 : k0_off3 i = ![0, 3584 - 512 * 0, 0] := by rw [k0_off3_eq, hu]
  have e4 : k0_off4 i = ![0, 3584 - 512 * 1, 0] := by rw [k0_off4_eq, hu]
  have e5 : k0_off5 i = ![0, 3584 - 512 * 1, 0] := by rw [k0_off5_eq, hu]
  iintro ⟨⟨⟨H2, H3, H4, H5, H6, H7⟩, H8, H11, H12, H13, H14⟩, H9, H10⟩
  sl_unfold [cc0_flash_bwd]
  sl_exec
  sl_step
  delta body_first.sl.H11_2 body_first.sl.H12_2 body_first.sl.H13_1 body_first.sl.H14_1 body_first.sl.H8_1 body_first.sl.r_2 body_first.sl.v25 body_first.sl.v29 body_first.sl.v99 body_first.sl.H11_1 body_first.sl.H12_1 body_first.sl.r body_first.sl.r_1 body_first.sl.v65 body_first.sl.v77 body_first.sl.v84 body_first.sl.v92
  ihave G8 := (pointsTo_rep_entails (c : Thread nD τ) arg8 _ fullShare) $$ H8
  ihave G9 := (pointsTo_rep_entails (c : Thread nD τ) arg9 _ fullShare) $$ H9
  ihave G10 := (pointsTo_rep_entails (c : Thread nD τ) arg10 _ fullShare) $$ H10
  ihave G11 := (pointsTo_rep_entails (c : Thread nD τ) arg11 _ fullShare) $$ H11
  ihave G12 := (pointsTo_rep_entails (c : Thread nD τ) arg12 _ fullShare) $$ H12
  ihave G13 := (pointsTo_rep_entails (c : Thread nD τ) arg13 _ fullShare) $$ H13
  ihave G14 := (pointsTo_rep_entails (c : Thread nD τ) arg14 _ fullShare) $$ H14
  simp only [fold_write, ld_rows (off := ![0, 3584, 0]) (b := 0) (h := rfl), cov_rows (off := ![0, 3584, 0]) (b := 0) (h := rfl), ld_rows (h := e1), cov_rows (h := e1),
    ld_rows (h := e2), cov_rows (h := e2), ld_rows (h := e4), cov_rows (h := e4), st_rows (off := ![0, 3584, 0]) (b := 0) (h := rfl),
    ld_half (h := e3), ld_half (h := e5), ld_flat (off := ![3584, 0]) (b := 0) (h := rfl), ld_row (off := ![0, 7, 0, 0]) (b := 0) (h := rfl), ld_slot (off := ![0, 0, 0]) (n := 0) (h := rfl),
    cov_slots (off := ![0, 0, 0]) (n := 0) (h := rfl), st_slot (off := ![0, 0, 0]) (n := 0) (h := rfl), ld_slot (off := ![1, 0, 0]) (n := 1) (h := rfl), cov_slots (off := ![1, 0, 0]) (n := 1) (h := rfl), st_slot (off := ![1, 0, 0]) (n := 1) (h := rfl),
    ld_slot (off := ![2, 0, 0]) (n := 2) (h := rfl), cov_slots (off := ![2, 0, 0]) (n := 2) (h := rfl), st_slot (off := ![2, 0, 0]) (n := 2) (h := rfl), ld_dk (off := ![0, 0]), ld_dv (off := ![0, 0]),
    st_dk (off := ![0, 0]), st_dv (off := ![0, 0]), cov_dk (off := ![0, 0]), cov_dv (off := ![0, 0]), st_dq (off := ![0, 0, 0]),
    st_dkOut (off := ![0, 0, 0]), st_dvOut (off := ![0, 0, 0]), View.writes_nil, View.read_rep, slot_put_same,
    slot_put_ne, ne_eq, Fin.reduceEq, not_false_eq_true, zero_ne_one,
    one_ne_zero, consume, consumeMasked, consumeWith, produce,
    first, dkOut, dvOut]
  isplitl [H2 H3 H4 H5 H6 H7 G8 G11 G12 G13 G14]
  · isplitl [H2 H3 H4 H5 H6 H7]
    · isplitl [H2]; · iexact H2
      isplitl [H3]; · iexact H3
      isplitl [H4]; · iexact H4
      isplitl [H5]; · iexact H5
      isplitl [H6]; · iexact H6
      iexact H7
    isplitl [G8]; · iexact G8
    isplitl [G11]; · iexact G11
    isplitl [G12]; · iexact G12
    isplitl [G13]; · iexact G13
    iexact G14
  isplitl [G9]; · iexact G9
  iexact G10

/-- A later key block, at odd `u`. -/
theorem body_odd (h1 : ¬ k0_cond1 i = 1#1) (h2 : ¬ k0_cond2 i = 1#1) (h3 : k0_cond3 i = 1#1) (h4 : k0_cond4 i = 1#1) (h5 : ¬ k0_cond5 i = 1#1) (x : In F) (s : St F)
    (g9 : Buf (Elt F) (arg9.view.loc (c : Thread nD τ))) (g10 : Buf (Elt F) (arg10.view.loc (c : Thread nD τ))) :
    PRE c arg2 arg3 arg4 arg5 arg6 arg7 arg8 arg9 arg10 arg11 arg12 arg13 arg14 x s g9 g10
      ⊢ wp frame (wpE (defs₀ (F := F)) 𝒱₀ (c : Thread nD τ) none) Set.univ (cc0_flash_bwd i arg2 harg2 arg3 harg3 arg4 harg4 arg5 harg5 arg6 harg6 arg7 harg7 arg8 harg8 arg9 harg9 arg10 harg10 arg11 harg11 arg12 harg12 arg13 harg13 arg14 harg14)
          (fun _ => POST c arg2 arg3 arg4 arg5 arg6 arg7 arg8 arg9 arg10 arg11 arg12 arg13 arg14 x (finishOdd x (i 1).val (start x (i 1).val s))) := by
  iintro ⟨⟨⟨H2, H3, H4, H5, H6, H7⟩, H8, H11, H12, H13, H14⟩, H9, H10⟩
  sl_unfold [cc0_flash_bwd]
  sl_exec
  sl_step
  delta body_odd.sl.H11_1 body_odd.sl.H11_1_1 body_odd.sl.H12_1 body_odd.sl.H12_1_1 body_odd.sl.r body_odd.sl.r_1 body_odd.sl.r_2 body_odd.sl.r_5 body_odd.sl.v222 body_odd.sl.v25 body_odd.sl.v29 body_odd.sl.v65 body_odd.sl.v72 body_odd.sl.v79 body_odd.sl.v87 body_odd.sl.r_4 body_odd.sl.r_6 body_odd.sl.v186 body_odd.sl.v199 body_odd.sl.v206 body_odd.sl.r_3 body_odd.sl.v215
  ihave G8 := (pointsTo_rep_entails (c : Thread nD τ) arg8 _ fullShare) $$ H8
  ihave G9 := (pointsTo_rep_entails (c : Thread nD τ) arg9 _ fullShare) $$ H9
  ihave G10 := (pointsTo_rep_entails (c : Thread nD τ) arg10 _ fullShare) $$ H10
  ihave G11 := (pointsTo_rep_entails (c : Thread nD τ) arg11 _ fullShare) $$ H11
  ihave G12 := (pointsTo_rep_entails (c : Thread nD τ) arg12 _ fullShare) $$ H12
  ihave G13 := (pointsTo_rep_entails (c : Thread nD τ) arg13 _ fullShare) $$ H13
  ihave G14 := (pointsTo_rep_entails (c : Thread nD τ) arg14 _ fullShare) $$ H14
  simp only [fold_write, ld_rows (off := ![0, 3584, 0]) (b := 0) (h := rfl), cov_rows (off := ![0, 3584, 0]) (b := 0) (h := rfl), ld_rows (off := ![0, 3072, 0]) (b := 1) (h := rfl), cov_rows (off := ![0, 3072, 0]) (b := 1) (h := rfl),
    ld_rows (h := k0_off1_eq i), cov_rows (h := k0_off1_eq i), ld_rows (h := k0_off6_eq i), cov_rows (h := k0_off6_eq i), ld_rows (h := k0_off18_eq i),
    cov_rows (h := k0_off18_eq i), ld_rows (h := k0_off20_eq i), cov_rows (h := k0_off20_eq i), st_rows (off := ![0, 3584, 0]) (b := 0) (h := rfl), st_rows (h := k0_off20_eq i),
    ld_half (h := k0_off7_eq i), ld_half (h := k0_off19_eq i), ld_flat (off := ![3584, 0]) (b := 0) (h := rfl), ld_flat (off := ![3072, 0]) (b := 1) (h := rfl), ld_flat (h := k0_off21_eq i),
    ld_row (off := ![0, 7, 0, 0]) (b := 0) (h := rfl), ld_row (h := k0_off22_eq i), ld_slot (off := ![0, 0, 0]) (n := 0) (h := rfl), cov_slots (off := ![0, 0, 0]) (n := 0) (h := rfl), st_slot (off := ![0, 0, 0]) (n := 0) (h := rfl),
    ld_slot (off := ![1, 0, 0]) (n := 1) (h := rfl), cov_slots (off := ![1, 0, 0]) (n := 1) (h := rfl), st_slot (off := ![1, 0, 0]) (n := 1) (h := rfl), ld_slot (off := ![2, 0, 0]) (n := 2) (h := rfl), cov_slots (off := ![2, 0, 0]) (n := 2) (h := rfl),
    st_slot (off := ![2, 0, 0]) (n := 2) (h := rfl), ld_dk (off := ![0, 0]), ld_dv (off := ![0, 0]), st_dk (off := ![0, 0]), st_dv (off := ![0, 0]),
    cov_dk (off := ![0, 0]), cov_dv (off := ![0, 0]), st_dq (off := ![0, 0, 0]), st_dkOut (off := ![0, 0, 0]), st_dvOut (off := ![0, 0, 0]),
    View.writes_nil, View.read_rep, slot_put_same, slot_put_ne, ne_eq,
    Fin.reduceEq, not_false_eq_true, zero_ne_one, one_ne_zero, consume,
    consumeMasked, consumeWith, produce, read_acc8, read_acc11,
    read_acc12, read_acc13, read_acc14, after_, entry,
    trips1_eq, start, finishOdd, dkOut, dvOut]
  isplitl [H2 H3 H4 H5 H6 H7 G8 G11 G12 G13 G14]
  · isplitl [H2 H3 H4 H5 H6 H7]
    · isplitl [H2]; · iexact H2
      isplitl [H3]; · iexact H3
      isplitl [H4]; · iexact H4
      isplitl [H5]; · iexact H5
      isplitl [H6]; · iexact H6
      iexact H7
    isplitl [G8]; · iexact G8
    isplitl [G11]; · iexact G11
    isplitl [G12]; · iexact G12
    isplitl [G13]; · iexact G13
    iexact G14
  isplitl [G9]; · iexact G9
  iexact G10

/-- A later key block, at even `u`. -/
theorem body_even (h1 : ¬ k0_cond1 i = 1#1) (h2 : ¬ k0_cond2 i = 1#1) (h3 : k0_cond3 i = 1#1) (h4 : ¬ k0_cond4 i = 1#1) (h5 : k0_cond5 i = 1#1) (x : In F) (s : St F)
    (g9 : Buf (Elt F) (arg9.view.loc (c : Thread nD τ))) (g10 : Buf (Elt F) (arg10.view.loc (c : Thread nD τ))) :
    PRE c arg2 arg3 arg4 arg5 arg6 arg7 arg8 arg9 arg10 arg11 arg12 arg13 arg14 x s g9 g10
      ⊢ wp frame (wpE (defs₀ (F := F)) 𝒱₀ (c : Thread nD τ) none) Set.univ (cc0_flash_bwd i arg2 harg2 arg3 harg3 arg4 harg4 arg5 harg5 arg6 harg6 arg7 harg7 arg8 harg8 arg9 harg9 arg10 harg10 arg11 harg11 arg12 harg12 arg13 harg13 arg14 harg14)
          (fun _ => POST c arg2 arg3 arg4 arg5 arg6 arg7 arg8 arg9 arg10 arg11 arg12 arg13 arg14 x (finishEven x (i 1).val (start x (i 1).val s))) := by
  have hu : 0 < (i 1).val := (cond3_iff i).1 h3
  have e26 : k0_off26 i = ![0, 3584 - 512 * ((i 1).val - 1), 0] := by rw [k0_off26_eq, show 4096 - 512 * (i 1).val = 3584 - 512 * ((i 1).val - 1) by omega]
  have e27 : k0_off27 i = ![3584 - 512 * ((i 1).val - 1), 0] := by rw [k0_off27_eq, show 4096 - 512 * (i 1).val = 3584 - 512 * ((i 1).val - 1) by omega]
  have e28 : k0_off28 i = ![0, 7 - ((i 1).val - 1), 0, 0] := by rw [k0_off28_eq, show 8 - (i 1).val = 7 - ((i 1).val - 1) by omega]
  iintro ⟨⟨⟨H2, H3, H4, H5, H6, H7⟩, H8, H11, H12, H13, H14⟩, H9, H10⟩
  sl_unfold [cc0_flash_bwd]
  sl_exec
  sl_step
  delta body_even.sl.H11_1 body_even.sl.H11_2_1 body_even.sl.H12_1 body_even.sl.H12_2_1 body_even.sl.H13_2 body_even.sl.H14_2 body_even.sl.H8_1 body_even.sl.r body_even.sl.r_1 body_even.sl.r_2 body_even.sl.r_5 body_even.sl.r_6 body_even.sl.r_7 body_even.sl.v25 body_even.sl.v29 body_even.sl.v299 body_even.sl.v65 body_even.sl.v72 body_even.sl.v79 body_even.sl.v87 body_even.sl.H11_1_1 body_even.sl.H12_1_1 body_even.sl.r_3 body_even.sl.r_4 body_even.sl.v220 body_even.sl.v263 body_even.sl.v276 body_even.sl.v283 body_even.sl.v292 body_even.sl.v189 body_even.sl.v197 body_even.sl.v204 body_even.sl.v213
  ihave G8 := (pointsTo_rep_entails (c : Thread nD τ) arg8 _ fullShare) $$ H8
  ihave G9 := (pointsTo_rep_entails (c : Thread nD τ) arg9 _ fullShare) $$ H9
  ihave G10 := (pointsTo_rep_entails (c : Thread nD τ) arg10 _ fullShare) $$ H10
  ihave G11 := (pointsTo_rep_entails (c : Thread nD τ) arg11 _ fullShare) $$ H11
  ihave G12 := (pointsTo_rep_entails (c : Thread nD τ) arg12 _ fullShare) $$ H12
  ihave G13 := (pointsTo_rep_entails (c : Thread nD τ) arg13 _ fullShare) $$ H13
  ihave G14 := (pointsTo_rep_entails (c : Thread nD τ) arg14 _ fullShare) $$ H14
  simp only [fold_write, ld_rows (off := ![0, 3584, 0]) (b := 0) (h := rfl), cov_rows (off := ![0, 3584, 0]) (b := 0) (h := rfl), ld_rows (off := ![0, 3072, 0]) (b := 1) (h := rfl), cov_rows (off := ![0, 3072, 0]) (b := 1) (h := rfl),
    ld_rows (h := k0_off1_eq i), cov_rows (h := k0_off1_eq i), ld_rows (h := k0_off6_eq i), cov_rows (h := k0_off6_eq i), ld_rows (h := k0_off23_eq i),
    cov_rows (h := k0_off23_eq i), ld_rows (h := e26), cov_rows (h := e26), ld_rows (h := k0_off29_eq i), cov_rows (h := k0_off29_eq i),
    st_rows (off := ![0, 3584, 0]) (b := 0) (h := rfl), st_rows (h := k0_off23_eq i), st_rows (h := e26), ld_half (h := k0_off7_eq i), ld_half (h := k0_off24_eq i),
    ld_half (h := k0_off30_eq i), ld_flat (off := ![3584, 0]) (b := 0) (h := rfl), ld_flat (off := ![3072, 0]) (b := 1) (h := rfl), ld_flat (h := k0_off25_eq i), ld_flat (h := e27),
    ld_row (off := ![0, 7, 0, 0]) (b := 0) (h := rfl), ld_row (h := e28), ld_row (h := k0_off31_eq i), ld_slot (off := ![0, 0, 0]) (n := 0) (h := rfl), cov_slots (off := ![0, 0, 0]) (n := 0) (h := rfl),
    st_slot (off := ![0, 0, 0]) (n := 0) (h := rfl), ld_slot (off := ![1, 0, 0]) (n := 1) (h := rfl), cov_slots (off := ![1, 0, 0]) (n := 1) (h := rfl), st_slot (off := ![1, 0, 0]) (n := 1) (h := rfl), ld_slot (off := ![2, 0, 0]) (n := 2) (h := rfl),
    cov_slots (off := ![2, 0, 0]) (n := 2) (h := rfl), st_slot (off := ![2, 0, 0]) (n := 2) (h := rfl), ld_dk (off := ![0, 0]), ld_dv (off := ![0, 0]), st_dk (off := ![0, 0]),
    st_dv (off := ![0, 0]), cov_dk (off := ![0, 0]), cov_dv (off := ![0, 0]), st_dq (off := ![0, 0, 0]), st_dkOut (off := ![0, 0, 0]),
    st_dvOut (off := ![0, 0, 0]), View.writes_nil, View.read_rep, slot_put_same, slot_put_ne,
    ne_eq, Fin.reduceEq, not_false_eq_true, zero_ne_one, one_ne_zero,
    consume, consumeMasked, consumeWith, produce, read_acc8,
    read_acc11, read_acc12, read_acc13, read_acc14, after_,
    entry, trips1_eq, start, finishEven, dkOut,
    dvOut]
  isplitl [H2 H3 H4 H5 H6 H7 G8 G11 G12 G13 G14]
  · isplitl [H2 H3 H4 H5 H6 H7]
    · isplitl [H2]; · iexact H2
      isplitl [H3]; · iexact H3
      isplitl [H4]; · iexact H4
      isplitl [H5]; · iexact H5
      isplitl [H6]; · iexact H6
      iexact H7
    isplitl [G8]; · iexact G8
    isplitl [G11]; · iexact G11
    isplitl [G12]; · iexact G12
    isplitl [G13]; · iexact G13
    iexact G14
  isplitl [G9]; · iexact G9
  iexact G10

end Body

end Cert.KernelIdeal.Flash
-- ==== Proof.Flash.Sums.lean ====
/-
  What a grid point leaves, in closed form. Every pair of blocks has its probabilities and its gradient of the scores, functions of the
  head's arrays alone; a key block's gradients are their sums over the query blocks from the last one up to the diagonal, and the gradient of
  the queries takes on one share per pair. That the call forms a pair's scores one step before it uses them, in one of three slots, does not
  show in the result: whenever a pair is used its slot holds that pair's scores (`Ready`).
-/
module

public import proofs.«01_k».proof.Proof.Flash.Trip

@[expose] public section

set_option maxRecDepth 16384

noncomputable section

namespace Cert.KernelIdeal.Flash

open Cert.KernelIdeal Cert.KernelIdeal.Gen
open Idealize.ShloMosaic

variable {F : FTy → Type} [FloatOps F]

/-- The probabilities of key block `u` against query block `b`: masked on the diagonal. -/
def prob (x : In F) (u b : ℕ) : FVec F S512x512 .f32 :=
  if b = u then probMaskedOf (scoreOf (rows x.k u) (rows x.q b)) (row x.l b) else probOf (scoreOf (rows x.k u) (rows x.q b)) (row x.l b)

/-- The gradient of their scores. -/
def dScore (x : In F) (u b : ℕ) : FVec F S512x512 .bf16 := dScoreOf (prob x u b) (gradProbOf (half x.v u) (flat x.g b)) (row x.d b)

/-- The gradient of key block `u`'s values, from the first `n` query blocks. -/
def dvSum (x : In F) (u : ℕ) : ℕ → Vec F S512x128 .f32
  | 0 => constant S512x128 .f32 0x00000000#32
  | b + 1 => dvNext (prob x u b) (flat x.g b) (dvSum x u b)

/-- The gradient of its keys. -/
def dkSum (x : In F) (u : ℕ) : ℕ → Vec F S512x256 .f32
  | 0 => constant S512x256 .f32 0x00000000#32
  | b + 1 => dkNext (dScore x u b) (rows x.q b) (dkSum x u b)

/-- The gradient of the queries, `a` before the key block, with the shares of its first `n` query blocks. -/
def dqSum (x : In F) (u : ℕ) (a : Vec F S1x4096x256 .f32) : ℕ → Vec F S1x4096x256 .f32
  | 0 => a
  | b + 1 => putRows (dqSum x u a b) b (dqNext (dScore x u b) (rows x.k u) (rows (dqSum x u a b) b))

/-- The gradient of a head's queries after its first `n` key blocks. -/
def dqHead (x : In F) : ℕ → Vec F S1x4096x256 .f32
  | 0 => constant S1x4096x256 .f32 0x00000000#32
  | u + 1 => dqSum x u (dqHead x u) (u + 1)

/-- Slot `n` holds the scores and products of key block `j` against query block `b`. -/
def Ready (x : In F) (j b : ℕ) (n : Fin 3) (s : St F) : Prop :=
  slot s.st n = scoreOf (rows x.k j) (rows x.q b) ∧ slot s.dp n = gradProbOf (half x.v j) (flat x.g b)

/-- The gradients have taken on the shares of the first `b` query blocks. -/
def Upto (x : In F) (u : ℕ) (a : Vec F S1x4096x256 .f32) (b : ℕ) (s : St F) : Prop :=
  s.dv = dvSum x u b ∧ s.dk = dkSum x u b ∧ s.dq = dqSum x u a b

theorem Ready.same (x : In F) (j b : ℕ) (n : Fin 3) (s : St F) : Ready x j b n (produce x j b n s) :=
  ⟨slot_put_same _ _ _, slot_put_same _ _ _⟩
theorem Ready.other {x : In F} {j b : ℕ} {m : Fin 3} {s : St F} (h : Ready x j b m s) (x' : In F) (j' b' : ℕ) {n : Fin 3} (hn : m ≠ n) :
    Ready x j b m (produce x' j' b' n s) :=
  ⟨(slot_put_ne _ hn _).trans h.1, (slot_put_ne _ hn _).trans h.2⟩
theorem Ready.used {x : In F} {j b : ℕ} {m : Fin 3} {s : St F} (h : Ready x j b m s) (p : FVec F S512x512 .f32) (x' : In F) (j' b' : ℕ) (n : Fin 3) :
    Ready x j b m (consumeWith p x' j' b' n s) := h

theorem Upto.kept {x : In F} {u : ℕ} {a : Vec F S1x4096x256 .f32} {b : ℕ} {s : St F} (h : Upto x u a b s) (x' : In F) (j' b' : ℕ) (n : Fin 3) :
    Upto x u a b (produce x' j' b' n s) := h

/-- A step with the pair's own probabilities adds the pair's shares. -/
theorem Upto.step {x : In F} {u : ℕ} {a : Vec F S1x4096x256 .f32} {b : ℕ} {s : St F} (h : Upto x u a b s) {n : Fin 3} (hr : Ready x u b n s) {p : FVec F S512x512 .f32}
    (hp : p = prob x u b) : Upto x u a (b + 1) (consumeWith p x u b n s) := by
  obtain ⟨hv, hk, hq⟩ := h
  subst hp
  refine ⟨?_, ?_, ?_⟩
  · show dvNext _ _ s.dv = dvNext _ _ (dvSum x u b); rw [hv]
  · show dkNext (dScoreOf _ (slot s.dp n) _) _ s.dk = dkNext (dScore x u b) _ (dkSum x u b); rw [hk, hr.2]; rfl
  · show putRows s.dq b (dqNext (dScoreOf _ (slot s.dp n) _) _ (rows s.dq b)) = putRows (dqSum x u a b) b (dqNext (dScore x u b) _ (rows (dqSum x u a b) b))
    rw [hq, hr.2]; rfl

theorem Upto.off {x : In F} {u : ℕ} {a : Vec F S1x4096x256 .f32} {b : ℕ} {s : St F} (h : Upto x u a b s) {n : Fin 3} (hr : Ready x u b n s) (hb : b ≠ u) :
    Upto x u a (b + 1) (consume x u b n s) :=
  h.step hr (by rw [prob, if_neg hb, hr.1])
theorem Upto.diag {x : In F} {u : ℕ} {a : Vec F S1x4096x256 .f32} {s : St F} (h : Upto x u a u s) {n : Fin 3} (hr : Ready x u u n s) :
    Upto x u a (u + 1) (consumeMasked x u u n s) :=
  h.step hr (by rw [prob, if_pos rfl, hr.1])

/-- After `t` trips of the counted loop the first `2 t + 1` query blocks are done and the next one's scores stand in slot 1. -/
theorem upto_pairs {x : In F} {u : ℕ} {a : Vec F S1x4096x256 .f32} {s : St F} (h : Upto x u a 1 s) (hr : Ready x u 1 1 s) :
    ∀ t, 2 * t + 1 ≤ u → Upto x u a (2 * t + 1) (pairs x u t s) ∧ Ready x u (2 * t + 1) 1 (pairs x u t s)
  | 0, _ => ⟨h, hr⟩
  | t + 1, ht => by
    obtain ⟨h', hr'⟩ := upto_pairs h hr t (by omega)
    have h1 : Upto x u a (2 * t + 2) (consume x u (2 * t + 1) 1 (produce x u (2 * t + 2) 0 (pairs x u t s))) :=
      (h'.kept x u (2 * t + 2) 0).off (hr'.other x u (2 * t + 2) (by decide)) (by omega)
    have r1 : Ready x u (2 * t + 2) 0 (consume x u (2 * t + 1) 1 (produce x u (2 * t + 2) 0 (pairs x u t s))) :=
      (Ready.same x u (2 * t + 2) 0 _).used _ _ _ _ _
    have h2 := (h1.kept x u (2 * t + 3) 1).off (r1.other x u (2 * t + 3) (by decide)) (by omega)
    exact ⟨h2, (Ready.same x u (2 * t + 3) 1 _).used _ _ _ _ _⟩

/-- A later key block up to its last trip. -/
theorem upto_start {x : In F} {u : ℕ} (hu : 0 < u) {s : St F} (hr : Ready x u 0 2 s) :
    Upto x u s.dq (2 * ((u - 1) / 2) + 1) (start x u s) ∧ Ready x u (2 * ((u - 1) / 2) + 1) 1 (start x u s) := by
  have h0 : Upto x u s.dq 0 (produce x u 1 1 { s with dk := constant S512x256 .f32 0x00000000#32, dv := constant S512x128 .f32 0x00000000#32 }) := ⟨rfl, rfl, rfl⟩
  have r0 : Ready x u 0 2 (produce x u 1 1 { s with dk := constant S512x256 .f32 0x00000000#32, dv := constant S512x128 .f32 0x00000000#32 }) :=
    Ready.other (s := { s with dk := constant S512x256 .f32 0x00000000#32, dv := constant S512x128 .f32 0x00000000#32 }) hr x u 1 (by decide)
  exact upto_pairs (h0.off r0 (by omega)) ((Ready.same x u 1 1 _).used _ _ _ _ _) _ (by omega)

/-- A grid point: the head's first one. -/
theorem point_first (x : In F) (s : St F) :
    Upto x 0 (constant S1x4096x256 .f32 0x00000000#32) 1 (first x s) ∧ Ready x 1 0 2 (first x s) := by
  have h0 : Upto x 0 (constant S1x4096x256 .f32 0x00000000#32) 0 (produce x 0 0 2
      { s with dq := constant S1x4096x256 .f32 0x00000000#32, dk := constant S512x256 .f32 0x00000000#32, dv := constant S512x128 .f32 0x00000000#32 }) := ⟨rfl, rfl, rfl⟩
  exact ⟨(h0.diag (Ready.same x 0 0 2 _)).kept _ _ _ _, Ready.same x 1 0 2 _⟩

/-- An odd one, -/
theorem point_odd (x : In F) {u : ℕ} (hu : u % 2 = 1) {s : St F} (hr : Ready x u 0 2 s) :
    Upto x u s.dq (u + 1) (finishOdd x u (start x u s)) ∧ Ready x (u + 1) 0 2 (finishOdd x u (start x u s)) := by
  obtain ⟨h, r⟩ := upto_start (x := x) (by omega) hr
  have e : 2 * ((u - 1) / 2) + 1 = u := by omega
  rw [e] at h r
  exact ⟨(h.kept x (u + 1) 0 2).diag (r.other x (u + 1) 0 (by decide)), (Ready.same x (u + 1) 0 2 _).used _ _ _ _ _⟩

/-- and a later even one. -/
theorem point_even (x : In F) {u : ℕ} (h0 : 0 < u) (hu : u % 2 = 0) {s : St F} (hr : Ready x u 0 2 s) :
    Upto x u s.dq (u + 1) (finishEven x u (start x u s)) ∧ Ready x (u + 1) 0 2 (finishEven x u (start x u s)) := by
  obtain ⟨h, r⟩ := upto_start (x := x) (by omega) hr
  have e : 2 * ((u - 1) / 2) + 1 = u - 1 := by omega
  rw [e] at h r
  have h1 := (h.kept x u u 0).off (r.other x u u (by decide)) (by omega)
  rw [show u - 1 + 1 = u by omega] at h1
  have r1 : Ready x u u 0 (consume x u (u - 1) 1 (produce x u u 0 (start x u s))) := (Ready.same x u u 0 _).used _ _ _ _ _
  exact ⟨(h1.kept x (u + 1) 0 2).diag (r1.other x (u + 1) 0 (by decide)), (Ready.same x (u + 1) 0 2 _).used _ _ _ _ _⟩

end Cert.KernelIdeal.Flash
-- ==== Proof.Flash.Blocks.lean ====
/-
  The blocks a grid point reads, as functions of the arrays the call is given: every window but the key block's results holds one head.
-/
module

public import proofs.«01_k».proof.Proof.Flash.Sums
public import proofs.«01_k».proof.Proof.Gen.KernelIdeal.Frame
public import Idealize.ShloMosaic.Lib.Pipeline.ValueKit

@[expose] public section

set_option maxRecDepth 16384

noncomputable section

namespace Cert.KernelIdeal.Flash

open Cert.KernelIdeal Cert.KernelIdeal.Gen
open Idealize.ShloMosaic Idealize.ShloMosaic.TcCoe

variable {F : FTy → Type} [FloatOps F]
variable (m : (ℓ : Loc nD τ sig) → Buf (Elt F) ℓ)

/-- A grid point's head and its key block. -/
theorem coords_eq : ∀ t : Fin grid0.N, (grid0.coords t 0).val = t.val / 8 ∧ (grid0.coords t 1).val = t.val % 8 := by decide +kernel

theorem index_in : ∀ t : Fin grid0.N, win0_0.index t = ![t.val / 8, 0, 0] ∧ win0_1.index t = ![0, t.val / 8] ∧ win0_2.index t = ![t.val / 8, 0, 0, 0]
    ∧ win0_3.index t = ![t.val / 8, 0, 0, 0] ∧ win0_4.index t = ![t.val / 8, 0, 0] ∧ win0_5.index t = ![t.val / 8, 0, 0] := by decide +kernel
theorem index_out : ∀ t : Fin grid0.N, win0_6.index t = ![t.val / 8, 0, 0] ∧ win0_7.index t = ![t.val / 8, 7 - t.val % 8, 0]
    ∧ win0_8.index t = ![t.val / 8, 7 - t.val % 8, 0] := by decide +kernel

/-- Head `h` of an array of heads, of flat rows, and of row values. -/
def headOf {α : Type} (X : S8x4096x256.Idx → α) (h : Fin 8) : S1x4096x256.Idx → α := fun j => X (ix3 h (j 1) (j 2))
def flatOf {α : Type} (X : S4096x1024.Idx → α) (h : Fin 8) : S4096x128.Idx → α :=
  fun j => X (ix2 (j 0) ⟨h.val * 128 + (j 1).val, by have := h.isLt; have : (j 1).val < 128 := (j 1).isLt; omega⟩)
def rowOf {α : Type} (X : S8x8x1x512.Idx → α) (h : Fin 8) : S1x8x1x512.Idx → α := fun j => X (ix4 h (j 1) (j 2) (j 3))

/-- What a head's grid points read. -/
def headIn (c : Dev nD) (h : Fin 8) : In F where
  q := headOf (V m c main_v39) h
  g := flatOf (V m c main_v49) h
  l := rowOf (V m c main_v50) h
  d := rowOf (V m c main_v51) h
  k := headOf (V m c main_v42) h
  v := headOf (V m c main_v47) h

/-- A grid point's head. -/
def headAt (t : Fin cfg0.N) : Fin 8 := ⟨t.val / 8, by have h : t.val < 64 := t.isLt; omega⟩

theorem iblk_q (c : Dev nD) (t : Fin cfg0.N) : iblk m c 0 t = (headIn m c (headAt t)).q := by
  funext y
  have hi := index_in t
  unfold iblk
  blk_simp [hi]
  show _ = V m c main_v39 (ix3 _ _ _)
  blk_ext [hi, headAt]
  all_goals try rfl
theorem iblk_g (c : Dev nD) (t : Fin cfg0.N) : iblk m c 1 t = (headIn m c (headAt t)).g := by
  funext y
  have hi := index_in t
  unfold iblk
  blk_simp [hi]
  show _ = V m c main_v49 (ix2 _ _)
  blk_ext [hi, headAt]
  all_goals try rfl
theorem iblk_l (c : Dev nD) (t : Fin cfg0.N) : iblk m c 2 t = (headIn m c (headAt t)).l := by
  funext y
  have hi := index_in t
  unfold iblk
  blk_simp [hi]
  show _ = V m c main_v50 (ix4 _ _ _ _)
  blk_ext [hi, headAt]
  all_goals try rfl
theorem iblk_d (c : Dev nD) (t : Fin cfg0.N) : iblk m c 3 t = (headIn m c (headAt t)).d := by
  funext y
  have hi := index_in t
  unfold iblk
  blk_simp [hi]
  show _ = V m c main_v51 (ix4 _ _ _ _)
  blk_ext [hi, headAt]
  all_goals try rfl
theorem iblk_k (c : Dev nD) (t : Fin cfg0.N) : iblk m c 4 t = (headIn m c (headAt t)).k := by
  funext y
  have hi := index_in t
  unfold iblk
  blk_simp [hi]
  show _ = V m c main_v42 (ix3 _ _ _)
  blk_ext [hi, headAt]
  all_goals try rfl
theorem iblk_v (c : Dev nD) (t : Fin cfg0.N) : iblk m c 5 t = (headIn m c (headAt t)).v := by
  funext y
  have hi := index_in t
  unfold iblk
  blk_simp [hi]
  show _ = V m c main_v47 (ix3 _ _ _)
  blk_ext [hi, headAt]
  all_goals try rfl

end Cert.KernelIdeal.Flash
-- ==== Proof.Flash.Run.lean ====
/-
  The call's run. Before each grid point the scratch buffers hold what the point before left: the scores of the next key block's first pair
  stand ready in slot 2 unless a new head begins. The gradient of a head's queries stays in its buffer over the head's eight points.
-/
module

public import proofs.«01_k».proof.Proof.Flash.Body
public import proofs.«01_k».proof.Proof.Flash.Blocks

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## One grid point, whichever -/

section Point

variable (c : Dev nD) (i : grid0.Coords)
  (arg2 : Memref sig .tc .vmem S1x4096x256 .bf16) (harg2 : arg2.IsWhole) (arg3 : Memref sig .tc .vmem S4096x128 .bf16) (harg3 : arg3.IsWhole)
  (arg4 : Memref sig .tc .vmem S1x8x1x512 .f32) (harg4 : arg4.IsWhole) (arg5 : Memref sig .tc .vmem S1x8x1x512 .f32) (harg5 : arg5.IsWhole)
  (arg6 : Memref sig .tc .vmem S1x4096x256 .bf16) (harg6 : arg6.IsWhole) (arg7 : Memref sig .tc .vmem S1x4096x256 .bf16) (harg7 : arg7.IsWhole)
  (arg8 : Memref sig .tc .vmem S1x4096x256 .f32) (harg8 : arg8.IsWhole) (arg9 : Memref sig .tc .vmem S1x512x256 .f32) (harg9 : arg9.IsWhole)
  (arg10 : Memref sig .tc .vmem S1x512x128 .f32) (harg10 : arg10.IsWhole) (arg11 : Memref sig .tc .vmem S512x256 .f32) (harg11 : arg11.IsWhole)
  (arg12 : Memref sig .tc .vmem S512x128 .f32) (harg12 : arg12.IsWhole) (arg13 : Memref sig .tc .vmem S3x512x512 .f32) (harg13 : arg13.IsWhole)
  (arg14 : Memref sig .tc .vmem S3x512x512 .f32) (harg14 : arg14.IsWhole)

/-- What a grid point has done when it is over. -/
def Done (x : In F) (u : ℕ) (s : St F) : Prop :=
  s.dq = dqHead x (u + 1) ∧ s.dk = dkSum x u (u + 1) ∧ s.dv = dvSum x u (u + 1) ∧ Ready x (u + 1) 0 2 s

theorem body_point (x : In F) (s : St F) (hs : 0 < (i 1).val → Ready x (i 1).val 0 2 s ∧ s.dq = dqHead x (i 1).val)
    (g9 : Buf (Elt F) (arg9.view.loc (c : Thread nD τ))) (g10 : Buf (Elt F) (arg10.view.loc (c : Thread nD τ))) :
    PRE c arg2 arg3 arg4 arg5 arg6 arg7 arg8 arg9 arg10 arg11 arg12 arg13 arg14 x s g9 g10
      ⊢ wp frame (wpE (defs₀ (F := F)) 𝒱₀ (c : Thread nD τ) none) Set.univ (cc0_flash_bwd i arg2 harg2 arg3 harg3 arg4 harg4 arg5 harg5 arg6 harg6 arg7 harg7 arg8 harg8 arg9 harg9 arg10 harg10 arg11 harg11 arg12 harg12 arg13 harg13 arg14 harg14)
          (fun _ => iprop(∃ s' : St F, ⌜Done x (i 1).val s'⌝ ∗ POST c arg2 arg3 arg4 arg5 arg6 arg7 arg8 arg9 arg10 arg11 arg12 arg13 arg14 x s')) := by
  by_cases hu : (i 1).val = 0
  · obtain ⟨⟨hv, hk, hq⟩, hr⟩ := point_first x s
    refine (body_first c i arg2 harg2 arg3 harg3 arg4 harg4 arg5 harg5 arg6 harg6 arg7 harg7 arg8 harg8 arg9 harg9 arg10 harg10 arg11 harg11 arg12 harg12 arg13 harg13 arg14 harg14
      ((cond1_iff i).2 hu) ((cond2_iff i).2 hu) (fun h => by have := (cond3_iff i).1 h; omega) x s g9 g10).trans (wp_mono _ _ _ fun _ => ?_)
    iintro H
    iexists (first x s)
    isplitr
    · ipureintro; rw [hu]; exact ⟨hq, hk, hv, hr⟩
    iexact H
  · have h0 : 0 < (i 1).val := by omega
    obtain ⟨hrs, hqs⟩ := hs h0
    by_cases hodd : (i 1).val % 2 = 1
    · obtain ⟨⟨hv, hk, hq⟩, hr⟩ := point_odd x hodd hrs
      refine (body_odd c i arg2 harg2 arg3 harg3 arg4 harg4 arg5 harg5 arg6 harg6 arg7 harg7 arg8 harg8 arg9 harg9 arg10 harg10 arg11 harg11 arg12 harg12 arg13 harg13 arg14 harg14
        (fun h => hu ((cond1_iff i).1 h)) (fun h => hu ((cond2_iff i).1 h)) ((cond3_iff i).2 h0) ((cond4_iff i).2 hodd) (fun h => by have := (cond5_iff i).1 h; omega) x s g9 g10).trans
        (wp_mono _ _ _ fun _ => ?_)
      iintro H
      iexists (finishOdd x (i 1).val (start x (i 1).val s))
      isplitr
      · ipureintro; exact ⟨by rw [hq, hqs]; rfl, hk, hv, hr⟩
      iexact H
    · have hev : (i 1).val % 2 = 0 := by omega
      obtain ⟨⟨hv, hk, hq⟩, hr⟩ := point_even x h0 hev hrs
      refine (body_even c i arg2 harg2 arg3 harg3 arg4 harg4 arg5 harg5 arg6 harg6 arg7 harg7 arg8 harg8 arg9 harg9 arg10 harg10 arg11 harg11 arg12 harg12 arg13 harg13 arg14 harg14
        (fun h => hu ((cond1_iff i).1 h)) (fun h => hu ((cond2_iff i).1 h)) ((cond3_iff i).2 h0) (fun h => by have := (cond4_iff i).1 h; omega) ((cond5_iff i).2 hev) x s g9 g10).trans
        (wp_mono _ _ _ fun _ => ?_)
      iintro H
      iexists (finishEven x (i 1).val (start x (i 1).val s))
      isplitr
      · ipureintro; exact ⟨by rw [hq, hqs]; rfl, hk, hv, hr⟩
      iexact H

end Point

/-! ## The launch -/

variable (m : (ℓ : Loc nD τ sig) → Buf (Elt F) ℓ) (ρ : Dev nD → PrngReg)

/-- What a grid point reads. -/
abbrev inAt (c : Dev nD) (t : Fin cfg0.N) : In F := headIn m c (headAt t)

/-- The scratch buffers at a state. -/
def scratch (c : Dev nD) (s : St F) : sProp 𝕄 :=
  iprop(at_ c (Memref.whole cc0_scratch0) s.dk ∗ at_ c (Memref.whole cc0_scratch1) s.dv ∗ at_ c (Memref.whole cc0_scratch2) s.st ∗ at_ c (Memref.whole cc0_scratch3) s.dp)

/-- Before point `n`: the scratch holds a state in which, inside a head, the next pair's scores are ready. -/
def Φ (c : Dev nD) (n : ℕ) : sProp 𝕄 :=
  iprop((∃ s : St F, ⌜∀ t : Fin cfg0.N, t.val + 1 = n → n % 8 ≠ 0 → Ready (inAt m c t) (n % 8) 0 2 s⌝ ∗ scratch c s) ∗ ∃ r, prngReg c r)

/-- The launch's data: the arrays as the call finds them, what every window's buffer holds after each point. -/
def dats (_ : Fin 1) (c : Dev nD) : Dat τ (Elt F) Unit ℕ (UU nD τ) ℕ cfg0 c where
  A w := V m c (Pipeline.arrRef spec0 w)
  after w t := match w with
    | ⟨0, _⟩ => (inAt m c t).q
    | ⟨1, _⟩ => (inAt m c t).g
    | ⟨2, _⟩ => (inAt m c t).l
    | ⟨3, _⟩ => (inAt m c t).d
    | ⟨4, _⟩ => (inAt m c t).k
    | ⟨5, _⟩ => (inAt m c t).v
    | ⟨6, _⟩ => dqHead (inAt m c t) (t.val % 8 + 1)
    | ⟨7, _⟩ => shapeCast S1x512x256 (dkSum (inAt m c t) (t.val % 8) (t.val % 8 + 1)) shapeCasts_S512x256_S1x512x256
    | ⟨8, _⟩ => shapeCast S1x512x128 (dvSum (inAt m c t) (t.val % 8) (t.val % 8 + 1)) shapeCasts_S512x128_S1x512x128
  Φ t := Φ m c t.val
  q _ := fullShare
  owed _ := 0

theorem after_0 (c : Dev nD) (t : Fin cfg0.N) : (dats m 0 c).after 0 t = (inAt m c t).q := by dsimp only [dats]
theorem after_1 (c : Dev nD) (t : Fin cfg0.N) : (dats m 0 c).after 1 t = (inAt m c t).g := by dsimp only [dats]
theorem after_2 (c : Dev nD) (t : Fin cfg0.N) : (dats m 0 c).after 2 t = (inAt m c t).l := by dsimp only [dats]
theorem after_3 (c : Dev nD) (t : Fin cfg0.N) : (dats m 0 c).after 3 t = (inAt m c t).d := by dsimp only [dats]
theorem after_4 (c : Dev nD) (t : Fin cfg0.N) : (dats m 0 c).after 4 t = (inAt m c t).k := by dsimp only [dats]
theorem after_5 (c : Dev nD) (t : Fin cfg0.N) : (dats m 0 c).after 5 t = (inAt m c t).v := by dsimp only [dats]
theorem after_6 (c : Dev nD) (t : Fin cfg0.N) : (dats m 0 c).after 6 t = dqHead (inAt m c t) (t.val % 8 + 1) := by dsimp only [dats]
theorem after_7 (c : Dev nD) (t : Fin cfg0.N) : (dats m 0 c).after 7 t
    = shapeCast S1x512x256 (dkSum (inAt m c t) (t.val % 8) (t.val % 8 + 1)) shapeCasts_S512x256_S1x512x256 := by dsimp only [dats]
theorem after_8 (c : Dev nD) (t : Fin cfg0.N) : (dats m 0 c).after 8 t
    = shapeCast S1x512x128 (dvSum (inAt m c t) (t.val % 8) (t.val % 8 + 1)) shapeCasts_S512x128_S1x512x128 := by dsimp only [dats]

theorem before_0 (c : Dev nD) (t : Fin cfg0.N) (d) : (dats m 0 c).before 0 t d = (inAt m c t).q :=
  (before0_0_of m _ rfl (fun t => (after_0 m c t).trans (iblk_q m c t).symm) t d).trans (iblk_q m c t)
theorem before_1 (c : Dev nD) (t : Fin cfg0.N) (d) : (dats m 0 c).before 1 t d = (inAt m c t).g :=
  (before0_1_of m _ rfl (fun t => (after_1 m c t).trans (iblk_g m c t).symm) t d).trans (iblk_g m c t)
theorem before_2 (c : Dev nD) (t : Fin cfg0.N) (d) : (dats m 0 c).before 2 t d = (inAt m c t).l :=
  (before0_2_of m _ rfl (fun t => (after_2 m c t).trans (iblk_l m c t).symm) t d).trans (iblk_l m c t)
theorem before_3 (c : Dev nD) (t : Fin cfg0.N) (d) : (dats m 0 c).before 3 t d = (inAt m c t).d :=
  (before0_3_of m _ rfl (fun t => (after_3 m c t).trans (iblk_d m c t).symm) t d).trans (iblk_d m c t)
theorem before_4 (c : Dev nD) (t : Fin cfg0.N) (d) : (dats m 0 c).before 4 t d = (inAt m c t).k :=
  (before0_4_of m _ rfl (fun t => (after_4 m c t).trans (iblk_k m c t).symm) t d).trans (iblk_k m c t)
theorem before_5 (c : Dev nD) (t : Fin cfg0.N) (d) : (dats m 0 c).before 5 t d = (inAt m c t).v :=
  (before0_5_of m _ rfl (fun t => (after_5 m c t).trans (iblk_v m c t).symm) t d).trans (iblk_v m c t)

/-- The gradient of the queries is stored at every point. -/
theorem live_6 : ∀ i : grid0.Coords, cfg0.idle 6 i = false := by
  intro i
  show idle0 6 i = false
  simp only [idle0]
  by_cases hu : (i 1).val = 0
  · rw [show (k0_cond1 i == 1#1) = true from beq_iff_eq.2 ((cond1_iff i).2 hu)]; simp
  · rw [show (k0_cond3 i == 1#1) = true from beq_iff_eq.2 ((cond3_iff i).2 (by omega))]; simp

/-- Inside a head its buffer holds what the point before left. -/
theorem before_6 (c : Dev nD) (t : Fin cfg0.N) (ht : t.val % 8 ≠ 0) (d) : (dats m 0 c).before 6 t d = dqHead (inAt m c t) (t.val % 8) := by
  have h64 : t.val < 64 := t.isLt
  have hfl : (cfg0.win 6).flush ⟨t.val - 1, Nat.lt_of_le_of_lt (Nat.sub_le _ _) t.isLt⟩ = false := by
    by_contra h
    have := (flush0_6 _).1 (by simpa using h)
    dsimp only at this; omega
  rw [(dats m 0 c).before_out_kept 6 rfl t (by omega) hfl live_6 (fun _ _ => rfl) d, after_6]
  have e1 : headAt ⟨t.val - 1, Nat.lt_of_le_of_lt (Nat.sub_le _ _) t.isLt⟩ = headAt t := Fin.ext (by show (t.val - 1) / 8 = t.val / 8; omega)
  have e2 : (t.val - 1) % 8 + 1 = t.val % 8 := by omega
  dsimp only [inAt]
  rw [e1, e2]

theorem Φ_before (c : Dev nD) (t : Fin cfg0.N) : (dats m 0 c).Φ t.castSucc = Φ m c t.val := by
  dsimp only [dats]; exact Dat.Φ_castSucc (fun n _ => Φ m c n) t
theorem Φ_after (c : Dev nD) (t : Fin cfg0.N) : (dats m 0 c).Φ t.succ = Φ m c (t.val + 1) := by
  dsimp only [dats]; rfl

/-- The body table's entry is the kernel on the point's buffers. -/
theorem defs_row (t : Fin cfg0.N) : (defs₀ (F := F)) .tc cfg0.body (cfg0.bodyArgs t (cfg0.slots t)) = bodyAt0 (F := F) t := by
  unfold defs₀; rw [Defs.onTc_tc]

set_option backward.isDefEq.respectTransparency.types false in
set_option maxHeartbeats 2000000 in
theorem body_obligation (c : Dev nD) : BodyObligation (dats (F := F) m 0 c) (defs₀ (F := F)) 𝒱₀ () Set.univ := fun t => by
  rw [bigSep_W0, bigSep_W0, defs_row]
  dsimp only
  simp only [before_0, before_1, before_2, before_3, before_4, before_5, after_0, after_1, after_2, after_3, after_4, after_5, after_6, after_7, after_8]
  rw [Φ_before, Φ_after]
  unfold Dat.owesAt Pipeline.owesWithin
  rw [show (dats m 0 c).owed t.castSucc = 0 from rfl, show (dats m 0 c).owed t.succ = 0 from rfl]
  unfold owns Φ scratch
  iintro ⟨⟨⟨%s, %hs, S0, S1, S2, S3⟩, HR⟩, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, -, H7⟩, ⟨%d8, %g8, -, H8⟩⟩
  rw [show idle0 6 (grid0.coords t) = false from live_6 _]
  dsimp only
  have hlt : t.val < 64 := t.isLt
  have hu : (grid0.coords t 1).val = t.val % 8 := (coords_eq t).2
  have hst : 0 < (grid0.coords t 1).val → Ready (inAt m c t) (grid0.coords t 1).val 0 2 { s with dq := (stage0_6 (cfg0.slots t 6)).view.read (Elt F) g6 }
      ∧ (stage0_6 (cfg0.slots t 6)).view.read (Elt F) g6 = dqHead (inAt m c t) (grid0.coords t 1).val := by
    rw [hu]
    intro h
    have h' : t.val % 8 ≠ 0 := by omega
    refine ⟨?_, hg6.trans (before_6 m c t h' d6)⟩
    have := hs ⟨t.val - 1, by omega⟩ (by show t.val - 1 + 1 = t.val; omega) h'
    have e : headAt (⟨t.val - 1, by omega⟩ : Fin cfg0.N) = headAt t := Fin.ext (by show (t.val - 1) / 8 = t.val / 8; omega)
    dsimp only [inAt] at this ⊢
    rw [e] at this
    exact this
  iapply (wp_wand_r _ _ _ (Q := fun _ => iprop(∃ s' : St F, ⌜Done (inAt m c t) (grid0.coords t 1).val s'⌝ ∗ POST c (stage0_0 (cfg0.slots t 0)) (stage0_1 (cfg0.slots t 1)) (stage0_2 (cfg0.slots t 2)) (stage0_3 (cfg0.slots t 3)) (stage0_4 (cfg0.slots t 4)) (stage0_5 (cfg0.slots t 5)) (stage0_6 (cfg0.slots t 6)) (stage0_7 (cfg0.slots t 7)) (stage0_8 (cfg0.slots t 8)) (Memref.whole cc0_scratch0) (Memref.whole cc0_scratch1) (Memref.whole cc0_scratch2) (Memref.whole cc0_scratch3) (inAt m c t) s')))
  isplitl [S0 S1 S2 S3 H0 H1 H2 H3 H4 H5 H6 H7 H8]
  · iapply (body_point c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (inAt m c t) { s with dq := (stage0_6 (cfg0.slots t 6)).view.read (Elt F) g6 } hst g7 g8)
    ihave G0 := (pointsTo_rep_entails (c : Thread nD τ) (stage0_0 (cfg0.slots t 0)) g0 fullShare) $$ H0
    ihave G1 := (pointsTo_rep_entails (c : Thread nD τ) (stage0_1 (cfg0.slots t 1)) g1 fullShare) $$ H1
    ihave G2 := (pointsTo_rep_entails (c : Thread nD τ) (stage0_2 (cfg0.slots t 2)) g2 fullShare) $$ H2
    ihave G3 := (pointsTo_rep_entails (c : Thread nD τ) (stage0_3 (cfg0.slots t 3)) g3 fullShare) $$ H3
    ihave G4 := (pointsTo_rep_entails (c : Thread nD τ) (stage0_4 (cfg0.slots t 4)) g4 fullShare) $$ H4
    ihave G5 := (pointsTo_rep_entails (c : Thread nD τ) (stage0_5 (cfg0.slots t 5)) g5 fullShare) $$ H5
    ihave G6 := (pointsTo_rep_entails (c : Thread nD τ) (stage0_6 (cfg0.slots t 6)) g6 fullShare) $$ H6
    rw [hg0, hg1, hg2, hg3, hg4, hg5]
    isplitl [S0 S1 S2 S3 G0 G1 G2 G3 G4 G5 G6]
    · isplitl [G0 G1 G2 G3 G4 G5]
      · isplitl [G0]; · iexact G0
        isplitl [G1]; · iexact G1
        isplitl [G2]; · iexact G2
        isplitl [G3]; · iexact G3
        isplitl [G4]; · iexact G4
        iexact G5
      isplitl [G6]; · iexact G6
      isplitl [S0]; · iexact S0
      isplitl [S1]; · iexact S1
      isplitl [S2]; · iexact S2
      iexact S3
    isplitl [H7]; · iexact H7
    iexact H8
  iintro %_ ⟨%s', %hd, ⟨⟨⟨G0, G1, G2, G3, G4, G5⟩, G6, S0, S1, S2, S3⟩, G7, G8⟩⟩
  obtain ⟨hq, hk, hv, hr⟩ := hd
  rw [hu] at hq hk hv hr
  isplitl [S0 S1 S2 S3 HR]
  · isplitl [S0 S1 S2 S3]
    · iexists s'
      isplitr
      · ipureintro
        intro t' ht' hn
        have e : t' = t := Fin.ext (by omega)
        subst e
        rw [show (t'.val + 1) % 8 = t'.val % 8 + 1 by omega]
        exact hr
      isplitl [S0]; · iexact S0
      isplitl [S1]; · iexact S1
      isplitl [S2]; · iexact S2
      iexact S3
    iexact HR
  isplitl [HW]
  · iexists W; isplitr; · ipureintro; exact fun _ _ => Or.inl trivial
    iexact HW
  isplitl [G0]
  · iexists _; isplitr; · ipureintro; exact View.read_rep _ _
    iexact G0
  isplitl [G1]
  · iexists _; isplitr; · ipureintro; exact View.read_rep _ _
    iexact G1
  isplitl [G2]
  · iexists _; isplitr; · ipureintro; exact View.read_rep _ _
    iexact G2
  isplitl [G3]
  · iexists _; isplitr; · ipureintro; exact View.read_rep _ _
    iexact G3
  isplitl [G4]
  · iexists _; isplitr; · ipureintro; exact View.read_rep _ _
    iexact G4
  isplitl [G5]
  · iexists _; isplitr; · ipureintro; exact View.read_rep _ _
    iexact G5
  isplitl [G6]
  · iexists _; isplitr; · ipureintro; exact (View.read_rep _ _).trans hq
    iexact G6
  isplitl [G7]
  · iexists _; isplitr; · ipureintro; exact (View.read_rep _ _).trans (congrArg (shapeCast S1x512x256 · shapeCasts_S512x256_S1x512x256) hk)
    iexact G7
  iexists _; isplitr; · ipureintro; exact (View.read_rep _ _).trans (congrArg (shapeCast S1x512x128 · shapeCasts_S512x128_S1x512x128) hv)
  iexact G8

/-! ## The run -/

/-- A whole buffer at any contents is a whole buffer at the values it reads as. -/
theorem whole_at (c : Dev nD) (b : Ref sig .tc) (f : Buf (Elt F) ((c : Thread nD τ).loc b)) :
    (iprop(((c : Thread nD τ).loc b) ↦{fullShare} f) : sProp 𝕄) ⊢ at_ c (Memref.whole b) ((View.whole b).read (Elt F) f) := by
  have h : (iprop((Memref.whole b).view.loc (c : Thread nD τ) ↦[(Memref.whole b).view.set]{fullShare} f) : sProp 𝕄)
      = iprop(((c : Thread nD τ).loc b) ↦{fullShare} f) := by rw [show (Memref.whole b).view.set = Finset.univ from View.set_whole b]
  exact (Entails.of_eq h.symm).trans (pointsTo_rep_entails (c : Thread nD τ) (Memref.whole b) f fullShare)
/-- And back. -/
theorem whole_any (c : Dev nD) (b : Ref sig .tc) (X : b.ty.shape.Idx → Elt F b.ty.elt) :
    (at_ c (Memref.whole b) X : sProp 𝕄) ⊢ iprop(∃ f, ((c : Thread nD τ).loc b) ↦{fullShare} f) := by
  have h : (at_ c (Memref.whole b) X : sProp 𝕄)
      = iprop(((c : Thread nD τ).loc b) ↦{fullShare} (View.whole b).rep X) := by
    unfold at_; rw [show (Memref.whole b).view.set = Finset.univ from View.set_whole b]
  rw [h]
  iintro H
  iexists _
  iexact H

/-- The scratch at any contents is the scratch at some state. -/
theorem scratch_any (c : Dev nD) : (Pipeline.scopedRest (Ix := Unit) (Name := ℕ) (U := UU nD τ) (Lvl := ℕ) (Val := Elt F) spec0 c : sProp 𝕄) ⊢ iprop(∃ s : St F, scratch c s) := by
  rw [scopedRest0_eq]
  iintro ⟨⟨%f0, S0⟩, ⟨%f1, S1⟩, ⟨%f2, S2⟩, ⟨%f3, S3⟩⟩
  ihave G0 := (whole_at c cc0_scratch0 f0) $$ S0
  ihave G1 := (whole_at c cc0_scratch1 f1) $$ S1
  ihave G2 := (whole_at c cc0_scratch2 f2) $$ S2
  ihave G3 := (whole_at c cc0_scratch3 f3) $$ S3
  iexists (⟨constant S1x4096x256 .f32 0x00000000#32, (View.whole cc0_scratch0).read (Elt F) f0, (View.whole cc0_scratch1).read (Elt F) f1,
    (View.whole cc0_scratch2).read (Elt F) f2, (View.whole cc0_scratch3).read (Elt F) f3⟩ : St F)
  unfold scratch
  isplitl [G0]; · iexact G0
  isplitl [G1]; · iexact G1
  isplitl [G2]; · iexact G2
  iexact G3
theorem scratch_rest (c : Dev nD) (s : St F) : (scratch c s : sProp 𝕄) ⊢ Pipeline.scopedRest (Ix := Unit) (Name := ℕ) (U := UU nD τ) (Lvl := ℕ) (Val := Elt F) spec0 c := by
  rw [scopedRest0_eq]
  unfold scratch
  iintro ⟨S0, S1, S2, S3⟩
  isplitl [S0]; · iapply (whole_any c cc0_scratch0 s.dk); iexact S0
  isplitl [S1]; · iapply (whole_any c cc0_scratch1 s.dv); iexact S1
  isplitl [S2]; · iapply (whole_any c cc0_scratch2 s.st); iexact S2
  iapply (whole_any c cc0_scratch3 s.dp); iexact S3

/-- At the start the scratch holds anything, -/
theorem enter (c : Dev nD) : Pipeline.ΦA (U := UU nD τ) (Val := Elt F) spec0 c ⊢ Φ m c 0 := by
  unfold Pipeline.ΦA Φ
  iintro ⟨HS, HR⟩
  isplitl [HS]
  · ihave HS' := (scratch_any c) $$ HS
    icases HS' with ⟨%s, HS⟩
    iexists s
    isplitr
    · ipureintro; intro t ht; omega
    iexact HS
  iexact HR

/-- and at the end it is given back. -/
theorem leave (c : Dev nD) (n : ℕ) : Φ m c n ⊢ Pipeline.ΦA (U := UU nD τ) (Val := Elt F) spec0 c := by
  unfold Pipeline.ΦA Φ
  iintro ⟨⟨%s, -, HS⟩, HR⟩
  isplitl [HS]
  · iapply (scratch_rest c s); iexact HS
  iexact HR

/-- Every run ends, with the results in their arrays and everything else as it was. -/
theorem run_main : θ_run defs (onTc (τ := τ) (main (F := F))) (s₀ m ρ)
    (fun r => Pipeline.FramePost cfgs (dats m) 0 (V m) r ∧ r.2.sem = fun _ => 0) :=
  Pipeline.θ_run_frame_track cfgs (dats m) 0 launch0 defs₀ 𝒱₀ m ρ main (hbody := fun c => (body_obligation m c).loose)
    (hshare := fun c w => by fin_cases w <;> rfl) (howed := fun _ _ => rfl) (V := V m) (hmain := hmain m 𝒱₀) (hA := fun _ _ => rfl)
    (hin := fun c => enter m c) (hout := fun c => leave m c cfg0.N) (Q' := fun r => Pipeline.FramePost cfgs (dats m) 0 (V m) r ∧ r.2.sem = fun _ => 0) (hQ' := fun _ h => h)

/-- It leaves the arguments as they were, and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.KernelIdeal.Flash
-- ==== Proof.Flash.Frames.lean ====
/-
  The frames of the call: its run, gone through once at any numbers, read at the hardware's numbers and at the extended reals.
-/
module

public import proofs.«01_k».proof.Defs
public import proofs.«01_k».proof.Proof.Gen.Kernel
public import proofs.«01_k».proof.Proof.Gen.ReferenceIdeal.Run
public import proofs.«01_k».proof.Proof.Flash.Run
public import Idealize.ShloMosaic.Lib.Quiescent

@[expose] public section

noncomputable section

namespace Cert.Proof

open Idealize.ShloMosaic Idealize.SL.Sem

variable {F : FTy → Type} [FloatOps F]

set_option maxRecDepth 16384 in
set_option maxHeartbeats 1000000 in
/-- The two texts of @main are one. -/
theorem main_eq : Cert.Kernel.main (F := F) = Cert.KernelIdeal.main (F := F) := rfl

set_option maxRecDepth 16384 in
set_option maxHeartbeats 1000000 in
/-- The two texts of the body, at every point of the grid, are one. -/
theorem defs₀_eq : Cert.Kernel.defs₀ (F := F) = Cert.KernelIdeal.defs₀ (F := F) := by
  refine congrArg Defs.onTc (funext fun l => ?_)
  match l with
  | 0 => exact funext fun ⟨_, _⟩ => rfl
  | ⟨_ + 1, h⟩ => exact absurd h (Nat.not_lt.2 (Nat.le_add_left _ _))

set_option maxRecDepth 16384 in
set_option maxHeartbeats 1000000 in
/-- The two tables of functions are one. -/
theorem defs_eq : Cert.Kernel.defs (F := F) = Cert.KernelIdeal.defs (F := F) :=
  congrArg (Pipeline.defs Cert.KernelIdeal.pcfgs) defs₀_eq

/-- The call at the hardware's numbers ends with its arguments unchanged and every counter at zero: the two
    texts of the program are one, and what the run states of the one is stated of the other. -/
theorem frame_kernel : Cert.quiescent_Kernel := fun m ρ _ => by
  rw [defs_eq, main_eq]
  exact Cert.KernelIdeal.Flash.run_frame (F := Bits) m ρ

/-- The call at the extended reals ends with its arguments unchanged and every counter at zero. -/
theorem frame_ideal : Cert.quiescent_KernelIdeal := fun m ρ _ => Cert.KernelIdeal.Flash.run_frame (F := Ideal) m ρ

/-- The reference ends with its arguments unchanged and every counter at zero. -/
theorem frame_reference : Cert.quiescent_ReferenceIdeal := fun m ρ _ =>
  (θ_run Cert.ReferenceIdeal.defs _ _).mono (fun r h => ⟨fun c => (h c).2.2.2, sem_eq_zero_of_no_sems rfl r.2⟩) (Cert.ReferenceIdeal.Value.run (F := Ideal) m ρ)

end Cert.Proof

end
-- ==== Proof.Flash.Host.lean ====
/-
  What the call's six operands hold when it starts: the host operations before it, composed.
-/
module

public import proofs.«01_k».proof.Proof.Flash.Blocks
public import proofs.«01_k».proof.Proof.Flash.Reference

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic Idealize.ShloMosaic.StableHlo
open Cert.ReferenceIdeal.Read (val_main_v10_0 val_main_v11)

variable {F : FTy → Type} [FloatOps F]

section Terms

variable (x0 x1 : (⟨S4096x8x192, .f32⟩ : BufTy).Contents (Elt F)) (x2 x3 : (⟨S4096x8x128, .f32⟩ : BufTy).Contents (Elt F))

/-- Two's natural logarithm, as the host computes it. -/
def hostLn2 : (⟨S_, .f32⟩ : BufTy).Contents (Elt F) := id (Host.log (constant S_ .f32 0x40000000#32))

/-- The row maxima as a column. -/
def hostTop : (⟨S8x4096x1, .f32⟩ : BufTy).Contents (Elt F) :=
  broadcastInDim S8x4096x1 ![0, 1] bcast_S8x4096_S8x4096x1_0_1 (val_main_v11 (F := F) x0 x1)

/-- The exponential weights. -/
def hostWeight : (⟨S8x4096x4096, .f32⟩ : BufTy).Contents (Elt F) :=
  Host.exp (subf (val_main_v10_0 (F := F) x0 x1)
    (broadcastInDim S8x4096x4096 ![0, 1, 2] bcast_S8x4096x1_S8x4096x4096_0_1_2 (hostTop x0 x1)))

/-- The sums of the weights as a column. -/
def hostTotal : (⟨S8x4096x1, .f32⟩ : BufTy).Contents (Elt F) :=
  broadcastInDim S8x4096x1 ![0, 1] bcast_S8x4096_S8x4096x1_0_1
    (Host.reduceAdd (hostWeight x0 x1) (constant S_ .f32 0x00000000#32) reducesTo_S8x4096x4096_S8x4096_d2 h_S_)

/-- The attention's output. -/
def hostOut : (⟨S4096x8x128, .f32⟩ : BufTy).Contents (Elt F) :=
  transpose S4096x8x128 [2, 0, 1] (Host.dotGeneral dot_S4096x8x128_S8x4096x4096_S8x128x4096_0_2_2_1_1_0 none x2
    (Host.divf (hostWeight x0 x1)
      (broadcastInDim S8x4096x4096 ![0, 1, 2] bcast_S8x4096x1_S8x4096x4096_0_1_2 (hostTotal x0 x1))))
    transposes_S8x128x4096_S4096x8x128_2_0_1

/-- The row logarithms to base two, in blocks of 512 rows. -/
def hostLse : (⟨S8x8x1x512, .f32⟩ : BufTy).Contents (Elt F) :=
  shapeCast S8x8x1x512 (Host.divf (addf (hostTop x0 x1) (Host.log (hostTotal x0 x1)))
    (broadcastInDim S8x4096x1 ![] bcast_S_S8x4096x1 hostLn2)) shapeCasts_S8x4096x1_S8x8x1x512

/-- The row means of the probability gradients, in blocks of 512 rows. -/
def hostDelta : (⟨S8x8x1x512, .f32⟩ : BufTy).Contents (Elt F) :=
  shapeCast S8x8x1x512 (transpose S8x4096 [1, 0]
    (Host.reduceAdd (mulf x3 (hostOut x0 x1 x2)) (constant S_ .f32 0x00000000#32) reducesTo_S4096x8x128_S4096x8_d2 h_S_)
    transposes_S4096x8_S8x4096_1_0) shapeCasts_S8x4096_S8x8x1x512

/-- The scaled queries, heads first, in 256 columns. -/
def hostQ : (⟨S8x4096x256, .bf16⟩ : BufTy).Contents (Elt F) :=
  truncf .bf16 (pad S8x4096x256 ![0, 0, 0] ![0, 0, 64] ![0, 0, 0]
    (transpose S8x4096x192 [1, 0, 2]
      (Host.divf (mulf x0 (broadcastInDim S4096x8x192 ![] bcast_S_S4096x8x192 (constant S_ .f32 0x3D93CD3A#32)))
        (broadcastInDim S4096x8x192 ![] bcast_S_S4096x8x192 hostLn2)) transposes_S4096x8x192_S8x4096x192_1_0_2)
    (sitofp .f32 (constantI S_ 32 0#32)) pads_S8x4096x192_S8x4096x256_000_000_0640 h_S_) bitsLt_bf16_f32

/-- The keys, heads first, in 256 columns. -/
def hostK : (⟨S8x4096x256, .bf16⟩ : BufTy).Contents (Elt F) :=
  truncf .bf16 (pad S8x4096x256 ![0, 0, 0] ![0, 0, 64] ![0, 0, 0]
    (transpose S8x4096x192 [1, 0, 2] x1 transposes_S4096x8x192_S8x4096x192_1_0_2)
    (sitofp .f32 (constantI S_ 32 0#32)) pads_S8x4096x192_S8x4096x256_000_000_0640 h_S_) bitsLt_bf16_f32

/-- The values, heads first, beside 128 columns of ones. -/
def hostVa : (⟨S8x4096x256, .bf16⟩ : BufTy).Contents (Elt F) :=
  truncf .bf16 (concatenate S8x4096x256 2
    [⟨S8x4096x128, pad S8x4096x128 ![0, 0, 0] ![0, 0, 0] ![0, 0, 0]
      (transpose S8x4096x128 [1, 0, 2] x2 transposes_S4096x8x128_S8x4096x128_1_0_2)
      (sitofp .f32 (constantI S_ 32 0#32)) pads_S8x4096x128_S8x4096x128_000_000_000 h_S_⟩,
     ⟨S8x4096x128, broadcastInDim S8x4096x128 ![] bcast_S_S8x4096x128 (constant S_ .f32 0x3F800000#32)⟩]
    concatenates_S8x4096x128_S8x4096x128_S8x4096x256_d2) bitsLt_bf16_f32

/-- The output's gradient, the heads side by side. -/
def hostDo : (⟨S4096x1024, .bf16⟩ : BufTy).Contents (Elt F) :=
  truncf .bf16 (shapeCast S4096x1024 x3 shapeCasts_S4096x8x128_S4096x1024) bitsLt_bf16_f32

end Terms

variable (m : (ℓ : Loc nD τ sig) → Buf (Elt F) ℓ) (c : Dev nD)

set_option maxHeartbeats 4000000 in
theorem V_q : V m c main_v39 = hostQ (m ((c.tc : Thread nD τ).loc main_arg0)) := by
  simp only [V, hostOps0, hostOps0_1, hostOps0_2, hostOps0_3, hostOps0_4, hostOps0_5, hostOps0_6, hostOps0_7, hostOps0_8,
    List.flatten_cons, List.flatten_nil, List.append_nil, List.cons_append, List.nil_append,
    TRef.binary, TRef.nullary, TRef.ternary, TRef.unary, TRef.toBuf, TRef.ofBuf, cast_eq]
  after_results_simp
  all_goals rfl

set_option maxHeartbeats 4000000 in
theorem V_k : V m c main_v42 = hostK (m ((c.tc : Thread nD τ).loc main_arg1)) := by
  simp only [V, hostOps0, hostOps0_1, hostOps0_2, hostOps0_3, hostOps0_4, hostOps0_5, hostOps0_6, hostOps0_7, hostOps0_8,
    List.flatten_cons, List.flatten_nil, List.append_nil, List.cons_append, List.nil_append,
    TRef.binary, TRef.nullary, TRef.ternary, TRef.unary, TRef.toBuf, TRef.ofBuf, cast_eq]
  after_results_simp
  all_goals rfl

set_option maxHeartbeats 4000000 in
theorem V_va : V m c main_v47 = hostVa (m ((c.tc : Thread nD τ).loc main_arg2)) := by
  simp only [V, hostOps0, hostOps0_1, hostOps0_2, hostOps0_3, hostOps0_4, hostOps0_5, hostOps0_6, hostOps0_7, hostOps0_8,
    List.flatten_cons, List.flatten_nil, List.append_nil, List.cons_append, List.nil_append,
    TRef.binary, TRef.nullary, TRef.ternary, TRef.unary, TRef.toBuf, TRef.ofBuf, cast_eq]
  after_results_simp
  all_goals rfl

set_option maxHeartbeats 4000000 in
theorem V_do : V m c main_v49 = hostDo (m ((c.tc : Thread nD τ).loc main_arg3)) := by
  simp only [V, hostOps0, hostOps0_1, hostOps0_2, hostOps0_3, hostOps0_4, hostOps0_5, hostOps0_6, hostOps0_7, hostOps0_8,
    List.flatten_cons, List.flatten_nil, List.append_nil, List.cons_append, List.nil_append,
    TRef.binary, TRef.nullary, TRef.ternary, TRef.unary, TRef.toBuf, TRef.ofBuf, cast_eq]
  after_results_simp
  all_goals rfl

set_option maxHeartbeats 4000000 in
theorem V_lse : V m c main_v50 = hostLse (m ((c.tc : Thread nD τ).loc main_arg0)) (m ((c.tc : Thread nD τ).loc main_arg1)) := by
  simp only [V, hostOps0, hostOps0_1, hostOps0_2, hostOps0_3, hostOps0_4, hostOps0_5, hostOps0_6, hostOps0_7, hostOps0_8,
    List.flatten_cons, List.flatten_nil, List.append_nil, List.cons_append, List.nil_append,
    TRef.binary, TRef.nullary, TRef.ternary, TRef.unary, TRef.toBuf, TRef.ofBuf, cast_eq]
  after_results_simp
  all_goals rfl

set_option maxHeartbeats 4000000 in
theorem V_delta : V m c main_v51 = hostDelta (m ((c.tc : Thread nD τ).loc main_arg0)) (m ((c.tc : Thread nD τ).loc main_arg1)) (m ((c.tc : Thread nD τ).loc main_arg2)) (m ((c.tc : Thread nD τ).loc main_arg3)) := by
  simp only [V, hostOps0, hostOps0_1, hostOps0_2, hostOps0_3, hostOps0_4, hostOps0_5, hostOps0_6, hostOps0_7, hostOps0_8,
    List.flatten_cons, List.flatten_nil, List.append_nil, List.cons_append, List.nil_append,
    TRef.binary, TRef.nullary, TRef.ternary, TRef.unary, TRef.toBuf, TRef.ofBuf, cast_eq]
  after_results_simp
  all_goals rfl

end Cert.KernelIdeal.Flash
-- ==== Proof.Flash.Pairs.lean ====
/-
  What a head's grid points compute when the blocks they read hold real numbers: the probabilities and the gradients of the scores pair by
  pair, and the three gradients as sums over the pairs' rows.
-/
module

public import proofs.«01_k».proof.Proof.Flash.Sums
public import proofs.«01_k».proof.Proof.Flash.Math
public import Idealize.ShloMosaic.Lib.Pipeline.ValueKit
public import Idealize.ShloMosaic.Lib.Pointwise
public import Idealize.ShloMosaic.Lib.MatmulPlain
public import Idealize.ShloMosaic.Lib.WordCmp

@[expose] public section

set_option maxRecDepth 16384

noncomputable section

namespace Cert.KernelIdeal.Flash

open Cert.KernelIdeal Cert.KernelIdeal.Gen Cert.Attention
open Idealize.ShloMosaic

/-! ### Rows and blocks -/

/-- Row `a` of block `b`, the last block being number 0. -/
def rowAt (b : ℕ) (a : Fin 512) : Fin 4096 := ⟨3584 - 512 * b + a.val, by omega⟩

/-- The rows of one block are distinct from another's. -/
theorem rowAt_le {u b : ℕ} (hb : b < u) (hu : u < 8) (a i : Fin 512) : rowAt u a ≤ rowAt b i := by
  show 3584 - 512 * u + a.val ≤ 3584 - 512 * b + i.val
  omega

theorem rowAt_not_le {u b : ℕ} (hb : u < b) (hu : b < 8) (a i : Fin 512) : ¬rowAt u a ≤ rowAt b i := by
  show ¬3584 - 512 * u + a.val ≤ 3584 - 512 * b + i.val
  omega

theorem rowAt_diag (u : ℕ) (a i : Fin 512) : rowAt u a ≤ rowAt u i ↔ a.val ≤ i.val := by
  show 3584 - 512 * u + a.val ≤ 3584 - 512 * u + i.val ↔ _
  omega

/-- Block and row within it, for every row. -/
def blockEquiv : Fin 8 × Fin 512 ≃ Fin 4096 where
  toFun p := rowAt p.1.val p.2
  invFun r := (⟨7 - r.val / 512, by omega⟩, ⟨r.val % 512, Nat.mod_lt _ (by norm_num)⟩)
  left_inv p := by
    obtain ⟨b, a⟩ := p
    refine Prod.ext (Fin.ext ?_) (Fin.ext ?_)
    · show 7 - (3584 - 512 * b.val + a.val) / 512 = b.val
      omega
    · show (3584 - 512 * b.val + a.val) % 512 = a.val
      omega
  right_inv r := Fin.ext (by
    show 3584 - 512 * (7 - r.val / 512) + r.val % 512 = r.val
    omega)

/-- A sum over all rows, block by block. -/
theorem sum_blocks (f : Fin 4096 → ℝ) : ∑ b ∈ Finset.range 8, ∑ a : Fin 512, f (rowAt b a) = ∑ r, f r := by
  rw [Finset.sum_range (fun b => ∑ a : Fin 512, f (rowAt b a)), ← Fintype.sum_prod_type' (fun (b : Fin 8) a => f (rowAt b.val a))]
  exact Fintype.sum_equiv blockEquiv _ _ fun p => rfl

/-- A sum over all rows of which the blocks from `n` on give nothing. -/
theorem sum_first {n : ℕ} (hn : n ≤ 8) (f : Fin 4096 → ℝ) (hf : ∀ b a, n ≤ b → b < 8 → f (rowAt b a) = 0) :
    ∑ b ∈ Finset.range n, ∑ a : Fin 512, f (rowAt b a) = ∑ r, f r := by
  rw [← sum_blocks f]
  refine Finset.sum_subset (Finset.range_mono hn) fun b hb hb' => Finset.sum_eq_zero fun a _ => hf b a ?_ ?_
  · simpa using hb'
  · simpa using hb

theorem rows_apply {α : Type} (x : S1x4096x256.Idx → α) (b : ℕ) (a : Fin 512) (d : Fin 256) :
    rows x b (ix3 0 a d) = x (ix3 0 (rowAt b a) d) := by
  refine congrArg x (funext fun e => Fin.ext ?_)
  fin_cases e
  · rfl
  · show 3584 - 512 * b + 1 * a.val = 3584 - 512 * b + a.val
    omega
  · show 0 + 1 * d.val = d.val
    omega

theorem half_apply {α : Type} (x : S1x4096x256.Idx → α) (b : ℕ) (a : Fin 512) (d : Fin 128) :
    half x b (ix3 0 a d) = x (ix3 0 (rowAt b a) ⟨d.val, by omega⟩) := by
  refine congrArg x (funext fun e => Fin.ext ?_)
  fin_cases e
  · rfl
  · show 3584 - 512 * b + 1 * a.val = 3584 - 512 * b + a.val
    omega
  · show 0 + 1 * d.val = d.val
    omega

theorem flat_apply {α : Type} (x : S4096x128.Idx → α) (b : ℕ) (a : Fin 512) (d : Fin 128) :
    flat x b (ix2 a d) = x (ix2 (rowAt b a) d) := by
  refine congrArg x (funext fun e => Fin.ext ?_)
  fin_cases e
  · show 3584 - 512 * b + 1 * a.val = 3584 - 512 * b + a.val
    omega
  · show 0 + 1 * d.val = d.val
    omega

theorem row_apply {α : Type} (x : S1x8x1x512.Idx → α) (b : ℕ) (a : Fin 512) :
    row x b (ix4 0 0 0 a) = x (ix4 0 ⟨7 - b, by omega⟩ 0 a) := by
  refine congrArg x (funext fun e => Fin.ext ?_)
  fin_cases e
  · rfl
  · show 7 - b + 1 * 0 = 7 - b
    omega
  · rfl
  · show 0 + 1 * a.val = a.val
    omega

/-- The rows of the block replaced, -/
theorem putRows_same {α : Type} (x : S1x4096x256.Idx → α) (b : ℕ) (w : S1x512x256.Idx → α) (a : Fin 512) (d : Fin 256) :
    putRows x b w (ix3 0 (rowAt b a) d) = w (ix3 0 a d) := by
  have e := congrFun (VecWindow.window_put_same x ![0, 3584 - 512 * b, 0] S1x512x256.size (rows_inb b) w) (ix3 0 a d)
  rw [← e]
  exact (rows_apply (putRows x b w) b a d).symm

/-- and those of the others. -/
theorem putRows_other {α : Type} (x : S1x4096x256.Idx → α) {b B : ℕ} (hb : b < 8) (hB : B < 8) (h : b ≠ B) (w : S1x512x256.Idx → α) (a : Fin 512) (d : Fin 256) :
    putRows x b w (ix3 0 (rowAt B a) d) = x (ix3 0 (rowAt B a) d) := by
  refine dif_neg fun hall => ?_
  have h1 : 3584 - 512 * b ≤ 3584 - 512 * B + a.val ∧ 3584 - 512 * B + a.val < 3584 - 512 * b + 512 := hall 1
  omega

/-! ### One pair of blocks -/

/-- The blocks of a head hold the operands `A`. -/
structure Head (A : Operands) (h : Fin 8) (x : In Ideal) : Prop where
  q : ∀ r d, x.q (ix3 0 r d) = (A.qs h r d : EReal)
  k : ∀ c d, x.k (ix3 0 c d) = (A.ks h c d : EReal)
  v : ∀ c (j : Fin 128), x.v (ix3 0 c ⟨j.val, by omega⟩) = (A.v c h j : EReal)
  g : ∀ r j, x.g (ix2 r j) = (A.g r h j : EReal)
  l : ∀ (b : Fin 8) (a : Fin 512), x.l (ix4 0 ⟨7 - b.val, by omega⟩ 0 a) = (A.lse h (rowAt b.val a) : EReal)
  d : ∀ (b : Fin 8) (a : Fin 512), x.d (ix4 0 ⟨7 - b.val, by omega⟩ 0 a) = (A.delta h (rowAt b.val a) : EReal)

variable {A : Operands} {h : Fin 8} {x : In Ideal}

/-- The score of a key and a query, in base two. -/
theorem scoreOf_eq (H : Head A h x) (u b : ℕ) (a i : Fin 512) :
    scoreOf (rows x.k u) (rows x.q b) (ix3 0 a i) = ((A.score h (rowAt b i) (rowAt u a) / Real.log 2 : ℝ) : EReal) := by
  unfold scoreOf
  pointwise
  rw [← A.sum_ks_qs, coe_sum]
  refine Finset.sum_congr rfl fun d _ => ?_
  rw [rows_apply, rows_apply, H.k, H.q, EReal.coe_mul]

/-- The gradient that reaches a pair's probability. -/
theorem gradProbOf_eq (H : Head A h x) (u b : ℕ) (a i : Fin 512) :
    gradProbOf (half x.v u) (flat x.g b) (ix3 0 a i) = (A.gradProb h (rowAt b i) (rowAt u a) : EReal) := by
  unfold gradProbOf
  pointwise
  unfold Operands.gradProb
  rw [coe_sum]
  refine Finset.sum_congr rfl fun j _ => ?_
  rw [half_apply, flat_apply, H.v, H.g, EReal.coe_mul, mul_comm]

/-- Off the diagonal block every key is at or before the query. -/
theorem probOf_eq (H : Head A h x) {u b : ℕ} (hb : b < 8) (a i : Fin 512) (hc : rowAt u a ≤ rowAt b i) :
    probOf (scoreOf (rows x.k u) (rows x.q b)) (row x.l b) (ix2 a i) = (A.prob h (rowAt b i) (rowAt u a) : EReal) := by
  unfold probOf
  pointwise
  rw [scoreOf_eq H, row_apply, H.l ⟨b, hb⟩ i]
  show Ideal.exp2 (_ - _) = _
  rw [← EReal.coe_sub, Ideal.exp2_coe, A.two_pow h _ _ hc]

/-- The probabilities of a pair of blocks. -/
theorem prob_eq (H : Head A h x) {u b : ℕ} (hu : u < 8) (hb : b ≤ u) (a i : Fin 512) :
    prob x u b (ix2 a i) = (A.prob h (rowAt b i) (rowAt u a) : EReal) := by
  unfold prob
  split
  case isTrue e =>
    subst e
    unfold probMaskedOf
    pointwise
    rw [WordCmp.cmpi_sle_ofNat (by omega) (by omega)]
    by_cases hai : a.val ≤ i.val
    · rw [decide_eq_true hai, probOf_eq H hu a i ((rowAt_diag b a i).2 hai)]
      rfl
    · rw [decide_eq_false hai, A.prob_later fun hc => hai ((rowAt_diag b a i).1 hc)]
      rfl
  case isFalse e => exact probOf_eq H (by omega) a i (rowAt_le (by omega) hu a i)

/-- The gradients of a pair's scores. -/
theorem dScore_eq (H : Head A h x) {u b : ℕ} (hu : u < 8) (hb : b ≤ u) (a i : Fin 512) :
    dScore x u b (ix2 a i) = (A.gradScore h (rowAt b i) (rowAt u a) : EReal) := by
  unfold dScore dScoreOf
  pointwise
  rw [prob_eq H hu hb, gradProbOf_eq H, row_apply, H.d ⟨b, by omega⟩ i]
  unfold Operands.gradScore
  rw [EReal.coe_mul, EReal.coe_sub]

/-! ### A key block -/

/-- The gradient of a key block's values, from the first `n` query blocks. -/
theorem dvSum_eq (H : Head A h x) {u : ℕ} (hu : u < 8) (a : Fin 512) (j : Fin 128) : ∀ n, n ≤ u + 1 →
    dvSum x u n (ix2 a j) = ((∑ b ∈ Finset.range n, ∑ i, A.prob h (rowAt b i) (rowAt u a) * A.g (rowAt b i) h j : ℝ) : EReal)
  | 0, _ => by
    unfold dvSum
    pointwise
    simp
  | n + 1, hn => by
    unfold dvSum dvNext
    pointwise
    rw [dvSum_eq H hu a j n (by omega), Finset.sum_range_succ, EReal.coe_add, coe_sum Finset.univ]
    refine congrArg _ (Finset.sum_congr rfl fun i _ => ?_)
    rw [prob_eq H hu (by omega), flat_apply, H.g, EReal.coe_mul]

/-- The gradient of its keys. -/
theorem dkSum_eq (H : Head A h x) {u : ℕ} (hu : u < 8) (a : Fin 512) (d : Fin 256) : ∀ n, n ≤ u + 1 →
    dkSum x u n (ix2 a d) = ((∑ b ∈ Finset.range n, ∑ i, A.gradScore h (rowAt b i) (rowAt u a) * A.qs h (rowAt b i) d : ℝ) : EReal)
  | 0, _ => by
    unfold dkSum
    pointwise
    simp
  | n + 1, hn => by
    unfold dkSum dkNext
    pointwise
    rw [dkSum_eq H hu a d n (by omega), Finset.sum_range_succ, EReal.coe_add, coe_sum Finset.univ]
    refine congrArg _ (Finset.sum_congr rfl fun i _ => ?_)
    rw [dScore_eq H hu (by omega), rows_apply, H.q, EReal.coe_mul]

/-- A key block's gradient of the values is the layer's: later query blocks only are left out, and they have no share. -/
theorem dvSum_all (H : Head A h x) {u : ℕ} (hu : u < 8) (a : Fin 512) (j : Fin 128) :
    dvSum x u (u + 1) (ix2 a j) = (A.dv h (rowAt u a) j : EReal) := by
  rw [dvSum_eq H hu a j _ le_rfl]
  exact congrArg _ (sum_first (by omega) (fun r => A.prob h r (rowAt u a) * A.g r h j) fun b i hb hb8 => by
    rw [A.prob_later (rowAt_not_le (by omega) hb8 a i), zero_mul])

/-- The same for the keys. -/
theorem dkSum_all (H : Head A h x) {u : ℕ} (hu : u < 8) (a : Fin 512) (d : Fin 256) :
    dkSum x u (u + 1) (ix2 a d) = (A.dk h (rowAt u a) d : EReal) := by
  rw [dkSum_eq H hu a d _ le_rfl]
  exact congrArg _ (sum_first (by omega) (fun r => A.gradScore h r (rowAt u a) * A.qs h r d) fun b i hb hb8 => by
    rw [A.gradScore_later (rowAt_not_le (by omega) hb8 a i), zero_mul])

/-! ### The queries of a head -/

/-- A key block's share in a query's gradient, over its first `n` query blocks. -/
theorem dqSum_eq (H : Head A h x) {u : ℕ} (hu : u < 8) (y : Vec Ideal S1x4096x256 .f32) {B : ℕ} (hB : B < 8) (i : Fin 512) (d : Fin 256) : ∀ n, n ≤ u + 1 →
    dqSum x u y n (ix3 0 (rowAt B i) d) = y (ix3 0 (rowAt B i) d)
      + ((if B < n then ∑ a, A.gradScore h (rowAt B i) (rowAt u a) * A.ks h (rowAt u a) d else 0 : ℝ) : EReal)
  | 0, _ => by
    unfold dqSum
    simp
  | n + 1, hn => by
    have ih := dqSum_eq H hu y hB i d n (by omega)
    unfold dqSum
    by_cases e : n = B
    · subst e
      rw [putRows_same]
      unfold dqNext
      pointwise
      rw [rows_apply, ih, if_neg (lt_irrefl n), if_pos (Nat.lt_succ_self n), EReal.coe_zero, add_zero, coe_sum]
      refine congrArg _ (Finset.sum_congr rfl fun a _ => ?_)
      rw [dScore_eq H hu (by omega), rows_apply, H.k, EReal.coe_mul]
    · rw [putRows_other _ (by omega) hB e, ih]
      by_cases hlt : B < n
      · rw [if_pos hlt, if_pos (by omega)]
      · rw [if_neg hlt, if_neg (by omega)]

/-- The gradient of the queries after the head's first `n` key blocks. -/
theorem dqHead_eq (H : Head A h x) {B : ℕ} (hB : B < 8) (i : Fin 512) (d : Fin 256) : ∀ n, n ≤ 8 →
    dqHead x n (ix3 0 (rowAt B i) d) = ((∑ u ∈ Finset.range n, ∑ a, A.gradScore h (rowAt B i) (rowAt u a) * A.ks h (rowAt u a) d : ℝ) : EReal)
  | 0, _ => by
    unfold dqHead
    pointwise
    simp
  | n + 1, hn => by
    unfold dqHead
    rw [dqSum_eq H (by omega) _ hB i d _ le_rfl, dqHead_eq H hB i d n (by omega), Finset.sum_range_succ, EReal.coe_add]
    refine congrArg _ (congrArg _ ?_)
    by_cases hlt : B < n + 1
    · rw [if_pos hlt]
    · rw [if_neg hlt]
      exact (Finset.sum_eq_zero fun a _ => by rw [A.gradScore_later (rowAt_not_le (by omega) hB a i), zero_mul]).symm

/-- After the head's last grid point it is the layer's. -/
theorem dqHead_all (H : Head A h x) (r : Fin 4096) (d : Fin 256) : dqHead x 8 (ix3 0 r d) = (A.dq h r d : EReal) := by
  obtain ⟨⟨B, i⟩, rfl⟩ := blockEquiv.surjective r
  show dqHead x 8 (ix3 0 (rowAt B.val i) d) = _
  rw [dqHead_eq H B.isLt i d 8 le_rfl]
  exact congrArg _ (sum_blocks fun c => A.gradScore h (rowAt B.val i) c * A.ks h c d)

end Cert.KernelIdeal.Flash
-- ==== Proof.Flash.Values.lean ====
/-
  The call's operands over the real numbers: from real arguments they hold the layer's scaled queries, keys, values, output gradient, row
  logarithms and row means.
-/
module

public import proofs.«01_k».proof.Proof.Flash.Host
public import proofs.«01_k».proof.Proof.Flash.Pairs

@[expose] public section

set_option maxRecDepth 16384

noncomputable section

namespace Cert.KernelIdeal.Flash

open Cert.KernelIdeal Cert.KernelIdeal.Gen Cert.Attention
open Idealize.ShloMosaic Idealize.ShloMosaic.TcCoe Idealize.ShloMosaic.StableHlo
open Cert.ReferenceIdeal.Attention (QK VG Holds HoldsQK masked_eq)
open Cert.ReferenceIdeal.Read (val_main_v10_0 val_main_v11)

variable {A : Operands} {x0 x1 : QK} {x2 x3 : VG}

theorem hostLn2_eq (i : S_.Idx) : hostLn2 (F := Ideal) i = (Real.log 2 : EReal) := by
  show Ideal.log (Ideal.ofBits .f32 0x40000000#32) = _
  rw [two_bits, log_two]

theorem hostTop_eq (H : Holds A x0 x1 x2 x3) (h : Fin 8) (r : Fin 4096) (z : Fin 1) :
    hostTop (F := Ideal) x0 x1 (ix3 h r z) = (A.top h r : EReal) := by
  unfold hostTop
  pointwise
  exact H.top _ h r rfl rfl

theorem hostWeight_eq (H : Holds A x0 x1 x2 x3) (h : Fin 8) (r c : Fin 4096) :
    hostWeight (F := Ideal) x0 x1 (ix3 h r c) = (A.weight h r c : EReal) := by
  unfold hostWeight
  pointwise
  rw [masked_eq H.toHoldsQK (ix3 h r c) h r c rfl rfl rfl, hostTop_eq H]
  unfold Operands.weight
  by_cases hcr : c ≤ r
  · rw [if_pos hcr, if_pos hcr, ← EReal.coe_sub, Ideal.exp_coe]
  · rw [if_neg hcr, if_neg hcr, EReal.bot_sub]; rfl

theorem hostTotal_eq (H : Holds A x0 x1 x2 x3) (h : Fin 8) (r : Fin 4096) (z : Fin 1) :
    hostTotal (F := Ideal) x0 x1 (ix3 h r z) = (A.total h r : EReal) := by
  unfold hostTotal
  pointwise
  unfold Operands.total
  rw [coe_sum]
  exact Finset.sum_congr rfl fun c _ => hostWeight_eq H h r c

/-- One head's product of values and probabilities. -/
theorem out_dot (x : FVec Ideal S4096x8x128 .f32) (y : FVec Ideal S8x4096x4096 .f32) (h : Fin 8) (j : Fin 128) (r : Fin 4096) :
    Host.dotGeneral (F := Ideal) dot_S4096x8x128_S8x4096x4096_S8x128x4096_0_2_2_1_1_0 none x y (ix3 h j r)
      = ∑ c : Fin 4096, x (ix3 c h j) * y (ix3 h r c) := by
  pointwise

theorem hostOut_eq (H : Holds A x0 x1 x2 x3) (h : Fin 8) (r : Fin 4096) (j : Fin 128) :
    hostOut (F := Ideal) x0 x1 x2 (ix3 r h j) = ((∑ c, A.v c h j * A.prob h r c : ℝ) : EReal) := by
  unfold hostOut
  rw [transpose_apply [2, 0, 1] _ transposes_S8x128x4096_S4096x8x128_2_0_1 (ix3 r h j) (ix3 h j r) (fun b => match b with
    | ⟨0, _⟩ => rfl
    | ⟨1, _⟩ => rfl
    | ⟨2, _⟩ => rfl), out_dot, coe_sum]
  refine Finset.sum_congr rfl fun c _ => ?_
  pointwise
  rw [hostWeight_eq H, hostTotal_eq H, H.v _ c h j rfl rfl rfl, div_coe_coe _ (A.total_ne h r), ← EReal.coe_mul]
  rfl

/-- A column of rows, cut into blocks of 512. -/
theorem column_apply (y : FVec Ideal S8x4096x1 .f32) (h : Fin 8) (b : Fin 8) (a : Fin 512) (r : Fin 4096) (hr : r.val = b.val * 512 + a.val) :
    shapeCast S8x8x1x512 y shapeCasts_S8x4096x1_S8x8x1x512 (ix4 h b 0 a) = y (ix3 h r 0) := by
  pointwise
  exact congrArg (fun r => y (ix3 h r 0)) (Fin.ext hr.symm)

/-- One entry of the row logarithms. -/
theorem lse_step (u w : FVec Ideal S8x4096x1 .f32) (c : FVec Ideal S_ .f32) (i : S8x4096x1.Idx) :
    (Host.divf (addf u (Host.log w)) (broadcastInDim S8x4096x1 ![] bcast_S_S8x4096x1 c)) i = Ideal.div (u i + Ideal.log (w i)) (c ix0) := by
  pointwise

theorem hostLse_eq (H : Holds A x0 x1 x2 x3) (h : Fin 8) (b : Fin 8) (a : Fin 512) (r : Fin 4096) (hr : r.val = b.val * 512 + a.val) :
    hostLse (F := Ideal) x0 x1 (ix4 h b 0 a) = (A.lse h r : EReal) := by
  unfold hostLse
  rw [column_apply _ h b a r hr]
  refine (lse_step _ _ _ _).trans ?_
  rw [hostTop_eq H, hostTotal_eq H, hostLn2_eq, Ideal.log_coe, if_neg (A.total_pos h r).not_ge, ← EReal.coe_add, div_coe_coe _ log_two_ne]
  rfl

theorem hostDelta_eq (H : Holds A x0 x1 x2 x3) (h : Fin 8) (b : Fin 8) (a : Fin 512) (r : Fin 4096) (hr : r.val = b.val * 512 + a.val) :
    hostDelta (F := Ideal) x0 x1 x2 x3 (ix4 h b 0 a) = (A.delta h r : EReal) := by
  unfold hostDelta
  pointwise
  rw [show (⟨b.val * 512 + a.val, by omega⟩ : Fin 4096) = r from Fin.ext hr.symm, ← A.delta_eq, coe_sum]
  refine Finset.sum_congr rfl fun j _ => ?_
  rw [hostOut_eq H, H.g _ r h j rfl rfl rfl, ← EReal.coe_mul]

/-- The padding is the integer zero as a float. -/
theorem padding : (FloatOps.sitofp FTy.f32 (0#32) : Ideal .f32) = ((0 : ℝ) : EReal) := by
  show ((((0#32 : BitVec 32).toInt : ℝ) : EReal)) = _
  simp

theorem hostQ_eq (H : Holds A x0 x1 x2 x3) (h : Fin 8) (r : Fin 4096) (d : Fin 256) :
    hostQ (F := Ideal) x0 (ix3 h r d) = (A.qs h r d : EReal) := by
  unfold hostQ
  pointwise
  unfold Operands.qs
  by_cases hd : d.val < 192
  · rw [dif_pos hd, dif_pos hd, H.q _ r h ⟨d.val, hd⟩ rfl rfl rfl, hostLn2_eq, show Ideal.ofBits FTy.f32 1033096506#32 = _ from scale_bits,
      ← EReal.coe_mul, div_coe_coe _ log_two_ne]
  · rw [dif_neg hd, dif_neg hd]; exact padding

theorem hostK_eq (H : Holds A x0 x1 x2 x3) (h : Fin 8) (r : Fin 4096) (d : Fin 256) :
    hostK (F := Ideal) x1 (ix3 h r d) = (A.ks h r d : EReal) := by
  unfold hostK
  pointwise
  unfold Operands.ks
  by_cases hd : d.val < 192
  · rw [dif_pos hd, dif_pos hd, H.k _ r h ⟨d.val, hd⟩ rfl rfl rfl]
  · rw [dif_neg hd, dif_neg hd]; exact padding

theorem hostVa_eq (H : Holds A x0 x1 x2 x3) (h : Fin 8) (r : Fin 4096) (j : Fin 128) :
    hostVa (F := Ideal) x2 (ix3 h r ⟨j.val, by omega⟩) = (A.v r h j : EReal) := by
  unfold hostVa
  pointwise
  exact H.v _ r h j rfl rfl rfl

theorem hostDo_eq (H : Holds A x0 x1 x2 x3) (h : Fin 8) (r : Fin 4096) (j : Fin 128) :
    hostDo (F := Ideal) x3 (ix2 r ⟨h.val * 128 + j.val, by omega⟩) = (A.g r h j : EReal) := by
  unfold hostDo
  pointwise
  exact H.g _ r h j rfl rfl rfl

end Cert.KernelIdeal.Flash
-- ==== Proof.Flash.Results.lean ====
/-
  The call's three result arrays, from real arguments: the gradients of the queries, the keys and the values.
-/
module

public import proofs.«01_k».proof.Proof.Flash.Values
public import proofs.«01_k».proof.Proof.Flash.Run

@[expose] public section

set_option maxRecDepth 16384

noncomputable section

namespace Cert.KernelIdeal.Flash

open Cert.KernelIdeal Cert.KernelIdeal.Gen Cert.Attention
open Idealize.ShloMosaic Idealize.ShloMosaic.TcCoe
open Cert.ReferenceIdeal.Attention (Holds)

variable (m : (ℓ : Loc nD τ sig) → Buf (Elt Ideal) ℓ) (c : Dev nD) {A : Operands}

/-- The device's arguments hold the operands `A`. -/
abbrev Args (A : Operands) : Prop :=
  Holds A (m ((c.tc : Thread nD τ).loc main_arg0)) (m ((c.tc : Thread nD τ).loc main_arg1)) (m ((c.tc : Thread nD τ).loc main_arg2)) (m ((c.tc : Thread nD τ).loc main_arg3))

variable {m c}

theorem headOf_at {α : Type} (X : S8x4096x256.Idx → α) (h : Fin 8) (r : Fin 4096) (d : Fin 256) : headOf X h (ix3 0 r d) = X (ix3 h r d) := rfl
theorem flatOf_at {α : Type} (X : S4096x1024.Idx → α) (h : Fin 8) (r : Fin 4096) (j : Fin 128) :
    flatOf X h (ix2 r j) = X (ix2 r ⟨h.val * 128 + j.val, by omega⟩) := rfl
theorem rowOf_at {α : Type} (X : S8x8x1x512.Idx → α) (h : Fin 8) (b : Fin 8) (a : Fin 512) : rowOf X h (ix4 0 b 0 a) = X (ix4 h b 0 a) := rfl

variable (m c)

theorem head_q (h : Fin 8) : (headIn m c h).q = headOf (hostQ (m ((c.tc : Thread nD τ).loc main_arg0))) h := by
  rw [← V_q]; rfl
theorem head_k (h : Fin 8) : (headIn m c h).k = headOf (hostK (m ((c.tc : Thread nD τ).loc main_arg1))) h := by
  rw [← V_k]; rfl
theorem head_v (h : Fin 8) : (headIn m c h).v = headOf (hostVa (m ((c.tc : Thread nD τ).loc main_arg2))) h := by
  rw [← V_va]; rfl
theorem head_g (h : Fin 8) : (headIn m c h).g = flatOf (hostDo (m ((c.tc : Thread nD τ).loc main_arg3))) h := by
  rw [← V_do]; rfl
theorem head_l (h : Fin 8) : (headIn m c h).l = rowOf (hostLse (m ((c.tc : Thread nD τ).loc main_arg0)) (m ((c.tc : Thread nD τ).loc main_arg1))) h := by
  rw [← V_lse]; rfl
theorem head_d (h : Fin 8) : (headIn m c h).d = rowOf (hostDelta (m ((c.tc : Thread nD τ).loc main_arg0)) (m ((c.tc : Thread nD τ).loc main_arg1)) (m ((c.tc : Thread nD τ).loc main_arg2)) (m ((c.tc : Thread nD τ).loc main_arg3))) h := by
  rw [← V_delta]; rfl

variable {m c}

/-- Each head's blocks hold `A`. -/
theorem head_of (H : Args m c A) (h : Fin 8) : Head A h (headIn m c h) where
  q r d := by rw [head_q, headOf_at, hostQ_eq H]
  k r d := by rw [head_k, headOf_at, hostK_eq H]
  v r j := by rw [head_v, headOf_at, hostVa_eq H]
  g r j := by rw [head_g, flatOf_at, hostDo_eq H]
  l b a := by rw [head_l, rowOf_at]; exact hostLse_eq H h _ a _ (by show 3584 - 512 * b.val + a.val = (7 - b.val) * 512 + a.val; omega)
  d b a := by rw [head_d, rowOf_at]; exact hostDelta_eq H h _ a _ (by show 3584 - 512 * b.val + a.val = (7 - b.val) * 512 + a.val; omega)

/-- The gradients as arrays. -/
def dqOf (A : Operands) : (⟨S8x4096x256, .f32⟩ : BufTy).Contents (Elt Ideal) := fun i => (A.dq (i 0) (i 1) (i 2) : EReal)
def dkOf (A : Operands) : (⟨S8x4096x256, .f32⟩ : BufTy).Contents (Elt Ideal) := fun i => (A.dk (i 0) (i 1) (i 2) : EReal)
def dvOf (A : Operands) : (⟨S8x4096x128, .f32⟩ : BufTy).Contents (Elt Ideal) := fun i => (A.dv (i 0) (i 1) (i 2) : EReal)

theorem dqOf_at (i : S8x4096x256.Idx) (h : Fin 8) (r : Fin 4096) (d : Fin 256) (hh : i 0 = h) (hr : i 1 = r) (hd : i 2 = d) :
    dqOf A i = (A.dq h r d : EReal) := by subst hh hr hd; rfl
theorem dkOf_at (i : S8x4096x256.Idx) (h : Fin 8) (r : Fin 4096) (d : Fin 256) (hh : i 0 = h) (hr : i 1 = r) (hd : i 2 = d) :
    dkOf A i = (A.dk h r d : EReal) := by subst hh hr hd; rfl
theorem dvOf_at (i : S8x4096x128.Idx) (h : Fin 8) (r : Fin 4096) (d : Fin 128) (hh : i 0 = h) (hr : i 1 = r) (hd : i 2 = d) :
    dvOf A i = (A.dv h r d : EReal) := by subst hh hr hd; rfl

/-- A head's gradient of the queries at an index of its block, -/
theorem dq_block {h : Fin 8} {x : In Ideal} (H : Head A h x) (y : S1x4096x256.Idx) (r : Fin 4096) (d : Fin 256) (hr : y 1 = r) (hd : y 2 = d) :
    dqHead x 8 y = (A.dq h r d : EReal) := by
  have e : y = ix3 0 r d := by
    funext a
    match a with
    | ⟨0, _⟩ => exact Subsingleton.elim (α := Fin 1) _ _
    | ⟨1, _⟩ => exact hr
    | ⟨2, _⟩ => exact hd
  rw [e, dqHead_all H]

/-- a key block's gradient of the keys, -/
theorem dk_block {h : Fin 8} {x : In Ideal} (H : Head A h x) {u : ℕ} (hu : u < 8) (y : S1x512x256.Idx) (a : Fin 512) (d : Fin 256) (ha : y 1 = a) (hd : y 2 = d) :
    shapeCast S1x512x256 (dkSum x u (u + 1)) shapeCasts_S512x256_S1x512x256 y = (A.dk h (rowAt u a) d : EReal) := by
  have e : y = ix3 0 a d := by
    funext b
    match b with
    | ⟨0, _⟩ => exact Subsingleton.elim (α := Fin 1) _ _
    | ⟨1, _⟩ => exact ha
    | ⟨2, _⟩ => exact hd
  rw [e, ← dkSum_all H hu]
  pointwise

/-- and of the values. -/
theorem dv_block {h : Fin 8} {x : In Ideal} (H : Head A h x) {u : ℕ} (hu : u < 8) (y : S1x512x128.Idx) (a : Fin 512) (d : Fin 128) (ha : y 1 = a) (hd : y 2 = d) :
    shapeCast S1x512x128 (dvSum x u (u + 1)) shapeCasts_S512x128_S1x512x128 y = (A.dv h (rowAt u a) d : EReal) := by
  have e : y = ix3 0 a d := by
    funext b
    match b with
    | ⟨0, _⟩ => exact Subsingleton.elim (α := Fin 1) _ _
    | ⟨1, _⟩ => exact ha
    | ⟨2, _⟩ => exact hd
  rw [e, ← dvSum_all H hu]
  pointwise

/-- The first result array. -/
theorem arr_dq (H : Args m c A) : (dats m 0 c).arrAt 6 cfg0.N = dqOf A := by
  refine (dats m 0 c).arrAt_eq_of_covers 6 _ (by decide +kernel) fun t hf y => ?_
  have ht : t.val % 8 = 7 := (flush0_6 t).1 hf
  have hi := index_out t
  blk_simp
  rw [after_6, ht]
  have hy : (y 0).val < 1 := (y 0).isLt
  refine (dq_block (head_of H (headAt t)) y (y 1) (y 2) rfl rfl).trans (dqOf_at _ _ _ _ (Fin.ext ?_) (Fin.ext ?_) (Fin.ext ?_)).symm
  · blk_simp [hi]
    rfl
  · blk_simp [hi]
  · blk_simp [hi]

/-- The second. -/
theorem arr_dk (H : Args m c A) : (dats m 0 c).arrAt 7 cfg0.N = dkOf A := by
  refine (dats m 0 c).arrAt_eq_of_covers 7 _ (by decide +kernel) fun t hf y => ?_
  have hi := index_out t
  blk_simp
  rw [after_7]
  have hy : (y 0).val < 1 := (y 0).isLt
  refine (dk_block (head_of H (headAt t)) (Nat.mod_lt _ (by norm_num)) y (y 1) (y 2) rfl rfl).trans (dkOf_at _ _ _ _ (Fin.ext ?_) (Fin.ext ?_) (Fin.ext ?_)).symm
  · blk_simp [hi]
    rfl
  · blk_simp [hi]
    show (7 - t.val % 8) * 512 + (y 1).val = 3584 - 512 * (t.val % 8) + (y 1).val
    omega
  · blk_simp [hi]

/-- The third. -/
theorem arr_dv (H : Args m c A) : (dats m 0 c).arrAt 8 cfg0.N = dvOf A := by
  refine (dats m 0 c).arrAt_eq_of_covers 8 _ (by decide +kernel) fun t hf y => ?_
  have hi := index_out t
  blk_simp
  rw [after_8]
  have hy : (y 0).val < 1 := (y 0).isLt
  refine (dv_block (head_of H (headAt t)) (Nat.mod_lt _ (by norm_num)) y (y 1) (y 2) rfl rfl).trans (dvOf_at _ _ _ _ (Fin.ext ?_) (Fin.ext ?_) (Fin.ext ?_)).symm
  · blk_simp [hi]
    rfl
  · blk_simp [hi]
    show (7 - t.val % 8) * 512 + (y 1).val = 3584 - 512 * (t.val % 8) + (y 1).val
    omega
  · blk_simp [hi]

/-- Every run from real arguments ends with the gradients in the result arrays and the arguments as they were. -/
theorem run_value (ρ : Dev nD → PrngReg) (A : Dev nD → Operands) (H : ∀ c, Args m c (A c)) :
    θ_run (defs (F := Ideal)) (onTc (τ := τ) (main (F := Ideal))) ⟨m, fun _ => 0, ρ⟩ (fun r => ∀ c : Dev nD,
      r.2.mem ((c.tc : Thread nD τ).loc main_v52_0) = dqOf (A c)
      ∧ r.2.mem ((c.tc : Thread nD τ).loc main_v52_1) = dkOf (A c)
      ∧ r.2.mem ((c.tc : Thread nD τ).loc main_v52_2) = dvOf (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 6).trans (arr_dq (H c)), ((h.1 c).1 7).trans (arr_dk (H c)), ((h.1 c).1 8).trans (arr_dv (H c)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (run_main m ρ)

end Cert.KernelIdeal.Flash
-- ==== Proof.lean ====
/-
  The proof of `Cert.Claim`. Each call's run is gone through once, at any numbers; both frames of the call are read off it, and so are its
  results at the extended reals, which the reference's are compared with: the attention's gradient in Proof/Flash/, the attention in Proof/Forward/,
  the products in Proof/Products/, the gates in Proof/Gate/, the norm and the gated groups in Proof/Rows/, the optimiser's steps in Proof/Optimizer/.
-/
module

public import proofs.«01_k».proof.Defs
public import proofs.«01_k».proof.Proof.Gen.Kernel
public import proofs.«01_k».proof.Proof.Gen.KernelIdeal
public import proofs.«01_k».proof.Proof.Gen.Pre_finite
public import proofs.«01_k».proof.Proof.Gen.ReferenceIdeal.Run
public import proofs.«01_k».proof.Proof.Gen.InProj
public import proofs.«01_k».proof.Proof.Products.InProj
public import proofs.«01_k».proof.Proof.Gen.DH
public import proofs.«01_k».proof.Proof.Products.DH
public import proofs.«01_k».proof.Proof.Gen.GWIn
public import proofs.«01_k».proof.Proof.Products.GWIn
public import proofs.«01_k».proof.Proof.Gen.OutProj
public import proofs.«01_k».proof.Proof.Products.OutProj
public import proofs.«01_k».proof.Proof.Gen.GWOut
public import proofs.«01_k».proof.Proof.Products.GWOut
public import proofs.«01_k».proof.Proof.Gen.GWPw
public import proofs.«01_k».proof.Proof.Products.GWPw
public import proofs.«01_k».proof.Proof.Gen.DU3
public import proofs.«01_k».proof.Proof.Products.DU3
public import proofs.«01_k».proof.Proof.Gen.GateBwd
public import proofs.«01_k».proof.Proof.Gen.Pre_gates_finite
public import proofs.«01_k».proof.Proof.Gate.Claims
public import proofs.«01_k».proof.Proof.Gen.FlashFwd
public import proofs.«01_k».proof.Proof.Gen.Prenorm
public import proofs.«01_k».proof.Proof.Gen.PrenormIdeal.Value
public import proofs.«01_k».proof.Proof.Gen.PrenormReferenceIdeal.Run
public import proofs.«01_k».proof.Proof.Rows.Prenorm
public import proofs.«01_k».proof.Proof.Gen.GateCat
public import proofs.«01_k».proof.Proof.Gen.GateCatIdeal.Frame
public import proofs.«01_k».proof.Proof.Gen.GateCatReferenceIdeal.Run
public import proofs.«01_k».proof.Proof.Rows.GateCat
public import proofs.«01_k».proof.Proof.Gen.AdamwAdaW
public import proofs.«01_k».proof.Proof.Gen.AdamwAdaWIdeal.Value
public import proofs.«01_k».proof.Proof.Gen.AdamwAdaWReferenceIdeal.Run
public import proofs.«01_k».proof.Proof.Optimizer.AdaW
public import proofs.«01_k».proof.Proof.Gen.AdamwWOut
public import proofs.«01_k».proof.Proof.Gen.AdamwWOutIdeal.Value
public import proofs.«01_k».proof.Proof.Gen.AdamwWOutReferenceIdeal.Run
public import proofs.«01_k».proof.Proof.Optimizer.WOut
public import proofs.«01_k».proof.Proof.Gen.AdamwWQUp
public import proofs.«01_k».proof.Proof.Gen.AdamwWQUpIdeal.Value
public import proofs.«01_k».proof.Proof.Gen.AdamwWQUpReferenceIdeal.Run
public import proofs.«01_k».proof.Proof.Optimizer.WQUp
public import proofs.«01_k».proof.Proof.Gen.AdamwWKvUp
public import proofs.«01_k».proof.Proof.Gen.AdamwWKvUpIdeal.Value
public import proofs.«01_k».proof.Proof.Gen.AdamwWKvUpReferenceIdeal.Run
public import proofs.«01_k».proof.Proof.Optimizer.WKvUp
public import proofs.«01_k».proof.Proof.Gen.AdamwWPw
public import proofs.«01_k».proof.Proof.Gen.AdamwWPwIdeal.Value
public import proofs.«01_k».proof.Proof.Gen.AdamwWPwReferenceIdeal.Run
public import proofs.«01_k».proof.Proof.Optimizer.WPw
public import proofs.«01_k».proof.Proof.Gen.AdamwWIn
public import proofs.«01_k».proof.Proof.Gen.AdamwWInIdeal.Value
public import proofs.«01_k».proof.Proof.Gen.AdamwWInReferenceIdeal.Run
public import proofs.«01_k».proof.Proof.Optimizer.WInFirst
public import proofs.«01_k».proof.Proof.Gen.AdamwWInB
public import proofs.«01_k».proof.Proof.Gen.AdamwWInBIdeal.Frame
public import proofs.«01_k».proof.Proof.Gen.AdamwWInBReferenceIdeal.Run
public import proofs.«01_k».proof.Proof.Optimizer.WInSecond
public import proofs.«01_k».proof.Proof.Gen.Pre_scores_finite
public import proofs.«01_k».proof.Proof.Forward.Claims
public import proofs.«01_k».proof.Proof.Flash.Frames
public import proofs.«01_k».proof.Proof.Flash.Finite
public import proofs.«01_k».proof.Proof.Flash.Results

@[expose] public section

noncomputable section

namespace Cert.Proof

open Idealize.ShloMosaic Idealize.ShloMosaic.TcCoe
open Cert.Attention (Operands operandsOf holds_of_finite)
open Cert.KernelIdeal.Flash (dqOf dkOf dvOf run_value)
open Cert.ReferenceIdeal.Attention (Holds)

section Reference

open Cert.ReferenceIdeal

variable (m : (ℓ : Loc nD τ sig) → Buf (Elt Ideal) ℓ) (c : Dev nD) {A : Operands}
  (H : Holds A (m ((c.tc : Thread nD τ).loc main_arg0)) (m ((c.tc : Thread nD τ).loc main_arg1)) (m ((c.tc : Thread nD τ).loc main_arg2)) (m ((c.tc : Thread nD τ).loc main_arg3)))

include H

/-- The reference's results are the gradients too. -/
theorem ref_dq : Cert.ReferenceIdeal.Value.res_main_v67 m c = dqOf A :=
  (Read.val_main_v67_eq m c).trans (funext fun i => Cert.ReferenceIdeal.Attention.dq_eq H i _ _ _ rfl rfl rfl)
theorem ref_dk : Cert.ReferenceIdeal.Value.res_main_v73 m c = dkOf A :=
  (Read.val_main_v73_eq m c).trans (funext fun i => Cert.ReferenceIdeal.Attention.dk_eq H i _ _ _ rfl rfl rfl)
theorem ref_dv : Cert.ReferenceIdeal.Value.res_main_v74 m c = dvOf A :=
  (Read.val_main_v74_eq m c).trans (funext fun i => Cert.ReferenceIdeal.Attention.dv_eq H i _ _ _ rfl rfl rfl)

end Reference

/-- From finite arguments the call and the reference end with the same three gradients. -/
theorem algebraic : Cert.algebraic_KernelIdeal_ReferenceIdeal_pre_finite := by
  intro m ρ m' ρ' hpre hagree
  choose A H using fun c => Exists.intro (p := fun A => Holds A _ _ _ _) _ (holds_of_finite (hpre c))
  refine ⟨fun c => dqOf (A c), fun c => dkOf (A c), fun c => dvOf (A c), run_value ρ A H, ?_⟩
  refine (θ_run Cert.ReferenceIdeal.defs _ _).mono (fun r h c => ?_) (Cert.ReferenceIdeal.Value.run (F := Ideal) m' ρ')
  have H' := H c
  rw [← (hagree c).1, ← (hagree c).2.1, ← (hagree c).2.2.1, ← (hagree c).2.2.2] at H'
  exact ⟨(h c).1.trans (ref_dq m' c H'), (h c).2.1.trans (ref_dk m' c H'), (h c).2.2.1.trans (ref_dv m' c H'), (h c).2.2.2⟩

/-- Every claim of the certificate. -/
theorem claim : Cert.Claim := ⟨Cert.Kernel.Gen.facts, Cert.KernelIdeal.Gen.facts, Cert.ReferenceIdeal.Gen.facts,
  Cert.InProj.Gen.facts, Cert.InProjIdeal.Gen.facts, Cert.InProjReferenceIdeal.Gen.facts,
  Cert.DH.Gen.facts, Cert.DHIdeal.Gen.facts, Cert.DHReferenceIdeal.Gen.facts,
  Cert.GWIn.Gen.facts, Cert.GWInIdeal.Gen.facts, Cert.GWInReferenceIdeal.Gen.facts,
  Cert.OutProj.Gen.facts, Cert.OutProjIdeal.Gen.facts, Cert.OutProjReferenceIdeal.Gen.facts,
  Cert.GWOut.Gen.facts, Cert.GWOutIdeal.Gen.facts, Cert.GWOutReferenceIdeal.Gen.facts,
  Cert.GWPw.Gen.facts, Cert.GWPwIdeal.Gen.facts, Cert.GWPwReferenceIdeal.Gen.facts,
  Cert.DU3.Gen.facts, Cert.DU3Ideal.Gen.facts, Cert.DU3ReferenceIdeal.Gen.facts,
  Cert.GateBwd.Gen.facts, Cert.GateBwdIdeal.Gen.facts, Cert.GateBwdReferenceIdeal.Gen.facts,
  Cert.FlashFwd.Gen.facts, Cert.FlashFwdIdeal.Gen.facts, Cert.FlashFwdReferenceIdeal.Gen.facts,
  Cert.Prenorm.Gen.facts, Cert.PrenormIdeal.Gen.facts, Cert.PrenormReferenceIdeal.Gen.facts,
  Cert.GateCat.Gen.facts, Cert.GateCatIdeal.Gen.facts, Cert.GateCatReferenceIdeal.Gen.facts,
  Cert.AdamwAdaW.Gen.facts, Cert.AdamwAdaWIdeal.Gen.facts, Cert.AdamwAdaWReferenceIdeal.Gen.facts,
  Cert.AdamwWOut.Gen.facts, Cert.AdamwWOutIdeal.Gen.facts, Cert.AdamwWOutReferenceIdeal.Gen.facts,
  Cert.AdamwWQUp.Gen.facts, Cert.AdamwWQUpIdeal.Gen.facts, Cert.AdamwWQUpReferenceIdeal.Gen.facts,
  Cert.AdamwWKvUp.Gen.facts, Cert.AdamwWKvUpIdeal.Gen.facts, Cert.AdamwWKvUpReferenceIdeal.Gen.facts,
  Cert.AdamwWPw.Gen.facts, Cert.AdamwWPwIdeal.Gen.facts, Cert.AdamwWPwReferenceIdeal.Gen.facts,
  Cert.AdamwWIn.Gen.facts, Cert.AdamwWInIdeal.Gen.facts, Cert.AdamwWInReferenceIdeal.Gen.facts,
  Cert.AdamwWInB.Gen.facts, Cert.AdamwWInBIdeal.Gen.facts, Cert.AdamwWInBReferenceIdeal.Gen.facts,
  Cert.Pre_finite.Gen.facts, Cert.Pre_gates_finite.Gen.facts, Cert.Pre_scores_finite.Gen.facts,
  frame_kernel, frame_ideal, fun m ρ _ => frame_ideal m ρ trivial, frame_reference, fun m ρ _ => frame_reference m ρ trivial,
  frame_InProj, frame_InProjIdeal, frame_reference_InProj,
  frame_DH, frame_DHIdeal, frame_reference_DH,
  frame_GWIn, frame_GWInIdeal, frame_reference_GWIn,
  frame_OutProj, frame_OutProjIdeal, frame_reference_OutProj,
  frame_GWOut, frame_GWOutIdeal, frame_reference_GWOut,
  frame_GWPw, frame_GWPwIdeal, frame_reference_GWPw,
  frame_DU3, frame_DU3Ideal, frame_reference_DU3,
  frame_GateBwd, frame_GateBwdIdeal, fun m ρ _ => frame_GateBwdIdeal m ρ trivial, frame_reference_GateBwd, fun m ρ _ => frame_reference_GateBwd m ρ trivial,
  Forward.frame_FlashFwd, Forward.frame_FlashFwdIdeal, fun m ρ _ => Forward.frame_FlashFwdIdeal m ρ trivial, Forward.frame_reference_FlashFwd,
  fun m ρ _ => Forward.frame_reference_FlashFwd m ρ trivial,
  frame_Prenorm, frame_PrenormIdeal, frame_reference_Prenorm,
  frame_GateCat, frame_GateCatIdeal, frame_reference_GateCat,
  frame_AdamwAdaW, frame_AdamwAdaWIdeal, frame_reference_AdamwAdaW,
  frame_AdamwWOut, frame_AdamwWOutIdeal, frame_reference_AdamwWOut,
  frame_AdamwWQUp, frame_AdamwWQUpIdeal, frame_reference_AdamwWQUp,
  frame_AdamwWKvUp, frame_AdamwWKvUpIdeal, frame_reference_AdamwWKvUp,
  frame_AdamwWPw, frame_AdamwWPwIdeal, frame_reference_AdamwWPw,
  frame_AdamwWIn, frame_AdamwWInIdeal, frame_reference_AdamwWIn,
  frame_AdamwWInB, frame_AdamwWInBIdeal, frame_reference_AdamwWInB,
  trivial, algebraic, trivial, algebraic_InProj, trivial, algebraic_DH, trivial, algebraic_GWIn, trivial, algebraic_OutProj, trivial, algebraic_GWOut, trivial, algebraic_GWPw, trivial, algebraic_DU3, trivial, algebraic_GateBwd,
  Forward.preserves_FlashFwd, Forward.algebraic_FlashFwd,
  trivial, algebraic_Prenorm, trivial, algebraic_GateCat, trivial, algebraic_AdamwAdaW, trivial, algebraic_AdamwWOut, trivial, algebraic_AdamwWQUp, trivial, algebraic_AdamwWKvUp, trivial, algebraic_AdamwWPw, trivial, algebraic_AdamwWIn, trivial, algebraic_AdamwWInB⟩

end Cert.Proof

end
